-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite_gate [hPre_finite_gate : Cert.Pre_finite_gate.Facts] (m : (ℓ : Loc Cert.GateIdeal.nD Cert.GateIdeal.τ Cert.GateIdeal.sig) → Buf (Elt Ideal) ℓ) : Prop :=
  ∀ c : Dev Cert.GateIdeal.nD,
    (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_finite_gate [hPre_finite_gate : Cert.Pre_finite_gate.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))) = (fun _ => 1#1)

def Pre_WG (m : (ℓ : Loc Cert.WG.nD Cert.WG.τ Cert.WG.sig) → Buf (Elt Bits) ℓ) : Prop :=
  True

def Pre_WGIdeal (m : (ℓ : Loc Cert.WGIdeal.nD Cert.WGIdeal.τ Cert.WGIdeal.sig) → Buf (Elt Ideal) ℓ) : Prop :=
  True

def Pre_WGRefIdeal (m : (ℓ : Loc Cert.WGRefIdeal.nD Cert.WGRefIdeal.τ Cert.WGRefIdeal.sig) → Buf (Elt Ideal) ℓ) : Prop :=
  True

def Pre_WU (m : (ℓ : Loc Cert.WU.nD Cert.WU.τ Cert.WU.sig) → Buf (Elt Bits) ℓ) : Prop :=
  True

def Pre_WUIdeal (m : (ℓ : Loc Cert.WUIdeal.nD Cert.WUIdeal.τ Cert.WUIdeal.sig) → Buf (Elt Ideal) ℓ) : Prop :=
  True

def Pre_WURefIdeal (m : (ℓ : Loc Cert.WURefIdeal.nD Cert.WURefIdeal.τ Cert.WURefIdeal.sig) → Buf (Elt Ideal) ℓ) : Prop :=
  True

def Pre_WOut (m : (ℓ : Loc Cert.WOut.nD Cert.WOut.τ Cert.WOut.sig) → Buf (Elt Bits) ℓ) : Prop :=
  True

def Pre_WOutIdeal (m : (ℓ : Loc Cert.WOutIdeal.nD Cert.WOutIdeal.τ Cert.WOutIdeal.sig) → Buf (Elt Ideal) ℓ) : Prop :=
  True

def Pre_WOutRefIdeal (m : (ℓ : Loc Cert.WOutRefIdeal.nD Cert.WOutRefIdeal.τ Cert.WOutRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InIdeal_finite_in [hPre_finite_in : Cert.Pre_finite_in.Facts] (m : (ℓ : Loc Cert.InIdeal.nD Cert.InIdeal.τ Cert.InIdeal.sig) → Buf (Elt Ideal) ℓ) : Prop :=
  ∀ c : Dev Cert.InIdeal.nD,
    (Cert.Pre_finite_in.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5))) = (fun _ => 1#1)

def Pre_InRefIdeal (m : (ℓ : Loc Cert.InRefIdeal.nD Cert.InRefIdeal.τ Cert.InRefIdeal.sig) → Buf (Elt Ideal) ℓ) : Prop :=
  True

def Pre_InRefIdeal_finite_in [hPre_finite_in : Cert.Pre_finite_in.Facts] (m : (ℓ : Loc Cert.InRefIdeal.nD Cert.InRefIdeal.τ Cert.InRefIdeal.sig) → Buf (Elt Ideal) ℓ) : Prop :=
  ∀ c : Dev Cert.InRefIdeal.nD,
    (Cert.Pre_finite_in.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpIdeal_finite_up [hPre_finite_up : Cert.Pre_finite_up.Facts] (m : (ℓ : Loc Cert.UpIdeal.nD Cert.UpIdeal.τ Cert.UpIdeal.sig) → Buf (Elt Ideal) ℓ) : Prop :=
  ∀ c : Dev Cert.UpIdeal.nD,
    (Cert.Pre_finite_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2))) = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_finite_up [hPre_finite_up : Cert.Pre_finite_up.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_finite_up.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_MOut (m : (ℓ : Loc Cert.MOut.nD Cert.MOut.τ Cert.MOut.sig) → Buf (Elt Bits) ℓ) : Prop :=
  True

def Pre_MOutIdeal (m : (ℓ : Loc Cert.MOutIdeal.nD Cert.MOutIdeal.τ Cert.MOutIdeal.sig) → Buf (Elt Ideal) ℓ) : Prop :=
  True

def Pre_MOutRefIdeal (m : (ℓ : Loc Cert.MOutRefIdeal.nD Cert.MOutRefIdeal.τ Cert.MOutRefIdeal.sig) → Buf (Elt Ideal) ℓ) : Prop :=
  True

def Pre_MWOut (m : (ℓ : Loc Cert.MWOut.nD Cert.MWOut.τ Cert.MWOut.sig) → Buf (Elt Bits) ℓ) : Prop :=
  True

def Pre_MWOutIdeal (m : (ℓ : Loc Cert.MWOutIdeal.nD Cert.MWOutIdeal.τ Cert.MWOutIdeal.sig) → Buf (Elt Ideal) ℓ) : Prop :=
  True

def Pre_MWOutRefIdeal (m : (ℓ : Loc Cert.MWOutRefIdeal.nD Cert.MWOutRefIdeal.τ Cert.MWOutRefIdeal.sig) → Buf (Elt Ideal) ℓ) : Prop :=
  True

def Pre_MWS (m : (ℓ : Loc Cert.MWS.nD Cert.MWS.τ Cert.MWS.sig) → Buf (Elt Bits) ℓ) : Prop :=
  True

def Pre_MWSIdeal (m : (ℓ : Loc Cert.MWSIdeal.nD Cert.MWSIdeal.τ Cert.MWSIdeal.sig) → Buf (Elt Ideal) ℓ) : Prop :=
  True

def Pre_MWSRefIdeal (m : (ℓ : Loc Cert.MWSRefIdeal.nD Cert.MWSRefIdeal.τ Cert.MWSRefIdeal.sig) → Buf (Elt Ideal) ℓ) : Prop :=
  True

def Pre_MWGm (m : (ℓ : Loc Cert.MWGm.nD Cert.MWGm.τ Cert.MWGm.sig) → Buf (Elt Bits) ℓ) : Prop :=
  True

def Pre_MWGmIdeal (m : (ℓ : Loc Cert.MWGmIdeal.nD Cert.MWGmIdeal.τ Cert.MWGmIdeal.sig) → Buf (Elt Ideal) ℓ) : Prop :=
  True

def Pre_MWGmRefIdeal (m : (ℓ : Loc Cert.MWGmRefIdeal.nD Cert.MWGmRefIdeal.τ Cert.MWGmRefIdeal.sig) → Buf (Elt Ideal) ℓ) : Prop :=
  True

def Pre_MIn (m : (ℓ : Loc Cert.MIn.nD Cert.MIn.τ Cert.MIn.sig) → Buf (Elt Bits) ℓ) : Prop :=
  True

def Pre_MInIdeal (m : (ℓ : Loc Cert.MInIdeal.nD Cert.MInIdeal.τ Cert.MInIdeal.sig) → Buf (Elt Ideal) ℓ) : Prop :=
  True

def Pre_MInIdeal_finite_m_in [hPre_finite_m_in : Cert.Pre_finite_m_in.Facts] (m : (ℓ : Loc Cert.MInIdeal.nD Cert.MInIdeal.τ Cert.MInIdeal.sig) → Buf (Elt Ideal) ℓ) : Prop :=
  ∀ c : Dev Cert.MInIdeal.nD,
    (Cert.Pre_finite_m_in.fn (F := Ideal) (m ((c.tc : Thread Cert.MInIdeal.nD Cert.MInIdeal.τ).loc Cert.MInIdeal.main_arg0)) (m ((c.tc : Thread Cert.MInIdeal.nD Cert.MInIdeal.τ).loc Cert.MInIdeal.main_arg1)) (m ((c.tc : Thread Cert.MInIdeal.nD Cert.MInIdeal.τ).loc Cert.MInIdeal.main_arg2)) (m ((c.tc : Thread Cert.MInIdeal.nD Cert.MInIdeal.τ).loc Cert.MInIdeal.main_arg3)) (m ((c.tc : Thread Cert.MInIdeal.nD Cert.MInIdeal.τ).loc Cert.MInIdeal.main_arg4)) (m ((c.tc : Thread Cert.MInIdeal.nD Cert.MInIdeal.τ).loc Cert.MInIdeal.main_arg5))) = (fun _ => 1#1)

def Pre_MInRefIdeal (m : (ℓ : Loc Cert.MInRefIdeal.nD Cert.MInRefIdeal.τ Cert.MInRefIdeal.sig) → Buf (Elt Ideal) ℓ) : Prop :=
  True

def Pre_MInRefIdeal_finite_m_in [hPre_finite_m_in : Cert.Pre_finite_m_in.Facts] (m : (ℓ : Loc Cert.MInRefIdeal.nD Cert.MInRefIdeal.τ Cert.MInRefIdeal.sig) → Buf (Elt Ideal) ℓ) : Prop :=
  ∀ c : Dev Cert.MInRefIdeal.nD,
    (Cert.Pre_finite_m_in.fn (F := Ideal) (m ((c.tc : Thread Cert.MInRefIdeal.nD Cert.MInRefIdeal.τ).loc Cert.MInRefIdeal.main_arg0)) (m ((c.tc : Thread Cert.MInRefIdeal.nD Cert.MInRefIdeal.τ).loc Cert.MInRefIdeal.main_arg1)) (m ((c.tc : Thread Cert.MInRefIdeal.nD Cert.MInRefIdeal.τ).loc Cert.MInRefIdeal.main_arg2)) (m ((c.tc : Thread Cert.MInRefIdeal.nD Cert.MInRefIdeal.τ).loc Cert.MInRefIdeal.main_arg3)) (m ((c.tc : Thread Cert.MInRefIdeal.nD Cert.MInRefIdeal.τ).loc Cert.MInRefIdeal.main_arg4)) (m ((c.tc : Thread Cert.MInRefIdeal.nD Cert.MInRefIdeal.τ).loc Cert.MInRefIdeal.main_arg5))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))) = (fun _ => 1#1)

def Pre_AdIn (m : (ℓ : Loc Cert.AdIn.nD Cert.AdIn.τ Cert.AdIn.sig) → Buf (Elt Bits) ℓ) : Prop :=
  True

def Pre_AdInIdeal (m : (ℓ : Loc Cert.AdInIdeal.nD Cert.AdInIdeal.τ Cert.AdInIdeal.sig) → Buf (Elt Ideal) ℓ) : Prop :=
  True

def Pre_AdInRefIdeal (m : (ℓ : Loc Cert.AdInRefIdeal.nD Cert.AdInRefIdeal.τ Cert.AdInRefIdeal.sig) → Buf (Elt Ideal) ℓ) : Prop :=
  True

def Pre_AdOut (m : (ℓ : Loc Cert.AdOut.nD Cert.AdOut.τ Cert.AdOut.sig) → Buf (Elt Bits) ℓ) : Prop :=
  True

def Pre_AdOutIdeal (m : (ℓ : Loc Cert.AdOutIdeal.nD Cert.AdOutIdeal.τ Cert.AdOutIdeal.sig) → Buf (Elt Ideal) ℓ) : Prop :=
  True

def Pre_AdOutRefIdeal (m : (ℓ : Loc Cert.AdOutRefIdeal.nD Cert.AdOutRefIdeal.τ Cert.AdOutRefIdeal.sig) → Buf (Elt Ideal) ℓ) : Prop :=
  True

def Pre_AdMIn (m : (ℓ : Loc Cert.AdMIn.nD Cert.AdMIn.τ Cert.AdMIn.sig) → Buf (Elt Bits) ℓ) : Prop :=
  True

def Pre_AdMInIdeal (m : (ℓ : Loc Cert.AdMInIdeal.nD Cert.AdMInIdeal.τ Cert.AdMInIdeal.sig) → Buf (Elt Ideal) ℓ) : Prop :=
  True

def Pre_AdMInRefIdeal (m : (ℓ : Loc Cert.AdMInRefIdeal.nD Cert.AdMInRefIdeal.τ Cert.AdMInRefIdeal.sig) → Buf (Elt Ideal) ℓ) : Prop :=
  True

def Pre_AdMOut (m : (ℓ : Loc Cert.AdMOut.nD Cert.AdMOut.τ Cert.AdMOut.sig) → Buf (Elt Bits) ℓ) : Prop :=
  True

def Pre_AdMOutIdeal (m : (ℓ : Loc Cert.AdMOutIdeal.nD Cert.AdMOutIdeal.τ Cert.AdMOutIdeal.sig) → Buf (Elt Ideal) ℓ) : Prop :=
  True

def Pre_AdMOutRefIdeal (m : (ℓ : Loc Cert.AdMOutRefIdeal.nD Cert.AdMOutRefIdeal.τ Cert.AdMOutRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateIdeal_pre_finite_gate [hGateIdeal : Cert.GateIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite_gate m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_GateRefIdeal_pre_finite_gate [hGateRefIdeal : Cert.GateRefIdeal.Facts] [hPre_finite_gate : Cert.Pre_finite_gate.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_finite_gate m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_WG [hWG : Cert.WG.Facts] : Prop :=
  ∀ (m : (ℓ : Loc Cert.WG.nD Cert.WG.τ Cert.WG.sig) → Buf (Elt Bits) ℓ) (g : Dev Cert.WG.nD → PrngReg), Pre_WG m →
    θ_run (Cert.WG.defs (F := Bits)) (onTc (τ := Cert.WG.τ) (Cert.WG.main (F := Bits))) ⟨m, fun _ => 0, g⟩ (fun r => (∀ c : Dev Cert.WG.nD,
      r.2.mem ((c.tc : Thread Cert.WG.nD Cert.WG.τ).loc Cert.WG.main_arg0) = m ((c.tc : Thread Cert.WG.nD Cert.WG.τ).loc Cert.WG.main_arg0)
      ∧ r.2.mem ((c.tc : Thread Cert.WG.nD Cert.WG.τ).loc Cert.WG.main_arg1) = m ((c.tc : Thread Cert.WG.nD Cert.WG.τ).loc Cert.WG.main_arg1))
      ∧ r.2.sem = fun _ => 0)

def quiescent_WGIdeal [hWGIdeal : Cert.WGIdeal.Facts] : Prop :=
  ∀ (m : (ℓ : Loc Cert.WGIdeal.nD Cert.WGIdeal.τ Cert.WGIdeal.sig) → Buf (Elt Ideal) ℓ) (g : Dev Cert.WGIdeal.nD → PrngReg), Pre_WGIdeal m →
    θ_run (Cert.WGIdeal.defs (F := Ideal)) (onTc (τ := Cert.WGIdeal.τ) (Cert.WGIdeal.main (F := Ideal))) ⟨m, fun _ => 0, g⟩ (fun r => (∀ c : Dev Cert.WGIdeal.nD,
      r.2.mem ((c.tc : Thread Cert.WGIdeal.nD Cert.WGIdeal.τ).loc Cert.WGIdeal.main_arg0) = m ((c.tc : Thread Cert.WGIdeal.nD Cert.WGIdeal.τ).loc Cert.WGIdeal.main_arg0)
      ∧ r.2.mem ((c.tc : Thread Cert.WGIdeal.nD Cert.WGIdeal.τ).loc Cert.WGIdeal.main_arg1) = m ((c.tc : Thread Cert.WGIdeal.nD Cert.WGIdeal.τ).loc Cert.WGIdeal.main_arg1))
      ∧ r.2.sem = fun _ => 0)

def quiescent_WGRefIdeal [hWGRefIdeal : Cert.WGRefIdeal.Facts] : Prop :=
  ∀ (m : (ℓ : Loc Cert.WGRefIdeal.nD Cert.WGRefIdeal.τ Cert.WGRefIdeal.sig) → Buf (Elt Ideal) ℓ) (g : Dev Cert.WGRefIdeal.nD → PrngReg), Pre_WGRefIdeal m →
    θ_run (Cert.WGRefIdeal.defs (F := Ideal)) (onTc (τ := Cert.WGRefIdeal.τ) (Cert.WGRefIdeal.main (F := Ideal))) ⟨m, fun _ => 0, g⟩ (fun r => (∀ c : Dev Cert.WGRefIdeal.nD,
      r.2.mem ((c.tc : Thread Cert.WGRefIdeal.nD Cert.WGRefIdeal.τ).loc Cert.WGRefIdeal.main_arg0) = m ((c.tc : Thread Cert.WGRefIdeal.nD Cert.WGRefIdeal.τ).loc Cert.WGRefIdeal.main_arg0)
      ∧ r.2.mem ((c.tc : Thread Cert.WGRefIdeal.nD Cert.WGRefIdeal.τ).loc Cert.WGRefIdeal.main_arg1) = m ((c.tc : Thread Cert.WGRefIdeal.nD Cert.WGRefIdeal.τ).loc Cert.WGRefIdeal.main_arg1))
      ∧ r.2.sem = fun _ => 0)

def quiescent_WU [hWU : Cert.WU.Facts] : Prop :=
  ∀ (m : (ℓ : Loc Cert.WU.nD Cert.WU.τ Cert.WU.sig) → Buf (Elt Bits) ℓ) (g : Dev Cert.WU.nD → PrngReg), Pre_WU m →
    θ_run (Cert.WU.defs (F := Bits)) (onTc (τ := Cert.WU.τ) (Cert.WU.main (F := Bits))) ⟨m, fun _ => 0, g⟩ (fun r => (∀ c : Dev Cert.WU.nD,
      r.2.mem ((c.tc : Thread Cert.WU.nD Cert.WU.τ).loc Cert.WU.main_arg0) = m ((c.tc : Thread Cert.WU.nD Cert.WU.τ).loc Cert.WU.main_arg0)
      ∧ r.2.mem ((c.tc : Thread Cert.WU.nD Cert.WU.τ).loc Cert.WU.main_arg1) = m ((c.tc : Thread Cert.WU.nD Cert.WU.τ).loc Cert.WU.main_arg1)
      ∧ r.2.mem ((c.tc : Thread Cert.WU.nD Cert.WU.τ).loc Cert.WU.main_arg2) = m ((c.tc : Thread Cert.WU.nD Cert.WU.τ).loc Cert.WU.main_arg2))
      ∧ r.2.sem = fun _ => 0)

def quiescent_WUIdeal [hWUIdeal : Cert.WUIdeal.Facts] : Prop :=
  ∀ (m : (ℓ : Loc Cert.WUIdeal.nD Cert.WUIdeal.τ Cert.WUIdeal.sig) → Buf (Elt Ideal) ℓ) (g : Dev Cert.WUIdeal.nD → PrngReg), Pre_WUIdeal m →
    θ_run (Cert.WUIdeal.defs (F := Ideal)) (onTc (τ := Cert.WUIdeal.τ) (Cert.WUIdeal.main (F := Ideal))) ⟨m, fun _ => 0, g⟩ (fun r => (∀ c : Dev Cert.WUIdeal.nD,
      r.2.mem ((c.tc : Thread Cert.WUIdeal.nD Cert.WUIdeal.τ).loc Cert.WUIdeal.main_arg0) = m ((c.tc : Thread Cert.WUIdeal.nD Cert.WUIdeal.τ).loc Cert.WUIdeal.main_arg0)
      ∧ r.2.mem ((c.tc : Thread Cert.WUIdeal.nD Cert.WUIdeal.τ).loc Cert.WUIdeal.main_arg1) = m ((c.tc : Thread Cert.WUIdeal.nD Cert.WUIdeal.τ).loc Cert.WUIdeal.main_arg1)
      ∧ r.2.mem ((c.tc : Thread Cert.WUIdeal.nD Cert.WUIdeal.τ).loc Cert.WUIdeal.main_arg2) = m ((c.tc : Thread Cert.WUIdeal.nD Cert.WUIdeal.τ).loc Cert.WUIdeal.main_arg2))
      ∧ r.2.sem = fun _ => 0)

def quiescent_WURefIdeal [hWURefIdeal : Cert.WURefIdeal.Facts] : Prop :=
  ∀ (m : (ℓ : Loc Cert.WURefIdeal.nD Cert.WURefIdeal.τ Cert.WURefIdeal.sig) → Buf (Elt Ideal) ℓ) (g : Dev Cert.WURefIdeal.nD → PrngReg), Pre_WURefIdeal m →
    θ_run (Cert.WURefIdeal.defs (F := Ideal)) (onTc (τ := Cert.WURefIdeal.τ) (Cert.WURefIdeal.main (F := Ideal))) ⟨m, fun _ => 0, g⟩ (fun r => (∀ c : Dev Cert.WURefIdeal.nD,
      r.2.mem ((c.tc : Thread Cert.WURefIdeal.nD Cert.WURefIdeal.τ).loc Cert.WURefIdeal.main_arg0) = m ((c.tc : Thread Cert.WURefIdeal.nD Cert.WURefIdeal.τ).loc Cert.WURefIdeal.main_arg0)
      ∧ r.2.mem ((c.tc : Thread Cert.WURefIdeal.nD Cert.WURefIdeal.τ).loc Cert.WURefIdeal.main_arg1) = m ((c.tc : Thread Cert.WURefIdeal.nD Cert.WURefIdeal.τ).loc Cert.WURefIdeal.main_arg1)
      ∧ r.2.mem ((c.tc : Thread Cert.WURefIdeal.nD Cert.WURefIdeal.τ).loc Cert.WURefIdeal.main_arg2) = m ((c.tc : Thread Cert.WURefIdeal.nD Cert.WURefIdeal.τ).loc Cert.WURefIdeal.main_arg2))
      ∧ r.2.sem = fun _ => 0)

def quiescent_WOut [hWOut : Cert.WOut.Facts] : Prop :=
  ∀ (m : (ℓ : Loc Cert.WOut.nD Cert.WOut.τ Cert.WOut.sig) → Buf (Elt Bits) ℓ) (g : Dev Cert.WOut.nD → PrngReg), Pre_WOut m →
    θ_run (Cert.WOut.defs (F := Bits)) (onTc (τ := Cert.WOut.τ) (Cert.WOut.main (F := Bits))) ⟨m, fun _ => 0, g⟩ (fun r => (∀ c : Dev Cert.WOut.nD,
      r.2.mem ((c.tc : Thread Cert.WOut.nD Cert.WOut.τ).loc Cert.WOut.main_arg0) = m ((c.tc : Thread Cert.WOut.nD Cert.WOut.τ).loc Cert.WOut.main_arg0)
      ∧ r.2.mem ((c.tc : Thread Cert.WOut.nD Cert.WOut.τ).loc Cert.WOut.main_arg1) = m ((c.tc : Thread Cert.WOut.nD Cert.WOut.τ).loc Cert.WOut.main_arg1))
      ∧ r.2.sem = fun _ => 0)

def quiescent_WOutIdeal [hWOutIdeal : Cert.WOutIdeal.Facts] : Prop :=
  ∀ (m : (ℓ : Loc Cert.WOutIdeal.nD Cert.WOutIdeal.τ Cert.WOutIdeal.sig) → Buf (Elt Ideal) ℓ) (g : Dev Cert.WOutIdeal.nD → PrngReg), Pre_WOutIdeal m →
    θ_run (Cert.WOutIdeal.defs (F := Ideal)) (onTc (τ := Cert.WOutIdeal.τ) (Cert.WOutIdeal.main (F := Ideal))) ⟨m, fun _ => 0, g⟩ (fun r => (∀ c : Dev Cert.WOutIdeal.nD,
      r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
      ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ r.2.sem = fun _ => 0)

def quiescent_WOutRefIdeal [hWOutRefIdeal : Cert.WOutRefIdeal.Facts] : Prop :=
  ∀ (m : (ℓ : Loc Cert.WOutRefIdeal.nD Cert.WOutRefIdeal.τ Cert.WOutRefIdeal.sig) → Buf (Elt Ideal) ℓ) (g : Dev Cert.WOutRefIdeal.nD → PrngReg), Pre_WOutRefIdeal m →
    θ_run (Cert.WOutRefIdeal.defs (F := Ideal)) (onTc (τ := Cert.WOutRefIdeal.τ) (Cert.WOutRefIdeal.main (F := Ideal))) ⟨m, fun _ => 0, g⟩ (fun r => (∀ c : Dev Cert.WOutRefIdeal.nD,
      r.2.mem ((c.tc : Thread Cert.WOutRefIdeal.nD Cert.WOutRefIdeal.τ).loc Cert.WOutRefIdeal.main_arg0) = m ((c.tc : Thread Cert.WOutRefIdeal.nD Cert.WOutRefIdeal.τ).loc Cert.WOutRefIdeal.main_arg0)
      ∧ r.2.mem ((c.tc : Thread Cert.WOutRefIdeal.nD Cert.WOutRefIdeal.τ).loc Cert.WOutRefIdeal.main_arg1) = m ((c.tc : Thread Cert.WOutRefIdeal.nD Cert.WOutRefIdeal.τ).loc Cert.WOutRefIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5))
      ∧ r.2.sem = fun _ => 0)

def quiescent_InIdeal_pre_finite_in [hInIdeal : Cert.InIdeal.Facts] [hPre_finite_in : Cert.Pre_finite_in.Facts] : Prop :=
  ∀ (m : (ℓ : Loc Cert.InIdeal.nD Cert.InIdeal.τ Cert.InIdeal.sig) → Buf (Elt Ideal) ℓ) (g : Dev Cert.InIdeal.nD → PrngReg), Pre_InIdeal_finite_in m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5))
      ∧ r.2.sem = fun _ => 0)

def quiescent_InRefIdeal_pre_finite_in [hInRefIdeal : Cert.InRefIdeal.Facts] [hPre_finite_in : Cert.Pre_finite_in.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal_finite_in m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpIdeal_pre_finite_up [hUpIdeal : Cert.UpIdeal.Facts] [hPre_finite_up : Cert.Pre_finite_up.Facts] : Prop :=
  ∀ (m : (ℓ : Loc Cert.UpIdeal.nD Cert.UpIdeal.τ Cert.UpIdeal.sig) → Buf (Elt Ideal) ℓ) (g : Dev Cert.UpIdeal.nD → PrngReg), Pre_UpIdeal_finite_up m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_UpRefIdeal_pre_finite_up [hUpRefIdeal : Cert.UpRefIdeal.Facts] [hPre_finite_up : Cert.Pre_finite_up.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_finite_up m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_MOut [hMOut : Cert.MOut.Facts] : Prop :=
  ∀ (m : (ℓ : Loc Cert.MOut.nD Cert.MOut.τ Cert.MOut.sig) → Buf (Elt Bits) ℓ) (g : Dev Cert.MOut.nD → PrngReg), Pre_MOut m →
    θ_run (Cert.MOut.defs (F := Bits)) (onTc (τ := Cert.MOut.τ) (Cert.MOut.main (F := Bits))) ⟨m, fun _ => 0, g⟩ (fun r => (∀ c : Dev Cert.MOut.nD,
      r.2.mem ((c.tc : Thread Cert.MOut.nD Cert.MOut.τ).loc Cert.MOut.main_arg0) = m ((c.tc : Thread Cert.MOut.nD Cert.MOut.τ).loc Cert.MOut.main_arg0)
      ∧ r.2.mem ((c.tc : Thread Cert.MOut.nD Cert.MOut.τ).loc Cert.MOut.main_arg1) = m ((c.tc : Thread Cert.MOut.nD Cert.MOut.τ).loc Cert.MOut.main_arg1)
      ∧ r.2.mem ((c.tc : Thread Cert.MOut.nD Cert.MOut.τ).loc Cert.MOut.main_arg2) = m ((c.tc : Thread Cert.MOut.nD Cert.MOut.τ).loc Cert.MOut.main_arg2)
      ∧ r.2.mem ((c.tc : Thread Cert.MOut.nD Cert.MOut.τ).loc Cert.MOut.main_arg3) = m ((c.tc : Thread Cert.MOut.nD Cert.MOut.τ).loc Cert.MOut.main_arg3)
      ∧ r.2.mem ((c.tc : Thread Cert.MOut.nD Cert.MOut.τ).loc Cert.MOut.main_arg4) = m ((c.tc : Thread Cert.MOut.nD Cert.MOut.τ).loc Cert.MOut.main_arg4)
      ∧ r.2.mem ((c.tc : Thread Cert.MOut.nD Cert.MOut.τ).loc Cert.MOut.main_arg5) = m ((c.tc : Thread Cert.MOut.nD Cert.MOut.τ).loc Cert.MOut.main_arg5))
      ∧ r.2.sem = fun _ => 0)

def quiescent_MOutIdeal [hMOutIdeal : Cert.MOutIdeal.Facts] : Prop :=
  ∀ (m : (ℓ : Loc Cert.MOutIdeal.nD Cert.MOutIdeal.τ Cert.MOutIdeal.sig) → Buf (Elt Ideal) ℓ) (g : Dev Cert.MOutIdeal.nD → PrngReg), Pre_MOutIdeal m →
    θ_run (Cert.MOutIdeal.defs (F := Ideal)) (onTc (τ := Cert.MOutIdeal.τ) (Cert.MOutIdeal.main (F := Ideal))) ⟨m, fun _ => 0, g⟩ (fun r => (∀ c : Dev Cert.MOutIdeal.nD,
      r.2.mem ((c.tc : Thread Cert.MOutIdeal.nD Cert.MOutIdeal.τ).loc Cert.MOutIdeal.main_arg0) = m ((c.tc : Thread Cert.MOutIdeal.nD Cert.MOutIdeal.τ).loc Cert.MOutIdeal.main_arg0)
      ∧ r.2.mem ((c.tc : Thread Cert.MOutIdeal.nD Cert.MOutIdeal.τ).loc Cert.MOutIdeal.main_arg1) = m ((c.tc : Thread Cert.MOutIdeal.nD Cert.MOutIdeal.τ).loc Cert.MOutIdeal.main_arg1)
      ∧ r.2.mem ((c.tc : Thread Cert.MOutIdeal.nD Cert.MOutIdeal.τ).loc Cert.MOutIdeal.main_arg2) = m ((c.tc : Thread Cert.MOutIdeal.nD Cert.MOutIdeal.τ).loc Cert.MOutIdeal.main_arg2)
      ∧ r.2.mem ((c.tc : Thread Cert.MOutIdeal.nD Cert.MOutIdeal.τ).loc Cert.MOutIdeal.main_arg3) = m ((c.tc : Thread Cert.MOutIdeal.nD Cert.MOutIdeal.τ).loc Cert.MOutIdeal.main_arg3)
      ∧ r.2.mem ((c.tc : Thread Cert.MOutIdeal.nD Cert.MOutIdeal.τ).loc Cert.MOutIdeal.main_arg4) = m ((c.tc : Thread Cert.MOutIdeal.nD Cert.MOutIdeal.τ).loc Cert.MOutIdeal.main_arg4)
      ∧ r.2.mem ((c.tc : Thread Cert.MOutIdeal.nD Cert.MOutIdeal.τ).loc Cert.MOutIdeal.main_arg5) = m ((c.tc : Thread Cert.MOutIdeal.nD Cert.MOutIdeal.τ).loc Cert.MOutIdeal.main_arg5))
      ∧ r.2.sem = fun _ => 0)

def quiescent_MOutRefIdeal [hMOutRefIdeal : Cert.MOutRefIdeal.Facts] : Prop :=
  ∀ (m : (ℓ : Loc Cert.MOutRefIdeal.nD Cert.MOutRefIdeal.τ Cert.MOutRefIdeal.sig) → Buf (Elt Ideal) ℓ) (g : Dev Cert.MOutRefIdeal.nD → PrngReg), Pre_MOutRefIdeal m →
    θ_run (Cert.MOutRefIdeal.defs (F := Ideal)) (onTc (τ := Cert.MOutRefIdeal.τ) (Cert.MOutRefIdeal.main (F := Ideal))) ⟨m, fun _ => 0, g⟩ (fun r => (∀ c : Dev Cert.MOutRefIdeal.nD,
      r.2.mem ((c.tc : Thread Cert.MOutRefIdeal.nD Cert.MOutRefIdeal.τ).loc Cert.MOutRefIdeal.main_arg0) = m ((c.tc : Thread Cert.MOutRefIdeal.nD Cert.MOutRefIdeal.τ).loc Cert.MOutRefIdeal.main_arg0)
      ∧ r.2.mem ((c.tc : Thread Cert.MOutRefIdeal.nD Cert.MOutRefIdeal.τ).loc Cert.MOutRefIdeal.main_arg1) = m ((c.tc : Thread Cert.MOutRefIdeal.nD Cert.MOutRefIdeal.τ).loc Cert.MOutRefIdeal.main_arg1)
      ∧ r.2.mem ((c.tc : Thread Cert.MOutRefIdeal.nD Cert.MOutRefIdeal.τ).loc Cert.MOutRefIdeal.main_arg2) = m ((c.tc : Thread Cert.MOutRefIdeal.nD Cert.MOutRefIdeal.τ).loc Cert.MOutRefIdeal.main_arg2)
      ∧ r.2.mem ((c.tc : Thread Cert.MOutRefIdeal.nD Cert.MOutRefIdeal.τ).loc Cert.MOutRefIdeal.main_arg3) = m ((c.tc : Thread Cert.MOutRefIdeal.nD Cert.MOutRefIdeal.τ).loc Cert.MOutRefIdeal.main_arg3)
      ∧ r.2.mem ((c.tc : Thread Cert.MOutRefIdeal.nD Cert.MOutRefIdeal.τ).loc Cert.MOutRefIdeal.main_arg4) = m ((c.tc : Thread Cert.MOutRefIdeal.nD Cert.MOutRefIdeal.τ).loc Cert.MOutRefIdeal.main_arg4)
      ∧ r.2.mem ((c.tc : Thread Cert.MOutRefIdeal.nD Cert.MOutRefIdeal.τ).loc Cert.MOutRefIdeal.main_arg5) = m ((c.tc : Thread Cert.MOutRefIdeal.nD Cert.MOutRefIdeal.τ).loc Cert.MOutRefIdeal.main_arg5))
      ∧ r.2.sem = fun _ => 0)

def quiescent_MWOut [hMWOut : Cert.MWOut.Facts] : Prop :=
  ∀ (m : (ℓ : Loc Cert.MWOut.nD Cert.MWOut.τ Cert.MWOut.sig) → Buf (Elt Bits) ℓ) (g : Dev Cert.MWOut.nD → PrngReg), Pre_MWOut m →
    θ_run (Cert.MWOut.defs (F := Bits)) (onTc (τ := Cert.MWOut.τ) (Cert.MWOut.main (F := Bits))) ⟨m, fun _ => 0, g⟩ (fun r => (∀ c : Dev Cert.MWOut.nD,
      r.2.mem ((c.tc : Thread Cert.MWOut.nD Cert.MWOut.τ).loc Cert.MWOut.main_arg0) = m ((c.tc : Thread Cert.MWOut.nD Cert.MWOut.τ).loc Cert.MWOut.main_arg0)
      ∧ r.2.mem ((c.tc : Thread Cert.MWOut.nD Cert.MWOut.τ).loc Cert.MWOut.main_arg1) = m ((c.tc : Thread Cert.MWOut.nD Cert.MWOut.τ).loc Cert.MWOut.main_arg1))
      ∧ r.2.sem = fun _ => 0)

def quiescent_MWOutIdeal [hMWOutIdeal : Cert.MWOutIdeal.Facts] : Prop :=
  ∀ (m : (ℓ : Loc Cert.MWOutIdeal.nD Cert.MWOutIdeal.τ Cert.MWOutIdeal.sig) → Buf (Elt Ideal) ℓ) (g : Dev Cert.MWOutIdeal.nD → PrngReg), Pre_MWOutIdeal m →
    θ_run (Cert.MWOutIdeal.defs (F := Ideal)) (onTc (τ := Cert.MWOutIdeal.τ) (Cert.MWOutIdeal.main (F := Ideal))) ⟨m, fun _ => 0, g⟩ (fun r => (∀ c : Dev Cert.MWOutIdeal.nD,
      r.2.mem ((c.tc : Thread Cert.MWOutIdeal.nD Cert.MWOutIdeal.τ).loc Cert.MWOutIdeal.main_arg0) = m ((c.tc : Thread Cert.MWOutIdeal.nD Cert.MWOutIdeal.τ).loc Cert.MWOutIdeal.main_arg0)
      ∧ r.2.mem ((c.tc : Thread Cert.MWOutIdeal.nD Cert.MWOutIdeal.τ).loc Cert.MWOutIdeal.main_arg1) = m ((c.tc : Thread Cert.MWOutIdeal.nD Cert.MWOutIdeal.τ).loc Cert.MWOutIdeal.main_arg1))
      ∧ r.2.sem = fun _ => 0)

def quiescent_MWOutRefIdeal [hMWOutRefIdeal : Cert.MWOutRefIdeal.Facts] : Prop :=
  ∀ (m : (ℓ : Loc Cert.MWOutRefIdeal.nD Cert.MWOutRefIdeal.τ Cert.MWOutRefIdeal.sig) → Buf (Elt Ideal) ℓ) (g : Dev Cert.MWOutRefIdeal.nD → PrngReg), Pre_MWOutRefIdeal m →
    θ_run (Cert.MWOutRefIdeal.defs (F := Ideal)) (onTc (τ := Cert.MWOutRefIdeal.τ) (Cert.MWOutRefIdeal.main (F := Ideal))) ⟨m, fun _ => 0, g⟩ (fun r => (∀ c : Dev Cert.MWOutRefIdeal.nD,
      r.2.mem ((c.tc : Thread Cert.MWOutRefIdeal.nD Cert.MWOutRefIdeal.τ).loc Cert.MWOutRefIdeal.main_arg0) = m ((c.tc : Thread Cert.MWOutRefIdeal.nD Cert.MWOutRefIdeal.τ).loc Cert.MWOutRefIdeal.main_arg0)
      ∧ r.2.mem ((c.tc : Thread Cert.MWOutRefIdeal.nD Cert.MWOutRefIdeal.τ).loc Cert.MWOutRefIdeal.main_arg1) = m ((c.tc : Thread Cert.MWOutRefIdeal.nD Cert.MWOutRefIdeal.τ).loc Cert.MWOutRefIdeal.main_arg1))
      ∧ r.2.sem = fun _ => 0)

def quiescent_MWS [hMWS : Cert.MWS.Facts] : Prop :=
  ∀ (m : (ℓ : Loc Cert.MWS.nD Cert.MWS.τ Cert.MWS.sig) → Buf (Elt Bits) ℓ) (g : Dev Cert.MWS.nD → PrngReg), Pre_MWS m →
    θ_run (Cert.MWS.defs (F := Bits)) (onTc (τ := Cert.MWS.τ) (Cert.MWS.main (F := Bits))) ⟨m, fun _ => 0, g⟩ (fun r => (∀ c : Dev Cert.MWS.nD,
      r.2.mem ((c.tc : Thread Cert.MWS.nD Cert.MWS.τ).loc Cert.MWS.main_arg0) = m ((c.tc : Thread Cert.MWS.nD Cert.MWS.τ).loc Cert.MWS.main_arg0)
      ∧ r.2.mem ((c.tc : Thread Cert.MWS.nD Cert.MWS.τ).loc Cert.MWS.main_arg1) = m ((c.tc : Thread Cert.MWS.nD Cert.MWS.τ).loc Cert.MWS.main_arg1))
      ∧ r.2.sem = fun _ => 0)

def quiescent_MWSIdeal [hMWSIdeal : Cert.MWSIdeal.Facts] : Prop :=
  ∀ (m : (ℓ : Loc Cert.MWSIdeal.nD Cert.MWSIdeal.τ Cert.MWSIdeal.sig) → Buf (Elt Ideal) ℓ) (g : Dev Cert.MWSIdeal.nD → PrngReg), Pre_MWSIdeal m →
    θ_run (Cert.MWSIdeal.defs (F := Ideal)) (onTc (τ := Cert.MWSIdeal.τ) (Cert.MWSIdeal.main (F := Ideal))) ⟨m, fun _ => 0, g⟩ (fun r => (∀ c : Dev Cert.MWSIdeal.nD,
      r.2.mem ((c.tc : Thread Cert.MWSIdeal.nD Cert.MWSIdeal.τ).loc Cert.MWSIdeal.main_arg0) = m ((c.tc : Thread Cert.MWSIdeal.nD Cert.MWSIdeal.τ).loc Cert.MWSIdeal.main_arg0)
      ∧ r.2.mem ((c.tc : Thread Cert.MWSIdeal.nD Cert.MWSIdeal.τ).loc Cert.MWSIdeal.main_arg1) = m ((c.tc : Thread Cert.MWSIdeal.nD Cert.MWSIdeal.τ).loc Cert.MWSIdeal.main_arg1))
      ∧ r.2.sem = fun _ => 0)

def quiescent_MWSRefIdeal [hMWSRefIdeal : Cert.MWSRefIdeal.Facts] : Prop :=
  ∀ (m : (ℓ : Loc Cert.MWSRefIdeal.nD Cert.MWSRefIdeal.τ Cert.MWSRefIdeal.sig) → Buf (Elt Ideal) ℓ) (g : Dev Cert.MWSRefIdeal.nD → PrngReg), Pre_MWSRefIdeal m →
    θ_run (Cert.MWSRefIdeal.defs (F := Ideal)) (onTc (τ := Cert.MWSRefIdeal.τ) (Cert.MWSRefIdeal.main (F := Ideal))) ⟨m, fun _ => 0, g⟩ (fun r => (∀ c : Dev Cert.MWSRefIdeal.nD,
      r.2.mem ((c.tc : Thread Cert.MWSRefIdeal.nD Cert.MWSRefIdeal.τ).loc Cert.MWSRefIdeal.main_arg0) = m ((c.tc : Thread Cert.MWSRefIdeal.nD Cert.MWSRefIdeal.τ).loc Cert.MWSRefIdeal.main_arg0)
      ∧ r.2.mem ((c.tc : Thread Cert.MWSRefIdeal.nD Cert.MWSRefIdeal.τ).loc Cert.MWSRefIdeal.main_arg1) = m ((c.tc : Thread Cert.MWSRefIdeal.nD Cert.MWSRefIdeal.τ).loc Cert.MWSRefIdeal.main_arg1))
      ∧ r.2.sem = fun _ => 0)

def quiescent_MWGm [hMWGm : Cert.MWGm.Facts] : Prop :=
  ∀ (m : (ℓ : Loc Cert.MWGm.nD Cert.MWGm.τ Cert.MWGm.sig) → Buf (Elt Bits) ℓ) (g : Dev Cert.MWGm.nD → PrngReg), Pre_MWGm m →
    θ_run (Cert.MWGm.defs (F := Bits)) (onTc (τ := Cert.MWGm.τ) (Cert.MWGm.main (F := Bits))) ⟨m, fun _ => 0, g⟩ (fun r => (∀ c : Dev Cert.MWGm.nD,
      r.2.mem ((c.tc : Thread Cert.MWGm.nD Cert.MWGm.τ).loc Cert.MWGm.main_arg0) = m ((c.tc : Thread Cert.MWGm.nD Cert.MWGm.τ).loc Cert.MWGm.main_arg0)
      ∧ r.2.mem ((c.tc : Thread Cert.MWGm.nD Cert.MWGm.τ).loc Cert.MWGm.main_arg1) = m ((c.tc : Thread Cert.MWGm.nD Cert.MWGm.τ).loc Cert.MWGm.main_arg1)
      ∧ r.2.mem ((c.tc : Thread Cert.MWGm.nD Cert.MWGm.τ).loc Cert.MWGm.main_arg2) = m ((c.tc : Thread Cert.MWGm.nD Cert.MWGm.τ).loc Cert.MWGm.main_arg2))
      ∧ r.2.sem = fun _ => 0)

def quiescent_MWGmIdeal [hMWGmIdeal : Cert.MWGmIdeal.Facts] : Prop :=
  ∀ (m : (ℓ : Loc Cert.MWGmIdeal.nD Cert.MWGmIdeal.τ Cert.MWGmIdeal.sig) → Buf (Elt Ideal) ℓ) (g : Dev Cert.MWGmIdeal.nD → PrngReg), Pre_MWGmIdeal m →
    θ_run (Cert.MWGmIdeal.defs (F := Ideal)) (onTc (τ := Cert.MWGmIdeal.τ) (Cert.MWGmIdeal.main (F := Ideal))) ⟨m, fun _ => 0, g⟩ (fun r => (∀ c : Dev Cert.MWGmIdeal.nD,
      r.2.mem ((c.tc : Thread Cert.MWGmIdeal.nD Cert.MWGmIdeal.τ).loc Cert.MWGmIdeal.main_arg0) = m ((c.tc : Thread Cert.MWGmIdeal.nD Cert.MWGmIdeal.τ).loc Cert.MWGmIdeal.main_arg0)
      ∧ r.2.mem ((c.tc : Thread Cert.MWGmIdeal.nD Cert.MWGmIdeal.τ).loc Cert.MWGmIdeal.main_arg1) = m ((c.tc : Thread Cert.MWGmIdeal.nD Cert.MWGmIdeal.τ).loc Cert.MWGmIdeal.main_arg1)
      ∧ r.2.mem ((c.tc : Thread Cert.MWGmIdeal.nD Cert.MWGmIdeal.τ).loc Cert.MWGmIdeal.main_arg2) = m ((c.tc : Thread Cert.MWGmIdeal.nD Cert.MWGmIdeal.τ).loc Cert.MWGmIdeal.main_arg2))
      ∧ r.2.sem = fun _ => 0)

def quiescent_MWGmRefIdeal [hMWGmRefIdeal : Cert.MWGmRefIdeal.Facts] : Prop :=
  ∀ (m : (ℓ : Loc Cert.MWGmRefIdeal.nD Cert.MWGmRefIdeal.τ Cert.MWGmRefIdeal.sig) → Buf (Elt Ideal) ℓ) (g : Dev Cert.MWGmRefIdeal.nD → PrngReg), Pre_MWGmRefIdeal m →
    θ_run (Cert.MWGmRefIdeal.defs (F := Ideal)) (onTc (τ := Cert.MWGmRefIdeal.τ) (Cert.MWGmRefIdeal.main (F := Ideal))) ⟨m, fun _ => 0, g⟩ (fun r => (∀ c : Dev Cert.MWGmRefIdeal.nD,
      r.2.mem ((c.tc : Thread Cert.MWGmRefIdeal.nD Cert.MWGmRefIdeal.τ).loc Cert.MWGmRefIdeal.main_arg0) = m ((c.tc : Thread Cert.MWGmRefIdeal.nD Cert.MWGmRefIdeal.τ).loc Cert.MWGmRefIdeal.main_arg0)
      ∧ r.2.mem ((c.tc : Thread Cert.MWGmRefIdeal.nD Cert.MWGmRefIdeal.τ).loc Cert.MWGmRefIdeal.main_arg1) = m ((c.tc : Thread Cert.MWGmRefIdeal.nD Cert.MWGmRefIdeal.τ).loc Cert.MWGmRefIdeal.main_arg1)
      ∧ r.2.mem ((c.tc : Thread Cert.MWGmRefIdeal.nD Cert.MWGmRefIdeal.τ).loc Cert.MWGmRefIdeal.main_arg2) = m ((c.tc : Thread Cert.MWGmRefIdeal.nD Cert.MWGmRefIdeal.τ).loc Cert.MWGmRefIdeal.main_arg2))
      ∧ r.2.sem = fun _ => 0)

def quiescent_MIn [hMIn : Cert.MIn.Facts] : Prop :=
  ∀ (m : (ℓ : Loc Cert.MIn.nD Cert.MIn.τ Cert.MIn.sig) → Buf (Elt Bits) ℓ) (g : Dev Cert.MIn.nD → PrngReg), Pre_MIn m →
    θ_run (Cert.MIn.defs (F := Bits)) (onTc (τ := Cert.MIn.τ) (Cert.MIn.main (F := Bits))) ⟨m, fun _ => 0, g⟩ (fun r => (∀ c : Dev Cert.MIn.nD,
      r.2.mem ((c.tc : Thread Cert.MIn.nD Cert.MIn.τ).loc Cert.MIn.main_arg0) = m ((c.tc : Thread Cert.MIn.nD Cert.MIn.τ).loc Cert.MIn.main_arg0)
      ∧ r.2.mem ((c.tc : Thread Cert.MIn.nD Cert.MIn.τ).loc Cert.MIn.main_arg1) = m ((c.tc : Thread Cert.MIn.nD Cert.MIn.τ).loc Cert.MIn.main_arg1)
      ∧ r.2.mem ((c.tc : Thread Cert.MIn.nD Cert.MIn.τ).loc Cert.MIn.main_arg2) = m ((c.tc : Thread Cert.MIn.nD Cert.MIn.τ).loc Cert.MIn.main_arg2)
      ∧ r.2.mem ((c.tc : Thread Cert.MIn.nD Cert.MIn.τ).loc Cert.MIn.main_arg3) = m ((c.tc : Thread Cert.MIn.nD Cert.MIn.τ).loc Cert.MIn.main_arg3)
      ∧ r.2.mem ((c.tc : Thread Cert.MIn.nD Cert.MIn.τ).loc Cert.MIn.main_arg4) = m ((c.tc : Thread Cert.MIn.nD Cert.MIn.τ).loc Cert.MIn.main_arg4)
      ∧ r.2.mem ((c.tc : Thread Cert.MIn.nD Cert.MIn.τ).loc Cert.MIn.main_arg5) = m ((c.tc : Thread Cert.MIn.nD Cert.MIn.τ).loc Cert.MIn.main_arg5))
      ∧ r.2.sem = fun _ => 0)

def quiescent_MInIdeal [hMInIdeal : Cert.MInIdeal.Facts] : Prop :=
  ∀ (m : (ℓ : Loc Cert.MInIdeal.nD Cert.MInIdeal.τ Cert.MInIdeal.sig) → Buf (Elt Ideal) ℓ) (g : Dev Cert.MInIdeal.nD → PrngReg), Pre_MInIdeal m →
    θ_run (Cert.MInIdeal.defs (F := Ideal)) (onTc (τ := Cert.MInIdeal.τ) (Cert.MInIdeal.main (F := Ideal))) ⟨m, fun _ => 0, g⟩ (fun r => (∀ c : Dev Cert.MInIdeal.nD,
      r.2.mem ((c.tc : Thread Cert.MInIdeal.nD Cert.MInIdeal.τ).loc Cert.MInIdeal.main_arg0) = m ((c.tc : Thread Cert.MInIdeal.nD Cert.MInIdeal.τ).loc Cert.MInIdeal.main_arg0)
      ∧ r.2.mem ((c.tc : Thread Cert.MInIdeal.nD Cert.MInIdeal.τ).loc Cert.MInIdeal.main_arg1) = m ((c.tc : Thread Cert.MInIdeal.nD Cert.MInIdeal.τ).loc Cert.MInIdeal.main_arg1)
      ∧ r.2.mem ((c.tc : Thread Cert.MInIdeal.nD Cert.MInIdeal.τ).loc Cert.MInIdeal.main_arg2) = m ((c.tc : Thread Cert.MInIdeal.nD Cert.MInIdeal.τ).loc Cert.MInIdeal.main_arg2)
      ∧ r.2.mem ((c.tc : Thread Cert.MInIdeal.nD Cert.MInIdeal.τ).loc Cert.MInIdeal.main_arg3) = m ((c.tc : Thread Cert.MInIdeal.nD Cert.MInIdeal.τ).loc Cert.MInIdeal.main_arg3)
      ∧ r.2.mem ((c.tc : Thread Cert.MInIdeal.nD Cert.MInIdeal.τ).loc Cert.MInIdeal.main_arg4) = m ((c.tc : Thread Cert.MInIdeal.nD Cert.MInIdeal.τ).loc Cert.MInIdeal.main_arg4)
      ∧ r.2.mem ((c.tc : Thread Cert.MInIdeal.nD Cert.MInIdeal.τ).loc Cert.MInIdeal.main_arg5) = m ((c.tc : Thread Cert.MInIdeal.nD Cert.MInIdeal.τ).loc Cert.MInIdeal.main_arg5))
      ∧ r.2.sem = fun _ => 0)

def quiescent_MInIdeal_pre_finite_m_in [hMInIdeal : Cert.MInIdeal.Facts] [hPre_finite_m_in : Cert.Pre_finite_m_in.Facts] : Prop :=
  ∀ (m : (ℓ : Loc Cert.MInIdeal.nD Cert.MInIdeal.τ Cert.MInIdeal.sig) → Buf (Elt Ideal) ℓ) (g : Dev Cert.MInIdeal.nD → PrngReg), Pre_MInIdeal_finite_m_in m →
    θ_run (Cert.MInIdeal.defs (F := Ideal)) (onTc (τ := Cert.MInIdeal.τ) (Cert.MInIdeal.main (F := Ideal))) ⟨m, fun _ => 0, g⟩ (fun r => (∀ c : Dev Cert.MInIdeal.nD,
      r.2.mem ((c.tc : Thread Cert.MInIdeal.nD Cert.MInIdeal.τ).loc Cert.MInIdeal.main_arg0) = m ((c.tc : Thread Cert.MInIdeal.nD Cert.MInIdeal.τ).loc Cert.MInIdeal.main_arg0)
      ∧ r.2.mem ((c.tc : Thread Cert.MInIdeal.nD Cert.MInIdeal.τ).loc Cert.MInIdeal.main_arg1) = m ((c.tc : Thread Cert.MInIdeal.nD Cert.MInIdeal.τ).loc Cert.MInIdeal.main_arg1)
      ∧ r.2.mem ((c.tc : Thread Cert.MInIdeal.nD Cert.MInIdeal.τ).loc Cert.MInIdeal.main_arg2) = m ((c.tc : Thread Cert.MInIdeal.nD Cert.MInIdeal.τ).loc Cert.MInIdeal.main_arg2)
      ∧ r.2.mem ((c.tc : Thread Cert.MInIdeal.nD Cert.MInIdeal.τ).loc Cert.MInIdeal.main_arg3) = m ((c.tc : Thread Cert.MInIdeal.nD Cert.MInIdeal.τ).loc Cert.MInIdeal.main_arg3)
      ∧ r.2.mem ((c.tc : Thread Cert.MInIdeal.nD Cert.MInIdeal.τ).loc Cert.MInIdeal.main_arg4) = m ((c.tc : Thread Cert.MInIdeal.nD Cert.MInIdeal.τ).loc Cert.MInIdeal.main_arg4)
      ∧ r.2.mem ((c.tc : Thread Cert.MInIdeal.nD Cert.MInIdeal.τ).loc Cert.MInIdeal.main_arg5) = m ((c.tc : Thread Cert.MInIdeal.nD Cert.MInIdeal.τ).loc Cert.MInIdeal.main_arg5))
      ∧ r.2.sem = fun _ => 0)

def quiescent_MInRefIdeal [hMInRefIdeal : Cert.MInRefIdeal.Facts] : Prop :=
  ∀ (m : (ℓ : Loc Cert.MInRefIdeal.nD Cert.MInRefIdeal.τ Cert.MInRefIdeal.sig) → Buf (Elt Ideal) ℓ) (g : Dev Cert.MInRefIdeal.nD → PrngReg), Pre_MInRefIdeal m →
    θ_run (Cert.MInRefIdeal.defs (F := Ideal)) (onTc (τ := Cert.MInRefIdeal.τ) (Cert.MInRefIdeal.main (F := Ideal))) ⟨m, fun _ => 0, g⟩ (fun r => (∀ c : Dev Cert.MInRefIdeal.nD,
      r.2.mem ((c.tc : Thread Cert.MInRefIdeal.nD Cert.MInRefIdeal.τ).loc Cert.MInRefIdeal.main_arg0) = m ((c.tc : Thread Cert.MInRefIdeal.nD Cert.MInRefIdeal.τ).loc Cert.MInRefIdeal.main_arg0)
      ∧ r.2.mem ((c.tc : Thread Cert.MInRefIdeal.nD Cert.MInRefIdeal.τ).loc Cert.MInRefIdeal.main_arg1) = m ((c.tc : Thread Cert.MInRefIdeal.nD Cert.MInRefIdeal.τ).loc Cert.MInRefIdeal.main_arg1)
      ∧ r.2.mem ((c.tc : Thread Cert.MInRefIdeal.nD Cert.MInRefIdeal.τ).loc Cert.MInRefIdeal.main_arg2) = m ((c.tc : Thread Cert.MInRefIdeal.nD Cert.MInRefIdeal.τ).loc Cert.MInRefIdeal.main_arg2)
      ∧ r.2.mem ((c.tc : Thread Cert.MInRefIdeal.nD Cert.MInRefIdeal.τ).loc Cert.MInRefIdeal.main_arg3) = m ((c.tc : Thread Cert.MInRefIdeal.nD Cert.MInRefIdeal.τ).loc Cert.MInRefIdeal.main_arg3)
      ∧ r.2.mem ((c.tc : Thread Cert.MInRefIdeal.nD Cert.MInRefIdeal.τ).loc Cert.MInRefIdeal.main_arg4) = m ((c.tc : Thread Cert.MInRefIdeal.nD Cert.MInRefIdeal.τ).loc Cert.MInRefIdeal.main_arg4)
      ∧ r.2.mem ((c.tc : Thread Cert.MInRefIdeal.nD Cert.MInRefIdeal.τ).loc Cert.MInRefIdeal.main_arg5) = m ((c.tc : Thread Cert.MInRefIdeal.nD Cert.MInRefIdeal.τ).loc Cert.MInRefIdeal.main_arg5))
      ∧ r.2.sem = fun _ => 0)

def quiescent_MInRefIdeal_pre_finite_m_in [hMInRefIdeal : Cert.MInRefIdeal.Facts] [hPre_finite_m_in : Cert.Pre_finite_m_in.Facts] : Prop :=
  ∀ (m : (ℓ : Loc Cert.MInRefIdeal.nD Cert.MInRefIdeal.τ Cert.MInRefIdeal.sig) → Buf (Elt Ideal) ℓ) (g : Dev Cert.MInRefIdeal.nD → PrngReg), Pre_MInRefIdeal_finite_m_in m →
    θ_run (Cert.MInRefIdeal.defs (F := Ideal)) (onTc (τ := Cert.MInRefIdeal.τ) (Cert.MInRefIdeal.main (F := Ideal))) ⟨m, fun _ => 0, g⟩ (fun r => (∀ c : Dev Cert.MInRefIdeal.nD,
      r.2.mem ((c.tc : Thread Cert.MInRefIdeal.nD Cert.MInRefIdeal.τ).loc Cert.MInRefIdeal.main_arg0) = m ((c.tc : Thread Cert.MInRefIdeal.nD Cert.MInRefIdeal.τ).loc Cert.MInRefIdeal.main_arg0)
      ∧ r.2.mem ((c.tc : Thread Cert.MInRefIdeal.nD Cert.MInRefIdeal.τ).loc Cert.MInRefIdeal.main_arg1) = m ((c.tc : Thread Cert.MInRefIdeal.nD Cert.MInRefIdeal.τ).loc Cert.MInRefIdeal.main_arg1)
      ∧ r.2.mem ((c.tc : Thread Cert.MInRefIdeal.nD Cert.MInRefIdeal.τ).loc Cert.MInRefIdeal.main_arg2) = m ((c.tc : Thread Cert.MInRefIdeal.nD Cert.MInRefIdeal.τ).loc Cert.MInRefIdeal.main_arg2)
      ∧ r.2.mem ((c.tc : Thread Cert.MInRefIdeal.nD Cert.MInRefIdeal.τ).loc Cert.MInRefIdeal.main_arg3) = m ((c.tc : Thread Cert.MInRefIdeal.nD Cert.MInRefIdeal.τ).loc Cert.MInRefIdeal.main_arg3)
      ∧ r.2.mem ((c.tc : Thread Cert.MInRefIdeal.nD Cert.MInRefIdeal.τ).loc Cert.MInRefIdeal.main_arg4) = m ((c.tc : Thread Cert.MInRefIdeal.nD Cert.MInRefIdeal.τ).loc Cert.MInRefIdeal.main_arg4)
      ∧ r.2.mem ((c.tc : Thread Cert.MInRefIdeal.nD Cert.MInRefIdeal.τ).loc Cert.MInRefIdeal.main_arg5) = m ((c.tc : Thread Cert.MInRefIdeal.nD Cert.MInRefIdeal.τ).loc Cert.MInRefIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_AdIn [hAdIn : Cert.AdIn.Facts] : Prop :=
  ∀ (m : (ℓ : Loc Cert.AdIn.nD Cert.AdIn.τ Cert.AdIn.sig) → Buf (Elt Bits) ℓ) (g : Dev Cert.AdIn.nD → PrngReg), Pre_AdIn m →
    θ_run (Cert.AdIn.defs (F := Bits)) (onTc (τ := Cert.AdIn.τ) (Cert.AdIn.main (F := Bits))) ⟨m, fun _ => 0, g⟩ (fun r => (∀ c : Dev Cert.AdIn.nD,
      r.2.mem ((c.tc : Thread Cert.AdIn.nD Cert.AdIn.τ).loc Cert.AdIn.main_arg0) = m ((c.tc : Thread Cert.AdIn.nD Cert.AdIn.τ).loc Cert.AdIn.main_arg0)
      ∧ r.2.mem ((c.tc : Thread Cert.AdIn.nD Cert.AdIn.τ).loc Cert.AdIn.main_arg1) = m ((c.tc : Thread Cert.AdIn.nD Cert.AdIn.τ).loc Cert.AdIn.main_arg1)
      ∧ r.2.mem ((c.tc : Thread Cert.AdIn.nD Cert.AdIn.τ).loc Cert.AdIn.main_arg2) = m ((c.tc : Thread Cert.AdIn.nD Cert.AdIn.τ).loc Cert.AdIn.main_arg2)
      ∧ r.2.mem ((c.tc : Thread Cert.AdIn.nD Cert.AdIn.τ).loc Cert.AdIn.main_arg3) = m ((c.tc : Thread Cert.AdIn.nD Cert.AdIn.τ).loc Cert.AdIn.main_arg3))
      ∧ r.2.sem = fun _ => 0)

def quiescent_AdInIdeal [hAdInIdeal : Cert.AdInIdeal.Facts] : Prop :=
  ∀ (m : (ℓ : Loc Cert.AdInIdeal.nD Cert.AdInIdeal.τ Cert.AdInIdeal.sig) → Buf (Elt Ideal) ℓ) (g : Dev Cert.AdInIdeal.nD → PrngReg), Pre_AdInIdeal m →
    θ_run (Cert.AdInIdeal.defs (F := Ideal)) (onTc (τ := Cert.AdInIdeal.τ) (Cert.AdInIdeal.main (F := Ideal))) ⟨m, fun _ => 0, g⟩ (fun r => (∀ c : Dev Cert.AdInIdeal.nD,
      r.2.mem ((c.tc : Thread Cert.AdInIdeal.nD Cert.AdInIdeal.τ).loc Cert.AdInIdeal.main_arg0) = m ((c.tc : Thread Cert.AdInIdeal.nD Cert.AdInIdeal.τ).loc Cert.AdInIdeal.main_arg0)
      ∧ r.2.mem ((c.tc : Thread Cert.AdInIdeal.nD Cert.AdInIdeal.τ).loc Cert.AdInIdeal.main_arg1) = m ((c.tc : Thread Cert.AdInIdeal.nD Cert.AdInIdeal.τ).loc Cert.AdInIdeal.main_arg1)
      ∧ r.2.mem ((c.tc : Thread Cert.AdInIdeal.nD Cert.AdInIdeal.τ).loc Cert.AdInIdeal.main_arg2) = m ((c.tc : Thread Cert.AdInIdeal.nD Cert.AdInIdeal.τ).loc Cert.AdInIdeal.main_arg2)
      ∧ r.2.mem ((c.tc : Thread Cert.AdInIdeal.nD Cert.AdInIdeal.τ).loc Cert.AdInIdeal.main_arg3) = m ((c.tc : Thread Cert.AdInIdeal.nD Cert.AdInIdeal.τ).loc Cert.AdInIdeal.main_arg3))
      ∧ r.2.sem = fun _ => 0)

def quiescent_AdInRefIdeal [hAdInRefIdeal : Cert.AdInRefIdeal.Facts] : Prop :=
  ∀ (m : (ℓ : Loc Cert.AdInRefIdeal.nD Cert.AdInRefIdeal.τ Cert.AdInRefIdeal.sig) → Buf (Elt Ideal) ℓ) (g : Dev Cert.AdInRefIdeal.nD → PrngReg), Pre_AdInRefIdeal m →
    θ_run (Cert.AdInRefIdeal.defs (F := Ideal)) (onTc (τ := Cert.AdInRefIdeal.τ) (Cert.AdInRefIdeal.main (F := Ideal))) ⟨m, fun _ => 0, g⟩ (fun r => (∀ c : Dev Cert.AdInRefIdeal.nD,
      r.2.mem ((c.tc : Thread Cert.AdInRefIdeal.nD Cert.AdInRefIdeal.τ).loc Cert.AdInRefIdeal.main_arg0) = m ((c.tc : Thread Cert.AdInRefIdeal.nD Cert.AdInRefIdeal.τ).loc Cert.AdInRefIdeal.main_arg0)
      ∧ r.2.mem ((c.tc : Thread Cert.AdInRefIdeal.nD Cert.AdInRefIdeal.τ).loc Cert.AdInRefIdeal.main_arg1) = m ((c.tc : Thread Cert.AdInRefIdeal.nD Cert.AdInRefIdeal.τ).loc Cert.AdInRefIdeal.main_arg1)
      ∧ r.2.mem ((c.tc : Thread Cert.AdInRefIdeal.nD Cert.AdInRefIdeal.τ).loc Cert.AdInRefIdeal.main_arg2) = m ((c.tc : Thread Cert.AdInRefIdeal.nD Cert.AdInRefIdeal.τ).loc Cert.AdInRefIdeal.main_arg2)
      ∧ r.2.mem ((c.tc : Thread Cert.AdInRefIdeal.nD Cert.AdInRefIdeal.τ).loc Cert.AdInRefIdeal.main_arg3) = m ((c.tc : Thread Cert.AdInRefIdeal.nD Cert.AdInRefIdeal.τ).loc Cert.AdInRefIdeal.main_arg3))
      ∧ r.2.sem = fun _ => 0)

def quiescent_AdOut [hAdOut : Cert.AdOut.Facts] : Prop :=
  ∀ (m : (ℓ : Loc Cert.AdOut.nD Cert.AdOut.τ Cert.AdOut.sig) → Buf (Elt Bits) ℓ) (g : Dev Cert.AdOut.nD → PrngReg), Pre_AdOut m →
    θ_run (Cert.AdOut.defs (F := Bits)) (onTc (τ := Cert.AdOut.τ) (Cert.AdOut.main (F := Bits))) ⟨m, fun _ => 0, g⟩ (fun r => (∀ c : Dev Cert.AdOut.nD,
      r.2.mem ((c.tc : Thread Cert.AdOut.nD Cert.AdOut.τ).loc Cert.AdOut.main_arg0) = m ((c.tc : Thread Cert.AdOut.nD Cert.AdOut.τ).loc Cert.AdOut.main_arg0)
      ∧ r.2.mem ((c.tc : Thread Cert.AdOut.nD Cert.AdOut.τ).loc Cert.AdOut.main_arg1) = m ((c.tc : Thread Cert.AdOut.nD Cert.AdOut.τ).loc Cert.AdOut.main_arg1)
      ∧ r.2.mem ((c.tc : Thread Cert.AdOut.nD Cert.AdOut.τ).loc Cert.AdOut.main_arg2) = m ((c.tc : Thread Cert.AdOut.nD Cert.AdOut.τ).loc Cert.AdOut.main_arg2)
      ∧ r.2.mem ((c.tc : Thread Cert.AdOut.nD Cert.AdOut.τ).loc Cert.AdOut.main_arg3) = m ((c.tc : Thread Cert.AdOut.nD Cert.AdOut.τ).loc Cert.AdOut.main_arg3))
      ∧ r.2.sem = fun _ => 0)

def quiescent_AdOutIdeal [hAdOutIdeal : Cert.AdOutIdeal.Facts] : Prop :=
  ∀ (m : (ℓ : Loc Cert.AdOutIdeal.nD Cert.AdOutIdeal.τ Cert.AdOutIdeal.sig) → Buf (Elt Ideal) ℓ) (g : Dev Cert.AdOutIdeal.nD → PrngReg), Pre_AdOutIdeal m →
    θ_run (Cert.AdOutIdeal.defs (F := Ideal)) (onTc (τ := Cert.AdOutIdeal.τ) (Cert.AdOutIdeal.main (F := Ideal))) ⟨m, fun _ => 0, g⟩ (fun r => (∀ c : Dev Cert.AdOutIdeal.nD,
      r.2.mem ((c.tc : Thread Cert.AdOutIdeal.nD Cert.AdOutIdeal.τ).loc Cert.AdOutIdeal.main_arg0) = m ((c.tc : Thread Cert.AdOutIdeal.nD Cert.AdOutIdeal.τ).loc Cert.AdOutIdeal.main_arg0)
      ∧ r.2.mem ((c.tc : Thread Cert.AdOutIdeal.nD Cert.AdOutIdeal.τ).loc Cert.AdOutIdeal.main_arg1) = m ((c.tc : Thread Cert.AdOutIdeal.nD Cert.AdOutIdeal.τ).loc Cert.AdOutIdeal.main_arg1)
      ∧ r.2.mem ((c.tc : Thread Cert.AdOutIdeal.nD Cert.AdOutIdeal.τ).loc Cert.AdOutIdeal.main_arg2) = m ((c.tc : Thread Cert.AdOutIdeal.nD Cert.AdOutIdeal.τ).loc Cert.AdOutIdeal.main_arg2)
      ∧ r.2.mem ((c.tc : Thread Cert.AdOutIdeal.nD Cert.AdOutIdeal.τ).loc Cert.AdOutIdeal.main_arg3) = m ((c.tc : Thread Cert.AdOutIdeal.nD Cert.AdOutIdeal.τ).loc Cert.AdOutIdeal.main_arg3))
      ∧ r.2.sem = fun _ => 0)

def quiescent_AdOutRefIdeal [hAdOutRefIdeal : Cert.AdOutRefIdeal.Facts] : Prop :=
  ∀ (m : (ℓ : Loc Cert.AdOutRefIdeal.nD Cert.AdOutRefIdeal.τ Cert.AdOutRefIdeal.sig) → Buf (Elt Ideal) ℓ) (g : Dev Cert.AdOutRefIdeal.nD → PrngReg), Pre_AdOutRefIdeal m →
    θ_run (Cert.AdOutRefIdeal.defs (F := Ideal)) (onTc (τ := Cert.AdOutRefIdeal.τ) (Cert.AdOutRefIdeal.main (F := Ideal))) ⟨m, fun _ => 0, g⟩ (fun r => (∀ c : Dev Cert.AdOutRefIdeal.nD,
      r.2.mem ((c.tc : Thread Cert.AdOutRefIdeal.nD Cert.AdOutRefIdeal.τ).loc Cert.AdOutRefIdeal.main_arg0) = m ((c.tc : Thread Cert.AdOutRefIdeal.nD Cert.AdOutRefIdeal.τ).loc Cert.AdOutRefIdeal.main_arg0)
      ∧ r.2.mem ((c.tc : Thread Cert.AdOutRefIdeal.nD Cert.AdOutRefIdeal.τ).loc Cert.AdOutRefIdeal.main_arg1) = m ((c.tc : Thread Cert.AdOutRefIdeal.nD Cert.AdOutRefIdeal.τ).loc Cert.AdOutRefIdeal.main_arg1)
      ∧ r.2.mem ((c.tc : Thread Cert.AdOutRefIdeal.nD Cert.AdOutRefIdeal.τ).loc Cert.AdOutRefIdeal.main_arg2) = m ((c.tc : Thread Cert.AdOutRefIdeal.nD Cert.AdOutRefIdeal.τ).loc Cert.AdOutRefIdeal.main_arg2)
      ∧ r.2.mem ((c.tc : Thread Cert.AdOutRefIdeal.nD Cert.AdOutRefIdeal.τ).loc Cert.AdOutRefIdeal.main_arg3) = m ((c.tc : Thread Cert.AdOutRefIdeal.nD Cert.AdOutRefIdeal.τ).loc Cert.AdOutRefIdeal.main_arg3))
      ∧ r.2.sem = fun _ => 0)

def quiescent_AdMIn [hAdMIn : Cert.AdMIn.Facts] : Prop :=
  ∀ (m : (ℓ : Loc Cert.AdMIn.nD Cert.AdMIn.τ Cert.AdMIn.sig) → Buf (Elt Bits) ℓ) (g : Dev Cert.AdMIn.nD → PrngReg), Pre_AdMIn m →
    θ_run (Cert.AdMIn.defs (F := Bits)) (onTc (τ := Cert.AdMIn.τ) (Cert.AdMIn.main (F := Bits))) ⟨m, fun _ => 0, g⟩ (fun r => (∀ c : Dev Cert.AdMIn.nD,
      r.2.mem ((c.tc : Thread Cert.AdMIn.nD Cert.AdMIn.τ).loc Cert.AdMIn.main_arg0) = m ((c.tc : Thread Cert.AdMIn.nD Cert.AdMIn.τ).loc Cert.AdMIn.main_arg0)
      ∧ r.2.mem ((c.tc : Thread Cert.AdMIn.nD Cert.AdMIn.τ).loc Cert.AdMIn.main_arg1) = m ((c.tc : Thread Cert.AdMIn.nD Cert.AdMIn.τ).loc Cert.AdMIn.main_arg1)
      ∧ r.2.mem ((c.tc : Thread Cert.AdMIn.nD Cert.AdMIn.τ).loc Cert.AdMIn.main_arg2) = m ((c.tc : Thread Cert.AdMIn.nD Cert.AdMIn.τ).loc Cert.AdMIn.main_arg2)
      ∧ r.2.mem ((c.tc : Thread Cert.AdMIn.nD Cert.AdMIn.τ).loc Cert.AdMIn.main_arg3) = m ((c.tc : Thread Cert.AdMIn.nD Cert.AdMIn.τ).loc Cert.AdMIn.main_arg3))
      ∧ r.2.sem = fun _ => 0)

def quiescent_AdMInIdeal [hAdMInIdeal : Cert.AdMInIdeal.Facts] : Prop :=
  ∀ (m : (ℓ : Loc Cert.AdMInIdeal.nD Cert.AdMInIdeal.τ Cert.AdMInIdeal.sig) → Buf (Elt Ideal) ℓ) (g : Dev Cert.AdMInIdeal.nD → PrngReg), Pre_AdMInIdeal m →
    θ_run (Cert.AdMInIdeal.defs (F := Ideal)) (onTc (τ := Cert.AdMInIdeal.τ) (Cert.AdMInIdeal.main (F := Ideal))) ⟨m, fun _ => 0, g⟩ (fun r => (∀ c : Dev Cert.AdMInIdeal.nD,
      r.2.mem ((c.tc : Thread Cert.AdMInIdeal.nD Cert.AdMInIdeal.τ).loc Cert.AdMInIdeal.main_arg0) = m ((c.tc : Thread Cert.AdMInIdeal.nD Cert.AdMInIdeal.τ).loc Cert.AdMInIdeal.main_arg0)
      ∧ r.2.mem ((c.tc : Thread Cert.AdMInIdeal.nD Cert.AdMInIdeal.τ).loc Cert.AdMInIdeal.main_arg1) = m ((c.tc : Thread Cert.AdMInIdeal.nD Cert.AdMInIdeal.τ).loc Cert.AdMInIdeal.main_arg1)
      ∧ r.2.mem ((c.tc : Thread Cert.AdMInIdeal.nD Cert.AdMInIdeal.τ).loc Cert.AdMInIdeal.main_arg2) = m ((c.tc : Thread Cert.AdMInIdeal.nD Cert.AdMInIdeal.τ).loc Cert.AdMInIdeal.main_arg2)
      ∧ r.2.mem ((c.tc : Thread Cert.AdMInIdeal.nD Cert.AdMInIdeal.τ).loc Cert.AdMInIdeal.main_arg3) = m ((c.tc : Thread Cert.AdMInIdeal.nD Cert.AdMInIdeal.τ).loc Cert.AdMInIdeal.main_arg3))
      ∧ r.2.sem = fun _ => 0)

def quiescent_AdMInRefIdeal [hAdMInRefIdeal : Cert.AdMInRefIdeal.Facts] : Prop :=
  ∀ (m : (ℓ : Loc Cert.AdMInRefIdeal.nD Cert.AdMInRefIdeal.τ Cert.AdMInRefIdeal.sig) → Buf (Elt Ideal) ℓ) (g : Dev Cert.AdMInRefIdeal.nD → PrngReg), Pre_AdMInRefIdeal m →
    θ_run (Cert.AdMInRefIdeal.defs (F := Ideal)) (onTc (τ := Cert.AdMInRefIdeal.τ) (Cert.AdMInRefIdeal.main (F := Ideal))) ⟨m, fun _ => 0, g⟩ (fun r => (∀ c : Dev Cert.AdMInRefIdeal.nD,
      r.2.mem ((c.tc : Thread Cert.AdMInRefIdeal.nD Cert.AdMInRefIdeal.τ).loc Cert.AdMInRefIdeal.main_arg0) = m ((c.tc : Thread Cert.AdMInRefIdeal.nD Cert.AdMInRefIdeal.τ).loc Cert.AdMInRefIdeal.main_arg0)
      ∧ r.2.mem ((c.tc : Thread Cert.AdMInRefIdeal.nD Cert.AdMInRefIdeal.τ).loc Cert.AdMInRefIdeal.main_arg1) = m ((c.tc : Thread Cert.AdMInRefIdeal.nD Cert.AdMInRefIdeal.τ).loc Cert.AdMInRefIdeal.main_arg1)
      ∧ r.2.mem ((c.tc : Thread Cert.AdMInRefIdeal.nD Cert.AdMInRefIdeal.τ).loc Cert.AdMInRefIdeal.main_arg2) = m ((c.tc : Thread Cert.AdMInRefIdeal.nD Cert.AdMInRefIdeal.τ).loc Cert.AdMInRefIdeal.main_arg2)
      ∧ r.2.mem ((c.tc : Thread Cert.AdMInRefIdeal.nD Cert.AdMInRefIdeal.τ).loc Cert.AdMInRefIdeal.main_arg3) = m ((c.tc : Thread Cert.AdMInRefIdeal.nD Cert.AdMInRefIdeal.τ).loc Cert.AdMInRefIdeal.main_arg3))
      ∧ r.2.sem = fun _ => 0)

def quiescent_AdMOut [hAdMOut : Cert.AdMOut.Facts] : Prop :=
  ∀ (m : (ℓ : Loc Cert.AdMOut.nD Cert.AdMOut.τ Cert.AdMOut.sig) → Buf (Elt Bits) ℓ) (g : Dev Cert.AdMOut.nD → PrngReg), Pre_AdMOut m →
    θ_run (Cert.AdMOut.defs (F := Bits)) (onTc (τ := Cert.AdMOut.τ) (Cert.AdMOut.main (F := Bits))) ⟨m, fun _ => 0, g⟩ (fun r => (∀ c : Dev Cert.AdMOut.nD,
      r.2.mem ((c.tc : Thread Cert.AdMOut.nD Cert.AdMOut.τ).loc Cert.AdMOut.main_arg0) = m ((c.tc : Thread Cert.AdMOut.nD Cert.AdMOut.τ).loc Cert.AdMOut.main_arg0)
      ∧ r.2.mem ((c.tc : Thread Cert.AdMOut.nD Cert.AdMOut.τ).loc Cert.AdMOut.main_arg1) = m ((c.tc : Thread Cert.AdMOut.nD Cert.AdMOut.τ).loc Cert.AdMOut.main_arg1)
      ∧ r.2.mem ((c.tc : Thread Cert.AdMOut.nD Cert.AdMOut.τ).loc Cert.AdMOut.main_arg2) = m ((c.tc : Thread Cert.AdMOut.nD Cert.AdMOut.τ).loc Cert.AdMOut.main_arg2)
      ∧ r.2.mem ((c.tc : Thread Cert.AdMOut.nD Cert.AdMOut.τ).loc Cert.AdMOut.main_arg3) = m ((c.tc : Thread Cert.AdMOut.nD Cert.AdMOut.τ).loc Cert.AdMOut.main_arg3))
      ∧ r.2.sem = fun _ => 0)

def quiescent_AdMOutIdeal [hAdMOutIdeal : Cert.AdMOutIdeal.Facts] : Prop :=
  ∀ (m : (ℓ : Loc Cert.AdMOutIdeal.nD Cert.AdMOutIdeal.τ Cert.AdMOutIdeal.sig) → Buf (Elt Ideal) ℓ) (g : Dev Cert.AdMOutIdeal.nD → PrngReg), Pre_AdMOutIdeal m →
    θ_run (Cert.AdMOutIdeal.defs (F := Ideal)) (onTc (τ := Cert.AdMOutIdeal.τ) (Cert.AdMOutIdeal.main (F := Ideal))) ⟨m, fun _ => 0, g⟩ (fun r => (∀ c : Dev Cert.AdMOutIdeal.nD,
      r.2.mem ((c.tc : Thread Cert.AdMOutIdeal.nD Cert.AdMOutIdeal.τ).loc Cert.AdMOutIdeal.main_arg0) = m ((c.tc : Thread Cert.AdMOutIdeal.nD Cert.AdMOutIdeal.τ).loc Cert.AdMOutIdeal.main_arg0)
      ∧ r.2.mem ((c.tc : Thread Cert.AdMOutIdeal.nD Cert.AdMOutIdeal.τ).loc Cert.AdMOutIdeal.main_arg1) = m ((c.tc : Thread Cert.AdMOutIdeal.nD Cert.AdMOutIdeal.τ).loc Cert.AdMOutIdeal.main_arg1)
      ∧ r.2.mem ((c.tc : Thread Cert.AdMOutIdeal.nD Cert.AdMOutIdeal.τ).loc Cert.AdMOutIdeal.main_arg2) = m ((c.tc : Thread Cert.AdMOutIdeal.nD Cert.AdMOutIdeal.τ).loc Cert.AdMOutIdeal.main_arg2)
      ∧ r.2.mem ((c.tc : Thread Cert.AdMOutIdeal.nD Cert.AdMOutIdeal.τ).loc Cert.AdMOutIdeal.main_arg3) = m ((c.tc : Thread Cert.AdMOutIdeal.nD Cert.AdMOutIdeal.τ).loc Cert.AdMOutIdeal.main_arg3))
      ∧ r.2.sem = fun _ => 0)

def quiescent_AdMOutRefIdeal [hAdMOutRefIdeal : Cert.AdMOutRefIdeal.Facts] : Prop :=
  ∀ (m : (ℓ : Loc Cert.AdMOutRefIdeal.nD Cert.AdMOutRefIdeal.τ Cert.AdMOutRefIdeal.sig) → Buf (Elt Ideal) ℓ) (g : Dev Cert.AdMOutRefIdeal.nD → PrngReg), Pre_AdMOutRefIdeal m →
    θ_run (Cert.AdMOutRefIdeal.defs (F := Ideal)) (onTc (τ := Cert.AdMOutRefIdeal.τ) (Cert.AdMOutRefIdeal.main (F := Ideal))) ⟨m, fun _ => 0, g⟩ (fun r => (∀ c : Dev Cert.AdMOutRefIdeal.nD,
      r.2.mem ((c.tc : Thread Cert.AdMOutRefIdeal.nD Cert.AdMOutRefIdeal.τ).loc Cert.AdMOutRefIdeal.main_arg0) = m ((c.tc : Thread Cert.AdMOutRefIdeal.nD Cert.AdMOutRefIdeal.τ).loc Cert.AdMOutRefIdeal.main_arg0)
      ∧ r.2.mem ((c.tc : Thread Cert.AdMOutRefIdeal.nD Cert.AdMOutRefIdeal.τ).loc Cert.AdMOutRefIdeal.main_arg1) = m ((c.tc : Thread Cert.AdMOutRefIdeal.nD Cert.AdMOutRefIdeal.τ).loc Cert.AdMOutRefIdeal.main_arg1)
      ∧ r.2.mem ((c.tc : Thread Cert.AdMOutRefIdeal.nD Cert.AdMOutRefIdeal.τ).loc Cert.AdMOutRefIdeal.main_arg2) = m ((c.tc : Thread Cert.AdMOutRefIdeal.nD Cert.AdMOutRefIdeal.τ).loc Cert.AdMOutRefIdeal.main_arg2)
      ∧ r.2.mem ((c.tc : Thread Cert.AdMOutRefIdeal.nD Cert.AdMOutRefIdeal.τ).loc Cert.AdMOutRefIdeal.main_arg3) = m ((c.tc : Thread Cert.AdMOutRefIdeal.nD Cert.AdMOutRefIdeal.τ).loc Cert.AdMOutRefIdeal.main_arg3))
      ∧ r.2.sem = fun _ => 0)

def preserves_Kernel_KernelIdeal : Prop :=
  IdealRules.named_const.Statement Cert.KernelIdeal.κ "gelu_a" .f32 0x3D372713#32 ((8943 / 200000 : ℝ) : EReal)
  ∧ IdealRules.named_const.Statement Cert.KernelIdeal.κ "gelu_3a" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_3)) (v2 : (c : Dev Cert.KernelIdeal.nD) → Buf (Elt Ideal) ((c.tc : Thread Cert.KernelIdeal.nD Cert.KernelIdeal.τ).loc Cert.KernelIdeal.main_v5_1)) (v3 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_3) = v1 c
          ∧ r.2.mem ((c.tc : Thread Cert.KernelIdeal.nD Cert.KernelIdeal.τ).loc Cert.KernelIdeal.main_v5_1) = v2 c
          ∧ r.2.mem ((c.tc : Thread Cert.KernelIdeal.nD Cert.KernelIdeal.τ).loc Cert.KernelIdeal.main_v5_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_v149) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_v150) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Gate_GateIdeal : Prop :=
  True

def algebraic_GateIdeal_GateRefIdeal_pre_finite_gate [hGateIdeal : Cert.GateIdeal.Facts] [hGateRefIdeal : Cert.GateRefIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_finite_gate m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v14_0)) (v1 : (c : Dev Cert.GateIdeal.nD) → Buf (Elt Ideal) ((c.tc : Thread Cert.GateIdeal.nD Cert.GateIdeal.τ).loc Cert.GateIdeal.main_v14_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v14_0) = v0 c
          ∧ r.2.mem ((c.tc : Thread Cert.GateIdeal.nD Cert.GateIdeal.τ).loc Cert.GateIdeal.main_v14_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v12) = v0 c
          ∧ r.2.mem ((c.tc : Thread Cert.GateRefIdeal.nD Cert.GateRefIdeal.τ).loc Cert.GateRefIdeal.main_v13) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_WG_WGIdeal : Prop :=
  True

def algebraic_WGIdeal_WGRefIdeal_on_left_half [hWGIdeal : Cert.WGIdeal.Facts] [hWGRefIdeal : Cert.WGRefIdeal.Facts] [hOn_left_half : Cert.On_left_half.Facts] : Prop :=
  ∀ (m : (ℓ : Loc Cert.WGIdeal.nD Cert.WGIdeal.τ Cert.WGIdeal.sig) → Buf (Elt Ideal) ℓ) (g : Dev Cert.WGIdeal.nD → PrngReg)
    (m' : (ℓ : Loc Cert.WGRefIdeal.nD Cert.WGRefIdeal.τ Cert.WGRefIdeal.sig) → Buf (Elt Ideal) ℓ) (g' : Dev Cert.WGRefIdeal.nD → PrngReg), Pre_WGIdeal m →
    (∀ c : Dev Cert.WGIdeal.nD,
      m' ((c.tc : Thread Cert.WGRefIdeal.nD Cert.WGRefIdeal.τ).loc Cert.WGRefIdeal.main_arg0) = m ((c.tc : Thread Cert.WGIdeal.nD Cert.WGIdeal.τ).loc Cert.WGIdeal.main_arg0)
      ∧ m' ((c.tc : Thread Cert.WGRefIdeal.nD Cert.WGRefIdeal.τ).loc Cert.WGRefIdeal.main_arg1) = m ((c.tc : Thread Cert.WGIdeal.nD Cert.WGIdeal.τ).loc Cert.WGIdeal.main_arg1)) →
    ∃ (v0 : (c : Dev Cert.WGIdeal.nD) → Buf (Elt Ideal) ((c.tc : Thread Cert.WGIdeal.nD Cert.WGIdeal.τ).loc Cert.WGIdeal.main_v0)),
      θ_run (Cert.WGIdeal.defs (F := Ideal)) (onTc (τ := Cert.WGIdeal.τ) (Cert.WGIdeal.main (F := Ideal))) ⟨m, fun _ => 0, g⟩ (fun r => ∀ c : Dev Cert.WGIdeal.nD,
          (∀ i : (⟨2, ![1024, 5632]⟩ : Shape).Idx, (Cert.On_left_half.fn (F := Ideal) (m ((c.tc : Thread Cert.WGIdeal.nD Cert.WGIdeal.τ).loc Cert.WGIdeal.main_arg0)) (m ((c.tc : Thread Cert.WGIdeal.nD Cert.WGIdeal.τ).loc Cert.WGIdeal.main_arg1))) i = 1#1 → r.2.mem ((c.tc : Thread Cert.WGIdeal.nD Cert.WGIdeal.τ).loc Cert.WGIdeal.main_v0) i = v0 c i)
          ∧ r.2.mem ((c.tc : Thread Cert.WGIdeal.nD Cert.WGIdeal.τ).loc Cert.WGIdeal.main_arg0) = m ((c.tc : Thread Cert.WGIdeal.nD Cert.WGIdeal.τ).loc Cert.WGIdeal.main_arg0)
          ∧ r.2.mem ((c.tc : Thread Cert.WGIdeal.nD Cert.WGIdeal.τ).loc Cert.WGIdeal.main_arg1) = m ((c.tc : Thread Cert.WGIdeal.nD Cert.WGIdeal.τ).loc Cert.WGIdeal.main_arg1))
      ∧ θ_run (Cert.WGRefIdeal.defs (F := Ideal)) (onTc (τ := Cert.WGRefIdeal.τ) (Cert.WGRefIdeal.main (F := Ideal))) ⟨m', fun _ => 0, g'⟩ (fun r => ∀ c : Dev Cert.WGRefIdeal.nD,
          (∀ i : (⟨2, ![1024, 5632]⟩ : Shape).Idx, (Cert.On_left_half.fn (F := Ideal) (m ((c.tc : Thread Cert.WGIdeal.nD Cert.WGIdeal.τ).loc Cert.WGIdeal.main_arg0)) (m ((c.tc : Thread Cert.WGIdeal.nD Cert.WGIdeal.τ).loc Cert.WGIdeal.main_arg1))) i = 1#1 → r.2.mem ((c.tc : Thread Cert.WGRefIdeal.nD Cert.WGRefIdeal.τ).loc Cert.WGRefIdeal.main_v7) i = v0 c i)
          ∧ r.2.mem ((c.tc : Thread Cert.WGRefIdeal.nD Cert.WGRefIdeal.τ).loc Cert.WGRefIdeal.main_arg0) = m' ((c.tc : Thread Cert.WGRefIdeal.nD Cert.WGRefIdeal.τ).loc Cert.WGRefIdeal.main_arg0)
          ∧ r.2.mem ((c.tc : Thread Cert.WGRefIdeal.nD Cert.WGRefIdeal.τ).loc Cert.WGRefIdeal.main_arg1) = m' ((c.tc : Thread Cert.WGRefIdeal.nD Cert.WGRefIdeal.τ).loc Cert.WGRefIdeal.main_arg1))

def preserves_WU_WUIdeal : Prop :=
  True

def algebraic_WUIdeal_WURefIdeal [hWUIdeal : Cert.WUIdeal.Facts] [hWURefIdeal : Cert.WURefIdeal.Facts] : Prop :=
  ∀ (m : (ℓ : Loc Cert.WUIdeal.nD Cert.WUIdeal.τ Cert.WUIdeal.sig) → Buf (Elt Ideal) ℓ) (g : Dev Cert.WUIdeal.nD → PrngReg)
    (m' : (ℓ : Loc Cert.WURefIdeal.nD Cert.WURefIdeal.τ Cert.WURefIdeal.sig) → Buf (Elt Ideal) ℓ) (g' : Dev Cert.WURefIdeal.nD → PrngReg), Pre_WUIdeal m →
    (∀ c : Dev Cert.WUIdeal.nD,
      m' ((c.tc : Thread Cert.WURefIdeal.nD Cert.WURefIdeal.τ).loc Cert.WURefIdeal.main_arg0) = m ((c.tc : Thread Cert.WUIdeal.nD Cert.WUIdeal.τ).loc Cert.WUIdeal.main_arg0)
      ∧ m' ((c.tc : Thread Cert.WURefIdeal.nD Cert.WURefIdeal.τ).loc Cert.WURefIdeal.main_arg1) = m ((c.tc : Thread Cert.WUIdeal.nD Cert.WUIdeal.τ).loc Cert.WUIdeal.main_arg1)
      ∧ m' ((c.tc : Thread Cert.WURefIdeal.nD Cert.WURefIdeal.τ).loc Cert.WURefIdeal.main_arg2) = m ((c.tc : Thread Cert.WUIdeal.nD Cert.WUIdeal.τ).loc Cert.WUIdeal.main_arg2)) →
    ∃ (v0 : (c : Dev Cert.WUIdeal.nD) → Buf (Elt Ideal) ((c.tc : Thread Cert.WUIdeal.nD Cert.WUIdeal.τ).loc Cert.WUIdeal.main_v0)),
      θ_run (Cert.WUIdeal.defs (F := Ideal)) (onTc (τ := Cert.WUIdeal.τ) (Cert.WUIdeal.main (F := Ideal))) ⟨m, fun _ => 0, g⟩ (fun r => ∀ c : Dev Cert.WUIdeal.nD,
          r.2.mem ((c.tc : Thread Cert.WUIdeal.nD Cert.WUIdeal.τ).loc Cert.WUIdeal.main_v0) = v0 c
          ∧ r.2.mem ((c.tc : Thread Cert.WUIdeal.nD Cert.WUIdeal.τ).loc Cert.WUIdeal.main_arg0) = m ((c.tc : Thread Cert.WUIdeal.nD Cert.WUIdeal.τ).loc Cert.WUIdeal.main_arg0)
          ∧ r.2.mem ((c.tc : Thread Cert.WUIdeal.nD Cert.WUIdeal.τ).loc Cert.WUIdeal.main_arg1) = m ((c.tc : Thread Cert.WUIdeal.nD Cert.WUIdeal.τ).loc Cert.WUIdeal.main_arg1)
          ∧ r.2.mem ((c.tc : Thread Cert.WUIdeal.nD Cert.WUIdeal.τ).loc Cert.WUIdeal.main_arg2) = m ((c.tc : Thread Cert.WUIdeal.nD Cert.WUIdeal.τ).loc Cert.WUIdeal.main_arg2))
      ∧ θ_run (Cert.WURefIdeal.defs (F := Ideal)) (onTc (τ := Cert.WURefIdeal.τ) (Cert.WURefIdeal.main (F := Ideal))) ⟨m', fun _ => 0, g'⟩ (fun r => ∀ c : Dev Cert.WURefIdeal.nD,
          r.2.mem ((c.tc : Thread Cert.WURefIdeal.nD Cert.WURefIdeal.τ).loc Cert.WURefIdeal.main_v7) = v0 c
          ∧ r.2.mem ((c.tc : Thread Cert.WURefIdeal.nD Cert.WURefIdeal.τ).loc Cert.WURefIdeal.main_arg0) = m' ((c.tc : Thread Cert.WURefIdeal.nD Cert.WURefIdeal.τ).loc Cert.WURefIdeal.main_arg0)
          ∧ r.2.mem ((c.tc : Thread Cert.WURefIdeal.nD Cert.WURefIdeal.τ).loc Cert.WURefIdeal.main_arg1) = m' ((c.tc : Thread Cert.WURefIdeal.nD Cert.WURefIdeal.τ).loc Cert.WURefIdeal.main_arg1)
          ∧ r.2.mem ((c.tc : Thread Cert.WURefIdeal.nD Cert.WURefIdeal.τ).loc Cert.WURefIdeal.main_arg2) = m' ((c.tc : Thread Cert.WURefIdeal.nD Cert.WURefIdeal.τ).loc Cert.WURefIdeal.main_arg2))

def preserves_WOut_WOutIdeal : Prop :=
  True

def algebraic_WOutIdeal_WOutRefIdeal [hWOutIdeal : Cert.WOutIdeal.Facts] [hWOutRefIdeal : Cert.WOutRefIdeal.Facts] : Prop :=
  ∀ (m : (ℓ : Loc Cert.WOutIdeal.nD Cert.WOutIdeal.τ Cert.WOutIdeal.sig) → Buf (Elt Ideal) ℓ) (g : Dev Cert.WOutIdeal.nD → PrngReg)
    (m' : (ℓ : Loc Cert.WOutRefIdeal.nD Cert.WOutRefIdeal.τ Cert.WOutRefIdeal.sig) → Buf (Elt Ideal) ℓ) (g' : Dev Cert.WOutRefIdeal.nD → PrngReg), Pre_WOutIdeal m →
    (∀ c : Dev Cert.WOutIdeal.nD,
      m' ((c.tc : Thread Cert.WOutRefIdeal.nD Cert.WOutRefIdeal.τ).loc Cert.WOutRefIdeal.main_arg0) = m ((c.tc : Thread Cert.WOutIdeal.nD Cert.WOutIdeal.τ).loc Cert.WOutIdeal.main_arg0)
      ∧ m' ((c.tc : Thread Cert.WOutRefIdeal.nD Cert.WOutRefIdeal.τ).loc Cert.WOutRefIdeal.main_arg1) = m ((c.tc : Thread Cert.WOutIdeal.nD Cert.WOutIdeal.τ).loc Cert.WOutIdeal.main_arg1)) →
    ∃ (v0 : (c : Dev Cert.WOutIdeal.nD) → Buf (Elt Ideal) ((c.tc : Thread Cert.WOutIdeal.nD Cert.WOutIdeal.τ).loc Cert.WOutIdeal.main_v0)),
      θ_run (Cert.WOutIdeal.defs (F := Ideal)) (onTc (τ := Cert.WOutIdeal.τ) (Cert.WOutIdeal.main (F := Ideal))) ⟨m, fun _ => 0, g⟩ (fun r => ∀ c : Dev Cert.WOutIdeal.nD,
          r.2.mem ((c.tc : Thread Cert.WOutIdeal.nD Cert.WOutIdeal.τ).loc Cert.WOutIdeal.main_v0) = v0 c
          ∧ r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
          ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ θ_run (Cert.WOutRefIdeal.defs (F := Ideal)) (onTc (τ := Cert.WOutRefIdeal.τ) (Cert.WOutRefIdeal.main (F := Ideal))) ⟨m', fun _ => 0, g'⟩ (fun r => ∀ c : Dev Cert.WOutRefIdeal.nD,
          r.2.mem ((c.tc : Thread Cert.WOutRefIdeal.nD Cert.WOutRefIdeal.τ).loc Cert.WOutRefIdeal.main_v8) = v0 c
          ∧ r.2.mem ((c.tc : Thread Cert.WOutRefIdeal.nD Cert.WOutRefIdeal.τ).loc Cert.WOutRefIdeal.main_arg0) = m' ((c.tc : Thread Cert.WOutRefIdeal.nD Cert.WOutRefIdeal.τ).loc Cert.WOutRefIdeal.main_arg0)
          ∧ r.2.mem ((c.tc : Thread Cert.WOutRefIdeal.nD Cert.WOutRefIdeal.τ).loc Cert.WOutRefIdeal.main_arg1) = m' ((c.tc : Thread Cert.WOutRefIdeal.nD Cert.WOutRefIdeal.τ).loc Cert.WOutRefIdeal.main_arg1))

def preserves_In_InIdeal : Prop :=
  True

def algebraic_InIdeal_InRefIdeal_pre_finite_in [hInIdeal : Cert.InIdeal.Facts] [hInRefIdeal : Cert.InRefIdeal.Facts] [hPre_finite_in : Cert.Pre_finite_in.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal_finite_in m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)
      ∧ m' ((c.tc : Thread Cert.InRefIdeal.nD Cert.InRefIdeal.τ).loc Cert.InRefIdeal.main_arg5) = m ((c.tc : Thread Cert.InIdeal.nD Cert.InIdeal.τ).loc Cert.InIdeal.main_arg5)) →
    ∃ (v0 : (c : Dev Cert.InIdeal.nD) → Buf (Elt Ideal) ((c.tc : Thread Cert.InIdeal.nD Cert.InIdeal.τ).loc Cert.InIdeal.main_v1_0)) (v1 : (c : Dev Cert.InIdeal.nD) → Buf (Elt Ideal) ((c.tc : Thread Cert.InIdeal.nD Cert.InIdeal.τ).loc Cert.InIdeal.main_v1_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v1_0) = v0 c
          ∧ r.2.mem ((c.tc : Thread Cert.InIdeal.nD Cert.InIdeal.τ).loc Cert.InIdeal.main_v1_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v41) = v0 c
          ∧ r.2.mem ((c.tc : Thread Cert.InRefIdeal.nD Cert.InRefIdeal.τ).loc Cert.InRefIdeal.main_v42) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5))

def preserves_Up_UpIdeal : Prop :=
  True

def algebraic_UpIdeal_UpRefIdeal_pre_finite_up [hUpIdeal : Cert.UpIdeal.Facts] [hUpRefIdeal : Cert.UpRefIdeal.Facts] [hPre_finite_up : Cert.Pre_finite_up.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal_finite_up m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v1_0)) (v1 : (c : Dev Cert.UpIdeal.nD) → Buf (Elt Ideal) ((c.tc : Thread Cert.UpIdeal.nD Cert.UpIdeal.τ).loc Cert.UpIdeal.main_v1_1)) (v2 : (c : Dev Cert.UpIdeal.nD) → Buf (Elt Ideal) ((c.tc : Thread Cert.UpIdeal.nD Cert.UpIdeal.τ).loc Cert.UpIdeal.main_v1_2)) (v3 : (c : Dev Cert.UpIdeal.nD) → Buf (Elt Ideal) ((c.tc : Thread Cert.UpIdeal.nD Cert.UpIdeal.τ).loc Cert.UpIdeal.main_v1_3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1_0) = v0 c
          ∧ r.2.mem ((c.tc : Thread Cert.UpIdeal.nD Cert.UpIdeal.τ).loc Cert.UpIdeal.main_v1_1) = v1 c
          ∧ r.2.mem ((c.tc : Thread Cert.UpIdeal.nD Cert.UpIdeal.τ).loc Cert.UpIdeal.main_v1_2) = v2 c
          ∧ r.2.mem ((c.tc : Thread Cert.UpIdeal.nD Cert.UpIdeal.τ).loc Cert.UpIdeal.main_v1_3) = v3 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v22) = v0 c
          ∧ r.2.mem ((c.tc : Thread Cert.UpRefIdeal.nD Cert.UpRefIdeal.τ).loc Cert.UpRefIdeal.main_v24) = v1 c
          ∧ r.2.mem ((c.tc : Thread Cert.UpRefIdeal.nD Cert.UpRefIdeal.τ).loc Cert.UpRefIdeal.main_v25) = v2 c
          ∧ r.2.mem ((c.tc : Thread Cert.UpRefIdeal.nD Cert.UpRefIdeal.τ).loc Cert.UpRefIdeal.main_v26) = v3 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_MOut_MOutIdeal : Prop :=
  True

def algebraic_MOutIdeal_MOutRefIdeal [hMOutIdeal : Cert.MOutIdeal.Facts] [hMOutRefIdeal : Cert.MOutRefIdeal.Facts] : Prop :=
  ∀ (m : (ℓ : Loc Cert.MOutIdeal.nD Cert.MOutIdeal.τ Cert.MOutIdeal.sig) → Buf (Elt Ideal) ℓ) (g : Dev Cert.MOutIdeal.nD → PrngReg)
    (m' : (ℓ : Loc Cert.MOutRefIdeal.nD Cert.MOutRefIdeal.τ Cert.MOutRefIdeal.sig) → Buf (Elt Ideal) ℓ) (g' : Dev Cert.MOutRefIdeal.nD → PrngReg), Pre_MOutIdeal m →
    (∀ c : Dev Cert.MOutIdeal.nD,
      m' ((c.tc : Thread Cert.MOutRefIdeal.nD Cert.MOutRefIdeal.τ).loc Cert.MOutRefIdeal.main_arg0) = m ((c.tc : Thread Cert.MOutIdeal.nD Cert.MOutIdeal.τ).loc Cert.MOutIdeal.main_arg0)
      ∧ m' ((c.tc : Thread Cert.MOutRefIdeal.nD Cert.MOutRefIdeal.τ).loc Cert.MOutRefIdeal.main_arg1) = m ((c.tc : Thread Cert.MOutIdeal.nD Cert.MOutIdeal.τ).loc Cert.MOutIdeal.main_arg1)
      ∧ m' ((c.tc : Thread Cert.MOutRefIdeal.nD Cert.MOutRefIdeal.τ).loc Cert.MOutRefIdeal.main_arg2) = m ((c.tc : Thread Cert.MOutIdeal.nD Cert.MOutIdeal.τ).loc Cert.MOutIdeal.main_arg2)
      ∧ m' ((c.tc : Thread Cert.MOutRefIdeal.nD Cert.MOutRefIdeal.τ).loc Cert.MOutRefIdeal.main_arg3) = m ((c.tc : Thread Cert.MOutIdeal.nD Cert.MOutIdeal.τ).loc Cert.MOutIdeal.main_arg3)
      ∧ m' ((c.tc : Thread Cert.MOutRefIdeal.nD Cert.MOutRefIdeal.τ).loc Cert.MOutRefIdeal.main_arg4) = m ((c.tc : Thread Cert.MOutIdeal.nD Cert.MOutIdeal.τ).loc Cert.MOutIdeal.main_arg4)
      ∧ m' ((c.tc : Thread Cert.MOutRefIdeal.nD Cert.MOutRefIdeal.τ).loc Cert.MOutRefIdeal.main_arg5) = m ((c.tc : Thread Cert.MOutIdeal.nD Cert.MOutIdeal.τ).loc Cert.MOutIdeal.main_arg5)) →
    ∃ (v0 : (c : Dev Cert.MOutIdeal.nD) → Buf (Elt Ideal) ((c.tc : Thread Cert.MOutIdeal.nD Cert.MOutIdeal.τ).loc Cert.MOutIdeal.main_v2_0)) (v1 : (c : Dev Cert.MOutIdeal.nD) → Buf (Elt Ideal) ((c.tc : Thread Cert.MOutIdeal.nD Cert.MOutIdeal.τ).loc Cert.MOutIdeal.main_v2_1)),
      θ_run (Cert.MOutIdeal.defs (F := Ideal)) (onTc (τ := Cert.MOutIdeal.τ) (Cert.MOutIdeal.main (F := Ideal))) ⟨m, fun _ => 0, g⟩ (fun r => ∀ c : Dev Cert.MOutIdeal.nD,
          r.2.mem ((c.tc : Thread Cert.MOutIdeal.nD Cert.MOutIdeal.τ).loc Cert.MOutIdeal.main_v2_0) = v0 c
          ∧ r.2.mem ((c.tc : Thread Cert.MOutIdeal.nD Cert.MOutIdeal.τ).loc Cert.MOutIdeal.main_v2_1) = v1 c
          ∧ r.2.mem ((c.tc : Thread Cert.MOutIdeal.nD Cert.MOutIdeal.τ).loc Cert.MOutIdeal.main_arg0) = m ((c.tc : Thread Cert.MOutIdeal.nD Cert.MOutIdeal.τ).loc Cert.MOutIdeal.main_arg0)
          ∧ r.2.mem ((c.tc : Thread Cert.MOutIdeal.nD Cert.MOutIdeal.τ).loc Cert.MOutIdeal.main_arg1) = m ((c.tc : Thread Cert.MOutIdeal.nD Cert.MOutIdeal.τ).loc Cert.MOutIdeal.main_arg1)
          ∧ r.2.mem ((c.tc : Thread Cert.MOutIdeal.nD Cert.MOutIdeal.τ).loc Cert.MOutIdeal.main_arg2) = m ((c.tc : Thread Cert.MOutIdeal.nD Cert.MOutIdeal.τ).loc Cert.MOutIdeal.main_arg2)
          ∧ r.2.mem ((c.tc : Thread Cert.MOutIdeal.nD Cert.MOutIdeal.τ).loc Cert.MOutIdeal.main_arg3) = m ((c.tc : Thread Cert.MOutIdeal.nD Cert.MOutIdeal.τ).loc Cert.MOutIdeal.main_arg3)
          ∧ r.2.mem ((c.tc : Thread Cert.MOutIdeal.nD Cert.MOutIdeal.τ).loc Cert.MOutIdeal.main_arg4) = m ((c.tc : Thread Cert.MOutIdeal.nD Cert.MOutIdeal.τ).loc Cert.MOutIdeal.main_arg4)
          ∧ r.2.mem ((c.tc : Thread Cert.MOutIdeal.nD Cert.MOutIdeal.τ).loc Cert.MOutIdeal.main_arg5) = m ((c.tc : Thread Cert.MOutIdeal.nD Cert.MOutIdeal.τ).loc Cert.MOutIdeal.main_arg5))
      ∧ θ_run (Cert.MOutRefIdeal.defs (F := Ideal)) (onTc (τ := Cert.MOutRefIdeal.τ) (Cert.MOutRefIdeal.main (F := Ideal))) ⟨m', fun _ => 0, g'⟩ (fun r => ∀ c : Dev Cert.MOutRefIdeal.nD,
          r.2.mem ((c.tc : Thread Cert.MOutRefIdeal.nD Cert.MOutRefIdeal.τ).loc Cert.MOutRefIdeal.main_v27) = v0 c
          ∧ r.2.mem ((c.tc : Thread Cert.MOutRefIdeal.nD Cert.MOutRefIdeal.τ).loc Cert.MOutRefIdeal.main_v30) = v1 c
          ∧ r.2.mem ((c.tc : Thread Cert.MOutRefIdeal.nD Cert.MOutRefIdeal.τ).loc Cert.MOutRefIdeal.main_arg0) = m' ((c.tc : Thread Cert.MOutRefIdeal.nD Cert.MOutRefIdeal.τ).loc Cert.MOutRefIdeal.main_arg0)
          ∧ r.2.mem ((c.tc : Thread Cert.MOutRefIdeal.nD Cert.MOutRefIdeal.τ).loc Cert.MOutRefIdeal.main_arg1) = m' ((c.tc : Thread Cert.MOutRefIdeal.nD Cert.MOutRefIdeal.τ).loc Cert.MOutRefIdeal.main_arg1)
          ∧ r.2.mem ((c.tc : Thread Cert.MOutRefIdeal.nD Cert.MOutRefIdeal.τ).loc Cert.MOutRefIdeal.main_arg2) = m' ((c.tc : Thread Cert.MOutRefIdeal.nD Cert.MOutRefIdeal.τ).loc Cert.MOutRefIdeal.main_arg2)
          ∧ r.2.mem ((c.tc : Thread Cert.MOutRefIdeal.nD Cert.MOutRefIdeal.τ).loc Cert.MOutRefIdeal.main_arg3) = m' ((c.tc : Thread Cert.MOutRefIdeal.nD Cert.MOutRefIdeal.τ).loc Cert.MOutRefIdeal.main_arg3)
          ∧ r.2.mem ((c.tc : Thread Cert.MOutRefIdeal.nD Cert.MOutRefIdeal.τ).loc Cert.MOutRefIdeal.main_arg4) = m' ((c.tc : Thread Cert.MOutRefIdeal.nD Cert.MOutRefIdeal.τ).loc Cert.MOutRefIdeal.main_arg4)
          ∧ r.2.mem ((c.tc : Thread Cert.MOutRefIdeal.nD Cert.MOutRefIdeal.τ).loc Cert.MOutRefIdeal.main_arg5) = m' ((c.tc : Thread Cert.MOutRefIdeal.nD Cert.MOutRefIdeal.τ).loc Cert.MOutRefIdeal.main_arg5))

def preserves_MWOut_MWOutIdeal : Prop :=
  True

def algebraic_MWOutIdeal_MWOutRefIdeal [hMWOutIdeal : Cert.MWOutIdeal.Facts] [hMWOutRefIdeal : Cert.MWOutRefIdeal.Facts] : Prop :=
  ∀ (m : (ℓ : Loc Cert.MWOutIdeal.nD Cert.MWOutIdeal.τ Cert.MWOutIdeal.sig) → Buf (Elt Ideal) ℓ) (g : Dev Cert.MWOutIdeal.nD → PrngReg)
    (m' : (ℓ : Loc Cert.MWOutRefIdeal.nD Cert.MWOutRefIdeal.τ Cert.MWOutRefIdeal.sig) → Buf (Elt Ideal) ℓ) (g' : Dev Cert.MWOutRefIdeal.nD → PrngReg), Pre_MWOutIdeal m →
    (∀ c : Dev Cert.MWOutIdeal.nD,
      m' ((c.tc : Thread Cert.MWOutRefIdeal.nD Cert.MWOutRefIdeal.τ).loc Cert.MWOutRefIdeal.main_arg0) = m ((c.tc : Thread Cert.MWOutIdeal.nD Cert.MWOutIdeal.τ).loc Cert.MWOutIdeal.main_arg0)
      ∧ m' ((c.tc : Thread Cert.MWOutRefIdeal.nD Cert.MWOutRefIdeal.τ).loc Cert.MWOutRefIdeal.main_arg1) = m ((c.tc : Thread Cert.MWOutIdeal.nD Cert.MWOutIdeal.τ).loc Cert.MWOutIdeal.main_arg1)) →
    ∃ (v0 : (c : Dev Cert.MWOutIdeal.nD) → Buf (Elt Ideal) ((c.tc : Thread Cert.MWOutIdeal.nD Cert.MWOutIdeal.τ).loc Cert.MWOutIdeal.main_v0)),
      θ_run (Cert.MWOutIdeal.defs (F := Ideal)) (onTc (τ := Cert.MWOutIdeal.τ) (Cert.MWOutIdeal.main (F := Ideal))) ⟨m, fun _ => 0, g⟩ (fun r => ∀ c : Dev Cert.MWOutIdeal.nD,
          r.2.mem ((c.tc : Thread Cert.MWOutIdeal.nD Cert.MWOutIdeal.τ).loc Cert.MWOutIdeal.main_v0) = v0 c
          ∧ r.2.mem ((c.tc : Thread Cert.MWOutIdeal.nD Cert.MWOutIdeal.τ).loc Cert.MWOutIdeal.main_arg0) = m ((c.tc : Thread Cert.MWOutIdeal.nD Cert.MWOutIdeal.τ).loc Cert.MWOutIdeal.main_arg0)
          ∧ r.2.mem ((c.tc : Thread Cert.MWOutIdeal.nD Cert.MWOutIdeal.τ).loc Cert.MWOutIdeal.main_arg1) = m ((c.tc : Thread Cert.MWOutIdeal.nD Cert.MWOutIdeal.τ).loc Cert.MWOutIdeal.main_arg1))
      ∧ θ_run (Cert.MWOutRefIdeal.defs (F := Ideal)) (onTc (τ := Cert.MWOutRefIdeal.τ) (Cert.MWOutRefIdeal.main (F := Ideal))) ⟨m', fun _ => 0, g'⟩ (fun r => ∀ c : Dev Cert.MWOutRefIdeal.nD,
          r.2.mem ((c.tc : Thread Cert.MWOutRefIdeal.nD Cert.MWOutRefIdeal.τ).loc Cert.MWOutRefIdeal.main_v4) = v0 c
          ∧ r.2.mem ((c.tc : Thread Cert.MWOutRefIdeal.nD Cert.MWOutRefIdeal.τ).loc Cert.MWOutRefIdeal.main_arg0) = m' ((c.tc : Thread Cert.MWOutRefIdeal.nD Cert.MWOutRefIdeal.τ).loc Cert.MWOutRefIdeal.main_arg0)
          ∧ r.2.mem ((c.tc : Thread Cert.MWOutRefIdeal.nD Cert.MWOutRefIdeal.τ).loc Cert.MWOutRefIdeal.main_arg1) = m' ((c.tc : Thread Cert.MWOutRefIdeal.nD Cert.MWOutRefIdeal.τ).loc Cert.MWOutRefIdeal.main_arg1))

def preserves_MWS_MWSIdeal : Prop :=
  True

def algebraic_MWSIdeal_MWSRefIdeal_on_left_third [hMWSIdeal : Cert.MWSIdeal.Facts] [hMWSRefIdeal : Cert.MWSRefIdeal.Facts] [hOn_left_third : Cert.On_left_third.Facts] : Prop :=
  ∀ (m : (ℓ : Loc Cert.MWSIdeal.nD Cert.MWSIdeal.τ Cert.MWSIdeal.sig) → Buf (Elt Ideal) ℓ) (g : Dev Cert.MWSIdeal.nD → PrngReg)
    (m' : (ℓ : Loc Cert.MWSRefIdeal.nD Cert.MWSRefIdeal.τ Cert.MWSRefIdeal.sig) → Buf (Elt Ideal) ℓ) (g' : Dev Cert.MWSRefIdeal.nD → PrngReg), Pre_MWSIdeal m →
    (∀ c : Dev Cert.MWSIdeal.nD,
      m' ((c.tc : Thread Cert.MWSRefIdeal.nD Cert.MWSRefIdeal.τ).loc Cert.MWSRefIdeal.main_arg0) = m ((c.tc : Thread Cert.MWSIdeal.nD Cert.MWSIdeal.τ).loc Cert.MWSIdeal.main_arg0)
      ∧ m' ((c.tc : Thread Cert.MWSRefIdeal.nD Cert.MWSRefIdeal.τ).loc Cert.MWSRefIdeal.main_arg1) = m ((c.tc : Thread Cert.MWSIdeal.nD Cert.MWSIdeal.τ).loc Cert.MWSIdeal.main_arg1)) →
    ∃ (v0 : (c : Dev Cert.MWSIdeal.nD) → Buf (Elt Ideal) ((c.tc : Thread Cert.MWSIdeal.nD Cert.MWSIdeal.τ).loc Cert.MWSIdeal.main_v0)),
      θ_run (Cert.MWSIdeal.defs (F := Ideal)) (onTc (τ := Cert.MWSIdeal.τ) (Cert.MWSIdeal.main (F := Ideal))) ⟨m, fun _ => 0, g⟩ (fun r => ∀ c : Dev Cert.MWSIdeal.nD,
          (∀ i : (⟨2, ![1024, 1536]⟩ : Shape).Idx, (Cert.On_left_third.fn (F := Ideal) (m ((c.tc : Thread Cert.MWSIdeal.nD Cert.MWSIdeal.τ).loc Cert.MWSIdeal.main_arg0)) (m ((c.tc : Thread Cert.MWSIdeal.nD Cert.MWSIdeal.τ).loc Cert.MWSIdeal.main_arg1))) i = 1#1 → r.2.mem ((c.tc : Thread Cert.MWSIdeal.nD Cert.MWSIdeal.τ).loc Cert.MWSIdeal.main_v0) i = v0 c i)
          ∧ r.2.mem ((c.tc : Thread Cert.MWSIdeal.nD Cert.MWSIdeal.τ).loc Cert.MWSIdeal.main_arg0) = m ((c.tc : Thread Cert.MWSIdeal.nD Cert.MWSIdeal.τ).loc Cert.MWSIdeal.main_arg0)
          ∧ r.2.mem ((c.tc : Thread Cert.MWSIdeal.nD Cert.MWSIdeal.τ).loc Cert.MWSIdeal.main_arg1) = m ((c.tc : Thread Cert.MWSIdeal.nD Cert.MWSIdeal.τ).loc Cert.MWSIdeal.main_arg1))
      ∧ θ_run (Cert.MWSRefIdeal.defs (F := Ideal)) (onTc (τ := Cert.MWSRefIdeal.τ) (Cert.MWSRefIdeal.main (F := Ideal))) ⟨m', fun _ => 0, g'⟩ (fun r => ∀ c : Dev Cert.MWSRefIdeal.nD,
          (∀ i : (⟨2, ![1024, 1536]⟩ : Shape).Idx, (Cert.On_left_third.fn (F := Ideal) (m ((c.tc : Thread Cert.MWSIdeal.nD Cert.MWSIdeal.τ).loc Cert.MWSIdeal.main_arg0)) (m ((c.tc : Thread Cert.MWSIdeal.nD Cert.MWSIdeal.τ).loc Cert.MWSIdeal.main_arg1))) i = 1#1 → r.2.mem ((c.tc : Thread Cert.MWSRefIdeal.nD Cert.MWSRefIdeal.τ).loc Cert.MWSRefIdeal.main_v7) i = v0 c i)
          ∧ r.2.mem ((c.tc : Thread Cert.MWSRefIdeal.nD Cert.MWSRefIdeal.τ).loc Cert.MWSRefIdeal.main_arg0) = m' ((c.tc : Thread Cert.MWSRefIdeal.nD Cert.MWSRefIdeal.τ).loc Cert.MWSRefIdeal.main_arg0)
          ∧ r.2.mem ((c.tc : Thread Cert.MWSRefIdeal.nD Cert.MWSRefIdeal.τ).loc Cert.MWSRefIdeal.main_arg1) = m' ((c.tc : Thread Cert.MWSRefIdeal.nD Cert.MWSRefIdeal.τ).loc Cert.MWSRefIdeal.main_arg1))

def preserves_MWGm_MWGmIdeal : Prop :=
  True

def algebraic_MWGmIdeal_MWGmRefIdeal [hMWGmIdeal : Cert.MWGmIdeal.Facts] [hMWGmRefIdeal : Cert.MWGmRefIdeal.Facts] : Prop :=
  ∀ (m : (ℓ : Loc Cert.MWGmIdeal.nD Cert.MWGmIdeal.τ Cert.MWGmIdeal.sig) → Buf (Elt Ideal) ℓ) (g : Dev Cert.MWGmIdeal.nD → PrngReg)
    (m' : (ℓ : Loc Cert.MWGmRefIdeal.nD Cert.MWGmRefIdeal.τ Cert.MWGmRefIdeal.sig) → Buf (Elt Ideal) ℓ) (g' : Dev Cert.MWGmRefIdeal.nD → PrngReg), Pre_MWGmIdeal m →
    (∀ c : Dev Cert.MWGmIdeal.nD,
      m' ((c.tc : Thread Cert.MWGmRefIdeal.nD Cert.MWGmRefIdeal.τ).loc Cert.MWGmRefIdeal.main_arg0) = m ((c.tc : Thread Cert.MWGmIdeal.nD Cert.MWGmIdeal.τ).loc Cert.MWGmIdeal.main_arg0)
      ∧ m' ((c.tc : Thread Cert.MWGmRefIdeal.nD Cert.MWGmRefIdeal.τ).loc Cert.MWGmRefIdeal.main_arg1) = m ((c.tc : Thread Cert.MWGmIdeal.nD Cert.MWGmIdeal.τ).loc Cert.MWGmIdeal.main_arg1)
      ∧ m' ((c.tc : Thread Cert.MWGmRefIdeal.nD Cert.MWGmRefIdeal.τ).loc Cert.MWGmRefIdeal.main_arg2) = m ((c.tc : Thread Cert.MWGmIdeal.nD Cert.MWGmIdeal.τ).loc Cert.MWGmIdeal.main_arg2)) →
    ∃ (v0 : (c : Dev Cert.MWGmIdeal.nD) → Buf (Elt Ideal) ((c.tc : Thread Cert.MWGmIdeal.nD Cert.MWGmIdeal.τ).loc Cert.MWGmIdeal.main_v0)),
      θ_run (Cert.MWGmIdeal.defs (F := Ideal)) (onTc (τ := Cert.MWGmIdeal.τ) (Cert.MWGmIdeal.main (F := Ideal))) ⟨m, fun _ => 0, g⟩ (fun r => ∀ c : Dev Cert.MWGmIdeal.nD,
          r.2.mem ((c.tc : Thread Cert.MWGmIdeal.nD Cert.MWGmIdeal.τ).loc Cert.MWGmIdeal.main_v0) = v0 c
          ∧ r.2.mem ((c.tc : Thread Cert.MWGmIdeal.nD Cert.MWGmIdeal.τ).loc Cert.MWGmIdeal.main_arg0) = m ((c.tc : Thread Cert.MWGmIdeal.nD Cert.MWGmIdeal.τ).loc Cert.MWGmIdeal.main_arg0)
          ∧ r.2.mem ((c.tc : Thread Cert.MWGmIdeal.nD Cert.MWGmIdeal.τ).loc Cert.MWGmIdeal.main_arg1) = m ((c.tc : Thread Cert.MWGmIdeal.nD Cert.MWGmIdeal.τ).loc Cert.MWGmIdeal.main_arg1)
          ∧ r.2.mem ((c.tc : Thread Cert.MWGmIdeal.nD Cert.MWGmIdeal.τ).loc Cert.MWGmIdeal.main_arg2) = m ((c.tc : Thread Cert.MWGmIdeal.nD Cert.MWGmIdeal.τ).loc Cert.MWGmIdeal.main_arg2))
      ∧ θ_run (Cert.MWGmRefIdeal.defs (F := Ideal)) (onTc (τ := Cert.MWGmRefIdeal.τ) (Cert.MWGmRefIdeal.main (F := Ideal))) ⟨m', fun _ => 0, g'⟩ (fun r => ∀ c : Dev Cert.MWGmRefIdeal.nD,
          r.2.mem ((c.tc : Thread Cert.MWGmRefIdeal.nD Cert.MWGmRefIdeal.τ).loc Cert.MWGmRefIdeal.main_v7) = v0 c
          ∧ r.2.mem ((c.tc : Thread Cert.MWGmRefIdeal.nD Cert.MWGmRefIdeal.τ).loc Cert.MWGmRefIdeal.main_arg0) = m' ((c.tc : Thread Cert.MWGmRefIdeal.nD Cert.MWGmRefIdeal.τ).loc Cert.MWGmRefIdeal.main_arg0)
          ∧ r.2.mem ((c.tc : Thread Cert.MWGmRefIdeal.nD Cert.MWGmRefIdeal.τ).loc Cert.MWGmRefIdeal.main_arg1) = m' ((c.tc : Thread Cert.MWGmRefIdeal.nD Cert.MWGmRefIdeal.τ).loc Cert.MWGmRefIdeal.main_arg1)
          ∧ r.2.mem ((c.tc : Thread Cert.MWGmRefIdeal.nD Cert.MWGmRefIdeal.τ).loc Cert.MWGmRefIdeal.main_arg2) = m' ((c.tc : Thread Cert.MWGmRefIdeal.nD Cert.MWGmRefIdeal.τ).loc Cert.MWGmRefIdeal.main_arg2))

def preserves_MIn_MInIdeal : Prop :=
  True

def algebraic_MInIdeal_MInRefIdeal_pre_finite_m_in [hMInIdeal : Cert.MInIdeal.Facts] [hMInRefIdeal : Cert.MInRefIdeal.Facts] [hPre_finite_m_in : Cert.Pre_finite_m_in.Facts] : Prop :=
  ∀ (m : (ℓ : Loc Cert.MInIdeal.nD Cert.MInIdeal.τ Cert.MInIdeal.sig) → Buf (Elt Ideal) ℓ) (g : Dev Cert.MInIdeal.nD → PrngReg)
    (m' : (ℓ : Loc Cert.MInRefIdeal.nD Cert.MInRefIdeal.τ Cert.MInRefIdeal.sig) → Buf (Elt Ideal) ℓ) (g' : Dev Cert.MInRefIdeal.nD → PrngReg), Pre_MInIdeal_finite_m_in m →
    (∀ c : Dev Cert.MInIdeal.nD,
      m' ((c.tc : Thread Cert.MInRefIdeal.nD Cert.MInRefIdeal.τ).loc Cert.MInRefIdeal.main_arg0) = m ((c.tc : Thread Cert.MInIdeal.nD Cert.MInIdeal.τ).loc Cert.MInIdeal.main_arg0)
      ∧ m' ((c.tc : Thread Cert.MInRefIdeal.nD Cert.MInRefIdeal.τ).loc Cert.MInRefIdeal.main_arg1) = m ((c.tc : Thread Cert.MInIdeal.nD Cert.MInIdeal.τ).loc Cert.MInIdeal.main_arg1)
      ∧ m' ((c.tc : Thread Cert.MInRefIdeal.nD Cert.MInRefIdeal.τ).loc Cert.MInRefIdeal.main_arg2) = m ((c.tc : Thread Cert.MInIdeal.nD Cert.MInIdeal.τ).loc Cert.MInIdeal.main_arg2)
      ∧ m' ((c.tc : Thread Cert.MInRefIdeal.nD Cert.MInRefIdeal.τ).loc Cert.MInRefIdeal.main_arg3) = m ((c.tc : Thread Cert.MInIdeal.nD Cert.MInIdeal.τ).loc Cert.MInIdeal.main_arg3)
      ∧ m' ((c.tc : Thread Cert.MInRefIdeal.nD Cert.MInRefIdeal.τ).loc Cert.MInRefIdeal.main_arg4) = m ((c.tc : Thread Cert.MInIdeal.nD Cert.MInIdeal.τ).loc Cert.MInIdeal.main_arg4)
      ∧ m' ((c.tc : Thread Cert.MInRefIdeal.nD Cert.MInRefIdeal.τ).loc Cert.MInRefIdeal.main_arg5) = m ((c.tc : Thread Cert.MInIdeal.nD Cert.MInIdeal.τ).loc Cert.MInIdeal.main_arg5)) →
    ∃ (v0 : (c : Dev Cert.MInIdeal.nD) → Buf (Elt Ideal) ((c.tc : Thread Cert.MInIdeal.nD Cert.MInIdeal.τ).loc Cert.MInIdeal.main_v1_0)) (v1 : (c : Dev Cert.MInIdeal.nD) → Buf (Elt Ideal) ((c.tc : Thread Cert.MInIdeal.nD Cert.MInIdeal.τ).loc Cert.MInIdeal.main_v1_1)),
      θ_run (Cert.MInIdeal.defs (F := Ideal)) (onTc (τ := Cert.MInIdeal.τ) (Cert.MInIdeal.main (F := Ideal))) ⟨m, fun _ => 0, g⟩ (fun r => ∀ c : Dev Cert.MInIdeal.nD,
          r.2.mem ((c.tc : Thread Cert.MInIdeal.nD Cert.MInIdeal.τ).loc Cert.MInIdeal.main_v1_0) = v0 c
          ∧ r.2.mem ((c.tc : Thread Cert.MInIdeal.nD Cert.MInIdeal.τ).loc Cert.MInIdeal.main_v1_1) = v1 c
          ∧ r.2.mem ((c.tc : Thread Cert.MInIdeal.nD Cert.MInIdeal.τ).loc Cert.MInIdeal.main_arg0) = m ((c.tc : Thread Cert.MInIdeal.nD Cert.MInIdeal.τ).loc Cert.MInIdeal.main_arg0)
          ∧ r.2.mem ((c.tc : Thread Cert.MInIdeal.nD Cert.MInIdeal.τ).loc Cert.MInIdeal.main_arg1) = m ((c.tc : Thread Cert.MInIdeal.nD Cert.MInIdeal.τ).loc Cert.MInIdeal.main_arg1)
          ∧ r.2.mem ((c.tc : Thread Cert.MInIdeal.nD Cert.MInIdeal.τ).loc Cert.MInIdeal.main_arg2) = m ((c.tc : Thread Cert.MInIdeal.nD Cert.MInIdeal.τ).loc Cert.MInIdeal.main_arg2)
          ∧ r.2.mem ((c.tc : Thread Cert.MInIdeal.nD Cert.MInIdeal.τ).loc Cert.MInIdeal.main_arg3) = m ((c.tc : Thread Cert.MInIdeal.nD Cert.MInIdeal.τ).loc Cert.MInIdeal.main_arg3)
          ∧ r.2.mem ((c.tc : Thread Cert.MInIdeal.nD Cert.MInIdeal.τ).loc Cert.MInIdeal.main_arg4) = m ((c.tc : Thread Cert.MInIdeal.nD Cert.MInIdeal.τ).loc Cert.MInIdeal.main_arg4)
          ∧ r.2.mem ((c.tc : Thread Cert.MInIdeal.nD Cert.MInIdeal.τ).loc Cert.MInIdeal.main_arg5) = m ((c.tc : Thread Cert.MInIdeal.nD Cert.MInIdeal.τ).loc Cert.MInIdeal.main_arg5))
      ∧ θ_run (Cert.MInRefIdeal.defs (F := Ideal)) (onTc (τ := Cert.MInRefIdeal.τ) (Cert.MInRefIdeal.main (F := Ideal))) ⟨m', fun _ => 0, g'⟩ (fun r => ∀ c : Dev Cert.MInRefIdeal.nD,
          r.2.mem ((c.tc : Thread Cert.MInRefIdeal.nD Cert.MInRefIdeal.τ).loc Cert.MInRefIdeal.main_v41) = v0 c
          ∧ r.2.mem ((c.tc : Thread Cert.MInRefIdeal.nD Cert.MInRefIdeal.τ).loc Cert.MInRefIdeal.main_v42) = v1 c
          ∧ r.2.mem ((c.tc : Thread Cert.MInRefIdeal.nD Cert.MInRefIdeal.τ).loc Cert.MInRefIdeal.main_arg0) = m' ((c.tc : Thread Cert.MInRefIdeal.nD Cert.MInRefIdeal.τ).loc Cert.MInRefIdeal.main_arg0)
          ∧ r.2.mem ((c.tc : Thread Cert.MInRefIdeal.nD Cert.MInRefIdeal.τ).loc Cert.MInRefIdeal.main_arg1) = m' ((c.tc : Thread Cert.MInRefIdeal.nD Cert.MInRefIdeal.τ).loc Cert.MInRefIdeal.main_arg1)
          ∧ r.2.mem ((c.tc : Thread Cert.MInRefIdeal.nD Cert.MInRefIdeal.τ).loc Cert.MInRefIdeal.main_arg2) = m' ((c.tc : Thread Cert.MInRefIdeal.nD Cert.MInRefIdeal.τ).loc Cert.MInRefIdeal.main_arg2)
          ∧ r.2.mem ((c.tc : Thread Cert.MInRefIdeal.nD Cert.MInRefIdeal.τ).loc Cert.MInRefIdeal.main_arg3) = m' ((c.tc : Thread Cert.MInRefIdeal.nD Cert.MInRefIdeal.τ).loc Cert.MInRefIdeal.main_arg3)
          ∧ r.2.mem ((c.tc : Thread Cert.MInRefIdeal.nD Cert.MInRefIdeal.τ).loc Cert.MInRefIdeal.main_arg4) = m' ((c.tc : Thread Cert.MInRefIdeal.nD Cert.MInRefIdeal.τ).loc Cert.MInRefIdeal.main_arg4)
          ∧ r.2.mem ((c.tc : Thread Cert.MInRefIdeal.nD Cert.MInRefIdeal.τ).loc Cert.MInRefIdeal.main_arg5) = m' ((c.tc : Thread Cert.MInRefIdeal.nD Cert.MInRefIdeal.τ).loc Cert.MInRefIdeal.main_arg5))

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v50) = v0 c
          ∧ r.2.mem ((c.tc : Thread Cert.LossRefIdeal.nD Cert.LossRefIdeal.τ).loc Cert.LossRefIdeal.main_v51) = v1 c
          ∧ r.2.mem ((c.tc : Thread Cert.LossRefIdeal.nD Cert.LossRefIdeal.τ).loc Cert.LossRefIdeal.main_v72) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_AdIn_AdInIdeal : Prop :=
  True

def algebraic_AdInIdeal_AdInRefIdeal [hAdInIdeal : Cert.AdInIdeal.Facts] [hAdInRefIdeal : Cert.AdInRefIdeal.Facts] : Prop :=
  ∀ (m : (ℓ : Loc Cert.AdInIdeal.nD Cert.AdInIdeal.τ Cert.AdInIdeal.sig) → Buf (Elt Ideal) ℓ) (g : Dev Cert.AdInIdeal.nD → PrngReg)
    (m' : (ℓ : Loc Cert.AdInRefIdeal.nD Cert.AdInRefIdeal.τ Cert.AdInRefIdeal.sig) → Buf (Elt Ideal) ℓ) (g' : Dev Cert.AdInRefIdeal.nD → PrngReg), Pre_AdInIdeal m →
    (∀ c : Dev Cert.AdInIdeal.nD,
      m' ((c.tc : Thread Cert.AdInRefIdeal.nD Cert.AdInRefIdeal.τ).loc Cert.AdInRefIdeal.main_arg0) = m ((c.tc : Thread Cert.AdInIdeal.nD Cert.AdInIdeal.τ).loc Cert.AdInIdeal.main_arg0)
      ∧ m' ((c.tc : Thread Cert.AdInRefIdeal.nD Cert.AdInRefIdeal.τ).loc Cert.AdInRefIdeal.main_arg1) = m ((c.tc : Thread Cert.AdInIdeal.nD Cert.AdInIdeal.τ).loc Cert.AdInIdeal.main_arg1)
      ∧ m' ((c.tc : Thread Cert.AdInRefIdeal.nD Cert.AdInRefIdeal.τ).loc Cert.AdInRefIdeal.main_arg2) = m ((c.tc : Thread Cert.AdInIdeal.nD Cert.AdInIdeal.τ).loc Cert.AdInIdeal.main_arg2)
      ∧ m' ((c.tc : Thread Cert.AdInRefIdeal.nD Cert.AdInRefIdeal.τ).loc Cert.AdInRefIdeal.main_arg3) = m ((c.tc : Thread Cert.AdInIdeal.nD Cert.AdInIdeal.τ).loc Cert.AdInIdeal.main_arg3)) →
    ∃ (v0 : (c : Dev Cert.AdInIdeal.nD) → Buf (Elt Ideal) ((c.tc : Thread Cert.AdInIdeal.nD Cert.AdInIdeal.τ).loc Cert.AdInIdeal.main_v4_0)) (v1 : (c : Dev Cert.AdInIdeal.nD) → Buf (Elt Ideal) ((c.tc : Thread Cert.AdInIdeal.nD Cert.AdInIdeal.τ).loc Cert.AdInIdeal.main_v4_1)) (v2 : (c : Dev Cert.AdInIdeal.nD) → Buf (Elt Ideal) ((c.tc : Thread Cert.AdInIdeal.nD Cert.AdInIdeal.τ).loc Cert.AdInIdeal.main_v4_2)) (v3 : (c : Dev Cert.AdInIdeal.nD) → Buf (Elt Ideal) ((c.tc : Thread Cert.AdInIdeal.nD Cert.AdInIdeal.τ).loc Cert.AdInIdeal.main_v4_3)),
      θ_run (Cert.AdInIdeal.defs (F := Ideal)) (onTc (τ := Cert.AdInIdeal.τ) (Cert.AdInIdeal.main (F := Ideal))) ⟨m, fun _ => 0, g⟩ (fun r => ∀ c : Dev Cert.AdInIdeal.nD,
          r.2.mem ((c.tc : Thread Cert.AdInIdeal.nD Cert.AdInIdeal.τ).loc Cert.AdInIdeal.main_v4_0) = v0 c
          ∧ r.2.mem ((c.tc : Thread Cert.AdInIdeal.nD Cert.AdInIdeal.τ).loc Cert.AdInIdeal.main_v4_1) = v1 c
          ∧ r.2.mem ((c.tc : Thread Cert.AdInIdeal.nD Cert.AdInIdeal.τ).loc Cert.AdInIdeal.main_v4_2) = v2 c
          ∧ r.2.mem ((c.tc : Thread Cert.AdInIdeal.nD Cert.AdInIdeal.τ).loc Cert.AdInIdeal.main_v4_3) = v3 c
          ∧ r.2.mem ((c.tc : Thread Cert.AdInIdeal.nD Cert.AdInIdeal.τ).loc Cert.AdInIdeal.main_arg0) = m ((c.tc : Thread Cert.AdInIdeal.nD Cert.AdInIdeal.τ).loc Cert.AdInIdeal.main_arg0)
          ∧ r.2.mem ((c.tc : Thread Cert.AdInIdeal.nD Cert.AdInIdeal.τ).loc Cert.AdInIdeal.main_arg1) = m ((c.tc : Thread Cert.AdInIdeal.nD Cert.AdInIdeal.τ).loc Cert.AdInIdeal.main_arg1)
          ∧ r.2.mem ((c.tc : Thread Cert.AdInIdeal.nD Cert.AdInIdeal.τ).loc Cert.AdInIdeal.main_arg2) = m ((c.tc : Thread Cert.AdInIdeal.nD Cert.AdInIdeal.τ).loc Cert.AdInIdeal.main_arg2)
          ∧ r.2.mem ((c.tc : Thread Cert.AdInIdeal.nD Cert.AdInIdeal.τ).loc Cert.AdInIdeal.main_arg3) = m ((c.tc : Thread Cert.AdInIdeal.nD Cert.AdInIdeal.τ).loc Cert.AdInIdeal.main_arg3))
      ∧ θ_run (Cert.AdInRefIdeal.defs (F := Ideal)) (onTc (τ := Cert.AdInRefIdeal.τ) (Cert.AdInRefIdeal.main (F := Ideal))) ⟨m', fun _ => 0, g'⟩ (fun r => ∀ c : Dev Cert.AdInRefIdeal.nD,
          r.2.mem ((c.tc : Thread Cert.AdInRefIdeal.nD Cert.AdInRefIdeal.τ).loc Cert.AdInRefIdeal.main_v0) = v0 c
          ∧ r.2.mem ((c.tc : Thread Cert.AdInRefIdeal.nD Cert.AdInRefIdeal.τ).loc Cert.AdInRefIdeal.main_v25) = v1 c
          ∧ r.2.mem ((c.tc : Thread Cert.AdInRefIdeal.nD Cert.AdInRefIdeal.τ).loc Cert.AdInRefIdeal.main_v26) = v2 c
          ∧ r.2.mem ((c.tc : Thread Cert.AdInRefIdeal.nD Cert.AdInRefIdeal.τ).loc Cert.AdInRefIdeal.main_v27) = v3 c
          ∧ r.2.mem ((c.tc : Thread Cert.AdInRefIdeal.nD Cert.AdInRefIdeal.τ).loc Cert.AdInRefIdeal.main_arg0) = m' ((c.tc : Thread Cert.AdInRefIdeal.nD Cert.AdInRefIdeal.τ).loc Cert.AdInRefIdeal.main_arg0)
          ∧ r.2.mem ((c.tc : Thread Cert.AdInRefIdeal.nD Cert.AdInRefIdeal.τ).loc Cert.AdInRefIdeal.main_arg1) = m' ((c.tc : Thread Cert.AdInRefIdeal.nD Cert.AdInRefIdeal.τ).loc Cert.AdInRefIdeal.main_arg1)
          ∧ r.2.mem ((c.tc : Thread Cert.AdInRefIdeal.nD Cert.AdInRefIdeal.τ).loc Cert.AdInRefIdeal.main_arg2) = m' ((c.tc : Thread Cert.AdInRefIdeal.nD Cert.AdInRefIdeal.τ).loc Cert.AdInRefIdeal.main_arg2)
          ∧ r.2.mem ((c.tc : Thread Cert.AdInRefIdeal.nD Cert.AdInRefIdeal.τ).loc Cert.AdInRefIdeal.main_arg3) = m' ((c.tc : Thread Cert.AdInRefIdeal.nD Cert.AdInRefIdeal.τ).loc Cert.AdInRefIdeal.main_arg3))

def preserves_AdOut_AdOutIdeal : Prop :=
  True

def algebraic_AdOutIdeal_AdOutRefIdeal [hAdOutIdeal : Cert.AdOutIdeal.Facts] [hAdOutRefIdeal : Cert.AdOutRefIdeal.Facts] : Prop :=
  ∀ (m : (ℓ : Loc Cert.AdOutIdeal.nD Cert.AdOutIdeal.τ Cert.AdOutIdeal.sig) → Buf (Elt Ideal) ℓ) (g : Dev Cert.AdOutIdeal.nD → PrngReg)
    (m' : (ℓ : Loc Cert.AdOutRefIdeal.nD Cert.AdOutRefIdeal.τ Cert.AdOutRefIdeal.sig) → Buf (Elt Ideal) ℓ) (g' : Dev Cert.AdOutRefIdeal.nD → PrngReg), Pre_AdOutIdeal m →
    (∀ c : Dev Cert.AdOutIdeal.nD,
      m' ((c.tc : Thread Cert.AdOutRefIdeal.nD Cert.AdOutRefIdeal.τ).loc Cert.AdOutRefIdeal.main_arg0) = m ((c.tc : Thread Cert.AdOutIdeal.nD Cert.AdOutIdeal.τ).loc Cert.AdOutIdeal.main_arg0)
      ∧ m' ((c.tc : Thread Cert.AdOutRefIdeal.nD Cert.AdOutRefIdeal.τ).loc Cert.AdOutRefIdeal.main_arg1) = m ((c.tc : Thread Cert.AdOutIdeal.nD Cert.AdOutIdeal.τ).loc Cert.AdOutIdeal.main_arg1)
      ∧ m' ((c.tc : Thread Cert.AdOutRefIdeal.nD Cert.AdOutRefIdeal.τ).loc Cert.AdOutRefIdeal.main_arg2) = m ((c.tc : Thread Cert.AdOutIdeal.nD Cert.AdOutIdeal.τ).loc Cert.AdOutIdeal.main_arg2)
      ∧ m' ((c.tc : Thread Cert.AdOutRefIdeal.nD Cert.AdOutRefIdeal.τ).loc Cert.AdOutRefIdeal.main_arg3) = m ((c.tc : Thread Cert.AdOutIdeal.nD Cert.AdOutIdeal.τ).loc Cert.AdOutIdeal.main_arg3)) →
    ∃ (v0 : (c : Dev Cert.AdOutIdeal.nD) → Buf (Elt Ideal) ((c.tc : Thread Cert.AdOutIdeal.nD Cert.AdOutIdeal.τ).loc Cert.AdOutIdeal.main_v4_0)) (v1 : (c : Dev Cert.AdOutIdeal.nD) → Buf (Elt Ideal) ((c.tc : Thread Cert.AdOutIdeal.nD Cert.AdOutIdeal.τ).loc Cert.AdOutIdeal.main_v4_1)) (v2 : (c : Dev Cert.AdOutIdeal.nD) → Buf (Elt Ideal) ((c.tc : Thread Cert.AdOutIdeal.nD Cert.AdOutIdeal.τ).loc Cert.AdOutIdeal.main_v4_2)) (v3 : (c : Dev Cert.AdOutIdeal.nD) → Buf (Elt Ideal) ((c.tc : Thread Cert.AdOutIdeal.nD Cert.AdOutIdeal.τ).loc Cert.AdOutIdeal.main_v4_3)),
      θ_run (Cert.AdOutIdeal.defs (F := Ideal)) (onTc (τ := Cert.AdOutIdeal.τ) (Cert.AdOutIdeal.main (F := Ideal))) ⟨m, fun _ => 0, g⟩ (fun r => ∀ c : Dev Cert.AdOutIdeal.nD,
          r.2.mem ((c.tc : Thread Cert.AdOutIdeal.nD Cert.AdOutIdeal.τ).loc Cert.AdOutIdeal.main_v4_0) = v0 c
          ∧ r.2.mem ((c.tc : Thread Cert.AdOutIdeal.nD Cert.AdOutIdeal.τ).loc Cert.AdOutIdeal.main_v4_1) = v1 c
          ∧ r.2.mem ((c.tc : Thread Cert.AdOutIdeal.nD Cert.AdOutIdeal.τ).loc Cert.AdOutIdeal.main_v4_2) = v2 c
          ∧ r.2.mem ((c.tc : Thread Cert.AdOutIdeal.nD Cert.AdOutIdeal.τ).loc Cert.AdOutIdeal.main_v4_3) = v3 c
          ∧ r.2.mem ((c.tc : Thread Cert.AdOutIdeal.nD Cert.AdOutIdeal.τ).loc Cert.AdOutIdeal.main_arg0) = m ((c.tc : Thread Cert.AdOutIdeal.nD Cert.AdOutIdeal.τ).loc Cert.AdOutIdeal.main_arg0)
          ∧ r.2.mem ((c.tc : Thread Cert.AdOutIdeal.nD Cert.AdOutIdeal.τ).loc Cert.AdOutIdeal.main_arg1) = m ((c.tc : Thread Cert.AdOutIdeal.nD Cert.AdOutIdeal.τ).loc Cert.AdOutIdeal.main_arg1)
          ∧ r.2.mem ((c.tc : Thread Cert.AdOutIdeal.nD Cert.AdOutIdeal.τ).loc Cert.AdOutIdeal.main_arg2) = m ((c.tc : Thread Cert.AdOutIdeal.nD Cert.AdOutIdeal.τ).loc Cert.AdOutIdeal.main_arg2)
          ∧ r.2.mem ((c.tc : Thread Cert.AdOutIdeal.nD Cert.AdOutIdeal.τ).loc Cert.AdOutIdeal.main_arg3) = m ((c.tc : Thread Cert.AdOutIdeal.nD Cert.AdOutIdeal.τ).loc Cert.AdOutIdeal.main_arg3))
      ∧ θ_run (Cert.AdOutRefIdeal.defs (F := Ideal)) (onTc (τ := Cert.AdOutRefIdeal.τ) (Cert.AdOutRefIdeal.main (F := Ideal))) ⟨m', fun _ => 0, g'⟩ (fun r => ∀ c : Dev Cert.AdOutRefIdeal.nD,
          r.2.mem ((c.tc : Thread Cert.AdOutRefIdeal.nD Cert.AdOutRefIdeal.τ).loc Cert.AdOutRefIdeal.main_v0) = v0 c
          ∧ r.2.mem ((c.tc : Thread Cert.AdOutRefIdeal.nD Cert.AdOutRefIdeal.τ).loc Cert.AdOutRefIdeal.main_v25) = v1 c
          ∧ r.2.mem ((c.tc : Thread Cert.AdOutRefIdeal.nD Cert.AdOutRefIdeal.τ).loc Cert.AdOutRefIdeal.main_v26) = v2 c
          ∧ r.2.mem ((c.tc : Thread Cert.AdOutRefIdeal.nD Cert.AdOutRefIdeal.τ).loc Cert.AdOutRefIdeal.main_v27) = v3 c
          ∧ r.2.mem ((c.tc : Thread Cert.AdOutRefIdeal.nD Cert.AdOutRefIdeal.τ).loc Cert.AdOutRefIdeal.main_arg0) = m' ((c.tc : Thread Cert.AdOutRefIdeal.nD Cert.AdOutRefIdeal.τ).loc Cert.AdOutRefIdeal.main_arg0)
          ∧ r.2.mem ((c.tc : Thread Cert.AdOutRefIdeal.nD Cert.AdOutRefIdeal.τ).loc Cert.AdOutRefIdeal.main_arg1) = m' ((c.tc : Thread Cert.AdOutRefIdeal.nD Cert.AdOutRefIdeal.τ).loc Cert.AdOutRefIdeal.main_arg1)
          ∧ r.2.mem ((c.tc : Thread Cert.AdOutRefIdeal.nD Cert.AdOutRefIdeal.τ).loc Cert.AdOutRefIdeal.main_arg2) = m' ((c.tc : Thread Cert.AdOutRefIdeal.nD Cert.AdOutRefIdeal.τ).loc Cert.AdOutRefIdeal.main_arg2)
          ∧ r.2.mem ((c.tc : Thread Cert.AdOutRefIdeal.nD Cert.AdOutRefIdeal.τ).loc Cert.AdOutRefIdeal.main_arg3) = m' ((c.tc : Thread Cert.AdOutRefIdeal.nD Cert.AdOutRefIdeal.τ).loc Cert.AdOutRefIdeal.main_arg3))

def preserves_AdMIn_AdMInIdeal : Prop :=
  True

def algebraic_AdMInIdeal_AdMInRefIdeal [hAdMInIdeal : Cert.AdMInIdeal.Facts] [hAdMInRefIdeal : Cert.AdMInRefIdeal.Facts] : Prop :=
  ∀ (m : (ℓ : Loc Cert.AdMInIdeal.nD Cert.AdMInIdeal.τ Cert.AdMInIdeal.sig) → Buf (Elt Ideal) ℓ) (g : Dev Cert.AdMInIdeal.nD → PrngReg)
    (m' : (ℓ : Loc Cert.AdMInRefIdeal.nD Cert.AdMInRefIdeal.τ Cert.AdMInRefIdeal.sig) → Buf (Elt Ideal) ℓ) (g' : Dev Cert.AdMInRefIdeal.nD → PrngReg), Pre_AdMInIdeal m →
    (∀ c : Dev Cert.AdMInIdeal.nD,
      m' ((c.tc : Thread Cert.AdMInRefIdeal.nD Cert.AdMInRefIdeal.τ).loc Cert.AdMInRefIdeal.main_arg0) = m ((c.tc : Thread Cert.AdMInIdeal.nD Cert.AdMInIdeal.τ).loc Cert.AdMInIdeal.main_arg0)
      ∧ m' ((c.tc : Thread Cert.AdMInRefIdeal.nD Cert.AdMInRefIdeal.τ).loc Cert.AdMInRefIdeal.main_arg1) = m ((c.tc : Thread Cert.AdMInIdeal.nD Cert.AdMInIdeal.τ).loc Cert.AdMInIdeal.main_arg1)
      ∧ m' ((c.tc : Thread Cert.AdMInRefIdeal.nD Cert.AdMInRefIdeal.τ).loc Cert.AdMInRefIdeal.main_arg2) = m ((c.tc : Thread Cert.AdMInIdeal.nD Cert.AdMInIdeal.τ).loc Cert.AdMInIdeal.main_arg2)
      ∧ m' ((c.tc : Thread Cert.AdMInRefIdeal.nD Cert.AdMInRefIdeal.τ).loc Cert.AdMInRefIdeal.main_arg3) = m ((c.tc : Thread Cert.AdMInIdeal.nD Cert.AdMInIdeal.τ).loc Cert.AdMInIdeal.main_arg3)) →
    ∃ (v0 : (c : Dev Cert.AdMInIdeal.nD) → Buf (Elt Ideal) ((c.tc : Thread Cert.AdMInIdeal.nD Cert.AdMInIdeal.τ).loc Cert.AdMInIdeal.main_v4_0)) (v1 : (c : Dev Cert.AdMInIdeal.nD) → Buf (Elt Ideal) ((c.tc : Thread Cert.AdMInIdeal.nD Cert.AdMInIdeal.τ).loc Cert.AdMInIdeal.main_v4_1)) (v2 : (c : Dev Cert.AdMInIdeal.nD) → Buf (Elt Ideal) ((c.tc : Thread Cert.AdMInIdeal.nD Cert.AdMInIdeal.τ).loc Cert.AdMInIdeal.main_v4_2)) (v3 : (c : Dev Cert.AdMInIdeal.nD) → Buf (Elt Ideal) ((c.tc : Thread Cert.AdMInIdeal.nD Cert.AdMInIdeal.τ).loc Cert.AdMInIdeal.main_v4_3)),
      θ_run (Cert.AdMInIdeal.defs (F := Ideal)) (onTc (τ := Cert.AdMInIdeal.τ) (Cert.AdMInIdeal.main (F := Ideal))) ⟨m, fun _ => 0, g⟩ (fun r => ∀ c : Dev Cert.AdMInIdeal.nD,
          r.2.mem ((c.tc : Thread Cert.AdMInIdeal.nD Cert.AdMInIdeal.τ).loc Cert.AdMInIdeal.main_v4_0) = v0 c
          ∧ r.2.mem ((c.tc : Thread Cert.AdMInIdeal.nD Cert.AdMInIdeal.τ).loc Cert.AdMInIdeal.main_v4_1) = v1 c
          ∧ r.2.mem ((c.tc : Thread Cert.AdMInIdeal.nD Cert.AdMInIdeal.τ).loc Cert.AdMInIdeal.main_v4_2) = v2 c
          ∧ r.2.mem ((c.tc : Thread Cert.AdMInIdeal.nD Cert.AdMInIdeal.τ).loc Cert.AdMInIdeal.main_v4_3) = v3 c
          ∧ r.2.mem ((c.tc : Thread Cert.AdMInIdeal.nD Cert.AdMInIdeal.τ).loc Cert.AdMInIdeal.main_arg0) = m ((c.tc : Thread Cert.AdMInIdeal.nD Cert.AdMInIdeal.τ).loc Cert.AdMInIdeal.main_arg0)
          ∧ r.2.mem ((c.tc : Thread Cert.AdMInIdeal.nD Cert.AdMInIdeal.τ).loc Cert.AdMInIdeal.main_arg1) = m ((c.tc : Thread Cert.AdMInIdeal.nD Cert.AdMInIdeal.τ).loc Cert.AdMInIdeal.main_arg1)
          ∧ r.2.mem ((c.tc : Thread Cert.AdMInIdeal.nD Cert.AdMInIdeal.τ).loc Cert.AdMInIdeal.main_arg2) = m ((c.tc : Thread Cert.AdMInIdeal.nD Cert.AdMInIdeal.τ).loc Cert.AdMInIdeal.main_arg2)
          ∧ r.2.mem ((c.tc : Thread Cert.AdMInIdeal.nD Cert.AdMInIdeal.τ).loc Cert.AdMInIdeal.main_arg3) = m ((c.tc : Thread Cert.AdMInIdeal.nD Cert.AdMInIdeal.τ).loc Cert.AdMInIdeal.main_arg3))
      ∧ θ_run (Cert.AdMInRefIdeal.defs (F := Ideal)) (onTc (τ := Cert.AdMInRefIdeal.τ) (Cert.AdMInRefIdeal.main (F := Ideal))) ⟨m', fun _ => 0, g'⟩ (fun r => ∀ c : Dev Cert.AdMInRefIdeal.nD,
          r.2.mem ((c.tc : Thread Cert.AdMInRefIdeal.nD Cert.AdMInRefIdeal.τ).loc Cert.AdMInRefIdeal.main_v0) = v0 c
          ∧ r.2.mem ((c.tc : Thread Cert.AdMInRefIdeal.nD Cert.AdMInRefIdeal.τ).loc Cert.AdMInRefIdeal.main_v25) = v1 c
          ∧ r.2.mem ((c.tc : Thread Cert.AdMInRefIdeal.nD Cert.AdMInRefIdeal.τ).loc Cert.AdMInRefIdeal.main_v26) = v2 c
          ∧ r.2.mem ((c.tc : Thread Cert.AdMInRefIdeal.nD Cert.AdMInRefIdeal.τ).loc Cert.AdMInRefIdeal.main_v27) = v3 c
          ∧ r.2.mem ((c.tc : Thread Cert.AdMInRefIdeal.nD Cert.AdMInRefIdeal.τ).loc Cert.AdMInRefIdeal.main_arg0) = m' ((c.tc : Thread Cert.AdMInRefIdeal.nD Cert.AdMInRefIdeal.τ).loc Cert.AdMInRefIdeal.main_arg0)
          ∧ r.2.mem ((c.tc : Thread Cert.AdMInRefIdeal.nD Cert.AdMInRefIdeal.τ).loc Cert.AdMInRefIdeal.main_arg1) = m' ((c.tc : Thread Cert.AdMInRefIdeal.nD Cert.AdMInRefIdeal.τ).loc Cert.AdMInRefIdeal.main_arg1)
          ∧ r.2.mem ((c.tc : Thread Cert.AdMInRefIdeal.nD Cert.AdMInRefIdeal.τ).loc Cert.AdMInRefIdeal.main_arg2) = m' ((c.tc : Thread Cert.AdMInRefIdeal.nD Cert.AdMInRefIdeal.τ).loc Cert.AdMInRefIdeal.main_arg2)
          ∧ r.2.mem ((c.tc : Thread Cert.AdMInRefIdeal.nD Cert.AdMInRefIdeal.τ).loc Cert.AdMInRefIdeal.main_arg3) = m' ((c.tc : Thread Cert.AdMInRefIdeal.nD Cert.AdMInRefIdeal.τ).loc Cert.AdMInRefIdeal.main_arg3))

def preserves_AdMOut_AdMOutIdeal : Prop :=
  True

def algebraic_AdMOutIdeal_AdMOutRefIdeal [hAdMOutIdeal : Cert.AdMOutIdeal.Facts] [hAdMOutRefIdeal : Cert.AdMOutRefIdeal.Facts] : Prop :=
  ∀ (m : (ℓ : Loc Cert.AdMOutIdeal.nD Cert.AdMOutIdeal.τ Cert.AdMOutIdeal.sig) → Buf (Elt Ideal) ℓ) (g : Dev Cert.AdMOutIdeal.nD → PrngReg)
    (m' : (ℓ : Loc Cert.AdMOutRefIdeal.nD Cert.AdMOutRefIdeal.τ Cert.AdMOutRefIdeal.sig) → Buf (Elt Ideal) ℓ) (g' : Dev Cert.AdMOutRefIdeal.nD → PrngReg), Pre_AdMOutIdeal m →
    (∀ c : Dev Cert.AdMOutIdeal.nD,
      m' ((c.tc : Thread Cert.AdMOutRefIdeal.nD Cert.AdMOutRefIdeal.τ).loc Cert.AdMOutRefIdeal.main_arg0) = m ((c.tc : Thread Cert.AdMOutIdeal.nD Cert.AdMOutIdeal.τ).loc Cert.AdMOutIdeal.main_arg0)
      ∧ m' ((c.tc : Thread Cert.AdMOutRefIdeal.nD Cert.AdMOutRefIdeal.τ).loc Cert.AdMOutRefIdeal.main_arg1) = m ((c.tc : Thread Cert.AdMOutIdeal.nD Cert.AdMOutIdeal.τ).loc Cert.AdMOutIdeal.main_arg1)
      ∧ m' ((c.tc : Thread Cert.AdMOutRefIdeal.nD Cert.AdMOutRefIdeal.τ).loc Cert.AdMOutRefIdeal.main_arg2) = m ((c.tc : Thread Cert.AdMOutIdeal.nD Cert.AdMOutIdeal.τ).loc Cert.AdMOutIdeal.main_arg2)
      ∧ m' ((c.tc : Thread Cert.AdMOutRefIdeal.nD Cert.AdMOutRefIdeal.τ).loc Cert.AdMOutRefIdeal.main_arg3) = m ((c.tc : Thread Cert.AdMOutIdeal.nD Cert.AdMOutIdeal.τ).loc Cert.AdMOutIdeal.main_arg3)) →
    ∃ (v0 : (c : Dev Cert.AdMOutIdeal.nD) → Buf (Elt Ideal) ((c.tc : Thread Cert.AdMOutIdeal.nD Cert.AdMOutIdeal.τ).loc Cert.AdMOutIdeal.main_v4_0)) (v1 : (c : Dev Cert.AdMOutIdeal.nD) → Buf (Elt Ideal) ((c.tc : Thread Cert.AdMOutIdeal.nD Cert.AdMOutIdeal.τ).loc Cert.AdMOutIdeal.main_v4_1)) (v2 : (c : Dev Cert.AdMOutIdeal.nD) → Buf (Elt Ideal) ((c.tc : Thread Cert.AdMOutIdeal.nD Cert.AdMOutIdeal.τ).loc Cert.AdMOutIdeal.main_v4_2)) (v3 : (c : Dev Cert.AdMOutIdeal.nD) → Buf (Elt Ideal) ((c.tc : Thread Cert.AdMOutIdeal.nD Cert.AdMOutIdeal.τ).loc Cert.AdMOutIdeal.main_v4_3)),
      θ_run (Cert.AdMOutIdeal.defs (F := Ideal)) (onTc (τ := Cert.AdMOutIdeal.τ) (Cert.AdMOutIdeal.main (F := Ideal))) ⟨m, fun _ => 0, g⟩ (fun r => ∀ c : Dev Cert.AdMOutIdeal.nD,
          r.2.mem ((c.tc : Thread Cert.AdMOutIdeal.nD Cert.AdMOutIdeal.τ).loc Cert.AdMOutIdeal.main_v4_0) = v0 c
          ∧ r.2.mem ((c.tc : Thread Cert.AdMOutIdeal.nD Cert.AdMOutIdeal.τ).loc Cert.AdMOutIdeal.main_v4_1) = v1 c
          ∧ r.2.mem ((c.tc : Thread Cert.AdMOutIdeal.nD Cert.AdMOutIdeal.τ).loc Cert.AdMOutIdeal.main_v4_2) = v2 c
          ∧ r.2.mem ((c.tc : Thread Cert.AdMOutIdeal.nD Cert.AdMOutIdeal.τ).loc Cert.AdMOutIdeal.main_v4_3) = v3 c
          ∧ r.2.mem ((c.tc : Thread Cert.AdMOutIdeal.nD Cert.AdMOutIdeal.τ).loc Cert.AdMOutIdeal.main_arg0) = m ((c.tc : Thread Cert.AdMOutIdeal.nD Cert.AdMOutIdeal.τ).loc Cert.AdMOutIdeal.main_arg0)
          ∧ r.2.mem ((c.tc : Thread Cert.AdMOutIdeal.nD Cert.AdMOutIdeal.τ).loc Cert.AdMOutIdeal.main_arg1) = m ((c.tc : Thread Cert.AdMOutIdeal.nD Cert.AdMOutIdeal.τ).loc Cert.AdMOutIdeal.main_arg1)
          ∧ r.2.mem ((c.tc : Thread Cert.AdMOutIdeal.nD Cert.AdMOutIdeal.τ).loc Cert.AdMOutIdeal.main_arg2) = m ((c.tc : Thread Cert.AdMOutIdeal.nD Cert.AdMOutIdeal.τ).loc Cert.AdMOutIdeal.main_arg2)
          ∧ r.2.mem ((c.tc : Thread Cert.AdMOutIdeal.nD Cert.AdMOutIdeal.τ).loc Cert.AdMOutIdeal.main_arg3) = m ((c.tc : Thread Cert.AdMOutIdeal.nD Cert.AdMOutIdeal.τ).loc Cert.AdMOutIdeal.main_arg3))
      ∧ θ_run (Cert.AdMOutRefIdeal.defs (F := Ideal)) (onTc (τ := Cert.AdMOutRefIdeal.τ) (Cert.AdMOutRefIdeal.main (F := Ideal))) ⟨m', fun _ => 0, g'⟩ (fun r => ∀ c : Dev Cert.AdMOutRefIdeal.nD,
          r.2.mem ((c.tc : Thread Cert.AdMOutRefIdeal.nD Cert.AdMOutRefIdeal.τ).loc Cert.AdMOutRefIdeal.main_v0) = v0 c
          ∧ r.2.mem ((c.tc : Thread Cert.AdMOutRefIdeal.nD Cert.AdMOutRefIdeal.τ).loc Cert.AdMOutRefIdeal.main_v25) = v1 c
          ∧ r.2.mem ((c.tc : Thread Cert.AdMOutRefIdeal.nD Cert.AdMOutRefIdeal.τ).loc Cert.AdMOutRefIdeal.main_v26) = v2 c
          ∧ r.2.mem ((c.tc : Thread Cert.AdMOutRefIdeal.nD Cert.AdMOutRefIdeal.τ).loc Cert.AdMOutRefIdeal.main_v27) = v3 c
          ∧ r.2.mem ((c.tc : Thread Cert.AdMOutRefIdeal.nD Cert.AdMOutRefIdeal.τ).loc Cert.AdMOutRefIdeal.main_arg0) = m' ((c.tc : Thread Cert.AdMOutRefIdeal.nD Cert.AdMOutRefIdeal.τ).loc Cert.AdMOutRefIdeal.main_arg0)
          ∧ r.2.mem ((c.tc : Thread Cert.AdMOutRefIdeal.nD Cert.AdMOutRefIdeal.τ).loc Cert.AdMOutRefIdeal.main_arg1) = m' ((c.tc : Thread Cert.AdMOutRefIdeal.nD Cert.AdMOutRefIdeal.τ).loc Cert.AdMOutRefIdeal.main_arg1)
          ∧ r.2.mem ((c.tc : Thread Cert.AdMOutRefIdeal.nD Cert.AdMOutRefIdeal.τ).loc Cert.AdMOutRefIdeal.main_arg2) = m' ((c.tc : Thread Cert.AdMOutRefIdeal.nD Cert.AdMOutRefIdeal.τ).loc Cert.AdMOutRefIdeal.main_arg2)
          ∧ r.2.mem ((c.tc : Thread Cert.AdMOutRefIdeal.nD Cert.AdMOutRefIdeal.τ).loc Cert.AdMOutRefIdeal.main_arg3) = m' ((c.tc : Thread Cert.AdMOutRefIdeal.nD Cert.AdMOutRefIdeal.τ).loc Cert.AdMOutRefIdeal.main_arg3))

def Claim : Prop :=
  ∃ (hKernel : Cert.Kernel.Facts) (hKernelIdeal : Cert.KernelIdeal.Facts) (hReferenceIdeal : Cert.ReferenceIdeal.Facts) (hGate : Cert.Gate.Facts) (hGateIdeal : Cert.GateIdeal.Facts) (hGateRefIdeal : Cert.GateRefIdeal.Facts) (hWG : Cert.WG.Facts) (hWGIdeal : Cert.WGIdeal.Facts) (hWGRefIdeal : Cert.WGRefIdeal.Facts) (hWU : Cert.WU.Facts) (hWUIdeal : Cert.WUIdeal.Facts) (hWURefIdeal : Cert.WURefIdeal.Facts) (hWOut : Cert.WOut.Facts) (hWOutIdeal : Cert.WOutIdeal.Facts) (hWOutRefIdeal : Cert.WOutRefIdeal.Facts) (hIn : Cert.In.Facts) (hInIdeal : Cert.InIdeal.Facts) (hInRefIdeal : Cert.InRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hMOut : Cert.MOut.Facts) (hMOutIdeal : Cert.MOutIdeal.Facts) (hMOutRefIdeal : Cert.MOutRefIdeal.Facts) (hMWOut : Cert.MWOut.Facts) (hMWOutIdeal : Cert.MWOutIdeal.Facts) (hMWOutRefIdeal : Cert.MWOutRefIdeal.Facts) (hMWS : Cert.MWS.Facts) (hMWSIdeal : Cert.MWSIdeal.Facts) (hMWSRefIdeal : Cert.MWSRefIdeal.Facts) (hMWGm : Cert.MWGm.Facts) (hMWGmIdeal : Cert.MWGmIdeal.Facts) (hMWGmRefIdeal : Cert.MWGmRefIdeal.Facts) (hMIn : Cert.MIn.Facts) (hMInIdeal : Cert.MInIdeal.Facts) (hMInRefIdeal : Cert.MInRefIdeal.Facts) (hLoss : Cert.Loss.Facts) (hLossIdeal : Cert.LossIdeal.Facts) (hLossRefIdeal : Cert.LossRefIdeal.Facts) (hAdIn : Cert.AdIn.Facts) (hAdInIdeal : Cert.AdInIdeal.Facts) (hAdInRefIdeal : Cert.AdInRefIdeal.Facts) (hAdOut : Cert.AdOut.Facts) (hAdOutIdeal : Cert.AdOutIdeal.Facts) (hAdOutRefIdeal : Cert.AdOutRefIdeal.Facts) (hAdMIn : Cert.AdMIn.Facts) (hAdMInIdeal : Cert.AdMInIdeal.Facts) (hAdMInRefIdeal : Cert.AdMInRefIdeal.Facts) (hAdMOut : Cert.AdMOut.Facts) (hAdMOutIdeal : Cert.AdMOutIdeal.Facts) (hAdMOutRefIdeal : Cert.AdMOutRefIdeal.Facts) (hPre_finite : Cert.Pre_finite.Facts) (hPre_finite_gate : Cert.Pre_finite_gate.Facts) (hPre_finite_in : Cert.Pre_finite_in.Facts) (hPre_finite_up : Cert.Pre_finite_up.Facts) (hPre_finite_m_in : Cert.Pre_finite_m_in.Facts) (hPre_finite_loss : Cert.Pre_finite_loss.Facts) (hOn_left_half : Cert.On_left_half.Facts) (hOn_left_third : Cert.On_left_third.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Gate (hGate := hGate)
    ∧ quiescent_GateIdeal (hGateIdeal := hGateIdeal)
    ∧ quiescent_GateIdeal_pre_finite_gate (hGateIdeal := hGateIdeal) (hPre_finite_gate := hPre_finite_gate)
    ∧ quiescent_GateRefIdeal (hGateRefIdeal := hGateRefIdeal)
    ∧ quiescent_GateRefIdeal_pre_finite_gate (hGateRefIdeal := hGateRefIdeal) (hPre_finite_gate := hPre_finite_gate)
    ∧ quiescent_WG (hWG := hWG)
    ∧ quiescent_WGIdeal (hWGIdeal := hWGIdeal)
    ∧ quiescent_WGRefIdeal (hWGRefIdeal := hWGRefIdeal)
    ∧ quiescent_WU (hWU := hWU)
    ∧ quiescent_WUIdeal (hWUIdeal := hWUIdeal)
    ∧ quiescent_WURefIdeal (hWURefIdeal := hWURefIdeal)
    ∧ quiescent_WOut (hWOut := hWOut)
    ∧ quiescent_WOutIdeal (hWOutIdeal := hWOutIdeal)
    ∧ quiescent_WOutRefIdeal (hWOutRefIdeal := hWOutRefIdeal)
    ∧ quiescent_In (hIn := hIn)
    ∧ quiescent_InIdeal (hInIdeal := hInIdeal)
    ∧ quiescent_InIdeal_pre_finite_in (hInIdeal := hInIdeal) (hPre_finite_in := hPre_finite_in)
    ∧ quiescent_InRefIdeal (hInRefIdeal := hInRefIdeal)
    ∧ quiescent_InRefIdeal_pre_finite_in (hInRefIdeal := hInRefIdeal) (hPre_finite_in := hPre_finite_in)
    ∧ quiescent_Up (hUp := hUp)
    ∧ quiescent_UpIdeal (hUpIdeal := hUpIdeal)
    ∧ quiescent_UpIdeal_pre_finite_up (hUpIdeal := hUpIdeal) (hPre_finite_up := hPre_finite_up)
    ∧ quiescent_UpRefIdeal (hUpRefIdeal := hUpRefIdeal)
    ∧ quiescent_UpRefIdeal_pre_finite_up (hUpRefIdeal := hUpRefIdeal) (hPre_finite_up := hPre_finite_up)
    ∧ quiescent_Down (hDown := hDown)
    ∧ quiescent_DownIdeal (hDownIdeal := hDownIdeal)
    ∧ quiescent_DownRefIdeal (hDownRefIdeal := hDownRefIdeal)
    ∧ quiescent_MOut (hMOut := hMOut)
    ∧ quiescent_MOutIdeal (hMOutIdeal := hMOutIdeal)
    ∧ quiescent_MOutRefIdeal (hMOutRefIdeal := hMOutRefIdeal)
    ∧ quiescent_MWOut (hMWOut := hMWOut)
    ∧ quiescent_MWOutIdeal (hMWOutIdeal := hMWOutIdeal)
    ∧ quiescent_MWOutRefIdeal (hMWOutRefIdeal := hMWOutRefIdeal)
    ∧ quiescent_MWS (hMWS := hMWS)
    ∧ quiescent_MWSIdeal (hMWSIdeal := hMWSIdeal)
    ∧ quiescent_MWSRefIdeal (hMWSRefIdeal := hMWSRefIdeal)
    ∧ quiescent_MWGm (hMWGm := hMWGm)
    ∧ quiescent_MWGmIdeal (hMWGmIdeal := hMWGmIdeal)
    ∧ quiescent_MWGmRefIdeal (hMWGmRefIdeal := hMWGmRefIdeal)
    ∧ quiescent_MIn (hMIn := hMIn)
    ∧ quiescent_MInIdeal (hMInIdeal := hMInIdeal)
    ∧ quiescent_MInIdeal_pre_finite_m_in (hMInIdeal := hMInIdeal) (hPre_finite_m_in := hPre_finite_m_in)
    ∧ quiescent_MInRefIdeal (hMInRefIdeal := hMInRefIdeal)
    ∧ quiescent_MInRefIdeal_pre_finite_m_in (hMInRefIdeal := hMInRefIdeal) (hPre_finite_m_in := hPre_finite_m_in)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_AdIn (hAdIn := hAdIn)
    ∧ quiescent_AdInIdeal (hAdInIdeal := hAdInIdeal)
    ∧ quiescent_AdInRefIdeal (hAdInRefIdeal := hAdInRefIdeal)
    ∧ quiescent_AdOut (hAdOut := hAdOut)
    ∧ quiescent_AdOutIdeal (hAdOutIdeal := hAdOutIdeal)
    ∧ quiescent_AdOutRefIdeal (hAdOutRefIdeal := hAdOutRefIdeal)
    ∧ quiescent_AdMIn (hAdMIn := hAdMIn)
    ∧ quiescent_AdMInIdeal (hAdMInIdeal := hAdMInIdeal)
    ∧ quiescent_AdMInRefIdeal (hAdMInRefIdeal := hAdMInRefIdeal)
    ∧ quiescent_AdMOut (hAdMOut := hAdMOut)
    ∧ quiescent_AdMOutIdeal (hAdMOutIdeal := hAdMOutIdeal)
    ∧ quiescent_AdMOutRefIdeal (hAdMOutRefIdeal := hAdMOutRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Gate_GateIdeal
    ∧ algebraic_GateIdeal_GateRefIdeal_pre_finite_gate (hGateIdeal := hGateIdeal) (hGateRefIdeal := hGateRefIdeal) (hPre_finite_gate := hPre_finite_gate)
    ∧ preserves_WG_WGIdeal
    ∧ algebraic_WGIdeal_WGRefIdeal_on_left_half (hWGIdeal := hWGIdeal) (hWGRefIdeal := hWGRefIdeal) (hOn_left_half := hOn_left_half)
    ∧ preserves_WU_WUIdeal
    ∧ algebraic_WUIdeal_WURefIdeal (hWUIdeal := hWUIdeal) (hWURefIdeal := hWURefIdeal)
    ∧ preserves_WOut_WOutIdeal
    ∧ algebraic_WOutIdeal_WOutRefIdeal (hWOutIdeal := hWOutIdeal) (hWOutRefIdeal := hWOutRefIdeal)
    ∧ preserves_In_InIdeal
    ∧ algebraic_InIdeal_InRefIdeal_pre_finite_in (hInIdeal := hInIdeal) (hInRefIdeal := hInRefIdeal) (hPre_finite_in := hPre_finite_in)
    ∧ preserves_Up_UpIdeal
    ∧ algebraic_UpIdeal_UpRefIdeal_pre_finite_up (hUpIdeal := hUpIdeal) (hUpRefIdeal := hUpRefIdeal) (hPre_finite_up := hPre_finite_up)
    ∧ preserves_Down_DownIdeal
    ∧ algebraic_DownIdeal_DownRefIdeal (hDownIdeal := hDownIdeal) (hDownRefIdeal := hDownRefIdeal)
    ∧ preserves_MOut_MOutIdeal
    ∧ algebraic_MOutIdeal_MOutRefIdeal (hMOutIdeal := hMOutIdeal) (hMOutRefIdeal := hMOutRefIdeal)
    ∧ preserves_MWOut_MWOutIdeal
    ∧ algebraic_MWOutIdeal_MWOutRefIdeal (hMWOutIdeal := hMWOutIdeal) (hMWOutRefIdeal := hMWOutRefIdeal)
    ∧ preserves_MWS_MWSIdeal
    ∧ algebraic_MWSIdeal_MWSRefIdeal_on_left_third (hMWSIdeal := hMWSIdeal) (hMWSRefIdeal := hMWSRefIdeal) (hOn_left_third := hOn_left_third)
    ∧ preserves_MWGm_MWGmIdeal
    ∧ algebraic_MWGmIdeal_MWGmRefIdeal (hMWGmIdeal := hMWGmIdeal) (hMWGmRefIdeal := hMWGmRefIdeal)
    ∧ preserves_MIn_MInIdeal
    ∧ algebraic_MInIdeal_MInRefIdeal_pre_finite_m_in (hMInIdeal := hMInIdeal) (hMInRefIdeal := hMInRefIdeal) (hPre_finite_m_in := hPre_finite_m_in)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_AdIn_AdInIdeal
    ∧ algebraic_AdInIdeal_AdInRefIdeal (hAdInIdeal := hAdInIdeal) (hAdInRefIdeal := hAdInRefIdeal)
    ∧ preserves_AdOut_AdOutIdeal
    ∧ algebraic_AdOutIdeal_AdOutRefIdeal (hAdOutIdeal := hAdOutIdeal) (hAdOutRefIdeal := hAdOutRefIdeal)
    ∧ preserves_AdMIn_AdMInIdeal
    ∧ algebraic_AdMInIdeal_AdMInRefIdeal (hAdMInIdeal := hAdMInIdeal) (hAdMInRefIdeal := hAdMInRefIdeal)
    ∧ preserves_AdMOut_AdMOutIdeal
    ∧ algebraic_AdMOutIdeal_AdMOutRefIdeal (hAdMOutIdeal := hAdMOutIdeal) (hAdMOutRefIdeal := hAdMOutRefIdeal)
-- ==== On_left_half.lean ====
abbrev S8192x1024 : Shape := ⟨2, ![8192, 1024]⟩
abbrev S8192x2816 : Shape := ⟨2, ![8192, 2816]⟩
abbrev S1024x5632 : Shape := ⟨2, ![1024, 5632]⟩
abbrev S_ : Shape := ⟨0, ![]⟩

class Facts : Prop where
  bcast_S_S1024x5632 : S_.BroadcastsInDim S1024x5632 (![] : Fin 0 → Fin S1024x5632.rank)

variable [Facts]

def fn {F : FTy → Type} [FloatOps F] (main_arg0 : FVec F S8192x1024 .bf16) (main_arg1 : FVec F S8192x2816 .bf16) : IVec S1024x5632 1 :=
  let main_v0 : IVec S1024x5632 32 := iotaInDim S1024x5632 32 1
  let main_c : IVec S_ 32 := constantI S_ 32 2816#32
  let main_v1 : IVec S1024x5632 32 := broadcastInDim S1024x5632 ![] bcast_S_S1024x5632 main_c
  let main_v2 : IVec S1024x5632 1 := cmpi .slt main_v0 main_v1
  main_v2
-- ==== On_left_third.lean ====
abbrev S8192x1024 : Shape := ⟨2, ![8192, 1024]⟩
abbrev S8192x512 : Shape := ⟨2, ![8192, 512]⟩
abbrev S1024x1536 : Shape := ⟨2, ![1024, 1536]⟩
abbrev S_ : Shape := ⟨0, ![]⟩

class Facts : Prop where
  bcast_S_S1024x1536 : S_.BroadcastsInDim S1024x1536 (![] : Fin 0 → Fin S1024x1536.rank)

variable [Facts]

def fn {F : FTy → Type} [FloatOps F] (main_arg0 : FVec F S8192x1024 .bf16) (main_arg1 : FVec F S8192x512 .bf16) : IVec S1024x1536 1 :=
  let main_v0 : IVec S1024x1536 32 := iotaInDim S1024x1536 32 1
  let main_c : IVec S_ 32 := constantI S_ 32 512#32
  let main_v1 : IVec S1024x1536 32 := broadcastInDim S1024x1536 ![] bcast_S_S1024x1536 main_c
  let main_v2 : IVec S1024x1536 1 := cmpi .slt main_v0 main_v1
  main_v2
-- ==== Pre_finite.lean ====
abbrev S8192x1024 : Shape := ⟨2, ![8192, 1024]⟩
abbrev S8192x512 : Shape := ⟨2, ![8192, 512]⟩
abbrev S512 : Shape := ⟨1, ![512]⟩
abbrev S4x128x128 : Shape := ⟨3, ![4, 128, 128]⟩
abbrev S4x128 : Shape := ⟨2, ![4, 128]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S512 : S_.BroadcastsInDim S512 (![] : Fin 0 → Fin S512.rank)
  reducesTo_S512_S_d0 : S512.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part1 {F : FTy → Type} [FloatOps F] (main_arg4 : FVec F S4x128 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg4
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  main_v23

def fn {F : FTy → Type} [FloatOps F] (main_arg0 : FVec F S8192x1024 .f32) (main_arg1 : FVec F S8192x512 .f32) (main_arg2 : FVec F S512 .f32) (main_arg3 : FVec F S4x128x128 .f32) (main_arg4 : FVec F S4x128 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S4x128x128 .f32 := Host.absf main_arg3
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg4 main_v13 main_v16
-- ==== Pre_finite_gate.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

class Facts : Prop where
  bcast_S_S8192x2816 : S_.BroadcastsInDim S8192x2816 (![] : Fin 0 → Fin S8192x2816.rank)
  reducesTo_S8192x2816_S_d0_1 : S8192x2816.ReducesTo [0, 1] S_
  h_S_ : 0 < S_.numel
  bitsLt_bf16_f32 : FTy.bits .bf16 < FTy.bits .f32
  bcast_S_S2816x1024 : S_.BroadcastsInDim S2816x1024 (![] : Fin 0 → Fin S2816x1024.rank)
  reducesTo_S2816x1024_S_d0_1 : S2816x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_v14 : IVec S_ 1) (main_v15 : FVec F S8192x1024 .f32) (main_v16 : FVec F S8192x1024 .f32) : IVec S_ 1 :=
  let main_v17 : IVec S8192x1024 1 := cmpf .olt main_v15 main_v16
  let main_c_5 : IVec S_ 1 := constantI S_ 1 1#1
  let main_v18 : IVec S_ 1 := (fun x v => Host.reduce IntOp.andi x v reducesTo_S8192x1024_S_d0_1 h_S_) main_v17 main_c_5
  let main_v19 : IVec S_ 1 := andi main_v14 main_v18
  main_v19

def fn {F : FTy → Type} [FloatOps F] (main_arg0 : FVec F S8192x2816 .f32) (main_arg1 : FVec F S8192x2816 .f32) (main_arg2 : FVec F S2816x1024 .bf16) (main_arg3 : FVec F S8192x1024 .f32) : IVec S_ 1 :=
  let main_v0 : FVec F S8192x2816 .f32 := Host.absf main_arg0
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_c : IVec S_ 1 := constantI S_ 1 1#1
  let main_v3 : IVec S_ 1 := (fun x v => Host.reduce IntOp.andi x v reducesTo_S8192x2816_S_d0_1 h_S_) main_v2 main_c
  let main_v4 : FVec F S8192x2816 .f32 := Host.absf main_arg1
  let main_cst_0 : FVec F S_ .f32 := constant S_ .f32 0x7F800000#32
  let main_v5 : FVec F S8192x2816 .f32 := broadcastInDim S8192x2816 ![] bcast_S_S8192x2816 main_cst_0
  let main_v6 : IVec S8192x2816 1 := cmpf .olt main_v4 main_v5
  let main_c_1 : IVec S_ 1 := constantI S_ 1 1#1
  let main_v7 : IVec S_ 1 := (fun x v => Host.reduce IntOp.andi x v reducesTo_S8192x2816_S_d0_1 h_S_) main_v6 main_c_1
  let main_v8 : IVec S_ 1 := andi main_v3 main_v7
  let main_v9 : FVec F S2816x1024 .f32 := (extf .f32 · bitsLt_bf16_f32) main_arg2
  let main_v10 : FVec F S2816x1024 .f32 := Host.absf main_v9
  let main_cst_2 : FVec F S_ .f32 := constant S_ .f32 0x7F800000#32
  let main_v11 : FVec F S2816x1024 .f32 := broadcastInDim S2816x1024 ![] bcast_S_S2816x1024 main_cst_2
  let main_v12 : IVec S2816x1024 1 := cmpf .olt main_v10 main_v11
  let main_c_3 : IVec S_ 1 := constantI S_ 1 1#1
  let main_v13 : IVec S_ 1 := (fun x v => Host.reduce IntOp.andi x v reducesTo_S2816x1024_S_d0_1 h_S_) main_v12 main_c_3
  let main_v14 : IVec S_ 1 := andi main_v8 main_v13
  let main_v15 : FVec F S8192x1024 .f32 := Host.absf main_arg3
  let main_cst_4 : FVec F S_ .f32 := constant S_ .f32 0x7F800000#32
  let main_v16 : FVec F S8192x1024 .f32 := broadcastInDim S8192x1024 ![] bcast_S_S8192x1024 main_cst_4
  fn_part1 (F := F) main_v14 main_v15 main_v16
-- ==== Pre_finite_in.lean ====
abbrev S8192x1024 : Shape := ⟨2, ![8192, 1024]⟩
abbrev S1024 : Shape := ⟨1, ![1024]⟩
abbrev S1024x5632 : Shape := ⟨2, ![1024, 5632]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bitsLt_bf16_f32 : FTy.bits .bf16 < FTy.bits .f32
  bcast_S_S1024x5632 : S_.BroadcastsInDim S1024x5632 (![] : Fin 0 → Fin S1024x5632.rank)
  reducesTo_S1024x5632_S_d0_1 : S1024x5632.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn_part1 {F : FTy → Type} [FloatOps F] (main_arg4 : FVec F S8192x2816 .bf16) (main_arg5 : FVec F S8192x1024 .f32) (main_v14 : IVec S_ 1) (main_v16 : FVec F S8192x2816 .f32) (main_cst_4 : FVec F S_ .f32) : IVec S_ 1 :=
  let main_v17 : FVec F S8192x2816 .f32 := broadcastInDim S8192x2816 ![] bcast_S_S8192x2816 main_cst_4
  let main_v18 : IVec S8192x2816 1 := cmpf .olt main_v16 main_v17
  let main_c_5 : IVec S_ 1 := constantI S_ 1 1#1
  let main_v19 : IVec S_ 1 := (fun x v => Host.reduce IntOp.andi x v reducesTo_S8192x2816_S_d0_1 h_S_) main_v18 main_c_5
  let main_v20 : IVec S_ 1 := andi main_v14 main_v19
  let main_v21 : FVec F S8192x2816 .f32 := (extf .f32 · bitsLt_bf16_f32) main_arg4
  let main_v22 : FVec F S8192x2816 .f32 := Host.absf main_v21
  let main_cst_6 : FVec F S_ .f32 := constant S_ .f32 0x7F800000#32
  let main_v23 : FVec F S8192x2816 .f32 := broadcastInDim S8192x2816 ![] bcast_S_S8192x2816 main_cst_6
  let main_v24 : IVec S8192x2816 1 := cmpf .olt main_v22 main_v23
  let main_c_7 : IVec S_ 1 := constantI S_ 1 1#1
  let main_v25 : IVec S_ 1 := (fun x v => Host.reduce IntOp.andi x v reducesTo_S8192x2816_S_d0_1 h_S_) main_v24 main_c_7
  let main_v26 : IVec S_ 1 := andi main_v20 main_v25
  let main_v27 : FVec F S8192x1024 .f32 := Host.absf main_arg5
  let main_cst_8 : FVec F S_ .f32 := constant S_ .f32 0x7F800000#32
  let main_v28 : FVec F S8192x1024 .f32 := broadcastInDim S8192x1024 ![] bcast_S_S8192x1024 main_cst_8
  let main_v29 : IVec S8192x1024 1 := cmpf .olt main_v27 main_v28
  let main_c_9 : IVec S_ 1 := constantI S_ 1 1#1
  let main_v30 : IVec S_ 1 := (fun x v => Host.reduce IntOp.andi x v reducesTo_S8192x1024_S_d0_1 h_S_) main_v29 main_c_9
  let main_v31 : IVec S_ 1 := andi main_v26 main_v30
  main_v31

def fn {F : FTy → Type} [FloatOps F] (main_arg0 : FVec F S8192x1024 .f32) (main_arg1 : FVec F S1024 .f32) (main_arg2 : FVec F S1024x5632 .bf16) (main_arg3 : FVec F S8192x2816 .bf16) (main_arg4 : FVec F S8192x2816 .bf16) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := (extf .f32 · bitsLt_bf16_f32) main_arg2
  let main_v10 : FVec F S1024x5632 .f32 := Host.absf main_v9
  let main_cst_2 : FVec F S_ .f32 := constant S_ .f32 0x7F800000#32
  let main_v11 : FVec F S1024x5632 .f32 := broadcastInDim S1024x5632 ![] bcast_S_S1024x5632 main_cst_2
  let main_v12 : IVec S1024x5632 1 := cmpf .olt main_v10 main_v11
  let main_c_3 : IVec S_ 1 := constantI S_ 1 1#1
  let main_v13 : IVec S_ 1 := (fun x v => Host.reduce IntOp.andi x v reducesTo_S1024x5632_S_d0_1 h_S_) main_v12 main_c_3
  let main_v14 : IVec S_ 1 := andi main_v8 main_v13
  let main_v15 : FVec F S8192x2816 .f32 := (extf .f32 · bitsLt_bf16_f32) main_arg3
  let main_v16 : FVec F S8192x2816 .f32 := Host.absf main_v15
  let main_cst_4 : FVec F S_ .f32 := constant S_ .f32 0x7F800000#32
  fn_part1 (F := F) main_arg4 main_arg5 main_v14 main_v16 main_cst_4
-- ==== Pre_finite_loss.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8192x1024 .f32) (main_arg1 : FVec F S1024 .f32) (main_arg2 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  main_v13
-- ==== Pre_finite_m_in.lean ====
abbrev S8192x1024 : Shape := ⟨2, ![8192, 1024]⟩
abbrev S1024 : Shape := ⟨1, ![1024]⟩
abbrev S1024x1536 : Shape := ⟨2, ![1024, 1536]⟩
abbrev S8192x512 : Shape := ⟨2, ![8192, 512]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bitsLt_bf16_f32 : FTy.bits .bf16 < FTy.bits .f32
  bcast_S_S1024x1536 : S_.BroadcastsInDim S1024x1536 (![] : Fin 0 → Fin S1024x1536.rank)
  reducesTo_S1024x1536_S_d0_1 : S1024x1536.ReducesTo [0, 1] S_
  bcast_S_S8192x512 : S_.BroadcastsInDim S8192x512 (![] : Fin 0 → Fin S8192x512.rank)
  reducesTo_S8192x512_S_d0_1 : S8192x512.ReducesTo [0, 1] S_

variable [Facts]

def fn_part1 {F : FTy → Type} [FloatOps F] (main_arg4 : FVec F S8192x1024 .bf16) (main_arg5 : FVec F S8192x1024 .f32) (main_v14 : IVec S_ 1) (main_v16 : FVec F S8192x512 .f32) (main_cst_4 : FVec F S_ .f32) : IVec S_ 1 :=
  let main_v17 : FVec F S8192x512 .f32 := broadcastInDim S8192x512 ![] bcast_S_S8192x512 main_cst_4
  let main_v18 : IVec S8192x512 1 := cmpf .olt main_v16 main_v17
  let main_c_5 : IVec S_ 1 := constantI S_ 1 1#1
  let main_v19 : IVec S_ 1 := (fun x v => Host.reduce IntOp.andi x v reducesTo_S8192x512_S_d0_1 h_S_) main_v18 main_c_5
  let main_v20 : IVec S_ 1 := andi main_v14 main_v19
  let main_v21 : FVec F S8192x1024 .f32 := (extf .f32 · bitsLt_bf16_f32) main_arg4
  let main_v22 : FVec F S8192x1024 .f32 := Host.absf main_v21
  let main_cst_6 : FVec F S_ .f32 := constant S_ .f32 0x7F800000#32
  let main_v23 : FVec F S8192x1024 .f32 := broadcastInDim S8192x1024 ![] bcast_S_S8192x1024 main_cst_6
  let main_v24 : IVec S8192x1024 1 := cmpf .olt main_v22 main_v23
  let main_c_7 : IVec S_ 1 := constantI S_ 1 1#1
  let main_v25 : IVec S_ 1 := (fun x v => Host.reduce IntOp.andi x v reducesTo_S8192x1024_S_d0_1 h_S_) main_v24 main_c_7
  let main_v26 : IVec S_ 1 := andi main_v20 main_v25
  let main_v27 : FVec F S8192x1024 .f32 := Host.absf main_arg5
  let main_cst_8 : FVec F S_ .f32 := constant S_ .f32 0x7F800000#32
  let main_v28 : FVec F S8192x1024 .f32 := broadcastInDim S8192x1024 ![] bcast_S_S8192x1024 main_cst_8
  let main_v29 : IVec S8192x1024 1 := cmpf .olt main_v27 main_v28
  let main_c_9 : IVec S_ 1 := constantI S_ 1 1#1
  let main_v30 : IVec S_ 1 := (fun x v => Host.reduce IntOp.andi x v reducesTo_S8192x1024_S_d0_1 h_S_) main_v29 main_c_9
  let main_v31 : IVec S_ 1 := andi main_v26 main_v30
  main_v31

def fn {F : FTy → Type} [FloatOps F] (main_arg0 : FVec F S8192x1024 .f32) (main_arg1 : FVec F S1024 .f32) (main_arg2 : FVec F S1024x1536 .bf16) (main_arg3 : FVec F S8192x512 .bf16) (main_arg4 : FVec F S8192x1024 .bf16) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x1536 .f32 := (extf .f32 · bitsLt_bf16_f32) main_arg2
  let main_v10 : FVec F S1024x1536 .f32 := Host.absf main_v9
  let main_cst_2 : FVec F S_ .f32 := constant S_ .f32 0x7F800000#32
  let main_v11 : FVec F S1024x1536 .f32 := broadcastInDim S1024x1536 ![] bcast_S_S1024x1536 main_cst_2
  let main_v12 : IVec S1024x1536 1 := cmpf .olt main_v10 main_v11
  let main_c_3 : IVec S_ 1 := constantI S_ 1 1#1
  let main_v13 : IVec S_ 1 := (fun x v => Host.reduce IntOp.andi x v reducesTo_S1024x1536_S_d0_1 h_S_) main_v12 main_c_3
  let main_v14 : IVec S_ 1 := andi main_v8 main_v13
  let main_v15 : FVec F S8192x512 .f32 := (extf .f32 · bitsLt_bf16_f32) main_arg3
  let main_v16 : FVec F S8192x512 .f32 := Host.absf main_v15
  let main_cst_4 : FVec F S_ .f32 := constant S_ .f32 0x7F800000#32
  fn_part1 (F := F) main_arg4 main_arg5 main_v14 main_v16 main_cst_4
-- ==== Pre_finite_up.lean ====
abbrev S8192x1024 : Shape := ⟨2, ![8192, 1024]⟩
abbrev S1024 : Shape := ⟨1, ![1024]⟩
abbrev S1024x5632 : Shape := ⟨2, ![1024, 5632]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bitsLt_bf16_f32 : FTy.bits .bf16 < FTy.bits .f32
  bcast_S_S1024x5632 : S_.BroadcastsInDim S1024x5632 (![] : Fin 0 → Fin S1024x5632.rank)
  reducesTo_S1024x5632_S_d0_1 : S1024x5632.ReducesTo [0, 1] S_

variable [Facts]

def fn {F : FTy → Type} [FloatOps F] (main_arg0 : FVec F S8192x1024 .f32) (main_arg1 : FVec F S1024 .f32) (main_arg2 : FVec F S1024x5632 .bf16) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := (extf .f32 · bitsLt_bf16_f32) main_arg2
  let main_v10 : FVec F S1024x5632 .f32 := Host.absf main_v9
  let main_cst_2 : FVec F S_ .f32 := constant S_ .f32 0x7F800000#32
  let main_v11 : FVec F S1024x5632 .f32 := broadcastInDim S1024x5632 ![] bcast_S_S1024x5632 main_cst_2
  let main_v12 : IVec S1024x5632 1 := cmpf .olt main_v10 main_v11
  let main_c_3 : IVec S_ 1 := constantI S_ 1 1#1
  let main_v13 : IVec S_ 1 := (fun x v => Host.reduce IntOp.andi x v reducesTo_S1024x5632_S_d0_1 h_S_) main_v12 main_c_3
  let main_v14 : IVec S_ 1 := andi main_v8 main_v13
  main_v14
-- ==== Kernel.lean ====
abbrev S8192x1024 : Shape := ⟨2, ![8192, 1024]⟩
abbrev S8192x512 : Shape := ⟨2, ![8192, 512]⟩
abbrev S512 : Shape := ⟨1, ![512]⟩
abbrev S4x128x128 : Shape := ⟨3, ![4, 128, 128]⟩
abbrev S4x128 : Shape := ⟨2, ![4, 128]⟩
abbrev S128x4 : Shape := ⟨2, ![128, 4]⟩
abbrev S128x4x1 : Shape := ⟨3, ![128, 4, 1]⟩
abbrev S128x4x128 : Shape := ⟨3, ![128, 4, 128]⟩
abbrev S128x512 : Shape := ⟨2, ![128, 512]⟩
abbrev S1x512 : Shape := ⟨2, ![1, 512]⟩
abbrev S512x1024 : Shape := ⟨2, ![512, 1024]⟩
abbrev S512x512 : Shape := ⟨2, ![512, 512]⟩
abbrev S128x128 : Shape := ⟨2, ![128, 128]⟩
abbrev S512x128 : Shape := ⟨2, ![512, 128]⟩
abbrev S512x1 : Shape := ⟨2, ![512, 1]⟩
abbrev S1x128 : Shape := ⟨2, ![1, 128]⟩
abbrev S1x128x128 : Shape := ⟨3, ![1, 128, 128]⟩
abbrev S128 : Shape := ⟨1, ![128]⟩

abbrev nBuf : Space → Nat
  | .hbm => 14
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S128x4, .f32⟩
  | .hbm, ⟨6, _⟩ => ⟨S128x4x1, .f32⟩
  | .hbm, ⟨7, _⟩ => ⟨S128x4x128, .f32⟩
  | .hbm, ⟨8, _⟩ => ⟨S128x512, .f32⟩
  | .hbm, ⟨9, _⟩ => ⟨S1x512, .f32⟩
  | .hbm, ⟨10, _⟩ => ⟨S8192x1024, .bf16⟩
  | .hbm, ⟨11, _⟩ => ⟨S4x128x128, .f32⟩
  | .hbm, ⟨12, _⟩ => ⟨S128x512, .f32⟩
  | .hbm, ⟨13, _⟩ => ⟨S1x512, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S4x128x128, .f32⟩
  | .local _ .vmem, ⟨6, _⟩ => ⟨S128x512, .f32⟩
  | .local _ .vmem, ⟨7, _⟩ => ⟨S512x1024, .bf16⟩
  | .local _ .vmem, ⟨8, _⟩ => ⟨S512x1024, .bf16⟩
  | .local _ .vmem, ⟨9, _⟩ => ⟨S4x128x128, .f32⟩
  | .local _ .vmem, ⟨10, _⟩ => ⟨S128x512, .f32⟩
  | .local _ .vmem, ⟨11, _⟩ => ⟨S1x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== ReferenceIdeal.lean ====
abbrev S8192x1024 : Shape := ⟨2, ![8192, 1024]⟩
abbrev S8192x512 : Shape := ⟨2, ![8192, 512]⟩
abbrev S512 : Shape := ⟨1, ![512]⟩
abbrev S4x128x128 : Shape := ⟨3, ![4, 128, 128]⟩
abbrev S4x128 : Shape := ⟨2, ![4, 128]⟩
abbrev S4x2048x512 : Shape := ⟨3, ![4, 2048, 512]⟩
abbrev S128x4 : Shape := ⟨2, ![128, 4]⟩
abbrev S128x4x1 : Shape := ⟨3, ![128, 4, 1]⟩
abbrev S128x4x128 : Shape := ⟨3, ![128, 4, 128]⟩
abbrev S_ : Shape := ⟨0, ![]⟩
abbrev S4x16x128x4x128 : Shape := ⟨5, ![4, 16, 128, 4, 128]⟩
abbrev S4x16x128x4 : Shape := ⟨4, ![4, 16, 128, 4]⟩
abbrev S4x16x128x4x1 : Shape := ⟨5, ![4, 16, 128, 4, 1]⟩
abbrev S1x1x1x4x128 : Shape := ⟨5, ![1, 1, 1, 4, 128]⟩
abbrev S128x128 : Shape := ⟨2, ![128, 128]⟩
abbrev S1x128x128 : Shape := ⟨3, ![1, 128, 128]⟩
abbrev S4x4x16x128x128 : Shape := ⟨5, ![4, 4, 16, 128, 128]⟩
abbrev S1x1x128x4x128 : Shape := ⟨5, ![1, 1, 128, 4, 128]⟩
abbrev S1x512 : Shape := ⟨2, ![1, 512]⟩
abbrev S128x512 : Shape := ⟨2, ![128, 512]⟩

abbrev nBuf : Space → Nat
  | .hbm => 206
  | .vmem => 0
  | .smem => 0
  | _ => 0

abbrev hbmTy0_0 (i : Nat) : BufTy := match i % 128 with
  | 0 => ⟨S8192x1024, .f32⟩
  | 1 => ⟨S8192x512, .f32⟩
  | 2 => ⟨S512, .f32⟩
  | 3 => ⟨S4x128x128, .f32⟩
  | 4 => ⟨S4x128, .f32⟩
  | 5 => ⟨S8192x512, .f32⟩
  | 6 => ⟨S4x2048x512, .f32⟩
  | 7 => ⟨S8192x512, .f32⟩
  | 8 => ⟨S4x2048x512, .f32⟩
  | 9 => ⟨S4x2048x512, .f32⟩
  | 10 => ⟨S128x4, .f32⟩
  | 11 => ⟨S128x4x1, .f32⟩
  | 12 => ⟨S128x4x128, .f32⟩
  | 13 => ⟨S4x2048x512, .f32⟩
  | 14 => ⟨S4x2048x512, .f32⟩
  | 15 => ⟨S4x2048x512, .f32⟩
  | 16 => ⟨S_, .f32⟩
  | 17 => ⟨S4x2048x512, .f32⟩
  | 18 => ⟨S4x2048x512, .f32⟩
  | 19 => ⟨S_, .f32⟩
  | 20 => ⟨S4x2048x512, .f32⟩
  | 21 => ⟨S4x2048x512, .f32⟩
  | 22 => ⟨S_, .f32⟩
  | 23 => ⟨S4x2048x512, .f32⟩
  | 24 => ⟨S4x2048x512, .f32⟩
  | 25 => ⟨S4x2048x512, .f32⟩
  | 26 => ⟨S_, .f32⟩
  | 27 => ⟨S4x2048x512, .f32⟩
  | 28 => ⟨S4x2048x512, .f32⟩
  | 29 => ⟨S4x2048x512, .f32⟩
  | 30 => ⟨S_, .f32⟩
  | 31 => ⟨S4x2048x512, .f32⟩
  | 32 => ⟨S4x2048x512, .f32⟩
  | 33 => ⟨S_, .f32⟩
  | 34 => ⟨S4x2048x512, .f32⟩
  | 35 => ⟨S4x2048x512, .f32⟩
  | 36 => ⟨S4x2048x512, .f32⟩
  | 37 => ⟨S_, .f32⟩
  | 38 => ⟨S4x2048x512, .f32⟩
  | 39 => ⟨S4x2048x512, .f32⟩
  | 40 => ⟨S_, .f32⟩
  | 41 => ⟨S4x2048x512, .f32⟩
  | 42 => ⟨S4x2048x512, .f32⟩
  | 43 => ⟨S4x2048x512, .f32⟩
  | 44 => ⟨S4x2048x512, .f32⟩
  | 45 => ⟨S4x2048x512, .f32⟩
  | 46 => ⟨S4x2048x512, .f32⟩
  | 47 => ⟨S_, .f32⟩
  | 48 => ⟨S4x2048x512, .f32⟩
  | 49 => ⟨S4x2048x512, .f32⟩
  | 50 => ⟨S_, .f32⟩
  | 51 => ⟨S4x2048x512, .f32⟩
  | 52 => ⟨S4x2048x512, .f32⟩
  | 53 => ⟨S_, .f32⟩
  | 54 => ⟨S4x2048x512, .f32⟩
  | 55 => ⟨S4x2048x512, .f32⟩
  | 56 => ⟨S4x2048x512, .f32⟩
  | 57 => ⟨S_, .f32⟩
  | 58 => ⟨S4x2048x512, .f32⟩
  | 59 => ⟨S4x2048x512, .f32⟩
  | 60 => ⟨S4x2048x512, .f32⟩
  | 61 => ⟨S_, .f32⟩
  | 62 => ⟨S4x2048x512, .f32⟩
  | 63 => ⟨S4x2048x512, .f32⟩
  | 64 => ⟨S_, .f32⟩
  | 65 => ⟨S4x2048x512, .f32⟩
  | 66 => ⟨S4x2048x512, .f32⟩
  | 67 => ⟨S4x2048x512, .f32⟩
  | 68 => ⟨S_, .f32⟩
  | 69 => ⟨S4x2048x512, .f32⟩
  | 70 => ⟨S4x2048x512, .f32⟩
  | 71 => ⟨S_, .f32⟩
  | 72 => ⟨S4x2048x512, .f32⟩
  | 73 => ⟨S4x2048x512, .f32⟩
  | 74 => ⟨S4x2048x512, .f32⟩
  | 75 => ⟨S4x16x128x4x128, .f32⟩
  | 76 => ⟨S4x128, .f32⟩
  | 77 => ⟨S4x16x128x4x128, .f32⟩
  | 78 => ⟨S_, .f32⟩
  | 79 => ⟨S4x16x128x4, .f32⟩
  | 80 => ⟨S4x16x128x4x1, .f32⟩
  | 81 => ⟨S_, .f32⟩
  | 82 => ⟨S4x16x128x4x1, .f32⟩
  | 83 => ⟨S4x16x128x4x1, .f32⟩
  | 84 => ⟨S_, .f32⟩
  | 85 => ⟨S4x16x128x4x1, .f32⟩
  | 86 => ⟨S4x16x128x4x1, .f32⟩
  | 87 => ⟨S4x16x128x4x1, .f32⟩
  | 88 => ⟨S4x16x128x4x1, .f32⟩
  | 89 => ⟨S_, .f32⟩
  | 90 => ⟨S4x16x128x4x1, .f32⟩
  | 91 => ⟨S4x16x128x4x1, .f32⟩
  | 92 => ⟨S4x16x128x4x128, .f32⟩
  | 93 => ⟨S4x16x128x4x128, .f32⟩
  | 94 => ⟨S1x1x1x4x128, .f32⟩
  | 95 => ⟨S4x16x128x4x128, .f32⟩
  | 96 => ⟨S4x16x128x4x128, .f32⟩
  | 97 => ⟨S_, .i1⟩
  | 98 => ⟨S128x128, .i1⟩
  | 99 => ⟨S128x128, .i32⟩
  | 100 => ⟨S_, .i32⟩
  | 101 => ⟨S128x128, .i32⟩
  | 102 => ⟨S128x128, .i32⟩
  | 103 => ⟨S128x128, .i32⟩
  | 104 => ⟨S128x128, .i1⟩
  | 105 => ⟨S_, .i1⟩
  | 106 => ⟨S128x128, .i1⟩
  | 107 => ⟨S128x128, .i1⟩
  | 108 => ⟨S1x128x128, .i1⟩
  | 109 => ⟨S_, .f32⟩
  | 110 => ⟨S4x128x128, .f32⟩
  | 111 => ⟨S4x128x128, .i1⟩
  | 112 => ⟨S4x128x128, .f32⟩
  | 113 => ⟨S_, .f32⟩
  | 114 => ⟨S4x128x128, .f32⟩
  | 115 => ⟨S4x4x16x128x128, .f32⟩
  | 116 => ⟨S4x16x128x4x128, .f32⟩
  | 117 => ⟨S1x1x128x4x128, .f32⟩
  | 118 => ⟨S4x16x128x4x128, .f32⟩
  | 119 => ⟨S4x16x128x4x128, .f32⟩
  | 120 => ⟨S4x2048x512, .f32⟩
  | 121 => ⟨S4x2048x512, .f32⟩
  | 122 => ⟨S4x2048x512, .f32⟩
  | 123 => ⟨S4x2048x512, .f32⟩
  | 124 => ⟨S4x16x128x4x128, .f32⟩
  | 125 => ⟨S_, .f32⟩
  | 126 => ⟨S128x4x128, .f32⟩
  | 127 => ⟨S1x1x128x4x128, .f32⟩
  | _ => ⟨S8192x1024, .f32⟩

abbrev hbmTy0_1 (i : Nat) : BufTy := match i % 128 with
  | 0 => ⟨S_, .f32⟩
  | 1 => ⟨S128x4x128, .f32⟩
  | 2 => ⟨S4x4x16x128x128, .f32⟩
  | 3 => ⟨S4x128x128, .f32⟩
  | 4 => ⟨S4x4x16x128x128, .f32⟩
  | 5 => ⟨S4x16x128x4x128, .f32⟩
  | 6 => ⟨S_, .f32⟩
  | 7 => ⟨S4x128x128, .f32⟩
  | 8 => ⟨S4x128x128, .f32⟩
  | 9 => ⟨S4x16x128x4x128, .f32⟩
  | 10 => ⟨S_, .f32⟩
  | 11 => ⟨S4x128, .f32⟩
  | 12 => ⟨S1x1x1x4x128, .f32⟩
  | 13 => ⟨S4x16x128x4x128, .f32⟩
  | 14 => ⟨S4x16x128x4x128, .f32⟩
  | 15 => ⟨S_, .f32⟩
  | 16 => ⟨S4x128, .f32⟩
  | 17 => ⟨S4x16x128x4x128, .f32⟩
  | 18 => ⟨S_, .f32⟩
  | 19 => ⟨S4x16x128x4, .f32⟩
  | 20 => ⟨S4x16x128x4x1, .f32⟩
  | 21 => ⟨S4x16x128x4x128, .f32⟩
  | 22 => ⟨S4x16x128x4x128, .f32⟩
  | 23 => ⟨S4x16x128x4x1, .f32⟩
  | 24 => ⟨S_, .f32⟩
  | 25 => ⟨S4x16x128x4x1, .f32⟩
  | 26 => ⟨S4x16x128x4x1, .f32⟩
  | 27 => ⟨S_, .f32⟩
  | 28 => ⟨S4x16x128x4, .f32⟩
  | 29 => ⟨S4x16x128x4x128, .f32⟩
  | 30 => ⟨S4x16x128x4x128, .f32⟩
  | 31 => ⟨S4x16x128x4x128, .f32⟩
  | 32 => ⟨S4x16x128x4x128, .f32⟩
  | 33 => ⟨S4x16x128x4x128, .f32⟩
  | 34 => ⟨S512, .f32⟩
  | 35 => ⟨S4x2048x512, .f32⟩
  | 36 => ⟨S4x2048x512, .f32⟩
  | 37 => ⟨S4x2048x512, .f32⟩
  | 38 => ⟨S_, .f32⟩
  | 39 => ⟨S4x2048x512, .f32⟩
  | 40 => ⟨S4x2048x512, .f32⟩
  | 41 => ⟨S4x2048x512, .f32⟩
  | 42 => ⟨S_, .f32⟩
  | 43 => ⟨S4x2048x512, .f32⟩
  | 44 => ⟨S4x2048x512, .f32⟩
  | 45 => ⟨S4x2048x512, .f32⟩
  | 46 => ⟨S_, .f32⟩
  | 47 => ⟨S4x2048x512, .f32⟩
  | 48 => ⟨S4x2048x512, .f32⟩
  | 49 => ⟨S_, .f32⟩
  | 50 => ⟨S4x2048x512, .f32⟩
  | 51 => ⟨S4x2048x512, .f32⟩
  | 52 => ⟨S4x2048x512, .f32⟩
  | 53 => ⟨S4x2048x512, .f32⟩
  | 54 => ⟨S4x2048x512, .f32⟩
  | 55 => ⟨S4x2048x512, .f32⟩
  | 56 => ⟨S_, .f32⟩
  | 57 => ⟨S4x2048x512, .f32⟩
  | 58 => ⟨S4x2048x512, .f32⟩
  | 59 => ⟨S4x2048x512, .f32⟩
  | 60 => ⟨S_, .f32⟩
  | 61 => ⟨S4x2048x512, .f32⟩
  | 62 => ⟨S4x2048x512, .f32⟩
  | 63 => ⟨S4x2048x512, .f32⟩
  | 64 => ⟨S_, .f32⟩
  | 65 => ⟨S4x2048x512, .f32⟩
  | 66 => ⟨S4x2048x512, .f32⟩
  | 67 => ⟨S_, .f32⟩
  | 68 => ⟨S4x2048x512, .f32⟩
  | 69 => ⟨S4x2048x512, .f32⟩
  | 70 => ⟨S4x2048x512, .f32⟩
  | 71 => ⟨S4x2048x512, .f32⟩
  | 72 => ⟨S8192x512, .f32⟩
  | 73 => ⟨S8192x512, .f32⟩
  | 74 => ⟨S8192x1024, .f32⟩
  | 75 => ⟨S8192x1024, .bf16⟩
  | 76 => ⟨S1x512, .f32⟩
  | 77 => ⟨S128x512, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_11 : Ref sig .tc := ⟨.hbm, 61, rfl⟩
abbrev main_v44 : Ref sig .tc := ⟨.hbm, 62, rfl⟩
abbrev main_v45 : Ref sig .tc := ⟨.hbm, 63, rfl⟩
abbrev main_cst_12 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_13 : Ref sig .tc := ⟨.hbm, 68, rfl⟩
abbrev main_v49 : Ref sig .tc := ⟨.hbm, 69, rfl⟩
abbrev main_v50 : Ref sig .tc := ⟨.hbm, 70, rfl⟩
abbrev main_cst_14 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_15 : Ref sig .tc := ⟨.hbm, 78, rfl⟩
abbrev main_v57 : Ref sig .tc := ⟨.hbm, 79, rfl⟩
abbrev main_v58 : Ref sig .tc := ⟨.hbm, 80, rfl⟩
abbrev main_cst_16 : Ref sig .tc := ⟨.hbm, 81, rfl⟩
abbrev main_v59 : Ref sig .tc := ⟨.hbm, 82, rfl⟩
abbrev main_v60 : Ref sig .tc := ⟨.hbm, 83, rfl⟩
abbrev main_cst_17 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_18 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c : Ref sig .tc := ⟨.hbm, 97, rfl⟩
abbrev main_v72 : Ref sig .tc := ⟨.hbm, 98, rfl⟩
abbrev main_call0_v0 : Ref sig .tc := ⟨.hbm, 99, rfl⟩
abbrev main_call0_c : Ref sig .tc := ⟨.hbm, 100, rfl⟩
abbrev main_call0_v1 : Ref sig .tc := ⟨.hbm, 101, rfl⟩
abbrev main_call0_v2 : Ref sig .tc := ⟨.hbm, 102, rfl⟩
abbrev main_call0_v3 : Ref sig .tc := ⟨.hbm, 103, rfl⟩
abbrev main_call0_v4 : Ref sig .tc := ⟨.hbm, 104, rfl⟩
abbrev main_call0_c_0 : Ref sig .tc := ⟨.hbm, 105, rfl⟩
abbrev main_call0_v5 : Ref sig .tc := ⟨.hbm, 106, rfl⟩
abbrev main_v73 : Ref sig .tc := ⟨.hbm, 107, rfl⟩
abbrev main_v74 : Ref sig .tc := ⟨.hbm, 108, rfl⟩
abbrev main_cst_19 : Ref sig .tc := ⟨.hbm, 109, rfl⟩
abbrev main_v75 : Ref sig .tc := ⟨.hbm, 110, rfl⟩
abbrev main_v76_1 : Ref sig .tc := ⟨.hbm, 111, rfl⟩
abbrev main_v76_0 : Ref sig .tc := ⟨.hbm, 112, rfl⟩
abbrev main_call1_cst : Ref sig .tc := ⟨.hbm, 113, rfl⟩
abbrev main_v76_2 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_20 : Ref sig .tc := ⟨.hbm, 125, rfl⟩
abbrev main_v87 : Ref sig .tc := ⟨.hbm, 126, rfl⟩
abbrev main_v88 : Ref sig .tc := ⟨.hbm, 127, rfl⟩
abbrev main_cst_21 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_call2_cst : Ref sig .tc := ⟨.hbm, 134, rfl⟩
abbrev main_call2_v0 : Ref sig .tc := ⟨.hbm, 135, rfl⟩
abbrev main_v94 : Ref sig .tc := ⟨.hbm, 136, rfl⟩
abbrev main_v95 : Ref sig .tc := ⟨.hbm, 137, rfl⟩
abbrev main_cst_22 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_23 : Ref sig .tc := ⟨.hbm, 143, rfl⟩
abbrev main_v100 : Ref sig .tc := ⟨.hbm, 144, rfl⟩
abbrev main_v101 : Ref sig .tc := ⟨.hbm, 145, rfl⟩
abbrev main_cst_24 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_cst_25 : Ref sig .tc := ⟨.hbm, 152, rfl⟩
abbrev main_v107 : Ref sig .tc := ⟨.hbm, 153, rfl⟩
abbrev main_v108 : Ref sig .tc := ⟨.hbm, 154, rfl⟩
abbrev main_cst_26 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_cst_27 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_cst_28 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_cst_29 : Ref sig .tc := ⟨.hbm, 174, rfl⟩
abbrev main_v125 : Ref sig .tc := ⟨.hbm, 175, rfl⟩
abbrev main_v126 : Ref sig .tc := ⟨.hbm, 176, rfl⟩
abbrev main_cst_30 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_cst_31 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_cst_32 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_cst_33 : Ref sig .tc := ⟨.hbm, 192, rfl⟩
abbrev main_v139 : Ref sig .tc := ⟨.hbm, 193, rfl⟩
abbrev main_v140 : Ref sig .tc := ⟨.hbm, 194, rfl⟩
abbrev main_cst_34 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩

abbrev nD : Nat := 1
abbrev τ : Topo := Topo.v7x

variable {F : FTy → Type} [FloatOps F]
-- ==== Gate.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩
abbrev S256x1024 : Shape := ⟨2, ![256, 1024]⟩
abbrev S256x2816 : Shape := ⟨2, ![256, 2816]⟩

abbrev nBuf : Space → Nat
  | .hbm => 23
  | .vmem => 11
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .bf16⟩
  | .hbm, ⟨3, _⟩ => ⟨S8192x1024, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .bf16⟩
  | .hbm, ⟨20, _⟩ => ⟨S8192x2816, .bf16⟩
  | .hbm, ⟨21, _⟩ => ⟨S8192x2816, .bf16⟩
  | .hbm, ⟨22, _⟩ => ⟨S8192x2816, .bf16⟩
  | .local _ .vmem, ⟨0, _⟩ => ⟨S256x1024, .f32⟩
  | .local _ .vmem, ⟨1, _⟩ => ⟨S256x1024, .f32⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateRefIdeal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .bf16⟩
  | .hbm, ⟨3, _⟩ => ⟨S8192x1024, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S2816x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .bf16⟩
  | .hbm, ⟨34, _⟩ => ⟨S8192x2816, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩

abbrev nD : Nat := 1
abbrev τ : Topo := Topo.v7x

variable {F : FTy → Type} [FloatOps F]
-- ==== WG.lean ====
abbrev S8192x1024 : Shape := ⟨2, ![8192, 1024]⟩
abbrev S8192x2816 : Shape := ⟨2, ![8192, 2816]⟩
abbrev S1024x5632 : Shape := ⟨2, ![1024, 5632]⟩
abbrev S4096x512 : Shape := ⟨2, ![4096, 512]⟩
abbrev S4096x1408 : Shape := ⟨2, ![4096, 1408]⟩
abbrev S512x1408 : Shape := ⟨2, ![512, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1024x5632, .f32⟩
  | .local _ .vmem, ⟨0, _⟩ => ⟨S4096x512, .bf16⟩
  | .local _ .vmem, ⟨1, _⟩ => ⟨S4096x512, .bf16⟩
  | .local _ .vmem, ⟨2, _⟩ => ⟨S4096x1408, .bf16⟩
  | .local _ .vmem, ⟨3, _⟩ => ⟨S4096x1408, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WGRefIdeal.lean ====
abbrev S8192x1024 : Shape := ⟨2, ![8192, 1024]⟩
abbrev S8192x2816 : Shape := ⟨2, ![8192, 2816]⟩
abbrev S_ : Shape := ⟨0, ![]⟩
abbrev S8192x5632 : Shape := ⟨2, ![8192, 5632]⟩
abbrev S1024x5632 : Shape := ⟨2, ![1024, 5632]⟩
abbrev S5632x1024 : Shape := ⟨2, ![5632, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .f32⟩
  | .hbm, ⟨3, _⟩ => ⟨S_, .f32⟩
  | .hbm, ⟨4, _⟩ => ⟨S8192x2816, .f32⟩
  | .hbm, ⟨5, _⟩ => ⟨S8192x5632, .f32⟩
  | .hbm, ⟨6, _⟩ => ⟨S_, .f32⟩
  | .hbm, ⟨7, _⟩ => ⟨S1024x5632, .f32⟩
  | .hbm, ⟨8, _⟩ => ⟨S8192x1024, .f32⟩
  | .hbm, ⟨9, _⟩ => ⟨S8192x5632, .f32⟩
  | .hbm, ⟨10, _⟩ => ⟨S5632x1024, .f32⟩
  | .hbm, ⟨11, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== WU.lean ====
abbrev S8192x1024 : Shape := ⟨2, ![8192, 1024]⟩
abbrev S8192x2816 : Shape := ⟨2, ![8192, 2816]⟩
abbrev S1024x5632 : Shape := ⟨2, ![1024, 5632]⟩
abbrev S4096x512 : Shape := ⟨2, ![4096, 512]⟩
abbrev S4096x1408 : Shape := ⟨2, ![4096, 1408]⟩
abbrev S512x1408 : Shape := ⟨2, ![512, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1024x5632, .f32⟩
  | .hbm, ⟨3, _⟩ => ⟨S1024x5632, .f32⟩
  | .local _ .vmem, ⟨0, _⟩ => ⟨S4096x512, .bf16⟩
  | .local _ .vmem, ⟨1, _⟩ => ⟨S4096x512, .bf16⟩
  | .local _ .vmem, ⟨2, _⟩ => ⟨S4096x1408, .bf16⟩
  | .local _ .vmem, ⟨3, _⟩ => ⟨S4096x1408, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  ![arg0.toNat, v0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WURefIdeal.lean ====
abbrev S8192x1024 : Shape := ⟨2, ![8192, 1024]⟩
abbrev S8192x2816 : Shape := ⟨2, ![8192, 2816]⟩
abbrev S1024x5632 : Shape := ⟨2, ![1024, 5632]⟩
abbrev S_ : Shape := ⟨0, ![]⟩
abbrev S1024x2816 : Shape := ⟨2, ![1024, 2816]⟩
abbrev S2816x1024 : Shape := ⟨2, ![2816, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1024x5632, .f32⟩
  | .hbm, ⟨3, _⟩ => ⟨S_, .f32⟩
  | .hbm, ⟨4, _⟩ => ⟨S1024x2816, .f32⟩
  | .hbm, ⟨5, _⟩ => ⟨S8192x1024, .f32⟩
  | .hbm, ⟨6, _⟩ => ⟨S8192x2816, .f32⟩
  | .hbm, ⟨7, _⟩ => ⟨S8192x2816, .f32⟩
  | .hbm, ⟨8, _⟩ => ⟨S2816x1024, .f32⟩
  | .hbm, ⟨9, _⟩ => ⟨S1024x2816, .f32⟩
  | .hbm, ⟨10, _⟩ => ⟨S1024x2816, .f32⟩
  | .hbm, ⟨11, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== WOut.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WOutRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S1024x2816, .f32⟩
  | .hbm, ⟨13, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== In.lean ====
abbrev S8192x1024 : Shape := ⟨2, ![8192, 1024]⟩
abbrev S1024 : Shape := ⟨1, ![1024]⟩
abbrev S1024x5632 : Shape := ⟨2, ![1024, 5632]⟩
abbrev S8192x2816 : Shape := ⟨2, ![8192, 2816]⟩
abbrev S1x1024 : Shape := ⟨2, ![1, 1024]⟩
abbrev S512x2816 : Shape := ⟨2, ![512, 2816]⟩
abbrev S512x1024 : Shape := ⟨2, ![512, 1024]⟩
abbrev S8x1024 : Shape := ⟨2, ![8, 1024]⟩
abbrev S1024x2816 : Shape := ⟨2, ![1024, 2816]⟩
abbrev S512 : Shape := ⟨1, ![512]⟩
abbrev S512x1 : Shape := ⟨2, ![512, 1]⟩
abbrev S64x8x1024 : Shape := ⟨3, ![64, 8, 1024]⟩

abbrev nBuf : Space → Nat
  | .hbm => 9
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .bf16⟩
  | .hbm, ⟨3, _⟩ => ⟨S8192x2816, .bf16⟩
  | .hbm, ⟨4, _⟩ => ⟨S8192x2816, .bf16⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S1024x5632, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v44 : BitVec 1 := Scalar.cmpi .eq arg0 c15_i32
  let v45 : BitVec 32 := Scalar.extui v44
  let c0_i32_24 : BitVec 32 := 0#32
  let v46 : BitVec 1 := Scalar.cmpi .ne v45 c0_i32_24
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InRefIdeal.lean ====
abbrev S8192x1024 : Shape := ⟨2, ![8192, 1024]⟩
abbrev S1024 : Shape := ⟨1, ![1024]⟩
abbrev S1024x5632 : Shape := ⟨2, ![1024, 5632]⟩
abbrev S8192x2816 : Shape := ⟨2, ![8192, 2816]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .bf16⟩
  | .hbm, ⟨3, _⟩ => ⟨S8192x2816, .bf16⟩
  | .hbm, ⟨4, _⟩ => ⟨S8192x2816, .bf16⟩
  | .hbm, ⟨5, _⟩ => ⟨S8192x1024, .f32⟩
  | .hbm, ⟨6, _⟩ => ⟨S8192x5632, .bf16⟩
  | .hbm, ⟨7, _⟩ => ⟨S8192x5632, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S1024x5632, .f32⟩
  | .hbm, ⟨29, _⟩ => ⟨S8192x5632, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Up.lean ====
abbrev S8192x1024 : Shape := ⟨2, ![8192, 1024]⟩
abbrev S1024 : Shape := ⟨1, ![1024]⟩
abbrev S1024x5632 : Shape := ⟨2, ![1024, 5632]⟩
abbrev S1x1024 : Shape := ⟨2, ![1, 1024]⟩
abbrev S8192x2816 : Shape := ⟨2, ![8192, 2816]⟩
abbrev S256x1024 : Shape := ⟨2, ![256, 1024]⟩
abbrev S1024x2816 : Shape := ⟨2, ![1024, 2816]⟩
abbrev S256x2816 : Shape := ⟨2, ![256, 2816]⟩
abbrev S256 : Shape := ⟨1, ![256]⟩
abbrev S256x1 : Shape := ⟨2, ![256, 1]⟩

abbrev nBuf : Space → Nat
  | .hbm => 8
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .bf16⟩
  | .hbm, ⟨3, _⟩ => ⟨S1x1024, .f32⟩
  | .hbm, ⟨4, _⟩ => ⟨S8192x1024, .bf16⟩
  | .hbm, ⟨5, _⟩ => ⟨S8192x2816, .bf16⟩
  | .hbm, ⟨6, _⟩ => ⟨S8192x2816, .bf16⟩
  | .hbm, ⟨7, _⟩ => ⟨S8192x2816, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S256x1024, .bf16⟩
  | .local _ .vmem, ⟨6, _⟩ => ⟨S256x1024, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![32, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== UpRefIdeal.lean ====
abbrev S8192x1024 : Shape := ⟨2, ![8192, 1024]⟩
abbrev S1024 : Shape := ⟨1, ![1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S1024x5632, .f32⟩
  | .hbm, ⟨20, _⟩ => ⟨S8192x5632, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x1024, .bf16⟩
  | .hbm, ⟨45, _⟩ => ⟨S8192x2816, .f32⟩
  | .hbm, ⟨46, _⟩ => ⟨S8192x2816, .f32⟩
  | .hbm, ⟨47, _⟩ => ⟨S_, .f32⟩
  | .hbm, ⟨48, _⟩ => ⟨S8192x2816, .f32⟩
  | .hbm, ⟨49, _⟩ => ⟨S8192x2816, .f32⟩
  | .hbm, ⟨50, _⟩ => ⟨S_, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .bf16⟩
  | .hbm, ⟨55, _⟩ => ⟨S8192x2816, .bf16⟩
  | .hbm, ⟨56, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v17_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v17_1 : Ref sig .tc := ⟨.hbm, 34, rfl⟩
abbrev main_v17_0 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v21 : Ref sig .tc := ⟨.hbm, 43, rfl⟩
abbrev main_v22 : Ref sig .tc := ⟨.hbm, 44, rfl⟩
abbrev main_call2_v0 : Ref sig .tc := ⟨.hbm, 45, rfl⟩
abbrev main_call2_v1 : Ref sig .tc := ⟨.hbm, 46, rfl⟩
abbrev main_call2_cst : Ref sig .tc := ⟨.hbm, 47, rfl⟩
abbrev main_call2_v2 : Ref sig .tc := ⟨.hbm, 48, rfl⟩
abbrev main_call2_v3 : Ref sig .tc := ⟨.hbm, 49, rfl⟩
abbrev main_call2_cst_0 : Ref sig .tc := ⟨.hbm, 50, rfl⟩
abbrev main_call2_v4 : Ref sig .tc := ⟨.hbm, 51, rfl⟩
abbrev main_call2_v5 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩

abbrev nD : Nat := 1
abbrev τ : Topo := Topo.v7x

variable {F : FTy → Type} [FloatOps F]
-- ==== Down.lean ====
abbrev S8192x2816 : Shape := ⟨2, ![8192, 2816]⟩
abbrev S2816x1024 : Shape := ⟨2, ![2816, 1024]⟩
abbrev S8192x1024 : Shape := ⟨2, ![8192, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== MOut.lean ====
abbrev S8192x512 : Shape := ⟨2, ![8192, 512]⟩
abbrev S512 : Shape := ⟨1, ![512]⟩
abbrev S1024x1024 : Shape := ⟨2, ![1024, 1024]⟩
abbrev S8192x1024 : Shape := ⟨2, ![8192, 1024]⟩
abbrev S1x512 : Shape := ⟨2, ![1, 512]⟩
abbrev S512x512 : Shape := ⟨2, ![512, 512]⟩
abbrev S512x1024 : Shape := ⟨2, ![512, 1024]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512, .f32⟩
  | .hbm, ⟨3, _⟩ => ⟨S512, .f32⟩
  | .hbm, ⟨4, _⟩ => ⟨S1024x1024, .bf16⟩
  | .hbm, ⟨5, _⟩ => ⟨S8192x1024, .f32⟩
  | .hbm, ⟨6, _⟩ => ⟨S1x512, .f32⟩
  | .hbm, ⟨7, _⟩ => ⟨S1x512, .f32⟩
  | .hbm, ⟨8, _⟩ => ⟨S8192x1024, .bf16⟩
  | .hbm, ⟨9, _⟩ => ⟨S8192x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MOutRefIdeal.lean ====
abbrev S8192x512 : Shape := ⟨2, ![8192, 512]⟩
abbrev S512 : Shape := ⟨1, ![512]⟩
abbrev S1024x1024 : Shape := ⟨2, ![1024, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x512 : Shape := ⟨2, ![1, 512]⟩

abbrev nBuf : Space → Nat
  | .hbm => 43
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512, .f32⟩
  | .hbm, ⟨3, _⟩ => ⟨S512, .f32⟩
  | .hbm, ⟨4, _⟩ => ⟨S1024x1024, .bf16⟩
  | .hbm, ⟨5, _⟩ => ⟨S8192x1024, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x512, .f32⟩
  | .hbm, ⟨18, _⟩ => ⟨S8192x512, .f32⟩
  | .hbm, ⟨19, _⟩ => ⟨S1x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x512, .f32⟩
  | .hbm, ⟨34, _⟩ => ⟨S8192x512, .f32⟩
  | .hbm, ⟨35, _⟩ => ⟨S1x512, .f32⟩
  | .hbm, ⟨36, _⟩ => ⟨S8192x512, .f32⟩
  | .hbm, ⟨37, _⟩ => ⟨S8192x512, .f32⟩
  | .hbm, ⟨38, _⟩ => ⟨S8192x1024, .f32⟩
  | .hbm, ⟨39, _⟩ => ⟨S8192x1024, .bf16⟩
  | .hbm, ⟨40, _⟩ => ⟨S1024x1024, .f32⟩
  | .hbm, ⟨41, _⟩ => ⟨S8192x1024, .f32⟩
  | .hbm, ⟨42, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== MWOut.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MWOutRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MWS.lean ====
abbrev S8192x1024 : Shape := ⟨2, ![8192, 1024]⟩
abbrev S8192x512 : Shape := ⟨2, ![8192, 512]⟩
abbrev S1024x1536 : Shape := ⟨2, ![1024, 1536]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x1536, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MWSRefIdeal.lean ====
abbrev S8192x1024 : Shape := ⟨2, ![8192, 1024]⟩
abbrev S8192x512 : Shape := ⟨2, ![8192, 512]⟩
abbrev S_ : Shape := ⟨0, ![]⟩
abbrev S8192x1536 : Shape := ⟨2, ![8192, 1536]⟩
abbrev S1024x1536 : Shape := ⟨2, ![1024, 1536]⟩
abbrev S1536x1024 : Shape := ⟨2, ![1536, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .f32⟩
  | .hbm, ⟨3, _⟩ => ⟨S_, .f32⟩
  | .hbm, ⟨4, _⟩ => ⟨S8192x1024, .f32⟩
  | .hbm, ⟨5, _⟩ => ⟨S8192x1536, .f32⟩
  | .hbm, ⟨6, _⟩ => ⟨S_, .f32⟩
  | .hbm, ⟨7, _⟩ => ⟨S1024x1536, .f32⟩
  | .hbm, ⟨8, _⟩ => ⟨S8192x1024, .f32⟩
  | .hbm, ⟨9, _⟩ => ⟨S8192x1536, .f32⟩
  | .hbm, ⟨10, _⟩ => ⟨S1536x1024, .f32⟩
  | .hbm, ⟨11, _⟩ => ⟨S1024x1536, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== MWGm.lean ====
abbrev S8192x1024 : Shape := ⟨2, ![8192, 1024]⟩
abbrev S1024x1536 : Shape := ⟨2, ![1024, 1536]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1536, .f32⟩
  | .hbm, ⟨3, _⟩ => ⟨S1024x1536, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MWGmRefIdeal.lean ====
abbrev S8192x1024 : Shape := ⟨2, ![8192, 1024]⟩
abbrev S1024x1536 : Shape := ⟨2, ![1024, 1536]⟩
abbrev S_ : Shape := ⟨0, ![]⟩
abbrev S1024x1024 : Shape := ⟨2, ![1024, 1024]⟩
abbrev S1024x512 : Shape := ⟨2, ![1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1536, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S1024x512, .f32⟩
  | .hbm, ⟨11, _⟩ => ⟨S1024x1536, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== MIn.lean ====
abbrev S8192x1024 : Shape := ⟨2, ![8192, 1024]⟩
abbrev S1024 : Shape := ⟨1, ![1024]⟩
abbrev S1024x1536 : Shape := ⟨2, ![1024, 1536]⟩
abbrev S8192x512 : Shape := ⟨2, ![8192, 512]⟩
abbrev S1x1024 : Shape := ⟨2, ![1, 1024]⟩
abbrev S512x512 : Shape := ⟨2, ![512, 512]⟩
abbrev S512x1024 : Shape := ⟨2, ![512, 1024]⟩
abbrev S8x1024 : Shape := ⟨2, ![8, 1024]⟩
abbrev S1024x512 : Shape := ⟨2, ![1024, 512]⟩
abbrev S1024x1024 : Shape := ⟨2, ![1024, 1024]⟩
abbrev S512 : Shape := ⟨1, ![512]⟩
abbrev S512x1 : Shape := ⟨2, ![512, 1]⟩
abbrev S64x8x1024 : Shape := ⟨3, ![64, 8, 1024]⟩

abbrev nBuf : Space → Nat
  | .hbm => 9
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1536, .bf16⟩
  | .hbm, ⟨3, _⟩ => ⟨S8192x512, .bf16⟩
  | .hbm, ⟨4, _⟩ => ⟨S8192x1024, .bf16⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1536, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v44 : BitVec 1 := Scalar.cmpi .eq arg0 c15_i32
  let v45 : BitVec 32 := Scalar.extui v44
  let c0_i32_24 : BitVec 32 := 0#32
  let v46 : BitVec 1 := Scalar.cmpi .ne v45 c0_i32_24
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MInRefIdeal.lean ====
abbrev S8192x1024 : Shape := ⟨2, ![8192, 1024]⟩
abbrev S1024 : Shape := ⟨1, ![1024]⟩
abbrev S1024x1536 : Shape := ⟨2, ![1024, 1536]⟩
abbrev S8192x512 : Shape := ⟨2, ![8192, 512]⟩
abbrev S8192x1536 : Shape := ⟨2, ![8192, 1536]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1536, .bf16⟩
  | .hbm, ⟨3, _⟩ => ⟨S8192x512, .bf16⟩
  | .hbm, ⟨4, _⟩ => ⟨S8192x1024, .bf16⟩
  | .hbm, ⟨5, _⟩ => ⟨S8192x1024, .f32⟩
  | .hbm, ⟨6, _⟩ => ⟨S8192x1536, .bf16⟩
  | .hbm, ⟨7, _⟩ => ⟨S8192x1536, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S1024x1536, .f32⟩
  | .hbm, ⟨29, _⟩ => ⟨S8192x1536, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Loss.lean ====
abbrev S8192x1024 : Shape := ⟨2, ![8192, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S64x8x1024 : Shape := ⟨3, ![64, 8, 1024]⟩
abbrev S1 : Shape := ⟨1, ![1]⟩
abbrev S1x1 : Shape := ⟨2, ![1, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x1024, .f32⟩
  | .hbm, ⟨6, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x128, .f32⟩
  | .local _ .vmem, ⟨9, _⟩ => ⟨S8x1024, .f32⟩
  | .local _ .vmem, ⟨10, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v44 : BitVec 1 := Scalar.cmpi .eq arg0 c15_i32
  let v45 : BitVec 32 := Scalar.extui v44
  let c0_i32_17 : BitVec 32 := 0#32
  let v46 : BitVec 1 := Scalar.cmpi .ne v45 c0_i32_17
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x128 : Shape := ⟨2, ![1, 128]⟩

abbrev nBuf : Space → Nat
  | .hbm => 100
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S1x1024, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S8192x1, .f32⟩
  | .hbm, ⟨83, _⟩ => ⟨S8192x1024, .f32⟩
  | .hbm, ⟨84, _⟩ => ⟨S8192x1024, .f32⟩
  | .hbm, ⟨85, _⟩ => ⟨S1x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S_, .f32⟩
  | .hbm, ⟨91, _⟩ => ⟨S8192, .f32⟩
  | .hbm, ⟨92, _⟩ => ⟨S_, .f32⟩
  | .hbm, ⟨93, _⟩ => ⟨S8192, .f32⟩
  | .hbm, ⟨94, _⟩ => ⟨S8192, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_16 : Ref sig .tc := ⟨.hbm, 73, rfl⟩
abbrev main_v53 : Ref sig .tc := ⟨.hbm, 74, rfl⟩
abbrev main_v54 : Ref sig .tc := ⟨.hbm, 75, rfl⟩
abbrev main_cst_17 : Ref sig .tc := ⟨.hbm, 76, rfl⟩
abbrev main_v55 : Ref sig .tc := ⟨.hbm, 77, rfl⟩
abbrev main_v56 : Ref sig .tc := ⟨.hbm, 78, rfl⟩
abbrev main_cst_18 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_19 : Ref sig .tc := ⟨.hbm, 90, rfl⟩
abbrev main_v67 : Ref sig .tc := ⟨.hbm, 91, rfl⟩
abbrev main_cst_20 : Ref sig .tc := ⟨.hbm, 92, rfl⟩
abbrev main_v68 : Ref sig .tc := ⟨.hbm, 93, rfl⟩
abbrev main_v69 : Ref sig .tc := ⟨.hbm, 94, rfl⟩
abbrev main_cst_21 : Ref sig .tc := ⟨.hbm, 95, rfl⟩
abbrev main_v70 : Ref sig .tc := ⟨.hbm, 96, rfl⟩
abbrev main_cst_22 : Ref sig .tc := ⟨.hbm, 97, rfl⟩
abbrev main_v71 : Ref sig .tc := ⟨.hbm, 98, rfl⟩
abbrev main_v72 : Ref sig .tc := ⟨.hbm, 99, rfl⟩

abbrev nD : Nat := 1
abbrev τ : Topo := Topo.v7x

variable {F : FTy → Type} [FloatOps F]
-- ==== AdIn.lean ====
abbrev S2x1024x1408 : Shape := ⟨3, ![2, 1024, 1408]⟩
abbrev S2048x1408 : Shape := ⟨2, ![2048, 1408]⟩
abbrev S256x1408 : Shape := ⟨2, ![256, 1408]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdInIdeal.lean ====
abbrev S2x1024x1408 : Shape := ⟨3, ![2, 1024, 1408]⟩
abbrev S2048x1408 : Shape := ⟨2, ![2048, 1408]⟩
abbrev S256x1408 : Shape := ⟨2, ![256, 1408]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdInRefIdeal.lean ====
abbrev S2x1024x1408 : Shape := ⟨3, ![2, 1024, 1408]⟩
abbrev S2048x1408 : Shape := ⟨2, ![2048, 1408]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2048x1408, .f32⟩
  | .hbm, ⟨5, _⟩ => ⟨S_, .f32⟩
  | .hbm, ⟨6, _⟩ => ⟨S2x1024x1408, .f32⟩
  | .hbm, ⟨7, _⟩ => ⟨S2x1024x1408, .f32⟩
  | .hbm, ⟨8, _⟩ => ⟨S_, .f32⟩
  | .hbm, ⟨9, _⟩ => ⟨S2x1024x1408, .f32⟩
  | .hbm, ⟨10, _⟩ => ⟨S2x1024x1408, .f32⟩
  | .hbm, ⟨11, _⟩ => ⟨S2x1024x1408, .f32⟩
  | .hbm, ⟨12, _⟩ => ⟨S_, .f32⟩
  | .hbm, ⟨13, _⟩ => ⟨S2x1024x1408, .f32⟩
  | .hbm, ⟨14, _⟩ => ⟨S2x1024x1408, .f32⟩
  | .hbm, ⟨15, _⟩ => ⟨S2x1024x1408, .f32⟩
  | .hbm, ⟨16, _⟩ => ⟨S_, .f32⟩
  | .hbm, ⟨17, _⟩ => ⟨S2x1024x1408, .f32⟩
  | .hbm, ⟨18, _⟩ => ⟨S2x1024x1408, .f32⟩
  | .hbm, ⟨19, _⟩ => ⟨S2x1024x1408, .f32⟩
  | .hbm, ⟨20, _⟩ => ⟨S_, .f32⟩
  | .hbm, ⟨21, _⟩ => ⟨S2x1024x1408, .f32⟩
  | .hbm, ⟨22, _⟩ => ⟨S2x1024x1408, .f32⟩
  | .hbm, ⟨23, _⟩ => ⟨S_, .f32⟩
  | .hbm, ⟨24, _⟩ => ⟨S2x1024x1408, .f32⟩
  | .hbm, ⟨25, _⟩ => ⟨S2x1024x1408, .f32⟩
  | .hbm, ⟨26, _⟩ => ⟨S2x1024x1408, .f32⟩
  | .hbm, ⟨27, _⟩ => ⟨S_, .f32⟩
  | .hbm, ⟨28, _⟩ => ⟨S2x1024x1408, .f32⟩
  | .hbm, ⟨29, _⟩ => ⟨S2x1024x1408, .f32⟩
  | .hbm, ⟨30, _⟩ => ⟨S2x1024x1408, .f32⟩
  | .hbm, ⟨31, _⟩ => ⟨S_, .f32⟩
  | .hbm, ⟨32, _⟩ => ⟨S2x1024x1408, .f32⟩
  | .hbm, ⟨33, _⟩ => ⟨S2x1024x1408, .f32⟩
  | .hbm, ⟨34, _⟩ => ⟨S2x1024x1408, .f32⟩
  | .hbm, ⟨35, _⟩ => ⟨S_, .f32⟩
  | .hbm, ⟨36, _⟩ => ⟨S2x1024x1408, .f32⟩
  | .hbm, ⟨37, _⟩ => ⟨S2x1024x1408, .f32⟩
  | .hbm, ⟨38, _⟩ => ⟨S2048x1408, .f32⟩
  | .hbm, ⟨39, _⟩ => ⟨S2048x1408, .f32⟩
  | .hbm, ⟨40, _⟩ => ⟨S2048x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdOut.lean ====
abbrev S2x704x1024 : Shape := ⟨3, ![2, 704, 1024]⟩
abbrev S1408x1024 : Shape := ⟨2, ![1408, 1024]⟩
abbrev S176x1024 : Shape := ⟨2, ![176, 1024]⟩

abbrev nBuf : Space → Nat
  | .hbm => 12
  | .vmem => 16
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S1408x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdOutIdeal.lean ====
abbrev S2x704x1024 : Shape := ⟨3, ![2, 704, 1024]⟩
abbrev S1408x1024 : Shape := ⟨2, ![1408, 1024]⟩
abbrev S176x1024 : Shape := ⟨2, ![176, 1024]⟩

abbrev nBuf : Space → Nat
  | .hbm => 12
  | .vmem => 16
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S1408x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdOutRefIdeal.lean ====
abbrev S2x704x1024 : Shape := ⟨3, ![2, 704, 1024]⟩
abbrev S1408x1024 : Shape := ⟨2, ![1408, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S1408x1024, .f32⟩
  | .hbm, ⟨5, _⟩ => ⟨S_, .f32⟩
  | .hbm, ⟨6, _⟩ => ⟨S2x704x1024, .f32⟩
  | .hbm, ⟨7, _⟩ => ⟨S2x704x1024, .f32⟩
  | .hbm, ⟨8, _⟩ => ⟨S_, .f32⟩
  | .hbm, ⟨9, _⟩ => ⟨S2x704x1024, .f32⟩
  | .hbm, ⟨10, _⟩ => ⟨S2x704x1024, .f32⟩
  | .hbm, ⟨11, _⟩ => ⟨S2x704x1024, .f32⟩
  | .hbm, ⟨12, _⟩ => ⟨S_, .f32⟩
  | .hbm, ⟨13, _⟩ => ⟨S2x704x1024, .f32⟩
  | .hbm, ⟨14, _⟩ => ⟨S2x704x1024, .f32⟩
  | .hbm, ⟨15, _⟩ => ⟨S2x704x1024, .f32⟩
  | .hbm, ⟨16, _⟩ => ⟨S_, .f32⟩
  | .hbm, ⟨17, _⟩ => ⟨S2x704x1024, .f32⟩
  | .hbm, ⟨18, _⟩ => ⟨S2x704x1024, .f32⟩
  | .hbm, ⟨19, _⟩ => ⟨S2x704x1024, .f32⟩
  | .hbm, ⟨20, _⟩ => ⟨S_, .f32⟩
  | .hbm, ⟨21, _⟩ => ⟨S2x704x1024, .f32⟩
  | .hbm, ⟨22, _⟩ => ⟨S2x704x1024, .f32⟩
  | .hbm, ⟨23, _⟩ => ⟨S_, .f32⟩
  | .hbm, ⟨24, _⟩ => ⟨S2x704x1024, .f32⟩
  | .hbm, ⟨25, _⟩ => ⟨S2x704x1024, .f32⟩
  | .hbm, ⟨26, _⟩ => ⟨S2x704x1024, .f32⟩
  | .hbm, ⟨27, _⟩ => ⟨S_, .f32⟩
  | .hbm, ⟨28, _⟩ => ⟨S2x704x1024, .f32⟩
  | .hbm, ⟨29, _⟩ => ⟨S2x704x1024, .f32⟩
  | .hbm, ⟨30, _⟩ => ⟨S2x704x1024, .f32⟩
  | .hbm, ⟨31, _⟩ => ⟨S_, .f32⟩
  | .hbm, ⟨32, _⟩ => ⟨S2x704x1024, .f32⟩
  | .hbm, ⟨33, _⟩ => ⟨S2x704x1024, .f32⟩
  | .hbm, ⟨34, _⟩ => ⟨S2x704x1024, .f32⟩
  | .hbm, ⟨35, _⟩ => ⟨S_, .f32⟩
  | .hbm, ⟨36, _⟩ => ⟨S2x704x1024, .f32⟩
  | .hbm, ⟨37, _⟩ => ⟨S2x704x1024, .f32⟩
  | .hbm, ⟨38, _⟩ => ⟨S1408x1024, .f32⟩
  | .hbm, ⟨39, _⟩ => ⟨S1408x1024, .f32⟩
  | .hbm, ⟨40, _⟩ => ⟨S1408x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdMIn.lean ====
abbrev S2x1024x384 : Shape := ⟨3, ![2, 1024, 384]⟩
abbrev S2048x384 : Shape := ⟨2, ![2048, 384]⟩
abbrev S256x384 : Shape := ⟨2, ![256, 384]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x384, .f32⟩
  | .hbm, ⟨1, _⟩ => ⟨S2x1024x384, .f32⟩
  | .hbm, ⟨2, _⟩ => ⟨S2x1024x384, .f32⟩
  | .hbm, ⟨3, _⟩ => ⟨S2x1024x384, .f32⟩
  | .hbm, ⟨4, _⟩ => ⟨S2048x384, .f32⟩
  | .hbm, ⟨5, _⟩ => ⟨S2048x384, .f32⟩
  | .hbm, ⟨6, _⟩ => ⟨S2048x384, .f32⟩
  | .hbm, ⟨7, _⟩ => ⟨S2048x384, .f32⟩
  | .hbm, ⟨8, _⟩ => ⟨S2048x384, .f32⟩
  | .hbm, ⟨9, _⟩ => ⟨S2048x384, .f32⟩
  | .hbm, ⟨10, _⟩ => ⟨S2048x384, .f32⟩
  | .hbm, ⟨11, _⟩ => ⟨S2048x384, .f32⟩
  | .local _ .vmem, ⟨0, _⟩ => ⟨S256x384, .f32⟩
  | .local _ .vmem, ⟨1, _⟩ => ⟨S256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S256x384, .f32⟩
  | .local _ .vmem, ⟨15, _⟩ => ⟨S256x384, .f32⟩
  | _, _ => ⟨S2x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdMInIdeal.lean ====
abbrev S2x1024x384 : Shape := ⟨3, ![2, 1024, 384]⟩
abbrev S2048x384 : Shape := ⟨2, ![2048, 384]⟩
abbrev S256x384 : Shape := ⟨2, ![256, 384]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x384, .f32⟩
  | .hbm, ⟨1, _⟩ => ⟨S2x1024x384, .f32⟩
  | .hbm, ⟨2, _⟩ => ⟨S2x1024x384, .f32⟩
  | .hbm, ⟨3, _⟩ => ⟨S2x1024x384, .f32⟩
  | .hbm, ⟨4, _⟩ => ⟨S2048x384, .f32⟩
  | .hbm, ⟨5, _⟩ => ⟨S2048x384, .f32⟩
  | .hbm, ⟨6, _⟩ => ⟨S2048x384, .f32⟩
  | .hbm, ⟨7, _⟩ => ⟨S2048x384, .f32⟩
  | .hbm, ⟨8, _⟩ => ⟨S2048x384, .f32⟩
  | .hbm, ⟨9, _⟩ => ⟨S2048x384, .f32⟩
  | .hbm, ⟨10, _⟩ => ⟨S2048x384, .f32⟩
  | .hbm, ⟨11, _⟩ => ⟨S2048x384, .f32⟩
  | .local _ .vmem, ⟨0, _⟩ => ⟨S256x384, .f32⟩
  | .local _ .vmem, ⟨1, _⟩ => ⟨S256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S256x384, .f32⟩
  | .local _ .vmem, ⟨15, _⟩ => ⟨S256x384, .f32⟩
  | _, _ => ⟨S2x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdMInRefIdeal.lean ====
abbrev S2x1024x384 : Shape := ⟨3, ![2, 1024, 384]⟩
abbrev S2048x384 : Shape := ⟨2, ![2048, 384]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x384, .f32⟩
  | .hbm, ⟨1, _⟩ => ⟨S2x1024x384, .f32⟩
  | .hbm, ⟨2, _⟩ => ⟨S2x1024x384, .f32⟩
  | .hbm, ⟨3, _⟩ => ⟨S2x1024x384, .f32⟩
  | .hbm, ⟨4, _⟩ => ⟨S2048x384, .f32⟩
  | .hbm, ⟨5, _⟩ => ⟨S_, .f32⟩
  | .hbm, ⟨6, _⟩ => ⟨S2x1024x384, .f32⟩
  | .hbm, ⟨7, _⟩ => ⟨S2x1024x384, .f32⟩
  | .hbm, ⟨8, _⟩ => ⟨S_, .f32⟩
  | .hbm, ⟨9, _⟩ => ⟨S2x1024x384, .f32⟩
  | .hbm, ⟨10, _⟩ => ⟨S2x1024x384, .f32⟩
  | .hbm, ⟨11, _⟩ => ⟨S2x1024x384, .f32⟩
  | .hbm, ⟨12, _⟩ => ⟨S_, .f32⟩
  | .hbm, ⟨13, _⟩ => ⟨S2x1024x384, .f32⟩
  | .hbm, ⟨14, _⟩ => ⟨S2x1024x384, .f32⟩
  | .hbm, ⟨15, _⟩ => ⟨S2x1024x384, .f32⟩
  | .hbm, ⟨16, _⟩ => ⟨S_, .f32⟩
  | .hbm, ⟨17, _⟩ => ⟨S2x1024x384, .f32⟩
  | .hbm, ⟨18, _⟩ => ⟨S2x1024x384, .f32⟩
  | .hbm, ⟨19, _⟩ => ⟨S2x1024x384, .f32⟩
  | .hbm, ⟨20, _⟩ => ⟨S_, .f32⟩
  | .hbm, ⟨21, _⟩ => ⟨S2x1024x384, .f32⟩
  | .hbm, ⟨22, _⟩ => ⟨S2x1024x384, .f32⟩
  | .hbm, ⟨23, _⟩ => ⟨S_, .f32⟩
  | .hbm, ⟨24, _⟩ => ⟨S2x1024x384, .f32⟩
  | .hbm, ⟨25, _⟩ => ⟨S2x1024x384, .f32⟩
  | .hbm, ⟨26, _⟩ => ⟨S2x1024x384, .f32⟩
  | .hbm, ⟨27, _⟩ => ⟨S_, .f32⟩
  | .hbm, ⟨28, _⟩ => ⟨S2x1024x384, .f32⟩
  | .hbm, ⟨29, _⟩ => ⟨S2x1024x384, .f32⟩
  | .hbm, ⟨30, _⟩ => ⟨S2x1024x384, .f32⟩
  | .hbm, ⟨31, _⟩ => ⟨S_, .f32⟩
  | .hbm, ⟨32, _⟩ => ⟨S2x1024x384, .f32⟩
  | .hbm, ⟨33, _⟩ => ⟨S2x1024x384, .f32⟩
  | .hbm, ⟨34, _⟩ => ⟨S2x1024x384, .f32⟩
  | .hbm, ⟨35, _⟩ => ⟨S_, .f32⟩
  | .hbm, ⟨36, _⟩ => ⟨S2x1024x384, .f32⟩
  | .hbm, ⟨37, _⟩ => ⟨S2x1024x384, .f32⟩
  | .hbm, ⟨38, _⟩ => ⟨S2048x384, .f32⟩
  | .hbm, ⟨39, _⟩ => ⟨S2048x384, .f32⟩
  | .hbm, ⟨40, _⟩ => ⟨S2048x384, .f32⟩
  | _, _ => ⟨S2x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdMOut.lean ====
abbrev S2x256x1024 : Shape := ⟨3, ![2, 256, 1024]⟩
abbrev S512x1024 : Shape := ⟨2, ![512, 1024]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdMOutRefIdeal.lean ====
abbrev S2x256x1024 : Shape := ⟨3, ![2, 256, 1024]⟩
abbrev S512x1024 : Shape := ⟨2, ![512, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S_, .f32⟩
  | .hbm, ⟨6, _⟩ => ⟨S2x256x1024, .f32⟩
  | .hbm, ⟨7, _⟩ => ⟨S2x256x1024, .f32⟩
  | .hbm, ⟨8, _⟩ => ⟨S_, .f32⟩
  | .hbm, ⟨9, _⟩ => ⟨S2x256x1024, .f32⟩
  | .hbm, ⟨10, _⟩ => ⟨S2x256x1024, .f32⟩
  | .hbm, ⟨11, _⟩ => ⟨S2x256x1024, .f32⟩
  | .hbm, ⟨12, _⟩ => ⟨S_, .f32⟩
  | .hbm, ⟨13, _⟩ => ⟨S2x256x1024, .f32⟩
  | .hbm, ⟨14, _⟩ => ⟨S2x256x1024, .f32⟩
  | .hbm, ⟨15, _⟩ => ⟨S2x256x1024, .f32⟩
  | .hbm, ⟨16, _⟩ => ⟨S_, .f32⟩
  | .hbm, ⟨17, _⟩ => ⟨S2x256x1024, .f32⟩
  | .hbm, ⟨18, _⟩ => ⟨S2x256x1024, .f32⟩
  | .hbm, ⟨19, _⟩ => ⟨S2x256x1024, .f32⟩
  | .hbm, ⟨20, _⟩ => ⟨S_, .f32⟩
  | .hbm, ⟨21, _⟩ => ⟨S2x256x1024, .f32⟩
  | .hbm, ⟨22, _⟩ => ⟨S2x256x1024, .f32⟩
  | .hbm, ⟨23, _⟩ => ⟨S_, .f32⟩
  | .hbm, ⟨24, _⟩ => ⟨S2x256x1024, .f32⟩
  | .hbm, ⟨25, _⟩ => ⟨S2x256x1024, .f32⟩
  | .hbm, ⟨26, _⟩ => ⟨S2x256x1024, .f32⟩
  | .hbm, ⟨27, _⟩ => ⟨S_, .f32⟩
  | .hbm, ⟨28, _⟩ => ⟨S2x256x1024, .f32⟩
  | .hbm, ⟨29, _⟩ => ⟨S2x256x1024, .f32⟩
  | .hbm, ⟨30, _⟩ => ⟨S2x256x1024, .f32⟩
  | .hbm, ⟨31, _⟩ => ⟨S_, .f32⟩
  | .hbm, ⟨32, _⟩ => ⟨S2x256x1024, .f32⟩
  | .hbm, ⟨33, _⟩ => ⟨S2x256x1024, .f32⟩
  | .hbm, ⟨34, _⟩ => ⟨S2x256x1024, .f32⟩
  | .hbm, ⟨35, _⟩ => ⟨S_, .f32⟩
  | .hbm, ⟨36, _⟩ => ⟨S2x256x1024, .f32⟩
  | .hbm, ⟨37, _⟩ => ⟨S2x256x1024, .f32⟩
  | .hbm, ⟨38, _⟩ => ⟨S512x1024, .f32⟩
  | .hbm, ⟨39, _⟩ => ⟨S512x1024, .f32⟩
  | .hbm, ⟨40, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Proof.Consts.lean ====
/- The float constants of the two programs as real numbers. -/
module
public import Idealize.ShloMosaic.PureOps.Ideal
public import Idealize.ShloMosaic.PureOps.Ideal.Laws
public import Idealize.ShloMosaic.Lib.Pointwise
@[expose] public section
noncomputable section
namespace Cert.Consts
open Idealize.ShloMosaic

/-- The float32 nearest to `sqrt (2/π)`. -/
def cR : ℝ := 13386282 / 16777216
/-- The float32 nearest to `1e-6`. -/
def epsR : ℝ := 8796093 / 8796093022208

/-- The float word of one half. -/
theorem ofBits_half : Ideal.ofBits .f32 0x3F000000#32 = ((1 / 2 : ℝ) : EReal) := by
  simp [Ideal.ofBits, Ideal.ieee, -EReal.coe_mul]; norm_num
/-- The float word of one. -/
theorem ofBits_one : Ideal.ofBits .f32 0x3F800000#32 = ((1 : ℝ) : EReal) := by
  simp [Ideal.ofBits, Ideal.ieee, -EReal.coe_mul]; norm_num
/-- The float word of the constant inside the `tanh`. -/
theorem ofBits_c : Ideal.ofBits .f32 0x3F4C422A#32 = ((cR : ℝ) : EReal) := by
  unfold cR
  simp [Ideal.ofBits, Ideal.ieee, -EReal.coe_mul]; norm_num
/-- The float word of 128. -/
theorem ofBits_128 : Ideal.ofBits .f32 0x43000000#32 = ((128 : ℝ) : EReal) := by
  simp [Ideal.ofBits, Ideal.ieee, -EReal.coe_mul]; norm_num
/-- The float word of the epsilon. -/
theorem ofBits_eps : Ideal.ofBits .f32 0x358637BD#32 = ((epsR : ℝ) : EReal) := by
  unfold epsR
  simp [Ideal.ofBits, Ideal.ieee, -EReal.coe_mul]; norm_num

/-- The epsilon is positive. -/
theorem epsR_pos : 0 < epsR := by unfold epsR; norm_num

/-- A finite sum of real numbers, in the extended reals, is the real sum. -/
theorem coe_sum {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- Division by the constant 128. -/
theorem div_128 (a : ℝ) : Ideal.div (a : EReal) ((128 : ℝ) : EReal) = ((a / 128 : ℝ) : EReal) := by
  rw [Ideal.div_coe (by norm_num), ← EReal.coe_mul]; congr 1; ring

/-- The reciprocal square root of a positive real. -/
theorem rsqrt_pos {a : ℝ} (h : 0 < a) : Ideal.rsqrt (a : EReal) = (((Real.sqrt a)⁻¹ : ℝ) : EReal) := by
  rw [Ideal.rsqrt_coe, if_neg (not_lt.mpr h.le), if_neg h.ne']
end Cert.Consts
end
-- ==== Proof.Real.lean ====
/- The mathematics of the gated spatial unit and of its gradient over the real numbers. Arrays are functions of natural
   indices: `z T c` is the preactivation of token `T` (512 channels of `u`, then 512 of `v`), `dy T c` the cotangent,
   `gn c` the normalisation's gain, `w h t k` the mixing weights of head `h`, `b t c` the bias. Token `128 n + t` is
   place `t` of chunk `n`; channel `128 h + d` is channel `d` of head `h`. -/
module
public import proofs.«01_k».proof.Proof.Consts
@[expose] public section
noncomputable section
namespace Cert.GateGrad
open Cert.Consts

/-- The `tanh` inside the gelu. -/
def th (x : ℝ) : ℝ := Real.tanh (cR * (x + 8943 / 200000 * x * x * x))
/-- The gelu (tanh form). -/
def gelu (x : ℝ) : ℝ := 1 / 2 * x * (1 + th x)
/-- Its derivative. -/
def gelu' (x : ℝ) : ℝ :=
  1 / 2 * (1 + th x) + 1 / 2 * x * (1 - th x * th x) * cR * (1 + 26829 / 200000 * x * x)

/-- The bias of a channel is its head's. -/
def bR (bs : ℕ → ℕ → ℝ) (t c : ℕ) : ℝ := bs (c / 128) t

variable (z dy : ℕ → ℕ → ℝ) (gn : ℕ → ℝ) (w : ℕ → ℕ → ℕ → ℝ) (b : ℕ → ℕ → ℝ)

/-- The mean square of head `h` at token `T`, with the epsilon. -/
def ms (T h : ℕ) : ℝ := (∑ d : Fin 128, gelu (z T (512 + (128 * h + d.val))) * gelu (z T (512 + (128 * h + d.val)))) / 128 + epsR
/-- Its reciprocal square root. -/
def rr (T h : ℕ) : ℝ := (Real.sqrt (ms z T h))⁻¹
/-- The normalised gate. -/
def vh (T h d : ℕ) : ℝ := gelu (z T (512 + (128 * h + d))) * rr z T h
/-- … with the gain. -/
def vn (T h d : ℕ) : ℝ := vh z T h d * gn (128 * h + d)
/-- The causal mixing weights. -/
def wm (h t k : ℕ) : ℝ := if k ≤ t then w h t k else 0
/-- The mixed gate of chunk `n`. -/
def mix (n h t d : ℕ) : ℝ := (∑ k : Fin 128, wm w h t k * vn z gn (128 * n + k.val) h d) + b t (128 * h + d)
/-- The cotangent of the mixed gate. -/
def ds (T c : ℕ) : ℝ := dy T c * gelu (z T c)
/-- The gradient of `u`'s preactivation. -/
def du (n t h d : ℕ) : ℝ := dy (128 * n + t) (128 * h + d) * mix z gn w b n h t d * gelu' (z (128 * n + t) (128 * h + d))
/-- The cotangent of the normalised gate (with gain) at place `k` of chunk `n`. -/
def dvn (n k h d : ℕ) : ℝ := ∑ t : Fin 128, wm w h t.val k * ds z dy (128 * n + t.val) (128 * h + d)
/-- The gradient of the gate's preactivation. -/
def dv (n k h d : ℕ) : ℝ :=
  rr z (128 * n + k) h * (dvn z dy w n k h d * gn (128 * h + d) - vh z (128 * n + k) h d *
    ((∑ e : Fin 128, dvn z dy w n k h e.val * gn (128 * h + e.val) * vh z (128 * n + k) h e.val) / 128)) *
    gelu' (z (128 * n + k) (512 + (128 * h + d)))
/-- What chunk `n` adds to the gradient of the mixing weights, before the causal mask. -/
def dwPart (n h t k : ℕ) : ℝ := ∑ d : Fin 128, ds z dy (128 * n + t) (128 * h + d.val) * vn z gn (128 * n + k) h d.val
/-- What chunk `n` adds to the gradient of the gain. -/
def dgPart (n h d : ℕ) : ℝ := ∑ k : Fin 128, dvn z dy w n k.val h d * vh z (128 * n + k.val) h d

/-- The mean square with its epsilon is positive. -/
theorem ms_pos (T h : ℕ) : 0 < ms z T h :=
  add_pos_of_nonneg_of_pos (div_nonneg (Finset.sum_nonneg fun _ _ => mul_self_nonneg _) (by norm_num)) epsR_pos
end Cert.GateGrad
end
-- ==== Proof.Tile.lean ====
/- The tile computations of the kernel's body: each vector expression of a grid point, read at an index, is the real
   formula of its operands. -/
module
public import proofs.«01_k».proof.Proof.Real
public import proofs.«01_k».proof.Proof.Gen.KernelIdeal.Skeleton
public import Idealize.ShloMosaic.Lib.Pointwise
public import Idealize.ShloMosaic.Lib.WordCmp
@[expose] public section
set_option maxRecDepth 16384
noncomputable section
namespace Cert.Tile
open Cert.KernelIdeal Cert.KernelIdeal.Gen Cert.Consts Cert.GateGrad Idealize.ShloMosaic
open Idealize.ShloMosaic (ix1 ix2 ix3)

/-- The matrix `v` holds, at every index, the real number `f` gives there. -/
def At2 {a b : ℕ} {φ : FTy} (v : FVec Ideal (⟨2, ![a, b]⟩ : Shape) φ) (f : ℕ → ℕ → ℝ) : Prop :=
  ∀ (r : Fin a) (c : Fin b), (v (ix2 r c) : EReal) = ((f r.val c.val : ℝ) : EReal)
/-- The same for an array of three axes. -/
def At3 {a b c : ℕ} {φ : FTy} (v : FVec Ideal (⟨3, ![a, b, c]⟩ : Shape) φ) (f : ℕ → ℕ → ℕ → ℝ) : Prop :=
  ∀ (p : Fin a) (r : Fin b) (k : Fin c), (v (ix3 p r k) : EReal) = ((f p.val r.val k.val : ℝ) : EReal)

/-- The named constant of the gelu. -/
theorem named_a : Named.named (F := Ideal) (φ := .f32) Cert.KernelIdeal.κ "gelu_a" 0x3D372713#32 = ((8943 / 200000 : ℝ) : EReal) :=
  IdealRules.named_const.ideal_named_scalar _ _ _ _ rfl
/-- The named constant of the gelu's derivative. -/
theorem named_3a : Named.named (F := Ideal) (φ := .f32) Cert.KernelIdeal.κ "gelu_3a" 0x3E095D4F#32 = ((26829 / 200000 : ℝ) : EReal) :=
  IdealRules.named_const.ideal_named_scalar _ _ _ _ rfl

section
variable {x : FVec Ideal S512x512 .f32} {f : ℕ → ℕ → ℝ} (hx : At2 x f)
include hx
/-- The `tanh` of a tile. -/
theorem pay9_at : At2 (k0_pay9 x) (fun r c => th (f r c)) := by
  intro r c
  pointwise [k0_pay9]
  simp only [hx r c, named_a, ofBits_c, ← EReal.coe_mul, ← EReal.coe_add, Ideal.tanh_coe]
  rfl
/-- The gelu of a tile. -/
theorem pay10_at : At2 (k0_pay10 x) (fun r c => gelu (f r c)) := by
  intro r c
  pointwise [k0_pay10]
  simp only [hx r c, pay9_at hx r c, ofBits_half, ofBits_one, ← EReal.coe_mul, ← EReal.coe_add]
  rfl
/-- The derivative of the gelu on a tile. -/
theorem pay11_at : At2 (k0_pay11 x) (fun r c => gelu' (f r c)) := by
  intro r c
  pointwise [k0_pay11]
  simp only [hx r c, pay9_at hx r c, named_3a, ofBits_c, ofBits_half, ofBits_one, ← EReal.coe_mul, ← EReal.coe_add,
    ← EReal.coe_sub]
  rfl
end

/-- The reciprocal root mean square of the rows of a head's gate. -/
def rOp (v : FVec Ideal S512x128 .f32) : FVec Ideal S512x1 .f32 :=
  rsqrt (addf (divf (shapeCast S512x1 (multiReduction .add [1] S512 (mulf v v) 0x00000000#32 reduces_S512x128_S512 (.inl rfl) rfl)
    shapeCasts_S512_S512x1) (broadcast S512x1 (Scalar.ofBits .f32 0x43000000#32))) (broadcast S512x1 (Scalar.ofBits .f32 0x358637BD#32)))
/-- The normalised gate. -/
def vhOp (v : FVec Ideal S512x128 .f32) : FVec Ideal S512x128 .f32 :=
  mulf v (broadcastTo S512x128 (rOp v) broadcasts_S512x1_S512x128)
/-- … with the gain. -/
def vnOp (v : FVec Ideal S512x128 .f32) (g : FVec Ideal S1x128 .f32) : FVec Ideal S512x128 .bf16 :=
  truncf .bf16 (mulf (vhOp v) (broadcastTo S512x128 (shapeCast S1x128 g shapeCasts_S1x128_S1x128) broadcasts_S1x128_S512x128)) bitsLt_bf16_f32
/-- The causal mixing weights. -/
def wmOp (w : FVec Ideal S1x128x128 .f32) : FVec Ideal S128x128 .bf16 :=
  truncf .bf16 (select k0_pay5 (shapeCast S128x128 w shapeCasts_S1x128x128_S128x128)
    (broadcast S128x128 (Scalar.ofBits .f32 0x00000000#32))) bitsLt_bf16_f32
/-- The mixed gate of one chunk. -/
def mixOp (w : FVec Ideal S1x128x128 .f32) (vnq : FVec Ideal S128x128 .bf16) (b : FVec Ideal S128x128 .f32) : FVec Ideal S128x128 .f32 :=
  addf (matmul dot_S128x128_S128x128_S128x128_1_0_0_1_n_n none (wmOp w) vnq (constant S128x128 .f32 0x00000000#32))
    (shapeCast S128x128 b shapeCasts_S128x128_S128x128)
/-- The cotangent of the normalised gate of one chunk. -/
def dvqOp (w : FVec Ideal S1x128x128 .f32) (dsq : FVec Ideal S128x128 .f32) : FVec Ideal S128x128 .f32 :=
  matmul dot_S128x128_S128x128_S128x128_0_0_1_1_n_n none (wmOp w) (truncf .bf16 dsq bitsLt_bf16_f32) (constant S128x128 .f32 0x00000000#32)
/-- One chunk's part of the gradient of the mixing weights. -/
def dwOp (dsq : FVec Ideal S128x128 .f32) (vnq : FVec Ideal S128x128 .bf16) : FVec Ideal S128x128 .f32 :=
  matmul dot_S128x128_S128x128_S128x128_1_1_0_0_n_n none (truncf .bf16 dsq bitsLt_bf16_f32) vnq (constant S128x128 .f32 0x00000000#32)
/-- The four chunks' cotangents, one below the other. -/
def catOp (a b c d : FVec Ideal S128x128 .f32) : FVec Ideal S512x128 .f32 :=
  concatenate S512x128 0 [⟨S128x128, a⟩, ⟨S128x128, b⟩, ⟨S128x128, c⟩, ⟨S128x128, d⟩] concatenates_S128x128_S128x128_S128x128_S128x128_S512x128_d0
/-- What the tile adds to the gradient of the gain. -/
def dgOp (dvn v : FVec Ideal S512x128 .f32) : FVec Ideal S1x128 .f32 :=
  shapeCast S1x128 (multiReduction .add [0] S128 (mulf dvn (vhOp v)) 0x00000000#32 reduces_S512x128_S128 (.inl rfl) rfl) shapeCasts_S128_S1x128
/-- The gradient of the gate, before the gelu. -/
def dvOp (dvn v : FVec Ideal S512x128 .f32) (g : FVec Ideal S1x128 .f32) : FVec Ideal S512x128 .f32 :=
  have dh : FVec Ideal S512x128 .f32 :=
    mulf dvn (broadcastTo S512x128 (shapeCast S1x128 g shapeCasts_S1x128_S1x128) broadcasts_S1x128_S512x128)
  mulf (broadcastTo S512x128 (rOp v) broadcasts_S512x1_S512x128)
    (subf dh (mulf (vhOp v) (broadcastTo S512x128 (divf (shapeCast S512x1 (multiReduction .add [1] S512 (mulf dh (vhOp v)) 0x00000000#32
      reduces_S512x128_S512 (.inl rfl) rfl) shapeCasts_S512_S512x1) (broadcast S512x1 (Scalar.ofBits .f32 0x43000000#32))) broadcasts_S512x1_S512x128)))

section
variable {v : FVec Ideal S512x128 .f32} {f : ℕ → ℕ → ℝ} (hv : At2 v f)
include hv
/-- The reciprocal roots of the mean squares of the rows. -/
theorem rOp_at : At2 (rOp v) (fun r _ => (Real.sqrt ((∑ d : Fin 128, f r d.val * f r d.val) / 128 + epsR))⁻¹) := by
  intro r c
  pointwise [rOp]
  have hv' := fun d => hv r d
  simp only [hv', ofBits_128, ofBits_eps, ← EReal.coe_mul, coe_sum, div_128, ← EReal.coe_add]
  rw [rsqrt_pos]
  exact add_pos_of_nonneg_of_pos (div_nonneg (Finset.sum_nonneg fun _ _ => mul_self_nonneg _) (by norm_num)) epsR_pos
/-- The normalised rows. -/
theorem vhOp_at : At2 (vhOp v) (fun r c => f r c * (Real.sqrt ((∑ d : Fin 128, f r d.val * f r d.val) / 128 + epsR))⁻¹) := by
  intro r c
  pointwise [vhOp]
  rw [hv r c, rOp_at hv r 0, ← EReal.coe_mul]
/-- The normalised rows with their gain. -/
theorem vnOp_at {g : FVec Ideal S1x128 .f32} {fg : ℕ → ℝ} (hg : At2 g fun _ c => fg c) :
    At2 (vnOp v g) (fun r c => f r c * (Real.sqrt ((∑ d : Fin 128, f r d.val * f r d.val) / 128 + epsR))⁻¹ * fg c) := by
  intro r c
  pointwise [vnOp]
  rw [vhOp_at hv r c, hg 0 c, ← EReal.coe_mul]
end

/-- The causal mask of the kernel. -/
theorem mask_at (r k : Fin 128) : k0_pay5 (ix2 r k) = if k.val ≤ r.val then 1#1 else 0#1 := by
  pointwise [k0_pay5]
  have hr := r.isLt
  have hk := k.isLt
  rw [WordCmp.cmpi_sle_ofNat (by omega) (by omega)]
  by_cases h : k.val ≤ r.val <;> simp [h]
/-- The masked mixing weights. -/
theorem wmOp_at {w : FVec Ideal S1x128x128 .f32} {f : ℕ → ℕ → ℝ} (hw : At3 w fun _ => f) :
    At2 (wmOp w) (fun t k => if k ≤ t then f t k else 0) := by
  intro t k
  pointwise [wmOp]
  rw [mask_at, hw 0 t k]
  by_cases h : k.val ≤ t.val <;> simp [h, Scalar.select]
/-- Four chunks, one below the other. -/
theorem catOp_at {a b c d : FVec Ideal S128x128 .f32} {f : ℕ → ℕ → ℝ}
    (ha : At2 a fun r c => f r c) (hb : At2 b fun r c => f (128 + r) c) (hc : At2 c fun r c => f (256 + r) c) (hd : At2 d fun r c => f (384 + r) c) :
    At2 (catOp a b c d) f := by
  intro r k
  pointwise [catOp]
  have hr := r.isLt
  by_cases h1 : r.val < 128
  · rw [dif_pos h1]; exact ha _ _
  rw [dif_neg h1]
  by_cases h2 : r.val - 128 < 128
  · rw [dif_pos h2]; exact (hb _ _).trans (congrArg (fun n => ((f n k.val : ℝ) : EReal)) (by show 128 + (r.val - 128) = _; omega))
  rw [dif_neg h2]
  by_cases h3 : r.val - 128 - 128 < 128
  · rw [dif_pos h3]; exact (hc _ _).trans (congrArg (fun n => ((f n k.val : ℝ) : EReal)) (by show 256 + (r.val - 128 - 128) = _; omega))
  · rw [dif_neg h3]; exact (hd _ _).trans (congrArg (fun n => ((f n k.val : ℝ) : EReal)) (by show 384 + (r.val - 128 - 128 - 128) = _; omega))

/-- The mixed gate of a chunk. -/
theorem mixOp_at {w : FVec Ideal S1x128x128 .f32} {vnq : FVec Ideal S128x128 .bf16} {b : FVec Ideal S128x128 .f32}
    {fw fv fb : ℕ → ℕ → ℝ} (hw : At3 w fun _ => fw) (hv : At2 vnq fv) (hb : At2 b fb) :
    At2 (mixOp w vnq b) (fun t d => (∑ k : Fin 128, (if k.val ≤ t then fw t k.val else 0) * fv k.val d) + fb t d) := by
  intro t d
  pointwise [mixOp]
  simp only [wmOp_at hw t _, hv _ d, hb t d, ← EReal.coe_mul, coe_sum, ← EReal.coe_add]
/-- A chunk's cotangent of the normalised gate. -/
theorem dvqOp_at {w : FVec Ideal S1x128x128 .f32} {dsq : FVec Ideal S128x128 .f32} {fw fd : ℕ → ℕ → ℝ}
    (hw : At3 w fun _ => fw) (hd : At2 dsq fd) :
    At2 (dvqOp w dsq) (fun k d => ∑ t : Fin 128, (if k ≤ t.val then fw t.val k else 0) * fd t.val d) := by
  intro k d
  pointwise [dvqOp]
  simp only [wmOp_at hw _ k, hd _ d, ← EReal.coe_mul, coe_sum]
/-- A chunk's part of the weights' gradient. -/
theorem dwOp_at {vnq : FVec Ideal S128x128 .bf16} {dsq : FVec Ideal S128x128 .f32} {fv fd : ℕ → ℕ → ℝ}
    (hv : At2 vnq fv) (hd : At2 dsq fd) :
    At2 (dwOp dsq vnq) (fun t k => ∑ d : Fin 128, fd t d.val * fv k d.val) := by
  intro t k
  pointwise [dwOp]
  simp only [hv k _, hd t _, ← EReal.coe_mul, coe_sum]
/-- A band's part of the gain gradient. -/
theorem dgOp_at {dvn v : FVec Ideal S512x128 .f32} {fd f : ℕ → ℕ → ℝ} (hd : At2 dvn fd) (hv : At2 v f) :
    At2 (dgOp dvn v) (fun _ c => ∑ r : Fin 512, fd r.val c *
      (f r.val c * (Real.sqrt ((∑ d : Fin 128, f r.val d.val * f r.val d.val) / 128 + epsR))⁻¹)) := by
  intro r c
  pointwise [dgOp]
  simp only [hd _ c, vhOp_at hv _ c, ← EReal.coe_mul, coe_sum]
/-- The gradient of the gate's preactivation on a band. -/
theorem dvOp_at {dvn v : FVec Ideal S512x128 .f32} {g : FVec Ideal S1x128 .f32} {fd f : ℕ → ℕ → ℝ} {fg : ℕ → ℝ}
    (hd : At2 dvn fd) (hv : At2 v f) (hg : At2 g fun _ c => fg c) :
    At2 (dvOp dvn v g) (fun r c => (Real.sqrt ((∑ d : Fin 128, f r d.val * f r d.val) / 128 + epsR))⁻¹ *
      (fd r c * fg c - f r c * (Real.sqrt ((∑ d : Fin 128, f r d.val * f r d.val) / 128 + epsR))⁻¹ *
        ((∑ e : Fin 128, fd r e.val * fg e.val * (f r e.val * (Real.sqrt ((∑ d : Fin 128, f r d.val * f r d.val) / 128 + epsR))⁻¹)) / 128))) := by
  intro r c
  pointwise [dvOp]
  simp only [hd r _, vhOp_at hv r _, rOp_at hv r _, hg _ _, ofBits_128, ← EReal.coe_mul, coe_sum, div_128, ← EReal.coe_sub]

/-- A rectangle cut out of a matrix. -/
theorem slice_at {n0 n1 m0 m1 ro co : ℕ} {φ : FTy} {v : FVec Ideal (⟨2, ![n0, n1]⟩ : Shape) φ} {f : ℕ → ℕ → ℝ} (hv : At2 v f)
    (h : (⟨2, ![n0, n1]⟩ : Shape).Slices ![ro, co] (⟨2, ![m0, m1]⟩ : Shape)) :
    At2 (extractStridedSlice (⟨2, ![m0, m1]⟩ : Shape) ![ro, co] v h) (fun r c => f (ro + r) (co + c)) := by
  intro r c
  exact (congrArg v (eq_ix2 _)).trans (hv _ _)
/-- The product of two real matrices, element by element. -/
theorem At2.mul {a b : ℕ} {φ : FTy} {v u : FVec Ideal (⟨2, ![a, b]⟩ : Shape) φ} {f g : ℕ → ℕ → ℝ} (hv : At2 v f) (hu : At2 u g) :
    At2 (mulf v u) fun r c => f r c * g r c := by
  intro r c
  pointwise
  rw [hv r c, hu r c, EReal.coe_mul]
/-- A real function of the indices may be replaced by one that agrees with it. -/
theorem At2.congr {a b : ℕ} {φ : FTy} {v : FVec Ideal (⟨2, ![a, b]⟩ : Shape) φ} {f g : ℕ → ℕ → ℝ} (hv : At2 v f)
    (h : ∀ r c, r < a → c < b → f r c = g r c) : At2 v g := fun r c => (hv r c).trans (by rw [h _ _ r.isLt c.isLt])
/-- The same for three axes. -/
theorem At3.congr {a b c : ℕ} {φ : FTy} {v : FVec Ideal (⟨3, ![a, b, c]⟩ : Shape) φ} {f g : ℕ → ℕ → ℕ → ℝ} (hv : At3 v f)
    (h : ∀ p r k, p < a → r < b → k < c → f p r k = g p r k) : At3 v g :=
  fun p r k => (hv p r k).trans (by rw [h _ _ _ p.isLt r.isLt k.isLt])
end Cert.Tile
end
-- ==== Proof.Block.lean ====
/- What a grid point of the kernel stores: the pieces written to each output block, in the tile operations, and their
   values as real formulas. Point `i` holds tokens `512 i` to `512 i + 511`, which are chunks `4 i` to `4 i + 3`. -/
module
public import proofs.«01_k».proof.Proof.Tile
public import Idealize.ShloMosaic.Lib.Pipeline.ValueKit
public import Idealize.ShloMosaic.Lib.Pipeline.ReadBack
@[expose] public section
set_option maxRecDepth 16384
noncomputable section
namespace Cert.Block
open Cert.KernelIdeal Cert.KernelIdeal.Gen Cert.Consts Cert.GateGrad Cert.Tile Idealize.ShloMosaic
open Idealize.ShloMosaic (ix1 ix2 ix3)

/-! ## Stores read back, by coordinates -/

/-- A store to a rectangle of a matrix, read at `y`: either `y` lies in the rectangle, or the earlier stores are read. -/
theorem canon_step2 {n0 n1 o0 o1 s0 s1 : ℕ} {e : EltTy}
    (inb : ∀ a, (![o0, o1] : Fin 2 → ℕ) a + (![s0, s1] : Fin 2 → ℕ) a ≤ (⟨2, ![n0, n1]⟩ : Shape).size a)
    (w : (⟨2, ![s0, s1]⟩ : Shape).Idx → Elt Ideal e) (L : List (View.Piece (Elt Ideal) (⟨2, ![n0, n1]⟩ : Shape) e))
    (y : (⟨2, ![n0, n1]⟩ : Shape).Idx) (v : Elt Ideal e)
    (hin : ∀ (a : Fin s0) (b : Fin s1), (y 0).val = o0 + a.val → (y 1).val = o1 + b.val → w (ix2 a b) = v)
    (hout : ¬(o0 ≤ (y 0).val ∧ (y 0).val < o0 + s0 ∧ o1 ≤ (y 1).val ∧ (y 1).val < o1 + s1) → View.canon L y = v) :
    View.canon (⟨Rect.unit (s := ⟨2, ![n0, n1]⟩) ![o0, o1] ![s0, s1] inb, w⟩ :: L) y = v := by
  by_cases h : y ∈ (Rect.unit (s := ⟨2, ![n0, n1]⟩) ![o0, o1] ![s0, s1] inb).set
  · obtain ⟨x, rfl⟩ := (Rect.unit (s := ⟨2, ![n0, n1]⟩) ![o0, o1] ![s0, s1] inb).exists_idx_of_mem h
    refine (View.canon_cons_emb _ w L x).trans ?_
    refine (congrArg w (eq_ix2 x)).trans (hin (x 0) (x 1) ?_ ?_)
    · show o0 + 1 * (x 0).val = _; omega
    · show o1 + 1 * (x 1).val = _; omega
  · refine (View.canon_cons_of_not_mem ⟨_, w⟩ L h).trans ?_
    refine hout fun hb => h ?_
    refine Rect.mem_set_unit.mpr fun a => ?_
    match a with
    | ⟨0, _⟩ => exact ⟨hb.1, hb.2.1⟩
    | ⟨1, _⟩ => exact ⟨hb.2.2.1, hb.2.2.2⟩

/-- The same for an array of three axes. -/
theorem canon_step3 {n0 n1 n2 o0 o1 o2 s0 s1 s2 : ℕ} {e : EltTy}
    (inb : ∀ a, (![o0, o1, o2] : Fin 3 → ℕ) a + (![s0, s1, s2] : Fin 3 → ℕ) a ≤ (⟨3, ![n0, n1, n2]⟩ : Shape).size a)
    (w : (⟨3, ![s0, s1, s2]⟩ : Shape).Idx → Elt Ideal e) (L : List (View.Piece (Elt Ideal) (⟨3, ![n0, n1, n2]⟩ : Shape) e))
    (y : (⟨3, ![n0, n1, n2]⟩ : Shape).Idx) (v : Elt Ideal e)
    (hin : ∀ (a : Fin s0) (b : Fin s1) (c : Fin s2), (y 0).val = o0 + a.val → (y 1).val = o1 + b.val → (y 2).val = o2 + c.val → w (ix3 a b c) = v)
    (hout : ¬(o0 ≤ (y 0).val ∧ (y 0).val < o0 + s0 ∧ o1 ≤ (y 1).val ∧ (y 1).val < o1 + s1 ∧ o2 ≤ (y 2).val ∧ (y 2).val < o2 + s2) →
      View.canon L y = v) :
    View.canon (⟨Rect.unit (s := ⟨3, ![n0, n1, n2]⟩) ![o0, o1, o2] ![s0, s1, s2] inb, w⟩ :: L) y = v := by
  by_cases h : y ∈ (Rect.unit (s := ⟨3, ![n0, n1, n2]⟩) ![o0, o1, o2] ![s0, s1, s2] inb).set
  · obtain ⟨x, rfl⟩ := (Rect.unit (s := ⟨3, ![n0, n1, n2]⟩) ![o0, o1, o2] ![s0, s1, s2] inb).exists_idx_of_mem h
    refine (View.canon_cons_emb _ w L x).trans ?_
    refine (congrArg w (eq_ix3 x)).trans (hin (x 0) (x 1) (x 2) ?_ ?_ ?_)
    · show o0 + 1 * (x 0).val = _; omega
    · show o1 + 1 * (x 1).val = _; omega
    · show o2 + 1 * (x 2).val = _; omega
  · refine (View.canon_cons_of_not_mem ⟨_, w⟩ L h).trans ?_
    refine hout fun hb => h ?_
    refine Rect.mem_set_unit.mpr fun a => ?_
    match a with
    | ⟨0, _⟩ => exact ⟨hb.1, hb.2.1⟩
    | ⟨1, _⟩ => exact ⟨hb.2.2.1, hb.2.2.2.1⟩
    | ⟨2, _⟩ => exact ⟨hb.2.2.2.2.1, hb.2.2.2.2.2⟩

/-- A store over an earlier store to the same rectangle. -/
theorem canon_dup {s : Shape} {e : EltTy} (r : Rect s) (w w' : r.shape.Idx → Elt Ideal e) (L : List (View.Piece (Elt Ideal) s e)) :
    View.canon (⟨r, w⟩ :: ⟨r, w'⟩ :: L) = View.canon (⟨r, w⟩ :: L) := by
  funext y
  by_cases h : y ∈ r.set
  · obtain ⟨x, rfl⟩ := r.exists_idx_of_mem h
    exact (View.canon_cons_emb r w _ x).trans (View.canon_cons_emb r w L x).symm
  · rw [View.canon_cons_of_not_mem ⟨r, w⟩ _ h, View.canon_cons_of_not_mem ⟨r, w'⟩ _ h, View.canon_cons_of_not_mem ⟨r, w⟩ _ h]

/-- A rectangle loaded from a matrix. -/
theorem ld2_at {n0 n1 o0 o1 s0 s1 : ℕ} {x : FVec Ideal (⟨2, ![n0, n1]⟩ : Shape) .f32} {f : ℕ → ℕ → ℝ} (hx : At2 x f)
    (inb : ∀ a, (![o0, o1] : Fin 2 → ℕ) a + (![s0, s1] : Fin 2 → ℕ) a ≤ (⟨2, ![n0, n1]⟩ : Shape).size a) :
    At2 (a := s0) (b := s1) (φ := .f32) (View.ld (Val := Elt Ideal) (e' := .f32) x (Rect.unit (s := ⟨2, ![n0, n1]⟩) ![o0, o1] ![s0, s1] inb))
      (fun r c => f (o0 + r) (o1 + c)) := by
  intro r c
  refine (congrArg x (eq_ix2 _)).trans ((hx _ _).trans ?_)
  show ((f (o0 + 1 * r.val) (o1 + 1 * c.val) : ℝ) : EReal) = _
  rw [Nat.one_mul, Nat.one_mul]
/-- A part of a three-axis array, read at an index. -/
theorem ld3_at {n0 n1 n2 o0 o1 o2 s0 s1 s2 : ℕ} {x : FVec Ideal (⟨3, ![n0, n1, n2]⟩ : Shape) .f32} {f : ℕ → ℕ → ℕ → ℝ} (hx : At3 x f)
    (inb : ∀ a, (![o0, o1, o2] : Fin 3 → ℕ) a + (![s0, s1, s2] : Fin 3 → ℕ) a ≤ (⟨3, ![n0, n1, n2]⟩ : Shape).size a) :
    At3 (a := s0) (b := s1) (c := s2) (φ := .f32) (View.ld (Val := Elt Ideal) (e' := .f32) x (Rect.unit (s := ⟨3, ![n0, n1, n2]⟩) ![o0, o1, o2] ![s0, s1, s2] inb))
      (fun p r c => f (o0 + p) (o1 + r) (o2 + c)) := by
  intro p r c
  refine (congrArg x (eq_ix3 _)).trans ((hx _ _ _).trans ?_)
  show ((f (o0 + 1 * p.val) (o1 + 1 * r.val) (o2 + 1 * c.val) : ℝ) : EReal) = _
  rw [Nat.one_mul, Nat.one_mul, Nat.one_mul]
end Cert.Block
end
-- ==== Proof.Pieces.lean ====
/- The values of the pieces that a grid point stores, head by head and chunk by chunk. -/
module
public import proofs.«01_k».proof.Proof.Block
@[expose] public section
set_option maxRecDepth 16384
noncomputable section
namespace Cert.Pieces
open Cert.KernelIdeal Cert.KernelIdeal.Gen Cert.Consts Cert.GateGrad Cert.Tile Cert.Block Idealize.ShloMosaic
open Idealize.ShloMosaic (ix1 ix2 ix3)

/-- A head's columns are columns of the half. -/
theorem slV (h : Fin 4) : S512x512.Slices ![0, 128 * h.val] S512x128 := by revert h; decide
/-- A chunk of a head's columns lies inside the half. -/
theorem slQ (h q : Fin 4) : S512x512.Slices ![128 * q.val, 128 * h.val] S128x128 := by revert h q; decide
/-- A chunk is some rows of a head. -/
theorem slN (q : Fin 4) : S512x128.Slices ![128 * q.val, 0] S128x128 := by revert q; decide
/-- A head's part of the gain lies inside it. -/
theorem inG (h : Fin 4) : ∀ a, (![0, 128 * h.val] : Fin 2 → ℕ) a + (![1, 128] : Fin 2 → ℕ) a ≤ S1x512.size a := by revert h; decide
/-- A head's mixing weights lie inside the weights. -/
theorem inW (h : Fin 4) : ∀ a, (![h.val, 0, 0] : Fin 3 → ℕ) a + (![1, 128, 128] : Fin 3 → ℕ) a ≤ S4x128x128.size a := by revert h; decide
/-- A head's part of the bias tile lies inside it. -/
theorem inB (h : Fin 4) : ∀ a, (![0, 128 * h.val] : Fin 2 → ℕ) a + (![128, 128] : Fin 2 → ℕ) a ≤ S128x512.size a := by revert h; decide

section
variable (zu zv dyb : FVec Ideal S512x512 .f32) (g : FVec Ideal S1x512 .f32) (w : FVec Ideal S4x128x128 .f32) (b : FVec Ideal S128x512 .f32)

/-- A head's gate, after the gelu. -/
def vs (h : Fin 4) : FVec Ideal S512x128 .f32 := extractStridedSlice S512x128 ![0, 128 * h.val] (k0_pay10 zv) (slV h)
/-- A head's part of a row of 512. -/
def gl (h : Fin 4) : FVec Ideal S1x128 .f32 := View.ld (Val := Elt Ideal) (e' := .f32) g (Rect.unit (s := S1x512) ![0, 128 * h.val] ![1, 128] (inG h))
/-- A head's mixing weights. -/
def wl (h : Fin 4) : FVec Ideal S1x128x128 .f32 :=
  View.ld (Val := Elt Ideal) (e' := .f32) w (Rect.unit (s := S4x128x128) ![h.val, 0, 0] ![1, 128, 128] (inW h))
/-- A head's part of a 128 by 512 array. -/
def bl (h : Fin 4) : FVec Ideal S128x128 .f32 := View.ld (Val := Elt Ideal) (e' := .f32) b (Rect.unit (s := S128x512) ![0, 128 * h.val] ![128, 128] (inB h))
/-- The normalised gate of a head and chunk. -/
def vq (h q : Fin 4) : FVec Ideal S128x128 .bf16 := extractStridedSlice S128x128 ![128 * q.val, 0] (vnOp (vs zv h) (gl g h)) (slN q)
/-- The cotangent of the mixed gate. -/
def dq (h q : Fin 4) : FVec Ideal S128x128 .f32 :=
  mulf (extractStridedSlice S128x128 ![128 * q.val, 128 * h.val] dyb (slQ h q))
    (extractStridedSlice S128x128 ![128 * q.val, 128 * h.val] (k0_pay10 zu) (slQ h q))
/-- The gradient stored for `u`. -/
def duPay (h q : Fin 4) : FVec Ideal S128x128 .bf16 :=
  truncf .bf16 (mulf (mulf (extractStridedSlice S128x128 ![128 * q.val, 128 * h.val] dyb (slQ h q)) (mixOp (wl w h) (vq zv g h q) (bl b h)))
    (extractStridedSlice S128x128 ![128 * q.val, 128 * h.val] (k0_pay11 zu) (slQ h q))) bitsLt_bf16_f32
/-- The cotangent of the normalised gate of a head, all chunks. -/
def dvnT (h : Fin 4) : FVec Ideal S512x128 .f32 :=
  catOp (dvqOp (wl w h) (dq zu dyb h ⟨0, by decide⟩)) (dvqOp (wl w h) (dq zu dyb h ⟨1, by decide⟩))
    (dvqOp (wl w h) (dq zu dyb h ⟨2, by decide⟩)) (dvqOp (wl w h) (dq zu dyb h ⟨3, by decide⟩))
/-- The gradient stored for `v`. -/
def dvPay (h : Fin 4) : FVec Ideal S512x128 .bf16 :=
  truncf .bf16 (mulf (dvOp (dvnT zu dyb w h) (vs zv h) (gl g h))
    (extractStridedSlice S512x128 ![0, 128 * h.val] (k0_pay11 zv) (slV h))) bitsLt_bf16_f32
/-- The gain's gradient of a head: what was there and the tile's part. -/
def dgPay (p : FVec Ideal S1x128 .f32) (h : Fin 4) : FVec Ideal S1x128 .f32 :=
  addf (shapeCast S1x128 p shapeCasts_S1x128_S1x128) (dgOp (dvnT zu dyb w h) (vs zv h))
/-- One chunk added to the bias gradient. -/
def dbPay (p : FVec Ideal S128x128 .f32) (h q : Fin 4) : FVec Ideal S128x128 .f32 :=
  addf (shapeCast S128x128 p shapeCasts_S128x128_S128x128) (dq zu dyb h q)
/-- One chunk added to the gradient of the mixing weights. -/
def dwPay (p : FVec Ideal S1x128x128 .f32) (h q : Fin 4) : FVec Ideal S1x128x128 .f32 :=
  shapeCast S1x128x128 (addf (shapeCast S128x128 p shapeCasts_S1x128x128_S128x128) (dwOp (dq zu dyb h q) (vq zv g h q)))
    shapeCasts_S128x128_S1x128x128
end

section
variable {zu zv dyb : FVec Ideal S512x512 .f32} {g : FVec Ideal S1x512 .f32} {w : FVec Ideal S4x128x128 .f32} {b : FVec Ideal S128x512 .f32}
variable {i : ℕ} {z dy : ℕ → ℕ → ℝ} {gn : ℕ → ℝ} {wR : ℕ → ℕ → ℕ → ℝ} {bR : ℕ → ℕ → ℝ}
variable (hzu : At2 zu fun r c => z (512 * i + r) c) (hzv : At2 zv fun r c => z (512 * i + r) (512 + c))
  (hdy : At2 dyb fun r c => dy (512 * i + r) c) (hg : At2 g fun _ c => gn c) (hw : At3 w wR) (hb : At2 b bR)

include hzv in
/-- A head's gate after its gelu. -/
theorem vs_at (h : Fin 4) : At2 (vs zv h) fun r d => gelu (z (512 * i + r) (512 + (128 * h.val + d))) :=
  (slice_at (pay10_at hzv) (slV h)).congr fun r d _ _ => by rw [Nat.zero_add]
include hg in
/-- A head's gain. -/
theorem gl_at (h : Fin 4) : At2 (gl g h) fun _ d => gn (128 * h.val + d) := ld2_at hg (inG h)
include hw in
/-- A head's mixing weights. -/
theorem wl_at (h : Fin 4) : At3 (wl w h) fun _ => wR h.val :=
  fun p r k => (ld3_at hw (inW h) p r k).trans (by
    show ((wR (h.val + p.val) (0 + r.val) (0 + k.val) : ℝ) : EReal) = ((wR h.val r.val k.val : ℝ) : EReal)
    rw [Nat.zero_add, Nat.zero_add, show p.val = 0 by omega, Nat.add_zero])
include hb in
/-- A head's bias. -/
theorem bl_at (h : Fin 4) : At2 (bl b h) fun t d => bR t (128 * h.val + d) :=
  (ld2_at hb (inB h)).congr fun t d _ _ => by rw [Nat.zero_add]
include hzv hg in
/-- A chunk of a head's normalised gate. -/
theorem vq_at (h q : Fin 4) : At2 (vq zv g h q) fun t d => vn z gn (128 * (4 * i + q.val) + t) h.val d :=
  (slice_at (vnOp_at (vs_at hzv h) (gl_at hg h)) (slN q)).congr fun t d _ _ => by
    rw [show 128 * (4 * i + q.val) + t = 512 * i + (128 * q.val + t) by omega]; simp only [Nat.zero_add]; rfl
include hzu hdy in
/-- A chunk of the mixed gate's cotangent. -/
theorem dq_at (h q : Fin 4) : At2 (dq zu dyb h q) fun t d => ds z dy (128 * (4 * i + q.val) + t) (128 * h.val + d) :=
  ((slice_at hdy (slQ h q)).mul (slice_at (pay10_at hzu) (slQ h q))).congr fun t d _ _ => by
    rw [show 128 * (4 * i + q.val) + t = 512 * i + (128 * q.val + t) by omega]; rfl
/-- A cast between float widths changes no real number. -/
theorem At2.trunc {a c : ℕ} {v : FVec Ideal (⟨2, ![a, c]⟩ : Shape) .f32} {f : ℕ → ℕ → ℝ} (hv : At2 v f) :
    At2 (truncf .bf16 v bitsLt_bf16_f32) f := by
  intro r k
  pointwise
  exact hv r k
include hzu hzv hdy hg hw hb in
/-- What is stored for a chunk and head as the gradient of `u`'s preactivation. -/
theorem duPay_at (h q : Fin 4) : At2 (duPay zu zv dyb g w b h q) fun t d => du z dy gn wR bR (4 * i + q.val) t h.val d :=
  (At2.trunc (((slice_at hdy (slQ h q)).mul (mixOp_at (wl_at hw h) (vq_at hzv hg h q) (bl_at hb h))).mul
    (slice_at (pay11_at hzu) (slQ h q)))).congr fun t d _ _ => by
    rw [du, show 128 * (4 * i + q.val) + t = 512 * i + (128 * q.val + t) by omega]; rfl
include hzu hdy hw in
/-- The normalised gate's cotangent over the four chunks of a band. -/
theorem dvnT_at (h : Fin 4) : At2 (dvnT zu dyb w h) fun r d => dvn z dy wR (4 * i + r / 128) (r % 128) h.val d := by
  have key := fun q => dvqOp_at (wl_at hw h) (dq_at hzu hdy h q)
  refine catOp_at ((key _).congr fun r d hr _ => ?_) ((key _).congr fun r d hr _ => ?_) ((key _).congr fun r d hr _ => ?_)
    ((key _).congr fun r d hr _ => ?_)
  · rw [show r / 128 = 0 by omega, show r % 128 = r by omega]; rfl
  · rw [show (128 + r) / 128 = 1 by omega, show (128 + r) % 128 = r by omega]; rfl
  · rw [show (256 + r) / 128 = 2 by omega, show (256 + r) % 128 = r by omega]; rfl
  · rw [show (384 + r) / 128 = 3 by omega, show (384 + r) % 128 = r by omega]; rfl
include hzu hzv hdy hg hw in
/-- What is stored for a head as the gradient of the gate's preactivation. -/
theorem dvPay_at (h : Fin 4) : At2 (dvPay zu zv dyb g w h) fun r d => dv z dy gn wR (4 * i + r / 128) (r % 128) h.val d :=
  (At2.trunc ((dvOp_at (dvnT_at hzu hdy hw h) (vs_at hzv h) (gl_at hg h)).mul (slice_at (pay11_at hzv) (slV h)))).congr fun r d hr _ => by
    rw [dv, show 128 * (4 * i + r / 128) + r % 128 = 512 * i + r by omega]; simp only [Nat.zero_add]; rfl
include hzu hzv hdy hw in
/-- What is stored for a head as the gain gradient: what was there and the sum over the band. -/
theorem dgPay_at {p : FVec Ideal S1x128 .f32} {f : ℕ → ℝ} (hp : At2 p fun _ d => f d) (h : Fin 4) :
    At2 (dgPay zu zv dyb w p h) fun _ d => f d + ∑ q : Fin 4, dgPart z dy wR (4 * i + q.val) h.val d := by
  intro r d
  pointwise [dgPay]
  rw [hp, dgOp_at (dvnT_at hzu hdy hw h) (vs_at hzv h) r d, ← EReal.coe_add]
  congr 2
  refine Eq.trans (Finset.sum_congr rfl fun r _ => ?_) (Fin.sum_univ_mul_divmod 4 128
    (fun q k => dvn z dy wR (4 * i + q) k h.val d.val * vh z (128 * (4 * i + q) + k) h.val d.val))
  rw [show 128 * (4 * i + r.val / 128) + r.val % 128 = 512 * i + r.val by omega]; rfl
include hzu hdy in
/-- What is stored for a chunk and head as the bias gradient: what was there and the cotangent. -/
theorem dbPay_at {p : FVec Ideal S128x128 .f32} {f : ℕ → ℕ → ℝ} (hp : At2 p f) (h q : Fin 4) :
    At2 (dbPay zu dyb p h q) fun t d => f t d + ds z dy (128 * (4 * i + q.val) + t) (128 * h.val + d) := by
  intro t d
  pointwise [dbPay]
  rw [hp t d, dq_at hzu hdy h q t d, ← EReal.coe_add]
include hzu hzv hdy hg in
/-- What is stored for a chunk and head as the weights' gradient: what was there and the chunk's part. -/
theorem dwPay_at {p : FVec Ideal S1x128x128 .f32} {f : ℕ → ℕ → ℝ} (hp : At3 p fun _ => f) (h q : Fin 4) :
    At3 (dwPay zu zv dyb g p h q) fun _ t k => f t k + dwPart z dy gn (4 * i + q.val) h.val t k := by
  intro o t k
  pointwise [dwPay]
  rw [hp 0 t k, dwOp_at (vq_at hzv hg h q) (dq_at hzu hdy h q) t k, ← EReal.coe_add]
  rfl
end
end Cert.Pieces
end
-- ==== Proof.Store.lean ====
/- The stores of a grid point put together: what each output block holds after the point, as one real formula. -/
module
public import proofs.«01_k».proof.Proof.Pieces
@[expose] public section
set_option maxRecDepth 16384
noncomputable section
namespace Cert.Store
open Cert.KernelIdeal Cert.KernelIdeal.Gen Cert.Consts Cert.GateGrad Cert.Tile Cert.Block Cert.Pieces Idealize.ShloMosaic
open Idealize.ShloMosaic (ix1 ix2 ix3)

section
variable (z dy : ℕ → ℕ → ℝ) (gn : ℕ → ℝ) (w : ℕ → ℕ → ℕ → ℝ) (b : ℕ → ℕ → ℝ)
/-- The gradient of the preactivations, by token and column. -/
def dz (T c : ℕ) : ℝ :=
  if c < 512 then du z dy gn w b (T / 128) (T % 128) (c / 128) (c % 128)
  else dv z dy gn w (T / 128) (T % 128) ((c - 512) / 128) ((c - 512) % 128)
end

/-- A head's columns of the gate half lie inside the block. -/
theorem in5v (h : Fin 4) : ∀ a, (![0, 512 + 128 * h.val] : Fin 2 → ℕ) a + (![512, 128] : Fin 2 → ℕ) a ≤ S512x1024.size a := by revert h; decide
/-- A chunk of a head's columns of the `u` half lies inside the block. -/
theorem in5u (h q : Fin 4) : ∀ a, (![128 * q.val, 128 * h.val] : Fin 2 → ℕ) a + (![128, 128] : Fin 2 → ℕ) a ≤ S512x1024.size a := by
  revert h q; decide

/-- The first head or chunk. -/
abbrev q0 : Fin 4 := ⟨0, by decide⟩
/-- The second. -/
abbrev q1 : Fin 4 := ⟨1, by decide⟩
/-- The third. -/
abbrev q2 : Fin 4 := ⟨2, by decide⟩
/-- The fourth. -/
abbrev q3 : Fin 4 := ⟨3, by decide⟩

section
variable (zu zv dyb : FVec Ideal S512x512 .f32) (g : FVec Ideal S1x512 .f32) (w : FVec Ideal S4x128x128 .f32) (b : FVec Ideal S128x512 .f32)
/-- One head's stores to the block of the preactivations' gradient, over earlier stores. -/
def head5 (h : Fin 4) (L : List (View.Piece (Elt Ideal) S512x1024 .bf16)) : List (View.Piece (Elt Ideal) S512x1024 .bf16) :=
  ⟨Rect.unit (s := S512x1024) ![0, 512 + 128 * h.val] ![512, 128] (in5v h), dvPay zu zv dyb g w h⟩ ::
  ⟨Rect.unit (s := S512x1024) ![128 * q3.val, 128 * h.val] ![128, 128] (in5u h q3), duPay zu zv dyb g w b h q3⟩ ::
  ⟨Rect.unit (s := S512x1024) ![128 * q2.val, 128 * h.val] ![128, 128] (in5u h q2), duPay zu zv dyb g w b h q2⟩ ::
  ⟨Rect.unit (s := S512x1024) ![128 * q1.val, 128 * h.val] ![128, 128] (in5u h q1), duPay zu zv dyb g w b h q1⟩ ::
  ⟨Rect.unit (s := S512x1024) ![128 * q0.val, 128 * h.val] ![128, 128] (in5u h q0), duPay zu zv dyb g w b h q0⟩ :: L
/-- One head's last store to the gain's gradient, over `p`. -/
def head8 (p : FVec Ideal S1x512 .f32) (h : Fin 4) (L : List (View.Piece (Elt Ideal) S1x512 .f32)) : List (View.Piece (Elt Ideal) S1x512 .f32) :=
  ⟨Rect.unit (s := S1x512) ![0, 128 * h.val] ![1, 128] (inG h), dgPay zu zv dyb w (gl p h) h⟩ :: L
/-- One head's stores to the bias gradient, over `p`. -/
def head7 (p : FVec Ideal S128x512 .f32) (h : Fin 4) (L : List (View.Piece (Elt Ideal) S128x512 .f32)) : List (View.Piece (Elt Ideal) S128x512 .f32) :=
  ⟨Rect.unit (s := S128x512) ![0, 128 * h.val] ![128, 128] (inB h),
    dbPay zu dyb (dbPay zu dyb (dbPay zu dyb (dbPay zu dyb (bl p h) h q0) h q1) h q2) h q3⟩ ::
  ⟨Rect.unit (s := S128x512) ![0, 128 * h.val] ![128, 128] (inB h), dbPay zu dyb (dbPay zu dyb (dbPay zu dyb (bl p h) h q0) h q1) h q2⟩ ::
  ⟨Rect.unit (s := S128x512) ![0, 128 * h.val] ![128, 128] (inB h), dbPay zu dyb (dbPay zu dyb (bl p h) h q0) h q1⟩ ::
  ⟨Rect.unit (s := S128x512) ![0, 128 * h.val] ![128, 128] (inB h), dbPay zu dyb (bl p h) h q0⟩ :: L
/-- What a head's last store to the weights' gradient holds, over `p`. -/
def dw4 (p : FVec Ideal S4x128x128 .f32) (h : Fin 4) : FVec Ideal S1x128x128 .f32 :=
  dwPay zu zv dyb g (dwPay zu zv dyb g (dwPay zu zv dyb g (dwPay zu zv dyb g (wl p h) h q0) h q1) h q2) h q3
/-- One head's stores to the weights' gradient, over `p`. -/
def head6 (p : FVec Ideal S4x128x128 .f32) (h : Fin 4) (L : List (View.Piece (Elt Ideal) S4x128x128 .f32)) : List (View.Piece (Elt Ideal) S4x128x128 .f32) :=
  ⟨Rect.unit (s := S4x128x128) ![h.val, 0, 0] ![1, 128, 128] (inW h), dw4 zu zv dyb g p h⟩ ::
  ⟨Rect.unit (s := S4x128x128) ![h.val, 0, 0] ![1, 128, 128] (inW h),
    dwPay zu zv dyb g (dwPay zu zv dyb g (dwPay zu zv dyb g (wl p h) h q0) h q1) h q2⟩ ::
  ⟨Rect.unit (s := S4x128x128) ![h.val, 0, 0] ![1, 128, 128] (inW h), dwPay zu zv dyb g (dwPay zu zv dyb g (wl p h) h q0) h q1⟩ ::
  ⟨Rect.unit (s := S4x128x128) ![h.val, 0, 0] ![1, 128, 128] (inW h), dwPay zu zv dyb g (wl p h) h q0⟩ :: L
/-- The causal mask over it, stored at the last point. -/
def head6m (p : FVec Ideal S4x128x128 .f32) (h : Fin 4) (L : List (View.Piece (Elt Ideal) S4x128x128 .f32)) : List (View.Piece (Elt Ideal) S4x128x128 .f32) :=
  ⟨Rect.unit (s := S4x128x128) ![h.val, 0, 0] ![1, 128, 128] (inW h), k0_pay1 (F := Ideal) k0_pay5 (dw4 zu zv dyb g p h)⟩ :: L
end

section
variable {zu zv dyb : FVec Ideal S512x512 .f32} {g : FVec Ideal S1x512 .f32} {w : FVec Ideal S4x128x128 .f32} {b : FVec Ideal S128x512 .f32}
variable {i : ℕ} {z dy : ℕ → ℕ → ℝ} {gn : ℕ → ℝ} {wR : ℕ → ℕ → ℕ → ℝ} {bR : ℕ → ℕ → ℝ}
variable (hzu : At2 zu fun r c => z (512 * i + r) c) (hzv : At2 zv fun r c => z (512 * i + r) (512 + c))
  (hdy : At2 dyb fun r c => dy (512 * i + r) c) (hg : At2 g fun _ c => gn c) (hw : At3 w wR) (hb : At2 b bR)

/-- The gradient in the `u` half, by token and channel. -/
theorem du_dz {T c : ℕ} {n t h d : ℕ} (eT : T = 128 * n + t) (ht : t < 128) (ec : c = 128 * h + d) (hd : d < 128) (hh : h < 4) :
    du z dy gn wR bR n t h d = dz z dy gn wR bR T c := by
  rw [dz, if_pos (by omega), show T / 128 = n by omega, show T % 128 = t by omega, show c / 128 = h by omega, show c % 128 = d by omega]
/-- The gradient in the gate half, by token and channel. -/
theorem dv_dz {T c : ℕ} {n t h d : ℕ} (eT : T = 128 * n + t) (ht : t < 128) (ec : c = 512 + 128 * h + d) (hd : d < 128) :
    dv z dy gn wR n t h d = dz z dy gn wR bR T c := by
  rw [dz, if_neg (by omega), show T / 128 = n by omega, show T % 128 = t by omega, show (c - 512) / 128 = h by omega,
    show (c - 512) % 128 = d by omega]

include hzu hzv hdy hg hw hb in
/-- The five stores of a head into the gradient's block, read at an index. -/
theorem head5_at (h : Fin 4) (L : List (View.Piece (Elt Ideal) S512x1024 .bf16)) (y : S512x1024.Idx)
    (hout : ¬((512 + 128 * h.val ≤ (y 1).val ∧ (y 1).val < 512 + 128 * h.val + 128) ∨ (128 * h.val ≤ (y 1).val ∧ (y 1).val < 128 * h.val + 128)) →
      View.canon L y = ((dz z dy gn wR bR (512 * i + (y 0).val) (y 1).val : ℝ) : EReal)) :
    View.canon (head5 zu zv dyb g w b h L) y = ((dz z dy gn wR bR (512 * i + (y 0).val) (y 1).val : ℝ) : EReal) := by
  have hy0 : (y 0).val < 512 := (y 0).isLt
  have hh := h.isLt
  refine canon_step2 _ _ _ _ _ (fun a b e0 e1 => (dvPay_at hzu hzv hdy hg hw h a b).trans (congrArg _ (dv_dz ?_ ?_ e1 b.isLt))) fun n0 => ?_
  · rw [e0]; omega
  · omega
  have key : ∀ q : Fin 4, ∀ (a b' : Fin 128), (y 0).val = 128 * q.val + a.val → (y 1).val = 128 * h.val + b'.val →
      duPay zu zv dyb g w b h q (ix2 a b') = ((dz z dy gn wR bR (512 * i + (y 0).val) (y 1).val : ℝ) : EReal) := fun q a b' e0 e1 =>
    (duPay_at hzu hzv hdy hg hw hb h q a b').trans (congrArg _ (du_dz (by rw [e0]; omega) a.isLt e1 b'.isLt hh))
  refine canon_step2 _ _ _ _ _ (key q3) fun n1 => ?_
  refine canon_step2 _ _ _ _ _ (key q2) fun n2 => ?_
  refine canon_step2 _ _ _ _ _ (key q1) fun n3 => ?_
  refine canon_step2 _ _ _ _ _ (key q0) fun n4 => ?_
  apply hout
  simp only [q0, q1, q2, q3] at n1 n2 n3 n4
  omega

include hzu hzv hdy hg hw hb in
/-- The block of the preactivations' gradient after the point. -/
theorem out5_at (y : S512x1024.Idx) :
    View.canon (head5 zu zv dyb g w b q3 (head5 zu zv dyb g w b q2 (head5 zu zv dyb g w b q1 (head5 zu zv dyb g w b q0 [])))) y =
      ((dz z dy gn wR bR (512 * i + (y 0).val) (y 1).val : ℝ) : EReal) := by
  have hy1 : (y 1).val < 1024 := (y 1).isLt
  have key := fun h L => head5_at hzu hzv hdy hg hw hb h L y
  refine key q3 _ fun n3 => key q2 _ fun n2 => key q1 _ fun n1 => key q0 _ fun n0 => ?_
  simp only [q0, q1, q2, q3] at n0 n1 n2 n3
  omega

include hzu hzv hdy hw in
/-- The block of the gain's gradient: what was there and the four chunks' parts. -/
theorem out8_at {p : FVec Ideal S1x512 .f32} {f : ℕ → ℝ} (hp : At2 p fun _ c => f c) (L : List (View.Piece (Elt Ideal) S1x512 .f32)) :
    At2 (a := 1) (b := 512) (φ := .f32) (View.canon (head8 zu zv dyb w p q3 (head8 zu zv dyb w p q2 (head8 zu zv dyb w p q1 (head8 zu zv dyb w p q0 L)))))
      fun _ c => f c + ∑ q : Fin 4, dgPart z dy wR (4 * i + q.val) (c / 128) (c % 128) := by
  intro r c
  have hc := c.isLt
  have key : ∀ h : Fin 4, ∀ (a : Fin 1) (b : Fin 128), (ix2 r c 0).val = 0 + a.val → (ix2 r c 1).val = 128 * h.val + b.val →
      dgPay zu zv dyb w (gl p h) h (ix2 a b) =
        ((f c.val + ∑ q : Fin 4, dgPart z dy wR (4 * i + q.val) (c.val / 128) (c.val % 128) : ℝ) : EReal) := fun h a b _ e1 =>
    (dgPay_at hzu hzv hdy hw (gl_at hp h) h a b).trans (by
      have e : c.val = 128 * h.val + b.val := e1
      show ((f (128 * h.val + b.val) + ∑ q : Fin 4, dgPart z dy wR (4 * i + q.val) h.val b.val : ℝ) : EReal) = _
      rw [show c.val / 128 = h.val by omega, show c.val % 128 = b.val by omega, e])
  refine canon_step2 _ _ _ _ _ (key q3) fun n3 => canon_step2 _ _ _ _ _ (key q2) fun n2 => canon_step2 _ _ _ _ _ (key q1) fun n1 =>
    canon_step2 _ _ _ _ _ (key q0) fun n0 => ?_
  have hr : r.val < 1 := r.isLt
  simp only [q0, q1, q2, q3, ix2_0, ix2_1] at n0 n1 n2 n3
  omega

/-- A head's later stores hide its earlier ones. -/
theorem dup7 (p : FVec Ideal S128x512 .f32) (h : Fin 4) (L : List (View.Piece (Elt Ideal) S128x512 .f32)) :
    View.canon (head7 zu dyb p h L) = View.canon (⟨Rect.unit (s := S128x512) ![0, 128 * h.val] ![128, 128] (inB h),
      dbPay zu dyb (dbPay zu dyb (dbPay zu dyb (dbPay zu dyb (bl p h) h q0) h q1) h q2) h q3⟩ :: L) :=
  (canon_dup _ _ _ _).trans ((canon_dup _ _ _ _).trans (canon_dup _ _ _ _))
/-- A head's stores into the weights' gradient touch that head alone. -/
theorem dup6 (p : FVec Ideal S4x128x128 .f32) (h : Fin 4) (L : List (View.Piece (Elt Ideal) S4x128x128 .f32)) :
    View.canon (head6 zu zv dyb g p h L) =
      View.canon (⟨Rect.unit (s := S4x128x128) ![h.val, 0, 0] ![1, 128, 128] (inW h), dw4 zu zv dyb g p h⟩ :: L) :=
  (canon_dup _ _ _ _).trans ((canon_dup _ _ _ _).trans (canon_dup _ _ _ _))

include hzu hdy in
/-- The block of the bias gradient. -/
theorem out7_at {p : FVec Ideal S128x512 .f32} {f : ℕ → ℕ → ℝ} (hp : At2 p f) (L : List (View.Piece (Elt Ideal) S128x512 .f32)) :
    At2 (a := 128) (b := 512) (φ := .f32) (View.canon (head7 zu dyb p q3 (head7 zu dyb p q2 (head7 zu dyb p q1 (head7 zu dyb p q0 L)))))
      fun t c => f t c + ∑ q : Fin 4, ds z dy (128 * (4 * i + q.val) + t) c := by
  intro t c
  have hc := c.isLt
  have key : ∀ h : Fin 4, ∀ (a : Fin 128) (b : Fin 128), (ix2 t c 0).val = 0 + a.val → (ix2 t c 1).val = 128 * h.val + b.val →
      dbPay zu dyb (dbPay zu dyb (dbPay zu dyb (dbPay zu dyb (bl p h) h q0) h q1) h q2) h q3 (ix2 a b) =
        ((f t.val c.val + ∑ q : Fin 4, ds z dy (128 * (4 * i + q.val) + t.val) c.val : ℝ) : EReal) := fun h a b e0 e1 =>
    (dbPay_at hzu hdy (dbPay_at hzu hdy (dbPay_at hzu hdy (dbPay_at hzu hdy (bl_at hp h) h q0) h q1) h q2) h q3 a b).trans (by
      have e : c.val = 128 * h.val + b.val := e1
      have e' : t.val = 0 + a.val := e0
      rw [e, e', Nat.zero_add, Fin.sum_univ_four]
      refine congrArg _ ?_
      simp only [add_assoc]; rfl)
  refine (congrFun (dup7 p q3 _) _).trans (canon_step2 _ _ _ _ _ (key q3) fun n3 => ?_)
  refine (congrFun (dup7 p q2 _) _).trans (canon_step2 _ _ _ _ _ (key q2) fun n2 => ?_)
  refine (congrFun (dup7 p q1 _) _).trans (canon_step2 _ _ _ _ _ (key q1) fun n1 => ?_)
  refine (congrFun (dup7 p q0 _) _).trans (canon_step2 _ _ _ _ _ (key q0) fun n0 => ?_)
  have ht := t.isLt
  simp only [q0, q1, q2, q3, ix2_0, ix2_1] at n0 n1 n2 n3
  omega

include hzu hzv hdy hg in
/-- A head's weights' gradient after its four chunks. -/
theorem dw4_at {p : FVec Ideal S4x128x128 .f32} {f : ℕ → ℕ → ℕ → ℝ} (hp : At3 p f) (h : Fin 4) :
    At3 (dw4 zu zv dyb g p h) fun _ t k => f h.val t k + ∑ q : Fin 4, dwPart z dy gn (4 * i + q.val) h.val t k := by
  intro o t k
  refine (dwPay_at hzu hzv hdy hg (dwPay_at hzu hzv hdy hg (dwPay_at hzu hzv hdy hg (dwPay_at hzu hzv hdy hg (wl_at hp h) h q0) h q1) h q2) h q3 o t k).trans ?_
  refine congrArg _ ?_
  show _ = f h.val t.val k.val + ∑ q : Fin 4, dwPart z dy gn (4 * i + q.val) h.val t.val k.val
  rw [Fin.sum_univ_four]
  simp only [add_assoc]; rfl
/-- The masked gradient that the last grid point stores. -/
theorem pay1_at {v : FVec Ideal S1x128x128 .f32} {f : ℕ → ℕ → ℝ} (hv : At3 v fun _ => f) :
    At3 (k0_pay1 (F := Ideal) k0_pay5 v) fun _ t k => if k ≤ t then f t k else 0 := by
  intro o t k
  pointwise [k0_pay1]
  rw [mask_at, hv 0 t k]
  by_cases h : k.val ≤ t.val <;> simp [h, Scalar.select]

include hzu hzv hdy hg in
/-- The block of the weights' gradient, at a point before the last. -/
theorem out6_at {p : FVec Ideal S4x128x128 .f32} {f : ℕ → ℕ → ℕ → ℝ} (hp : At3 p f) (L : List (View.Piece (Elt Ideal) S4x128x128 .f32)) :
    At3 (a := 4) (b := 128) (c := 128) (φ := .f32)
      (View.canon (head6 zu zv dyb g p q3 (head6 zu zv dyb g p q2 (head6 zu zv dyb g p q1 (head6 zu zv dyb g p q0 L)))))
      fun h t k => f h t k + ∑ q : Fin 4, dwPart z dy gn (4 * i + q.val) h t k := by
  intro hh t k
  have key : ∀ h : Fin 4, ∀ (o : Fin 1) (a b : Fin 128), (ix3 hh t k 0).val = h.val + o.val → (ix3 hh t k 1).val = 0 + a.val →
      (ix3 hh t k 2).val = 0 + b.val → dw4 zu zv dyb g p h (ix3 o a b) =
        ((f hh.val t.val k.val + ∑ q : Fin 4, dwPart z dy gn (4 * i + q.val) hh.val t.val k.val : ℝ) : EReal) := fun h o a b e0 e1 e2 =>
    (dw4_at hzu hzv hdy hg hp h o a b).trans (by
      have f0 : hh.val = h.val + o.val := e0
      have f1 : t.val = 0 + a.val := e1
      have f2 : k.val = 0 + b.val := e2
      rw [f0, f1, f2, Nat.zero_add, Nat.zero_add, show o.val = 0 by omega, Nat.add_zero])
  refine (congrFun (dup6 p q3 _) _).trans (canon_step3 _ _ _ _ _ (key q3) fun n3 => ?_)
  refine (congrFun (dup6 p q2 _) _).trans (canon_step3 _ _ _ _ _ (key q2) fun n2 => ?_)
  refine (congrFun (dup6 p q1 _) _).trans (canon_step3 _ _ _ _ _ (key q1) fun n1 => ?_)
  refine (congrFun (dup6 p q0 _) _).trans (canon_step3 _ _ _ _ _ (key q0) fun n0 => ?_)
  have hh' := hh.isLt
  have ht := t.isLt
  have hk := k.isLt
  simp only [q0, q1, q2, q3, ix3_0, ix3_1, ix3_2] at n0 n1 n2 n3
  omega

include hzu hzv hdy hg in
/-- … and at the last point, masked. -/
theorem out6m_at {p : FVec Ideal S4x128x128 .f32} {f : ℕ → ℕ → ℕ → ℝ} (hp : At3 p f) (L : List (View.Piece (Elt Ideal) S4x128x128 .f32)) :
    At3 (a := 4) (b := 128) (c := 128) (φ := .f32)
      (View.canon (head6m zu zv dyb g p q3 (head6m zu zv dyb g p q2 (head6m zu zv dyb g p q1 (head6m zu zv dyb g p q0 L)))))
      fun h t k => if k ≤ t then f h t k + ∑ q : Fin 4, dwPart z dy gn (4 * i + q.val) h t k else 0 := by
  intro hh t k
  have key : ∀ h : Fin 4, ∀ (o : Fin 1) (a b : Fin 128), (ix3 hh t k 0).val = h.val + o.val → (ix3 hh t k 1).val = 0 + a.val →
      (ix3 hh t k 2).val = 0 + b.val → k0_pay1 (F := Ideal) k0_pay5 (dw4 zu zv dyb g p h) (ix3 o a b) =
        ((if k.val ≤ t.val then f hh.val t.val k.val + ∑ q : Fin 4, dwPart z dy gn (4 * i + q.val) hh.val t.val k.val else 0 : ℝ) : EReal) :=
    fun h o a b e0 e1 e2 => (pay1_at (dw4_at hzu hzv hdy hg hp h) o a b).trans (by
      have f0 : hh.val = h.val + o.val := e0
      have f1 : t.val = 0 + a.val := e1
      have f2 : k.val = 0 + b.val := e2
      rw [f0, f1, f2, Nat.zero_add, Nat.zero_add, show o.val = 0 by omega, Nat.add_zero])
  refine canon_step3 _ _ _ _ _ (key q3) fun n3 => canon_step3 _ _ _ _ _ (key q2) fun n2 => canon_step3 _ _ _ _ _ (key q1) fun n1 =>
    canon_step3 _ _ _ _ _ (key q0) fun n0 => ?_
  have hh' := hh.isLt
  have ht := t.isLt
  have hk := k.isLt
  simp only [q0, q1, q2, q3, ix3_0, ix3_1, ix3_2] at n0 n1 n2 n3
  omega
end
end Cert.Store
end
-- ==== Proof.Tiles.lean ====
/- The tiles of a grid point and its stores, in the operations of `Tile` and `Pieces`. -/
module
public import proofs.«01_k».proof.Proof.Gen.KernelIdeal.Value
public import proofs.«01_k».proof.Proof.Store
public import Idealize.ShloMosaic.Lib.Pipeline.ValueKit
public import Idealize.ShloMosaic.Lib.Pipeline.ReadBack
public import Idealize.ShloMosaic.Lib.Pointwise
@[expose] public section
set_option maxRecDepth 16384
noncomputable section
namespace Cert.Points
open Cert.KernelIdeal Cert.KernelIdeal.Gen Cert.KernelIdeal.Value Idealize.ShloMosaic Idealize.ShloMosaic.TcCoe Idealize.SL.Sem
open Idealize.ShloMosaic.Pipeline (Dat)
open Cert.Tile Cert.GateGrad Cert.Pieces Cert.Store
variable (m : (ℓ : Loc nD τ sig) → Buf (Elt Ideal) ℓ) (ρ : Dev nD → PrngReg)

/-- The tile's `u` half. -/
def zu (c : Dev nD) (t : Fin cfg0.N) : FVec Ideal S512x512 .f32 :=
  View.ld (Val := Elt Ideal) (e' := .f32) (iblk m c 0 t) (Rect.unit (s := S512x1024) ![0, 0] ![512, 512] inb_S512x1024_S512x512_0_0)
/-- The tile's `v` half. -/
def zv (c : Dev nD) (t : Fin cfg0.N) : FVec Ideal S512x512 .f32 :=
  View.ld (Val := Elt Ideal) (e' := .f32) (iblk m c 0 t) (Rect.unit (s := S512x1024) ![0, 512] ![512, 512] inb_S512x1024_S512x512_0_512)
/-- The tile of the cotangent. -/
def dyb (c : Dev nD) (t : Fin cfg0.N) : FVec Ideal S512x512 .f32 := iblk m c 1 t
/-- The gain. -/
def gb (c : Dev nD) (t : Fin cfg0.N) : FVec Ideal S1x512 .f32 := iblk m c 2 t
/-- The mixing weights. -/
def wb (c : Dev nD) (t : Fin cfg0.N) : FVec Ideal S4x128x128 .f32 := iblk m c 3 t
/-- The bias, one column of the tile for each channel. -/
def bb (c : Dev nD) (t : Fin cfg0.N) : FVec Ideal S128x512 .f32 := iblk m c 4 t

/-- The point's stores to the preactivations' gradient. -/
abbrev L5 (c : Dev nD) (t : Fin cfg0.N) : List (View.Piece (Elt Ideal) S512x1024 .bf16) :=
  let H := head5 (zu m c t) (zv m c t) (dyb m c t) (gb m c t) (wb m c t) (bb m c t)
  H q3 (H q2 (H q1 (H q0 [])))
/-- … to the weights' gradient, over `p`. -/
abbrev L6 (c : Dev nD) (t : Fin cfg0.N) (p : FVec Ideal S4x128x128 .f32) (L : List (View.Piece (Elt Ideal) S4x128x128 .f32)) :
    List (View.Piece (Elt Ideal) S4x128x128 .f32) :=
  let H := head6 (zu m c t) (zv m c t) (dyb m c t) (gb m c t) p
  H q3 (H q2 (H q1 (H q0 L)))
/-- … the masked ones of the last point. -/
abbrev L6m (c : Dev nD) (t : Fin cfg0.N) (p : FVec Ideal S4x128x128 .f32) (L : List (View.Piece (Elt Ideal) S4x128x128 .f32)) :
    List (View.Piece (Elt Ideal) S4x128x128 .f32) :=
  let H := head6m (zu m c t) (zv m c t) (dyb m c t) (gb m c t) p
  H q3 (H q2 (H q1 (H q0 L)))
/-- … to the bias gradient. -/
abbrev L7 (c : Dev nD) (t : Fin cfg0.N) (p : FVec Ideal S128x512 .f32) (L : List (View.Piece (Elt Ideal) S128x512 .f32)) :
    List (View.Piece (Elt Ideal) S128x512 .f32) :=
  let H := head7 (zu m c t) (dyb m c t) p
  H q3 (H q2 (H q1 (H q0 L)))
/-- … to the gain's gradient. -/
abbrev L8 (c : Dev nD) (t : Fin cfg0.N) (p : FVec Ideal S1x512 .f32) (L : List (View.Piece (Elt Ideal) S1x512 .f32)) :
    List (View.Piece (Elt Ideal) S1x512 .f32) :=
  let H := head8 (zu m c t) (zv m c t) (dyb m c t) (wb m c t) p
  H q3 (H q2 (H q1 (H q0 L)))

/-- Four chunks one below the other. -/
theorem cat_eq (a b c d : FVec Ideal S128x128 .f32) (h) :
    concatenate S512x128 0 [⟨S128x128, a⟩, ⟨S128x128, b⟩, ⟨S128x128, c⟩, ⟨S128x128, d⟩] h = catOp a b c d := rfl

end Cert.Points
end
-- ==== Proof.PointsA.lean ====
/- What the first point stores. -/
module
public import proofs.«01_k».proof.Proof.Tiles
@[expose] public section
set_option maxRecDepth 16384
noncomputable section
namespace Cert.Points
open Cert.KernelIdeal Cert.KernelIdeal.Gen Cert.KernelIdeal.Value Idealize.ShloMosaic Idealize.ShloMosaic.TcCoe Idealize.SL.Sem
open Cert.Tile Cert.GateGrad Cert.Pieces Cert.Store
variable (m : (ℓ : Loc nD τ sig) → Buf (Elt Ideal) ℓ)

/-- The block of the preactivations' gradient after the first point. -/
theorem outA5 (c : Dev nD) (t : Fin cfg0.N) (h0 : t.val % 16 = 0) (h1 : ¬t.val % 16 = 15) :
    (outsAt0 m c t.val t.isLt).1 = View.canon (L5 m c t) := by
  rw [outsAt0_A m c t h0 h1]
  frame_open
  simp (disch := first | decide +kernel | (intro a; fin_cases a <;> rfl)) only [↓View.readCov_cons_toLoadRect, ↓View.readCov_skip, ↓View.readCov_fill]
  simp only [cat_eq]
  frame_out
  rfl
/-- The block of the weights' gradient after the first point. -/
theorem outA6 (c : Dev nD) (t : Fin cfg0.N) (h0 : t.val % 16 = 0) (h1 : ¬t.val % 16 = 15) :
    ∃ L, (outsAt0 m c t.val t.isLt).2.1 = View.canon (L6 m c t (k0_pay6 (F := Ideal)) L) := by
  rw [outsAt0_A m c t h0 h1]
  frame_open
  simp (disch := first | decide +kernel | (intro a; fin_cases a <;> rfl)) only [↓View.readCov_cons_toLoadRect, ↓View.readCov_skip, ↓View.readCov_fill]
  frame_out
  exact ⟨_, rfl⟩
/-- The block of the bias gradient after the first point. -/
theorem outA7 (c : Dev nD) (t : Fin cfg0.N) (h0 : t.val % 16 = 0) (h1 : ¬t.val % 16 = 15) :
    ∃ L, (outsAt0 m c t.val t.isLt).2.2.1 = View.canon (L7 m c t (k0_pay7 (F := Ideal)) L) := by
  rw [outsAt0_A m c t h0 h1]
  frame_open
  simp (disch := first | decide +kernel | (intro a; fin_cases a <;> rfl)) only [↓View.readCov_cons_toLoadRect, ↓View.readCov_skip, ↓View.readCov_fill]
  frame_out
  exact ⟨_, rfl⟩
/-- The block of the gain's gradient after the first point. -/
theorem outA8 (c : Dev nD) (t : Fin cfg0.N) (h0 : t.val % 16 = 0) (h1 : ¬t.val % 16 = 15) :
    ∃ L, (outsAt0 m c t.val t.isLt).2.2.2 = View.canon (L8 m c t (k0_pay8 (F := Ideal)) L) := by
  rw [outsAt0_A m c t h0 h1]
  frame_open
  simp (disch := first | decide +kernel | (intro a; fin_cases a <;> rfl)) only [↓View.readCov_cons_toLoadRect, ↓View.readCov_skip, ↓View.readCov_fill]
  simp only [cat_eq]
  frame_out
  exact ⟨_, rfl⟩
end Cert.Points
end
-- ==== Proof.PointsB.lean ====
/- What a point between the first and the last stores. -/
module
public import proofs.«01_k».proof.Proof.Tiles
@[expose] public section
set_option maxRecDepth 16384
noncomputable section
namespace Cert.Points
open Cert.KernelIdeal Cert.KernelIdeal.Gen Cert.KernelIdeal.Value Idealize.ShloMosaic Idealize.ShloMosaic.TcCoe Idealize.SL.Sem
open Cert.Tile Cert.GateGrad Cert.Pieces Cert.Store
variable (m : (ℓ : Loc nD τ sig) → Buf (Elt Ideal) ℓ)

/-- The block of the preactivations' gradient after a point between the first and the last. -/
theorem outB5 (c : Dev nD) (t : Fin cfg0.N) (h0 : ¬t.val % 16 = 0) (h1 : ¬t.val % 16 = 15) :
    (outsAt0 m c t.val t.isLt).1 = View.canon (L5 m c t) := by
  rw [outsAt0_B m c t h0 h1]
  frame_open
  simp (disch := first | decide +kernel | (intro a; fin_cases a <;> rfl)) only [↓View.readCov_cons_toLoadRect, ↓View.readCov_skip, ↓View.readCov_fill]
  simp only [cat_eq]
  frame_out
  rfl
/-- The block of the weights' gradient after a point between the first and the last. -/
theorem outB6 (c : Dev nD) (t : Fin cfg0.N) (h0 : ¬t.val % 16 = 0) (h1 : ¬t.val % 16 = 15) :
    ∃ L, (outsAt0 m c t.val t.isLt).2.1 = View.canon (L6 m c t (outsAt0 m c (t.val - 1) (Nat.lt_of_le_of_lt (Nat.sub_le _ _) t.isLt)).2.1 L) := by
  rw [outsAt0_B m c t h0 h1]
  frame_open
  simp (disch := first | decide +kernel | (intro a; fin_cases a <;> rfl)) only [↓View.readCov_cons_toLoadRect, ↓View.readCov_skip, ↓View.readCov_fill]
  frame_out
  exact ⟨_, rfl⟩
/-- The block of the bias gradient after a point between the first and the last. -/
theorem outB7 (c : Dev nD) (t : Fin cfg0.N) (h0 : ¬t.val % 16 = 0) (h1 : ¬t.val % 16 = 15) :
    ∃ L, (outsAt0 m c t.val t.isLt).2.2.1 = View.canon (L7 m c t (outsAt0 m c (t.val - 1) (Nat.lt_of_le_of_lt (Nat.sub_le _ _) t.isLt)).2.2.1 L) := by
  rw [outsAt0_B m c t h0 h1]
  frame_open
  simp (disch := first | decide +kernel | (intro a; fin_cases a <;> rfl)) only [↓View.readCov_cons_toLoadRect, ↓View.readCov_skip, ↓View.readCov_fill]
  frame_out
  exact ⟨_, rfl⟩
/-- The block of the gain's gradient after a point between the first and the last. -/
theorem outB8 (c : Dev nD) (t : Fin cfg0.N) (h0 : ¬t.val % 16 = 0) (h1 : ¬t.val % 16 = 15) :
    ∃ L, (outsAt0 m c t.val t.isLt).2.2.2 = View.canon (L8 m c t (outsAt0 m c (t.val - 1) (Nat.lt_of_le_of_lt (Nat.sub_le _ _) t.isLt)).2.2.2 L) := by
  rw [outsAt0_B m c t h0 h1]
  frame_open
  simp (disch := first | decide +kernel | (intro a; fin_cases a <;> rfl)) only [↓View.readCov_cons_toLoadRect, ↓View.readCov_skip, ↓View.readCov_fill]
  simp only [cat_eq]
  frame_out
  exact ⟨_, rfl⟩
end Cert.Points
end
-- ==== Proof.PointsC.lean ====
/- What the last point stores. -/
module
public import proofs.«01_k».proof.Proof.Tiles
@[expose] public section
set_option maxRecDepth 16384
noncomputable section
namespace Cert.Points
open Cert.KernelIdeal Cert.KernelIdeal.Gen Cert.KernelIdeal.Value Idealize.ShloMosaic Idealize.ShloMosaic.TcCoe Idealize.SL.Sem
open Cert.Tile Cert.GateGrad Cert.Pieces Cert.Store
variable (m : (ℓ : Loc nD τ sig) → Buf (Elt Ideal) ℓ)

/-- The block of the preactivations' gradient after the last point. -/
theorem outC5 (c : Dev nD) (t : Fin cfg0.N) (h0 : ¬t.val % 16 = 0) (h1 : t.val % 16 = 15) :
    (outsAt0 m c t.val t.isLt).1 = View.canon (L5 m c t) := by
  rw [outsAt0_C m c t h0 h1]
  frame_open
  simp (disch := first | decide +kernel | (intro a; fin_cases a <;> rfl)) only [↓View.readCov_cons_toLoadRect, ↓View.readCov_skip, ↓View.readCov_fill]
  simp only [cat_eq]
  frame_out
  rfl
/-- The block of the weights' gradient after the last point. -/
theorem outC6 (c : Dev nD) (t : Fin cfg0.N) (h0 : ¬t.val % 16 = 0) (h1 : t.val % 16 = 15) :
    ∃ L, (outsAt0 m c t.val t.isLt).2.1 = View.canon (L6m m c t (outsAt0 m c (t.val - 1) (Nat.lt_of_le_of_lt (Nat.sub_le _ _) t.isLt)).2.1 L) := by
  rw [outsAt0_C m c t h0 h1]
  frame_open
  simp (disch := first | decide +kernel | (intro a; fin_cases a <;> rfl)) only [↓View.readCov_cons_toLoadRect, ↓View.readCov_skip, ↓View.readCov_fill]
  frame_out
  exact ⟨_, rfl⟩
/-- The block of the bias gradient after the last point. -/
theorem outC7 (c : Dev nD) (t : Fin cfg0.N) (h0 : ¬t.val % 16 = 0) (h1 : t.val % 16 = 15) :
    ∃ L, (outsAt0 m c t.val t.isLt).2.2.1 = View.canon (L7 m c t (outsAt0 m c (t.val - 1) (Nat.lt_of_le_of_lt (Nat.sub_le _ _) t.isLt)).2.2.1 L) := by
  rw [outsAt0_C m c t h0 h1]
  frame_open
  simp (disch := first | decide +kernel | (intro a; fin_cases a <;> rfl)) only [↓View.readCov_cons_toLoadRect, ↓View.readCov_skip, ↓View.readCov_fill]
  frame_out
  exact ⟨_, rfl⟩
/-- The block of the gain's gradient after the last point. -/
theorem outC8 (c : Dev nD) (t : Fin cfg0.N) (h0 : ¬t.val % 16 = 0) (h1 : t.val % 16 = 15) :
    ∃ L, (outsAt0 m c t.val t.isLt).2.2.2 = View.canon (L8 m c t (outsAt0 m c (t.val - 1) (Nat.lt_of_le_of_lt (Nat.sub_le _ _) t.isLt)).2.2.2 L) := by
  rw [outsAt0_C m c t h0 h1]
  frame_open
  simp (disch := first | decide +kernel | (intro a; fin_cases a <;> rfl)) only [↓View.readCov_cons_toLoadRect, ↓View.readCov_skip, ↓View.readCov_fill]
  simp only [cat_eq]
  frame_out
  exact ⟨_, rfl⟩
end Cert.Points
end
-- ==== Proof.Arrays.lean ====
/- The arrays that the backward call leaves, as real formulas of real arguments. -/
module
public import proofs.«01_k».proof.Proof.PointsA
public import proofs.«01_k».proof.Proof.PointsB
public import proofs.«01_k».proof.Proof.PointsC
@[expose] public section
set_option maxRecDepth 16384
noncomputable section
namespace Cert.Arrays
open Cert.KernelIdeal Cert.KernelIdeal.Gen Cert.KernelIdeal.Value Idealize.ShloMosaic Idealize.ShloMosaic.TcCoe Idealize.SL.Sem
open Idealize.ShloMosaic (ix1 ix2 ix3)
open Idealize.ShloMosaic.Pipeline (Dat)
open Cert.Tile Cert.GateGrad Cert.Pieces Cert.Store Cert.Block Cert.Points Cert.Consts
variable (m : (ℓ : Loc nD τ sig) → Buf (Elt Ideal) ℓ) (ρ : Dev nD → PrngReg)

/-- The arguments on device `c` are real: the preactivations `z`, the cotangent `dy`, the gain `gn`, the mixing weights `w` and the bias `bs`. -/
structure Ins (c : Dev nD) (z dy : ℕ → ℕ → ℝ) (gn : ℕ → ℝ) (w : ℕ → ℕ → ℕ → ℝ) (bs : ℕ → ℕ → ℝ) : Prop where
  hz : At2 (a := 8192) (b := 1024) (φ := .f32) (m ((c : Thread nD τ).loc main_arg0)) z
  hdy : At2 (a := 8192) (b := 512) (φ := .f32) (m ((c : Thread nD τ).loc main_arg1)) dy
  hg : ∀ i : Fin 512, (m ((c : Thread nD τ).loc main_arg2) (ix1 i) : EReal) = ((gn i.val : ℝ) : EReal)
  hw : At3 (a := 4) (b := 128) (c := 128) (φ := .f32) (m ((c : Thread nD τ).loc main_arg3)) w
  hb : At2 (a := 4) (b := 128) (φ := .f32) (m ((c : Thread nD τ).loc main_arg4)) bs

/-- The gain as the region finds it. -/
theorem V4_eq (c : Dev nD) : V m c main_v4 = shapeCast S1x512 (m ((c : Thread nD τ).loc main_arg2)) shapeCasts_S512_S1x512 := by
  unfold_abbrev_sides
  after_results
  rfl
/-- The bias tile as the region finds it. -/
theorem V3_eq (c : Dev nD) : V m c main_v3 = shapeCast S128x512 (broadcastInDim S128x4x128 ![0, 1, 2] bcast_S128x4x1_S128x4x128_0_1_2
    (broadcastInDim S128x4x1 ![0, 1] bcast_S128x4_S128x4x1_0_1 (transpose S128x4 [1, 0] (m ((c : Thread nD τ).loc main_arg4)) transposes_S4x128_S128x4_1_0)))
      shapeCasts_S128x4x128_S128x512 := by
  unfold_abbrev_sides
  after_results
  rfl

/-- The preactivations are cut into bands of rows, one per grid point. -/
theorem idx0 : ∀ t : Fin cfg0.N, win0_0.index t (0 : Fin 2) = t.val ∧ win0_0.index t (1 : Fin 2) = 0 := (by decide +kernel : ∀ t : Fin grid0.N, _)
/-- The cotangent is cut like the preactivations. -/
theorem idx1 : ∀ t : Fin cfg0.N, win0_1.index t (0 : Fin 2) = t.val ∧ win0_1.index t (1 : Fin 2) = 0 := (by decide +kernel : ∀ t : Fin grid0.N, _)
/-- Every grid point sees the whole gain. -/
theorem idx2 : ∀ t : Fin cfg0.N, win0_2.index t (0 : Fin 2) = 0 ∧ win0_2.index t (1 : Fin 2) = 0 := (by decide +kernel : ∀ t : Fin grid0.N, _)
/-- Every grid point sees all the mixing weights. -/
theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)
/-- Every grid point sees the whole bias tile. -/
theorem idx4 : ∀ t : Fin cfg0.N, win0_4.index t (0 : Fin 2) = 0 ∧ win0_4.index t (1 : Fin 2) = 0 := (by decide +kernel : ∀ t : Fin grid0.N, _)
/-- The preactivations' gradient is cut like the preactivations. -/
theorem idx5 : ∀ t : Fin cfg0.N, win0_5.index t (0 : Fin 2) = t.val ∧ win0_5.index t (1 : Fin 2) = 0 := (by decide +kernel : ∀ t : Fin grid0.N, _)

/-- A row of a band is a row of the array. -/
theorem row_lt (t : Fin cfg0.N) (r : Fin 512) : 512 * t.val + r.val < 8192 := by
  have h : t.val < 16 := t.isLt
  omega

/-- Where a band's element of the preactivations lies in the array. -/
theorem emb0 (t : Fin cfg0.N) (r : Fin 512) (k : Fin 1024) :
    ((cfg0.win 0).blk t).view.emb (ix2 r k) = ix2 ⟨512 * t.val + r.val, row_lt t r⟩ k := by
  obtain ⟨e0, e1⟩ := idx0 t
  funext a; apply Fin.ext
  match a with
  | ⟨0, _⟩ => show win0_0.index t (0 : Fin 2) * 512 + 1 * r.val = 512 * t.val + r.val; omega
  | ⟨1, _⟩ => show win0_0.index t (1 : Fin 2) * 1024 + 1 * k.val = k.val; omega
/-- Where a band's element of the cotangent lies in the array. -/
theorem emb1 (t : Fin cfg0.N) (r : Fin 512) (k : Fin 512) :
    ((cfg0.win 1).blk t).view.emb (ix2 r k) = ix2 ⟨512 * t.val + r.val, row_lt t r⟩ k := by
  obtain ⟨e0, e1⟩ := idx1 t
  funext a; apply Fin.ext
  match a with
  | ⟨0, _⟩ => show win0_1.index t (0 : Fin 2) * 512 + 1 * r.val = 512 * t.val + r.val; omega
  | ⟨1, _⟩ => show win0_1.index t (1 : Fin 2) * 512 + 1 * k.val = k.val; omega
/-- The gain's block is the gain. -/
theorem emb2 (t : Fin cfg0.N) (r : Fin 1) (k : Fin 512) : ((cfg0.win 2).blk t).view.emb (ix2 r k) = ix2 r k := by
  obtain ⟨e0, e1⟩ := idx2 t
  funext a; apply Fin.ext
  match a with
  | ⟨0, _⟩ => show win0_2.index t (0 : Fin 2) * 1 + 1 * r.val = r.val; omega
  | ⟨1, _⟩ => show win0_2.index t (1 : Fin 2) * 512 + 1 * k.val = k.val; omega
/-- The weights' block is the weights. -/
theorem emb3 (t : Fin cfg0.N) (p : Fin 4) (r k : Fin 128) : ((cfg0.win 3).blk t).view.emb (ix3 p r k) = ix3 p r k := by
  obtain ⟨e0, e1, e2⟩ := idx3 t
  funext a; apply Fin.ext
  match a with
  | ⟨0, _⟩ => show win0_3.index t (0 : Fin 3) * 4 + 1 * p.val = p.val; omega
  | ⟨1, _⟩ => show win0_3.index t (1 : Fin 3) * 128 + 1 * r.val = r.val; omega
  | ⟨2, _⟩ => show win0_3.index t (2 : Fin 3) * 128 + 1 * k.val = k.val; omega
/-- The bias tile's block is the bias tile. -/
theorem emb4 (t : Fin cfg0.N) (r : Fin 128) (k : Fin 512) : ((cfg0.win 4).blk t).view.emb (ix2 r k) = ix2 r k := by
  obtain ⟨e0, e1⟩ := idx4 t
  funext a; apply Fin.ext
  match a with
  | ⟨0, _⟩ => show win0_4.index t (0 : Fin 2) * 128 + 1 * r.val = r.val; omega
  | ⟨1, _⟩ => show win0_4.index t (1 : Fin 2) * 512 + 1 * k.val = k.val; omega
/-- Where a band's element of the gradient lies in the array. -/
theorem emb5 (t : Fin cfg0.N) (r : Fin 512) (k : Fin 1024) :
    ((cfg0.win 5).blk t).view.emb (ix2 r k) = ix2 ⟨512 * t.val + r.val, row_lt t r⟩ k := by
  obtain ⟨e0, e1⟩ := idx5 t
  funext a; apply Fin.ext
  match a with
  | ⟨0, _⟩ => show win0_5.index t (0 : Fin 2) * 512 + 1 * r.val = 512 * t.val + r.val; omega
  | ⟨1, _⟩ => show win0_5.index t (1 : Fin 2) * 1024 + 1 * k.val = k.val; omega

section
variable {m} {c : Dev nD} {z dy : ℕ → ℕ → ℝ} {gn : ℕ → ℝ} {w : ℕ → ℕ → ℕ → ℝ} {bs : ℕ → ℕ → ℝ} (I : Ins m c z dy gn w bs)
include I

/-- The tile of preactivations at a point. -/
theorem blk0_at (t : Fin cfg0.N) : At2 (a := 512) (b := 1024) (φ := .f32) (iblk m c 0 t) fun r k => z (512 * t.val + r) k := fun r k => by
  show V m c main_arg0 (((cfg0.win 0).blk t).view.emb (ix2 r k)) = _
  rw [emb0, V_main_arg0]
  exact I.hz _ _
/-- The `u` half of a band, in the argument's numbers. -/
theorem zu_at (t : Fin cfg0.N) : At2 (zu m c t) fun r k => z (512 * t.val + r) k :=
  (ld2_at (blk0_at I t) inb_S512x1024_S512x512_0_0).congr fun r k _ _ => by simp only [Nat.zero_add]
/-- The `v` half of a band, in the argument's numbers. -/
theorem zv_at (t : Fin cfg0.N) : At2 (zv m c t) fun r k => z (512 * t.val + r) (512 + k) :=
  (ld2_at (blk0_at I t) inb_S512x1024_S512x512_0_512).congr fun r k _ _ => by simp only [Nat.zero_add]
/-- The band of the cotangent, in the argument's numbers. -/
theorem dyb_at (t : Fin cfg0.N) : At2 (dyb m c t) fun r k => dy (512 * t.val + r) k := fun r k => by
  show V m c main_arg1 (((cfg0.win 1).blk t).view.emb (ix2 r k)) = _
  rw [emb1, V_main_arg1]
  exact I.hdy _ _
/-- The gain that a grid point loads. -/
theorem gb_at (t : Fin cfg0.N) : At2 (gb m c t) fun _ k => gn k := fun r k => by
  show V m c main_v4 (((cfg0.win 2).blk t).view.emb (ix2 r k)) = _
  rw [emb2, V4_eq]
  pointwise
  exact I.hg _
/-- The mixing weights that a grid point loads. -/
theorem wb_at (t : Fin cfg0.N) : At3 (wb m c t) w := fun p r k => by
  show V m c main_arg3 (((cfg0.win 3).blk t).view.emb (ix3 p r k)) = _
  rw [emb3, V_main_arg3]
  exact I.hw _ _ _
/-- The bias tile that a grid point loads: each head's bias, repeated over its channels. -/
theorem bb_at (t : Fin cfg0.N) : At2 (bb m c t) (bR bs) := fun r k => by
  show V m c main_v3 (((cfg0.win 4).blk t).view.emb (ix2 r k)) = _
  rw [emb4, V3_eq]
  pointwise
  exact I.hb _ _

/-- The preactivations' gradient after a point. -/
theorem outs5 (t : Fin cfg0.N) : At2 (a := 512) (b := 1024) (φ := .bf16) (outsAt0 m c t.val t.isLt).1
    fun r k => dz z dy gn w (bR bs) (512 * t.val + r) k := fun r k => by
  have key : (outsAt0 m c t.val t.isLt).1 = View.canon (L5 m c t) := by
    have ht : t.val < 16 := t.isLt
    by_cases h0 : t.val % 16 = 0
    · exact outA5 m c t h0 (by omega)
    · by_cases h1 : t.val % 16 = 15
      · exact outC5 m c t h0 h1
      · exact outB5 m c t h0 h1
  rw [key]
  exact out5_at (zu_at I t) (zv_at I t) (dyb_at I t) (gb_at I t) (wb_at I t) (bb_at I t) (ix2 r k)

/-- After each grid point the bias gradient is the sum over the chunks so far. -/
theorem outs7 : ∀ (n : ℕ) (hn : n < cfg0.N), At2 (a := 128) (b := 512) (φ := .f32) (outsAt0 m c n hn).2.2.1
    fun t k => ∑ i ∈ Finset.range (n + 1), ∑ q : Fin 4, ds z dy (128 * (4 * i + q.val) + t) k
  | 0, hn => by
    obtain ⟨L, e⟩ := outA7 m c ⟨0, hn⟩ rfl (by show ¬0 % 16 = 15; decide)
    have h0 : At2 (a := 128) (b := 512) (φ := .f32) (k0_pay7 (F := Ideal)) fun _ _ => (0 : ℝ) := fun r k => by
      pointwise [k0_pay7]
      exact EReal.coe_zero.symm
    rw [show (outsAt0 m c 0 hn).2.2.1 = _ from e]
    refine (out7_at (zu_at I ⟨0, hn⟩) (dyb_at I ⟨0, hn⟩) h0 L).congr fun t k _ _ => ?_
    rw [Finset.sum_range_succ, Finset.sum_range_zero]
  | n + 1, hn => by
    have hp := outs7 n (by omega)
    have hN : n + 1 < 16 := hn
    have key : ∃ L, (outsAt0 m c (n + 1) hn).2.2.1 = View.canon (L7 m c ⟨n + 1, hn⟩ (outsAt0 m c n (by omega)).2.2.1 L) := by
      by_cases h1 : (n + 1) % 16 = 15
      · exact outC7 m c ⟨n + 1, hn⟩ (by show ¬(n + 1) % 16 = 0; omega) h1
      · exact outB7 m c ⟨n + 1, hn⟩ (by show ¬(n + 1) % 16 = 0; omega) h1
    obtain ⟨L, e⟩ := key
    rw [e]
    refine (out7_at (zu_at I ⟨n + 1, hn⟩) (dyb_at I ⟨n + 1, hn⟩) hp L).congr fun t k _ _ => ?_
    rw [Finset.sum_range_succ _ (n + 1)]

/-- After each grid point the gain gradient is the sum over the chunks so far. -/
theorem outs8 : ∀ (n : ℕ) (hn : n < cfg0.N), At2 (a := 1) (b := 512) (φ := .f32) (outsAt0 m c n hn).2.2.2
    fun _ k => ∑ i ∈ Finset.range (n + 1), ∑ q : Fin 4, dgPart z dy w (4 * i + q.val) (k / 128) (k % 128)
  | 0, hn => by
    obtain ⟨L, e⟩ := outA8 m c ⟨0, hn⟩ rfl (by show ¬0 % 16 = 15; decide)
    have h0 : At2 (a := 1) (b := 512) (φ := .f32) (k0_pay8 (F := Ideal)) fun _ _ => (0 : ℝ) := fun r k => by
      pointwise [k0_pay8]
      exact EReal.coe_zero.symm
    rw [show (outsAt0 m c 0 hn).2.2.2 = _ from e]
    refine (out8_at (zu_at I ⟨0, hn⟩) (zv_at I ⟨0, hn⟩) (dyb_at I ⟨0, hn⟩) (wb_at I ⟨0, hn⟩) h0 L).congr fun t k _ _ => ?_
    rw [Finset.sum_range_succ, Finset.sum_range_zero]
  | n + 1, hn => by
    have hp := outs8 n (by omega)
    have hN : n + 1 < 16 := hn
    have key : ∃ L, (outsAt0 m c (n + 1) hn).2.2.2 = View.canon (L8 m c ⟨n + 1, hn⟩ (outsAt0 m c n (by omega)).2.2.2 L) := by
      by_cases h1 : (n + 1) % 16 = 15
      · exact outC8 m c ⟨n + 1, hn⟩ (by show ¬(n + 1) % 16 = 0; omega) h1
      · exact outB8 m c ⟨n + 1, hn⟩ (by show ¬(n + 1) % 16 = 0; omega) h1
    obtain ⟨L, e⟩ := key
    rw [e]
    refine (out8_at (zu_at I ⟨n + 1, hn⟩) (zv_at I ⟨n + 1, hn⟩) (dyb_at I ⟨n + 1, hn⟩) (wb_at I ⟨n + 1, hn⟩) hp L).congr fun t k _ _ => ?_
    rw [Finset.sum_range_succ _ (n + 1)]

/-- The weights' gradient after a point before the last: all of the sum so far. -/
theorem outs6 : ∀ (n : ℕ) (hn : n < cfg0.N), n < 15 → At3 (a := 4) (b := 128) (c := 128) (φ := .f32) (outsAt0 m c n hn).2.1
    fun h t k => ∑ i ∈ Finset.range (n + 1), ∑ q : Fin 4, dwPart z dy gn (4 * i + q.val) h t k
  | 0, hn, _ => by
    obtain ⟨L, e⟩ := outA6 m c ⟨0, hn⟩ rfl (by show ¬0 % 16 = 15; decide)
    have h0 : At3 (a := 4) (b := 128) (c := 128) (φ := .f32) (k0_pay6 (F := Ideal)) fun _ _ _ => (0 : ℝ) := fun h r k => by
      pointwise [k0_pay6]
      exact EReal.coe_zero.symm
    rw [show (outsAt0 m c 0 hn).2.1 = _ from e]
    refine (out6_at (zu_at I ⟨0, hn⟩) (zv_at I ⟨0, hn⟩) (dyb_at I ⟨0, hn⟩) (gb_at I ⟨0, hn⟩) h0 L).congr fun h t k _ _ _ => ?_
    rw [Finset.sum_range_succ, Finset.sum_range_zero]
  | n + 1, hn, h15 => by
    have hp := outs6 n (by omega) (by omega)
    obtain ⟨L, e⟩ := outB6 m c ⟨n + 1, hn⟩ (by show ¬(n + 1) % 16 = 0; omega) (by show ¬(n + 1) % 16 = 15; omega)
    rw [show (outsAt0 m c (n + 1) hn).2.1 = _ from e]
    refine (out6_at (zu_at I ⟨n + 1, hn⟩) (zv_at I ⟨n + 1, hn⟩) (dyb_at I ⟨n + 1, hn⟩) (gb_at I ⟨n + 1, hn⟩) hp L).congr fun h t k _ _ _ => ?_
    rw [Finset.sum_range_succ _ (n + 1)]

/-- The last point, number 15. -/
abbrev tLast : Fin cfg0.N := (⟨15, by decide⟩ : Fin grid0.N)
/-- … after the last point, masked. -/
theorem outs6_last : At3 (a := 4) (b := 128) (c := 128) (φ := .f32) (outsAt0 m c tLast.val tLast.isLt).2.1
    fun h t k => if k ≤ t then ∑ i ∈ Finset.range 16, ∑ q : Fin 4, dwPart z dy gn (4 * i + q.val) h t k else 0 := by
  obtain ⟨L, e⟩ := outC6 m c tLast (by decide) (by decide)
  rw [e]
  have hp := outs6 I 14 (by decide) (by decide)
  refine (out6m_at (zu_at I tLast) (zv_at I tLast) (dyb_at I tLast) (gb_at I tLast) hp L).congr fun h t k _ _ _ => ?_
  rw [Finset.sum_range_succ _ 15]

/-- The preactivations' gradient, whole. -/
theorem final5 (T : Fin 8192) (k : Fin 1024) : (show EReal from (dats m 0 c).arrAt 5 cfg0.N (ix2 T k)) = ((dz z dy gn w (bR bs) T.val k.val : ℝ) : EReal) := by
  have ht : T.val / 512 < 16 := by omega
  let t : Fin cfg0.N := (⟨T.val / 512, ht⟩ : Fin 16)
  have e := congrFun (blocks5 m c t (flush0_5 t)) (ix2 ⟨T.val % 512, by omega⟩ k)
  rw [flushed5] at e
  have e' : (dats m 0 c).arrAt 5 cfg0.N (((cfg0.win 5).blk t).view.emb (ix2 ⟨T.val % 512, by omega⟩ k)) =
    (outsAt0 m c t.val t.isLt).1 (ix2 ⟨T.val % 512, by omega⟩ k) := e
  rw [emb5] at e'
  have hT : (⟨512 * t.val + T.val % 512, row_lt t ⟨T.val % 512, by omega⟩⟩ : Fin 8192) = T := Fin.ext (Nat.div_add_mod T.val 512)
  have h5 := outs5 I t ⟨T.val % 512, by omega⟩ k
  rw [← e'] at h5
  rw [hT] at h5
  refine h5.trans ?_
  show ((dz z dy gn w (bR bs) (512 * (T.val / 512) + T.val % 512) k.val : ℝ) : EReal) = _
  rw [Nat.div_add_mod]

/-- The weights' gradient, whole. -/
theorem final6 : At3 (a := 4) (b := 128) (c := 128) (φ := .f32) ((dats m 0 c).arrAt 6 cfg0.N)
    fun h t k => if k ≤ t then ∑ i ∈ Finset.range 16, ∑ q : Fin 4, dwPart z dy gn (4 * i + q.val) h t k else 0 := by
  have e : (dats m 0 c).arrAt 6 cfg0.N = (outsAt0 m c tLast.val tLast.isLt).2.1 := by
    refine (dats m 0 c).arrAt_eq_of_after_last 6 tLast (by decide +kernel) _ fun j => ?_
    blk_simp
    rw [after0_6]
  rw [e]
  exact outs6_last I
/-- The bias gradient, whole. -/
theorem final7 : At2 (a := 128) (b := 512) (φ := .f32) ((dats m 0 c).arrAt 7 cfg0.N)
    fun t k => ∑ i ∈ Finset.range 16, ∑ q : Fin 4, ds z dy (128 * (4 * i + q.val) + t) k := by
  have e : (dats m 0 c).arrAt 7 cfg0.N = (outsAt0 m c tLast.val tLast.isLt).2.2.1 := by
    refine (dats m 0 c).arrAt_eq_of_after_last 7 tLast (by decide +kernel) _ fun j => ?_
    blk_simp
    rw [after0_7]
  rw [e]
  exact outs7 I 15 tLast.isLt
/-- The gain's gradient, whole. -/
theorem final8 : At2 (a := 1) (b := 512) (φ := .f32) ((dats m 0 c).arrAt 8 cfg0.N)
    fun _ k => ∑ i ∈ Finset.range 16, ∑ q : Fin 4, dgPart z dy w (4 * i + q.val) (k / 128) (k % 128) := by
  have e : (dats m 0 c).arrAt 8 cfg0.N = (outsAt0 m c tLast.val tLast.isLt).2.2.2 := by
    refine (dats m 0 c).arrAt_eq_of_after_last 8 tLast (by decide +kernel) _ fun j => ?_
    blk_simp
    rw [after0_8]
  rw [e]
  exact outs8 I 15 tLast.isLt
end
end Cert.Arrays
end
-- ==== Proof.HostSums.lean ====
/- Sums over several axes, read at an index: the host's sums over the first axes of a five-axis array and its product
   contracted over three axes. -/
module
public import proofs.«01_k».proof.Proof.Consts
public import Idealize.ShloMosaic.Lib.Pointwise
@[expose] public section
set_option maxRecDepth 16384
noncomputable section
namespace Cert.HostSums
open Idealize.ShloMosaic
open Idealize.ShloMosaic (ix2 ix3 ix4 ix5)
variable {a b c d e : ℕ}

/-- The host's sum over the first three of five axes. -/
theorem sum012 (h : (⟨5, ![a, b, c, d, e]⟩ : Shape).ReducesTo [0, 1, 2] ⟨2, ![d, e]⟩)
    (v : (⟨5, ![a, b, c, d, e]⟩ : Shape).Idx → EReal) (init : EReal) (r : Fin d) (s : Fin e) :
    Ideal.hostReduceAdd h v init (ix2 r s) = init + ∑ i : Fin a, ∑ j : Fin b, ∑ k : Fin c, v (ix5 i j k r s) := by
  unfold Ideal.hostReduceAdd
  congr 1
  have key : ∀ (i : Fin a) (j : Fin b) (k : Fin c) (r' : Fin d) (s' : Fin e),
      h.drop (ix5 i j k r' s') = ix2 r s ↔ r' = r ∧ s' = s := by
    intro i j k r' s'
    have h0 : ((h.drop (ix5 i j k r' s') 0 : Fin _) : ℕ) = r'.val := Shape.ReducesTo.drop_apply_val h _ 0
    have h1 : ((h.drop (ix5 i j k r' s') 1 : Fin _) : ℕ) = s'.val := Shape.ReducesTo.drop_apply_val h _ 1
    constructor
    · intro q
      rw [q] at h0 h1
      exact ⟨Fin.ext h0.symm, Fin.ext h1.symm⟩
    · rintro ⟨rfl, rfl⟩
      funext x
      apply Fin.ext
      match x with
      | ⟨0, _⟩ => exact h0
      | ⟨1, _⟩ => exact h1
  rw [Finset.sum_filter, sum_idx5]
  simp only [key, ite_and, Finset.sum_ite_eq', Finset.mem_univ, if_true]
  refine Finset.sum_congr rfl fun i _ => Finset.sum_congr rfl fun j _ => Finset.sum_congr rfl fun k _ => ?_
  rw [Finset.sum_eq_single r (fun x _ hx => by simp [hx]) (by simp)]
  simp

/-- The host's sum over the first two of five axes. -/
theorem sum01 (h : (⟨5, ![a, b, c, d, e]⟩ : Shape).ReducesTo [0, 1] ⟨3, ![c, d, e]⟩)
    (v : (⟨5, ![a, b, c, d, e]⟩ : Shape).Idx → EReal) (init : EReal) (p : Fin c) (r : Fin d) (s : Fin e) :
    Ideal.hostReduceAdd h v init (ix3 p r s) = init + ∑ i : Fin a, ∑ j : Fin b, v (ix5 i j p r s) := by
  unfold Ideal.hostReduceAdd
  congr 1
  have key : ∀ (i : Fin a) (j : Fin b) (p' : Fin c) (r' : Fin d) (s' : Fin e),
      h.drop (ix5 i j p' r' s') = ix3 p r s ↔ p' = p ∧ r' = r ∧ s' = s := by
    intro i j k r' s'
    have h0 : ((h.drop (ix5 i j k r' s') 0 : Fin _) : ℕ) = k.val := Shape.ReducesTo.drop_apply_val h _ 0
    have h1 : ((h.drop (ix5 i j k r' s') 1 : Fin _) : ℕ) = r'.val := Shape.ReducesTo.drop_apply_val h _ 1
    have h2 : ((h.drop (ix5 i j k r' s') 2 : Fin _) : ℕ) = s'.val := Shape.ReducesTo.drop_apply_val h _ 2
    constructor
    · intro q
      rw [q] at h0 h1 h2
      exact ⟨Fin.ext h0.symm, Fin.ext h1.symm, Fin.ext h2.symm⟩
    · rintro ⟨rfl, rfl, rfl⟩
      funext x
      apply Fin.ext
      match x with
      | ⟨0, _⟩ => exact h0
      | ⟨1, _⟩ => exact h1
      | ⟨2, _⟩ => exact h2
  rw [Finset.sum_filter, sum_idx5]
  refine Finset.sum_congr rfl fun i _ => Finset.sum_congr rfl fun j _ => ?_
  rw [Finset.sum_eq_single p (fun x _ hx => by simp [key, hx]) (by simp),
    Finset.sum_eq_single r (fun x _ hx => by simp [key, hx]) (by simp),
    Finset.sum_eq_single s (fun x _ hx => by simp [key, hx]) (by simp)]
  simp [key]

/-- Four groups of sixteen chunks are sixteen groups of four. -/
theorem regroup (f : ℕ → ℝ) : ∑ b : Fin 4, ∑ n : Fin 16, f (16 * b.val + n.val) = ∑ i ∈ Finset.range 16, ∑ q : Fin 4, f (4 * i + q.val) := by
  simp only [Finset.sum_range_succ, Finset.sum_range_zero, Fin.sum_univ_succ, Fin.sum_univ_zero, Fin.val_succ, Fin.val_zero, Nat.reduceAdd, Nat.reduceMul]
  ring
section Three
variable {sl sr so : Shape} (dd : DotDims sl sr so)

/-- A product contracted over three axes has three contracted coordinates. -/
theorem rank3 {x y z : Fin sl.rank} (hc : dd.lhsContracting = [x, y, z]) : dd.contr.rank = 3 := by
  rw [dd.rank_contr, hc]; rfl

/-- The sizes of the three contracted coordinates. -/
theorem size3 {x y z : Fin sl.rank} (hc : dd.lhsContracting = [x, y, z]) {K₁ K₂ K₃ : ℕ} (h₁ : sl.size x = K₁)
    (h₂ : sl.size y = K₂) (h₃ : sl.size z = K₃) (p : Fin dd.contr.rank) :
    (if p.val = 0 then K₁ else if p.val = 1 then K₂ else K₃) = dd.contr.size p := by
  subst h₁ h₂ h₃
  have : ∀ (l : List (Fin sl.rank)) (_ : l = [x, y, z]) (p : Fin (l.map sl.size).length),
      (if p.val = 0 then sl.size x else if p.val = 1 then sl.size y else sl.size z) = (l.map sl.size)[p] := by
    rintro _ rfl ⟨p, hp⟩
    have : p = 0 ∨ p = 1 ∨ p = 2 := by simp at hp; omega
    rcases this with rfl | rfl | rfl <;> rfl
  exact this _ hc p

/-- The contracted index with the three given coordinates. -/
def idx3 {x y z : Fin sl.rank} (hc : dd.lhsContracting = [x, y, z]) {K₁ K₂ K₃ : ℕ} (h₁ : sl.size x = K₁)
    (h₂ : sl.size y = K₂) (h₃ : sl.size z = K₃) (k₁ : Fin K₁) (k₂ : Fin K₂) (k₃ : Fin K₃) : dd.contr.Idx :=
  fun p => if h : p.val = 0 then k₁.cast (by rw [← size3 dd hc h₁ h₂ h₃ p, if_pos h])
    else if h' : p.val = 1 then k₂.cast (by rw [← size3 dd hc h₁ h₂ h₃ p, if_neg h, if_pos h'])
    else k₃.cast (by rw [← size3 dd hc h₁ h₂ h₃ p, if_neg h, if_neg h'])

/-- Contracted indices are triples of coordinates. -/
def equiv3 {x y z : Fin sl.rank} (hc : dd.lhsContracting = [x, y, z]) {K₁ K₂ K₃ : ℕ} (h₁ : sl.size x = K₁)
    (h₂ : sl.size y = K₂) (h₃ : sl.size z = K₃) : Fin K₁ × Fin K₂ × Fin K₃ ≃ dd.contr.Idx where
  toFun k := idx3 dd hc h₁ h₂ h₃ k.1 k.2.1 k.2.2
  invFun kk :=
    ((kk ⟨0, by rw [rank3 dd hc]; omega⟩).cast (size3 dd hc h₁ h₂ h₃ _).symm,
     (kk ⟨1, by rw [rank3 dd hc]; omega⟩).cast (size3 dd hc h₁ h₂ h₃ _).symm,
     (kk ⟨2, by rw [rank3 dd hc]; omega⟩).cast (size3 dd hc h₁ h₂ h₃ _).symm)
  left_inv _ := rfl
  right_inv kk := by
    funext p
    have : p = ⟨0, by rw [rank3 dd hc]; omega⟩ ∨ p = ⟨1, by rw [rank3 dd hc]; omega⟩ ∨ p = ⟨2, by rw [rank3 dd hc]; omega⟩ := by
      have := rank3 dd hc
      rcases p with ⟨p, hp⟩
      simp only [Fin.mk.injEq]; omega
    rcases this with rfl | rfl | rfl <;> rfl

/-- A product contracted over three axes, at an index. -/
theorem matmul3 {x y z : Fin sl.rank} (hc : dd.lhsContracting = [x, y, z]) {K₁ K₂ K₃ : ℕ} (h₁ : sl.size x = K₁)
    (h₂ : sl.size y = K₂) (h₃ : sl.size z = K₃) (l : sl.Idx → EReal) (r : sr.Idx → EReal) (acc : so.Idx → EReal) (j : so.Idx) :
    Ideal.matmul dd l r acc j = acc j + ∑ k₁ : Fin K₁, ∑ k₂ : Fin K₂, ∑ k₃ : Fin K₃,
      l (dd.lhsIdx j (idx3 dd hc h₁ h₂ h₃ k₁ k₂ k₃)) * r (dd.rhsIdx j (idx3 dd hc h₁ h₂ h₃ k₁ k₂ k₃)) := by
  unfold Ideal.matmul
  rw [← Fintype.sum_equiv (equiv3 dd hc h₁ h₂ h₃) (fun k => l (dd.lhsIdx j (idx3 dd hc h₁ h₂ h₃ k.1 k.2.1 k.2.2)) *
    r (dd.rhsIdx j (idx3 dd hc h₁ h₂ h₃ k.1 k.2.1 k.2.2))) _ fun _ => rfl]
  simp only [Fintype.sum_prod_type]
end Three
end Cert.HostSums
end
-- ==== Proof.Ref.lean ====
/- What the reference's run leaves, as real formulas of real arguments. The reference keeps its arrays by batch row,
   place in the row and channel, or by batch row, chunk, place in the chunk, head and channel of the head. -/
module
public import proofs.«01_k».proof.Proof.Gen.ReferenceIdeal.Run
public import proofs.«01_k».proof.Proof.Store
public import proofs.«01_k».proof.Proof.HostSums
@[expose] public section
set_option maxRecDepth 16384
noncomputable section
namespace Cert.Ref
open Cert.ReferenceIdeal Cert.ReferenceIdeal.Gen Cert.ReferenceIdeal.Value Idealize.ShloMosaic Idealize.ShloMosaic.TcCoe Idealize.SL.Sem
open Idealize.ShloMosaic (ix1 ix2 ix3 ix5)
open Cert.Tile (At2 At3)
open Cert.GateGrad Cert.Consts

/-- The array `v` of five axes holds, at every index, the real number `f` gives there. -/
def At5 {a b c d e : ℕ} {φ : FTy} (v : FVec Ideal (⟨5, ![a, b, c, d, e]⟩ : Shape) φ) (f : ℕ → ℕ → ℕ → ℕ → ℕ → ℝ) : Prop :=
  ∀ (i : Fin a) (j : Fin b) (k : Fin c) (l : Fin d) (n : Fin e),
    (v (ix5 i j k l n) : EReal) = ((f i.val j.val k.val l.val n.val : ℝ) : EReal)

/-- Equal real numbers are equal extended reals. -/
theorem coe_of {a b : ℝ} (h : a = b) : ((a : ℝ) : EReal) = ((b : ℝ) : EReal) := congrArg _ h

/-- One, as a real number. -/
theorem one_coe : (1 : EReal) = ((1 : ℝ) : EReal) := EReal.coe_one.symm
/-- The float word of 44715. -/
theorem ofBits_num : Ideal.ofBits .f32 0x472EAB00#32 = ((44715 : ℝ) : EReal) := by
  simp [Ideal.ofBits, Ideal.ieee, -EReal.coe_mul]; norm_num
/-- The float word of 1000000. -/
theorem ofBits_den : Ideal.ofBits .f32 0x49742400#32 = ((1000000 : ℝ) : EReal) := by
  simp [Ideal.ofBits, Ideal.ieee, -EReal.coe_mul]; norm_num
/-- The float word of 3. -/
theorem ofBits_three : Ideal.ofBits .f32 0x40400000#32 = ((3 : ℝ) : EReal) := by
  simp [Ideal.ofBits, Ideal.ieee, -EReal.coe_mul]; norm_num
/-- The float word of minus one half. -/
theorem ofBits_mhalf : Ideal.ofBits .f32 0xBF000000#32 = ((-1 / 2 : ℝ) : EReal) := by
  simp [Ideal.ofBits, Ideal.ieee, -EReal.coe_mul]; norm_num
/-- Division by a nonzero real number. -/
theorem div_real (a : ℝ) {b : ℝ} (h : b ≠ 0) : Ideal.div (a : EReal) ((b : ℝ) : EReal) = ((a / b : ℝ) : EReal) := by
  rw [Ideal.div_coe h, ← EReal.coe_mul]; congr 1; ring

/-- The gradient of a normalisation by the reciprocal root `r` of the mean square: the differentiated root
    `-1/2 · r / ms`, summed against the cotangents, is the projection on the normalised values. -/
theorem gate_grad (z : ℕ → ℕ → ℝ) (T h d : ℕ) (f : ℕ → ℝ) :
    f d * rr z T h + gelu (z T (512 + (128 * h + d))) * ((∑ e : Fin 128, gelu (z T (512 + (128 * h + e.val))) * f e.val) * (-1 / 2 * (rr z T h / ms z T h)) / 128) +
      (∑ e : Fin 128, gelu (z T (512 + (128 * h + e.val))) * f e.val) * (-1 / 2 * (rr z T h / ms z T h)) / 128 * gelu (z T (512 + (128 * h + d))) =
    rr z T h * (f d - vh z T h d * ((∑ e : Fin 128, f e.val * vh z T h e.val) / 128)) := by
  have hm := ms_pos z T h
  have hr : rr z T h / ms z T h = rr z T h * (rr z T h * rr z T h) := by
    unfold rr
    rw [div_eq_mul_inv]
    congr 1
    rw [← mul_inv, Real.mul_self_sqrt hm.le]
  have hs : (∑ e : Fin 128, f e.val * vh z T h e.val) = (∑ e : Fin 128, gelu (z T (512 + (128 * h + e.val))) * f e.val) * rr z T h := by
    rw [Finset.sum_mul]
    exact Finset.sum_congr rfl fun e _ => by unfold vh; ring
  rw [hs, hr]
  unfold vh
  ring

section
variable {V0 : Valuation τ sig (Elt Ideal)} {z dy : ℕ → ℕ → ℝ} {gn : ℕ → ℝ} {w : ℕ → ℕ → ℕ → ℝ} {bs : ℕ → ℕ → ℝ}
variable (V0 z dy gn w bs) in
/-- The arguments are real: the preactivations `z`, the cotangent `dy`, the gain `gn`, the mixing weights `w` and the bias `bs`. -/
structure Ins : Prop where
  hz : At2 (a := 8192) (b := 1024) (φ := .f32) (V0 (Proc.devRef .tc main_arg0)) z
  hdy : At2 (a := 8192) (b := 512) (φ := .f32) (V0 (Proc.devRef .tc main_arg1)) dy
  hg : ∀ i : Fin 512, (V0 (Proc.devRef .tc main_arg2) (ix1 i) : EReal) = ((gn i.val : ℝ) : EReal)
  hw : At3 (a := 4) (b := 128) (c := 128) (φ := .f32) (V0 (Proc.devRef .tc main_arg3)) w
  hb : At2 (a := 4) (b := 128) (φ := .f32) (V0 (Proc.devRef .tc main_arg4)) bs
variable (I : Ins V0 z dy gn w bs)

/-- The token at place `t` of chunk `n` of batch row `b`. -/
theorem tok (b n t : ℕ) : b * 2048 + (128 * n + t) = 128 * (16 * b + n) + t := by ring
/-- Channel `d` of head `h` (or place `d` of chunk `h`). -/
theorem chan (h d : ℕ) : h * 128 + d = 128 * h + d := by ring

include I
/-- `u`'s preactivations. -/
theorem v1_at : At3 (a := 4) (b := 2048) (c := 512) (φ := .f32) (res_main_v1 V0) fun b s c => z (b * 2048 + s) c := by
  intro b s c
  pointwise [res_main_v1]
  exact I.hz _ _
/-- The gate's preactivations. -/
theorem v3_at : At3 (a := 4) (b := 2048) (c := 512) (φ := .f32) (res_main_v3 V0) fun b s c => z (b * 2048 + s) (512 + c) := by
  intro b s c
  pointwise [res_main_v3]
  exact I.hz _ _
/-- The cotangent. -/
theorem v4_at : At3 (a := 4) (b := 2048) (c := 512) (φ := .f32) (res_main_v4 V0) fun b s c => dy (b * 2048 + s) c := by
  intro b s c
  pointwise [res_main_v4]
  exact I.hdy _ _
/-- The `tanh` of `u`'s gelu. -/
theorem v20_at : At3 (a := 4) (b := 2048) (c := 512) (φ := .f32) (res_main_v20 V0) fun b s c => th (z (b * 2048 + s) c) := by
  intro b s c
  pointwise [res_main_v20]
  simp only [v1_at I b s c, ofBits_c, ofBits_num, ofBits_den, ← EReal.coe_mul, div_real _ (by norm_num : (1000000 : ℝ) ≠ 0),
    ← EReal.coe_add, Ideal.tanh_coe]
  refine coe_of ?_
  unfold th
  congr 1
  ring
/-- The `tanh` of the gate's gelu. -/
theorem v43_at : At3 (a := 4) (b := 2048) (c := 512) (φ := .f32) (res_main_v43 V0) fun b s c => th (z (b * 2048 + s) (512 + c)) := by
  intro b s c
  pointwise [res_main_v43]
  simp only [v3_at I b s c, ofBits_c, ofBits_num, ofBits_den, ← EReal.coe_mul, div_real _ (by norm_num : (1000000 : ℝ) ≠ 0),
    ← EReal.coe_add, Ideal.tanh_coe]
  refine coe_of ?_
  unfold th
  congr 1
  ring
/-- The factor of `u`'s gelu. -/
theorem v29_at : At3 (a := 4) (b := 2048) (c := 512) (φ := .f32) (res_main_v29 V0) fun b s c => 1 / 2 * (1 + th (z (b * 2048 + s) c)) := by
  intro b s c
  pointwise [res_main_v29]
  rw [v20_at I b s c, ofBits_half, one_coe, ← EReal.coe_add, ← EReal.coe_mul]
/-- The factor of the gate's gelu. -/
theorem v52_at : At3 (a := 4) (b := 2048) (c := 512) (φ := .f32) (res_main_v52 V0) fun b s c => 1 / 2 * (1 + th (z (b * 2048 + s) (512 + c))) := by
  intro b s c
  pointwise [res_main_v52]
  rw [v43_at I b s c, ofBits_half, one_coe, ← EReal.coe_add, ← EReal.coe_mul]
/-- `u`'s gelu. -/
theorem v30_at : At3 (a := 4) (b := 2048) (c := 512) (φ := .f32) (res_main_v30 V0) fun b s c => gelu (z (b * 2048 + s) c) := by
  intro b s c
  pointwise [res_main_v30]
  simp only [v1_at I b s c, v29_at I b s c, ← EReal.coe_mul]
  refine coe_of ?_
  unfold gelu
  ring
/-- The gate's gelu, by chunks and heads. -/
theorem v54_at : At5 (a := 4) (b := 16) (c := 128) (d := 4) (e := 128) (φ := .f32) (res_main_v54 V0)
    fun b n t h d => gelu (z (128 * (16 * b + n) + t) (512 + (128 * h + d))) := by
  intro b n t h d
  pointwise [res_main_v54]
  simp only [v3_at I _ _ _, v52_at I _ _ _, ← EReal.coe_mul, tok, chan]
  refine coe_of ?_
  unfold gelu
  ring
/-- The mean squares, with the epsilon. -/
theorem v62_at : At5 (a := 4) (b := 16) (c := 128) (d := 4) (e := 1) (φ := .f32) (res_main_v62 V0)
    fun b n t h _ => ms z (128 * (16 * b + n) + t) h := by
  intro b n t h d
  obtain rfl : d = 0 := Subsingleton.elim _ _
  pointwise [res_main_v62]
  simp only [v54_at I _ _ _ _ _, ofBits_128, ofBits_eps, ← EReal.coe_mul, coe_sum, div_128, ← EReal.coe_add]
  rfl
/-- Their reciprocal square roots. -/
theorem v63_at : At5 (a := 4) (b := 16) (c := 128) (d := 4) (e := 1) (φ := .f32) (res_main_v63 V0)
    fun b n t h _ => rr z (128 * (16 * b + n) + t) h := by
  intro b n t h d
  obtain rfl : d = 0 := Subsingleton.elim _ _
  pointwise [res_main_v63]
  rw [v62_at I b n t h 0, rsqrt_pos (ms_pos _ _ _)]
  rfl
/-- The normalised gate. -/
theorem v68_at : At5 (a := 4) (b := 16) (c := 128) (d := 4) (e := 128) (φ := .f32) (res_main_v68 V0)
    fun b n t h d => vh z (128 * (16 * b + n) + t) h d := by
  intro b n t h d
  pointwise [res_main_v68]
  rw [v54_at I b n t h d, v63_at I b n t h 0, ← EReal.coe_mul]
  rfl
/-- The gain, by heads. -/
theorem v69_at : At5 (a := 1) (b := 1) (c := 1) (d := 4) (e := 128) (φ := .f32) (res_main_v69 V0)
    fun _ _ _ h d => gn (128 * h + d) := by
  intro b n t h d
  obtain rfl : b = 0 := Subsingleton.elim _ _
  obtain rfl : n = 0 := Subsingleton.elim _ _
  obtain rfl : t = 0 := Subsingleton.elim _ _
  pointwise [res_main_v69]
  exact (I.hg _).trans (coe_of (congrArg gn (chan _ _)))
/-- The normalised gate with its gain. -/
theorem v71_at : At5 (a := 4) (b := 16) (c := 128) (d := 4) (e := 128) (φ := .f32) (res_main_v71 V0)
    fun b n t h d => vn z gn (128 * (16 * b + n) + t) h d := by
  intro b n t h d
  pointwise [res_main_v71]
  rw [v68_at I b n t h d, v69_at I 0 0 0 h d, ← EReal.coe_mul]
  rfl
omit I in
/-- The causal mask: place `t` reads the places up to itself. -/
theorem mask_at (h : Fin 4) (t k : Fin 128) : (res_main_v76_1 V0 (ix3 h t k) : BitVec 1) = if k.val ≤ t.val then 1#1 else 0#1 := by
  pointwise [res_main_v76_1]
  have ht := t.isLt
  have hk := k.isLt
  rw [show IntOp.addi (BitVec.ofNat 32 t.val) 0#32 = BitVec.ofNat 32 t.val from BitVec.add_zero _,
    WordCmp.cmpi_sge_ofNat (by omega) (by omega)]
  by_cases h : k.val ≤ t.val <;> simp [h, Scalar.select]
/-- The masked mixing weights. -/
theorem v76_at : At3 (a := 4) (b := 128) (c := 128) (φ := .f32) (res_main_v76_0 V0) fun h t k => wm w h t k := by
  intro h t k
  pointwise [res_main_v76_0]
  rw [mask_at, I.hw h t k]
  unfold wm
  by_cases h : k.val ≤ t.val <;> simp [h, Scalar.select]
/-- The mixed gate. -/
theorem v82_at : At3 (a := 4) (b := 2048) (c := 512) (φ := .f32) (res_main_v82 V0)
    fun b s c => mix z gn w (bR bs) (16 * b + s / 128) (c / 128) (s % 128) (c % 128) := by
  intro b s c
  pointwise [res_main_v82]
  simp only [v71_at I _ _ _ _ _, v76_at I _ _ _, ← EReal.coe_mul, coe_sum]
  have hb := I.hb ⟨c.val / 128, by omega⟩ ⟨s.val % 128, by omega⟩
  refine (congrArg (_ + ·) hb).trans ?_
  rw [← EReal.coe_add]
  refine coe_of ?_
  unfold mix bR
  rw [show (128 * (c.val / 128) + c.val % 128) / 128 = c.val / 128 by omega]
  congr 1
  exact Finset.sum_congr rfl fun k _ => mul_comm _ _
/-- The cotangent of `u`'s gelu. -/
theorem v85_at : At3 (a := 4) (b := 2048) (c := 512) (φ := .f32) (res_main_v85 V0)
    fun b s c => dy (b * 2048 + s) c * mix z gn w (bR bs) (16 * b + s / 128) (c / 128) (s % 128) (c % 128) := by
  intro b s c
  pointwise [res_main_v85]
  rw [v4_at I b s c, v82_at I b s c, ← EReal.coe_mul]
/-- The cotangent of the mixed gate. -/
theorem v86_at : At5 (a := 4) (b := 16) (c := 128) (d := 4) (e := 128) (φ := .f32) (res_main_v86 V0)
    fun b n t h d => ds z dy (128 * (16 * b + n) + t) (128 * h + d) := by
  intro b n t h d
  pointwise [res_main_v86]
  simp only [v30_at I _ _ _, v4_at I _ _ _, ← EReal.coe_mul, chan, tok]
  exact coe_of (mul_comm _ _)
/-- The same, with its axes in another order. -/
theorem v90_at : At5 (a := 4) (b := 4) (c := 16) (d := 128) (e := 128) (φ := .f32) (res_main_v90 V0)
    fun h b n d t => ds z dy (128 * (16 * b + n) + t) (128 * h + d) := by
  intro h b n d t
  pointwise [res_main_v90]
  exact v86_at I b n t h d
/-- The cotangent of the normalised gate with its gain. -/
theorem v93_at : At5 (a := 4) (b := 16) (c := 128) (d := 4) (e := 128) (φ := .f32) (res_main_v93 V0)
    fun b n t h d => dvn z dy w (16 * b + n) t h d := by
  intro b n t h d
  pointwise [res_main_v93]
  simp only [v90_at I _ _ _ _ _, v76_at I _ _ _, ← EReal.coe_mul, coe_sum]
  exact coe_of (Finset.sum_congr rfl fun k _ => mul_comm _ _)
/-- The cotangent of the normalised gate. -/
theorem v99_at : At5 (a := 4) (b := 16) (c := 128) (d := 4) (e := 128) (φ := .f32) (res_main_v99 V0)
    fun b n t h d => dvn z dy w (16 * b + n) t h d * gn (128 * h + d) := by
  intro b n t h d
  pointwise [res_main_v99]
  rw [v93_at I b n t h d, v69_at I 0 0 0 h d, ← EReal.coe_mul]
/-- What the differentiated root of the mean square gives every channel of a head. -/
theorem v110_at : At5 (a := 4) (b := 16) (c := 128) (d := 4) (e := 128) (φ := .f32) (res_main_v110 V0)
    fun b n t h _ => (∑ e : Fin 128, gelu (z (128 * (16 * b + n) + t) (512 + (128 * h + e.val))) * (dvn z dy w (16 * b + n) t h e.val * gn (128 * h + e.val))) *
      (-1 / 2 * (rr z (128 * (16 * b + n) + t) h / ms z (128 * (16 * b + n) + t) h)) / 128 := by
  intro b n t h d
  pointwise [res_main_v110]
  simp only [v54_at I _ _ _ _ _, v99_at I _ _ _ _ _, v63_at I _ _ _ _ _, v62_at I _ _ _ _ _, ofBits_mhalf, ofBits_128,
    div_real _ (ms_pos _ _ _).ne', ← EReal.coe_mul, coe_sum, div_128]
  simp
/-- The cotangent of the gate before its gelu's derivative. -/
theorem v116_at : At3 (a := 4) (b := 2048) (c := 512) (φ := .f32) (res_main_v116 V0) fun b s c =>
    rr z (b * 2048 + s) (c / 128) * (dvn z dy w (16 * b + s / 128) (s % 128) (c / 128) (c % 128) * gn c - vh z (b * 2048 + s) (c / 128) (c % 128) *
    ((∑ e : Fin 128, dvn z dy w (16 * b + s / 128) (s % 128) (c / 128) e.val * gn (128 * (c / 128) + e.val) * vh z (b * 2048 + s) (c / 128) e.val) / 128)) := by
  intro b s c
  pointwise [res_main_v116]
  simp only [v99_at I _ _ _ _ _, v63_at I _ _ _ _ _, v54_at I _ _ _ _ _, v110_at I _ _ _ _ _, ← EReal.coe_mul, ← EReal.coe_add]
  refine coe_of ?_
  have e1 : 128 * (16 * b.val + s.val / 128) + s.val % 128 = b.val * 2048 + s.val := by omega
  have e2 : 128 * (c.val / 128) + c.val % 128 = c.val := by omega
  have key := gate_grad z (b.val * 2048 + s.val) (c.val / 128) (c.val % 128)
    fun e => dvn z dy w (16 * b.val + s.val / 128) (s.val % 128) (c.val / 128) e * gn (128 * (c.val / 128) + e)
  simp only [e2] at key
  rw [e1, e2]
  exact key
/-- The part of the gate's gradient that goes through the `tanh`. -/
theorem v123_at : At3 (a := 4) (b := 2048) (c := 512) (φ := .f32) (res_main_v123 V0) fun b s c =>
    cR * ((1 / 2 * (z (b * 2048 + s) (512 + c) * (rr z (b * 2048 + s) (c / 128) * (dvn z dy w (16 * b + s / 128) (s % 128) (c / 128) (c % 128) * gn c - vh z (b * 2048 + s) (c / 128) (c % 128) *
    ((∑ e : Fin 128, dvn z dy w (16 * b + s / 128) (s % 128) (c / 128) e.val * gn (128 * (c / 128) + e.val) * vh z (b * 2048 + s) (c / 128) e.val) / 128))))) *
      ((1 + th (z (b * 2048 + s) (512 + c))) * (1 - th (z (b * 2048 + s) (512 + c))))) := by
  intro b s c
  pointwise [res_main_v123]
  rw [v3_at I b s c, v116_at I b s c, v43_at I b s c]
  simp only [ofBits_half, ofBits_c, one_coe, ← EReal.coe_mul, ← EReal.coe_add, ← EReal.coe_sub]
/-- The part of `u`'s gradient that goes through the `tanh`. -/
theorem v137_at : At3 (a := 4) (b := 2048) (c := 512) (φ := .f32) (res_main_v137 V0) fun b s c =>
    cR * ((1 / 2 * (z (b * 2048 + s) c * (dy (b * 2048 + s) c * mix z gn w (bR bs) (16 * b + s / 128) (c / 128) (s % 128) (c % 128)))) *
      ((1 + th (z (b * 2048 + s) c)) * (1 - th (z (b * 2048 + s) c)))) := by
  intro b s c
  pointwise [res_main_v137]
  rw [v1_at I b s c, v85_at I b s c, v20_at I b s c]
  simp only [ofBits_half, ofBits_c, one_coe, ← EReal.coe_mul, ← EReal.coe_add, ← EReal.coe_sub]
/-- The reference's gradient of the preactivations. -/
theorem r148_at : At2 (a := 8192) (b := 1024) (φ := .bf16) (val4 V0 (Proc.devRef .tc main_v148)) (Cert.Store.dz z dy gn w (bR bs)) := by
  intro T c
  rw [val4_main_v148]
  pointwise
  simp only [v85_at I _ _ _, v29_at I _ _ _, v137_at I _ _ _, v1_at I _ _ _, v116_at I _ _ _, v52_at I _ _ _, v123_at I _ _ _, v3_at I _ _ _,
    ofBits_num, ofBits_den, ofBits_three, ← EReal.coe_mul, div_real _ (by norm_num : (1000000 : ℝ) ≠ 0), ← EReal.coe_add]
  have hT := T.isLt
  have e1 : T.val / 2048 * 2048 + T.val % 2048 = T.val := by omega
  have e2 : 16 * (T.val / 2048) + T.val % 2048 / 128 = T.val / 128 := by omega
  have e3 : T.val % 2048 % 128 = T.val % 128 := by omega
  have e4 : 128 * (T.val / 128) + T.val % 128 = T.val := by omega
  have e5 : ∀ c : ℕ, 128 * (c / 128) + c % 128 = c := fun c => by omega
  by_cases hc : c.val < 512
  · rw [dif_pos hc]
    refine coe_of ?_
    simp only [Cert.Store.dz, if_pos hc, du, e1, e2, e3, e4, e5]
    unfold gelu'
    ring
  · rw [dif_neg hc]
    refine coe_of ?_
    simp only [Cert.Store.dz, if_neg hc, dv, e1, e2, e3, e4, e5]
    unfold gelu'
    ring
/-- The reference's gradient of the gain. -/
theorem r149_at : At2 (a := 1) (b := 512) (φ := .f32) (val4 V0 (Proc.devRef .tc main_v149))
    fun _ c => ∑ i ∈ Finset.range 16, ∑ q : Fin 4, dgPart z dy w (4 * i + q.val) (c / 128) (c % 128) := by
  intro r c
  obtain rfl : r = 0 := Subsingleton.elim _ _
  rw [val4_main_v149]
  pointwise
  rw [Cert.HostSums.sum012]
  pointwise
  simp only [Cert.HostSums.sum012]
  pointwise
  simp only [v68_at I _ _ _ _ _, v93_at I _ _ _ _ _, ← EReal.coe_mul, coe_sum]
  refine coe_of ?_
  simp only [Finset.univ_unique, Finset.sum_singleton]
  refine Eq.trans ?_ (Cert.HostSums.regroup fun N => dgPart z dy w N (c.val / 128) (c.val % 128))
  refine Finset.sum_congr rfl fun b _ => Finset.sum_congr rfl fun n _ => Finset.sum_congr rfl fun t _ => mul_comm _ _
/-- The reference's gradient of the mixing weights. -/
theorem r94_at : At3 (a := 4) (b := 128) (c := 128) (φ := .f32) (val4 V0 (Proc.devRef .tc main_v94))
    fun h t k => if k ≤ t then ∑ i ∈ Finset.range 16, ∑ q : Fin 4, dwPart z dy gn (4 * i + q.val) h t k else 0 := by
  intro h t k
  rw [val4_main_v94]
  pointwise
  rw [Cert.HostSums.matmul3 _ (x := 1) (y := 2) (z := 3) rfl (K₁ := 4) (K₂ := 16) (K₃ := 128) rfl rfl rfl]
  have el : ∀ (b : Fin 4) (n : Fin 16) (d : Fin 128), dot_S4x4x16x128x128_S4x16x128x4x128_S4x128x128_123_014_4_2_0_3.lhsIdx (ix3 h t k)
      (Cert.HostSums.idx3 dot_S4x4x16x128x128_S4x16x128x4x128_S4x128x128_123_014_4_2_0_3 (x := 1) (y := 2) (z := 3) rfl (K₁ := 4) (K₂ := 16) (K₃ := 128) rfl rfl rfl b n d) = ix5 h b n d t := by
    intro b n d
    funext x
    apply Fin.ext
    match x with
    | ⟨0, _⟩ => rfl
    | ⟨1, _⟩ => rfl
    | ⟨2, _⟩ => rfl
    | ⟨3, _⟩ => rfl
    | ⟨4, _⟩ => rfl
  have er : ∀ (b : Fin 4) (n : Fin 16) (d : Fin 128), dot_S4x4x16x128x128_S4x16x128x4x128_S4x128x128_123_014_4_2_0_3.rhsIdx (ix3 h t k)
      (Cert.HostSums.idx3 dot_S4x4x16x128x128_S4x16x128x4x128_S4x128x128_123_014_4_2_0_3 (x := 1) (y := 2) (z := 3) rfl (K₁ := 4) (K₂ := 16) (K₃ := 128) rfl rfl rfl b n d) = ix5 b n k h d := by
    intro b n d
    funext x
    apply Fin.ext
    match x with
    | ⟨0, _⟩ => rfl
    | ⟨1, _⟩ => rfl
    | ⟨2, _⟩ => rfl
    | ⟨3, _⟩ => rfl
    | ⟨4, _⟩ => rfl
  simp only [el, er, v90_at I _ _ _ _ _, v71_at I _ _ _ _ _, ← EReal.coe_mul, coe_sum]
  rw [mask_at]
  have key : (∑ b : Fin 4, ∑ n : Fin 16, ∑ d : Fin 128, ds z dy (128 * (16 * b.val + n.val) + t.val) (128 * h.val + d.val) *
      vn z gn (128 * (16 * b.val + n.val) + k.val) h.val d.val) =
      ∑ i ∈ Finset.range 16, ∑ q : Fin 4, dwPart z dy gn (4 * i + q.val) h.val t.val k.val :=
    Cert.HostSums.regroup fun N => dwPart z dy gn N h.val t.val k.val
  rw [key, zero_add]
  by_cases h : k.val ≤ t.val <;> simp [h, Scalar.select]
/-- The reference's gradient of the bias, channel by channel. -/
theorem r150_at : At2 (a := 128) (b := 512) (φ := .f32) (val4 V0 (Proc.devRef .tc main_v150))
    fun t c => ∑ i ∈ Finset.range 16, ∑ q : Fin 4, ds z dy (128 * (4 * i + q.val) + t) c := by
  intro t c
  rw [val4_main_v150]
  pointwise
  rw [Cert.HostSums.sum01]
  pointwise
  simp only [Cert.HostSums.sum01]
  pointwise
  simp only [v86_at I _ _ _ _ _, ← EReal.coe_mul, coe_sum]
  refine coe_of ?_
  simp only [Finset.univ_unique, Finset.sum_singleton, show 128 * (c.val / 128) + c.val % 128 = c.val by omega]
  exact Cert.HostSums.regroup fun N => ds z dy (128 * N + t.val) c.val
end
end Cert.Ref
end
-- ==== Proof.Finite.lean ====
/- What the precondition `finite` says: every element of every argument is a real number. -/
module
public import proofs.«01_k».proof.Pre_finite
public import Idealize.ShloMosaic.PureOps.Reduce
public import Idealize.ShloMosaic.PureOps.Ideal
public import Idealize.ShloMosaic.PureOps.Ideal.Laws
@[expose] public section
noncomputable section
namespace Cert.Finite
open Idealize.ShloMosaic Cert.Pre_finite

/-- The shape conditions the precondition takes. -/
theorem facts : Cert.Pre_finite.Facts where
  bcast_S_S8192x1024 := by decide
  reducesTo_S8192x1024_S_d0_1 := by decide
  h_S_ := by decide
  bcast_S_S8192x512 := by decide
  reducesTo_S8192x512_S_d0_1 := by decide
  bcast_S_S512 := by decide
  reducesTo_S512_S_d0 := by decide
  bcast_S_S4x128x128 := by decide
  reducesTo_S4x128x128_S_d0_1_2 := by decide
  bcast_S_S4x128 := by decide
  reducesTo_S4x128_S_d0_1 := by decide

/-- A conjunction of bits is one when both are. -/
theorem andi_one (a b : BitVec 1) : IntOp.andi a b = 1#1 ↔ a = 1#1 ∧ b = 1#1 := by
  revert a b; decide

/-- A conjunction over a finite set of indices is one only when every bit is. -/
theorem fold_one {ι : Type*} [DecidableEq ι] (S : Finset ι) (f : ι → BitVec 1) (h : S.fold IntOp.andi 1#1 f = 1#1) :
    ∀ i ∈ S, f i = 1#1 := by
  induction S using Finset.cons_induction with
  | empty => simp
  | cons a S ha ih =>
    rw [Finset.fold_cons, andi_one] at h
    intro i hi
    rcases Finset.mem_cons.mp hi with rfl | hi
    · exact h.1
    · exact ih h.2 i hi

/-- The word of the float infinity is the top of the extended reals. -/
theorem ofBits_inf : Ideal.ofBits .f32 0x7F800000#32 = (⊤ : EReal) := by
  simp [Ideal.ofBits, Ideal.ieee]

/-- An extended real whose absolute value lies below the top is a real number. -/
theorem real_of_lt (x : EReal) (h : max x (-x) < ⊤) : ∃ r : ℝ, x = (r : EReal) := by
  induction x using EReal.rec with
  | bot => simp at h
  | coe r => exact ⟨r, rfl⟩
  | top => simp at h

/-- The conjunction of `|x| < ∞` over an array being one, every element of the array is a real number. -/
theorem real_of_all {s : Shape} {axes : List (Fin s.rank)} (x : FVec Ideal s .f32) (h : s.ReducesTo axes S_) (hb : S_.BroadcastsInDim s (![] : Fin 0 → Fin s.rank))
    (hu : 0 < S_.numel) (j : S_.Idx)
    (e : Host.reduce IntOp.andi (cmpf .olt (Host.absf x) (broadcastInDim s ![] hb (constant S_ .f32 0x7F800000#32))) (constantI S_ 1 1#1) h hu j = 1#1)
    (i : s.Idx) : ∃ r : ℝ, (x i : EReal) = (r : EReal) := by
  classical
  rw [Host.reduce_eq_fold] at e
  have k := fold_one _ _ e i (Finset.mem_filter.mpr ⟨Finset.mem_univ _, funext fun a => a.elim0⟩)
  have k' : Ideal.cmp .olt (max (x i) (-(x i)) : EReal) (Ideal.ofBits .f32 0x7F800000#32) = 1#1 := k
  rw [ofBits_inf] at k'
  refine real_of_lt _ ?_
  by_contra hn
  simp [Ideal.cmp, hn] at k'

/-- Under `finite`, every element of every argument is a real number. -/
theorem real_args [Cert.Pre_finite.Facts] (a0 : FVec Ideal S8192x1024 .f32) (a1 : FVec Ideal S8192x512 .f32) (a2 : FVec Ideal S512 .f32)
    (a3 : FVec Ideal S4x128x128 .f32) (a4 : FVec Ideal S4x128 .f32) (e : Cert.Pre_finite.fn (F := Ideal) a0 a1 a2 a3 a4 = fun _ => 1#1) :
    (∀ i, ∃ r : ℝ, (a0 i : EReal) = (r : EReal)) ∧ (∀ i, ∃ r : ℝ, (a1 i : EReal) = (r : EReal)) ∧ (∀ i, ∃ r : ℝ, (a2 i : EReal) = (r : EReal)) ∧
      (∀ i, ∃ r : ℝ, (a3 i : EReal) = (r : EReal)) ∧ ∀ i, ∃ r : ℝ, (a4 i : EReal) = (r : EReal) := by
  have e' := congrFun e (fun a => a.elim0)
  obtain ⟨e', h4⟩ := (andi_one _ _).mp e'
  obtain ⟨e', h3⟩ := (andi_one _ _).mp e'
  obtain ⟨e', h2⟩ := (andi_one _ _).mp e'
  obtain ⟨h0, h1⟩ := (andi_one _ _).mp e'
  exact ⟨real_of_all a0 _ _ _ _ h0, real_of_all a1 _ _ _ _ h1, real_of_all a2 _ _ _ _ h2, real_of_all a3 _ _ _ _ h3, real_of_all a4 _ _ _ _ h4⟩
end Cert.Finite
end
-- ==== Proof.Algebra.lean ====
/- The kernel and the reference leave the same four arrays, for real arguments. -/
module
public import proofs.«01_k».proof.Defs
public import proofs.«01_k».proof.Proof.Arrays
public import proofs.«01_k».proof.Proof.Ref
public import proofs.«01_k».proof.Proof.Finite
@[expose] public section
set_option maxRecDepth 16384
noncomputable section
namespace Cert.Algebra
open Idealize.ShloMosaic Idealize.ShloMosaic.TcCoe Idealize.SL.Sem
open Idealize.ShloMosaic (ix1 ix2 ix3)
open Cert.Tile (At2 At3)

/-- A matrix of real elements holds a real function of its indices. -/
theorem exists_at2 {a b : ℕ} {φ : FTy} (v : FVec Ideal (⟨2, ![a, b]⟩ : Shape) φ) (h : ∀ i, ∃ r : ℝ, (v i : EReal) = (r : EReal)) : ∃ f, At2 v f := by
  choose g hg using h
  refine ⟨fun r c => if h : r < a ∧ c < b then g (ix2 ⟨r, h.1⟩ ⟨c, h.2⟩) else 0, fun r c => ?_⟩
  have e : (if h : r.val < a ∧ c.val < b then g (ix2 ⟨r.val, h.1⟩ ⟨c.val, h.2⟩) else 0) = g (ix2 r c) := dif_pos ⟨r.isLt, c.isLt⟩
  exact (hg _).trans (congrArg _ e.symm)
/-- The same for three axes. -/
theorem exists_at3 {a b c : ℕ} {φ : FTy} (v : FVec Ideal (⟨3, ![a, b, c]⟩ : Shape) φ) (h : ∀ i, ∃ r : ℝ, (v i : EReal) = (r : EReal)) : ∃ f, At3 v f := by
  choose g hg using h
  refine ⟨fun p r k => if h : p < a ∧ r < b ∧ k < c then g (ix3 ⟨p, h.1⟩ ⟨r, h.2.1⟩ ⟨k, h.2.2⟩) else 0, fun p r k => ?_⟩
  have e : (if h : p.val < a ∧ r.val < b ∧ k.val < c then g (ix3 ⟨p.val, h.1⟩ ⟨r.val, h.2.1⟩ ⟨k.val, h.2.2⟩) else 0) = g (ix3 p r k) :=
    dif_pos ⟨p.isLt, r.isLt, k.isLt⟩
  exact (hg _).trans (congrArg _ e.symm)
/-- The same for one axis. -/
theorem exists_at1 {a : ℕ} (v : FVec Ideal (⟨1, ![a]⟩ : Shape) .f32) (h : ∀ i, ∃ r : ℝ, (v i : EReal) = (r : EReal)) :
    ∃ f : ℕ → ℝ, ∀ i : Fin a, (v (ix1 i) : EReal) = ((f i.val : ℝ) : EReal) := by
  choose g hg using h
  refine ⟨fun r => if h : r < a then g (ix1 ⟨r, h⟩) else 0, fun r => ?_⟩
  have e : (if h : r.val < a then g (ix1 ⟨r.val, h⟩) else 0) = g (ix1 r) := dif_pos r.isLt
  exact (hg _).trans (congrArg _ e.symm)
/-- Two matrices that hold the same real function are equal. -/
theorem eq_of_at2 {a b : ℕ} {φ : FTy} {v v' : FVec Ideal (⟨2, ![a, b]⟩ : Shape) φ} {f : ℕ → ℕ → ℝ} (h : At2 v f) (h' : At2 v' f) : v = v' := by
  funext i
  rw [← ix2_eta i]
  exact (h (i 0) (i 1)).trans (h' (i 0) (i 1)).symm
/-- The same for three axes. -/
theorem eq_of_at3 {a b c : ℕ} {φ : FTy} {v v' : FVec Ideal (⟨3, ![a, b, c]⟩ : Shape) φ} {f : ℕ → ℕ → ℕ → ℝ} (h : At3 v f) (h' : At3 v' f) : v = v' := by
  funext i
  rw [← ix3_eta i]
  exact (h (i 0) (i 1) (i 2)).trans (h' (i 0) (i 1) (i 2)).symm

section
variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
open Cert.KernelIdeal.Gen Cert.ReferenceIdeal.Value Idealize.ShloMosaic.StableHlo

/-- Real arguments, the same for both programs, give the same four results. -/
theorem agree (c : Dev Cert.KernelIdeal.nD) {z dy : ℕ → ℕ → ℝ} {gn : ℕ → ℝ} {w : ℕ → ℕ → ℕ → ℝ} {bs : ℕ → ℕ → ℝ}
    (I : Cert.Arrays.Ins m c z dy gn w bs) (J : Cert.Ref.Ins (launchContents m' c) z dy gn w bs) :
    val4 (launchContents m' c) (Proc.devRef .tc Cert.ReferenceIdeal.main_v148) = (dats m 0 c).arrAt 5 Cert.KernelIdeal.cfg0.N ∧
    val4 (launchContents m' c) (Proc.devRef .tc Cert.ReferenceIdeal.main_v149) = (dats m 0 c).arrAt 8 Cert.KernelIdeal.cfg0.N ∧
    val4 (launchContents m' c) (Proc.devRef .tc Cert.ReferenceIdeal.main_v94) = (dats m 0 c).arrAt 6 Cert.KernelIdeal.cfg0.N ∧
    val4 (launchContents m' c) (Proc.devRef .tc Cert.ReferenceIdeal.main_v150) = (dats m 0 c).arrAt 7 Cert.KernelIdeal.cfg0.N :=
  ⟨eq_of_at2 (a := 8192) (b := 1024) (φ := .bf16) (Cert.Ref.r148_at J) (fun T k => Cert.Arrays.final5 I T k),
   eq_of_at2 (a := 1) (b := 512) (φ := .f32) (Cert.Ref.r149_at J) (Cert.Arrays.final8 I),
   eq_of_at3 (a := 4) (b := 128) (c := 128) (φ := .f32) (Cert.Ref.r94_at J) (Cert.Arrays.final6 I),
   eq_of_at2 (a := 128) (b := 512) (φ := .f32) (Cert.Ref.r150_at J) (Cert.Arrays.final7 I)⟩
end

/-- The two programs' results agree for finite arguments. -/
theorem algebraic : Cert.algebraic_KernelIdeal_ReferenceIdeal_pre_finite (hKernelIdeal := Cert.KernelIdeal.Gen.facts)
    (hReferenceIdeal := Cert.ReferenceIdeal.Gen.facts) (hPre_finite := Cert.Finite.facts) := by
  intro m ρ m' ρ' hpre hag
  have key : ∀ c : Dev Cert.KernelIdeal.nD, ∃ (z dy : ℕ → ℕ → ℝ) (gn : ℕ → ℝ) (w : ℕ → ℕ → ℕ → ℝ) (bs : ℕ → ℕ → ℝ),
      Cert.Arrays.Ins m c z dy gn w bs ∧ Cert.Ref.Ins (StableHlo.launchContents m' c) z dy gn w bs := fun c => by
    haveI := Cert.Finite.facts
    obtain ⟨h0, h1, h2, h3, h4⟩ := Cert.Finite.real_args _ _ _ _ _ (hpre c)
    obtain ⟨z, hz⟩ := exists_at2 (a := 8192) (b := 1024) (φ := .f32) _ h0
    obtain ⟨dy, hdy⟩ := exists_at2 (a := 8192) (b := 512) (φ := .f32) _ h1
    obtain ⟨gn, hg⟩ := exists_at1 (a := 512) _ h2
    obtain ⟨w, hw⟩ := exists_at3 (a := 4) (b := 128) (c := 128) (φ := .f32) _ h3
    obtain ⟨bs, hb⟩ := exists_at2 (a := 4) (b := 128) (φ := .f32) _ h4
    obtain ⟨e0, e1, e2, e3, e4⟩ := hag c
    have J : Cert.Ref.Ins (StableHlo.launchContents m' c) z dy gn w bs :=
      ⟨fun i j => (congrFun e0 _).trans (hz i j), fun i j => (congrFun e1 _).trans (hdy i j), fun i => (congrFun e2 _).trans (hg i),
        fun i j k => (congrFun e3 _).trans (hw i j k), fun i j => (congrFun e4 _).trans (hb i j)⟩
    exact ⟨z, dy, gn, w, bs, ⟨hz, hdy, hg, hw, hb⟩, J⟩
  refine ⟨fun c => (Cert.KernelIdeal.Gen.dats m 0 c).arrAt 5 Cert.KernelIdeal.cfg0.N, fun c => (Cert.KernelIdeal.Gen.dats m 0 c).arrAt 8 Cert.KernelIdeal.cfg0.N,
    fun c => (Cert.KernelIdeal.Gen.dats m 0 c).arrAt 6 Cert.KernelIdeal.cfg0.N, fun c => (Cert.KernelIdeal.Gen.dats m 0 c).arrAt 7 Cert.KernelIdeal.cfg0.N,
    (θ_run _ _ _).mono ?_ (Cert.KernelIdeal.Value.run_blocks m ρ), (θ_run _ _ _).mono ?_ (Cert.ReferenceIdeal.Value.run m' ρ')⟩
  · intro r h c
    obtain ⟨a5, a6, a7, a8, k⟩ := h c
    exact ⟨a5, a8, a6, a7, k⟩
  · intro r h c
    obtain ⟨_, _, _, _, _, I, J⟩ := key c
    obtain ⟨k0, k1, k2, k3⟩ := agree m m' c I J
    obtain ⟨b0, b1, b2, b3, k⟩ := h c
    exact ⟨b0.trans ((Cert.ReferenceIdeal.Value.val4_main_v148 _).symm.trans k0), b1.trans ((Cert.ReferenceIdeal.Value.val4_main_v149 _).symm.trans k1),
      b2.trans ((Cert.ReferenceIdeal.Value.val4_main_v94 _).symm.trans k2), b3.trans ((Cert.ReferenceIdeal.Value.val4_main_v150 _).symm.trans k3), k⟩
end Cert.Algebra
end
-- ==== Proof.Mat.lean ====
/- Elements of matrices over the extended reals, and sums of them cut into blocks. -/
module
public import proofs.«01_k».proof.Proof.Consts
public import Idealize.ShloMosaic.Lib.Pointwise
@[expose] public section
noncomputable section
namespace Cert.Mat
open Idealize.ShloMosaic
open Idealize.ShloMosaic (ix2)

/-- The element of a matrix in row `r` and column `k`, an extended real. -/
abbrev el {a b : ℕ} (φ : FTy) (v : FVec Ideal (⟨2, ![a, b]⟩ : Shape) φ) (r : Fin a) (k : Fin b) : EReal := v (ix2 r k)

/-- Matrices with the same elements are equal. -/
theorem ext {a b : ℕ} {φ : FTy} {v v' : FVec Ideal (⟨2, ![a, b]⟩ : Shape) φ} (h : ∀ r k, el φ v r k = el φ v' r k) : v = v' := by
  funext i
  rw [← ix2_eta i]
  exact h (i 0) (i 1)

/-- The same element named by natural numbers, zero outside the matrix. -/
def en {a b : ℕ} (φ : FTy) (v : FVec Ideal (⟨2, ![a, b]⟩ : Shape) φ) (r k : ℕ) : EReal :=
  if h : r < a ∧ k < b then el φ v ⟨r, h.1⟩ ⟨k, h.2⟩ else 0

/-- Inside the matrix the two agree. -/
theorem en_fin {a b : ℕ} {φ : FTy} (v : FVec Ideal (⟨2, ![a, b]⟩ : Shape) φ) (r : Fin a) (k : Fin b) : en φ v r.val k.val = el φ v r k :=
  dif_pos ⟨r.isLt, k.isLt⟩
/-- The same, for numbers known to be inside. -/
theorem en_lt {a b : ℕ} {φ : FTy} (v : FVec Ideal (⟨2, ![a, b]⟩ : Shape) φ) {r k : ℕ} (hr : r < a) (hk : k < b) :
    en φ v r k = el φ v ⟨r, hr⟩ ⟨k, hk⟩ := dif_pos ⟨hr, hk⟩

/-- `n` blocks of `B` terms are `n * B` terms. -/
theorem sum_blocks {M : Type*} [AddCommMonoid M] (B : ℕ) (f : ℕ → M) (n : ℕ) :
    ∑ i ∈ Finset.range n, ∑ q : Fin B, f (B * i + q.val) = ∑ x ∈ Finset.range (B * n), f x := by
  induction n with
  | zero => simp
  | succ n ih => rw [Finset.sum_range_succ, ih, Nat.mul_succ, Finset.sum_range_add, Fin.sum_univ_eq_sum_range (fun q => f (B * n + q)) B]

/-- A positive real factor distributes over a sum of two extended reals. -/
theorem pos_mul_add {c : ℝ} (hc : 0 < c) (x y : EReal) : (c : EReal) * (x + y) = c * x + c * y := by
  induction x using EReal.rec with
  | bot => rw [EReal.bot_add, EReal.coe_mul_bot_of_pos hc, EReal.bot_add]
  | top =>
    induction y using EReal.rec with
    | bot => rw [EReal.add_bot, EReal.coe_mul_bot_of_pos hc, EReal.add_bot]
    | top => rw [EReal.top_add_top, EReal.coe_mul_top_of_pos hc, EReal.top_add_top]
    | coe y => rw [EReal.top_add_coe, EReal.coe_mul_top_of_pos hc, ← EReal.coe_mul, EReal.top_add_coe]
  | coe x =>
    induction y using EReal.rec with
    | bot => rw [EReal.add_bot, EReal.coe_mul_bot_of_pos hc, EReal.add_bot]
    | top => rw [EReal.coe_add_top, EReal.coe_mul_top_of_pos hc, ← EReal.coe_mul, EReal.coe_add_top]
    | coe y => norm_cast; ring

/-- A positive real factor distributes over a finite sum of extended reals. -/
theorem pos_mul_sum {ι : Type*} (s : Finset ι) {c : ℝ} (hc : 0 < c) (f : ι → EReal) : (c : EReal) * ∑ i ∈ s, f i = ∑ i ∈ s, c * f i := by
  classical
  induction s using Finset.induction_on with
  | empty => simp
  | insert a s ha ih => rw [Finset.sum_insert ha, Finset.sum_insert ha, pos_mul_add hc, ih]
end Cert.Mat
end
-- ==== Proof.Down.lean ====
/- The second product of the feed-forward half-step, with the residual stream added: the kernel's array and the
   reference's are one, for all arguments. -/
module
public import proofs.«01_k».proof.Defs
public import proofs.«01_k».proof.Proof.Mat
public import proofs.«01_k».proof.Proof.Gen.Down.Frame
public import proofs.«01_k».proof.Proof.Gen.DownIdeal.Frame
public import proofs.«01_k».proof.Proof.Gen.DownIdeal.Value
public import proofs.«01_k».proof.Proof.Gen.DownRefIdeal.Run
public import Idealize.ShloMosaic.Lib.Pointwise
public import Idealize.ShloMosaic.Lib.Pipeline.ValueKit
public import Idealize.ShloMosaic.Lib.Pipeline.ReadBack
@[expose] public section
set_option maxRecDepth 16384
noncomputable section
namespace Cert.DownVal
open Cert.DownIdeal Cert.DownIdeal.Gen Cert.DownIdeal.Value Idealize.ShloMosaic Idealize.ShloMosaic.TcCoe Idealize.SL.Sem
open Idealize.ShloMosaic (ix1 ix2)
open Cert.Mat

/-- An element of what a grid point stores: half the product, and the residual stream. -/
theorem pay_at (v0 : FVec Ideal S512x2816 .bf16) (v1 : FVec Ideal S2816x1024 .bf16) (v5 : FVec Ideal S512x1024 .f32) (r : Fin 512) (k : Fin 1024) :
    el .f32 (k0_pay1 (F := Ideal) v0 v1 v5) r k =
      (∑ q : Fin 2816, el .bf16 v0 r q * el .bf16 v1 q k) * Ideal.ofBits .f32 0x3F000000#32 + el .f32 v5 r k := by
  show k0_pay1 (F := Ideal) v0 v1 v5 (ix2 r k) = _
  pointwise [k0_pay1]

variable (m : (ℓ : Loc nD τ sig) → Buf (Elt Ideal) ℓ) (ρ : Dev nD → PrngReg)

/-- Window 0: bands of rows. -/
theorem idx0 : ∀ t : Fin cfg0.N, win0_0.index t (0 : Fin 2) = t.val ∧ win0_0.index t (1 : Fin 2) = 0 := (by decide +kernel : ∀ t : Fin grid0.N, _)
/-- Every grid point sees the whole weights. -/
theorem idx1 : ∀ t : Fin cfg0.N, win0_1.index t (0 : Fin 2) = 0 ∧ win0_1.index t (1 : Fin 2) = 0 := (by decide +kernel : ∀ t : Fin grid0.N, _)
/-- The residual stream is cut into the same bands. -/
theorem idx2 : ∀ t : Fin cfg0.N, win0_2.index t (0 : Fin 2) = t.val ∧ win0_2.index t (1 : Fin 2) = 0 := (by decide +kernel : ∀ t : Fin grid0.N, _)
/-- So is the result. -/
theorem idx3 : ∀ t : Fin cfg0.N, win0_3.index t (0 : Fin 2) = t.val ∧ win0_3.index t (1 : Fin 2) = 0 := (by decide +kernel : ∀ t : Fin grid0.N, _)

/-- A row of a band is a row of the array. -/
theorem row_lt (t : Fin cfg0.N) (r : Fin 512) : 512 * t.val + r.val < 8192 := by
  have h : t.val < 16 := t.isLt
  omega

/-- What a grid point reads of the hidden units. -/
theorem blk0 (c : Dev nD) (t : Fin cfg0.N) (r : Fin 512) (k : Fin 2816) :
    el .bf16 (iblk m c 0 t) r k = el .bf16 (m ((c : Thread nD τ).loc main_arg0)) ⟨512 * t.val + r.val, row_lt t r⟩ k := by
  obtain ⟨e0, e1⟩ := idx0 t
  have : ((cfg0.win 0).blk t).view.emb (ix2 r k) = ix2 ⟨512 * t.val + r.val, row_lt t r⟩ k := by
    funext a; apply Fin.ext
    match a with
    | ⟨0, _⟩ => show win0_0.index t (0 : Fin 2) * 512 + 1 * r.val = 512 * t.val + r.val; omega
    | ⟨1, _⟩ => show win0_0.index t (1 : Fin 2) * 2816 + 1 * k.val = k.val; omega
  show V m c main_arg0 (((cfg0.win 0).blk t).view.emb (ix2 r k)) = _
  rw [this, V_main_arg0]
/-- The weights that a grid point reads. -/
theorem blk1 (c : Dev nD) (t : Fin cfg0.N) (r : Fin 2816) (k : Fin 1024) :
    el .bf16 (iblk m c 1 t) r k = el .bf16 (m ((c : Thread nD τ).loc main_arg1)) r k := by
  obtain ⟨e0, e1⟩ := idx1 t
  have : ((cfg0.win 1).blk t).view.emb (ix2 r k) = ix2 r k := by
    funext a; apply Fin.ext
    match a with
    | ⟨0, _⟩ => show win0_1.index t (0 : Fin 2) * 2816 + 1 * r.val = r.val; omega
    | ⟨1, _⟩ => show win0_1.index t (1 : Fin 2) * 1024 + 1 * k.val = k.val; omega
  show V m c main_arg1 (((cfg0.win 1).blk t).view.emb (ix2 r k)) = _
  rw [this, V_main_arg1]
/-- What a grid point reads of the residual stream. -/
theorem blk2 (c : Dev nD) (t : Fin cfg0.N) (r : Fin 512) (k : Fin 1024) :
    el .f32 (iblk m c 2 t) r k = el .f32 (m ((c : Thread nD τ).loc main_arg2)) ⟨512 * t.val + r.val, row_lt t r⟩ k := by
  obtain ⟨e0, e1⟩ := idx2 t
  have : ((cfg0.win 2).blk t).view.emb (ix2 r k) = ix2 ⟨512 * t.val + r.val, row_lt t r⟩ k := by
    funext a; apply Fin.ext
    match a with
    | ⟨0, _⟩ => show win0_2.index t (0 : Fin 2) * 512 + 1 * r.val = 512 * t.val + r.val; omega
    | ⟨1, _⟩ => show win0_2.index t (1 : Fin 2) * 1024 + 1 * k.val = k.val; omega
  show V m c main_arg2 (((cfg0.win 2).blk t).view.emb (ix2 r k)) = _
  rw [this, V_main_arg2]
/-- Where a band's element of the result lies in the array. -/
theorem emb3 (t : Fin cfg0.N) (r : Fin 512) (k : Fin 1024) :
    ((cfg0.win 3).blk t).view.emb (ix2 r k) = ix2 ⟨512 * t.val + r.val, row_lt t r⟩ k := by
  obtain ⟨e0, e1⟩ := idx3 t
  funext a; apply Fin.ext
  match a with
  | ⟨0, _⟩ => show win0_3.index t (0 : Fin 2) * 512 + 1 * r.val = 512 * t.val + r.val; omega
  | ⟨1, _⟩ => show win0_3.index t (1 : Fin 2) * 1024 + 1 * k.val = k.val; omega

/-- The kernel's result at an index: half the product, and the residual stream. -/
theorem final3 (c : Dev nD) (T : Fin 8192) (k : Fin 1024) : el .f32 ((dats m 0 c).arrAt 3 cfg0.N) T k =
    (∑ q : Fin 2816, el .bf16 (m ((c : Thread nD τ).loc main_arg0)) T q * el .bf16 (m ((c : Thread nD τ).loc main_arg1)) q k) *
      Ideal.ofBits .f32 0x3F000000#32 + el .f32 (m ((c : Thread nD τ).loc main_arg2)) T k := by
  have ht : T.val / 512 < 16 := by omega
  let t : Fin cfg0.N := (⟨T.val / 512, ht⟩ : Fin 16)
  have hT : (⟨512 * t.val + T.val % 512, row_lt t ⟨T.val % 512, by omega⟩⟩ : Fin 8192) = T := Fin.ext (Nat.div_add_mod T.val 512)
  have e := congrFun (blocks3 m c t (flush0_3 t)) (ix2 ⟨T.val % 512, by omega⟩ k)
  rw [flushed3] at e
  have e' : (dats m 0 c).arrAt 3 cfg0.N (((cfg0.win 3).blk t).view.emb (ix2 ⟨T.val % 512, by omega⟩ k)) =
    out0_3 (iblk m c 0 t) (iblk m c 1 t) (iblk m c 2 t) (ix2 ⟨T.val % 512, by omega⟩ k) := e
  rw [emb3, hT] at e'
  refine e'.trans ?_
  unfold out0_3
  rw [View.canon_unit_zero (by decide), View.ld_unit_zero (by decide), View.ld_unit_zero (by decide), View.ld_unit_zero (by decide)]
  refine (pay_at _ _ _ _ _).trans ?_
  simp only [blk0, blk1, blk2, hT]

/-- The two programs leave the same array. -/
theorem algebraic : Cert.algebraic_DownIdeal_DownRefIdeal (hDownIdeal := Cert.DownIdeal.Gen.facts) (hDownRefIdeal := Cert.DownRefIdeal.Gen.facts) := by
  intro m ρ m' ρ' _ hag
  refine ⟨fun c => (dats m 0 c).arrAt 3 cfg0.N, run_blocks m ρ, (θ_run _ _ _).mono ?_ (Cert.DownRefIdeal.Value.run m' ρ')⟩
  intro r h c
  obtain ⟨b, k⟩ := h c
  obtain ⟨e0, e1, e2⟩ := hag c
  refine ⟨b.trans ?_, k⟩
  rw [e0, e1, e2]
  exact ext (a := 8192) (b := 1024) (φ := .f32) fun T k => by
    refine Eq.trans ?_ (final3 m c T k).symm
    show addf (F := Ideal) (φ := .f32) _ _ (ix2 T k) = _
    pointwise
    rw [add_comm, mul_comm]
end Cert.DownVal
end
-- ==== Proof.WOut.lean ====
/- The gradient of the second weights of a feed-forward half-step: the kernel adds up blocks of rows, the reference
   takes one product over all rows. -/
module
public import proofs.«01_k».proof.Defs
public import proofs.«01_k».proof.Proof.Mat
public import proofs.«01_k».proof.Proof.Gen.WOut.Frame
public import proofs.«01_k».proof.Proof.Gen.WOutIdeal.Frame
public import proofs.«01_k».proof.Proof.Gen.WOutIdeal.Value
public import proofs.«01_k».proof.Proof.Gen.WOutRefIdeal.Run
public import Idealize.ShloMosaic.Lib.Pointwise
public import Idealize.ShloMosaic.Lib.Pipeline.ValueKit
public import Idealize.ShloMosaic.Lib.Pipeline.ReadBack
@[expose] public section
set_option maxRecDepth 16384
noncomputable section
namespace Cert.WOutVal
open Cert.WOutIdeal Cert.WOutIdeal.Gen Cert.WOutIdeal.Value Idealize.ShloMosaic Idealize.ShloMosaic.TcCoe Idealize.SL.Sem
open Idealize.ShloMosaic (ix1 ix2)
open Cert.Mat

/-- An element of a block's product. -/
theorem pay2_at (v0 : FVec Ideal S2048x1408 .bf16) (v1 : FVec Ideal S2048x1024 .f32) (r : Fin 1408) (k : Fin 1024) :
    el .f32 (k0_pay2 (F := Ideal) v0 v1) r k = ∑ q : Fin 2048, el .bf16 v0 q r * el .f32 v1 q k := by
  show k0_pay2 (F := Ideal) v0 v1 (ix2 r k) = _
  pointwise [k0_pay2, k0_pay1]
/-- An element of what is stored after a block's product was added. -/
theorem pay3_at (v0 : FVec Ideal S2048x1408 .bf16) (v1 : FVec Ideal S2048x1024 .f32) (v : FVec Ideal S1408x1024 .f32) (r : Fin 1408) (k : Fin 1024) :
    el .f32 (k0_pay3 (F := Ideal) v0 v1 v) r k = el .f32 v r k + ∑ q : Fin 2048, el .bf16 v0 q r * el .f32 v1 q k := by
  show k0_pay3 (F := Ideal) v0 v1 v (ix2 r k) = _
  pointwise [k0_pay3, k0_pay1]
/-- An element of the result: half the sum. -/
theorem pay4_at (v : FVec Ideal S1408x1024 .f32) (r : Fin 1408) (k : Fin 1024) :
    el .f32 (k0_pay4 (F := Ideal) v) r k = el .f32 v r k * Ideal.ofBits .f32 0x3F000000#32 := by
  show k0_pay4 (F := Ideal) v (ix2 r k) = _
  pointwise [k0_pay4]

variable (m : (ℓ : Loc nD τ sig) → Buf (Elt Ideal) ℓ) (ρ : Dev nD → PrngReg)

/-- The first block of rows starts the sum. -/
theorem scrA (c : Dev nD) (t : Fin cfg0.N) (h0 : t.val % 4 = 0) :
    (outsAt0 m c t.val t.isLt).2 = k0_pay2 (F := Ideal) (iblk m c 0 t) (iblk m c 1 t) := by
  rw [outsAt0_A m c t h0 (by omega) (by omega)]
  frame_open
  simp (disch := first | decide +kernel | (intro a; fin_cases a <;> rfl)) only [↓View.readCov_cons_toLoadRect, ↓View.readCov_skip, ↓View.readCov_fill]
  frame_out
/-- A later one is added. -/
theorem scrB (c : Dev nD) (t : Fin cfg0.N) (h0 : ¬t.val % 4 = 0) (h2 : ¬t.val % 4 = 3) :
    (outsAt0 m c t.val t.isLt).2 = k0_pay3 (F := Ideal) (iblk m c 0 t) (iblk m c 1 t)
      (outsAt0 m c (t.val - 1) (Nat.lt_of_le_of_lt (Nat.sub_le _ _) t.isLt)).2 := by
  rw [outsAt0_B m c t h0 (by omega) h2]
  frame_open
  simp (disch := first | decide +kernel | (intro a; fin_cases a <;> rfl)) only [↓View.readCov_cons_toLoadRect, ↓View.readCov_skip, ↓View.readCov_fill]
  frame_out
  rw [read_unread_whole]
/-- After the last one half the sum is the result. -/
theorem outC (c : Dev nD) (t : Fin cfg0.N) (h0 : ¬t.val % 4 = 0) (h2 : t.val % 4 = 3) :
    (outsAt0 m c t.val t.isLt).1 = k0_pay4 (F := Ideal) (k0_pay3 (F := Ideal) (iblk m c 0 t) (iblk m c 1 t)
      (outsAt0 m c (t.val - 1) (Nat.lt_of_le_of_lt (Nat.sub_le _ _) t.isLt)).2) := by
  rw [outsAt0_C m c t h0 (by omega) h2]
  frame_open
  simp (disch := first | decide +kernel | (intro a; fin_cases a <;> rfl)) only [↓View.readCov_cons_toLoadRect, ↓View.readCov_skip, ↓View.readCov_fill]
  frame_out
  rw [read_unread_whole]

/-- Which blocks a grid point reads and writes. -/
theorem idx : ∀ t : Fin cfg0.N, (win0_0.index t (0 : Fin 2) = t.val % 4 ∧ win0_0.index t (1 : Fin 2) = t.val / 4) ∧
    (win0_1.index t (0 : Fin 2) = t.val % 4 ∧ win0_1.index t (1 : Fin 2) = 0) ∧
    (win0_2.index t (0 : Fin 2) = t.val / 4 ∧ win0_2.index t (1 : Fin 2) = 0) := (by decide +kernel : ∀ t : Fin grid0.N, _)

/-- A block's element of the hidden units in the array. -/
theorem blk0 (c : Dev nD) (t : Fin cfg0.N) (q : Fin 2048) (r : Fin 1408) :
    el .bf16 (iblk m c 0 t) q r = en (a := 8192) (b := 2816) .bf16 (m ((c : Thread nD τ).loc main_arg0)) (2048 * (t.val % 4) + q.val) (1408 * (t.val / 4) + r.val) := by
  obtain ⟨⟨e0, e1⟩, -, -⟩ := idx t
  have ht : t.val < 8 := t.isLt
  rw [en_lt _ (by omega) (by omega)]
  have : ((cfg0.win 0).blk t).view.emb (ix2 q r) = ix2 (⟨2048 * (t.val % 4) + q.val, by omega⟩ : Fin 8192) (⟨1408 * (t.val / 4) + r.val, by omega⟩ : Fin 2816) := by
    funext a; apply Fin.ext
    match a with
    | ⟨0, _⟩ => show win0_0.index t (0 : Fin 2) * 2048 + 1 * q.val = _; rw [e0]; show _ = 2048 * (t.val % 4) + q.val; omega
    | ⟨1, _⟩ => show win0_0.index t (1 : Fin 2) * 1408 + 1 * r.val = _; rw [e1]; show _ = 1408 * (t.val / 4) + r.val; omega
  show V m c main_arg0 (((cfg0.win 0).blk t).view.emb (ix2 q r)) = _
  rw [this]
/-- A block's element of the stream's gradient in the array. -/
theorem blk1 (c : Dev nD) (t : Fin cfg0.N) (q : Fin 2048) (k : Fin 1024) :
    el .f32 (iblk m c 1 t) q k = en (a := 8192) (b := 1024) .f32 (m ((c : Thread nD τ).loc main_arg1)) (2048 * (t.val % 4) + q.val) k.val := by
  obtain ⟨-, ⟨e0, e1⟩, -⟩ := idx t
  have ht : t.val < 8 := t.isLt
  rw [en_lt _ (by omega) (by omega)]
  have : ((cfg0.win 1).blk t).view.emb (ix2 q k) = ix2 (⟨2048 * (t.val % 4) + q.val, by omega⟩ : Fin 8192) k := by
    funext a; apply Fin.ext
    match a with
    | ⟨0, _⟩ => show win0_1.index t (0 : Fin 2) * 2048 + 1 * q.val = _; rw [e0]; show _ = 2048 * (t.val % 4) + q.val; omega
    | ⟨1, _⟩ => show win0_1.index t (1 : Fin 2) * 1024 + 1 * k.val = k.val; omega
  show V m c main_arg1 (((cfg0.win 1).blk t).view.emb (ix2 q k)) = _
  rw [this]
/-- A block's element of the result in the array. -/
theorem emb2 (t : Fin cfg0.N) (r : Fin 1408) (k : Fin 1024) (h : 1408 * (t.val / 4) + r.val < 2816) :
    ((cfg0.win 2).blk t).view.emb (ix2 r k) = ix2 (⟨1408 * (t.val / 4) + r.val, h⟩ : Fin 2816) k := by
  obtain ⟨-, -, e0, e1⟩ := idx t
  funext a; apply Fin.ext
  match a with
  | ⟨0, _⟩ => show win0_2.index t (0 : Fin 2) * 1408 + 1 * r.val = _; rw [e0]; show _ = 1408 * (t.val / 4) + r.val; omega
  | ⟨1, _⟩ => show win0_2.index t (1 : Fin 2) * 1024 + 1 * k.val = k.val; omega

/-- One term of the product's sum over the rows. -/
def term (c : Dev nD) (r k x : ℕ) : EReal :=
  en (a := 8192) (b := 2816) .bf16 (m ((c : Thread nD τ).loc main_arg0)) x r * en (a := 8192) (b := 1024) .f32 (m ((c : Thread nD τ).loc main_arg1)) x k

/-- What the running sum holds at a grid point, before the last block of rows. -/
theorem scr (c : Dev nD) (n : ℕ) : ∀ (hn : n < cfg0.N), ¬ n % 4 = 3 → ∀ (r : Fin 1408) (k : Fin 1024), el .f32 (outsAt0 m c n hn).2 r k =
    ∑ i ∈ Finset.range (n % 4 + 1), ∑ q : Fin 2048, term m c (1408 * (n / 4) + r.val) k.val (2048 * i + q.val) := by
  induction n with
  | zero =>
    intro hn _ r k
    refine (congrFun (scrA m c ⟨0, hn⟩ rfl) (ix2 r k)).trans ((pay2_at _ _ r k).trans ?_)
    simp only [blk0, blk1]
    simp [term]
  | succ n ih =>
    intro hn h3 r k
    by_cases h0 : (n + 1) % 4 = 0
    · refine (congrFun (scrA m c ⟨n + 1, hn⟩ h0) (ix2 r k)).trans ((pay2_at _ _ r k).trans ?_)
      simp only [blk0, blk1, h0, zero_add, Finset.sum_range_one]
      rfl
    · refine (congrFun (scrB m c ⟨n + 1, hn⟩ h0 h3) (ix2 r k)).trans ((pay3_at _ _ _ r k).trans ?_)
      have e := ih (Nat.lt_of_succ_lt hn) (by omega) r k
      have h1 : n % 4 + 1 = (n + 1) % 4 := by omega
      have h2 : n / 4 = (n + 1) / 4 := by omega
      rw [h1, h2] at e
      rw [Finset.sum_range_succ]
      exact congrArg₂ (· + ·) e (by simp only [blk0, blk1]; rfl)

/-- The result at a grid point that writes it. -/
theorem out_at (c : Dev nD) (t : Fin cfg0.N) (h3 : t.val % 4 = 3) (r : Fin 1408) (k : Fin 1024) :
    el .f32 (outsAt0 m c t.val t.isLt).1 r k =
      (∑ x ∈ Finset.range 8192, term m c (1408 * (t.val / 4) + r.val) k.val x) * Ideal.ofBits .f32 0x3F000000#32 := by
  refine (congrFun (outC m c t (by omega) h3) (ix2 r k)).trans ((pay4_at _ r k).trans ?_)
  rw [pay3_at, scr m c _ _ (by omega)]
  have h1 : (t.val - 1) % 4 + 1 = 3 := by omega
  have h2 : (t.val - 1) / 4 = t.val / 4 := by omega
  rw [h1, h2, ← sum_blocks 2048 _ 4, Finset.sum_range_succ _ 3]
  simp only [blk0, blk1, h3]
  rfl

/-- The kernel's result as one formula. -/
def fin (c : Dev nD) : FVec Ideal S2816x1024 .f32 := fun i =>
  (∑ x ∈ Finset.range 8192, term m c (i 0).val (i 1).val x) * Ideal.ofBits .f32 0x3F000000#32

/-- The kernel leaves it. -/
theorem final (c : Dev nD) : (dats m 0 c).arrAt 2 cfg0.N = fin m c :=
  (dats m 0 c).arrAt_eq_of_cover 2 _ (fun t hf => by
    have h3 : t.val % 4 = 3 := (flush0_2 t).mp hf
    have ht : t.val < 8 := t.isLt
    rw [flushed2]
    funext y
    rw [← ix2_eta (n0 := 1408) (n1 := 1024) y]
    have hr : (y 0).val < 1408 := (y 0).isLt
    refine (out_at m c t h3 (y 0) (y 1)).trans ?_
    show _ = fin m c (((cfg0.win 2).blk t).view.emb (ix2 (y 0) (y 1)))
    rw [emb2 t (y 0) (y 1) (by omega)]
    rfl) (fun i => (covered_iff2 i).2 (by
      have h0 : (i 0).val < 2816 := (i 0).isLt; have h1 : (i 1).val < 1024 := (i 1).isLt; omega))

/-- The two programs leave the same array. -/
theorem algebraic : Cert.algebraic_WOutIdeal_WOutRefIdeal (hWOutIdeal := Cert.WOutIdeal.Gen.facts) (hWOutRefIdeal := Cert.WOutRefIdeal.Gen.facts) := by
  intro m ρ m' ρ' _ hag
  refine ⟨fun c => (dats m 0 c).arrAt 2 cfg0.N, run_blocks m ρ, (θ_run _ _ _).mono ?_ (Cert.WOutRefIdeal.Value.run m' ρ')⟩
  intro r h c
  obtain ⟨b, k⟩ := h c
  obtain ⟨e0, e1⟩ := hag c
  refine ⟨b.trans ?_, k⟩
  rw [e0, e1]
  refine Eq.trans ?_ (final m c).symm
  exact ext (a := 2816) (b := 1024) (φ := .f32) fun r k => by
    show transpose (α := EReal) _ _ _ _ (ix2 r k) = _
    pointwise
    show _ = (∑ x ∈ Finset.range 8192, term m c r.val k.val x) * Ideal.ofBits .f32 0x3F000000#32
    rw [mul_comm, Cert.Consts.ofBits_half, pos_mul_sum _ (by norm_num), ← Fin.sum_univ_eq_sum_range]
    refine Finset.sum_congr rfl fun x _ => ?_
    rw [term, en_fin, en_fin]
    exact (mul_assoc _ _ _).trans (congrArg _ (mul_comm _ _))
end Cert.WOutVal
end
-- ==== Proof.Gate.lean ====
/- The gradient of a feed-forward half-step's second product and of its gate: the kernel multiplies the product by the
   gate's value and by the derivative saved before the call, the reference differentiates the gate after the product. -/
module
public import proofs.«01_k».proof.Defs
public import proofs.«01_k».proof.Proof.Mat
public import proofs.«01_k».proof.Proof.Finite
public import proofs.«01_k».proof.Proof.Algebra
public import proofs.«01_k».proof.Proof.Gen.Gate.Frame
public import proofs.«01_k».proof.Proof.Gen.GateIdeal.Frame
public import proofs.«01_k».proof.Proof.Gen.GateIdeal.Value
public import proofs.«01_k».proof.Proof.Gen.GateRefIdeal.Run
public import Idealize.ShloMosaic.Lib.Pointwise
public import Idealize.ShloMosaic.Lib.Pipeline.ValueKit
public import Idealize.ShloMosaic.Lib.Pipeline.ReadBack
@[expose] public section
set_option maxRecDepth 16384
noncomputable section
namespace Cert.GateVal
open Cert.GateIdeal Cert.GateIdeal.Gen Cert.GateIdeal.Value Idealize.ShloMosaic Idealize.ShloMosaic.TcCoe Idealize.SL.Sem
open Idealize.ShloMosaic (ix1 ix2)
open Cert.Mat Cert.Consts Cert.Algebra
open Cert.Tile (At2)

/-- The logistic function. -/
def sg (x : ℝ) : ℝ := 1 / (1 + Real.exp (-x))
/-- The gate's value. -/
def sl (x : ℝ) : ℝ := x * sg x
/-- Its derivative. -/
def sd (x : ℝ) : ℝ := sg x + x * sg x * (1 - sg x)
/-- The cotangent of the hidden units: half the cotangent's product with the weights. -/
def HS (D W : ℕ → ℕ → ℝ) (T q : ℕ) : ℝ := 1 / 2 * ∑ k : Fin 1024, D T k.val * W q k.val

/-- The logistic function's value, as the programs compute it. -/
theorem sg_at (x : ℝ) : Ideal.div ((1 : ℝ) : EReal) (((1 : ℝ) : EReal) + Ideal.exp (-(x : EReal))) = ((sg x : ℝ) : EReal) := by
  rw [← EReal.coe_neg, Ideal.exp_coe, ← EReal.coe_add]
  exact Cert.Ref.div_real 1 (by positivity)

section
variable {v0 : FVec Ideal S256x1024 .f32} {v2 : FVec Ideal S2816x1024 .bf16} {v6 : FVec Ideal S256x2816 .bf16} {D W Z : ℕ → ℕ → ℝ}
/-- A band of the hidden units' cotangent. -/
theorem pay1_at (h0 : At2 v0 D) (h2 : At2 v2 W) : At2 (k0_pay1 (F := Ideal) v0 v2) (HS D W) := by
  intro r k
  pointwise [k0_pay1]
  simp only [h0 _ _, h2 _ _, ← EReal.coe_mul, coe_sum, ofBits_half]
  rfl
/-- Multiplied by one factor. -/
theorem pay2_at (h0 : At2 v0 D) (h2 : At2 v2 W) (h6 : At2 v6 Z) : At2 (k0_pay2 (F := Ideal) v0 v2 v6) (fun r k => HS D W r k * Z r k) := by
  intro r k
  pointwise [k0_pay2]
  simp only [pay1_at h0 h2 _ _, h6 _ _, ← EReal.coe_mul]
/-- Multiplied by the other. -/
theorem pay3_at (h0 : At2 v0 D) (h2 : At2 v2 W) (h6 : At2 v6 Z) : At2 (k0_pay3 (F := Ideal) v0 v2 v6) (fun r k => HS D W r k * Z r k) := by
  intro r k
  pointwise [k0_pay3]
  simp only [pay1_at h0 h2 _ _, h6 _ _, ← EReal.coe_mul]
end

variable (m : (ℓ : Loc nD τ sig) → Buf (Elt Ideal) ℓ) (ρ : Dev nD → PrngReg)

/-- The arguments are real: the gate's preactivation `G`, the other half `U`, the weights `W` and the cotangent `D`. -/
structure Ins (c : Dev nD) (G U W D : ℕ → ℕ → ℝ) : Prop where
  hg : At2 (a := 8192) (b := 2816) (φ := .f32) (m ((c : Thread nD τ).loc main_arg0)) G
  hu : At2 (a := 8192) (b := 2816) (φ := .f32) (m ((c : Thread nD τ).loc main_arg1)) U
  hw : At2 (a := 2816) (b := 1024) (φ := .bf16) (m ((c : Thread nD τ).loc main_arg2)) W
  hd : At2 (a := 8192) (b := 1024) (φ := .f32) (m ((c : Thread nD τ).loc main_arg3)) D

/-- Which blocks a grid point reads and writes. -/
theorem idx : ∀ t : Fin cfg0.N, (win0_0.index t (0 : Fin 2) = t.val ∧ win0_0.index t (1 : Fin 2) = 0) ∧
    (win0_1.index t (0 : Fin 2) = 0 ∧ win0_1.index t (1 : Fin 2) = 0) ∧
    (win0_2.index t (0 : Fin 2) = t.val ∧ win0_2.index t (1 : Fin 2) = 0) ∧
    (win0_3.index t (0 : Fin 2) = t.val ∧ win0_3.index t (1 : Fin 2) = 0) ∧
    (win0_4.index t (0 : Fin 2) = t.val ∧ win0_4.index t (1 : Fin 2) = 0) ∧
    (win0_5.index t (0 : Fin 2) = t.val ∧ win0_5.index t (1 : Fin 2) = 0) := (by decide +kernel : ∀ t : Fin grid0.N, _)

/-- A row of a band is a row of the array. -/
theorem row_lt (t : Fin cfg0.N) (r : Fin 256) : 256 * t.val + r.val < 8192 := by
  have h : t.val < 32 := t.isLt
  omega

/-- Where an element of window 0 lies in the array. -/
theorem emb0 (t : Fin cfg0.N) (r : Fin 256) (k : Fin 1024) :
    ((cfg0.win 0).blk t).view.emb (ix2 r k) = ix2 (n0 := 8192) (n1 := 1024) ⟨256 * t.val + r.val, row_lt t r⟩ k := by
  obtain ⟨e0, e1⟩ := (idx t).1
  funext a; apply Fin.ext
  match a with
  | ⟨0, _⟩ => show win0_0.index t (0 : Fin 2) * 256 + 1 * r.val = 256 * t.val + r.val; rw [e0]; omega
  | ⟨1, _⟩ => show win0_0.index t (1 : Fin 2) * 1024 + 1 * k.val = k.val; rw [e1]; omega
/-- Where an element of window 1 lies in the array. -/
theorem emb1 (t : Fin cfg0.N) (r : Fin 2816) (k : Fin 1024) :
    ((cfg0.win 1).blk t).view.emb (ix2 r k) = ix2 (n0 := 2816) (n1 := 1024) r k := by
  obtain ⟨e0, e1⟩ := (idx t).2.1
  funext a; apply Fin.ext
  match a with
  | ⟨0, _⟩ => show win0_1.index t (0 : Fin 2) * 2816 + 1 * r.val = r.val; rw [e0]; omega
  | ⟨1, _⟩ => show win0_1.index t (1 : Fin 2) * 1024 + 1 * k.val = k.val; rw [e1]; omega
/-- Where an element of window 2 lies in the array. -/
theorem emb2 (t : Fin cfg0.N) (r : Fin 256) (k : Fin 2816) :
    ((cfg0.win 2).blk t).view.emb (ix2 r k) = ix2 (n0 := 8192) (n1 := 2816) ⟨256 * t.val + r.val, row_lt t r⟩ k := by
  obtain ⟨e0, e1⟩ := (idx t).2.2.1
  funext a; apply Fin.ext
  match a with
  | ⟨0, _⟩ => show win0_2.index t (0 : Fin 2) * 256 + 1 * r.val = 256 * t.val + r.val; rw [e0]; omega
  | ⟨1, _⟩ => show win0_2.index t (1 : Fin 2) * 2816 + 1 * k.val = k.val; rw [e1]; omega
/-- Where an element of window 3 lies in the array. -/
theorem emb3 (t : Fin cfg0.N) (r : Fin 256) (k : Fin 2816) :
    ((cfg0.win 3).blk t).view.emb (ix2 r k) = ix2 (n0 := 8192) (n1 := 2816) ⟨256 * t.val + r.val, row_lt t r⟩ k := by
  obtain ⟨e0, e1⟩ := (idx t).2.2.2.1
  funext a; apply Fin.ext
  match a with
  | ⟨0, _⟩ => show win0_3.index t (0 : Fin 2) * 256 + 1 * r.val = 256 * t.val + r.val; rw [e0]; omega
  | ⟨1, _⟩ => show win0_3.index t (1 : Fin 2) * 2816 + 1 * k.val = k.val; rw [e1]; omega
/-- Where an element of window 4 lies in the array. -/
theorem emb4 (t : Fin cfg0.N) (r : Fin 256) (k : Fin 2816) :
    ((cfg0.win 4).blk t).view.emb (ix2 r k) = ix2 (n0 := 8192) (n1 := 2816) ⟨256 * t.val + r.val, row_lt t r⟩ k := by
  obtain ⟨e0, e1⟩ := (idx t).2.2.2.2.1
  funext a; apply Fin.ext
  match a with
  | ⟨0, _⟩ => show win0_4.index t (0 : Fin 2) * 256 + 1 * r.val = 256 * t.val + r.val; rw [e0]; omega
  | ⟨1, _⟩ => show win0_4.index t (1 : Fin 2) * 2816 + 1 * k.val = k.val; rw [e1]; omega
/-- Where an element of window 5 lies in the array. -/
theorem emb5 (t : Fin cfg0.N) (r : Fin 256) (k : Fin 2816) :
    ((cfg0.win 5).blk t).view.emb (ix2 r k) = ix2 (n0 := 8192) (n1 := 2816) ⟨256 * t.val + r.val, row_lt t r⟩ k := by
  obtain ⟨e0, e1⟩ := (idx t).2.2.2.2.2
  funext a; apply Fin.ext
  match a with
  | ⟨0, _⟩ => show win0_5.index t (0 : Fin 2) * 256 + 1 * r.val = 256 * t.val + r.val; rw [e0]; omega
  | ⟨1, _⟩ => show win0_5.index t (1 : Fin 2) * 2816 + 1 * k.val = k.val; rw [e1]; omega

/-- The logistic function of an array, as the host computes it. -/
def sgv (g : FVec Ideal S8192x2816 .f32) : FVec Ideal S8192x2816 .f32 :=
  Host.divf (broadcastInDim S8192x2816 ![] bcast_S_S8192x2816 (constant S_ .f32 0x3F800000#32)) (addf (broadcastInDim S8192x2816 ![] bcast_S_S8192x2816 (constant S_ .f32 0x3F800000#32)) (Host.exp (Host.negf g)))
/-- The gate's value that the host saves. -/
def slv (g : FVec Ideal S8192x2816 .f32) : FVec Ideal S8192x2816 .bf16 := truncf .bf16 (mulf g (sgv g)) bitsLt_bf16_f32
/-- The other half times the gate's derivative, that the host saves. -/
def sdv (g u : FVec Ideal S8192x2816 .f32) : FVec Ideal S8192x2816 .bf16 :=
  truncf .bf16 (mulf u (addf (sgv g) (mulf (mulf g (sgv g)) (subf (broadcastInDim S8192x2816 ![] bcast_S_S8192x2816 (constant S_ .f32 0x3F800000#32)) (sgv g))))) bitsLt_bf16_f32

section
variable {g u : FVec Ideal S8192x2816 .f32} {G U : ℕ → ℕ → ℝ}
/-- The logistic function's values. -/
theorem sgv_at (hg : At2 g G) : At2 (sgv g) (fun T k => sg (G T k)) := by
  intro T k
  pointwise [sgv]
  simp only [hg _ _, ofBits_one]
  exact sg_at _
/-- The gate's values. -/
theorem slv_at (hg : At2 g G) : At2 (slv g) (fun T k => sl (G T k)) := by
  intro T k
  pointwise [slv]
  simp only [hg _ _, sgv_at hg _ _, ← EReal.coe_mul]
  rfl
/-- The derivative's values. -/
theorem sdv_at (hg : At2 g G) (hu : At2 u U) : At2 (sdv g u) (fun T k => U T k * sd (G T k)) := by
  intro T k
  pointwise [sdv]
  simp only [hg _ _, hu _ _, sgv_at hg _ _, ofBits_one, ← EReal.coe_mul, ← EReal.coe_add, ← EReal.coe_sub]
  rfl
end

section
variable {m} {c : Dev nD} {G U W D : ℕ → ℕ → ℝ} (I : Ins m c G U W D)
include I
/-- The cotangent's band. -/
theorem blk0 (t : Fin cfg0.N) : At2 (a := 256) (b := 1024) (φ := .f32) (iblk m c 0 t) (fun r k => D (256 * t.val + r) k) := by
  intro r k
  show V m c main_arg3 (((cfg0.win 0).blk t).view.emb (ix2 r k)) = _
  rw [emb0, V_main_arg3]
  exact I.hd _ k
/-- The weights. -/
theorem blk1 (t : Fin cfg0.N) : At2 (a := 2816) (b := 1024) (φ := .bf16) (iblk m c 1 t) W := by
  intro r k
  show V m c main_arg2 (((cfg0.win 1).blk t).view.emb (ix2 r k)) = _
  rw [emb1, V_main_arg2]
  exact I.hw _ k
/-- The band of the gate's value. -/
theorem blk2 (t : Fin cfg0.N) : At2 (a := 256) (b := 2816) (φ := .bf16) (iblk m c 2 t) (fun r k => sl (G (256 * t.val + r) k)) := by
  intro r k
  show V m c main_v12 (((cfg0.win 2).blk t).view.emb (ix2 r k)) = _
  rw [emb2]
  have e : V m c main_v12 = slv (m ((c : Thread nD τ).loc main_arg0)) := by
    show StableHlo.after hostOps0 _ main_v12 = _; after_results; rfl
  rw [e]
  exact slv_at I.hg _ k
/-- The band of the other half times the gate's derivative. -/
theorem blk3 (t : Fin cfg0.N) : At2 (a := 256) (b := 2816) (φ := .bf16) (iblk m c 3 t) (fun r k => U (256 * t.val + r) k * sd (G (256 * t.val + r) k)) := by
  intro r k
  show V m c main_v13 (((cfg0.win 3).blk t).view.emb (ix2 r k)) = _
  rw [emb3]
  have e : V m c main_v13 = sdv (m ((c : Thread nD τ).loc main_arg0)) (m ((c : Thread nD τ).loc main_arg1)) := by
    show StableHlo.after hostOps0 _ main_v13 = _; after_results; rfl
  rw [e]
  exact sdv_at I.hg I.hu _ k

/-- The gradient of the gate's preactivation that the kernel leaves. -/
theorem final4 : At2 (a := 8192) (b := 2816) (φ := .bf16) ((dats m 0 c).arrAt 4 cfg0.N) (fun T k => HS D W T k * (U T k * sd (G T k))) := by
  intro T k
  have ht : T.val / 256 < 32 := by omega
  let t : Fin cfg0.N := (⟨T.val / 256, ht⟩ : Fin 32)
  have hT : (⟨256 * t.val + T.val % 256, row_lt t ⟨T.val % 256, by omega⟩⟩ : Fin 8192) = T := Fin.ext (Nat.div_add_mod T.val 256)
  have e := congrFun (blocks4 m c t (flush0_4 t)) (ix2 ⟨T.val % 256, by omega⟩ k)
  rw [flushed4] at e
  have e' : (dats m 0 c).arrAt 4 cfg0.N (((cfg0.win 4).blk t).view.emb (ix2 ⟨T.val % 256, by omega⟩ k)) =
    out0_4 (iblk m c 0 t) (iblk m c 1 t) (iblk m c 2 t) (iblk m c 3 t) (ix2 ⟨T.val % 256, by omega⟩ k) := e
  rw [emb4, hT] at e'
  refine e'.trans ?_
  unfold out0_4
  rw [View.canon_unit_zero (by decide), View.ld_unit_zero (by decide), View.ld_unit_zero (by decide), View.ld_unit_zero (by decide)]
  refine (pay2_at (blk0 I t) (blk1 I t) (blk3 I t) _ _).trans ?_
  show ((HS (fun r k => D (256 * (T.val / 256) + r) k) W (T.val % 256) k.val * (U (256 * (T.val / 256) + T.val % 256) k.val * sd (G (256 * (T.val / 256) + T.val % 256) k.val)) : ℝ) : EReal) = _
  have h : HS (fun r k => D (256 * (T.val / 256) + r) k) W (T.val % 256) k.val = HS D W (256 * (T.val / 256) + T.val % 256) k.val := rfl
  rw [h, Nat.div_add_mod]

/-- The gradient of the other half that the kernel leaves. -/
theorem final5 : At2 (a := 8192) (b := 2816) (φ := .bf16) ((dats m 0 c).arrAt 5 cfg0.N) (fun T k => HS D W T k * sl (G T k)) := by
  intro T k
  have ht : T.val / 256 < 32 := by omega
  let t : Fin cfg0.N := (⟨T.val / 256, ht⟩ : Fin 32)
  have hT : (⟨256 * t.val + T.val % 256, row_lt t ⟨T.val % 256, by omega⟩⟩ : Fin 8192) = T := Fin.ext (Nat.div_add_mod T.val 256)
  have e := congrFun (blocks5 m c t (flush0_5 t)) (ix2 ⟨T.val % 256, by omega⟩ k)
  rw [flushed5] at e
  have e' : (dats m 0 c).arrAt 5 cfg0.N (((cfg0.win 5).blk t).view.emb (ix2 ⟨T.val % 256, by omega⟩ k)) =
    out0_5 (iblk m c 0 t) (iblk m c 1 t) (iblk m c 2 t) (iblk m c 3 t) (ix2 ⟨T.val % 256, by omega⟩ k) := e
  rw [emb5, hT] at e'
  refine e'.trans ?_
  unfold out0_5
  rw [View.canon_unit_zero (by decide), View.ld_unit_zero (by decide), View.ld_unit_zero (by decide), View.ld_unit_zero (by decide)]
  refine (pay3_at (blk0 I t) (blk1 I t) (blk2 I t) _ _).trans ?_
  show ((HS (fun r k => D (256 * (T.val / 256) + r) k) W (T.val % 256) k.val * sl (G (256 * (T.val / 256) + T.val % 256) k.val) : ℝ) : EReal) = _
  have h : HS (fun r k => D (256 * (T.val / 256) + r) k) W (T.val % 256) k.val = HS D W (256 * (T.val / 256) + T.val % 256) k.val := rfl
  rw [h, Nat.div_add_mod]

end
end Cert.GateVal

namespace Cert.GateVal
open Cert.GateRefIdeal Cert.GateRefIdeal.Gen Idealize.ShloMosaic Idealize.ShloMosaic.TcCoe Idealize.SL.Sem
open Idealize.ShloMosaic (ix1 ix2)
open Cert.Mat Cert.Consts Cert.Algebra
open Cert.Tile (At2)

/-- The reference's cotangent of the hidden units. -/
def refH (d : FVec Ideal S8192x1024 .f32) (w : FVec Ideal S2816x1024 .bf16) : FVec Ideal S8192x2816 .f32 :=
  Host.dotGeneral dot_S8192x1024_S2816x1024_S8192x2816_1_1_0_0_n_n none (mulf (broadcastInDim S8192x1024 ![] bcast_S_S8192x1024 (constant S_ .f32 0x3F000000#32)) d) (extf .f32 w bitsLt_bf16_f32)
/-- The reference's logistic function. -/
def refS (g : FVec Ideal S8192x2816 .f32) : FVec Ideal S8192x2816 .f32 :=
  Host.divf (broadcastInDim S8192x2816 ![] bcast_S_S8192x2816 (constant S_ .f32 0x3F800000#32)) (addf (broadcastInDim S8192x2816 ![] bcast_S_S8192x2816 (constant S_ .f32 0x3F800000#32)) (Host.exp (Host.negf g)))
/-- The reference's gradient of the gate's preactivation. -/
def refG (g u h s : FVec Ideal S8192x2816 .f32) : FVec Ideal S8192x2816 .bf16 :=
  truncf .bf16 (addf (mulf (mulf h u) s) (mulf (mulf g (mulf h u)) (mulf s (subf (broadcastInDim S8192x2816 ![] bcast_S_S8192x2816 (constant S_ .f32 0x3F800000#32)) s)))) bitsLt_bf16_f32
/-- The reference's gradient of the other half. -/
def refU (g h s : FVec Ideal S8192x2816 .f32) : FVec Ideal S8192x2816 .bf16 :=
  truncf .bf16 (mulf (mulf g s) h) bitsLt_bf16_f32

section
variable {d : FVec Ideal S8192x1024 .f32} {w : FVec Ideal S2816x1024 .bf16} {g u h s : FVec Ideal S8192x2816 .f32} {D W G U H S : ℕ → ℕ → ℝ}
/-- Its values. -/
theorem refH_at (hd : At2 d D) (hw : At2 w W) : At2 (refH d w) (HS D W) := by
  intro T k
  pointwise [refH]
  simp only [hd _ _, hw _ _, ofBits_half, ← EReal.coe_mul, coe_sum]
  refine Cert.Ref.coe_of ?_
  unfold HS
  rw [Finset.mul_sum]
  exact Finset.sum_congr rfl fun q _ => mul_assoc _ _ _
/-- The logistic function's values. -/
theorem refS_at (hg : At2 g G) : At2 (refS g) (fun T k => sg (G T k)) := by
  intro T k
  pointwise [refS]
  simp only [hg _ _, ofBits_one]
  exact sg_at _
/-- The values of the gradient of the gate's preactivation. -/
theorem refG_at (hg : At2 g G) (hu : At2 u U) (hh : At2 h H) (hs : At2 s (fun T k => sg (G T k))) :
    At2 (refG g u h s) (fun T k => H T k * (U T k * sd (G T k))) := by
  intro T k
  pointwise [refG]
  simp only [hg _ _, hu _ _, hh _ _, hs _ _, ofBits_one, ← EReal.coe_mul, ← EReal.coe_add, ← EReal.coe_sub]
  refine Cert.Ref.coe_of ?_
  unfold sd
  ring
/-- The values of the other half's gradient. -/
theorem refU_at (hg : At2 g G) (hh : At2 h H) (hs : At2 s (fun T k => sg (G T k))) : At2 (refU g h s) (fun T k => H T k * sl (G T k)) := by
  intro T k
  pointwise [refU]
  simp only [hg _ _, hh _ _, hs _ _, ← EReal.coe_mul]
  refine Cert.Ref.coe_of ?_
  unfold sl
  ring
end
end Cert.GateVal

namespace Cert.GateVal
open Idealize.ShloMosaic Idealize.ShloMosaic.TcCoe Idealize.SL.Sem
open Idealize.ShloMosaic (ix1 ix2)
open Cert.Mat Cert.Consts Cert.Algebra Cert.Finite
open Cert.Tile (At2)

/-- The shape conditions the precondition takes. -/
theorem facts : Cert.Pre_finite_gate.Facts where
  bcast_S_S8192x2816 := by decide
  reducesTo_S8192x2816_S_d0_1 := by decide
  h_S_ := by decide
  bitsLt_bf16_f32 := by decide
  bcast_S_S2816x1024 := by decide
  reducesTo_S2816x1024_S_d0_1 := by decide
  bcast_S_S8192x1024 := by decide
  reducesTo_S8192x1024_S_d0_1 := by decide

open Cert.Pre_finite_gate in
/-- Finite arguments have real elements. -/
theorem real_args [Cert.Pre_finite_gate.Facts] (a0 a1 : FVec Ideal S8192x2816 .f32) (a2 : FVec Ideal S2816x1024 .bf16) (a3 : FVec Ideal S8192x1024 .f32)
    (e : Cert.Pre_finite_gate.fn (F := Ideal) a0 a1 a2 a3 = fun _ => 1#1) :
    (∀ i, ∃ r : ℝ, (a0 i : EReal) = (r : EReal)) ∧ (∀ i, ∃ r : ℝ, (a1 i : EReal) = (r : EReal)) ∧ (∀ i, ∃ r : ℝ, (a2 i : EReal) = (r : EReal)) ∧
      ∀ i, ∃ r : ℝ, (a3 i : EReal) = (r : EReal) := by
  have e' := congrFun e (fun a => a.elim0)
  obtain ⟨e', h3⟩ := (andi_one _ _).mp e'
  obtain ⟨e', h2⟩ := (andi_one _ _).mp e'
  obtain ⟨h0, h1⟩ := (andi_one _ _).mp e'
  exact ⟨real_of_all a0 _ _ _ _ h0, real_of_all a1 _ _ _ _ h1, real_of_all (extf .f32 a2 Facts.bitsLt_bf16_f32) _ _ _ _ h2, real_of_all a3 _ _ _ _ h3⟩

/-- The two programs' results agree for finite arguments. -/
theorem algebraic : Cert.algebraic_GateIdeal_GateRefIdeal_pre_finite_gate (hGateIdeal := Cert.GateIdeal.Gen.facts)
    (hGateRefIdeal := Cert.GateRefIdeal.Gen.facts) (hPre_finite_gate := facts) := by
  intro m ρ m' ρ' hpre hag
  refine ⟨fun c => (Cert.GateIdeal.Gen.dats m 0 c).arrAt 4 Cert.GateIdeal.cfg0.N, fun c => (Cert.GateIdeal.Gen.dats m 0 c).arrAt 5 Cert.GateIdeal.cfg0.N,
    (θ_run _ _ _).mono ?_ (Cert.GateIdeal.Value.run_blocks m ρ), (θ_run _ _ _).mono ?_ (Cert.GateRefIdeal.Value.run m' ρ')⟩
  · intro r h c
    exact h c
  · intro r h c
    haveI := facts
    obtain ⟨h0, h1, h2, h3⟩ := real_args _ _ _ _ (hpre c)
    obtain ⟨G, hg⟩ := exists_at2 (a := 8192) (b := 2816) (φ := .f32) _ h0
    obtain ⟨U, hu⟩ := exists_at2 (a := 8192) (b := 2816) (φ := .f32) _ h1
    obtain ⟨W, hw⟩ := exists_at2 (a := 2816) (b := 1024) (φ := .bf16) _ h2
    obtain ⟨D, hd⟩ := exists_at2 (a := 8192) (b := 1024) (φ := .f32) _ h3
    have I : Ins m c G U W D := ⟨hg, hu, hw, hd⟩
    obtain ⟨e0, e1, e2, e3⟩ := hag c
    obtain ⟨b0, b1, k⟩ := h c
    refine ⟨b0.trans ?_, b1.trans ?_, k⟩
    · rw [e0, e1, e2, e3]
      exact eq_of_at2 (a := 8192) (b := 2816) (φ := .bf16) (refG_at hg hu (refH_at hd hw) (refS_at hg)) (final4 I)
    · rw [e0, e2, e3]
      exact eq_of_at2 (a := 8192) (b := 2816) (φ := .bf16) (refU_at hg (refH_at hd hw) (refS_at hg)) (final5 I)
end Cert.GateVal
end
-- ==== Proof.WG.lean ====
/- The gradient of the left half of the first weights of a feed-forward half-step: the kernel adds up two blocks of rows and
   writes no other column, the reference takes one product over all rows. -/
module
public import proofs.«01_k».proof.Defs
public import proofs.«01_k».proof.Proof.Mat
public import proofs.«01_k».proof.Proof.Gen.WG.Frame
public import proofs.«01_k».proof.Proof.Gen.WGIdeal.Frame
public import proofs.«01_k».proof.Proof.Gen.WGIdeal.Value
public import proofs.«01_k».proof.Proof.Gen.WGRefIdeal.Run
public import Idealize.ShloMosaic.Lib.Pointwise
public import Idealize.ShloMosaic.Lib.Pipeline.ValueKit
public import Idealize.ShloMosaic.Lib.Pipeline.ReadBack
@[expose] public section
set_option maxRecDepth 16384
noncomputable section
namespace Cert.WGVal
open Cert.WGIdeal Cert.WGIdeal.Gen Cert.WGIdeal.Value Idealize.ShloMosaic Idealize.ShloMosaic.TcCoe Idealize.SL.Sem
open Idealize.ShloMosaic (ix1 ix2)
open Cert.Mat

/-- An element of a block's product. -/
theorem pay2_at (v0 : FVec Ideal S4096x512 .bf16) (v1 : FVec Ideal S4096x1408 .bf16) (r : Fin 512) (k : Fin 1408) :
    el .f32 (k0_pay2 (F := Ideal) v0 v1) r k = ∑ q : Fin 4096, el .bf16 v0 q r * el .bf16 v1 q k := by
  show k0_pay2 (F := Ideal) v0 v1 (ix2 r k) = _
  pointwise [k0_pay2, k0_pay1]
/-- An element of what is stored after a block's product was added. -/
theorem pay3_at (v0 : FVec Ideal S4096x512 .bf16) (v1 : FVec Ideal S4096x1408 .bf16) (v : FVec Ideal S512x1408 .f32) (r : Fin 512) (k : Fin 1408) :
    el .f32 (k0_pay3 (F := Ideal) v0 v1 v) r k = el .f32 v r k + ∑ q : Fin 4096, el .bf16 v0 q r * el .bf16 v1 q k := by
  show k0_pay3 (F := Ideal) v0 v1 v (ix2 r k) = _
  pointwise [k0_pay3, k0_pay1]

variable (m : (ℓ : Loc nD τ sig) → Buf (Elt Ideal) ℓ) (ρ : Dev nD → PrngReg)

/-- The first half of the rows starts the sum. -/
theorem scrA (c : Dev nD) (t : Fin cfg0.N) (h0 : t.val % 2 = 0) :
    (outsAt0 m c t.val t.isLt).2 = k0_pay2 (F := Ideal) (iblk m c 0 t) (iblk m c 1 t) := by
  rw [outsAt0_A m c t h0 (by omega) (by omega)]
  frame_open
  simp (disch := first | decide +kernel | (intro a; fin_cases a <;> rfl)) only [↓View.readCov_cons_toLoadRect, ↓View.readCov_skip, ↓View.readCov_fill]
  frame_out
/-- The second half is added, and the sum is the result. -/
theorem outB (c : Dev nD) (t : Fin cfg0.N) (h0 : t.val % 2 = 1) :
    (outsAt0 m c t.val t.isLt).1 = k0_pay3 (F := Ideal) (iblk m c 0 t) (iblk m c 1 t)
      (outsAt0 m c (t.val - 1) (Nat.lt_of_le_of_lt (Nat.sub_le _ _) t.isLt)).2 := by
  rw [outsAt0_B m c t (by omega) h0 h0]
  frame_open
  simp (disch := first | decide +kernel | (intro a; fin_cases a <;> rfl)) only [↓View.readCov_cons_toLoadRect, ↓View.readCov_skip, ↓View.readCov_fill]
  frame_out
  rw [read_unread_whole]

/-- Which blocks a grid point reads and writes. -/
theorem idx : ∀ t : Fin cfg0.N, (win0_0.index t (0 : Fin 2) = t.val % 2 ∧ win0_0.index t (1 : Fin 2) = t.val / 4) ∧
    (win0_1.index t (0 : Fin 2) = t.val % 2 ∧ win0_1.index t (1 : Fin 2) = t.val / 2 % 2) ∧
    (win0_2.index t (0 : Fin 2) = t.val / 4 ∧ win0_2.index t (1 : Fin 2) = t.val / 2 % 2) := (by decide +kernel : ∀ t : Fin grid0.N, _)

/-- A block's element of the normalised rows in the array. -/
theorem blk0 (c : Dev nD) (t : Fin cfg0.N) (q : Fin 4096) (r : Fin 512) :
    el .bf16 (iblk m c 0 t) q r = en (a := 8192) (b := 1024) .bf16 (m ((c : Thread nD τ).loc main_arg0)) (4096 * (t.val % 2) + q.val) (512 * (t.val / 4) + r.val) := by
  obtain ⟨⟨e0, e1⟩, -, -⟩ := idx t
  have ht : t.val < 8 := t.isLt
  rw [en_lt _ (by omega) (by omega)]
  have : ((cfg0.win 0).blk t).view.emb (ix2 q r) = ix2 (⟨4096 * (t.val % 2) + q.val, by omega⟩ : Fin 8192) (⟨512 * (t.val / 4) + r.val, by omega⟩ : Fin 1024) := by
    funext a; apply Fin.ext
    match a with
    | ⟨0, _⟩ => show win0_0.index t (0 : Fin 2) * 4096 + 1 * q.val = _; rw [e0]; show _ = 4096 * (t.val % 2) + q.val; omega
    | ⟨1, _⟩ => show win0_0.index t (1 : Fin 2) * 512 + 1 * r.val = _; rw [e1]; show _ = 512 * (t.val / 4) + r.val; omega
  show V m c main_arg0 (((cfg0.win 0).blk t).view.emb (ix2 q r)) = _
  rw [this]
/-- A block's element of the gradient in the array. -/
theorem blk1 (c : Dev nD) (t : Fin cfg0.N) (q : Fin 4096) (k : Fin 1408) :
    el .bf16 (iblk m c 1 t) q k = en (a := 8192) (b := 2816) .bf16 (m ((c : Thread nD τ).loc main_arg1)) (4096 * (t.val % 2) + q.val) (1408 * (t.val / 2 % 2) + k.val) := by
  obtain ⟨-, ⟨e0, e1⟩, -⟩ := idx t
  have ht : t.val < 8 := t.isLt
  rw [en_lt _ (by omega) (by omega)]
  have : ((cfg0.win 1).blk t).view.emb (ix2 q k) = ix2 (⟨4096 * (t.val % 2) + q.val, by omega⟩ : Fin 8192) (⟨1408 * (t.val / 2 % 2) + k.val, by omega⟩ : Fin 2816) := by
    funext a; apply Fin.ext
    match a with
    | ⟨0, _⟩ => show win0_1.index t (0 : Fin 2) * 4096 + 1 * q.val = _; rw [e0]; show _ = 4096 * (t.val % 2) + q.val; omega
    | ⟨1, _⟩ => show win0_1.index t (1 : Fin 2) * 1408 + 1 * k.val = _; rw [e1]; show _ = 1408 * (t.val / 2 % 2) + k.val; omega
  show V m c main_arg1 (((cfg0.win 1).blk t).view.emb (ix2 q k)) = _
  rw [this]
/-- A block's element of the result in the array. -/
theorem emb2 (t : Fin cfg0.N) (r : Fin 512) (k : Fin 1408) (h : 512 * (t.val / 4) + r.val < 1024) (h' : 1408 * (t.val / 2 % 2) + k.val < 5632) :
    ((cfg0.win 2).blk t).view.emb (ix2 r k) = ix2 (⟨512 * (t.val / 4) + r.val, h⟩ : Fin 1024) (⟨1408 * (t.val / 2 % 2) + k.val, h'⟩ : Fin 5632) := by
  obtain ⟨-, -, e0, e1⟩ := idx t
  funext a; apply Fin.ext
  match a with
  | ⟨0, _⟩ => show win0_2.index t (0 : Fin 2) * 512 + 1 * r.val = _; rw [e0]; show _ = 512 * (t.val / 4) + r.val; omega
  | ⟨1, _⟩ => show win0_2.index t (1 : Fin 2) * 1408 + 1 * k.val = _; rw [e1]; show _ = 1408 * (t.val / 2 % 2) + k.val; omega

/-- One term of the product's sum over the rows. -/
def term (c : Dev nD) (r k x : ℕ) : EReal :=
  en (a := 8192) (b := 1024) .bf16 (m ((c : Thread nD τ).loc main_arg0)) x r * en (a := 8192) (b := 2816) .bf16 (m ((c : Thread nD τ).loc main_arg1)) x k

/-- What the running sum holds after the first half of the rows. -/
theorem scr (c : Dev nD) (n : ℕ) (hn : n < cfg0.N) (h0 : n % 2 = 0) (r : Fin 512) (k : Fin 1408) : el .f32 (outsAt0 m c n hn).2 r k =
    ∑ q : Fin 4096, term m c (512 * (n / 4) + r.val) (1408 * (n / 2 % 2) + k.val) (4096 * 0 + q.val) := by
  refine (congrFun (scrA m c ⟨n, hn⟩ h0) (ix2 r k)).trans ((pay2_at _ _ r k).trans ?_)
  simp only [blk0, blk1, h0]
  rfl

/-- The result at a grid point that writes it. -/
theorem out_at (c : Dev nD) (t : Fin cfg0.N) (h1 : t.val % 2 = 1) (r : Fin 512) (k : Fin 1408) :
    el .f32 (outsAt0 m c t.val t.isLt).1 r k =
      ∑ x ∈ Finset.range 8192, term m c (512 * (t.val / 4) + r.val) (1408 * (t.val / 2 % 2) + k.val) x := by
  refine (congrFun (outB m c t h1) (ix2 r k)).trans ((pay3_at _ _ _ r k).trans ?_)
  rw [scr m c _ _ (by omega)]
  have h2 : (t.val - 1) / 4 = t.val / 4 := by omega
  have h3 : (t.val - 1) / 2 = t.val / 2 := by omega
  rw [h2, h3, ← sum_blocks 4096 _ 2, Finset.sum_range_succ, Finset.sum_range_one]
  simp only [blk0, blk1, h1]
  rfl

/-- A statement about all indices of a matrix is one about all rows and columns. -/
theorem forall_ix2 {P : S1024x5632.Idx → Prop} (h : ∀ (r : Fin 1024) (k : Fin 5632), P (ix2 r k)) (i : S1024x5632.Idx) : P i :=
  ix2_eta (n0 := 1024) (n1 := 5632) i ▸ h (i 0) (i 1)

/-- The product as one formula, on the columns that the kernel writes. -/
def fin (c : Dev nD) : FVec Ideal S1024x5632 .f32 := fun i =>
  ∑ x ∈ Finset.range 8192, term m c (i 0).val (i 1).val x

/-- What a grid point writes of it. -/
theorem flushed_fin (c : Dev nD) (t : Fin cfg0.N) (hf : (cfg0.win 2).flush t = true) :
    (dats m 0 c).flushed 2 t = ((cfg0.win 2).blk t).view.read (Elt Ideal) (fin m c) := by
  have h1 : t.val % 2 = 1 := (flush0_2 t).mp hf
  have ht : t.val < 8 := t.isLt
  rw [flushed2]
  funext y
  rw [← ix2_eta (n0 := 512) (n1 := 1408) y]
  have hr : (y 0).val < 512 := (y 0).isLt
  have hk : (y 1).val < 1408 := (y 1).isLt
  refine (out_at m c t h1 (y 0) (y 1)).trans ?_
  show _ = fin m c (((cfg0.win 2).blk t).view.emb (ix2 (y 0) (y 1)))
  rw [emb2 t (y 0) (y 1) (by omega) (by omega)]
  rfl

/-- Every element of the left half is written. -/
theorem covered (r : Fin 1024) (k : Fin 5632) (h : k.val < 2816) :
    ∃ t : Fin cfg0.N, (cfg0.win 2).flush t = true ∧ ix2 r k ∈ ((cfg0.win 2).blk t).view.set := by
  have hb : 4 * (r.val / 512) + 2 * (k.val / 1408) + 1 < 8 := by omega
  refine ⟨(⟨4 * (r.val / 512) + 2 * (k.val / 1408) + 1, hb⟩ : Fin 8), (flush0_2 _).mpr (by show (4 * (r.val / 512) + 2 * (k.val / 1408) + 1) % 2 = 1; omega), ?_⟩
  have e := emb2 (⟨4 * (r.val / 512) + 2 * (k.val / 1408) + 1, hb⟩ : Fin 8) ⟨r.val % 512, by omega⟩ ⟨k.val % 1408, by omega⟩
    (by show 512 * ((4 * (r.val / 512) + 2 * (k.val / 1408) + 1) / 4) + r.val % 512 < 1024; omega)
    (by show 1408 * ((4 * (r.val / 512) + 2 * (k.val / 1408) + 1) / 2 % 2) + k.val % 1408 < 5632; omega)
  have e' : ix2 r k = ix2 (⟨512 * ((4 * (r.val / 512) + 2 * (k.val / 1408) + 1) / 4) + r.val % 512, by omega⟩ : Fin 1024)
      (⟨1408 * ((4 * (r.val / 512) + 2 * (k.val / 1408) + 1) / 2 % 2) + k.val % 1408, by omega⟩ : Fin 5632) := by
    congr 1 <;> apply Fin.ext
    · show r.val = 512 * ((4 * (r.val / 512) + 2 * (k.val / 1408) + 1) / 4) + r.val % 512; omega
    · show k.val = 1408 * ((4 * (r.val / 512) + 2 * (k.val / 1408) + 1) / 2 % 2) + k.val % 1408; omega
  rw [e']
  exact e ▸ View.emb_mem_set _ _

/-- The kernel leaves it in the left half. -/
theorem final (c : Dev nD) (r : Fin 1024) (k : Fin 5632) (h : k.val < 2816) : el .f32 ((dats m 0 c).arrAt 2 cfg0.N) r k =
    ∑ x ∈ Finset.range 8192, term m c r.val k.val x :=
  ((dats m 0 c).arrAt_eq_piecewise 2 (fin m c) (flushed_fin m c) (ix2 r k)).trans (if_pos (covered r k h))

/-- The constant shape of the mask broadcasts. -/
theorem facts : Cert.On_left_half.Facts where
  bcast_S_S1024x5632 := by decide

/-- The mask holds the left half. -/
theorem mask_lt (a0 : FVec Ideal S8192x1024 .bf16) (a1 : FVec Ideal S8192x2816 .bf16) (r : Fin 1024) (k : Fin 5632)
    (h : @Cert.On_left_half.fn facts Ideal _ a0 a1 (ix2 r k) = 1#1) : k.val < 2816 := by
  have e : IntOp.cmpi .slt (BitVec.ofNat 32 k.val) (BitVec.ofNat 32 2816) = 1#1 := h
  have hk : k.val < 5632 := k.isLt
  exact (WordCmp.cmpi_slt_ofNat_eq_one_iff (by omega) (by omega)).mp e

/-- The two programs leave the same left half. -/
theorem algebraic : Cert.algebraic_WGIdeal_WGRefIdeal_on_left_half (hWGIdeal := Cert.WGIdeal.Gen.facts) (hWGRefIdeal := Cert.WGRefIdeal.Gen.facts) (hOn_left_half := facts) := by
  intro m ρ m' ρ' _ hag
  refine ⟨fun c => (dats m 0 c).arrAt 2 cfg0.N, (θ_run _ _ _).mono ?_ (run_blocks m ρ), (θ_run _ _ _).mono ?_ (Cert.WGRefIdeal.Value.run m' ρ')⟩
  · intro r h c
    exact ⟨fun i _ => congrFun (h c).1 i, (h c).2⟩
  · intro r h c
    obtain ⟨b, k⟩ := h c
    obtain ⟨e0, e1⟩ := hag c
    refine ⟨fun i hi => (congrFun b i).trans ?_, k⟩
    rw [e0, e1]
    clear b k h e0 e1 hag
    revert i hi; refine forall_ix2 fun r k hi => ?_
    refine Eq.trans ?_ (final m c r k (mask_lt _ _ _ _ hi)).symm
    have hk := mask_lt _ _ _ _ hi
    show transpose (α := EReal) _ _ _ _ (ix2 r k) = _
    pointwise
    rw [← Fin.sum_univ_eq_sum_range]
    refine Finset.sum_congr rfl fun x _ => ?_
    rw [term, en_fin, en_lt _ x.isLt hk, dif_pos hk]
    exact mul_comm _ _
end Cert.WGVal
end
-- ==== Proof.WU.lean ====
/- The gradient of the right half of the first weights of a feed-forward half-step: the kernel adds up two blocks of rows
   and writes into the array that it is given, the reference takes one product and joins the halves. -/
module
public import proofs.«01_k».proof.Defs
public import proofs.«01_k».proof.Proof.Mat
public import proofs.«01_k».proof.Proof.Gen.WU.Frame
public import proofs.«01_k».proof.Proof.Gen.WUIdeal.Frame
public import proofs.«01_k».proof.Proof.Gen.WUIdeal.Value
public import proofs.«01_k».proof.Proof.Gen.WURefIdeal.Run
public import Idealize.ShloMosaic.Lib.Pointwise
public import Idealize.ShloMosaic.Lib.Pipeline.ValueKit
public import Idealize.ShloMosaic.Lib.Pipeline.ReadBack
@[expose] public section
set_option maxRecDepth 16384
noncomputable section
namespace Cert.WUVal
open Cert.WUIdeal Cert.WUIdeal.Gen Cert.WUIdeal.Value Idealize.ShloMosaic Idealize.ShloMosaic.TcCoe Idealize.SL.Sem
open Idealize.ShloMosaic (ix1 ix2)
open Cert.Mat

/-- An element of a block's product. -/
theorem pay2_at (v0 : FVec Ideal S4096x512 .bf16) (v1 : FVec Ideal S4096x1408 .bf16) (r : Fin 512) (k : Fin 1408) :
    el .f32 (k0_pay2 (F := Ideal) v0 v1) r k = ∑ q : Fin 4096, el .bf16 v0 q r * el .bf16 v1 q k := by
  show k0_pay2 (F := Ideal) v0 v1 (ix2 r k) = _
  pointwise [k0_pay2, k0_pay1]
/-- An element of what is stored after a block's product was added. -/
theorem pay3_at (v0 : FVec Ideal S4096x512 .bf16) (v1 : FVec Ideal S4096x1408 .bf16) (v : FVec Ideal S512x1408 .f32) (r : Fin 512) (k : Fin 1408) :
    el .f32 (k0_pay3 (F := Ideal) v0 v1 v) r k = el .f32 v r k + ∑ q : Fin 4096, el .bf16 v0 q r * el .bf16 v1 q k := by
  show k0_pay3 (F := Ideal) v0 v1 v (ix2 r k) = _
  pointwise [k0_pay3, k0_pay1]

variable (m : (ℓ : Loc nD τ sig) → Buf (Elt Ideal) ℓ) (ρ : Dev nD → PrngReg)

/-- The first half of the rows starts the sum. -/
theorem scrA (c : Dev nD) (t : Fin cfg0.N) (h0 : t.val % 2 = 0) :
    (outsAt0 m c t.val t.isLt).2 = k0_pay2 (F := Ideal) (iblk m c 0 t) (iblk m c 1 t) := by
  rw [outsAt0_A m c t h0 (by omega) (by omega)]
  frame_open
  simp (disch := first | decide +kernel | (intro a; fin_cases a <;> rfl)) only [↓View.readCov_cons_toLoadRect, ↓View.readCov_skip, ↓View.readCov_fill]
  frame_out
/-- The second half is added, and the sum is the result. -/
theorem outB (c : Dev nD) (t : Fin cfg0.N) (h0 : t.val % 2 = 1) :
    (outsAt0 m c t.val t.isLt).1 = k0_pay3 (F := Ideal) (iblk m c 0 t) (iblk m c 1 t)
      (outsAt0 m c (t.val - 1) (Nat.lt_of_le_of_lt (Nat.sub_le _ _) t.isLt)).2 := by
  rw [outsAt0_B m c t (by omega) h0 h0]
  frame_open
  simp (disch := first | decide +kernel | (intro a; fin_cases a <;> rfl)) only [↓View.readCov_cons_toLoadRect, ↓View.readCov_skip, ↓View.readCov_fill]
  frame_out
  rw [read_unread_whole]

/-- Which blocks a grid point reads and writes. -/
theorem idx : ∀ t : Fin cfg0.N, (win0_0.index t (0 : Fin 2) = t.val % 2 ∧ win0_0.index t (1 : Fin 2) = t.val / 4) ∧
    (win0_1.index t (0 : Fin 2) = t.val % 2 ∧ win0_1.index t (1 : Fin 2) = t.val / 2 % 2) ∧
    (win0_2.index t (0 : Fin 2) = t.val / 4 ∧ win0_2.index t (1 : Fin 2) = t.val / 2 % 2 + 2) := (by decide +kernel : ∀ t : Fin grid0.N, _)

/-- A block's element of the normalised rows in the array. -/
theorem blk0 (c : Dev nD) (t : Fin cfg0.N) (q : Fin 4096) (r : Fin 512) :
    el .bf16 (iblk m c 0 t) q r = en (a := 8192) (b := 1024) .bf16 (m ((c : Thread nD τ).loc main_arg0)) (4096 * (t.val % 2) + q.val) (512 * (t.val / 4) + r.val) := by
  obtain ⟨⟨e0, e1⟩, -, -⟩ := idx t
  have ht : t.val < 8 := t.isLt
  rw [en_lt _ (by omega) (by omega)]
  have : ((cfg0.win 0).blk t).view.emb (ix2 q r) = ix2 (⟨4096 * (t.val % 2) + q.val, by omega⟩ : Fin 8192) (⟨512 * (t.val / 4) + r.val, by omega⟩ : Fin 1024) := by
    funext a; apply Fin.ext
    match a with
    | ⟨0, _⟩ => show win0_0.index t (0 : Fin 2) * 4096 + 1 * q.val = _; rw [e0]; show _ = 4096 * (t.val % 2) + q.val; omega
    | ⟨1, _⟩ => show win0_0.index t (1 : Fin 2) * 512 + 1 * r.val = _; rw [e1]; show _ = 512 * (t.val / 4) + r.val; omega
  show V m c main_arg0 (((cfg0.win 0).blk t).view.emb (ix2 q r)) = _
  rw [this, V_main_arg0]
/-- A block's element of the gradient in the array. -/
theorem blk1 (c : Dev nD) (t : Fin cfg0.N) (q : Fin 4096) (k : Fin 1408) :
    el .bf16 (iblk m c 1 t) q k = en (a := 8192) (b := 2816) .bf16 (m ((c : Thread nD τ).loc main_arg1)) (4096 * (t.val % 2) + q.val) (1408 * (t.val / 2 % 2) + k.val) := by
  obtain ⟨-, ⟨e0, e1⟩, -⟩ := idx t
  have ht : t.val < 8 := t.isLt
  rw [en_lt _ (by omega) (by omega)]
  have : ((cfg0.win 1).blk t).view.emb (ix2 q k) = ix2 (⟨4096 * (t.val % 2) + q.val, by omega⟩ : Fin 8192) (⟨1408 * (t.val / 2 % 2) + k.val, by omega⟩ : Fin 2816) := by
    funext a; apply Fin.ext
    match a with
    | ⟨0, _⟩ => show win0_1.index t (0 : Fin 2) * 4096 + 1 * q.val = _; rw [e0]; show _ = 4096 * (t.val % 2) + q.val; omega
    | ⟨1, _⟩ => show win0_1.index t (1 : Fin 2) * 1408 + 1 * k.val = _; rw [e1]; show _ = 1408 * (t.val / 2 % 2) + k.val; omega
  show V m c main_arg1 (((cfg0.win 1).blk t).view.emb (ix2 q k)) = _
  rw [this, V_main_arg1]
/-- A block's element of the result in the array. -/
theorem emb2 (t : Fin cfg0.N) (r : Fin 512) (k : Fin 1408) (h : 512 * (t.val / 4) + r.val < 1024) (h' : 1408 * (t.val / 2 % 2 + 2) + k.val < 5632) :
    ((cfg0.win 2).blk t).view.emb (ix2 r k) = ix2 (⟨512 * (t.val / 4) + r.val, h⟩ : Fin 1024) (⟨1408 * (t.val / 2 % 2 + 2) + k.val, h'⟩ : Fin 5632) := by
  obtain ⟨-, -, e0, e1⟩ := idx t
  funext a; apply Fin.ext
  match a with
  | ⟨0, _⟩ => show win0_2.index t (0 : Fin 2) * 512 + 1 * r.val = _; rw [e0]; show _ = 512 * (t.val / 4) + r.val; omega
  | ⟨1, _⟩ => show win0_2.index t (1 : Fin 2) * 1408 + 1 * k.val = _; rw [e1]; show _ = 1408 * (t.val / 2 % 2 + 2) + k.val; omega

/-- One term of the product's sum over the rows. -/
def term (c : Dev nD) (r k x : ℕ) : EReal :=
  en (a := 8192) (b := 1024) .bf16 (m ((c : Thread nD τ).loc main_arg0)) x r * en (a := 8192) (b := 2816) .bf16 (m ((c : Thread nD τ).loc main_arg1)) x k

/-- What the running sum holds after the first half of the rows. -/
theorem scr (c : Dev nD) (n : ℕ) (hn : n < cfg0.N) (h0 : n % 2 = 0) (r : Fin 512) (k : Fin 1408) : el .f32 (outsAt0 m c n hn).2 r k =
    ∑ q : Fin 4096, term m c (512 * (n / 4) + r.val) (1408 * (n / 2 % 2) + k.val) (4096 * 0 + q.val) := by
  refine (congrFun (scrA m c ⟨n, hn⟩ h0) (ix2 r k)).trans ((pay2_at _ _ r k).trans ?_)
  simp only [blk0, blk1, h0]
  rfl

/-- The result at a grid point that writes it. -/
theorem out_at (c : Dev nD) (t : Fin cfg0.N) (h1 : t.val % 2 = 1) (r : Fin 512) (k : Fin 1408) :
    el .f32 (outsAt0 m c t.val t.isLt).1 r k =
      ∑ x ∈ Finset.range 8192, term m c (512 * (t.val / 4) + r.val) (1408 * (t.val / 2 % 2) + k.val) x := by
  refine (congrFun (outB m c t h1) (ix2 r k)).trans ((pay3_at _ _ _ r k).trans ?_)
  rw [scr m c _ _ (by omega)]
  have h2 : (t.val - 1) / 4 = t.val / 4 := by omega
  have h3 : (t.val - 1) / 2 = t.val / 2 := by omega
  rw [h2, h3, ← sum_blocks 4096 _ 2, Finset.sum_range_succ, Finset.sum_range_one]
  simp only [blk0, blk1, h1]
  rfl

/-- What the array holds before the grid runs: the array that the call is given. -/
theorem start (c : Dev nD) : (dats m 0 c).A 2 = m ((c : Thread nD τ).loc main_arg2) := (A_eq m c 2).trans (by show StableHlo.after hostOps0 _ main_v0 = _; after_results; rfl)

/-- The kernel's result as one formula: the left half as given, the right half the product. -/
def fin (c : Dev nD) : FVec Ideal S1024x5632 .f32 := fun i =>
  if (i 1).val < 2816 then (m ((c : Thread nD τ).loc main_arg2) : FVec Ideal S1024x5632 .f32) i else ∑ x ∈ Finset.range 8192, term m c (i 0).val ((i 1).val - 2816) x

/-- What a grid point writes of it. -/
theorem flushed_fin (c : Dev nD) (t : Fin cfg0.N) (hf : (cfg0.win 2).flush t = true) :
    (dats m 0 c).flushed 2 t = ((cfg0.win 2).blk t).view.read (Elt Ideal) (fin m c) := by
  have h1 : t.val % 2 = 1 := (flush0_2 t).mp hf
  have ht : t.val < 8 := t.isLt
  rw [flushed2]
  funext y
  rw [← ix2_eta (n0 := 512) (n1 := 1408) y]
  have hr : (y 0).val < 512 := (y 0).isLt
  have hk : (y 1).val < 1408 := (y 1).isLt
  refine (out_at m c t h1 (y 0) (y 1)).trans ?_
  show _ = fin m c (((cfg0.win 2).blk t).view.emb (ix2 (y 0) (y 1)))
  rw [emb2 t (y 0) (y 1) (by omega) (by omega)]
  refine Eq.trans ?_ (if_neg (by show ¬ (1408 * (t.val / 2 % 2 + 2) + (y 1).val) < 2816; omega)).symm
  have e : 1408 * (t.val / 2 % 2) + (y 1).val = 1408 * (t.val / 2 % 2 + 2) + (y 1).val - 2816 := by omega
  rw [e]
  rfl

/-- Every element of the right half is written. -/
theorem covered (r : Fin 1024) (k : Fin 5632) (h : 2816 ≤ k.val) :
    ∃ t : Fin cfg0.N, (cfg0.win 2).flush t = true ∧ ix2 r k ∈ ((cfg0.win 2).blk t).view.set := by
  have hb : 4 * (r.val / 512) + 2 * (k.val / 1408 - 2) + 1 < 8 := by omega
  refine ⟨(⟨4 * (r.val / 512) + 2 * (k.val / 1408 - 2) + 1, hb⟩ : Fin 8), (flush0_2 _).mpr (by show (4 * (r.val / 512) + 2 * (k.val / 1408 - 2) + 1) % 2 = 1; omega), ?_⟩
  have e := emb2 (⟨4 * (r.val / 512) + 2 * (k.val / 1408 - 2) + 1, hb⟩ : Fin 8) ⟨r.val % 512, by omega⟩ ⟨k.val % 1408, by omega⟩
    (by show 512 * ((4 * (r.val / 512) + 2 * (k.val / 1408 - 2) + 1) / 4) + r.val % 512 < 1024; omega)
    (by show 1408 * ((4 * (r.val / 512) + 2 * (k.val / 1408 - 2) + 1) / 2 % 2 + 2) + k.val % 1408 < 5632; omega)
  have e' : ix2 r k = ix2 (⟨512 * ((4 * (r.val / 512) + 2 * (k.val / 1408 - 2) + 1) / 4) + r.val % 512, by omega⟩ : Fin 1024)
      (⟨1408 * ((4 * (r.val / 512) + 2 * (k.val / 1408 - 2) + 1) / 2 % 2 + 2) + k.val % 1408, by omega⟩ : Fin 5632) := by
    congr 1 <;> apply Fin.ext
    · show r.val = 512 * ((4 * (r.val / 512) + 2 * (k.val / 1408 - 2) + 1) / 4) + r.val % 512; omega
    · show k.val = 1408 * ((4 * (r.val / 512) + 2 * (k.val / 1408 - 2) + 1) / 2 % 2 + 2) + k.val % 1408; omega
  rw [e']
  exact e ▸ View.emb_mem_set _ _

/-- The kernel leaves it. -/
theorem final (c : Dev nD) : (dats m 0 c).arrAt 2 cfg0.N = fin m c := by
  funext i
  refine ((dats m 0 c).arrAt_eq_piecewise 2 (fin m c) (flushed_fin m c) i).trans ?_
  by_cases h : (i 1).val < 2816
  · split
    · rfl
    · rw [start]; exact (if_pos h).symm
  · have := covered (i 0) (i 1) (by omega)
    rw [ix2_eta (n0 := 1024) (n1 := 5632) i] at this
    exact if_pos this

/-- The two programs leave the same array. -/
theorem algebraic : Cert.algebraic_WUIdeal_WURefIdeal (hWUIdeal := Cert.WUIdeal.Gen.facts) (hWURefIdeal := Cert.WURefIdeal.Gen.facts) := by
  intro m ρ m' ρ' _ hag
  refine ⟨fun c => (dats m 0 c).arrAt 2 cfg0.N, run_blocks m ρ, (θ_run _ _ _).mono ?_ (Cert.WURefIdeal.Value.run m' ρ')⟩
  intro r h c
  obtain ⟨b, k⟩ := h c
  obtain ⟨e0, e1, e2⟩ := hag c
  refine ⟨b.trans ?_, k⟩
  rw [e0, e1, e2]
  refine Eq.trans ?_ (final m c).symm
  clear b k h e0 e1 e2 hag
  exact ext (a := 1024) (b := 5632) (φ := .f32) fun r k => by
    show concatenate (α := EReal) _ _ _ _ (ix2 r k) = if k.val < 2816 then _ else _
    pointwise
    split
    · rfl
    · rw [← Fin.sum_univ_eq_sum_range]
      refine Finset.sum_congr rfl fun x _ => ?_
      rw [term, en_fin, en_lt _ x.isLt (by omega)]
      exact mul_comm _ _
end Cert.WUVal
end
-- ==== Proof.In.lean ====
/- The gradient of a feed-forward half-step's first product and of the normalisation before it: the kernel works on bands
   of rows and adds up the gain's gradient over the bands, the reference differentiates the whole map. -/
module
public import proofs.«01_k».proof.Defs
public import proofs.«01_k».proof.Proof.Mat
public import proofs.«01_k».proof.Proof.Finite
public import proofs.«01_k».proof.Proof.Algebra
public import proofs.«01_k».proof.Proof.Gen.In.Frame
public import proofs.«01_k».proof.Proof.Gen.InIdeal.Frame
public import proofs.«01_k».proof.Proof.Gen.InIdeal.Value
public import proofs.«01_k».proof.Proof.Gen.InRefIdeal.Run
public import Idealize.ShloMosaic.Lib.Pointwise
public import Idealize.ShloMosaic.Lib.Pipeline.ValueKit
public import Idealize.ShloMosaic.Lib.Pipeline.ReadBack
@[expose] public section
set_option maxRecDepth 16384
noncomputable section
namespace Cert.InVal
open Cert.InIdeal Cert.InIdeal.Gen Cert.InIdeal.Value Idealize.ShloMosaic Idealize.ShloMosaic.TcCoe Idealize.SL.Sem
open Idealize.ShloMosaic (ix1 ix2)
open Cert.Mat Cert.Consts Cert.Algebra
open Cert.Tile (At2)

/-- The element of a vector, an extended real. -/
abbrev el1 {a : ℕ} (v : FVec Ideal (⟨1, ![a]⟩ : Shape) .f32) (r : Fin a) : EReal := v (ix1 r)

/-- The cotangent of the normalised rows: the two halves' products with the weights' halves. -/
def dh (A B W V : ℕ → ℕ → ℝ) (r k : ℕ) : ℝ := ∑ q : Fin 2816, A r q.val * W k q.val + ∑ q : Fin 2816, B r q.val * V k q.val
/-- The mean square of a row, with the epsilon. -/
def ms (X : ℕ → ℕ → ℝ) (r : ℕ) : ℝ := (∑ k : Fin 1024, X r k.val * X r k.val) / 1024 + epsR
/-- Its reciprocal root. -/
def rs (X : ℕ → ℕ → ℝ) (r : ℕ) : ℝ := (Real.sqrt (ms X r))⁻¹
/-- The normalised row. -/
def xh (X : ℕ → ℕ → ℝ) (r k : ℕ) : ℝ := X r k * rs X r
/-- The gradient of the stream. -/
def dx (D X : ℕ → ℕ → ℝ) (gn : ℕ → ℝ) (H : ℕ → ℕ → ℝ) (r k : ℕ) : ℝ :=
  D r k + rs X r * (H r k * gn k - xh X r k * ((∑ e : Fin 1024, H r e.val * gn e.val * xh X r e.val) / 1024))
/-- The mean square with the epsilon is positive. -/
theorem ms_pos (X : ℕ → ℕ → ℝ) (r : ℕ) : 0 < ms X r :=
  add_pos_of_nonneg_of_pos (div_nonneg (Finset.sum_nonneg fun _ _ => mul_self_nonneg _) (by norm_num)) epsR_pos
/-- The float word of 1024. -/
theorem ofBits_1024 : Ideal.ofBits .f32 0x44800000#32 = ((1024 : ℝ) : EReal) := by
  simp [Ideal.ofBits, Ideal.ieee, -EReal.coe_mul]; norm_num
/-- Division by the constant 1024. -/
theorem div_1024 (a : ℝ) : Ideal.div (a : EReal) ((1024 : ℝ) : EReal) = ((a / 1024 : ℝ) : EReal) := Cert.Ref.div_real a (by norm_num)

section
variable {v0 v3 : FVec Ideal S512x2816 .bf16} {v1 v4 : FVec Ideal S1024x2816 .bf16} {A B W V : ℕ → ℕ → ℝ}
/-- The cotangent of a band's normalised rows. -/
theorem pay5_at (h0 : At2 v0 A) (h1 : At2 v1 W) (h3 : At2 v3 B) (h4 : At2 v4 V) : At2 (k0_pay5 (F := Ideal) v0 v1 v3 v4) (dh A B W V) := by
  intro r k
  pointwise [k0_pay5]
  simp only [h0 _ _, h1 _ _, h3 _ _, h4 _ _, ← EReal.coe_mul, coe_sum, ← EReal.coe_add]
  rfl
variable {x : FVec Ideal S512x1024 .f32} {X : ℕ → ℕ → ℝ}
/-- The reciprocal roots of a band. -/
theorem pay6_at (h : At2 x X) : At2 (k0_pay6 (F := Ideal) x) (fun r _ => rs X r) := by
  intro r k
  pointwise [k0_pay6]
  simp only [h _ _, ← EReal.coe_mul, coe_sum, ofBits_1024, ofBits_eps, div_1024, ← EReal.coe_add]
  exact rsqrt_pos (ms_pos X r.val)
/-- The normalised rows of a band. -/
theorem pay7_at (h : At2 x X) : At2 (k0_pay7 (F := Ideal) x) (xh X) := by
  intro r k
  pointwise [k0_pay7]
  simp only [h _ _, pay6_at h _ _, ← EReal.coe_mul]
  rfl
variable {g : FVec Ideal S1x1024 .f32} {gn : ℕ → ℝ} {d : FVec Ideal S512x1024 .f32} {D : ℕ → ℕ → ℝ}
/-- The gradient of the stream on a band. -/
theorem pay8_at (h0 : At2 v0 A) (h1 : At2 v1 W) (h3 : At2 v3 B) (h4 : At2 v4 V) (h : At2 x X) (hg : At2 g (fun _ => gn)) (hd : At2 d D) :
    At2 (k0_pay8 (F := Ideal) v0 v1 v3 v4 x g d) (dx D X gn (dh A B W V)) := by
  intro r k
  pointwise [k0_pay8]
  simp only [pay5_at h0 h1 h3 h4 _ _, pay6_at h _ _, pay7_at h _ _, hg _ _, hd _ _, ← EReal.coe_mul, coe_sum, ofBits_1024, div_1024, ← EReal.coe_add, ← EReal.coe_sub]
  rfl
variable {y : FVec Ideal S512x1024 .f32} {Y : ℕ → ℕ → ℝ}
/-- A band's part of the gain's gradient, eight rows of it. -/
theorem pay1_at (h : At2 x X) (hy : At2 y Y) : At2 (k0_pay1 (F := Ideal) x y) (fun s k => ∑ a : Fin 64, X (8 * a.val + s) k * Y (8 * a.val + s) k) := by
  intro r k
  pointwise [k0_pay1]
  simp only [h _ _, hy _ _, ← EReal.coe_mul, coe_sum, mul_comm 8]
/-- The first band's. -/
theorem pay2_at (h : At2 x X) (hy : At2 y Y) : At2 (k0_pay2 (F := Ideal) x y) (fun s k => ∑ a : Fin 64, X (8 * a.val + s) k * Y (8 * a.val + s) k) := by
  intro r k
  pointwise [k0_pay2]
  exact pay1_at h hy r k
variable {z : FVec Ideal S8x1024 .f32} {Z : ℕ → ℕ → ℝ}
/-- A later band's, added. -/
theorem pay3_at (h : At2 x X) (hy : At2 y Y) (hz : At2 z Z) :
    At2 (k0_pay3 (F := Ideal) x y z) (fun s k => Z s k + ∑ a : Fin 64, X (8 * a.val + s) k * Y (8 * a.val + s) k) := by
  intro r k
  pointwise [k0_pay3]
  simp only [pay1_at h hy _ _, hz _ _, ← EReal.coe_add]
/-- The eight rows' sum. -/
theorem pay4_at (hz : At2 z Z) : At2 (k0_pay4 (F := Ideal) z) (fun _ k => ∑ s : Fin 8, Z s.val k) := by
  intro r k
  pointwise [k0_pay4]
  simp only [hz _ _, coe_sum]
end

variable (m : (ℓ : Loc nD τ sig) → Buf (Elt Ideal) ℓ) (ρ : Dev nD → PrngReg)

/-- An element of a block's left half. -/
theorem ld_left (x : FVec Ideal S1024x5632 .bf16) (r : Fin 1024) (k : Fin 2816) :
    (View.ld (Val := Elt Ideal) (e' := .bf16) x (Rect.unit (s := S1024x5632) ![0, 0] ![1024, 2816] inb_S1024x5632_S1024x2816_0_0) : FVec Ideal S1024x2816 .bf16) (ix2 r k) = x (ix2 r ⟨k.val, by omega⟩) := by
  pointwise
/-- An element of a block's right half. -/
theorem ld_right (x : FVec Ideal S1024x5632 .bf16) (r : Fin 1024) (k : Fin 2816) :
    (View.ld (Val := Elt Ideal) (e' := .bf16) x (Rect.unit (s := S1024x5632) ![0, 2816] ![1024, 2816] inb_S1024x5632_S1024x2816_0_2816) : FVec Ideal S1024x2816 .bf16) (ix2 r k) = x (ix2 r ⟨2816 + k.val, by omega⟩) := by
  pointwise

/-- The left half of the weights that a grid point reads. -/
abbrev wl (c : Dev nD) (t : Fin cfg0.N) : FVec Ideal S1024x2816 .bf16 :=
  View.ld (iblk m c 2 t) (Rect.unit (s := S1024x5632) ![0, 0] ![1024, 2816] inb_S1024x5632_S1024x2816_0_0)
/-- The right half. -/
abbrev wr (c : Dev nD) (t : Fin cfg0.N) : FVec Ideal S1024x2816 .bf16 :=
  View.ld (iblk m c 2 t) (Rect.unit (s := S1024x5632) ![0, 2816] ![1024, 2816] inb_S1024x5632_S1024x2816_0_2816)

/-- What the first grid point stores of the stream's gradient. -/
theorem out6A (c : Dev nD) (t : Fin cfg0.N) (ht : t.val < 16) (h0 : t.val = 0) :
    (outsAt0 m c t.val t.isLt).1 = k0_pay8 (F := Ideal) (iblk m c 0 t) (wl m c t) (iblk m c 1 t) (wr m c t) (iblk m c 3 t) (iblk m c 4 t) (iblk m c 5 t) := by
  rw [outsAt0_A m c t (by omega) (by omega) (by omega)]
  frame_open
  simp (disch := first | decide +kernel | (intro a; fin_cases a <;> rfl)) only [↓View.readCov_cons_toLoadRect, ↓View.readCov_skip, ↓View.readCov_fill]
  frame_out
  rfl

/-- What a middle one stores. -/
theorem out6B (c : Dev nD) (t : Fin cfg0.N) (ht : t.val < 16) (h0 : 1 ≤ t.val) (h2 : ¬ t.val % 16 = 15) :
    (outsAt0 m c t.val t.isLt).1 = k0_pay8 (F := Ideal) (iblk m c 0 t) (wl m c t) (iblk m c 1 t) (wr m c t) (iblk m c 3 t) (iblk m c 4 t) (iblk m c 5 t) := by
  rw [outsAt0_B m c t (by omega) (by omega) (by omega)]
  frame_open
  simp (disch := first | decide +kernel | (intro a; fin_cases a <;> rfl)) only [↓View.readCov_cons_toLoadRect, ↓View.readCov_skip, ↓View.readCov_fill]
  frame_out
  rfl

/-- What the last one stores. -/
theorem out6C (c : Dev nD) (t : Fin cfg0.N) (ht : t.val < 16) (h2 : t.val % 16 = 15) :
    (outsAt0 m c t.val t.isLt).1 = k0_pay8 (F := Ideal) (iblk m c 0 t) (wl m c t) (iblk m c 1 t) (wr m c t) (iblk m c 3 t) (iblk m c 4 t) (iblk m c 5 t) := by
  rw [outsAt0_C m c t (by omega) (by omega) (by omega)]
  frame_open
  simp (disch := first | decide +kernel | (intro a; fin_cases a <;> rfl)) only [↓View.readCov_cons_toLoadRect, ↓View.readCov_skip, ↓View.readCov_fill]
  frame_out
  rfl

/-- The first grid point starts the gain's sum. -/
theorem scrA (c : Dev nD) (t : Fin cfg0.N) (ht : t.val < 16) (h0 : t.val = 0) :
    (outsAt0 m c t.val t.isLt).2.2 = k0_pay2 (F := Ideal) (k0_pay5 (F := Ideal) (iblk m c 0 t) (wl m c t) (iblk m c 1 t) (wr m c t)) (k0_pay7 (F := Ideal) (iblk m c 3 t)) := by
  rw [outsAt0_A m c t (by omega) (by omega) (by omega)]
  frame_open
  simp (disch := first | decide +kernel | (intro a; fin_cases a <;> rfl)) only [↓View.readCov_cons_toLoadRect, ↓View.readCov_skip, ↓View.readCov_fill]
  frame_out
  rfl

/-- A middle one adds to it. -/
theorem scrB (c : Dev nD) (t : Fin cfg0.N) (ht : t.val < 16) (h0 : 1 ≤ t.val) (h2 : ¬ t.val % 16 = 15) :
    (outsAt0 m c t.val t.isLt).2.2 = k0_pay3 (F := Ideal) (k0_pay5 (F := Ideal) (iblk m c 0 t) (wl m c t) (iblk m c 1 t) (wr m c t)) (k0_pay7 (F := Ideal) (iblk m c 3 t))
      (outsAt0 m c (t.val - 1) (Nat.lt_of_le_of_lt (Nat.sub_le _ _) t.isLt)).2.2 := by
  rw [outsAt0_B m c t (by omega) (by omega) (by omega)]
  frame_open
  simp (disch := first | decide +kernel | (intro a; fin_cases a <;> rfl)) only [↓View.readCov_cons_toLoadRect, ↓View.readCov_skip, ↓View.readCov_fill]
  frame_out
  rw [read_unread_whole]
  rfl

/-- The last one adds to it and sums the eight rows. -/
theorem out7C (c : Dev nD) (t : Fin cfg0.N) (ht : t.val < 16) (h2 : t.val % 16 = 15) :
    (outsAt0 m c t.val t.isLt).2.1 = k0_pay4 (F := Ideal) (k0_pay3 (F := Ideal) (k0_pay5 (F := Ideal) (iblk m c 0 t) (wl m c t) (iblk m c 1 t) (wr m c t)) (k0_pay7 (F := Ideal) (iblk m c 3 t))
      (outsAt0 m c (t.val - 1) (Nat.lt_of_le_of_lt (Nat.sub_le _ _) t.isLt)).2.2) := by
  rw [outsAt0_C m c t (by omega) (by omega) (by omega)]
  frame_open
  simp (disch := first | decide +kernel | (intro a; fin_cases a <;> rfl)) only [↓View.readCov_cons_toLoadRect, ↓View.readCov_skip, ↓View.readCov_fill]
  frame_out
  rw [read_unread_whole]
  rfl

/-- Every grid point stores the same formula of what it reads. -/
theorem out6 (c : Dev nD) (t : Fin cfg0.N) : (outsAt0 m c t.val t.isLt).1 = k0_pay8 (F := Ideal) (iblk m c 0 t) (wl m c t) (iblk m c 1 t) (wr m c t) (iblk m c 3 t) (iblk m c 4 t) (iblk m c 5 t) := by
  have ht : t.val < 16 := t.isLt
  by_cases h0 : t.val = 0
  · exact out6A m c t ht h0
  · by_cases h2 : t.val % 16 = 15
    · exact out6C m c t ht h2
    · exact out6B m c t ht (by omega) h2

/-- The arguments are real: the stream `X`, the gain `gn`, the weights `W`, the cotangents `A` and `B` of the two halves and
    the stream's cotangent `D`. -/
structure Ins (c : Dev nD) (X : ℕ → ℕ → ℝ) (gn : ℕ → ℝ) (W A B D : ℕ → ℕ → ℝ) : Prop where
  hx : At2 (a := 8192) (b := 1024) (φ := .f32) (m ((c : Thread nD τ).loc main_arg0)) X
  hg : ∀ i : Fin 1024, el1 (m ((c : Thread nD τ).loc main_arg1)) i = ((gn i.val : ℝ) : EReal)
  hw : At2 (a := 1024) (b := 5632) (φ := .bf16) (m ((c : Thread nD τ).loc main_arg2)) W
  ha : At2 (a := 8192) (b := 2816) (φ := .bf16) (m ((c : Thread nD τ).loc main_arg3)) A
  hb : At2 (a := 8192) (b := 2816) (φ := .bf16) (m ((c : Thread nD τ).loc main_arg4)) B
  hd : At2 (a := 8192) (b := 1024) (φ := .f32) (m ((c : Thread nD τ).loc main_arg5)) D

/-- The weights' right half, its columns counted from zero. -/
abbrev right (W : ℕ → ℕ → ℝ) (k q : ℕ) : ℝ := W k (2816 + q)

/-- Which blocks a grid point reads and writes. -/
theorem idx : ∀ t : Fin cfg0.N, (win0_0.index t (0 : Fin 2) = t.val ∧ win0_0.index t (1 : Fin 2) = 0) ∧
    (win0_1.index t (0 : Fin 2) = t.val ∧ win0_1.index t (1 : Fin 2) = 0) ∧
    (win0_2.index t (0 : Fin 2) = 0 ∧ win0_2.index t (1 : Fin 2) = 0) ∧
    (win0_3.index t (0 : Fin 2) = t.val ∧ win0_3.index t (1 : Fin 2) = 0) ∧
    (win0_4.index t (0 : Fin 2) = 0 ∧ win0_4.index t (1 : Fin 2) = 0) ∧
    (win0_5.index t (0 : Fin 2) = t.val ∧ win0_5.index t (1 : Fin 2) = 0) ∧
    (win0_6.index t (0 : Fin 2) = t.val ∧ win0_6.index t (1 : Fin 2) = 0) ∧
    (win0_7.index t (0 : Fin 2) = 0 ∧ win0_7.index t (1 : Fin 2) = 0) := (by decide +kernel : ∀ t : Fin grid0.N, _)

/-- A row of a band is a row of the array. -/
theorem row_lt (t : Fin cfg0.N) (r : Fin 512) : 512 * t.val + r.val < 8192 := by
  have h : t.val < 16 := t.isLt
  omega

/-- Where an element of window 0 lies in the array. -/
theorem emb0 (t : Fin cfg0.N) (r : Fin 512) (k : Fin 2816) :
    ((cfg0.win 0).blk t).view.emb (ix2 r k) = ix2 (n0 := 8192) (n1 := 2816) ⟨512 * t.val + r.val, row_lt t r⟩ k := by
  obtain ⟨e0, e1⟩ := (idx t).1
  funext a; apply Fin.ext
  match a with
  | ⟨0, _⟩ => show win0_0.index t (0 : Fin 2) * 512 + 1 * r.val = 512 * t.val + r.val; rw [e0]; omega
  | ⟨1, _⟩ => show win0_0.index t (1 : Fin 2) * 2816 + 1 * k.val = k.val; rw [e1]; omega
/-- Where an element of window 1 lies in the array. -/
theorem emb1 (t : Fin cfg0.N) (r : Fin 512) (k : Fin 2816) :
    ((cfg0.win 1).blk t).view.emb (ix2 r k) = ix2 (n0 := 8192) (n1 := 2816) ⟨512 * t.val + r.val, row_lt t r⟩ k := by
  obtain ⟨e0, e1⟩ := (idx t).2.1
  funext a; apply Fin.ext
  match a with
  | ⟨0, _⟩ => show win0_1.index t (0 : Fin 2) * 512 + 1 * r.val = 512 * t.val + r.val; rw [e0]; omega
  | ⟨1, _⟩ => show win0_1.index t (1 : Fin 2) * 2816 + 1 * k.val = k.val; rw [e1]; omega
/-- Where an element of window 2 lies in the array. -/
theorem emb2 (t : Fin cfg0.N) (r : Fin 1024) (k : Fin 5632) :
    ((cfg0.win 2).blk t).view.emb (ix2 r k) = ix2 (n0 := 1024) (n1 := 5632) r k := by
  obtain ⟨e0, e1⟩ := (idx t).2.2.1
  funext a; apply Fin.ext
  match a with
  | ⟨0, _⟩ => show win0_2.index t (0 : Fin 2) * 1024 + 1 * r.val = r.val; rw [e0]; omega
  | ⟨1, _⟩ => show win0_2.index t (1 : Fin 2) * 5632 + 1 * k.val = k.val; rw [e1]; omega
/-- Where an element of window 3 lies in the array. -/
theorem emb3 (t : Fin cfg0.N) (r : Fin 512) (k : Fin 1024) :
    ((cfg0.win 3).blk t).view.emb (ix2 r k) = ix2 (n0 := 8192) (n1 := 1024) ⟨512 * t.val + r.val, row_lt t r⟩ k := by
  obtain ⟨e0, e1⟩ := (idx t).2.2.2.1
  funext a; apply Fin.ext
  match a with
  | ⟨0, _⟩ => show win0_3.index t (0 : Fin 2) * 512 + 1 * r.val = 512 * t.val + r.val; rw [e0]; omega
  | ⟨1, _⟩ => show win0_3.index t (1 : Fin 2) * 1024 + 1 * k.val = k.val; rw [e1]; omega
/-- Where an element of window 4 lies in the array. -/
theorem emb4 (t : Fin cfg0.N) (r : Fin 1) (k : Fin 1024) :
    ((cfg0.win 4).blk t).view.emb (ix2 r k) = ix2 (n0 := 1) (n1 := 1024) r k := by
  obtain ⟨e0, e1⟩ := (idx t).2.2.2.2.1
  funext a; apply Fin.ext
  match a with
  | ⟨0, _⟩ => show win0_4.index t (0 : Fin 2) * 1 + 1 * r.val = r.val; rw [e0]; omega
  | ⟨1, _⟩ => show win0_4.index t (1 : Fin 2) * 1024 + 1 * k.val = k.val; rw [e1]; omega
/-- Where an element of window 5 lies in the array. -/
theorem emb5 (t : Fin cfg0.N) (r : Fin 512) (k : Fin 1024) :
    ((cfg0.win 5).blk t).view.emb (ix2 r k) = ix2 (n0 := 8192) (n1 := 1024) ⟨512 * t.val + r.val, row_lt t r⟩ k := by
  obtain ⟨e0, e1⟩ := (idx t).2.2.2.2.2.1
  funext a; apply Fin.ext
  match a with
  | ⟨0, _⟩ => show win0_5.index t (0 : Fin 2) * 512 + 1 * r.val = 512 * t.val + r.val; rw [e0]; omega
  | ⟨1, _⟩ => show win0_5.index t (1 : Fin 2) * 1024 + 1 * k.val = k.val; rw [e1]; omega
/-- Where an element of window 6 lies in the array. -/
theorem emb6 (t : Fin cfg0.N) (r : Fin 512) (k : Fin 1024) :
    ((cfg0.win 6).blk t).view.emb (ix2 r k) = ix2 (n0 := 8192) (n1 := 1024) ⟨512 * t.val + r.val, row_lt t r⟩ k := by
  obtain ⟨e0, e1⟩ := (idx t).2.2.2.2.2.2.1
  funext a; apply Fin.ext
  match a with
  | ⟨0, _⟩ => show win0_6.index t (0 : Fin 2) * 512 + 1 * r.val = 512 * t.val + r.val; rw [e0]; omega
  | ⟨1, _⟩ => show win0_6.index t (1 : Fin 2) * 1024 + 1 * k.val = k.val; rw [e1]; omega
/-- Where an element of window 7 lies in the array. -/
theorem emb7 (t : Fin cfg0.N) (r : Fin 1) (k : Fin 1024) :
    ((cfg0.win 7).blk t).view.emb (ix2 r k) = ix2 (n0 := 1) (n1 := 1024) r k := by
  obtain ⟨e0, e1⟩ := (idx t).2.2.2.2.2.2.2
  funext a; apply Fin.ext
  match a with
  | ⟨0, _⟩ => show win0_7.index t (0 : Fin 2) * 1 + 1 * r.val = r.val; rw [e0]; omega
  | ⟨1, _⟩ => show win0_7.index t (1 : Fin 2) * 1024 + 1 * k.val = k.val; rw [e1]; omega

section
variable {m} {c : Dev nD} {X : ℕ → ℕ → ℝ} {gn : ℕ → ℝ} {W A B D : ℕ → ℕ → ℝ} (I : Ins m c X gn W A B D)
include I
/-- The left cotangent's band. -/
theorem blk0 (t : Fin cfg0.N) : At2 (a := 512) (b := 2816) (φ := .bf16) (iblk m c 0 t) (fun r k => A (512 * t.val + r) k) := by
  intro r k
  show V m c main_arg3 (((cfg0.win 0).blk t).view.emb (ix2 r k)) = _
  rw [emb0, V_main_arg3]
  exact I.ha _ k
/-- The right cotangent's band. -/
theorem blk1 (t : Fin cfg0.N) : At2 (a := 512) (b := 2816) (φ := .bf16) (iblk m c 1 t) (fun r k => B (512 * t.val + r) k) := by
  intro r k
  show V m c main_arg4 (((cfg0.win 1).blk t).view.emb (ix2 r k)) = _
  rw [emb1, V_main_arg4]
  exact I.hb _ k
/-- The weights. -/
theorem blk2 (t : Fin cfg0.N) : At2 (a := 1024) (b := 5632) (φ := .bf16) (iblk m c 2 t) W := by
  intro r k
  show V m c main_arg2 (((cfg0.win 2).blk t).view.emb (ix2 r k)) = _
  rw [emb2, V_main_arg2]
  exact I.hw _ k
/-- The stream's band. -/
theorem blk3 (t : Fin cfg0.N) : At2 (a := 512) (b := 1024) (φ := .f32) (iblk m c 3 t) (fun r k => X (512 * t.val + r) k) := by
  intro r k
  show V m c main_arg0 (((cfg0.win 3).blk t).view.emb (ix2 r k)) = _
  rw [emb3, V_main_arg0]
  exact I.hx _ k
/-- The band of the stream's cotangent. -/
theorem blk5 (t : Fin cfg0.N) : At2 (a := 512) (b := 1024) (φ := .f32) (iblk m c 5 t) (fun r k => D (512 * t.val + r) k) := by
  intro r k
  show V m c main_arg5 (((cfg0.win 5).blk t).view.emb (ix2 r k)) = _
  rw [emb5, V_main_arg5]
  exact I.hd _ k
/-- The gain, as one row. -/
theorem blk4 (t : Fin cfg0.N) : At2 (a := 1) (b := 1024) (φ := .f32) (iblk m c 4 t) (fun _ => gn) := by
  intro r k
  show V m c main_v0 (((cfg0.win 4).blk t).view.emb (ix2 r k)) = _
  rw [emb4]
  have e : V m c main_v0 = shapeCast S1x1024 (m ((c : Thread nD τ).loc main_arg1)) shapeCasts_S1024_S1x1024 := by
    show StableHlo.after hostOps0 _ main_v0 = _; after_results; rfl
  rw [e]
  refine Eq.trans ?_ (I.hg k)
  show shapeCast (α := EReal) _ _ _ (ix2 r k) = _
  pointwise
/-- The weights' left half. -/
theorem wl_at (t : Fin cfg0.N) : At2 (wl m c t) W := fun r k =>
  (ld_left _ r k).trans (blk2 I t r (⟨k.val, by omega⟩ : Fin 5632))
/-- The weights' right half. -/
theorem wr_at (t : Fin cfg0.N) : At2 (wr m c t) (right W) := fun r k =>
  (ld_right _ r k).trans (blk2 I t r (⟨2816 + k.val, by omega⟩ : Fin 5632))

/-- A grid point's band of the stream's gradient. -/
theorem out6_at (t : Fin cfg0.N) : At2 (a := 512) (b := 1024) (φ := .f32) (outsAt0 m c t.val t.isLt).1
    (fun r k => dx D X gn (dh A B W (right W)) (512 * t.val + r) k) := by
  rw [out6]
  exact pay8_at (blk0 I t) (wl_at I t) (blk1 I t) (wr_at I t) (blk3 I t) (blk4 I t) (blk5 I t)

/-- The stream's gradient that the kernel leaves. -/
theorem final6 : At2 (a := 8192) (b := 1024) (φ := .f32) ((dats m 0 c).arrAt 6 cfg0.N) (dx D X gn (dh A B W (right W))) := by
  intro T k
  have ht : T.val / 512 < 16 := by omega
  let t : Fin cfg0.N := (⟨T.val / 512, ht⟩ : Fin 16)
  have hT : (⟨512 * t.val + T.val % 512, row_lt t ⟨T.val % 512, by omega⟩⟩ : Fin 8192) = T := Fin.ext (Nat.div_add_mod T.val 512)
  have e := congrFun (blocks6 m c t (flush0_6 t)) (ix2 ⟨T.val % 512, by omega⟩ k)
  rw [flushed6] at e
  have e' : (dats m 0 c).arrAt 6 cfg0.N (((cfg0.win 6).blk t).view.emb (ix2 ⟨T.val % 512, by omega⟩ k)) =
    (outsAt0 m c t.val t.isLt).1 (ix2 ⟨T.val % 512, by omega⟩ k) := e
  rw [emb6, hT] at e'
  refine e'.trans ((out6_at I t _ k).trans ?_)
  show ((dx D X gn (dh A B W (right W)) (512 * (T.val / 512) + T.val % 512) k.val : ℝ) : EReal) = _
  rw [Nat.div_add_mod]

/-- What the eight rows hold after a grid point before the last. -/
theorem scr_at (n : ℕ) : ∀ (hn : n < cfg0.N), ¬ n % 16 = 15 → At2 (a := 8) (b := 1024) (φ := .f32) (outsAt0 m c n hn).2.2
    (fun s k => ∑ i ∈ Finset.range (n + 1), ∑ a : Fin 64, dh A B W (right W) (512 * i + (8 * a.val + s)) k * xh X (512 * i + (8 * a.val + s)) k) := by
  induction n with
  | zero =>
    intro hn _ s k
    refine (congrFun (scrA m c ⟨0, hn⟩ (show 0 < 16 by decide) rfl) (ix2 s k)).trans ((pay2_at (pay5_at (blk0 I _) (wl_at I _) (blk1 I _) (wr_at I _)) (pay7_at (blk3 I _)) s k).trans ?_)
    exact Cert.Ref.coe_of (Finset.sum_range_one (fun i => ∑ a : Fin 64, dh A B W (right W) (512 * i + (8 * a.val + s.val)) k.val * xh X (512 * i + (8 * a.val + s.val)) k.val)).symm
  | succ n ih =>
    intro hn h s k
    have hN : n + 1 < 16 := hn
    refine (congrFun (scrB m c ⟨n + 1, hn⟩ hN (Nat.le_add_left 1 n) h) (ix2 s k)).trans ((pay3_at (pay5_at (blk0 I _) (wl_at I _) (blk1 I _) (wr_at I _)) (pay7_at (blk3 I _))
      (ih (Nat.lt_of_succ_lt hn) (by omega)) s k).trans ?_)
    exact Cert.Ref.coe_of (Finset.sum_range_succ (fun i => ∑ a : Fin 64, dh A B W (right W) (512 * i + (8 * a.val + s.val)) k.val * xh X (512 * i + (8 * a.val + s.val)) k.val) (n + 1)).symm

/-- The gain's gradient at the last grid point. -/
theorem out7_at (t : Fin cfg0.N) (h : t.val % 16 = 15) : At2 (a := 1) (b := 1024) (φ := .f32) (outsAt0 m c t.val t.isLt).2.1
    (fun _ k => ∑ T ∈ Finset.range 8192, dh A B W (right W) T k * xh X T k) := by
  have ht : t.val < 16 := t.isLt
  intro r k
  refine (congrFun (out7C m c t ht h) (ix2 r k)).trans ((pay4_at (pay3_at (pay5_at (blk0 I _) (wl_at I _) (blk1 I _) (wr_at I _)) (pay7_at (blk3 I _))
    (scr_at I _ _ (by omega))) r k).trans (Cert.Ref.coe_of ?_))
  have h1 : t.val - 1 + 1 = 15 := by omega
  have h2 : t.val = 15 := by omega
  rw [h1]
  have e : ∀ s : Fin 8, ∑ i ∈ Finset.range 15, ∑ a : Fin 64, dh A B W (right W) (512 * i + (8 * a.val + s.val)) k.val * xh X (512 * i + (8 * a.val + s.val)) k.val +
      ∑ a : Fin 64, dh (fun r k => A (512 * t.val + r) k) (fun r k => B (512 * t.val + r) k) W (right W) (8 * a.val + s.val) k.val *
        xh (fun r k => X (512 * t.val + r) k) (8 * a.val + s.val) k.val =
      ∑ i ∈ Finset.range 16, ∑ a : Fin 64, dh A B W (right W) (512 * i + (8 * a.val + s.val)) k.val * xh X (512 * i + (8 * a.val + s.val)) k.val := fun s => by
    rw [Finset.sum_range_succ _ 15, h2]; rfl
  refine (Finset.sum_congr rfl fun s _ => e s).trans ?_
  show _ = ∑ T ∈ Finset.range 8192, dh A B W (right W) T k.val * xh X T k.val
  rw [Finset.sum_comm, ← sum_blocks 512 _ 16]
  refine Finset.sum_congr rfl fun i _ => ?_
  rw [Finset.sum_comm, ← Finset.sum_range fun a => ∑ s : Fin 8, dh A B W (right W) (512 * i + (8 * a + s.val)) k.val * xh X (512 * i + (8 * a + s.val)) k.val,
    sum_blocks 8 (fun x => dh A B W (right W) (512 * i + x) k.val * xh X (512 * i + x) k.val) 64, Finset.sum_range]

/-- The gain's gradient that the kernel leaves. -/
theorem final7 : At2 (a := 1) (b := 1024) (φ := .f32) ((dats m 0 c).arrAt 7 cfg0.N) (fun _ k => ∑ T ∈ Finset.range 8192, dh A B W (right W) T k * xh X T k) := by
  intro r k
  let G : FVec Ideal S1x1024 .f32 := fun i => ((∑ T ∈ Finset.range 8192, dh A B W (right W) T (i 1).val * xh X T (i 1).val : ℝ) : EReal)
  have e : (dats m 0 c).arrAt 7 cfg0.N = G := (dats m 0 c).arrAt_eq_of_cover 7 G (fun t hf => by
    have h := (flush0_7 t).mp hf
    rw [flushed7]
    funext y
    have hy := ix2_eta (n0 := 1) (n1 := 1024) y
    refine (congrArg (outsAt0 m c t.val t.isLt).2.1 hy.symm).trans ?_
    refine (out7_at I t (by omega) (y 0) (y 1)).trans ?_
    show _ = G (((cfg0.win 7).blk t).view.emb (ix2 (y 0) (y 1)))
    exact congrArg G (hy.symm.trans (emb7 t (y 0) (y 1)).symm)) (fun i => (covered_iff7 i).2 (by
      have h0 : (i 0).val < 1 := (i 0).isLt; have h1 : (i 1).val < 1024 := (i 1).isLt; omega))
  rw [e]
  rfl
end
end Cert.InVal

namespace Cert.InVal
open Cert.InRefIdeal Cert.InRefIdeal.Gen Idealize.ShloMosaic Idealize.ShloMosaic.TcCoe Idealize.SL.Sem
open Idealize.ShloMosaic (ix1 ix2)
open Cert.Mat Cert.Consts Cert.Algebra
open Cert.Tile (At2)

/-- The reference's cotangent of the normalised rows times the gain. -/
def refH (a b : FVec Ideal S8192x2816 .bf16) (w : FVec Ideal S1024x5632 .bf16) : FVec Ideal S8192x1024 .f32 :=
  Host.dotGeneral dot_S8192x5632_S1024x5632_S8192x1024_1_1_0_0_n_n none (extf .f32 (concatenate S8192x5632 1 [⟨S8192x2816, a⟩, ⟨S8192x2816, b⟩] concatenates_S8192x2816_S8192x2816_S8192x5632_d1) bitsLt_bf16_f32) (extf .f32 w bitsLt_bf16_f32)
/-- The reference's mean squares. -/
def refM (x : FVec Ideal S8192x1024 .f32) : FVec Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))
/-- The reference's gradient of the stream. -/
def refX (x d h : FVec Ideal S8192x1024 .f32) (g : FVec Ideal S1024 .f32) (q r : FVec Ideal S8192x1 .f32) : FVec Ideal S8192x1024 .f32 :=
  addf (addf (addf d (mulf (mulf h (broadcastInDim S8192x1024 ![0, 1] bcast_S1x1024_S8192x1024_0_1 (broadcastInDim S1x1024 ![1] bcast_S1024_S1x1024_1 g))) (broadcastInDim S8192x1024 ![0, 1] bcast_S8192x1_S8192x1024_0_1 r))) (mulf x (broadcastInDim S8192x1024 ![0] bcast_S8192_S8192x1024_0 (Host.reduceAdd (Host.divf (mulf (shapeCast _ (Host.reduceAdd (mulf x (mulf h (broadcastInDim S8192x1024 ![0, 1] bcast_S1x1024_S8192x1024_0_1 (broadcastInDim S1x1024 ![1] bcast_S1024_S1x1024_1 g)))) (constant S_ .f32 0x00000000#32) reducesTo_S8192x1024_S8192_d1 h_S_) shapeCasts_S8192_S8192x1) (mulf (broadcastInDim S8192x1 ![] bcast_S_S8192x1 (constant S_ .f32 0xBF000000#32)) (Host.divf r q))) (broadcastInDim S8192x1 ![] bcast_S_S8192x1 (constant S_ .f32 0x44800000#32))) (constant S_ .f32 0x00000000#32) reducesTo_S8192x1_S8192_d1 h_S_)))) (mulf (broadcastInDim S8192x1024 ![0] bcast_S8192_S8192x1024_0 (Host.reduceAdd (Host.divf (mulf (shapeCast _ (Host.reduceAdd (mulf x (mulf h (broadcastInDim S8192x1024 ![0, 1] bcast_S1x1024_S8192x1024_0_1 (broadcastInDim S1x1024 ![1] bcast_S1024_S1x1024_1 g)))) (constant S_ .f32 0x00000000#32) reducesTo_S8192x1024_S8192_d1 h_S_) shapeCasts_S8192_S8192x1) (mulf (broadcastInDim S8192x1 ![] bcast_S_S8192x1 (constant S_ .f32 0xBF000000#32)) (Host.divf r q))) (broadcastInDim S8192x1 ![] bcast_S_S8192x1 (constant S_ .f32 0x44800000#32))) (constant S_ .f32 0x00000000#32) reducesTo_S8192x1_S8192_d1 h_S_)) x)
/-- The reference's gradient of the gain. -/
def refG (x h : FVec Ideal S8192x1024 .f32) (r : FVec Ideal S8192x1 .f32) : FVec Ideal S1x1024 .f32 :=
  shapeCast _ (Host.reduceAdd (shapeCast _ (Host.reduceAdd (mulf (mulf x (broadcastInDim S8192x1024 ![0, 1] bcast_S8192x1_S8192x1024_0_1 r)) h) (constant S_ .f32 0x00000000#32) reducesTo_S8192x1024_S1024_d0 h_S_) shapeCasts_S1024_S1x1024) (constant S_ .f32 0x00000000#32) reducesTo_S1x1024_S1024_d0 h_S_) shapeCasts_S1024_S1x1024

section
variable {a b : FVec Ideal S8192x2816 .bf16} {w : FVec Ideal S1024x5632 .bf16} {x d h : FVec Ideal S8192x1024 .f32} {g : FVec Ideal S1024 .f32}
  {q r : FVec Ideal S8192x1 .f32} {A B W X D H : ℕ → ℕ → ℝ} {gn Q R : ℕ → ℝ}

/-- Its values: the sum over both halves is the two halves' sums. -/
theorem refH_at (ha : At2 a A) (hb : At2 b B) (hw : At2 w W) : At2 (refH a b w) (dh A B W (fun k q => W k (2816 + q))) := by
  intro T k
  pointwise [refH]
  simp only [ha _ _, hb _ _, hw _ _, ← EReal.coe_mul, coe_sum, ← EReal.coe_add]
  rfl

/-- The mean squares' values. -/
theorem refM_at (hx : At2 x X) : At2 (refM x) (fun T _ => ms X T) := by
  intro T k
  pointwise [refM]
  simp only [hx _ _, ← EReal.coe_mul, coe_sum, ofBits_1024, ofBits_eps, div_1024, ← EReal.coe_add]
  rfl

/-- The reciprocal roots' values. -/
theorem refR_at (hx : At2 x X) : At2 (Host.rsqrt (refM x)) (fun T _ => rs X T) := by
  intro T k
  show Ideal.rsqrt (refM x (ix2 T k)) = _
  rw [refM_at hx T k]
  exact rsqrt_pos (ms_pos X T.val)

/-- The gradient of the normalisation, the differentiated root `-1/2 · r / ms` summed against the cotangents. -/
theorem grad (T k : ℕ) :
    D T k + H T k * gn k * rs X T + X T k * ((∑ e : Fin 1024, X T e.val * (H T e.val * gn e.val)) * (-1 / 2 * (rs X T / ms X T)) / 1024) +
      (∑ e : Fin 1024, X T e.val * (H T e.val * gn e.val)) * (-1 / 2 * (rs X T / ms X T)) / 1024 * X T k = dx D X gn H T k := by
  have hm := ms_pos X T
  have hr : rs X T / ms X T = rs X T * (rs X T * rs X T) := by
    unfold rs
    rw [div_eq_mul_inv]
    congr 1
    rw [← mul_inv, Real.mul_self_sqrt hm.le]
  have hs : (∑ e : Fin 1024, H T e.val * gn e.val * xh X T e.val) = (∑ e : Fin 1024, X T e.val * (H T e.val * gn e.val)) * rs X T := by
    rw [Finset.sum_mul]
    exact Finset.sum_congr rfl fun e _ => by unfold xh; ring
  unfold dx
  rw [hs, hr]
  unfold xh
  ring

/-- The values of the stream's gradient. -/
theorem refX_at (hx : At2 x X) (hd : At2 d D) (hh : At2 h H) (hg : ∀ i : Fin 1024, el1 g i = ((gn i.val : ℝ) : EReal)) (hq : At2 q (fun T _ => ms X T)) (hr : At2 r (fun T _ => rs X T)) :
    At2 (refX x d h g q r) (dx D X gn H) := by
  intro T k
  have hg' : ∀ i : Fin 1024, g (ix1 i) = ((gn i.val : ℝ) : EReal) := hg
  have hdiv := Cert.Ref.div_real (rs X T) (ms_pos X T).ne'
  pointwise [refX]
  simp only [hx _ _, hd _ _, hh _ _, hg' _, hq _ _, hr _ _, ← EReal.coe_mul, coe_sum, ofBits_1024, Cert.Ref.ofBits_mhalf, hdiv, div_1024, ← EReal.coe_add]
  simp only [Fin.sum_univ_one]
  exact Cert.Ref.coe_of (grad T.val k.val)

/-- The values of the gain's gradient. -/
theorem refG_at (hx : At2 x X) (hh : At2 h H) (hr : At2 r (fun T _ => rs X T)) :
    At2 (refG x h r) (fun _ k => ∑ T ∈ Finset.range 8192, H T k * xh X T k) := by
  intro z k
  pointwise [refG]
  simp only [hx _ _, hh _ _, hr _ _, ← EReal.coe_mul, coe_sum]
  simp only [Fin.sum_univ_one]
  refine congrArg ((↑) : ℝ → EReal) (Eq.trans (Finset.sum_congr rfl fun T _ => ?_) (Fin.sum_univ_eq_sum_range (fun T => H T k.val * xh X T k.val) 8192))
  unfold xh
  ring
end
end Cert.InVal

namespace Cert.InVal
open Idealize.ShloMosaic Idealize.ShloMosaic.TcCoe Idealize.SL.Sem
open Idealize.ShloMosaic (ix1 ix2)
open Cert.Mat Cert.Consts Cert.Algebra Cert.Finite
open Cert.Tile (At2)

/-- The shape conditions the precondition takes. -/
theorem facts : Cert.Pre_finite_in.Facts where
  bcast_S_S8192x1024 := by decide
  reducesTo_S8192x1024_S_d0_1 := by decide
  h_S_ := by decide
  bcast_S_S1024 := by decide
  reducesTo_S1024_S_d0 := by decide
  bitsLt_bf16_f32 := by decide
  bcast_S_S1024x5632 := by decide
  reducesTo_S1024x5632_S_d0_1 := by decide
  bcast_S_S8192x2816 := by decide
  reducesTo_S8192x2816_S_d0_1 := by decide

open Cert.Pre_finite_in in
/-- Finite arguments have real elements. -/
theorem real_args [Cert.Pre_finite_in.Facts] (a0 : FVec Ideal S8192x1024 .f32) (a1 : FVec Ideal S1024 .f32) (a2 : FVec Ideal S1024x5632 .bf16)
    (a3 a4 : FVec Ideal S8192x2816 .bf16) (a5 : FVec Ideal S8192x1024 .f32) (e : Cert.Pre_finite_in.fn (F := Ideal) a0 a1 a2 a3 a4 a5 = fun _ => 1#1) :
    (∀ i, ∃ r : ℝ, (a0 i : EReal) = (r : EReal)) ∧ (∀ i, ∃ r : ℝ, (a1 i : EReal) = (r : EReal)) ∧ (∀ i, ∃ r : ℝ, (a2 i : EReal) = (r : EReal)) ∧
      (∀ i, ∃ r : ℝ, (a3 i : EReal) = (r : EReal)) ∧ (∀ i, ∃ r : ℝ, (a4 i : EReal) = (r : EReal)) ∧ ∀ i, ∃ r : ℝ, (a5 i : EReal) = (r : EReal) := by
  have e' := congrFun e (fun a => a.elim0)
  obtain ⟨e', h5⟩ := (andi_one _ _).mp e'
  obtain ⟨e', h4⟩ := (andi_one _ _).mp e'
  obtain ⟨e', h3⟩ := (andi_one _ _).mp e'
  obtain ⟨e', h2⟩ := (andi_one _ _).mp e'
  obtain ⟨h0, h1⟩ := (andi_one _ _).mp e'
  exact ⟨real_of_all a0 _ _ _ _ h0, real_of_all a1 _ _ _ _ h1, real_of_all (extf .f32 a2 Facts.bitsLt_bf16_f32) _ _ _ _ h2,
    real_of_all (extf .f32 a3 Facts.bitsLt_bf16_f32) _ _ _ _ h3, real_of_all (extf .f32 a4 Facts.bitsLt_bf16_f32) _ _ _ _ h4, real_of_all a5 _ _ _ _ h5⟩

/-- The reference's two results as the formulas above. -/
theorem ref_results (m : (ℓ : Loc Cert.InRefIdeal.nD Cert.InRefIdeal.τ Cert.InRefIdeal.sig) → Buf (Elt Ideal) ℓ) (c : Dev Cert.InRefIdeal.nD) :
    Cert.InRefIdeal.Value.res_main_v41 m c = refX (m ((c.tc : Thread Cert.InRefIdeal.nD Cert.InRefIdeal.τ).loc Cert.InRefIdeal.main_arg0)) (m ((c.tc : Thread Cert.InRefIdeal.nD Cert.InRefIdeal.τ).loc Cert.InRefIdeal.main_arg5))
      (refH (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg2)))
      (m ((c.tc : Thread Cert.InRefIdeal.nD Cert.InRefIdeal.τ).loc Cert.InRefIdeal.main_arg1)) (refM (m ((c.tc : Thread Cert.InRefIdeal.nD Cert.InRefIdeal.τ).loc Cert.InRefIdeal.main_arg0)))
      (Host.rsqrt (refM (m ((c.tc : Thread Cert.InRefIdeal.nD Cert.InRefIdeal.τ).loc Cert.InRefIdeal.main_arg0)))) := by
  unfold Cert.InRefIdeal.Value.res_main_v41
  rfl

/-- The two programs' results agree for finite arguments. -/
theorem algebraic : Cert.algebraic_InIdeal_InRefIdeal_pre_finite_in (hInIdeal := Cert.InIdeal.Gen.facts)
    (hInRefIdeal := Cert.InRefIdeal.Gen.facts) (hPre_finite_in := facts) := by
  intro m ρ m' ρ' hpre hag
  refine ⟨fun c => (Cert.InIdeal.Gen.dats m 0 c).arrAt 6 Cert.InIdeal.cfg0.N, fun c => (Cert.InIdeal.Gen.dats m 0 c).arrAt 7 Cert.InIdeal.cfg0.N,
    (θ_run _ _ _).mono ?_ (Cert.InIdeal.Value.run_blocks m ρ), (θ_run _ _ _).mono ?_ (Cert.InRefIdeal.Value.run m' ρ')⟩
  · intro r h c
    obtain ⟨a6, a7, k⟩ := h c
    exact ⟨a6, a7, k⟩
  · intro r h c
    haveI := facts
    obtain ⟨h0, h1, h2, h3, h4, h5⟩ := real_args _ _ _ _ _ _ (hpre c)
    obtain ⟨X, hx⟩ := exists_at2 (a := 8192) (b := 1024) (φ := .f32) _ h0
    obtain ⟨gn, hg⟩ := exists_at1 (a := 1024) _ h1
    obtain ⟨W, hw⟩ := exists_at2 (a := 1024) (b := 5632) (φ := .bf16) _ h2
    obtain ⟨A, ha⟩ := exists_at2 (a := 8192) (b := 2816) (φ := .bf16) _ h3
    obtain ⟨B, hb⟩ := exists_at2 (a := 8192) (b := 2816) (φ := .bf16) _ h4
    obtain ⟨D, hd⟩ := exists_at2 (a := 8192) (b := 1024) (φ := .f32) _ h5
    have I : Ins m c X gn W A B D := ⟨hx, hg, hw, ha, hb, hd⟩
    obtain ⟨e0, e1, e2, e3, e4, e5⟩ := hag c
    obtain ⟨b0, b1, k⟩ := h c
    have H := refH_at (ha) hb hw
    refine ⟨b0.trans ((ref_results m' c).trans ?_), b1.trans ?_, k⟩
    · rw [e0, e1, e2, e3, e4, e5]
      exact eq_of_at2 (a := 8192) (b := 1024) (φ := .f32) (refX_at hx hd H hg (refM_at hx) (refR_at hx)) (final6 I)
    · rw [e0, e2, e3, e4]
      exact eq_of_at2 (a := 1) (b := 1024) (φ := .f32) (refG_at hx H (refR_at hx)) (final7 I)
end Cert.InVal
end
-- ==== Proof.Up.lean ====
/- The first product of a feed-forward half-step, its normalisation and its gate: the kernel computes the logistic
   function from the hyperbolic tangent and saves the gate's derivative, the reference differentiates the gate. -/
module
public import proofs.«01_k».proof.Defs
public import proofs.«01_k».proof.Proof.Mat
public import proofs.«01_k».proof.Proof.Finite
public import proofs.«01_k».proof.Proof.Algebra
public import proofs.«01_k».proof.Proof.In
public import proofs.«01_k».proof.Proof.Gate
public import proofs.«01_k».proof.Proof.Gen.Up.Frame
public import proofs.«01_k».proof.Proof.Gen.UpIdeal.Frame
public import proofs.«01_k».proof.Proof.Gen.UpIdeal.Value
public import proofs.«01_k».proof.Proof.Gen.UpRefIdeal.Run
public import Idealize.ShloMosaic.Lib.Pointwise
public import Idealize.ShloMosaic.Lib.Pipeline.ValueKit
public import Idealize.ShloMosaic.Lib.Pipeline.ReadBack
@[expose] public section
set_option maxRecDepth 16384
noncomputable section
namespace Cert.UpVal
open Cert.UpIdeal Cert.UpIdeal.Gen Cert.UpIdeal.Value Idealize.ShloMosaic Idealize.ShloMosaic.TcCoe Idealize.SL.Sem
open Idealize.ShloMosaic (ix1 ix2)
open Cert.Mat Cert.Consts Cert.Algebra Cert.InVal Cert.GateVal
open Cert.Tile (At2)

/-- The normalised rows with the gain. -/
def hn (X : ℕ → ℕ → ℝ) (gn : ℕ → ℝ) (T k : ℕ) : ℝ := xh X T k * gn k
/-- Their product with the weights. -/
def pr (X : ℕ → ℕ → ℝ) (gn : ℕ → ℝ) (W : ℕ → ℕ → ℝ) (T q : ℕ) : ℝ := ∑ k : Fin 1024, hn X gn T k.val * W k.val q
/-- The gate's value on the product's left half. -/
def ra (X : ℕ → ℕ → ℝ) (gn : ℕ → ℝ) (W : ℕ → ℕ → ℝ) (T q : ℕ) : ℝ := sl (pr X gn W T q)
/-- The product's right half times the gate's derivative. -/
def rq (X : ℕ → ℕ → ℝ) (gn : ℕ → ℝ) (W : ℕ → ℕ → ℝ) (T q : ℕ) : ℝ := pr X gn W T (2816 + q) * sd (pr X gn W T q)
/-- The gate's value times the right half. -/
def rau (X : ℕ → ℕ → ℝ) (gn : ℕ → ℝ) (W : ℕ → ℕ → ℝ) (T q : ℕ) : ℝ := sl (pr X gn W T q) * pr X gn W T (2816 + q)

/-- The logistic function from the hyperbolic tangent of half the argument. -/
theorem sg_tanh (x : ℝ) : 1 / 2 * Real.tanh (1 / 2 * x) + 1 / 2 = sg x := by
  have h : Real.exp (-x) = Real.exp (-(1 / 2 * x)) * Real.exp (-(1 / 2 * x)) := by rw [← Real.exp_add]; congr 1; ring
  have h2 : Real.exp (1 / 2 * x) * Real.exp (-(1 / 2 * x)) = 1 := by rw [← Real.exp_add, add_neg_cancel, Real.exp_zero]
  have p := Real.exp_pos (1 / 2 * x)
  have p' := Real.exp_pos (-(1 / 2 * x))
  unfold sg
  rw [Real.tanh_eq, h]
  generalize Real.exp (1 / 2 * x) = a at *
  generalize Real.exp (-(1 / 2 * x)) = b at *
  field_simp
  linear_combination (2 * b) * h2

section
variable {x : FVec Ideal S256x1024 .f32} {g : FVec Ideal S1x1024 .f32} {n : FVec Ideal S256x1024 .bf16} {w v : FVec Ideal S1024x2816 .bf16}
  {X N W V : ℕ → ℕ → ℝ} {gn : ℕ → ℝ}
/-- A band's normalised rows. -/
theorem pay1_at (hx : At2 x X) (hg : At2 g (fun _ => gn)) : At2 (k0_pay1 (F := Ideal) x g) (hn X gn) := by
  intro r k
  pointwise [k0_pay1]
  simp only [hx _ _, hg _ _, ← EReal.coe_mul, coe_sum, ofBits_1024, ofBits_eps, div_1024, ← EReal.coe_add]
  rw [show ∀ y : ℝ, y = ms X r.val → Ideal.rsqrt (y : EReal) = ((rs X r.val : ℝ) : EReal) from fun y h => h ▸ rsqrt_pos (ms_pos X r.val)]
  · rw [← EReal.coe_mul, ← EReal.coe_mul]; rfl
  · rfl
/-- Their product with the left weights. -/
theorem pay3_at (hn : At2 n N) (hw : At2 w W) : At2 (k0_pay3 (F := Ideal) n w) (fun r q => ∑ k : Fin 1024, N r k.val * W k.val q) := by
  intro r k
  pointwise [k0_pay3, k0_pay2]
  simp only [hn _ _, hw _ _, ← EReal.coe_mul, coe_sum]
/-- Their product with the right weights. -/
theorem pay4_at (hn : At2 n N) (hw : At2 w W) : At2 (k0_pay4 (F := Ideal) n w) (fun r q => ∑ k : Fin 1024, N r k.val * W k.val q) := by
  intro r k
  pointwise [k0_pay4, k0_pay2]
  simp only [hn _ _, hw _ _, ← EReal.coe_mul, coe_sum]
/-- The logistic function of the left product. -/
theorem pay5_at (hn : At2 n N) (hw : At2 w W) : At2 (k0_pay5 (F := Ideal) n w) (fun r q => sg (∑ k : Fin 1024, N r k.val * W k.val q)) := by
  intro r k
  pointwise [k0_pay5]
  simp only [pay3_at hn hw _ _, ofBits_half, ← EReal.coe_mul, Ideal.tanh_coe, ← EReal.coe_add]
  exact Cert.Ref.coe_of (sg_tanh _)
/-- The gate's value. -/
theorem pay6_at (hn : At2 n N) (hw : At2 w W) : At2 (k0_pay6 (F := Ideal) n w) (fun r q => sl (∑ k : Fin 1024, N r k.val * W k.val q)) := by
  intro r k
  pointwise [k0_pay6]
  simp only [pay3_at hn hw _ _, pay5_at hn hw _ _, ← EReal.coe_mul]
  rfl
/-- The gate's value as stored. -/
theorem pay7_at (hn : At2 n N) (hw : At2 w W) : At2 (k0_pay7 (F := Ideal) n w) (fun r q => sl (∑ k : Fin 1024, N r k.val * W k.val q)) := by
  intro r k
  pointwise [k0_pay7]
  exact pay6_at hn hw r k
/-- The right product times the gate's derivative. -/
theorem pay8_at (hn : At2 n N) (hw : At2 w W) (hv : At2 v V) : At2 (k0_pay8 (F := Ideal) n w v)
    (fun r q => (∑ k : Fin 1024, N r k.val * V k.val q) * sd (∑ k : Fin 1024, N r k.val * W k.val q)) := by
  intro r k
  pointwise [k0_pay8]
  simp only [pay4_at hn hv _ _, pay5_at hn hw _ _, pay6_at hn hw _ _, ofBits_one, ← EReal.coe_mul, ← EReal.coe_add, ← EReal.coe_sub]
  rfl
/-- The gate's value times the right product. -/
theorem pay9_at (hn : At2 n N) (hw : At2 w W) (hv : At2 v V) : At2 (k0_pay9 (F := Ideal) n w v)
    (fun r q => sl (∑ k : Fin 1024, N r k.val * W k.val q) * ∑ k : Fin 1024, N r k.val * V k.val q) := by
  intro r k
  pointwise [k0_pay9]
  simp only [pay4_at hn hv _ _, pay6_at hn hw _ _, ← EReal.coe_mul]
end

variable (m : (ℓ : Loc nD τ sig) → Buf (Elt Ideal) ℓ) (ρ : Dev nD → PrngReg)

/-- The arguments are real: the stream `X`, the gain `gn` and the weights `W`. -/
structure Ins (c : Dev nD) (X : ℕ → ℕ → ℝ) (gn : ℕ → ℝ) (W : ℕ → ℕ → ℝ) : Prop where
  hx : At2 (a := 8192) (b := 1024) (φ := .f32) (m ((c : Thread nD τ).loc main_arg0)) X
  hg : ∀ i : Fin 1024, el1 (m ((c : Thread nD τ).loc main_arg1)) i = ((gn i.val : ℝ) : EReal)
  hw : At2 (a := 1024) (b := 5632) (φ := .bf16) (m ((c : Thread nD τ).loc main_arg2)) W

/-- What a grid point stores: the normalised rows with the gain. -/
theorem out4 (c : Dev nD) (t : Fin cfg0.N) : (outsAt0 m c t).1 = k0_pay1 (F := Ideal) (iblk m c 0 t) (iblk m c 1 t) := by
  unfold outsAt0
  frame_open
  simp (disch := first | decide +kernel | (intro a; fin_cases a <;> rfl)) only [↓View.readCov_cons_toLoadRect, ↓View.readCov_skip, ↓View.readCov_fill]
  frame_out

/-- What a grid point stores: the gate's value. -/
theorem out5 (c : Dev nD) (t : Fin cfg0.N) : (outsAt0 m c t).2.1 = k0_pay7 (F := Ideal) (k0_pay1 (F := Ideal) (iblk m c 0 t) (iblk m c 1 t)) (iblk m c 2 t) := by
  unfold outsAt0
  frame_open
  simp (disch := first | decide +kernel | (intro a; fin_cases a <;> rfl)) only [↓View.readCov_cons_toLoadRect, ↓View.readCov_skip, ↓View.readCov_fill]
  frame_out

/-- What a grid point stores: the other half times the gate's derivative. -/
theorem out6 (c : Dev nD) (t : Fin cfg0.N) : (outsAt0 m c t).2.2.1 = k0_pay8 (F := Ideal) (k0_pay1 (F := Ideal) (iblk m c 0 t) (iblk m c 1 t)) (iblk m c 2 t) (iblk m c 3 t) := by
  unfold outsAt0
  frame_open
  simp (disch := first | decide +kernel | (intro a; fin_cases a <;> rfl)) only [↓View.readCov_cons_toLoadRect, ↓View.readCov_skip, ↓View.readCov_fill]
  frame_out

/-- What a grid point stores: the gate's value times the other half. -/
theorem out7 (c : Dev nD) (t : Fin cfg0.N) : (outsAt0 m c t).2.2.2 = k0_pay9 (F := Ideal) (k0_pay1 (F := Ideal) (iblk m c 0 t) (iblk m c 1 t)) (iblk m c 2 t) (iblk m c 3 t) := by
  unfold outsAt0
  frame_open
  simp (disch := first | decide +kernel | (intro a; fin_cases a <;> rfl)) only [↓View.readCov_cons_toLoadRect, ↓View.readCov_skip, ↓View.readCov_fill]
  frame_out

/-- Which blocks a grid point reads and writes. -/
theorem idx : ∀ t : Fin cfg0.N, (win0_0.index t (0 : Fin 2) = t.val ∧ win0_0.index t (1 : Fin 2) = 0) ∧
    (win0_1.index t (0 : Fin 2) = 0 ∧ win0_1.index t (1 : Fin 2) = 0) ∧
    (win0_2.index t (0 : Fin 2) = 0 ∧ win0_2.index t (1 : Fin 2) = 0) ∧
    (win0_3.index t (0 : Fin 2) = 0 ∧ win0_3.index t (1 : Fin 2) = 1) ∧
    (win0_4.index t (0 : Fin 2) = t.val ∧ win0_4.index t (1 : Fin 2) = 0) ∧
    (win0_5.index t (0 : Fin 2) = t.val ∧ win0_5.index t (1 : Fin 2) = 0) ∧
    (win0_6.index t (0 : Fin 2) = t.val ∧ win0_6.index t (1 : Fin 2) = 0) ∧
    (win0_7.index t (0 : Fin 2) = t.val ∧ win0_7.index t (1 : Fin 2) = 0) := (by decide +kernel : ∀ t : Fin grid0.N, _)

/-- A row of a band is a row of the array. -/
theorem row_lt (t : Fin cfg0.N) (r : Fin 256) : 256 * t.val + r.val < 8192 := by
  have h : t.val < 32 := t.isLt
  omega

/-- Where an element of window 0 lies in the array. -/
theorem emb0 (t : Fin cfg0.N) (r : Fin 256) (k : Fin 1024) :
    ((cfg0.win 0).blk t).view.emb (ix2 r k) = ix2 (n0 := 8192) (n1 := 1024) ⟨256 * t.val + r.val, row_lt t r⟩ k := by
  obtain ⟨e0, e1⟩ := (idx t).1
  funext a; apply Fin.ext
  match a with
  | ⟨0, _⟩ => show win0_0.index t (0 : Fin 2) * 256 + 1 * r.val = 256 * t.val + r.val; rw [e0]; omega
  | ⟨1, _⟩ => show win0_0.index t (1 : Fin 2) * 1024 + 1 * k.val = k.val; rw [e1]; omega
/-- Where an element of window 1 lies in the array. -/
theorem emb1 (t : Fin cfg0.N) (r : Fin 1) (k : Fin 1024) :
    ((cfg0.win 1).blk t).view.emb (ix2 r k) = ix2 (n0 := 1) (n1 := 1024) r k := by
  obtain ⟨e0, e1⟩ := (idx t).2.1
  funext a; apply Fin.ext
  match a with
  | ⟨0, _⟩ => show win0_1.index t (0 : Fin 2) * 1 + 1 * r.val = r.val; rw [e0]; omega
  | ⟨1, _⟩ => show win0_1.index t (1 : Fin 2) * 1024 + 1 * k.val = k.val; rw [e1]; omega
/-- Where an element of window 2 lies in the array. -/
theorem emb2 (t : Fin cfg0.N) (r : Fin 1024) (k : Fin 2816) :
    ((cfg0.win 2).blk t).view.emb (ix2 r k) = ix2 (n0 := 1024) (n1 := 5632) r ⟨0 + k.val, by omega⟩ := by
  obtain ⟨e0, e1⟩ := (idx t).2.2.1
  funext a; apply Fin.ext
  match a with
  | ⟨0, _⟩ => show win0_2.index t (0 : Fin 2) * 1024 + 1 * r.val = r.val; rw [e0]; omega
  | ⟨1, _⟩ => show win0_2.index t (1 : Fin 2) * 2816 + 1 * k.val = 0 + k.val; rw [e1]; omega
/-- Where an element of window 3 lies in the array. -/
theorem emb3 (t : Fin cfg0.N) (r : Fin 1024) (k : Fin 2816) :
    ((cfg0.win 3).blk t).view.emb (ix2 r k) = ix2 (n0 := 1024) (n1 := 5632) r ⟨2816 + k.val, by omega⟩ := by
  obtain ⟨e0, e1⟩ := (idx t).2.2.2.1
  funext a; apply Fin.ext
  match a with
  | ⟨0, _⟩ => show win0_3.index t (0 : Fin 2) * 1024 + 1 * r.val = r.val; rw [e0]; omega
  | ⟨1, _⟩ => show win0_3.index t (1 : Fin 2) * 2816 + 1 * k.val = 2816 + k.val; rw [e1]; omega
/-- Where an element of window 4 lies in the array. -/
theorem emb4 (t : Fin cfg0.N) (r : Fin 256) (k : Fin 1024) :
    ((cfg0.win 4).blk t).view.emb (ix2 r k) = ix2 (n0 := 8192) (n1 := 1024) ⟨256 * t.val + r.val, row_lt t r⟩ k := by
  obtain ⟨e0, e1⟩ := (idx t).2.2.2.2.1
  funext a; apply Fin.ext
  match a with
  | ⟨0, _⟩ => show win0_4.index t (0 : Fin 2) * 256 + 1 * r.val = 256 * t.val + r.val; rw [e0]; omega
  | ⟨1, _⟩ => show win0_4.index t (1 : Fin 2) * 1024 + 1 * k.val = k.val; rw [e1]; omega
/-- Where an element of window 5 lies in the array. -/
theorem emb5 (t : Fin cfg0.N) (r : Fin 256) (k : Fin 2816) :
    ((cfg0.win 5).blk t).view.emb (ix2 r k) = ix2 (n0 := 8192) (n1 := 2816) ⟨256 * t.val + r.val, row_lt t r⟩ k := by
  obtain ⟨e0, e1⟩ := (idx t).2.2.2.2.2.1
  funext a; apply Fin.ext
  match a with
  | ⟨0, _⟩ => show win0_5.index t (0 : Fin 2) * 256 + 1 * r.val = 256 * t.val + r.val; rw [e0]; omega
  | ⟨1, _⟩ => show win0_5.index t (1 : Fin 2) * 2816 + 1 * k.val = k.val; rw [e1]; omega
/-- Where an element of window 6 lies in the array. -/
theorem emb6 (t : Fin cfg0.N) (r : Fin 256) (k : Fin 2816) :
    ((cfg0.win 6).blk t).view.emb (ix2 r k) = ix2 (n0 := 8192) (n1 := 2816) ⟨256 * t.val + r.val, row_lt t r⟩ k := by
  obtain ⟨e0, e1⟩ := (idx t).2.2.2.2.2.2.1
  funext a; apply Fin.ext
  match a with
  | ⟨0, _⟩ => show win0_6.index t (0 : Fin 2) * 256 + 1 * r.val = 256 * t.val + r.val; rw [e0]; omega
  | ⟨1, _⟩ => show win0_6.index t (1 : Fin 2) * 2816 + 1 * k.val = k.val; rw [e1]; omega
/-- Where an element of window 7 lies in the array. -/
theorem emb7 (t : Fin cfg0.N) (r : Fin 256) (k : Fin 2816) :
    ((cfg0.win 7).blk t).view.emb (ix2 r k) = ix2 (n0 := 8192) (n1 := 2816) ⟨256 * t.val + r.val, row_lt t r⟩ k := by
  obtain ⟨e0, e1⟩ := (idx t).2.2.2.2.2.2.2
  funext a; apply Fin.ext
  match a with
  | ⟨0, _⟩ => show win0_7.index t (0 : Fin 2) * 256 + 1 * r.val = 256 * t.val + r.val; rw [e0]; omega
  | ⟨1, _⟩ => show win0_7.index t (1 : Fin 2) * 2816 + 1 * k.val = k.val; rw [e1]; omega

section
variable {m} {c : Dev nD} {X : ℕ → ℕ → ℝ} {gn : ℕ → ℝ} {W : ℕ → ℕ → ℝ} (I : Ins m c X gn W)
include I
/-- The stream's band. -/
theorem blk0 (t : Fin cfg0.N) : At2 (a := 256) (b := 1024) (φ := .f32) (iblk m c 0 t) (fun r k => X (256 * t.val + r) k) := by
  intro r k
  show V m c main_arg0 (((cfg0.win 0).blk t).view.emb (ix2 r k)) = _
  rw [emb0, V_main_arg0]
  exact I.hx _ k
/-- The gain, as one row. -/
theorem blk1 (t : Fin cfg0.N) : At2 (a := 1) (b := 1024) (φ := .f32) (iblk m c 1 t) (fun _ => gn) := by
  intro r k
  show V m c main_v0 (((cfg0.win 1).blk t).view.emb (ix2 r k)) = _
  rw [emb1]
  have e : V m c main_v0 = shapeCast S1x1024 (m ((c : Thread nD τ).loc main_arg1)) shapeCasts_S1024_S1x1024 := by
    show StableHlo.after hostOps0 _ main_v0 = _; after_results; rfl
  rw [e]
  refine Eq.trans ?_ (I.hg k)
  show shapeCast (α := EReal) _ _ _ (ix2 r k) = _
  pointwise
/-- The weights' left half. -/
theorem blk2 (t : Fin cfg0.N) : At2 (a := 1024) (b := 2816) (φ := .bf16) (iblk m c 2 t) W := by
  intro r k
  show V m c main_arg2 (((cfg0.win 2).blk t).view.emb (ix2 r k)) = _
  rw [emb2, V_main_arg2]
  refine (I.hw _ _).trans ?_
  show ((W r.val (0 + k.val) : ℝ) : EReal) = _
  rw [Nat.zero_add]
/-- The weights' right half. -/
theorem blk3 (t : Fin cfg0.N) : At2 (a := 1024) (b := 2816) (φ := .bf16) (iblk m c 3 t) (right W) := by
  intro r k
  show V m c main_arg2 (((cfg0.win 3).blk t).view.emb (ix2 r k)) = _
  rw [emb3, V_main_arg2]
  exact I.hw _ _
/-- The band's normalised rows. -/
theorem band (t : Fin cfg0.N) : At2 (k0_pay1 (F := Ideal) (iblk m c 0 t) (iblk m c 1 t)) (fun r k => hn X gn (256 * t.val + r) k) := pay1_at (blk0 I t) (blk1 I t)

/-- The array of the normalised rows with the gain that the kernel leaves. -/
theorem final4 : At2 (a := 8192) (b := 1024) (φ := .bf16) ((dats m 0 c).arrAt 4 cfg0.N) (hn X gn) := by
  intro T k
  have ht : T.val / 256 < 32 := by omega
  let t : Fin cfg0.N := (⟨T.val / 256, ht⟩ : Fin 32)
  have hT : (⟨256 * t.val + T.val % 256, row_lt t ⟨T.val % 256, by omega⟩⟩ : Fin 8192) = T := Fin.ext (Nat.div_add_mod T.val 256)
  have e := congrFun (blocks4 m c t (flush0_4 t)) (ix2 ⟨T.val % 256, by omega⟩ k)
  rw [flushed4] at e
  have e' : (dats m 0 c).arrAt 4 cfg0.N (((cfg0.win 4).blk t).view.emb (ix2 ⟨T.val % 256, by omega⟩ k)) =
    (outsAt0 m c t).1 (ix2 ⟨T.val % 256, by omega⟩ k) := e
  rw [emb4, hT, out4] at e'
  refine e'.trans ((band I t _ _).trans ?_)
  show ((hn X gn (256 * (T.val / 256) + T.val % 256) k.val : ℝ) : EReal) = _
  rw [Nat.div_add_mod]

/-- The array of the gate's value that the kernel leaves. -/
theorem final5 : At2 (a := 8192) (b := 2816) (φ := .bf16) ((dats m 0 c).arrAt 5 cfg0.N) (ra X gn W) := by
  intro T k
  have ht : T.val / 256 < 32 := by omega
  let t : Fin cfg0.N := (⟨T.val / 256, ht⟩ : Fin 32)
  have hT : (⟨256 * t.val + T.val % 256, row_lt t ⟨T.val % 256, by omega⟩⟩ : Fin 8192) = T := Fin.ext (Nat.div_add_mod T.val 256)
  have e := congrFun (blocks5 m c t (flush0_5 t)) (ix2 ⟨T.val % 256, by omega⟩ k)
  rw [flushed5] at e
  have e' : (dats m 0 c).arrAt 5 cfg0.N (((cfg0.win 5).blk t).view.emb (ix2 ⟨T.val % 256, by omega⟩ k)) =
    (outsAt0 m c t).2.1 (ix2 ⟨T.val % 256, by omega⟩ k) := e
  rw [emb5, hT, out5] at e'
  refine e'.trans ((pay7_at (band I t) (blk2 I t) _ _).trans ?_)
  show ((ra X gn W (256 * (T.val / 256) + T.val % 256) k.val : ℝ) : EReal) = _
  rw [Nat.div_add_mod]

/-- The array of the other half times the gate's derivative that the kernel leaves. -/
theorem final6 : At2 (a := 8192) (b := 2816) (φ := .bf16) ((dats m 0 c).arrAt 6 cfg0.N) (rq X gn W) := by
  intro T k
  have ht : T.val / 256 < 32 := by omega
  let t : Fin cfg0.N := (⟨T.val / 256, ht⟩ : Fin 32)
  have hT : (⟨256 * t.val + T.val % 256, row_lt t ⟨T.val % 256, by omega⟩⟩ : Fin 8192) = T := Fin.ext (Nat.div_add_mod T.val 256)
  have e := congrFun (blocks6 m c t (flush0_6 t)) (ix2 ⟨T.val % 256, by omega⟩ k)
  rw [flushed6] at e
  have e' : (dats m 0 c).arrAt 6 cfg0.N (((cfg0.win 6).blk t).view.emb (ix2 ⟨T.val % 256, by omega⟩ k)) =
    (outsAt0 m c t).2.2.1 (ix2 ⟨T.val % 256, by omega⟩ k) := e
  rw [emb6, hT, out6] at e'
  refine e'.trans ((pay8_at (band I t) (blk2 I t) (blk3 I t) _ _).trans ?_)
  show ((rq X gn W (256 * (T.val / 256) + T.val % 256) k.val : ℝ) : EReal) = _
  rw [Nat.div_add_mod]

/-- The array of the gate's value times the other half that the kernel leaves. -/
theorem final7 : At2 (a := 8192) (b := 2816) (φ := .bf16) ((dats m 0 c).arrAt 7 cfg0.N) (rau X gn W) := by
  intro T k
  have ht : T.val / 256 < 32 := by omega
  let t : Fin cfg0.N := (⟨T.val / 256, ht⟩ : Fin 32)
  have hT : (⟨256 * t.val + T.val % 256, row_lt t ⟨T.val % 256, by omega⟩⟩ : Fin 8192) = T := Fin.ext (Nat.div_add_mod T.val 256)
  have e := congrFun (blocks7 m c t (flush0_7 t)) (ix2 ⟨T.val % 256, by omega⟩ k)
  rw [flushed7] at e
  have e' : (dats m 0 c).arrAt 7 cfg0.N (((cfg0.win 7).blk t).view.emb (ix2 ⟨T.val % 256, by omega⟩ k)) =
    (outsAt0 m c t).2.2.2 (ix2 ⟨T.val % 256, by omega⟩ k) := e
  rw [emb7, hT, out7] at e'
  refine e'.trans ((pay9_at (band I t) (blk2 I t) (blk3 I t) _ _).trans ?_)
  show ((rau X gn W (256 * (T.val / 256) + T.val % 256) k.val : ℝ) : EReal) = _
  rw [Nat.div_add_mod]

end
end Cert.UpVal

namespace Cert.UpVal
open Cert.UpRefIdeal Cert.UpRefIdeal.Gen Idealize.ShloMosaic Idealize.ShloMosaic.TcCoe Idealize.SL.Sem
open Idealize.ShloMosaic (ix1 ix2)
open Cert.Mat Cert.Consts Cert.Algebra Cert.InVal Cert.GateVal
open Cert.Tile (At2)

/-- The reference's reciprocal roots. -/
def refR (x : FVec Ideal S8192x1024 .f32) : FVec Ideal S8192x1 .f32 :=
  Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))
/-- The reference's normalised rows. -/
def refN (x : FVec Ideal S8192x1024 .f32) (r : FVec Ideal S8192x1 .f32) (g : FVec Ideal S1024 .f32) : FVec Ideal S8192x1024 .f32 :=
  mulf (mulf x (broadcastInDim S8192x1024 ![0, 1] bcast_S8192x1_S8192x1024_0_1 r)) (broadcastInDim S8192x1024 ![0, 1] bcast_S1x1024_S8192x1024_0_1 (broadcastInDim S1x1024 ![1] bcast_S1024_S1x1024_1 g))
/-- The reference's product. -/
def refP (n : FVec Ideal S8192x1024 .f32) (w : FVec Ideal S1024x5632 .bf16) : FVec Ideal S8192x5632 .f32 :=
  Host.dotGeneral dot_S8192x1024_S1024x5632_S8192x5632_1_0_0_1_n_n none n (extf .f32 w bitsLt_bf16_f32)
/-- Its left half. -/
def refG (p : FVec Ideal S8192x5632 .f32) : FVec Ideal S8192x2816 .f32 := extractStridedSlice S8192x2816 ![0, 0] p slices_S8192x5632_S8192x2816_0_0
/-- Its right half. -/
def refU (p : FVec Ideal S8192x5632 .f32) : FVec Ideal S8192x2816 .f32 := extractStridedSlice S8192x2816 ![0, 2816] p slices_S8192x5632_S8192x2816_0_2816
/-- The reference's logistic function. -/
def refS (g : FVec Ideal S8192x2816 .f32) : FVec Ideal S8192x2816 .f32 :=
  Host.divf (broadcastInDim S8192x2816 ![] bcast_S_S8192x2816 (constant S_ .f32 0x3F800000#32)) (addf (broadcastInDim S8192x2816 ![] bcast_S_S8192x2816 (constant S_ .f32 0x3F800000#32)) (Host.exp (Host.negf g)))
/-- The reference's gate. -/
def resA (g s : FVec Ideal S8192x2816 .f32) : FVec Ideal S8192x2816 .bf16 :=
  truncf .bf16 (mulf g s) bitsLt_bf16_f32
/-- The reference's derivative of the gate times the right half. -/
def resQ (g u s : FVec Ideal S8192x2816 .f32) : FVec Ideal S8192x2816 .bf16 :=
  truncf .bf16 (addf (mulf (mulf (broadcastInDim S8192x2816 ![] bcast_S_S8192x2816 (constant S_ .f32 0x3F800000#32)) u) s) (mulf (mulf g (mulf (broadcastInDim S8192x2816 ![] bcast_S_S8192x2816 (constant S_ .f32 0x3F800000#32)) u)) (mulf s (subf (broadcastInDim S8192x2816 ![] bcast_S_S8192x2816 (constant S_ .f32 0x3F800000#32)) s)))) bitsLt_bf16_f32
/-- The reference's hidden units. -/
def resH (g u s : FVec Ideal S8192x2816 .f32) : FVec Ideal S8192x2816 .bf16 :=
  truncf .bf16 (mulf (mulf g s) u) bitsLt_bf16_f32

section
variable {x n : FVec Ideal S8192x1024 .f32} {g0 : FVec Ideal S1024 .f32} {r : FVec Ideal S8192x1 .f32} {w : FVec Ideal S1024x5632 .bf16} {p : FVec Ideal S8192x5632 .f32}
  {g u s : FVec Ideal S8192x2816 .f32} {X N W P G U : ℕ → ℕ → ℝ} {gn : ℕ → ℝ}
/-- The reciprocal roots' values. -/
theorem refR_at' (hx : At2 x X) : At2 (refR x) (fun T _ => rs X T) := Cert.InVal.refR_at hx
/-- The normalised rows' values. -/
theorem refN_at (hx : At2 x X) (hr : At2 r (fun T _ => rs X T)) (hg : ∀ i : Fin 1024, el1 g0 i = ((gn i.val : ℝ) : EReal)) : At2 (refN x r g0) (hn X gn) := by
  intro T k
  have hg' : ∀ i : Fin 1024, g0 (ix1 i) = ((gn i.val : ℝ) : EReal) := hg
  pointwise [refN]
  simp only [hx _ _, hr _ _, hg' _, ← EReal.coe_mul]
  rfl
/-- The product's values. -/
theorem refP_at (hn : At2 n N) (hw : At2 w W) : At2 (refP n w) (fun T q => ∑ k : Fin 1024, N T k.val * W k.val q) := by
  intro T k
  pointwise [refP]
  simp only [hn _ _, hw _ _, ← EReal.coe_mul, coe_sum]
/-- The left half's. -/
theorem left_at (hp : At2 p P) : At2 (refG p) P := by
  intro T k
  pointwise [refG]
  exact hp T ⟨k.val, by omega⟩
/-- The right half's. -/
theorem right_at (hp : At2 p P) : At2 (refU p) (fun T q => P T (2816 + q)) := by
  intro T k
  pointwise [refU]
  exact hp T ⟨2816 + k.val, by omega⟩
/-- The logistic function's. -/
theorem logistic_at (hg : At2 g G) : At2 (refS g) (fun T k => sg (G T k)) := by
  intro T k
  pointwise [refS]
  simp only [hg _ _, ofBits_one]
  exact sg_at _
/-- The gate's. -/
theorem resA_at (hg : At2 g G) (hs : At2 s (fun T k => sg (G T k))) : At2 (resA g s) (fun T k => sl (G T k)) := by
  intro T k
  pointwise [resA]
  simp only [hg _ _, hs _ _, ← EReal.coe_mul]
  rfl
/-- The derivative's. -/
theorem resQ_at (hg : At2 g G) (hu : At2 u U) (hs : At2 s (fun T k => sg (G T k))) : At2 (resQ g u s) (fun T k => U T k * sd (G T k)) := by
  intro T k
  pointwise [resQ]
  simp only [hg _ _, hu _ _, hs _ _, ofBits_one, ← EReal.coe_mul, ← EReal.coe_add, ← EReal.coe_sub]
  refine Cert.Ref.coe_of ?_
  unfold sd
  ring
/-- The hidden units'. -/
theorem resH_at (hg : At2 g G) (hu : At2 u U) (hs : At2 s (fun T k => sg (G T k))) : At2 (resH g u s) (fun T k => sl (G T k) * U T k) := by
  intro T k
  pointwise [resH]
  simp only [hg _ _, hu _ _, hs _ _, ← EReal.coe_mul]
  rfl
end

/-- The reference's third result as the formula above. -/
theorem ref_result (m : (ℓ : Loc nD τ sig) → Buf (Elt Ideal) ℓ) (c : Dev nD) (p : FVec Ideal S8192x5632 .f32)
    (hp : p = refP (refN (m ((c.tc : Thread nD τ).loc main_arg0)) (refR (m ((c.tc : Thread nD τ).loc main_arg0))) (m ((c.tc : Thread nD τ).loc main_arg1))) (m ((c.tc : Thread nD τ).loc main_arg2))) :
    Cert.UpRefIdeal.Value.res_main_v25 m c = resQ (refG p) (refU p) (refS (refG p)) := by
  rw [hp]
  unfold Cert.UpRefIdeal.Value.res_main_v25
  rfl
end Cert.UpVal

namespace Cert.UpVal
open Idealize.ShloMosaic Idealize.ShloMosaic.TcCoe Idealize.SL.Sem
open Idealize.ShloMosaic (ix1 ix2)
open Cert.Mat Cert.Consts Cert.Algebra Cert.Finite Cert.InVal
open Cert.Tile (At2)

/-- The shape conditions the precondition takes. -/
theorem facts : Cert.Pre_finite_up.Facts where
  bcast_S_S8192x1024 := by decide
  reducesTo_S8192x1024_S_d0_1 := by decide
  h_S_ := by decide
  bcast_S_S1024 := by decide
  reducesTo_S1024_S_d0 := by decide
  bitsLt_bf16_f32 := by decide
  bcast_S_S1024x5632 := by decide
  reducesTo_S1024x5632_S_d0_1 := by decide

open Cert.Pre_finite_up in
/-- Finite arguments have real elements. -/
theorem real_args [Cert.Pre_finite_up.Facts] (a0 : FVec Ideal S8192x1024 .f32) (a1 : FVec Ideal S1024 .f32) (a2 : FVec Ideal S1024x5632 .bf16)
    (e : Cert.Pre_finite_up.fn (F := Ideal) a0 a1 a2 = fun _ => 1#1) :
    (∀ i, ∃ r : ℝ, (a0 i : EReal) = (r : EReal)) ∧ (∀ i, ∃ r : ℝ, (a1 i : EReal) = (r : EReal)) ∧ ∀ i, ∃ r : ℝ, (a2 i : EReal) = (r : EReal) := by
  have e' := congrFun e (fun a => a.elim0)
  obtain ⟨e', h2⟩ := (andi_one _ _).mp e'
  obtain ⟨h0, h1⟩ := (andi_one _ _).mp e'
  exact ⟨real_of_all a0 _ _ _ _ h0, real_of_all a1 _ _ _ _ h1, real_of_all (extf .f32 a2 Facts.bitsLt_bf16_f32) _ _ _ _ h2⟩

/-- The two programs' results agree for finite arguments. -/
theorem algebraic : Cert.algebraic_UpIdeal_UpRefIdeal_pre_finite_up (hUpIdeal := Cert.UpIdeal.Gen.facts)
    (hUpRefIdeal := Cert.UpRefIdeal.Gen.facts) (hPre_finite_up := facts) := by
  intro m ρ m' ρ' hpre hag
  refine ⟨fun c => (Cert.UpIdeal.Gen.dats m 0 c).arrAt 4 Cert.UpIdeal.cfg0.N, fun c => (Cert.UpIdeal.Gen.dats m 0 c).arrAt 5 Cert.UpIdeal.cfg0.N,
    fun c => (Cert.UpIdeal.Gen.dats m 0 c).arrAt 6 Cert.UpIdeal.cfg0.N, fun c => (Cert.UpIdeal.Gen.dats m 0 c).arrAt 7 Cert.UpIdeal.cfg0.N,
    (θ_run _ _ _).mono ?_ (Cert.UpIdeal.Value.run_blocks m ρ), (θ_run _ _ _).mono ?_ (Cert.UpRefIdeal.Value.run m' ρ')⟩
  · intro r h c
    exact h c
  · intro r h c
    haveI := facts
    obtain ⟨h0, h1, h2⟩ := real_args _ _ _ (hpre c)
    obtain ⟨X, hx⟩ := exists_at2 (a := 8192) (b := 1024) (φ := .f32) _ h0
    obtain ⟨gn, hg⟩ := exists_at1 (a := 1024) _ h1
    obtain ⟨W, hw⟩ := exists_at2 (a := 1024) (b := 5632) (φ := .bf16) _ h2
    have I : Ins m c X gn W := ⟨hx, hg, hw⟩
    obtain ⟨e0, e1, e2⟩ := hag c
    obtain ⟨b0, b1, b2, b3, k⟩ := h c
    have N := refN_at hx (refR_at' hx) hg
    have P := refP_at N hw
    have S := logistic_at (left_at P)
    refine ⟨b0.trans ?_, b1.trans ?_, b2.trans ((ref_result m' c _ rfl).trans ?_), b3.trans ?_, k⟩
    · rw [e0, e1]
      exact eq_of_at2 (a := 8192) (b := 1024) (φ := .bf16) N (final4 I)
    · rw [e0, e1, e2]
      exact eq_of_at2 (a := 8192) (b := 2816) (φ := .bf16) (resA_at (left_at P) S) (final5 I)
    · rw [e0, e1, e2]
      exact eq_of_at2 (a := 8192) (b := 2816) (φ := .bf16) (resQ_at (left_at P) (right_at P) S) (final6 I)
    · rw [e0, e1, e2]
      exact eq_of_at2 (a := 8192) (b := 2816) (φ := .bf16) (resH_at (left_at P) (right_at P) S) (final7 I)
end Cert.UpVal
end
-- ==== Proof.MOut.lean ====
/- The projection out of the mixing: the scan's and the gated unit's outputs are normalised, laid side by side, multiplied
   with the weights and added to the stream. The kernel works on bands of rows. -/
module
public import proofs.«01_k».proof.Defs
public import proofs.«01_k».proof.Proof.Mat
public import proofs.«01_k».proof.Proof.Gen.MOut.Frame
public import proofs.«01_k».proof.Proof.Gen.MOutIdeal.Frame
public import proofs.«01_k».proof.Proof.Gen.MOutIdeal.Value
public import proofs.«01_k».proof.Proof.Gen.MOutRefIdeal.Run
public import Idealize.ShloMosaic.Lib.Pointwise
public import Idealize.ShloMosaic.Lib.Pipeline.ValueKit
public import Idealize.ShloMosaic.Lib.Pipeline.ReadBack
@[expose] public section
set_option maxRecDepth 16384
noncomputable section
namespace Cert.MOutVal
open Cert.MOutIdeal Cert.MOutIdeal.Gen Cert.MOutIdeal.Value Idealize.ShloMosaic Idealize.ShloMosaic.TcCoe Idealize.SL.Sem
open Idealize.ShloMosaic (ix1 ix2)
open Cert.Mat

/-- An element of a normalised row with the gain: the element, divided by the root of the row's mean square and a small number, times the gain. -/
def nrm (f : Fin 512 → EReal) (g : EReal) (k : Fin 512) : EReal :=
  f k * Ideal.rsqrt (Ideal.div (∑ q : Fin 512, f q * f q) (Scalar.ofBits (F := Ideal) .f32 0x44000000#32) + Scalar.ofBits (F := Ideal) .f32 0x358637BD#32) * g

/-- Two rows of 512 laid side by side. -/
def cat (f g : Fin 512 → EReal) (q : Fin 1024) : EReal := if h : q.val < 512 then f ⟨q.val, h⟩ else g ⟨q.val - 512, by omega⟩

/-- A place in the first of the two rows. -/
theorem cat_left (f g : Fin 512 → EReal) (k : Fin 512) : cat f g ⟨k.val, by omega⟩ = f k := dif_pos k.isLt
/-- A place in the second. -/
theorem cat_right (f g : Fin 512 → EReal) (k : Fin 512) : cat f g ⟨512 + k.val, by omega⟩ = g k := by
  have h : ¬ 512 + k.val < 512 := by omega
  exact (dif_neg h).trans (congrArg g (Fin.ext (Nat.add_sub_cancel_left 512 k.val)))
/-- What agrees with the two rows at their places is the rows laid side by side. -/
theorem cat_eq {y : Fin 1024 → EReal} {f g : Fin 512 → EReal} (hl : ∀ k : Fin 512, y ⟨k.val, by omega⟩ = f k)
    (hr : ∀ k : Fin 512, y ⟨512 + k.val, by omega⟩ = g k) (q : Fin 1024) : y q = cat f g q := by
  by_cases h : q.val < 512
  · exact (hl ⟨q.val, h⟩).trans (cat_left f g ⟨q.val, h⟩).symm
  · have e : (⟨512 + (q.val - 512), by omega⟩ : Fin 1024) = q := Fin.ext (by show 512 + (q.val - 512) = q.val; omega)
    have := (hr ⟨q.val - 512, by omega⟩).trans (cat_right f g ⟨q.val - 512, by omega⟩).symm
    rwa [e] at this

/-- An element of the scan's normalised band. -/
theorem pay2_at (v0 : FVec Ideal S512x512 .f32) (v11 : FVec Ideal S1x512 .f32) (r : Fin 512) (k : Fin 512) :
    el .bf16 (k0_pay2 (F := Ideal) v0 v11) r k = nrm (fun q => el .f32 v0 r q) (el .f32 v11 0 k) k := by
  pointwise [k0_pay2]
  rfl

/-- An element of the gated unit's normalised band. -/
theorem pay3_at (v0 : FVec Ideal S512x512 .f32) (v11 : FVec Ideal S1x512 .f32) (r : Fin 512) (k : Fin 512) :
    el .bf16 (k0_pay3 (F := Ideal) v0 v11) r k = nrm (fun q => el .f32 v0 r q) (el .f32 v11 0 k) k := pay2_at v0 v11 r k

/-- An element of the new stream. -/
theorem pay1_at (v34 : FVec Ideal S512x1024 .f32) (v35 : FVec Ideal S512x1024 .bf16) (v37 : FVec Ideal S1024x1024 .bf16) (r : Fin 512) (k : Fin 1024) :
    el .f32 (k0_pay1 (F := Ideal) v34 v35 v37) r k = el .f32 v34 r k + ∑ q : Fin 1024, el .bf16 v35 r q * el .bf16 v37 q k := by
  pointwise [k0_pay1]

variable (m : (ℓ : Loc nD τ sig) → Buf (Elt Ideal) ℓ) (ρ : Dev nD → PrngReg)

/-- The first half of a band's columns. -/
abbrev lo : Rect S512x1024 := Rect.unit ![0, 0] ![512, 512] inb_S512x1024_S512x512_0_0
/-- The second half. -/
abbrev hi : Rect S512x1024 := Rect.unit ![0, 512] ![512, 512] inb_S512x1024_S512x512_0_512

/-- A band's normalised rows side by side, as they are stored half by half. -/
def band (a b : FVec Ideal S512x512 .bf16) : FVec Ideal S512x1024 .bf16 :=
  View.canon (Val := Elt Ideal) (e := .bf16) [⟨hi, b⟩, ⟨lo, a⟩]

/-- A place in the second half is read from what was stored there. -/
theorem band_hi (a b : FVec Ideal S512x512 .bf16) (x : hi.shape.Idx) : band a b (hi.emb x) = b x :=
  View.canon_cons_emb (Val := Elt Ideal) (e := .bf16) hi b [⟨lo, a⟩] x
/-- A place in the first half is read from what was stored there. -/
theorem band_lo (a b : FVec Ideal S512x512 .bf16) (x : lo.shape.Idx) (h : lo.emb x ∉ hi.set) : band a b (lo.emb x) = a x :=
  (View.canon_cons_of_not_mem (Val := Elt Ideal) (e := .bf16) ⟨hi, b⟩ [⟨lo, a⟩] h).trans (View.canon_cons_emb (Val := Elt Ideal) (e := .bf16) lo a [] x)

/-- An element of them. -/
theorem band_at (a b : FVec Ideal S512x512 .bf16) (r : Fin 512) (q : Fin 1024) :
    el .bf16 (band a b) r q = cat (fun k => el .bf16 a r k) (fun k => el .bf16 b r k) q := by
  refine cat_eq (y := fun q => el .bf16 (band a b) r q) (fun k => ?_) (fun k => ?_) q
  · have e : ix2 r (⟨k.val, by omega⟩ : Fin 1024) = lo.emb (ix2 r k) := by
      funext i; apply Fin.ext
      match i with
      | ⟨0, _⟩ => show r.val = 0 + 1 * r.val; omega
      | ⟨1, _⟩ => show k.val = 0 + 1 * k.val; omega
    have n : lo.emb (ix2 r k) ∉ hi.set := by
      intro h
      obtain ⟨x, hx⟩ := hi.exists_idx_of_mem h
      have h1 : 512 + 1 * (x 1).val = 0 + 1 * k.val := congrArg (fun z => (z 1).val) hx
      omega
    exact (congrArg (band a b) e).trans (band_lo a b (ix2 r k) n)
  · have e : ix2 r (⟨512 + k.val, by omega⟩ : Fin 1024) = hi.emb (ix2 r k) := by
      funext i; apply Fin.ext
      match i with
      | ⟨0, _⟩ => show r.val = 0 + 1 * r.val; omega
      | ⟨1, _⟩ => show 512 + k.val = 512 + 1 * k.val; omega
    exact (congrArg (band a b) e).trans (band_hi a b (ix2 r k))

/-- What a grid point stores: the normalised rows. -/
theorem out6 (c : Dev nD) (t : Fin cfg0.N) : (outsAt0 m c t).1 =
    band (k0_pay2 (F := Ideal) (iblk m c 0 t) (iblk m c 2 t)) (k0_pay3 (F := Ideal) (iblk m c 1 t) (iblk m c 3 t)) := by
  unfold outsAt0
  frame_open
  simp (disch := first | decide +kernel | (intro a; fin_cases a <;> rfl)) only [↓View.readCov_cons_toLoadRect, ↓View.readCov_skip, ↓View.readCov_fill]
  frame_out

/-- Reading the whole band. -/
theorem whole (j : S512x1024.Idx) : (Rect.unit (s := S512x1024) ![0, 0] ![512, 1024] inb_S512x1024_S512x1024_0_0).toLoadRect.idx j = j := by
  funext i; apply Fin.ext
  match i with
  | ⟨0, _⟩ => show 0 + 1 * (j 0).val = (j 0).val; omega
  | ⟨1, _⟩ => show 0 + 1 * (j 1).val = (j 1).val; omega

/-- What a grid point stores: the stream. -/
theorem out7 (c : Dev nD) (t : Fin cfg0.N) : (outsAt0 m c t).2 =
    k0_pay1 (F := Ideal) (iblk m c 5 t) (band (k0_pay2 (F := Ideal) (iblk m c 0 t) (iblk m c 2 t)) (k0_pay3 (F := Ideal) (iblk m c 1 t) (iblk m c 3 t)))
      (iblk m c 4 t) := by
  unfold outsAt0
  frame_open
  simp (disch := first | decide +kernel | (intro a; fin_cases a <;> rfl)) only [↓View.readCov_cons_toLoadRect, ↓View.readCov_skip, ↓View.readCov_fill]
  frame_out
  rw [View.readCov_eq_canon']
  exact congrArg (fun y => k0_pay1 (F := Ideal) (iblk m c 5 t) y (iblk m c 4 t)) (funext fun j => congrArg _ (whole j))

/-- Which blocks a grid point reads and writes. -/
theorem idx : ∀ t : Fin cfg0.N, (win0_0.index t (0 : Fin 2) = t.val ∧ win0_0.index t (1 : Fin 2) = 0) ∧
    (win0_1.index t (0 : Fin 2) = t.val ∧ win0_1.index t (1 : Fin 2) = 0) ∧
    (win0_2.index t (0 : Fin 2) = 0 ∧ win0_2.index t (1 : Fin 2) = 0) ∧
    (win0_3.index t (0 : Fin 2) = 0 ∧ win0_3.index t (1 : Fin 2) = 0) ∧
    (win0_4.index t (0 : Fin 2) = 0 ∧ win0_4.index t (1 : Fin 2) = 0) ∧
    (win0_5.index t (0 : Fin 2) = t.val ∧ win0_5.index t (1 : Fin 2) = 0) ∧
    (win0_6.index t (0 : Fin 2) = t.val ∧ win0_6.index t (1 : Fin 2) = 0) ∧
    (win0_7.index t (0 : Fin 2) = t.val ∧ win0_7.index t (1 : Fin 2) = 0) := (by decide +kernel : ∀ t : Fin grid0.N, _)

/-- A row of a band is a row of the array. -/
theorem row_lt (t : Fin cfg0.N) (r : Fin 512) : 512 * t.val + r.val < 8192 := by
  have h : t.val < 16 := t.isLt
  omega

/-- Where an element of window 0 lies in the array. -/
theorem emb0 (t : Fin cfg0.N) (r : Fin 512) (k : Fin 512) :
    ((cfg0.win 0).blk t).view.emb (ix2 r k) = ix2 (n0 := 8192) (n1 := 512) ⟨512 * t.val + r.val, row_lt t r⟩ k := by
  obtain ⟨⟨e0, e1⟩, -⟩ := idx t
  funext a; apply Fin.ext
  match a with
  | ⟨0, _⟩ => show win0_0.index t (0 : Fin 2) * 512 + 1 * r.val = 512 * t.val + r.val; rw [e0]; omega
  | ⟨1, _⟩ => show win0_0.index t (1 : Fin 2) * 512 + 1 * k.val = k.val; rw [e1]; omega
/-- Where an element of window 1 lies in the array. -/
theorem emb1 (t : Fin cfg0.N) (r : Fin 512) (k : Fin 512) :
    ((cfg0.win 1).blk t).view.emb (ix2 r k) = ix2 (n0 := 8192) (n1 := 512) ⟨512 * t.val + r.val, row_lt t r⟩ k := by
  obtain ⟨-, ⟨e0, e1⟩, -⟩ := idx t
  funext a; apply Fin.ext
  match a with
  | ⟨0, _⟩ => show win0_1.index t (0 : Fin 2) * 512 + 1 * r.val = 512 * t.val + r.val; rw [e0]; omega
  | ⟨1, _⟩ => show win0_1.index t (1 : Fin 2) * 512 + 1 * k.val = k.val; rw [e1]; omega
/-- Where an element of window 2 lies in the array. -/
theorem emb2 (t : Fin cfg0.N) (r : Fin 1) (k : Fin 512) :
    ((cfg0.win 2).blk t).view.emb (ix2 r k) = ix2 (n0 := 1) (n1 := 512) r k := by
  obtain ⟨-, -, ⟨e0, e1⟩, -⟩ := idx t
  funext a; apply Fin.ext
  match a with
  | ⟨0, _⟩ => show win0_2.index t (0 : Fin 2) * 1 + 1 * r.val = r.val; rw [e0]; omega
  | ⟨1, _⟩ => show win0_2.index t (1 : Fin 2) * 512 + 1 * k.val = k.val; rw [e1]; omega
/-- Where an element of window 3 lies in the array. -/
theorem emb3 (t : Fin cfg0.N) (r : Fin 1) (k : Fin 512) :
    ((cfg0.win 3).blk t).view.emb (ix2 r k) = ix2 (n0 := 1) (n1 := 512) r k := by
  obtain ⟨-, -, -, ⟨e0, e1⟩, -⟩ := idx t
  funext a; apply Fin.ext
  match a with
  | ⟨0, _⟩ => show win0_3.index t (0 : Fin 2) * 1 + 1 * r.val = r.val; rw [e0]; omega
  | ⟨1, _⟩ => show win0_3.index t (1 : Fin 2) * 512 + 1 * k.val = k.val; rw [e1]; omega
/-- Where an element of window 4 lies in the array. -/
theorem emb4 (t : Fin cfg0.N) (r : Fin 1024) (k : Fin 1024) :
    ((cfg0.win 4).blk t).view.emb (ix2 r k) = ix2 (n0 := 1024) (n1 := 1024) r k := by
  obtain ⟨-, -, -, -, ⟨e0, e1⟩, -⟩ := idx t
  funext a; apply Fin.ext
  match a with
  | ⟨0, _⟩ => show win0_4.index t (0 : Fin 2) * 1024 + 1 * r.val = r.val; rw [e0]; omega
  | ⟨1, _⟩ => show win0_4.index t (1 : Fin 2) * 1024 + 1 * k.val = k.val; rw [e1]; omega
/-- Where an element of window 5 lies in the array. -/
theorem emb5 (t : Fin cfg0.N) (r : Fin 512) (k : Fin 1024) :
    ((cfg0.win 5).blk t).view.emb (ix2 r k) = ix2 (n0 := 8192) (n1 := 1024) ⟨512 * t.val + r.val, row_lt t r⟩ k := by
  obtain ⟨-, -, -, -, -, ⟨e0, e1⟩, -⟩ := idx t
  funext a; apply Fin.ext
  match a with
  | ⟨0, _⟩ => show win0_5.index t (0 : Fin 2) * 512 + 1 * r.val = 512 * t.val + r.val; rw [e0]; omega
  | ⟨1, _⟩ => show win0_5.index t (1 : Fin 2) * 1024 + 1 * k.val = k.val; rw [e1]; omega
/-- Where an element of window 6 lies in the array. -/
theorem emb6 (t : Fin cfg0.N) (r : Fin 512) (k : Fin 1024) :
    ((cfg0.win 6).blk t).view.emb (ix2 r k) = ix2 (n0 := 8192) (n1 := 1024) ⟨512 * t.val + r.val, row_lt t r⟩ k := by
  obtain ⟨-, -, -, -, -, -, ⟨e0, e1⟩, -⟩ := idx t
  funext a; apply Fin.ext
  match a with
  | ⟨0, _⟩ => show win0_6.index t (0 : Fin 2) * 512 + 1 * r.val = 512 * t.val + r.val; rw [e0]; omega
  | ⟨1, _⟩ => show win0_6.index t (1 : Fin 2) * 1024 + 1 * k.val = k.val; rw [e1]; omega
/-- Where an element of window 7 lies in the array. -/
theorem emb7 (t : Fin cfg0.N) (r : Fin 512) (k : Fin 1024) :
    ((cfg0.win 7).blk t).view.emb (ix2 r k) = ix2 (n0 := 8192) (n1 := 1024) ⟨512 * t.val + r.val, row_lt t r⟩ k := by
  obtain ⟨-, -, -, -, -, -, -, ⟨e0, e1⟩⟩ := idx t
  funext a; apply Fin.ext
  match a with
  | ⟨0, _⟩ => show win0_7.index t (0 : Fin 2) * 512 + 1 * r.val = 512 * t.val + r.val; rw [e0]; omega
  | ⟨1, _⟩ => show win0_7.index t (1 : Fin 2) * 1024 + 1 * k.val = k.val; rw [e1]; omega

section
variable (c : Dev nD) (t : Fin cfg0.N)

/-- An element of the scan's band. -/
theorem blk0 (r : Fin 512) (k : Fin 512) : el .f32 (iblk m c 0 t) r k =
    el (a := 8192) (b := 512) .f32 (m ((c : Thread nD τ).loc main_arg0)) ⟨512 * t.val + r.val, row_lt t r⟩ k := by
  show V m c main_arg0 (((cfg0.win 0).blk t).view.emb (ix2 r k)) = _
  rw [emb0, V_main_arg0]
/-- An element of the gated unit's band. -/
theorem blk1 (r : Fin 512) (k : Fin 512) : el .f32 (iblk m c 1 t) r k =
    el (a := 8192) (b := 512) .f32 (m ((c : Thread nD τ).loc main_arg1)) ⟨512 * t.val + r.val, row_lt t r⟩ k := by
  show V m c main_arg1 (((cfg0.win 1).blk t).view.emb (ix2 r k)) = _
  rw [emb1, V_main_arg1]
/-- An element of the scan's gain. -/
theorem blk2 (k : Fin 512) : el (a := 1) (b := 512) .f32 (iblk m c 2 t) 0 k = m ((c : Thread nD τ).loc main_arg2) (ix1 k) := by
  have e : V m c main_v0 = shapeCast S1x512 (m ((c : Thread nD τ).loc main_arg2)) shapeCasts_S512_S1x512 := by
    show StableHlo.after hostOps0 _ main_v0 = _
    after_results
    rfl
  show V m c main_v0 (((cfg0.win 2).blk t).view.emb (ix2 0 k)) = _
  rw [emb2, e]
  pointwise
/-- An element of the gated unit's gain. -/
theorem blk3 (k : Fin 512) : el (a := 1) (b := 512) .f32 (iblk m c 3 t) 0 k = m ((c : Thread nD τ).loc main_arg3) (ix1 k) := by
  have e : V m c main_v1 = shapeCast S1x512 (m ((c : Thread nD τ).loc main_arg3)) shapeCasts_S512_S1x512 := by
    show StableHlo.after hostOps0 _ main_v1 = _
    after_results
    rfl
  show V m c main_v1 (((cfg0.win 3).blk t).view.emb (ix2 0 k)) = _
  rw [emb3, e]
  pointwise
/-- An element of the weights. -/
theorem blk4 (r : Fin 1024) (k : Fin 1024) : el .bf16 (iblk m c 4 t) r k = el (a := 1024) (b := 1024) .bf16 (m ((c : Thread nD τ).loc main_arg4)) r k := by
  show V m c main_arg4 (((cfg0.win 4).blk t).view.emb (ix2 r k)) = _
  rw [emb4, V_main_arg4]
/-- An element of the stream's band. -/
theorem blk5 (r : Fin 512) (k : Fin 1024) : el .f32 (iblk m c 5 t) r k =
    el (a := 8192) (b := 1024) .f32 (m ((c : Thread nD τ).loc main_arg5)) ⟨512 * t.val + r.val, row_lt t r⟩ k := by
  show V m c main_arg5 (((cfg0.win 5).blk t).view.emb (ix2 r k)) = _
  rw [emb5, V_main_arg5]
end

/-- An element of the normalised rows side by side, from the arguments. -/
def yc (a0 a1 : FVec Ideal S8192x512 .f32) (a2 a3 : FVec Ideal S512 .f32) (T : Fin 8192) (q : Fin 1024) : EReal :=
  cat (fun k => nrm (fun j => el .f32 a0 T j) (a2 (ix1 k)) k) (fun k => nrm (fun j => el .f32 a1 T j) (a3 (ix1 k)) k) q

/-- An element of the new stream, from the arguments. -/
def st (a0 a1 : FVec Ideal S8192x512 .f32) (a2 a3 : FVec Ideal S512 .f32) (a4 : FVec Ideal S1024x1024 .bf16) (a5 : FVec Ideal S8192x1024 .f32)
    (T : Fin 8192) (k : Fin 1024) : EReal := el .f32 a5 T k + ∑ q : Fin 1024, yc a0 a1 a2 a3 T q * el .bf16 a4 q k

/-- An element of a band's normalised rows. -/
theorem band_yc (c : Dev nD) (t : Fin cfg0.N) (r : Fin 512) (q : Fin 1024) :
    el .bf16 (band (k0_pay2 (F := Ideal) (iblk m c 0 t) (iblk m c 2 t)) (k0_pay3 (F := Ideal) (iblk m c 1 t) (iblk m c 3 t))) r q =
    yc (m ((c : Thread nD τ).loc main_arg0)) (m ((c : Thread nD τ).loc main_arg1)) (m ((c : Thread nD τ).loc main_arg2)) (m ((c : Thread nD τ).loc main_arg3))
      ⟨512 * t.val + r.val, row_lt t r⟩ q := by
  rw [band_at, yc]
  simp only [pay2_at, pay3_at, blk0, blk1, blk2, blk3]

/-- The array of normalised rows that the kernel leaves. -/
theorem final6 (c : Dev nD) (T : Fin 8192) (k : Fin 1024) : el (a := 8192) (b := 1024) .bf16 ((dats m 0 c).arrAt 6 cfg0.N) T k =
    yc (m ((c : Thread nD τ).loc main_arg0)) (m ((c : Thread nD τ).loc main_arg1)) (m ((c : Thread nD τ).loc main_arg2)) (m ((c : Thread nD τ).loc main_arg3)) T k := by
  have ht : T.val / 512 < 16 := by omega
  let t : Fin cfg0.N := (⟨T.val / 512, ht⟩ : Fin 16)
  have hT : (⟨512 * t.val + T.val % 512, row_lt t ⟨T.val % 512, by omega⟩⟩ : Fin 8192) = T := Fin.ext (Nat.div_add_mod T.val 512)
  have e := congrFun (blocks6 m c t (flush0_6 t)) (ix2 ⟨T.val % 512, by omega⟩ k)
  rw [flushed6] at e
  have e' : (dats m 0 c).arrAt 6 cfg0.N (((cfg0.win 6).blk t).view.emb (ix2 ⟨T.val % 512, by omega⟩ k)) =
    (outsAt0 m c t).1 (ix2 ⟨T.val % 512, by omega⟩ k) := e
  rw [emb6, hT, out6] at e'
  refine e'.trans ((band_yc m c t _ k).trans ?_)
  rw [hT]

/-- The stream that the kernel leaves. -/
theorem final7 (c : Dev nD) (T : Fin 8192) (k : Fin 1024) : el (a := 8192) (b := 1024) .f32 ((dats m 0 c).arrAt 7 cfg0.N) T k =
    st (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) T k := by
  have ht : T.val / 512 < 16 := by omega
  let t : Fin cfg0.N := (⟨T.val / 512, ht⟩ : Fin 16)
  have hT : (⟨512 * t.val + T.val % 512, row_lt t ⟨T.val % 512, by omega⟩⟩ : Fin 8192) = T := Fin.ext (Nat.div_add_mod T.val 512)
  have e := congrFun (blocks7 m c t (flush0_7 t)) (ix2 ⟨T.val % 512, by omega⟩ k)
  rw [flushed7] at e
  have e' : (dats m 0 c).arrAt 7 cfg0.N (((cfg0.win 7).blk t).view.emb (ix2 ⟨T.val % 512, by omega⟩ k)) =
    (outsAt0 m c t).2 (ix2 ⟨T.val % 512, by omega⟩ k) := e
  rw [emb7, hT, out7] at e'
  refine e'.trans ((pay1_at _ _ _ _ k).trans ?_)
  simp only [band_yc, blk4, blk5, hT, st]

end Cert.MOutVal

namespace Cert.MOutVal
open Cert.MOutRefIdeal Cert.MOutRefIdeal.Gen Idealize.ShloMosaic Idealize.ShloMosaic.TcCoe
open Idealize.ShloMosaic (ix1 ix2)
open Cert.Mat

/-- The reference's normalised rows with the gain. -/
def refN (x : FVec Ideal S8192x512 .f32) (g : FVec Ideal S512 .f32) : FVec Ideal S8192x512 .f32 :=
  mulf (mulf x (broadcastInDim S8192x512 ![0, 1] bcast_S8192x1_S8192x512_0_1 (Host.rsqrt (addf (Host.divf (broadcastInDim S8192x1 ![0] bcast_S8192_S8192x1_0 (Host.reduceAdd (mulf x x) (constant S_ .f32 0x00000000#32) reducesTo_S8192x512_S8192_d1 h_S_)) (broadcastInDim S8192x1 ![] bcast_S_S8192x1 (constant S_ .f32 0x44000000#32))) (broadcastInDim S8192x1 ![] bcast_S_S8192x1 (constant S_ .f32 0x358637BD#32)))))) (broadcastInDim S8192x512 ![0, 1] bcast_S1x512_S8192x512_0_1 (broadcastInDim S1x512 ![1] bcast_S512_S1x512_1 g))
/-- Both side by side. -/
def refY (a b : FVec Ideal S8192x512 .f32) : FVec Ideal S8192x1024 .f32 :=
  concatenate S8192x1024 1 [⟨S8192x512, a⟩, ⟨S8192x512, b⟩] concatenates_S8192x512_S8192x512_S8192x1024_d1
/-- The reference's stream. -/
def refS (y : FVec Ideal S8192x1024 .f32) (w : FVec Ideal S1024x1024 .bf16) (x : FVec Ideal S8192x1024 .f32) : FVec Ideal S8192x1024 .f32 :=
  addf x (Host.dotGeneral dot_S8192x1024_S1024x1024_S8192x1024_1_0_0_1_n_n none y (extf .f32 w bitsLt_bf16_f32))

/-- An element of the reference's normalised rows. -/
theorem refN_at (x : FVec Ideal S8192x512 .f32) (g : FVec Ideal S512 .f32) (T : Fin 8192) (k : Fin 512) :
    el .f32 (refN x g) T k = nrm (fun j => el .f32 x T j) (g (ix1 k)) k := by
  pointwise [refN]
  rfl
/-- An element of both side by side. -/
theorem refY_at (a b : FVec Ideal S8192x512 .f32) (T : Fin 8192) (q : Fin 1024) :
    el .f32 (refY a b) T q = cat (fun k => el .f32 a T k) (fun k => el .f32 b T k) q := by
  refine cat_eq (y := fun q => el .f32 (refY a b) T q) (fun k => ?_) (fun k => ?_) q
  · show refY a b (ix2 T _) = _
    pointwise [refY]
  · show refY a b (ix2 T _) = _
    pointwise [refY]
/-- An element of the reference's stream. -/
theorem refS_at (y : FVec Ideal S8192x1024 .f32) (w : FVec Ideal S1024x1024 .bf16) (x : FVec Ideal S8192x1024 .f32) (T : Fin 8192) (k : Fin 1024) :
    el .f32 (refS y w x) T k = el .f32 x T k + ∑ q : Fin 1024, el .f32 y T q * el .bf16 w q k := by
  pointwise [refS]

/-- The two programs leave the same arrays. -/
theorem algebraic : Cert.algebraic_MOutIdeal_MOutRefIdeal (hMOutIdeal := Cert.MOutIdeal.Gen.facts) (hMOutRefIdeal := Cert.MOutRefIdeal.Gen.facts) := by
  intro m ρ m' ρ' _ hag
  refine ⟨_, _, Cert.MOutIdeal.Value.run_blocks m ρ, (θ_run _ _ _).mono ?_ (Cert.MOutRefIdeal.Value.run m' ρ')⟩
  intro r h c
  obtain ⟨b6, b7, k⟩ := h c
  obtain ⟨e0, e1, e2, e3, e4, e5⟩ := hag c
  refine ⟨b6.trans ?_, b7.trans ?_, k⟩
  · rw [e0, e1, e2, e3]
    refine ext (a := 8192) (b := 1024) (φ := .bf16) fun T q => Eq.trans ?_ (final6 m c T q).symm
    refine (refY_at (refN _ _) (refN _ _) T q).trans ?_
    simp only [refN_at, yc]
  · rw [e0, e1, e2, e3, e4, e5]
    refine ext (a := 8192) (b := 1024) (φ := .f32) fun T q => Eq.trans ?_ (final7 m c T q).symm
    refine (refS_at (refY (refN _ _) (refN _ _)) _ _ T q).trans ?_
    simp only [refY_at, refN_at, yc, st]

end Cert.MOutVal
end
-- ==== Proof.MWOut.lean ====
/- The gradient of the weights of the projection out of the mixing: the kernel adds up four blocks of rows, the reference
   takes one product over all rows. -/
module
public import proofs.«01_k».proof.Defs
public import proofs.«01_k».proof.Proof.Mat
public import proofs.«01_k».proof.Proof.Gen.MWOut.Frame
public import proofs.«01_k».proof.Proof.Gen.MWOutIdeal.Frame
public import proofs.«01_k».proof.Proof.Gen.MWOutIdeal.Value
public import proofs.«01_k».proof.Proof.Gen.MWOutRefIdeal.Run
public import Idealize.ShloMosaic.Lib.Pointwise
public import Idealize.ShloMosaic.Lib.Pipeline.ValueKit
public import Idealize.ShloMosaic.Lib.Pipeline.ReadBack
@[expose] public section
set_option maxRecDepth 16384
noncomputable section
namespace Cert.MWOutVal
open Cert.MWOutIdeal Cert.MWOutIdeal.Gen Cert.MWOutIdeal.Value Idealize.ShloMosaic Idealize.ShloMosaic.TcCoe Idealize.SL.Sem
open Idealize.ShloMosaic (ix1 ix2)
open Cert.Mat

/-- An element of a block's product. -/
theorem pay2_at (v0 : FVec Ideal S2048x1024 .bf16) (v1 : FVec Ideal S2048x1024 .f32) (r : Fin 1024) (k : Fin 1024) :
    el .f32 (k0_pay2 (F := Ideal) v0 v1) r k = ∑ q : Fin 2048, el .bf16 v0 q r * el .f32 v1 q k := by
  show k0_pay2 (F := Ideal) v0 v1 (ix2 r k) = _
  pointwise [k0_pay2, k0_pay1]
/-- An element of what is stored after a block's product was added. -/
theorem pay3_at (v0 : FVec Ideal S2048x1024 .bf16) (v1 : FVec Ideal S2048x1024 .f32) (v : FVec Ideal S1024x1024 .f32) (r : Fin 1024) (k : Fin 1024) :
    el .f32 (k0_pay3 (F := Ideal) v0 v1 v) r k = el .f32 v r k + ∑ q : Fin 2048, el .bf16 v0 q r * el .f32 v1 q k := by
  show k0_pay3 (F := Ideal) v0 v1 v (ix2 r k) = _
  pointwise [k0_pay3, k0_pay1]

variable (m : (ℓ : Loc nD τ sig) → Buf (Elt Ideal) ℓ) (ρ : Dev nD → PrngReg)

/-- The number of grid points. -/
theorem lt_points (t : Fin cfg0.N) : t.val < 4 := t.isLt

/-- The first block of rows starts the sum. -/
theorem scrA (c : Dev nD) (t : Fin cfg0.N) (h0 : t.val % 4 = 0) :
    (outsAt0 m c t.val t.isLt).2 = k0_pay2 (F := Ideal) (iblk m c 0 t) (iblk m c 1 t) := by
  have ht := lt_points t
  rw [outsAt0_A m c t h0 (by omega) (by omega)]
  frame_open
  simp (disch := first | decide +kernel | (intro a; fin_cases a <;> rfl)) only [↓View.readCov_cons_toLoadRect, ↓View.readCov_skip, ↓View.readCov_fill]
  frame_out
/-- A later one is added. -/
theorem scrB (c : Dev nD) (t : Fin cfg0.N) (h0 : ¬t.val % 4 = 0) (h2 : ¬t.val % 4 = 3) :
    (outsAt0 m c t.val t.isLt).2 = k0_pay3 (F := Ideal) (iblk m c 0 t) (iblk m c 1 t)
      (outsAt0 m c (t.val - 1) (Nat.lt_of_le_of_lt (Nat.sub_le _ _) t.isLt)).2 := by
  rw [outsAt0_B m c t h0 (by omega) h2]
  frame_open
  simp (disch := first | decide +kernel | (intro a; fin_cases a <;> rfl)) only [↓View.readCov_cons_toLoadRect, ↓View.readCov_skip, ↓View.readCov_fill]
  frame_out
  rw [read_unread_whole]
/-- After the last one the sum is the result. -/
theorem outC (c : Dev nD) (t : Fin cfg0.N) (h0 : ¬t.val % 4 = 0) (h2 : t.val % 4 = 3) :
    (outsAt0 m c t.val t.isLt).1 = k0_pay3 (F := Ideal) (iblk m c 0 t) (iblk m c 1 t)
      (outsAt0 m c (t.val - 1) (Nat.lt_of_le_of_lt (Nat.sub_le _ _) t.isLt)).2 := by
  rw [outsAt0_C m c t h0 (by omega) h2]
  frame_open
  simp (disch := first | decide +kernel | (intro a; fin_cases a <;> rfl)) only [↓View.readCov_cons_toLoadRect, ↓View.readCov_skip, ↓View.readCov_fill]
  frame_out
  rw [read_unread_whole]

/-- Which blocks a grid point reads and writes. -/
theorem idx : ∀ t : Fin cfg0.N, (win0_0.index t (0 : Fin 2) = t.val % 4 ∧ win0_0.index t (1 : Fin 2) = 0) ∧
    (win0_1.index t (0 : Fin 2) = t.val % 4 ∧ win0_1.index t (1 : Fin 2) = t.val / 4) ∧
    (win0_2.index t (0 : Fin 2) = 0 ∧ win0_2.index t (1 : Fin 2) = t.val / 4 + 0) := (by decide +kernel : ∀ t : Fin grid0.N, _)

/-- A block's element of the first factor in the array. -/
theorem blk0 (c : Dev nD) (t : Fin cfg0.N) (q : Fin 2048) (r : Fin 1024) :
    el .bf16 (iblk m c 0 t) q r = en (a := 8192) (b := 1024) .bf16 (m ((c : Thread nD τ).loc main_arg0)) (2048 * (t.val % 4) + q.val) r.val := by
  obtain ⟨⟨e0, e1⟩, -, -⟩ := idx t
  have ht := lt_points t
  rw [en_lt _ (by omega) (by omega)]
  have : ((cfg0.win 0).blk t).view.emb (ix2 q r) = ix2 (⟨2048 * (t.val % 4) + q.val, by omega⟩ : Fin 8192) r := by
    funext a; apply Fin.ext
    match a with
    | ⟨0, _⟩ => show win0_0.index t (0 : Fin 2) * 2048 + 1 * q.val = _; rw [e0]; show _ = 2048 * (t.val % 4) + q.val; omega
    | ⟨1, _⟩ => show win0_0.index t (1 : Fin 2) * 1024 + 1 * r.val = r.val; rw [e1]; omega
  show V m c main_arg0 (((cfg0.win 0).blk t).view.emb (ix2 q r)) = _
  rw [this]
/-- A block's element of the second factor in the array. -/
theorem blk1 (c : Dev nD) (t : Fin cfg0.N) (q : Fin 2048) (k : Fin 1024) :
    el .f32 (iblk m c 1 t) q k = en (a := 8192) (b := 1024) .f32 (m ((c : Thread nD τ).loc main_arg1)) (2048 * (t.val % 4) + q.val) (1024 * (t.val / 4) + k.val) := by
  obtain ⟨-, ⟨e0, e1⟩, -⟩ := idx t
  have ht := lt_points t
  rw [en_lt _ (by omega) (by omega)]
  have : ((cfg0.win 1).blk t).view.emb (ix2 q k) = ix2 (⟨2048 * (t.val % 4) + q.val, by omega⟩ : Fin 8192) (⟨1024 * (t.val / 4) + k.val, by omega⟩ : Fin 1024) := by
    funext a; apply Fin.ext
    match a with
    | ⟨0, _⟩ => show win0_1.index t (0 : Fin 2) * 2048 + 1 * q.val = _; rw [e0]; show _ = 2048 * (t.val % 4) + q.val; omega
    | ⟨1, _⟩ => show win0_1.index t (1 : Fin 2) * 1024 + 1 * k.val = _; rw [e1]; show _ = 1024 * (t.val / 4) + k.val; omega
  show V m c main_arg1 (((cfg0.win 1).blk t).view.emb (ix2 q k)) = _
  rw [this]
/-- A block's element of the result in the array. -/
theorem emb2 (t : Fin cfg0.N) (r : Fin 1024) (k : Fin 1024) (h : 1024 * (t.val / 4 + 0) + k.val < 1024) :
    ((cfg0.win 2).blk t).view.emb (ix2 r k) = ix2 r (⟨1024 * (t.val / 4 + 0) + k.val, h⟩ : Fin 1024) := by
  obtain ⟨-, -, e0, e1⟩ := idx t
  funext a; apply Fin.ext
  match a with
  | ⟨0, _⟩ => show win0_2.index t (0 : Fin 2) * 1024 + 1 * r.val = r.val; rw [e0]; omega
  | ⟨1, _⟩ => show win0_2.index t (1 : Fin 2) * 1024 + 1 * k.val = _; rw [e1]; show _ = 1024 * (t.val / 4 + 0) + k.val; omega

/-- One term of the product's sum over the rows. -/
def term (c : Dev nD) (r k x : ℕ) : EReal :=
  en (a := 8192) (b := 1024) .bf16 (m ((c : Thread nD τ).loc main_arg0)) x r * en (a := 8192) (b := 1024) .f32 (m ((c : Thread nD τ).loc main_arg1)) x k

/-- What the running sum holds at a grid point, before the last block of rows. -/
theorem scr (c : Dev nD) (n : ℕ) : ∀ (hn : n < cfg0.N), ¬ n % 4 = 3 → ∀ (r : Fin 1024) (k : Fin 1024), el .f32 (outsAt0 m c n hn).2 r k =
    ∑ i ∈ Finset.range (n % 4 + 1), ∑ q : Fin 2048, term m c r.val (1024 * (n / 4) + k.val) (2048 * i + q.val) := by
  induction n with
  | zero =>
    intro hn _ r k
    refine (congrFun (scrA m c ⟨0, hn⟩ rfl) (ix2 r k)).trans ((pay2_at _ _ r k).trans ?_)
    simp only [blk0, blk1]
    simp [term]
  | succ n ih =>
    intro hn h3 r k
    by_cases h0 : (n + 1) % 4 = 0
    · refine (congrFun (scrA m c ⟨n + 1, hn⟩ h0) (ix2 r k)).trans ((pay2_at _ _ r k).trans ?_)
      simp only [blk0, blk1, h0, zero_add, Finset.sum_range_one]
      rfl
    · refine (congrFun (scrB m c ⟨n + 1, hn⟩ h0 h3) (ix2 r k)).trans ((pay3_at _ _ _ r k).trans ?_)
      have e := ih (Nat.lt_of_succ_lt hn) (by omega) r k
      have h1 : n % 4 + 1 = (n + 1) % 4 := by omega
      have h2 : n / 4 = (n + 1) / 4 := by omega
      rw [h1, h2] at e
      rw [Finset.sum_range_succ]
      exact congrArg₂ (· + ·) e (by simp only [blk0, blk1]; rfl)

/-- The result at a grid point that writes it. -/
theorem out_at (c : Dev nD) (t : Fin cfg0.N) (h3 : t.val % 4 = 3) (r : Fin 1024) (k : Fin 1024) :
    el .f32 (outsAt0 m c t.val t.isLt).1 r k = ∑ x ∈ Finset.range 8192, term m c r.val (1024 * (t.val / 4) + k.val) x := by
  refine (congrFun (outC m c t (by omega) h3) (ix2 r k)).trans ((pay3_at _ _ _ r k).trans ?_)
  rw [scr m c _ _ (by omega)]
  have h1 : (t.val - 1) % 4 + 1 = 3 := by omega
  have h2 : (t.val - 1) / 4 = t.val / 4 := by omega
  rw [h1, h2, ← sum_blocks 2048 _ 4, Finset.sum_range_succ _ 3]
  simp only [blk0, blk1, h3]
  rfl

/-- The kernel's result as one formula. -/
def fin (c : Dev nD) : FVec Ideal S1024x1024 .f32 := fun i => ∑ x ∈ Finset.range 8192, term m c (i 0).val (i 1).val x

/-- What a grid point writes of it. -/
theorem flushed_fin (c : Dev nD) (t : Fin cfg0.N) (hf : (cfg0.win 2).flush t = true) :
    (dats m 0 c).flushed 2 t = ((cfg0.win 2).blk t).view.read (Elt Ideal) (fin m c) := by
  have h3 : t.val % 4 = 3 := (flush0_2 t).mp hf
  have ht := lt_points t
  rw [flushed2]
  funext y
  rw [← ix2_eta (n0 := 1024) (n1 := 1024) y]
  have hk : (y 1).val < 1024 := (y 1).isLt
  refine (out_at m c t h3 (y 0) (y 1)).trans ?_
  show _ = fin m c (((cfg0.win 2).blk t).view.emb (ix2 (y 0) (y 1)))
  rw [emb2 t (y 0) (y 1) (by omega)]
  rfl

/-- Every element of these columns is written. -/
theorem covered (r : Fin 1024) (k : Fin 1024) :
    ∃ t : Fin cfg0.N, (cfg0.win 2).flush t = true ∧ ix2 r k ∈ ((cfg0.win 2).blk t).view.set := by
  have hb : 4 * (k.val / 1024 - 0) + 3 < 4 := by omega
  refine ⟨(⟨4 * (k.val / 1024 - 0) + 3, hb⟩ : Fin 4), (flush0_2 _).mpr (by show (4 * (k.val / 1024 - 0) + 3) % 4 = 3; omega), ?_⟩
  have e := emb2 (⟨4 * (k.val / 1024 - 0) + 3, hb⟩ : Fin 4) r ⟨k.val % 1024, by omega⟩
    (by show 1024 * ((4 * (k.val / 1024 - 0) + 3) / 4 + 0) + k.val % 1024 < 1024; omega)
  have e' : ix2 r k = ix2 r (⟨1024 * ((4 * (k.val / 1024 - 0) + 3) / 4 + 0) + k.val % 1024, by omega⟩ : Fin 1024) := by
    congr 1; apply Fin.ext
    show k.val = 1024 * ((4 * (k.val / 1024 - 0) + 3) / 4 + 0) + k.val % 1024; omega
  rw [e']
  exact e ▸ View.emb_mem_set _ _

/-- The kernel leaves it. -/
theorem final (c : Dev nD) : (dats m 0 c).arrAt 2 cfg0.N = fin m c := by
  funext i
  refine ((dats m 0 c).arrAt_eq_piecewise 2 (fin m c) (flushed_fin m c) i).trans ?_
  have := covered (i 0) (i 1)
  rw [ix2_eta (n0 := 1024) (n1 := 1024) i] at this
  exact if_pos this

/-- The two programs leave the same array. -/
theorem algebraic : Cert.algebraic_MWOutIdeal_MWOutRefIdeal (hMWOutIdeal := Cert.MWOutIdeal.Gen.facts) (hMWOutRefIdeal := Cert.MWOutRefIdeal.Gen.facts) := by
  intro m ρ m' ρ' _ hag
  refine ⟨fun c => (dats m 0 c).arrAt 2 cfg0.N, run_blocks m ρ, (θ_run _ _ _).mono ?_ (Cert.MWOutRefIdeal.Value.run m' ρ')⟩
  intro r h c
  obtain ⟨b, k⟩ := h c
  obtain ⟨e0, e1⟩ := hag c
  refine ⟨b.trans ?_, k⟩
  rw [e0, e1]
  refine Eq.trans ?_ (final m c).symm
  exact ext (a := 1024) (b := 1024) (φ := .f32) fun r k => by
    show transpose (α := EReal) _ _ _ _ (ix2 r k) = ∑ x ∈ Finset.range 8192, term m c r.val k.val x
    pointwise
    rw [← Fin.sum_univ_eq_sum_range]
    refine Finset.sum_congr rfl fun x _ => ?_
    rw [term, en_fin, en_fin]
    exact mul_comm _ _
end Cert.MWOutVal
end
-- ==== Proof.MWS.lean ====
/- The gradient of the scan's columns of the weights of the projection into the mixing: the kernel adds up four blocks of
   rows and writes no other column, the reference takes one product over all rows. -/
module
public import proofs.«01_k».proof.Defs
public import proofs.«01_k».proof.Proof.Mat
public import proofs.«01_k».proof.Proof.Gen.MWS.Frame
public import proofs.«01_k».proof.Proof.Gen.MWSIdeal.Frame
public import proofs.«01_k».proof.Proof.Gen.MWSIdeal.Value
public import proofs.«01_k».proof.Proof.Gen.MWSRefIdeal.Run
public import Idealize.ShloMosaic.Lib.Pointwise
public import Idealize.ShloMosaic.Lib.Pipeline.ValueKit
public import Idealize.ShloMosaic.Lib.Pipeline.ReadBack
@[expose] public section
set_option maxRecDepth 16384
noncomputable section
namespace Cert.MWSVal
open Cert.MWSIdeal Cert.MWSIdeal.Gen Cert.MWSIdeal.Value Idealize.ShloMosaic Idealize.ShloMosaic.TcCoe Idealize.SL.Sem
open Idealize.ShloMosaic (ix1 ix2)
open Cert.Mat

/-- An element of a block's product. -/
theorem pay2_at (v0 : FVec Ideal S2048x1024 .bf16) (v1 : FVec Ideal S2048x512 .bf16) (r : Fin 1024) (k : Fin 512) :
    el .f32 (k0_pay2 (F := Ideal) v0 v1) r k = ∑ q : Fin 2048, el .bf16 v0 q r * el .bf16 v1 q k := by
  show k0_pay2 (F := Ideal) v0 v1 (ix2 r k) = _
  pointwise [k0_pay2, k0_pay1]
/-- An element of what is stored after a block's product was added. -/
theorem pay3_at (v0 : FVec Ideal S2048x1024 .bf16) (v1 : FVec Ideal S2048x512 .bf16) (v : FVec Ideal S1024x512 .f32) (r : Fin 1024) (k : Fin 512) :
    el .f32 (k0_pay3 (F := Ideal) v0 v1 v) r k = el .f32 v r k + ∑ q : Fin 2048, el .bf16 v0 q r * el .bf16 v1 q k := by
  show k0_pay3 (F := Ideal) v0 v1 v (ix2 r k) = _
  pointwise [k0_pay3, k0_pay1]

variable (m : (ℓ : Loc nD τ sig) → Buf (Elt Ideal) ℓ) (ρ : Dev nD → PrngReg)

/-- The number of grid points. -/
theorem lt_points (t : Fin cfg0.N) : t.val < 4 := t.isLt

/-- The first block of rows starts the sum. -/
theorem scrA (c : Dev nD) (t : Fin cfg0.N) (h0 : t.val % 4 = 0) :
    (outsAt0 m c t.val t.isLt).2 = k0_pay2 (F := Ideal) (iblk m c 0 t) (iblk m c 1 t) := by
  have ht := lt_points t
  rw [outsAt0_A m c t h0 (by omega) (by omega)]
  frame_open
  simp (disch := first | decide +kernel | (intro a; fin_cases a <;> rfl)) only [↓View.readCov_cons_toLoadRect, ↓View.readCov_skip, ↓View.readCov_fill]
  frame_out
/-- A later one is added. -/
theorem scrB (c : Dev nD) (t : Fin cfg0.N) (h0 : ¬t.val % 4 = 0) (h2 : ¬t.val % 4 = 3) :
    (outsAt0 m c t.val t.isLt).2 = k0_pay3 (F := Ideal) (iblk m c 0 t) (iblk m c 1 t)
      (outsAt0 m c (t.val - 1) (Nat.lt_of_le_of_lt (Nat.sub_le _ _) t.isLt)).2 := by
  rw [outsAt0_B m c t h0 (by omega) h2]
  frame_open
  simp (disch := first | decide +kernel | (intro a; fin_cases a <;> rfl)) only [↓View.readCov_cons_toLoadRect, ↓View.readCov_skip, ↓View.readCov_fill]
  frame_out
  rw [read_unread_whole]
/-- After the last one the sum is the result. -/
theorem outC (c : Dev nD) (t : Fin cfg0.N) (h0 : ¬t.val % 4 = 0) (h2 : t.val % 4 = 3) :
    (outsAt0 m c t.val t.isLt).1 = k0_pay3 (F := Ideal) (iblk m c 0 t) (iblk m c 1 t)
      (outsAt0 m c (t.val - 1) (Nat.lt_of_le_of_lt (Nat.sub_le _ _) t.isLt)).2 := by
  rw [outsAt0_C m c t h0 (by omega) h2]
  frame_open
  simp (disch := first | decide +kernel | (intro a; fin_cases a <;> rfl)) only [↓View.readCov_cons_toLoadRect, ↓View.readCov_skip, ↓View.readCov_fill]
  frame_out
  rw [read_unread_whole]

/-- Which blocks a grid point reads and writes. -/
theorem idx : ∀ t : Fin cfg0.N, (win0_0.index t (0 : Fin 2) = t.val % 4 ∧ win0_0.index t (1 : Fin 2) = 0) ∧
    (win0_1.index t (0 : Fin 2) = t.val % 4 ∧ win0_1.index t (1 : Fin 2) = t.val / 4) ∧
    (win0_2.index t (0 : Fin 2) = 0 ∧ win0_2.index t (1 : Fin 2) = t.val / 4 + 0) := (by decide +kernel : ∀ t : Fin grid0.N, _)

/-- A block's element of the first factor in the array. -/
theorem blk0 (c : Dev nD) (t : Fin cfg0.N) (q : Fin 2048) (r : Fin 1024) :
    el .bf16 (iblk m c 0 t) q r = en (a := 8192) (b := 1024) .bf16 (m ((c : Thread nD τ).loc main_arg0)) (2048 * (t.val % 4) + q.val) r.val := by
  obtain ⟨⟨e0, e1⟩, -, -⟩ := idx t
  have ht := lt_points t
  rw [en_lt _ (by omega) (by omega)]
  have : ((cfg0.win 0).blk t).view.emb (ix2 q r) = ix2 (⟨2048 * (t.val % 4) + q.val, by omega⟩ : Fin 8192) r := by
    funext a; apply Fin.ext
    match a with
    | ⟨0, _⟩ => show win0_0.index t (0 : Fin 2) * 2048 + 1 * q.val = _; rw [e0]; show _ = 2048 * (t.val % 4) + q.val; omega
    | ⟨1, _⟩ => show win0_0.index t (1 : Fin 2) * 1024 + 1 * r.val = r.val; rw [e1]; omega
  show V m c main_arg0 (((cfg0.win 0).blk t).view.emb (ix2 q r)) = _
  rw [this]
/-- A block's element of the second factor in the array. -/
theorem blk1 (c : Dev nD) (t : Fin cfg0.N) (q : Fin 2048) (k : Fin 512) :
    el .bf16 (iblk m c 1 t) q k = en (a := 8192) (b := 512) .bf16 (m ((c : Thread nD τ).loc main_arg1)) (2048 * (t.val % 4) + q.val) (512 * (t.val / 4) + k.val) := by
  obtain ⟨-, ⟨e0, e1⟩, -⟩ := idx t
  have ht := lt_points t
  rw [en_lt _ (by omega) (by omega)]
  have : ((cfg0.win 1).blk t).view.emb (ix2 q k) = ix2 (⟨2048 * (t.val % 4) + q.val, by omega⟩ : Fin 8192) (⟨512 * (t.val / 4) + k.val, by omega⟩ : Fin 512) := by
    funext a; apply Fin.ext
    match a with
    | ⟨0, _⟩ => show win0_1.index t (0 : Fin 2) * 2048 + 1 * q.val = _; rw [e0]; show _ = 2048 * (t.val % 4) + q.val; omega
    | ⟨1, _⟩ => show win0_1.index t (1 : Fin 2) * 512 + 1 * k.val = _; rw [e1]; show _ = 512 * (t.val / 4) + k.val; omega
  show V m c main_arg1 (((cfg0.win 1).blk t).view.emb (ix2 q k)) = _
  rw [this]
/-- A block's element of the result in the array. -/
theorem emb2 (t : Fin cfg0.N) (r : Fin 1024) (k : Fin 512) (h : 512 * (t.val / 4 + 0) + k.val < 1536) :
    ((cfg0.win 2).blk t).view.emb (ix2 r k) = ix2 r (⟨512 * (t.val / 4 + 0) + k.val, h⟩ : Fin 1536) := by
  obtain ⟨-, -, e0, e1⟩ := idx t
  funext a; apply Fin.ext
  match a with
  | ⟨0, _⟩ => show win0_2.index t (0 : Fin 2) * 1024 + 1 * r.val = r.val; rw [e0]; omega
  | ⟨1, _⟩ => show win0_2.index t (1 : Fin 2) * 512 + 1 * k.val = _; rw [e1]; show _ = 512 * (t.val / 4 + 0) + k.val; omega

/-- One term of the product's sum over the rows. -/
def term (c : Dev nD) (r k x : ℕ) : EReal :=
  en (a := 8192) (b := 1024) .bf16 (m ((c : Thread nD τ).loc main_arg0)) x r * en (a := 8192) (b := 512) .bf16 (m ((c : Thread nD τ).loc main_arg1)) x k

/-- What the running sum holds at a grid point, before the last block of rows. -/
theorem scr (c : Dev nD) (n : ℕ) : ∀ (hn : n < cfg0.N), ¬ n % 4 = 3 → ∀ (r : Fin 1024) (k : Fin 512), el .f32 (outsAt0 m c n hn).2 r k =
    ∑ i ∈ Finset.range (n % 4 + 1), ∑ q : Fin 2048, term m c r.val (512 * (n / 4) + k.val) (2048 * i + q.val) := by
  induction n with
  | zero =>
    intro hn _ r k
    refine (congrFun (scrA m c ⟨0, hn⟩ rfl) (ix2 r k)).trans ((pay2_at _ _ r k).trans ?_)
    simp only [blk0, blk1]
    simp [term]
  | succ n ih =>
    intro hn h3 r k
    by_cases h0 : (n + 1) % 4 = 0
    · refine (congrFun (scrA m c ⟨n + 1, hn⟩ h0) (ix2 r k)).trans ((pay2_at _ _ r k).trans ?_)
      simp only [blk0, blk1, h0, zero_add, Finset.sum_range_one]
      rfl
    · refine (congrFun (scrB m c ⟨n + 1, hn⟩ h0 h3) (ix2 r k)).trans ((pay3_at _ _ _ r k).trans ?_)
      have e := ih (Nat.lt_of_succ_lt hn) (by omega) r k
      have h1 : n % 4 + 1 = (n + 1) % 4 := by omega
      have h2 : n / 4 = (n + 1) / 4 := by omega
      rw [h1, h2] at e
      rw [Finset.sum_range_succ]
      exact congrArg₂ (· + ·) e (by simp only [blk0, blk1]; rfl)

/-- The result at a grid point that writes it. -/
theorem out_at (c : Dev nD) (t : Fin cfg0.N) (h3 : t.val % 4 = 3) (r : Fin 1024) (k : Fin 512) :
    el .f32 (outsAt0 m c t.val t.isLt).1 r k = ∑ x ∈ Finset.range 8192, term m c r.val (512 * (t.val / 4) + k.val) x := by
  refine (congrFun (outC m c t (by omega) h3) (ix2 r k)).trans ((pay3_at _ _ _ r k).trans ?_)
  rw [scr m c _ _ (by omega)]
  have h1 : (t.val - 1) % 4 + 1 = 3 := by omega
  have h2 : (t.val - 1) / 4 = t.val / 4 := by omega
  rw [h1, h2, ← sum_blocks 2048 _ 4, Finset.sum_range_succ _ 3]
  simp only [blk0, blk1, h3]
  rfl

/-- A statement about all indices of a matrix is one about all rows and columns. -/
theorem forall_ix2 {P : S1024x1536.Idx → Prop} (h : ∀ (r : Fin 1024) (k : Fin 1536), P (ix2 r k)) (i : S1024x1536.Idx) : P i :=
  ix2_eta (n0 := 1024) (n1 := 1536) i ▸ h (i 0) (i 1)

/-- The product as one formula, on the columns that the kernel writes. -/
def fin (c : Dev nD) : FVec Ideal S1024x1536 .f32 := fun i => ∑ x ∈ Finset.range 8192, term m c (i 0).val (i 1).val x

/-- What a grid point writes of it. -/
theorem flushed_fin (c : Dev nD) (t : Fin cfg0.N) (hf : (cfg0.win 2).flush t = true) :
    (dats m 0 c).flushed 2 t = ((cfg0.win 2).blk t).view.read (Elt Ideal) (fin m c) := by
  have h3 : t.val % 4 = 3 := (flush0_2 t).mp hf
  have ht := lt_points t
  rw [flushed2]
  funext y
  rw [← ix2_eta (n0 := 1024) (n1 := 512) y]
  have hk : (y 1).val < 512 := (y 1).isLt
  refine (out_at m c t h3 (y 0) (y 1)).trans ?_
  show _ = fin m c (((cfg0.win 2).blk t).view.emb (ix2 (y 0) (y 1)))
  rw [emb2 t (y 0) (y 1) (by omega)]
  rfl

/-- Every element of these columns is written. -/
theorem covered (r : Fin 1024) (k : Fin 1536) (h : k.val < 512) :
    ∃ t : Fin cfg0.N, (cfg0.win 2).flush t = true ∧ ix2 r k ∈ ((cfg0.win 2).blk t).view.set := by
  have hb : 4 * (k.val / 512 - 0) + 3 < 4 := by omega
  refine ⟨(⟨4 * (k.val / 512 - 0) + 3, hb⟩ : Fin 4), (flush0_2 _).mpr (by show (4 * (k.val / 512 - 0) + 3) % 4 = 3; omega), ?_⟩
  have e := emb2 (⟨4 * (k.val / 512 - 0) + 3, hb⟩ : Fin 4) r ⟨k.val % 512, by omega⟩
    (by show 512 * ((4 * (k.val / 512 - 0) + 3) / 4 + 0) + k.val % 512 < 1536; omega)
  have e' : ix2 r k = ix2 r (⟨512 * ((4 * (k.val / 512 - 0) + 3) / 4 + 0) + k.val % 512, by omega⟩ : Fin 1536) := by
    congr 1; apply Fin.ext
    show k.val = 512 * ((4 * (k.val / 512 - 0) + 3) / 4 + 0) + k.val % 512; omega
  rw [e']
  exact e ▸ View.emb_mem_set _ _

/-- The kernel leaves it in these columns. -/
theorem final (c : Dev nD) (r : Fin 1024) (k : Fin 1536) (h : k.val < 512) : el .f32 ((dats m 0 c).arrAt 2 cfg0.N) r k =
    ∑ x ∈ Finset.range 8192, term m c r.val k.val x :=
  ((dats m 0 c).arrAt_eq_piecewise 2 (fin m c) (flushed_fin m c) (ix2 r k)).trans (if_pos (covered r k h))

/-- The constant shape of the mask broadcasts. -/
theorem facts : Cert.On_left_third.Facts where
  bcast_S_S1024x1536 := by decide

/-- The mask holds these columns. -/
theorem mask_lt (a0 : FVec Ideal S8192x1024 .bf16) (a1 : FVec Ideal S8192x512 .bf16) (r : Fin 1024) (k : Fin 1536)
    (h : @Cert.On_left_third.fn facts Ideal _ a0 a1 (ix2 r k) = 1#1) : k.val < 512 := by
  have e : IntOp.cmpi .slt (BitVec.ofNat 32 k.val) (BitVec.ofNat 32 512) = 1#1 := h
  have hk : k.val < 1536 := k.isLt
  exact (WordCmp.cmpi_slt_ofNat_eq_one_iff (by omega) (by omega)).mp e

/-- The two programs leave the same in these columns. -/
theorem algebraic : Cert.algebraic_MWSIdeal_MWSRefIdeal_on_left_third (hMWSIdeal := Cert.MWSIdeal.Gen.facts) (hMWSRefIdeal := Cert.MWSRefIdeal.Gen.facts) (hOn_left_third := facts) := by
  intro m ρ m' ρ' _ hag
  refine ⟨fun c => (dats m 0 c).arrAt 2 cfg0.N, (θ_run _ _ _).mono ?_ (run_blocks m ρ), (θ_run _ _ _).mono ?_ (Cert.MWSRefIdeal.Value.run m' ρ')⟩
  · intro r h c
    exact ⟨fun i _ => congrFun (h c).1 i, (h c).2⟩
  · intro r h c
    obtain ⟨b, k⟩ := h c
    obtain ⟨e0, e1⟩ := hag c
    refine ⟨fun i hi => (congrFun b i).trans ?_, k⟩
    rw [e0, e1]
    clear b k h e0 e1 hag
    revert i hi; refine forall_ix2 fun r k hi => ?_
    refine Eq.trans ?_ (final m c r k (mask_lt _ _ _ _ hi)).symm
    have hk := mask_lt _ _ _ _ hi
    show transpose (α := EReal) _ _ _ _ (ix2 r k) = _
    pointwise
    rw [← Fin.sum_univ_eq_sum_range]
    refine Finset.sum_congr rfl fun x _ => ?_
    rw [term, en_fin, en_lt _ x.isLt hk, dif_pos hk]
    exact mul_comm _ _
end Cert.MWSVal
end
-- ==== Proof.MWGm.lean ====
/- The gradient of the gated unit's columns of the weights of the projection into the mixing: the kernel adds up four blocks
   of rows and writes into the array that it is given, the reference takes one product and joins the columns. -/
module
public import proofs.«01_k».proof.Defs
public import proofs.«01_k».proof.Proof.Mat
public import proofs.«01_k».proof.Proof.Gen.MWGm.Frame
public import proofs.«01_k».proof.Proof.Gen.MWGmIdeal.Frame
public import proofs.«01_k».proof.Proof.Gen.MWGmIdeal.Value
public import proofs.«01_k».proof.Proof.Gen.MWGmRefIdeal.Run
public import Idealize.ShloMosaic.Lib.Pointwise
public import Idealize.ShloMosaic.Lib.Pipeline.ValueKit
public import Idealize.ShloMosaic.Lib.Pipeline.ReadBack
@[expose] public section
set_option maxRecDepth 16384
noncomputable section
namespace Cert.MWGmVal
open Cert.MWGmIdeal Cert.MWGmIdeal.Gen Cert.MWGmIdeal.Value Idealize.ShloMosaic Idealize.ShloMosaic.TcCoe Idealize.SL.Sem
open Idealize.ShloMosaic (ix1 ix2)
open Cert.Mat

/-- An element of a block's product. -/
theorem pay2_at (v0 : FVec Ideal S2048x1024 .bf16) (v1 : FVec Ideal S2048x512 .bf16) (r : Fin 1024) (k : Fin 512) :
    el .f32 (k0_pay2 (F := Ideal) v0 v1) r k = ∑ q : Fin 2048, el .bf16 v0 q r * el .bf16 v1 q k := by
  show k0_pay2 (F := Ideal) v0 v1 (ix2 r k) = _
  pointwise [k0_pay2, k0_pay1]
/-- An element of what is stored after a block's product was added. -/
theorem pay3_at (v0 : FVec Ideal S2048x1024 .bf16) (v1 : FVec Ideal S2048x512 .bf16) (v : FVec Ideal S1024x512 .f32) (r : Fin 1024) (k : Fin 512) :
    el .f32 (k0_pay3 (F := Ideal) v0 v1 v) r k = el .f32 v r k + ∑ q : Fin 2048, el .bf16 v0 q r * el .bf16 v1 q k := by
  show k0_pay3 (F := Ideal) v0 v1 v (ix2 r k) = _
  pointwise [k0_pay3, k0_pay1]

variable (m : (ℓ : Loc nD τ sig) → Buf (Elt Ideal) ℓ) (ρ : Dev nD → PrngReg)

/-- The number of grid points. -/
theorem lt_points (t : Fin cfg0.N) : t.val < 8 := t.isLt

/-- The first block of rows starts the sum. -/
theorem scrA (c : Dev nD) (t : Fin cfg0.N) (h0 : t.val % 4 = 0) :
    (outsAt0 m c t.val t.isLt).2 = k0_pay2 (F := Ideal) (iblk m c 0 t) (iblk m c 1 t) := by
  have ht := lt_points t
  rw [outsAt0_A m c t h0 (by omega) (by omega)]
  frame_open
  simp (disch := first | decide +kernel | (intro a; fin_cases a <;> rfl)) only [↓View.readCov_cons_toLoadRect, ↓View.readCov_skip, ↓View.readCov_fill]
  frame_out
/-- A later one is added. -/
theorem scrB (c : Dev nD) (t : Fin cfg0.N) (h0 : ¬t.val % 4 = 0) (h2 : ¬t.val % 4 = 3) :
    (outsAt0 m c t.val t.isLt).2 = k0_pay3 (F := Ideal) (iblk m c 0 t) (iblk m c 1 t)
      (outsAt0 m c (t.val - 1) (Nat.lt_of_le_of_lt (Nat.sub_le _ _) t.isLt)).2 := by
  rw [outsAt0_B m c t h0 (by omega) h2]
  frame_open
  simp (disch := first | decide +kernel | (intro a; fin_cases a <;> rfl)) only [↓View.readCov_cons_toLoadRect, ↓View.readCov_skip, ↓View.readCov_fill]
  frame_out
  rw [read_unread_whole]
/-- After the last one the sum is the result. -/
theorem outC (c : Dev nD) (t : Fin cfg0.N) (h0 : ¬t.val % 4 = 0) (h2 : t.val % 4 = 3) :
    (outsAt0 m c t.val t.isLt).1 = k0_pay3 (F := Ideal) (iblk m c 0 t) (iblk m c 1 t)
      (outsAt0 m c (t.val - 1) (Nat.lt_of_le_of_lt (Nat.sub_le _ _) t.isLt)).2 := by
  rw [outsAt0_C m c t h0 (by omega) h2]
  frame_open
  simp (disch := first | decide +kernel | (intro a; fin_cases a <;> rfl)) only [↓View.readCov_cons_toLoadRect, ↓View.readCov_skip, ↓View.readCov_fill]
  frame_out
  rw [read_unread_whole]

/-- Which blocks a grid point reads and writes. -/
theorem idx : ∀ t : Fin cfg0.N, (win0_0.index t (0 : Fin 2) = t.val % 4 ∧ win0_0.index t (1 : Fin 2) = 0) ∧
    (win0_1.index t (0 : Fin 2) = t.val % 4 ∧ win0_1.index t (1 : Fin 2) = t.val / 4) ∧
    (win0_2.index t (0 : Fin 2) = 0 ∧ win0_2.index t (1 : Fin 2) = t.val / 4 + 1) := (by decide +kernel : ∀ t : Fin grid0.N, _)

/-- A block's element of the first factor in the array. -/
theorem blk0 (c : Dev nD) (t : Fin cfg0.N) (q : Fin 2048) (r : Fin 1024) :
    el .bf16 (iblk m c 0 t) q r = en (a := 8192) (b := 1024) .bf16 (m ((c : Thread nD τ).loc main_arg0)) (2048 * (t.val % 4) + q.val) r.val := by
  obtain ⟨⟨e0, e1⟩, -, -⟩ := idx t
  have ht := lt_points t
  rw [en_lt _ (by omega) (by omega)]
  have : ((cfg0.win 0).blk t).view.emb (ix2 q r) = ix2 (⟨2048 * (t.val % 4) + q.val, by omega⟩ : Fin 8192) r := by
    funext a; apply Fin.ext
    match a with
    | ⟨0, _⟩ => show win0_0.index t (0 : Fin 2) * 2048 + 1 * q.val = _; rw [e0]; show _ = 2048 * (t.val % 4) + q.val; omega
    | ⟨1, _⟩ => show win0_0.index t (1 : Fin 2) * 1024 + 1 * r.val = r.val; rw [e1]; omega
  show V m c main_arg0 (((cfg0.win 0).blk t).view.emb (ix2 q r)) = _
  rw [this, V_main_arg0]
/-- A block's element of the second factor in the array. -/
theorem blk1 (c : Dev nD) (t : Fin cfg0.N) (q : Fin 2048) (k : Fin 512) :
    el .bf16 (iblk m c 1 t) q k = en (a := 8192) (b := 1024) .bf16 (m ((c : Thread nD τ).loc main_arg1)) (2048 * (t.val % 4) + q.val) (512 * (t.val / 4) + k.val) := by
  obtain ⟨-, ⟨e0, e1⟩, -⟩ := idx t
  have ht := lt_points t
  rw [en_lt _ (by omega) (by omega)]
  have : ((cfg0.win 1).blk t).view.emb (ix2 q k) = ix2 (⟨2048 * (t.val % 4) + q.val, by omega⟩ : Fin 8192) (⟨512 * (t.val / 4) + k.val, by omega⟩ : Fin 1024) := by
    funext a; apply Fin.ext
    match a with
    | ⟨0, _⟩ => show win0_1.index t (0 : Fin 2) * 2048 + 1 * q.val = _; rw [e0]; show _ = 2048 * (t.val % 4) + q.val; omega
    | ⟨1, _⟩ => show win0_1.index t (1 : Fin 2) * 512 + 1 * k.val = _; rw [e1]; show _ = 512 * (t.val / 4) + k.val; omega
  show V m c main_arg1 (((cfg0.win 1).blk t).view.emb (ix2 q k)) = _
  rw [this, V_main_arg1]
/-- A block's element of the result in the array. -/
theorem emb2 (t : Fin cfg0.N) (r : Fin 1024) (k : Fin 512) (h : 512 * (t.val / 4 + 1) + k.val < 1536) :
    ((cfg0.win 2).blk t).view.emb (ix2 r k) = ix2 r (⟨512 * (t.val / 4 + 1) + k.val, h⟩ : Fin 1536) := by
  obtain ⟨-, -, e0, e1⟩ := idx t
  funext a; apply Fin.ext
  match a with
  | ⟨0, _⟩ => show win0_2.index t (0 : Fin 2) * 1024 + 1 * r.val = r.val; rw [e0]; omega
  | ⟨1, _⟩ => show win0_2.index t (1 : Fin 2) * 512 + 1 * k.val = _; rw [e1]; show _ = 512 * (t.val / 4 + 1) + k.val; omega

/-- One term of the product's sum over the rows. -/
def term (c : Dev nD) (r k x : ℕ) : EReal :=
  en (a := 8192) (b := 1024) .bf16 (m ((c : Thread nD τ).loc main_arg0)) x r * en (a := 8192) (b := 1024) .bf16 (m ((c : Thread nD τ).loc main_arg1)) x k

/-- What the running sum holds at a grid point, before the last block of rows. -/
theorem scr (c : Dev nD) (n : ℕ) : ∀ (hn : n < cfg0.N), ¬ n % 4 = 3 → ∀ (r : Fin 1024) (k : Fin 512), el .f32 (outsAt0 m c n hn).2 r k =
    ∑ i ∈ Finset.range (n % 4 + 1), ∑ q : Fin 2048, term m c r.val (512 * (n / 4) + k.val) (2048 * i + q.val) := by
  induction n with
  | zero =>
    intro hn _ r k
    refine (congrFun (scrA m c ⟨0, hn⟩ rfl) (ix2 r k)).trans ((pay2_at _ _ r k).trans ?_)
    simp only [blk0, blk1]
    simp [term]
  | succ n ih =>
    intro hn h3 r k
    by_cases h0 : (n + 1) % 4 = 0
    · refine (congrFun (scrA m c ⟨n + 1, hn⟩ h0) (ix2 r k)).trans ((pay2_at _ _ r k).trans ?_)
      simp only [blk0, blk1, h0, zero_add, Finset.sum_range_one]
      rfl
    · refine (congrFun (scrB m c ⟨n + 1, hn⟩ h0 h3) (ix2 r k)).trans ((pay3_at _ _ _ r k).trans ?_)
      have e := ih (Nat.lt_of_succ_lt hn) (by omega) r k
      have h1 : n % 4 + 1 = (n + 1) % 4 := by omega
      have h2 : n / 4 = (n + 1) / 4 := by omega
      rw [h1, h2] at e
      rw [Finset.sum_range_succ]
      exact congrArg₂ (· + ·) e (by simp only [blk0, blk1]; rfl)

/-- The result at a grid point that writes it. -/
theorem out_at (c : Dev nD) (t : Fin cfg0.N) (h3 : t.val % 4 = 3) (r : Fin 1024) (k : Fin 512) :
    el .f32 (outsAt0 m c t.val t.isLt).1 r k = ∑ x ∈ Finset.range 8192, term m c r.val (512 * (t.val / 4) + k.val) x := by
  refine (congrFun (outC m c t (by omega) h3) (ix2 r k)).trans ((pay3_at _ _ _ r k).trans ?_)
  rw [scr m c _ _ (by omega)]
  have h1 : (t.val - 1) % 4 + 1 = 3 := by omega
  have h2 : (t.val - 1) / 4 = t.val / 4 := by omega
  rw [h1, h2, ← sum_blocks 2048 _ 4, Finset.sum_range_succ _ 3]
  simp only [blk0, blk1, h3]
  rfl

/-- What the array holds before the grid runs: the array that the call is given. -/
theorem start (c : Dev nD) : (dats m 0 c).A 2 = m ((c : Thread nD τ).loc main_arg2) := (A_eq m c 2).trans (by show StableHlo.after hostOps0 _ main_v0 = _; after_results; rfl)

/-- The kernel's result as one formula: the first columns as given, the others the product. -/
def fin (c : Dev nD) : FVec Ideal S1024x1536 .f32 := fun i =>
  if (i 1).val < 512 then (m ((c : Thread nD τ).loc main_arg2) : FVec Ideal S1024x1536 .f32) i else ∑ x ∈ Finset.range 8192, term m c (i 0).val ((i 1).val - 512) x

/-- What a grid point writes of it. -/
theorem flushed_fin (c : Dev nD) (t : Fin cfg0.N) (hf : (cfg0.win 2).flush t = true) :
    (dats m 0 c).flushed 2 t = ((cfg0.win 2).blk t).view.read (Elt Ideal) (fin m c) := by
  have h3 : t.val % 4 = 3 := (flush0_2 t).mp hf
  have ht := lt_points t
  rw [flushed2]
  funext y
  rw [← ix2_eta (n0 := 1024) (n1 := 512) y]
  have hk : (y 1).val < 512 := (y 1).isLt
  refine (out_at m c t h3 (y 0) (y 1)).trans ?_
  show _ = fin m c (((cfg0.win 2).blk t).view.emb (ix2 (y 0) (y 1)))
  rw [emb2 t (y 0) (y 1) (by omega)]
  refine Eq.trans ?_ (if_neg (by show ¬ (512 * (t.val / 4 + 1) + (y 1).val) < 512; omega)).symm
  have e : 512 * (t.val / 4) + (y 1).val = 512 * (t.val / 4 + 1) + (y 1).val - 512 := by omega
  rw [e]
  rfl

/-- Every element of these columns is written. -/
theorem covered (r : Fin 1024) (k : Fin 1536) (h : 512 ≤ k.val) :
    ∃ t : Fin cfg0.N, (cfg0.win 2).flush t = true ∧ ix2 r k ∈ ((cfg0.win 2).blk t).view.set := by
  have hb : 4 * (k.val / 512 - 1) + 3 < 8 := by omega
  refine ⟨(⟨4 * (k.val / 512 - 1) + 3, hb⟩ : Fin 8), (flush0_2 _).mpr (by show (4 * (k.val / 512 - 1) + 3) % 4 = 3; omega), ?_⟩
  have e := emb2 (⟨4 * (k.val / 512 - 1) + 3, hb⟩ : Fin 8) r ⟨k.val % 512, by omega⟩
    (by show 512 * ((4 * (k.val / 512 - 1) + 3) / 4 + 1) + k.val % 512 < 1536; omega)
  have e' : ix2 r k = ix2 r (⟨512 * ((4 * (k.val / 512 - 1) + 3) / 4 + 1) + k.val % 512, by omega⟩ : Fin 1536) := by
    congr 1; apply Fin.ext
    show k.val = 512 * ((4 * (k.val / 512 - 1) + 3) / 4 + 1) + k.val % 512; omega
  rw [e']
  exact e ▸ View.emb_mem_set _ _

/-- The kernel leaves it. -/
theorem final (c : Dev nD) : (dats m 0 c).arrAt 2 cfg0.N = fin m c := by
  funext i
  refine ((dats m 0 c).arrAt_eq_piecewise 2 (fin m c) (flushed_fin m c) i).trans ?_
  by_cases h : (i 1).val < 512
  · split
    · rfl
    · rw [start]; exact (if_pos h).symm
  · have := covered (i 0) (i 1) (by omega)
    rw [ix2_eta (n0 := 1024) (n1 := 1536) i] at this
    exact if_pos this

/-- The two programs leave the same array. -/
theorem algebraic : Cert.algebraic_MWGmIdeal_MWGmRefIdeal (hMWGmIdeal := Cert.MWGmIdeal.Gen.facts) (hMWGmRefIdeal := Cert.MWGmRefIdeal.Gen.facts) := by
  intro m ρ m' ρ' _ hag
  refine ⟨fun c => (dats m 0 c).arrAt 2 cfg0.N, run_blocks m ρ, (θ_run _ _ _).mono ?_ (Cert.MWGmRefIdeal.Value.run m' ρ')⟩
  intro r h c
  obtain ⟨b, k⟩ := h c
  obtain ⟨e0, e1, e2⟩ := hag c
  refine ⟨b.trans ?_, k⟩
  rw [e0, e1, e2]
  refine Eq.trans ?_ (final m c).symm
  clear b k h e0 e1 e2 hag
  exact ext (a := 1024) (b := 1536) (φ := .f32) fun r k => by
    show concatenate (α := EReal) _ _ _ _ (ix2 r k) = if k.val < 512 then _ else _
    pointwise
    split
    · rfl
    · rw [← Fin.sum_univ_eq_sum_range]
      refine Finset.sum_congr rfl fun x _ => ?_
      rw [term, en_fin, en_lt _ x.isLt (by omega)]
      exact mul_comm _ _
end Cert.MWGmVal
end
-- ==== Proof.MIn.lean ====
/- The gradient of the projection into the mixing and of the normalisation before it: the kernel works on bands of rows
   and adds up the gain's gradient over the bands, the reference differentiates the whole map. -/
module
public import proofs.«01_k».proof.Defs
public import proofs.«01_k».proof.Proof.Mat
public import proofs.«01_k».proof.Proof.Finite
public import proofs.«01_k».proof.Proof.Algebra
public import proofs.«01_k».proof.Proof.In
public import proofs.«01_k».proof.Proof.Gen.MIn.Frame
public import proofs.«01_k».proof.Proof.Gen.MInIdeal.Frame
public import proofs.«01_k».proof.Proof.Gen.MInIdeal.Value
public import proofs.«01_k».proof.Proof.Gen.MInRefIdeal.Run
public import Idealize.ShloMosaic.Lib.Pointwise
public import Idealize.ShloMosaic.Lib.Pipeline.ValueKit
public import Idealize.ShloMosaic.Lib.Pipeline.ReadBack
@[expose] public section
set_option maxRecDepth 16384
noncomputable section
namespace Cert.MInVal
open Cert.MInIdeal Cert.MInIdeal.Gen Cert.MInIdeal.Value Idealize.ShloMosaic Idealize.ShloMosaic.TcCoe Idealize.SL.Sem
open Idealize.ShloMosaic (ix1 ix2)
open Cert.Mat Cert.Consts Cert.Algebra
open Cert.InVal (el1 ms rs xh dx ofBits_1024 div_1024 refM refX refG refM_at refR_at refX_at refG_at)
open Cert.Tile (At2)

/-- The cotangent of the normalised rows: the two cotangents' products with their columns of the weights. -/
def dh (A B W V : ℕ → ℕ → ℝ) (r k : ℕ) : ℝ := ∑ q : Fin 512, A r q.val * W k q.val + ∑ q : Fin 1024, B r q.val * V k q.val

section
variable {v0 : FVec Ideal S512x512 .bf16} {v3 : FVec Ideal S512x1024 .bf16} {v1 : FVec Ideal S1024x512 .bf16} {v4 : FVec Ideal S1024x1024 .bf16} {A B W V : ℕ → ℕ → ℝ}
/-- The cotangent of a band's normalised rows. -/
theorem pay5_at (h0 : At2 v0 A) (h1 : At2 v1 W) (h3 : At2 v3 B) (h4 : At2 v4 V) : At2 (k0_pay5 (F := Ideal) v0 v1 v3 v4) (dh A B W V) := by
  intro r k
  pointwise [k0_pay5]
  simp only [h0 _ _, h1 _ _, h3 _ _, h4 _ _, ← EReal.coe_mul, coe_sum, ← EReal.coe_add]
  rfl
variable {x : FVec Ideal S512x1024 .f32} {X : ℕ → ℕ → ℝ}
/-- The reciprocal roots of a band. -/
theorem pay6_at (h : At2 x X) : At2 (k0_pay6 (F := Ideal) x) (fun r _ => rs X r) := Cert.InVal.pay6_at h
/-- The normalised rows of a band. -/
theorem pay7_at (h : At2 x X) : At2 (k0_pay7 (F := Ideal) x) (xh X) := Cert.InVal.pay7_at h
variable {g : FVec Ideal S1x1024 .f32} {gn : ℕ → ℝ} {d : FVec Ideal S512x1024 .f32} {D : ℕ → ℕ → ℝ}
/-- The gradient of the stream on a band. -/
theorem pay8_at (h0 : At2 v0 A) (h1 : At2 v1 W) (h3 : At2 v3 B) (h4 : At2 v4 V) (h : At2 x X) (hg : At2 g (fun _ => gn)) (hd : At2 d D) :
    At2 (k0_pay8 (F := Ideal) v0 v1 v3 v4 x g d) (dx D X gn (dh A B W V)) := by
  intro r k
  pointwise [k0_pay8]
  simp only [pay5_at h0 h1 h3 h4 _ _, pay6_at h _ _, pay7_at h _ _, hg _ _, hd _ _, ← EReal.coe_mul, coe_sum, ofBits_1024, div_1024, ← EReal.coe_add, ← EReal.coe_sub]
  rfl
variable {y : FVec Ideal S512x1024 .f32} {Y : ℕ → ℕ → ℝ}
/-- A band's part of the gain's gradient, eight rows of it. -/
theorem pay1_at (h : At2 x X) (hy : At2 y Y) : At2 (k0_pay1 (F := Ideal) x y) (fun s k => ∑ a : Fin 64, X (8 * a.val + s) k * Y (8 * a.val + s) k) := Cert.InVal.pay1_at h hy
/-- The first band's. -/
theorem pay2_at (h : At2 x X) (hy : At2 y Y) : At2 (k0_pay2 (F := Ideal) x y) (fun s k => ∑ a : Fin 64, X (8 * a.val + s) k * Y (8 * a.val + s) k) := Cert.InVal.pay2_at h hy
variable {z : FVec Ideal S8x1024 .f32} {Z : ℕ → ℕ → ℝ}
/-- A later band's, added. -/
theorem pay3_at (h : At2 x X) (hy : At2 y Y) (hz : At2 z Z) :
    At2 (k0_pay3 (F := Ideal) x y z) (fun s k => Z s k + ∑ a : Fin 64, X (8 * a.val + s) k * Y (8 * a.val + s) k) := Cert.InVal.pay3_at h hy hz
/-- The eight rows' sum. -/
theorem pay4_at (hz : At2 z Z) : At2 (k0_pay4 (F := Ideal) z) (fun _ k => ∑ s : Fin 8, Z s.val k) := Cert.InVal.pay4_at hz
end

variable (m : (ℓ : Loc nD τ sig) → Buf (Elt Ideal) ℓ) (ρ : Dev nD → PrngReg)

/-- An element of a block's scan's columns. -/
theorem ld_left (x : FVec Ideal S1024x1536 .bf16) (r : Fin 1024) (k : Fin 512) :
    (View.ld (Val := Elt Ideal) (e' := .bf16) x (Rect.unit (s := S1024x1536) ![0, 0] ![1024, 512] inb_S1024x1536_S1024x512_0_0) : FVec Ideal S1024x512 .bf16) (ix2 r k) = x (ix2 r ⟨k.val, by omega⟩) := by
  pointwise
/-- An element of a block's gated unit's columns. -/
theorem ld_right (x : FVec Ideal S1024x1536 .bf16) (r : Fin 1024) (k : Fin 1024) :
    (View.ld (Val := Elt Ideal) (e' := .bf16) x (Rect.unit (s := S1024x1536) ![0, 512] ![1024, 1024] inb_S1024x1536_S1024x1024_0_512) : FVec Ideal S1024x1024 .bf16) (ix2 r k) = x (ix2 r ⟨512 + k.val, by omega⟩) := by
  pointwise

/-- The scan's columns of the weights that a grid point reads. -/
abbrev wl (c : Dev nD) (t : Fin cfg0.N) : FVec Ideal S1024x512 .bf16 :=
  View.ld (iblk m c 2 t) (Rect.unit (s := S1024x1536) ![0, 0] ![1024, 512] inb_S1024x1536_S1024x512_0_0)
/-- The gated unit's columns. -/
abbrev wr (c : Dev nD) (t : Fin cfg0.N) : FVec Ideal S1024x1024 .bf16 :=
  View.ld (iblk m c 2 t) (Rect.unit (s := S1024x1536) ![0, 512] ![1024, 1024] inb_S1024x1536_S1024x1024_0_512)

/-- What the first grid point stores of the stream's gradient. -/
theorem out6A (c : Dev nD) (t : Fin cfg0.N) (ht : t.val < 16) (h0 : t.val = 0) :
    (outsAt0 m c t.val t.isLt).1 = k0_pay8 (F := Ideal) (iblk m c 0 t) (wl m c t) (iblk m c 1 t) (wr m c t) (iblk m c 3 t) (iblk m c 4 t) (iblk m c 5 t) := by
  rw [outsAt0_A m c t (by omega) (by omega) (by omega)]
  frame_open
  simp (disch := first | decide +kernel | (intro a; fin_cases a <;> rfl)) only [↓View.readCov_cons_toLoadRect, ↓View.readCov_skip, ↓View.readCov_fill]
  frame_out
  rfl

/-- What a middle one stores. -/
theorem out6B (c : Dev nD) (t : Fin cfg0.N) (ht : t.val < 16) (h0 : 1 ≤ t.val) (h2 : ¬ t.val % 16 = 15) :
    (outsAt0 m c t.val t.isLt).1 = k0_pay8 (F := Ideal) (iblk m c 0 t) (wl m c t) (iblk m c 1 t) (wr m c t) (iblk m c 3 t) (iblk m c 4 t) (iblk m c 5 t) := by
  rw [outsAt0_B m c t (by omega) (by omega) (by omega)]
  frame_open
  simp (disch := first | decide +kernel | (intro a; fin_cases a <;> rfl)) only [↓View.readCov_cons_toLoadRect, ↓View.readCov_skip, ↓View.readCov_fill]
  frame_out
  rfl

/-- What the last one stores. -/
theorem out6C (c : Dev nD) (t : Fin cfg0.N) (ht : t.val < 16) (h2 : t.val % 16 = 15) :
    (outsAt0 m c t.val t.isLt).1 = k0_pay8 (F := Ideal) (iblk m c 0 t) (wl m c t) (iblk m c 1 t) (wr m c t) (iblk m c 3 t) (iblk m c 4 t) (iblk m c 5 t) := by
  rw [outsAt0_C m c t (by omega) (by omega) (by omega)]
  frame_open
  simp (disch := first | decide +kernel | (intro a; fin_cases a <;> rfl)) only [↓View.readCov_cons_toLoadRect, ↓View.readCov_skip, ↓View.readCov_fill]
  frame_out
  rfl

/-- The first grid point starts the gain's sum. -/
theorem scrA (c : Dev nD) (t : Fin cfg0.N) (ht : t.val < 16) (h0 : t.val = 0) :
    (outsAt0 m c t.val t.isLt).2.2 = k0_pay2 (F := Ideal) (k0_pay5 (F := Ideal) (iblk m c 0 t) (wl m c t) (iblk m c 1 t) (wr m c t)) (k0_pay7 (F := Ideal) (iblk m c 3 t)) := by
  rw [outsAt0_A m c t (by omega) (by omega) (by omega)]
  frame_open
  simp (disch := first | decide +kernel | (intro a; fin_cases a <;> rfl)) only [↓View.readCov_cons_toLoadRect, ↓View.readCov_skip, ↓View.readCov_fill]
  frame_out
  rfl

/-- A middle one adds to it. -/
theorem scrB (c : Dev nD) (t : Fin cfg0.N) (ht : t.val < 16) (h0 : 1 ≤ t.val) (h2 : ¬ t.val % 16 = 15) :
    (outsAt0 m c t.val t.isLt).2.2 = k0_pay3 (F := Ideal) (k0_pay5 (F := Ideal) (iblk m c 0 t) (wl m c t) (iblk m c 1 t) (wr m c t)) (k0_pay7 (F := Ideal) (iblk m c 3 t))
      (outsAt0 m c (t.val - 1) (Nat.lt_of_le_of_lt (Nat.sub_le _ _) t.isLt)).2.2 := by
  rw [outsAt0_B m c t (by omega) (by omega) (by omega)]
  frame_open
  simp (disch := first | decide +kernel | (intro a; fin_cases a <;> rfl)) only [↓View.readCov_cons_toLoadRect, ↓View.readCov_skip, ↓View.readCov_fill]
  frame_out
  rw [read_unread_whole]
  rfl

/-- The last one adds to it and sums the eight rows. -/
theorem out7C (c : Dev nD) (t : Fin cfg0.N) (ht : t.val < 16) (h2 : t.val % 16 = 15) :
    (outsAt0 m c t.val t.isLt).2.1 = k0_pay4 (F := Ideal) (k0_pay3 (F := Ideal) (k0_pay5 (F := Ideal) (iblk m c 0 t) (wl m c t) (iblk m c 1 t) (wr m c t)) (k0_pay7 (F := Ideal) (iblk m c 3 t))
      (outsAt0 m c (t.val - 1) (Nat.lt_of_le_of_lt (Nat.sub_le _ _) t.isLt)).2.2) := by
  rw [outsAt0_C m c t (by omega) (by omega) (by omega)]
  frame_open
  simp (disch := first | decide +kernel | (intro a; fin_cases a <;> rfl)) only [↓View.readCov_cons_toLoadRect, ↓View.readCov_skip, ↓View.readCov_fill]
  frame_out
  rw [read_unread_whole]
  rfl

/-- Every grid point stores the same formula of what it reads. -/
theorem out6 (c : Dev nD) (t : Fin cfg0.N) : (outsAt0 m c t.val t.isLt).1 = k0_pay8 (F := Ideal) (iblk m c 0 t) (wl m c t) (iblk m c 1 t) (wr m c t) (iblk m c 3 t) (iblk m c 4 t) (iblk m c 5 t) := by
  have ht : t.val < 16 := t.isLt
  by_cases h0 : t.val = 0
  · exact out6A m c t ht h0
  · by_cases h2 : t.val % 16 = 15
    · exact out6C m c t ht h2
    · exact out6B m c t ht (by omega) h2

/-- The arguments are real: the stream `X`, the gain `gn`, the weights `W`, the cotangents `A` and `B` of the scan's and the gated unit's columns and
    the stream's cotangent `D`. -/
structure Ins (c : Dev nD) (X : ℕ → ℕ → ℝ) (gn : ℕ → ℝ) (W A B D : ℕ → ℕ → ℝ) : Prop where
  hx : At2 (a := 8192) (b := 1024) (φ := .f32) (m ((c : Thread nD τ).loc main_arg0)) X
  hg : ∀ i : Fin 1024, el1 (m ((c : Thread nD τ).loc main_arg1)) i = ((gn i.val : ℝ) : EReal)
  hw : At2 (a := 1024) (b := 1536) (φ := .bf16) (m ((c : Thread nD τ).loc main_arg2)) W
  ha : At2 (a := 8192) (b := 512) (φ := .bf16) (m ((c : Thread nD τ).loc main_arg3)) A
  hb : At2 (a := 8192) (b := 1024) (φ := .bf16) (m ((c : Thread nD τ).loc main_arg4)) B
  hd : At2 (a := 8192) (b := 1024) (φ := .f32) (m ((c : Thread nD τ).loc main_arg5)) D

/-- The weights' gated unit's columns, its columns counted from zero. -/
abbrev right (W : ℕ → ℕ → ℝ) (k q : ℕ) : ℝ := W k (512 + q)

/-- Which blocks a grid point reads and writes. -/
theorem idx : ∀ t : Fin cfg0.N, (win0_0.index t (0 : Fin 2) = t.val ∧ win0_0.index t (1 : Fin 2) = 0) ∧
    (win0_1.index t (0 : Fin 2) = t.val ∧ win0_1.index t (1 : Fin 2) = 0) ∧
    (win0_2.index t (0 : Fin 2) = 0 ∧ win0_2.index t (1 : Fin 2) = 0) ∧
    (win0_3.index t (0 : Fin 2) = t.val ∧ win0_3.index t (1 : Fin 2) = 0) ∧
    (win0_4.index t (0 : Fin 2) = 0 ∧ win0_4.index t (1 : Fin 2) = 0) ∧
    (win0_5.index t (0 : Fin 2) = t.val ∧ win0_5.index t (1 : Fin 2) = 0) ∧
    (win0_6.index t (0 : Fin 2) = t.val ∧ win0_6.index t (1 : Fin 2) = 0) ∧
    (win0_7.index t (0 : Fin 2) = 0 ∧ win0_7.index t (1 : Fin 2) = 0) := (by decide +kernel : ∀ t : Fin grid0.N, _)

/-- A row of a band is a row of the array. -/
theorem row_lt (t : Fin cfg0.N) (r : Fin 512) : 512 * t.val + r.val < 8192 := by
  have h : t.val < 16 := t.isLt
  omega

/-- Where an element of window 0 lies in the array. -/
theorem emb0 (t : Fin cfg0.N) (r : Fin 512) (k : Fin 512) :
    ((cfg0.win 0).blk t).view.emb (ix2 r k) = ix2 (n0 := 8192) (n1 := 512) ⟨512 * t.val + r.val, row_lt t r⟩ k := by
  obtain ⟨e0, e1⟩ := (idx t).1
  funext a; apply Fin.ext
  match a with
  | ⟨0, _⟩ => show win0_0.index t (0 : Fin 2) * 512 + 1 * r.val = 512 * t.val + r.val; rw [e0]; omega
  | ⟨1, _⟩ => show win0_0.index t (1 : Fin 2) * 512 + 1 * k.val = k.val; rw [e1]; omega
/-- Where an element of window 1 lies in the array. -/
theorem emb1 (t : Fin cfg0.N) (r : Fin 512) (k : Fin 1024) :
    ((cfg0.win 1).blk t).view.emb (ix2 r k) = ix2 (n0 := 8192) (n1 := 1024) ⟨512 * t.val + r.val, row_lt t r⟩ k := by
  obtain ⟨e0, e1⟩ := (idx t).2.1
  funext a; apply Fin.ext
  match a with
  | ⟨0, _⟩ => show win0_1.index t (0 : Fin 2) * 512 + 1 * r.val = 512 * t.val + r.val; rw [e0]; omega
  | ⟨1, _⟩ => show win0_1.index t (1 : Fin 2) * 1024 + 1 * k.val = k.val; rw [e1]; omega
/-- Where an element of window 2 lies in the array. -/
theorem emb2 (t : Fin cfg0.N) (r : Fin 1024) (k : Fin 1536) :
    ((cfg0.win 2).blk t).view.emb (ix2 r k) = ix2 (n0 := 1024) (n1 := 1536) r k := by
  obtain ⟨e0, e1⟩ := (idx t).2.2.1
  funext a; apply Fin.ext
  match a with
  | ⟨0, _⟩ => show win0_2.index t (0 : Fin 2) * 1024 + 1 * r.val = r.val; rw [e0]; omega
  | ⟨1, _⟩ => show win0_2.index t (1 : Fin 2) * 1536 + 1 * k.val = k.val; rw [e1]; omega
/-- Where an element of window 3 lies in the array. -/
theorem emb3 (t : Fin cfg0.N) (r : Fin 512) (k : Fin 1024) :
    ((cfg0.win 3).blk t).view.emb (ix2 r k) = ix2 (n0 := 8192) (n1 := 1024) ⟨512 * t.val + r.val, row_lt t r⟩ k := by
  obtain ⟨e0, e1⟩ := (idx t).2.2.2.1
  funext a; apply Fin.ext
  match a with
  | ⟨0, _⟩ => show win0_3.index t (0 : Fin 2) * 512 + 1 * r.val = 512 * t.val + r.val; rw [e0]; omega
  | ⟨1, _⟩ => show win0_3.index t (1 : Fin 2) * 1024 + 1 * k.val = k.val; rw [e1]; omega
/-- Where an element of window 4 lies in the array. -/
theorem emb4 (t : Fin cfg0.N) (r : Fin 1) (k : Fin 1024) :
    ((cfg0.win 4).blk t).view.emb (ix2 r k) = ix2 (n0 := 1) (n1 := 1024) r k := by
  obtain ⟨e0, e1⟩ := (idx t).2.2.2.2.1
  funext a; apply Fin.ext
  match a with
  | ⟨0, _⟩ => show win0_4.index t (0 : Fin 2) * 1 + 1 * r.val = r.val; rw [e0]; omega
  | ⟨1, _⟩ => show win0_4.index t (1 : Fin 2) * 1024 + 1 * k.val = k.val; rw [e1]; omega
/-- Where an element of window 5 lies in the array. -/
theorem emb5 (t : Fin cfg0.N) (r : Fin 512) (k : Fin 1024) :
    ((cfg0.win 5).blk t).view.emb (ix2 r k) = ix2 (n0 := 8192) (n1 := 1024) ⟨512 * t.val + r.val, row_lt t r⟩ k := by
  obtain ⟨e0, e1⟩ := (idx t).2.2.2.2.2.1
  funext a; apply Fin.ext
  match a with
  | ⟨0, _⟩ => show win0_5.index t (0 : Fin 2) * 512 + 1 * r.val = 512 * t.val + r.val; rw [e0]; omega
  | ⟨1, _⟩ => show win0_5.index t (1 : Fin 2) * 1024 + 1 * k.val = k.val; rw [e1]; omega
/-- Where an element of window 6 lies in the array. -/
theorem emb6 (t : Fin cfg0.N) (r : Fin 512) (k : Fin 1024) :
    ((cfg0.win 6).blk t).view.emb (ix2 r k) = ix2 (n0 := 8192) (n1 := 1024) ⟨512 * t.val + r.val, row_lt t r⟩ k := by
  obtain ⟨e0, e1⟩ := (idx t).2.2.2.2.2.2.1
  funext a; apply Fin.ext
  match a with
  | ⟨0, _⟩ => show win0_6.index t (0 : Fin 2) * 512 + 1 * r.val = 512 * t.val + r.val; rw [e0]; omega
  | ⟨1, _⟩ => show win0_6.index t (1 : Fin 2) * 1024 + 1 * k.val = k.val; rw [e1]; omega
/-- Where an element of window 7 lies in the array. -/
theorem emb7 (t : Fin cfg0.N) (r : Fin 1) (k : Fin 1024) :
    ((cfg0.win 7).blk t).view.emb (ix2 r k) = ix2 (n0 := 1) (n1 := 1024) r k := by
  obtain ⟨e0, e1⟩ := (idx t).2.2.2.2.2.2.2
  funext a; apply Fin.ext
  match a with
  | ⟨0, _⟩ => show win0_7.index t (0 : Fin 2) * 1 + 1 * r.val = r.val; rw [e0]; omega
  | ⟨1, _⟩ => show win0_7.index t (1 : Fin 2) * 1024 + 1 * k.val = k.val; rw [e1]; omega

section
variable {m} {c : Dev nD} {X : ℕ → ℕ → ℝ} {gn : ℕ → ℝ} {W A B D : ℕ → ℕ → ℝ} (I : Ins m c X gn W A B D)
include I
/-- The scan's cotangent's band. -/
theorem blk0 (t : Fin cfg0.N) : At2 (a := 512) (b := 512) (φ := .bf16) (iblk m c 0 t) (fun r k => A (512 * t.val + r) k) := by
  intro r k
  show V m c main_arg3 (((cfg0.win 0).blk t).view.emb (ix2 r k)) = _
  rw [emb0, V_main_arg3]
  exact I.ha _ k
/-- The gated unit's cotangent's band. -/
theorem blk1 (t : Fin cfg0.N) : At2 (a := 512) (b := 1024) (φ := .bf16) (iblk m c 1 t) (fun r k => B (512 * t.val + r) k) := by
  intro r k
  show V m c main_arg4 (((cfg0.win 1).blk t).view.emb (ix2 r k)) = _
  rw [emb1, V_main_arg4]
  exact I.hb _ k
/-- The weights. -/
theorem blk2 (t : Fin cfg0.N) : At2 (a := 1024) (b := 1536) (φ := .bf16) (iblk m c 2 t) W := by
  intro r k
  show V m c main_arg2 (((cfg0.win 2).blk t).view.emb (ix2 r k)) = _
  rw [emb2, V_main_arg2]
  exact I.hw _ k
/-- The stream's band. -/
theorem blk3 (t : Fin cfg0.N) : At2 (a := 512) (b := 1024) (φ := .f32) (iblk m c 3 t) (fun r k => X (512 * t.val + r) k) := by
  intro r k
  show V m c main_arg0 (((cfg0.win 3).blk t).view.emb (ix2 r k)) = _
  rw [emb3, V_main_arg0]
  exact I.hx _ k
/-- The band of the stream's cotangent. -/
theorem blk5 (t : Fin cfg0.N) : At2 (a := 512) (b := 1024) (φ := .f32) (iblk m c 5 t) (fun r k => D (512 * t.val + r) k) := by
  intro r k
  show V m c main_arg5 (((cfg0.win 5).blk t).view.emb (ix2 r k)) = _
  rw [emb5, V_main_arg5]
  exact I.hd _ k
/-- The gain, as one row. -/
theorem blk4 (t : Fin cfg0.N) : At2 (a := 1) (b := 1024) (φ := .f32) (iblk m c 4 t) (fun _ => gn) := by
  intro r k
  show V m c main_v0 (((cfg0.win 4).blk t).view.emb (ix2 r k)) = _
  rw [emb4]
  have e : V m c main_v0 = shapeCast S1x1024 (m ((c : Thread nD τ).loc main_arg1)) shapeCasts_S1024_S1x1024 := by
    show StableHlo.after hostOps0 _ main_v0 = _; after_results; rfl
  rw [e]
  refine Eq.trans ?_ (I.hg k)
  show shapeCast (α := EReal) _ _ _ (ix2 r k) = _
  pointwise
/-- The weights' scan's columns. -/
theorem wl_at (t : Fin cfg0.N) : At2 (wl m c t) W := fun r k =>
  (ld_left _ r k).trans (blk2 I t r (⟨k.val, by omega⟩ : Fin 1536))
/-- The weights' gated unit's columns. -/
theorem wr_at (t : Fin cfg0.N) : At2 (wr m c t) (right W) := fun r k =>
  (ld_right _ r k).trans (blk2 I t r (⟨512 + k.val, by omega⟩ : Fin 1536))

/-- A grid point's band of the stream's gradient. -/
theorem out6_at (t : Fin cfg0.N) : At2 (a := 512) (b := 1024) (φ := .f32) (outsAt0 m c t.val t.isLt).1
    (fun r k => dx D X gn (dh A B W (right W)) (512 * t.val + r) k) := by
  rw [out6]
  exact pay8_at (blk0 I t) (wl_at I t) (blk1 I t) (wr_at I t) (blk3 I t) (blk4 I t) (blk5 I t)

/-- The stream's gradient that the kernel leaves. -/
theorem final6 : At2 (a := 8192) (b := 1024) (φ := .f32) ((dats m 0 c).arrAt 6 cfg0.N) (dx D X gn (dh A B W (right W))) := by
  intro T k
  have ht : T.val / 512 < 16 := by omega
  let t : Fin cfg0.N := (⟨T.val / 512, ht⟩ : Fin 16)
  have hT : (⟨512 * t.val + T.val % 512, row_lt t ⟨T.val % 512, by omega⟩⟩ : Fin 8192) = T := Fin.ext (Nat.div_add_mod T.val 512)
  have e := congrFun (blocks6 m c t (flush0_6 t)) (ix2 ⟨T.val % 512, by omega⟩ k)
  rw [flushed6] at e
  have e' : (dats m 0 c).arrAt 6 cfg0.N (((cfg0.win 6).blk t).view.emb (ix2 ⟨T.val % 512, by omega⟩ k)) =
    (outsAt0 m c t.val t.isLt).1 (ix2 ⟨T.val % 512, by omega⟩ k) := e
  rw [emb6, hT] at e'
  refine e'.trans ((out6_at I t _ k).trans ?_)
  show ((dx D X gn (dh A B W (right W)) (512 * (T.val / 512) + T.val % 512) k.val : ℝ) : EReal) = _
  rw [Nat.div_add_mod]

/-- What the eight rows hold after a grid point before the last. -/
theorem scr_at (n : ℕ) : ∀ (hn : n < cfg0.N), ¬ n % 16 = 15 → At2 (a := 8) (b := 1024) (φ := .f32) (outsAt0 m c n hn).2.2
    (fun s k => ∑ i ∈ Finset.range (n + 1), ∑ a : Fin 64, dh A B W (right W) (512 * i + (8 * a.val + s)) k * xh X (512 * i + (8 * a.val + s)) k) := by
  induction n with
  | zero =>
    intro hn _ s k
    refine (congrFun (scrA m c ⟨0, hn⟩ (show 0 < 16 by decide) rfl) (ix2 s k)).trans ((pay2_at (pay5_at (blk0 I _) (wl_at I _) (blk1 I _) (wr_at I _)) (pay7_at (blk3 I _)) s k).trans ?_)
    exact Cert.Ref.coe_of (Finset.sum_range_one (fun i => ∑ a : Fin 64, dh A B W (right W) (512 * i + (8 * a.val + s.val)) k.val * xh X (512 * i + (8 * a.val + s.val)) k.val)).symm
  | succ n ih =>
    intro hn h s k
    have hN : n + 1 < 16 := hn
    refine (congrFun (scrB m c ⟨n + 1, hn⟩ hN (Nat.le_add_left 1 n) h) (ix2 s k)).trans ((pay3_at (pay5_at (blk0 I _) (wl_at I _) (blk1 I _) (wr_at I _)) (pay7_at (blk3 I _))
      (ih (Nat.lt_of_succ_lt hn) (by omega)) s k).trans ?_)
    exact Cert.Ref.coe_of (Finset.sum_range_succ (fun i => ∑ a : Fin 64, dh A B W (right W) (512 * i + (8 * a.val + s.val)) k.val * xh X (512 * i + (8 * a.val + s.val)) k.val) (n + 1)).symm

/-- The gain's gradient at the last grid point. -/
theorem out7_at (t : Fin cfg0.N) (h : t.val % 16 = 15) : At2 (a := 1) (b := 1024) (φ := .f32) (outsAt0 m c t.val t.isLt).2.1
    (fun _ k => ∑ T ∈ Finset.range 8192, dh A B W (right W) T k * xh X T k) := by
  have ht : t.val < 16 := t.isLt
  intro r k
  refine (congrFun (out7C m c t ht h) (ix2 r k)).trans ((pay4_at (pay3_at (pay5_at (blk0 I _) (wl_at I _) (blk1 I _) (wr_at I _)) (pay7_at (blk3 I _))
    (scr_at I _ _ (by omega))) r k).trans (Cert.Ref.coe_of ?_))
  have h1 : t.val - 1 + 1 = 15 := by omega
  have h2 : t.val = 15 := by omega
  rw [h1]
  have e : ∀ s : Fin 8, ∑ i ∈ Finset.range 15, ∑ a : Fin 64, dh A B W (right W) (512 * i + (8 * a.val + s.val)) k.val * xh X (512 * i + (8 * a.val + s.val)) k.val +
      ∑ a : Fin 64, dh (fun r k => A (512 * t.val + r) k) (fun r k => B (512 * t.val + r) k) W (right W) (8 * a.val + s.val) k.val *
        xh (fun r k => X (512 * t.val + r) k) (8 * a.val + s.val) k.val =
      ∑ i ∈ Finset.range 16, ∑ a : Fin 64, dh A B W (right W) (512 * i + (8 * a.val + s.val)) k.val * xh X (512 * i + (8 * a.val + s.val)) k.val := fun s => by
    rw [Finset.sum_range_succ _ 15, h2]; rfl
  refine (Finset.sum_congr rfl fun s _ => e s).trans ?_
  show _ = ∑ T ∈ Finset.range 8192, dh A B W (right W) T k.val * xh X T k.val
  rw [Finset.sum_comm, ← sum_blocks 512 _ 16]
  refine Finset.sum_congr rfl fun i _ => ?_
  rw [Finset.sum_comm, ← Finset.sum_range fun a => ∑ s : Fin 8, dh A B W (right W) (512 * i + (8 * a + s.val)) k.val * xh X (512 * i + (8 * a + s.val)) k.val,
    sum_blocks 8 (fun x => dh A B W (right W) (512 * i + x) k.val * xh X (512 * i + x) k.val) 64, Finset.sum_range]

/-- The gain's gradient that the kernel leaves. -/
theorem final7 : At2 (a := 1) (b := 1024) (φ := .f32) ((dats m 0 c).arrAt 7 cfg0.N) (fun _ k => ∑ T ∈ Finset.range 8192, dh A B W (right W) T k * xh X T k) := by
  intro r k
  let G : FVec Ideal S1x1024 .f32 := fun i => ((∑ T ∈ Finset.range 8192, dh A B W (right W) T (i 1).val * xh X T (i 1).val : ℝ) : EReal)
  have e : (dats m 0 c).arrAt 7 cfg0.N = G := (dats m 0 c).arrAt_eq_of_cover 7 G (fun t hf => by
    have h := (flush0_7 t).mp hf
    rw [flushed7]
    funext y
    have hy := ix2_eta (n0 := 1) (n1 := 1024) y
    refine (congrArg (outsAt0 m c t.val t.isLt).2.1 hy.symm).trans ?_
    refine (out7_at I t (by omega) (y 0) (y 1)).trans ?_
    show _ = G (((cfg0.win 7).blk t).view.emb (ix2 (y 0) (y 1)))
    exact congrArg G (hy.symm.trans (emb7 t (y 0) (y 1)).symm)) (fun i => (covered_iff7 i).2 (by
      have h0 : (i 0).val < 1 := (i 0).isLt; have h1 : (i 1).val < 1024 := (i 1).isLt; omega))
  rw [e]
  rfl
end
end Cert.MInVal

namespace Cert.MInVal
open Cert.MInRefIdeal Cert.MInRefIdeal.Gen Idealize.ShloMosaic Idealize.ShloMosaic.TcCoe Idealize.SL.Sem
open Idealize.ShloMosaic (ix1 ix2)
open Cert.Mat Cert.Consts Cert.Algebra
open Cert.InVal (el1 ms rs xh dx ofBits_1024 div_1024 refM refX refG refM_at refR_at refX_at refG_at)
open Cert.Tile (At2)

/-- The reference's cotangent of the normalised rows times the gain. -/
def refH (a : FVec Ideal S8192x512 .bf16) (b : FVec Ideal S8192x1024 .bf16) (w : FVec Ideal S1024x1536 .bf16) : FVec Ideal S8192x1024 .f32 :=
  Host.dotGeneral dot_S8192x1536_S1024x1536_S8192x1024_1_1_0_0_n_n none (extf .f32 (concatenate S8192x1536 1 [⟨S8192x512, a⟩, ⟨S8192x1024, b⟩] concatenates_S8192x512_S8192x1024_S8192x1536_d1) bitsLt_bf16_f32) (extf .f32 w bitsLt_bf16_f32)
section
variable {a : FVec Ideal S8192x512 .bf16} {b : FVec Ideal S8192x1024 .bf16} {w : FVec Ideal S1024x1536 .bf16} {x d h : FVec Ideal S8192x1024 .f32} {g : FVec Ideal S1024 .f32}
  {q r : FVec Ideal S8192x1 .f32} {A B W X D H : ℕ → ℕ → ℝ} {gn Q R : ℕ → ℝ}

/-- Its values: the sum over all columns is the two sums. -/
theorem refH_at (ha : At2 a A) (hb : At2 b B) (hw : At2 w W) : At2 (refH a b w) (dh A B W (fun k q => W k (512 + q))) := by
  intro T k
  pointwise [refH]
  simp only [ha _ _, hb _ _, hw _ _, ← EReal.coe_mul, coe_sum, ← EReal.coe_add]
  rfl

end
end Cert.MInVal

namespace Cert.MInVal
open Idealize.ShloMosaic Idealize.ShloMosaic.TcCoe Idealize.SL.Sem
open Idealize.ShloMosaic (ix1 ix2)
open Cert.Mat Cert.Consts Cert.Algebra Cert.Finite
open Cert.InVal (el1 ms rs xh dx refM refX refG refM_at refR_at refX_at refG_at)
open Cert.Tile (At2)

/-- The shape conditions the precondition takes. -/
theorem facts : Cert.Pre_finite_m_in.Facts where
  bcast_S_S8192x1024 := by decide
  reducesTo_S8192x1024_S_d0_1 := by decide
  h_S_ := by decide
  bcast_S_S1024 := by decide
  reducesTo_S1024_S_d0 := by decide
  bitsLt_bf16_f32 := by decide
  bcast_S_S1024x1536 := by decide
  reducesTo_S1024x1536_S_d0_1 := by decide
  bcast_S_S8192x512 := by decide
  reducesTo_S8192x512_S_d0_1 := by decide

open Cert.Pre_finite_m_in in
/-- Finite arguments have real elements. -/
theorem real_args [Cert.Pre_finite_m_in.Facts] (a0 : FVec Ideal S8192x1024 .f32) (a1 : FVec Ideal S1024 .f32) (a2 : FVec Ideal S1024x1536 .bf16)
    (a3 : FVec Ideal S8192x512 .bf16) (a4 : FVec Ideal S8192x1024 .bf16) (a5 : FVec Ideal S8192x1024 .f32) (e : Cert.Pre_finite_m_in.fn (F := Ideal) a0 a1 a2 a3 a4 a5 = fun _ => 1#1) :
    (∀ i, ∃ r : ℝ, (a0 i : EReal) = (r : EReal)) ∧ (∀ i, ∃ r : ℝ, (a1 i : EReal) = (r : EReal)) ∧ (∀ i, ∃ r : ℝ, (a2 i : EReal) = (r : EReal)) ∧
      (∀ i, ∃ r : ℝ, (a3 i : EReal) = (r : EReal)) ∧ (∀ i, ∃ r : ℝ, (a4 i : EReal) = (r : EReal)) ∧ ∀ i, ∃ r : ℝ, (a5 i : EReal) = (r : EReal) := by
  have e' := congrFun e (fun a => a.elim0)
  obtain ⟨e', h5⟩ := (andi_one _ _).mp e'
  obtain ⟨e', h4⟩ := (andi_one _ _).mp e'
  obtain ⟨e', h3⟩ := (andi_one _ _).mp e'
  obtain ⟨e', h2⟩ := (andi_one _ _).mp e'
  obtain ⟨h0, h1⟩ := (andi_one _ _).mp e'
  exact ⟨real_of_all a0 _ _ _ _ h0, real_of_all a1 _ _ _ _ h1, real_of_all (extf .f32 a2 Facts.bitsLt_bf16_f32) _ _ _ _ h2,
    real_of_all (extf .f32 a3 Facts.bitsLt_bf16_f32) _ _ _ _ h3, real_of_all (extf .f32 a4 Facts.bitsLt_bf16_f32) _ _ _ _ h4, real_of_all a5 _ _ _ _ h5⟩

/-- The reference's two results as the formulas above. -/
theorem ref_results (m : (ℓ : Loc Cert.MInRefIdeal.nD Cert.MInRefIdeal.τ Cert.MInRefIdeal.sig) → Buf (Elt Ideal) ℓ) (c : Dev Cert.MInRefIdeal.nD) :
    Cert.MInRefIdeal.Value.res_main_v41 m c = refX (m ((c.tc : Thread Cert.MInRefIdeal.nD Cert.MInRefIdeal.τ).loc Cert.MInRefIdeal.main_arg0)) (m ((c.tc : Thread Cert.MInRefIdeal.nD Cert.MInRefIdeal.τ).loc Cert.MInRefIdeal.main_arg5))
      (refH (m ((c.tc : Thread Cert.MInRefIdeal.nD Cert.MInRefIdeal.τ).loc Cert.MInRefIdeal.main_arg3)) (m ((c.tc : Thread Cert.MInRefIdeal.nD Cert.MInRefIdeal.τ).loc Cert.MInRefIdeal.main_arg4)) (m ((c.tc : Thread Cert.MInRefIdeal.nD Cert.MInRefIdeal.τ).loc Cert.MInRefIdeal.main_arg2)))
      (m ((c.tc : Thread Cert.MInRefIdeal.nD Cert.MInRefIdeal.τ).loc Cert.MInRefIdeal.main_arg1)) (refM (m ((c.tc : Thread Cert.MInRefIdeal.nD Cert.MInRefIdeal.τ).loc Cert.MInRefIdeal.main_arg0)))
      (Host.rsqrt (refM (m ((c.tc : Thread Cert.MInRefIdeal.nD Cert.MInRefIdeal.τ).loc Cert.MInRefIdeal.main_arg0)))) := by
  unfold Cert.MInRefIdeal.Value.res_main_v41
  rfl

/-- The two programs' results agree for finite arguments. -/
theorem algebraic : Cert.algebraic_MInIdeal_MInRefIdeal_pre_finite_m_in (hMInIdeal := Cert.MInIdeal.Gen.facts)
    (hMInRefIdeal := Cert.MInRefIdeal.Gen.facts) (hPre_finite_m_in := facts) := by
  intro m ρ m' ρ' hpre hag
  refine ⟨fun c => (Cert.MInIdeal.Gen.dats m 0 c).arrAt 6 Cert.MInIdeal.cfg0.N, fun c => (Cert.MInIdeal.Gen.dats m 0 c).arrAt 7 Cert.MInIdeal.cfg0.N,
    (θ_run _ _ _).mono ?_ (Cert.MInIdeal.Value.run_blocks m ρ), (θ_run _ _ _).mono ?_ (Cert.MInRefIdeal.Value.run m' ρ')⟩
  · intro r h c
    obtain ⟨a6, a7, k⟩ := h c
    exact ⟨a6, a7, k⟩
  · intro r h c
    haveI := facts
    obtain ⟨h0, h1, h2, h3, h4, h5⟩ := real_args _ _ _ _ _ _ (hpre c)
    obtain ⟨X, hx⟩ := exists_at2 (a := 8192) (b := 1024) (φ := .f32) _ h0
    obtain ⟨gn, hg⟩ := exists_at1 (a := 1024) _ h1
    obtain ⟨W, hw⟩ := exists_at2 (a := 1024) (b := 1536) (φ := .bf16) _ h2
    obtain ⟨A, ha⟩ := exists_at2 (a := 8192) (b := 512) (φ := .bf16) _ h3
    obtain ⟨B, hb⟩ := exists_at2 (a := 8192) (b := 1024) (φ := .bf16) _ h4
    obtain ⟨D, hd⟩ := exists_at2 (a := 8192) (b := 1024) (φ := .f32) _ h5
    have I : Ins m c X gn W A B D := ⟨hx, hg, hw, ha, hb, hd⟩
    obtain ⟨e0, e1, e2, e3, e4, e5⟩ := hag c
    obtain ⟨b0, b1, k⟩ := h c
    have H := refH_at (ha) hb hw
    refine ⟨b0.trans ((ref_results m' c).trans ?_), b1.trans ?_, k⟩
    · rw [e0, e1, e2, e3, e4, e5]
      exact eq_of_at2 (a := 8192) (b := 1024) (φ := .f32) (refX_at hx hd H hg (refM_at hx) (refR_at hx)) (final6 I)
    · rw [e0, e2, e3, e4]
      exact eq_of_at2 (a := 1) (b := 1024) (φ := .f32) (refG_at hx H (refR_at hx)) (final7 I)
end Cert.MInVal
end
-- ==== Proof.Adam.lean ====
/- One element's step of the optimiser, as expressions of the element's weight, gradient and two moments. -/
module
public import Idealize.ShloMosaic.Lib.Pointwise
@[expose] public section
noncomputable section
namespace Cert.Adam
open Idealize.ShloMosaic

/-- The new mean of the gradients: nine tenths of the old one and a tenth of the gradient. -/
def newM (g m : EReal) : EReal := Scalar.ofBits (F := Ideal) .f32 0x3F666666#32 * m + Scalar.ofBits (F := Ideal) .f32 0x3DCCCCCD#32 * g
/-- The new mean of the squared gradients. -/
def newV (g v : EReal) : EReal := Scalar.ofBits (F := Ideal) .f32 0x3F7FBE77#32 * v + Scalar.ofBits (F := Ideal) .f32 0x3A83126F#32 * (g * g)
/-- The change of the weight: the corrected mean over the root of the corrected mean square, with the weight's decay, times
    the step's size. -/
def delta (w g m v : EReal) : EReal :=
  Scalar.ofBits (F := Ideal) .f32 0xBA83126F#32 *
    (Ideal.div (Ideal.div (newM g m) (Scalar.ofBits (F := Ideal) .f32 0x3F26BD02#32))
        (Ideal.sqrt (Ideal.div (newV g v) (Scalar.ofBits (F := Ideal) .f32 0x3C231ACC#32)) + Scalar.ofBits (F := Ideal) .f32 0x322BCC77#32) +
      Scalar.ofBits (F := Ideal) .f32 0x3C23D70A#32 * w)
end Cert.Adam
end
-- ==== Proof.AdMOut.lean ====
/- The optimiser's step for the weights out of the mixing: the two stacked matrices are laid out as one, and the step goes through it in bands of
   256 rows. Every element's step uses that element alone. -/
module
public import proofs.«01_k».proof.Defs
public import proofs.«01_k».proof.Proof.Mat
public import proofs.«01_k».proof.Proof.Adam
public import proofs.«01_k».proof.Proof.Gen.AdMOut.Frame
public import proofs.«01_k».proof.Proof.Gen.AdMOutIdeal.Frame
public import proofs.«01_k».proof.Proof.Gen.AdMOutIdeal.Value
public import proofs.«01_k».proof.Proof.Gen.AdMOutRefIdeal.Run
public import Idealize.ShloMosaic.Lib.Pointwise
public import Idealize.ShloMosaic.Lib.Pipeline.ValueKit
public import Idealize.ShloMosaic.Lib.Pipeline.ReadBack
@[expose] public section
set_option maxRecDepth 16384
noncomputable section
namespace Cert.AdMOutVal
open Cert.AdMOutIdeal Cert.AdMOutIdeal.Gen Cert.AdMOutIdeal.Value Idealize.ShloMosaic Idealize.ShloMosaic.TcCoe Idealize.SL.Sem
open Idealize.ShloMosaic (ix1 ix2)
open Cert.Mat Cert.Adam

/-- The gradient is passed on. -/
theorem pay1_at (g : FVec Ideal S256x1024 .f32) (r : Fin 256) (k : Fin 1024) : el .f32 (k0_pay1 (F := Ideal) g) r k = el .f32 g r k := by
  pointwise [k0_pay1]
/-- An element of the new mean. -/
theorem pay3_at (g x : FVec Ideal S256x1024 .f32) (r : Fin 256) (k : Fin 1024) :
    el .f32 (k0_pay3 (F := Ideal) g x) r k = newM (el .f32 g r k) (el .f32 x r k) := by
  pointwise [k0_pay3, k0_pay2]
  rfl
/-- An element of the new mean square. -/
theorem pay4_at (g x : FVec Ideal S256x1024 .f32) (r : Fin 256) (k : Fin 1024) :
    el .f32 (k0_pay4 (F := Ideal) g x) r k = newV (el .f32 g r k) (el .f32 x r k) := by
  pointwise [k0_pay4, k0_pay2]
  rfl
/-- An element of the weights' change. -/
theorem pay5_at (g x y w : FVec Ideal S256x1024 .f32) (r : Fin 256) (k : Fin 1024) :
    el .f32 (k0_pay5 (F := Ideal) g x y w) r k = delta (el .f32 w r k) (el .f32 g r k) (el .f32 x r k) (el .f32 y r k) := by
  pointwise [k0_pay5, k0_pay4, k0_pay3, k0_pay2]
  rfl

variable (m : (ℓ : Loc nD τ sig) → Buf (Elt Ideal) ℓ) (ρ : Dev nD → PrngReg)

/-- What a grid point stores: the gradient. -/
theorem out4 (x0 x1 x2 x3 : FVec Ideal S256x1024 .f32) : out0_4 (F := Ideal) x0 x1 x2 x3 = k0_pay1 (F := Ideal) x1 := by
  unfold out0_4
  rw [View.canon_unit_zero (by decide), View.ld_unit_zero (by decide)]

/-- What a grid point stores: the change. -/
theorem out5 (x0 x1 x2 x3 : FVec Ideal S256x1024 .f32) : out0_5 (F := Ideal) x0 x1 x2 x3 = k0_pay5 (F := Ideal) x1 x2 x3 x0 := by
  unfold out0_5
  rw [View.canon_unit_zero (by decide), View.ld_unit_zero (by decide), View.ld_unit_zero (by decide), View.ld_unit_zero (by decide), View.ld_unit_zero (by decide)]

/-- What a grid point stores: the new mean. -/
theorem out6 (x0 x1 x2 x3 : FVec Ideal S256x1024 .f32) : out0_6 (F := Ideal) x0 x1 x2 x3 = k0_pay3 (F := Ideal) x1 x2 := by
  unfold out0_6
  rw [View.canon_unit_zero (by decide), View.ld_unit_zero (by decide), View.ld_unit_zero (by decide)]

/-- What a grid point stores: the new mean square. -/
theorem out7 (x0 x1 x2 x3 : FVec Ideal S256x1024 .f32) : out0_7 (F := Ideal) x0 x1 x2 x3 = k0_pay4 (F := Ideal) x1 x3 := by
  unfold out0_7
  rw [View.canon_unit_zero (by decide), View.ld_unit_zero (by decide), View.ld_unit_zero (by decide)]

/-- Which blocks a grid point reads and writes. -/
theorem idx : ∀ t : Fin cfg0.N, (win0_0.index t (0 : Fin 2) = t.val ∧ win0_0.index t (1 : Fin 2) = 0) ∧
    (win0_1.index t (0 : Fin 2) = t.val ∧ win0_1.index t (1 : Fin 2) = 0) ∧
    (win0_2.index t (0 : Fin 2) = t.val ∧ win0_2.index t (1 : Fin 2) = 0) ∧
    (win0_3.index t (0 : Fin 2) = t.val ∧ win0_3.index t (1 : Fin 2) = 0) ∧
    (win0_4.index t (0 : Fin 2) = t.val ∧ win0_4.index t (1 : Fin 2) = 0) ∧
    (win0_5.index t (0 : Fin 2) = t.val ∧ win0_5.index t (1 : Fin 2) = 0) ∧
    (win0_6.index t (0 : Fin 2) = t.val ∧ win0_6.index t (1 : Fin 2) = 0) ∧
    (win0_7.index t (0 : Fin 2) = t.val ∧ win0_7.index t (1 : Fin 2) = 0) := (by decide +kernel : ∀ t : Fin grid0.N, _)

/-- A row of a band is a row of the array. -/
theorem row_lt (t : Fin cfg0.N) (r : Fin 256) : 256 * t.val + r.val < 512 := by
  have h : t.val < 2 := t.isLt
  omega

/-- Where an element of window 0 lies in the array. -/
theorem emb0 (t : Fin cfg0.N) (r : Fin 256) (k : Fin 1024) :
    ((cfg0.win 0).blk t).view.emb (ix2 r k) = ix2 (n0 := 512) (n1 := 1024) ⟨256 * t.val + r.val, row_lt t r⟩ k := by
  obtain ⟨⟨e0, e1⟩, -⟩ := idx t
  funext a; apply Fin.ext
  match a with
  | ⟨0, _⟩ => show win0_0.index t (0 : Fin 2) * 256 + 1 * r.val = 256 * t.val + r.val; rw [e0]; omega
  | ⟨1, _⟩ => show win0_0.index t (1 : Fin 2) * 1024 + 1 * k.val = k.val; rw [e1]; omega

/-- Where an element of window 1 lies in the array. -/
theorem emb1 (t : Fin cfg0.N) (r : Fin 256) (k : Fin 1024) :
    ((cfg0.win 1).blk t).view.emb (ix2 r k) = ix2 (n0 := 512) (n1 := 1024) ⟨256 * t.val + r.val, row_lt t r⟩ k := by
  obtain ⟨-, ⟨e0, e1⟩, -⟩ := idx t
  funext a; apply Fin.ext
  match a with
  | ⟨0, _⟩ => show win0_1.index t (0 : Fin 2) * 256 + 1 * r.val = 256 * t.val + r.val; rw [e0]; omega
  | ⟨1, _⟩ => show win0_1.index t (1 : Fin 2) * 1024 + 1 * k.val = k.val; rw [e1]; omega

/-- Where an element of window 2 lies in the array. -/
theorem emb2 (t : Fin cfg0.N) (r : Fin 256) (k : Fin 1024) :
    ((cfg0.win 2).blk t).view.emb (ix2 r k) = ix2 (n0 := 512) (n1 := 1024) ⟨256 * t.val + r.val, row_lt t r⟩ k := by
  obtain ⟨-, -, ⟨e0, e1⟩, -⟩ := idx t
  funext a; apply Fin.ext
  match a with
  | ⟨0, _⟩ => show win0_2.index t (0 : Fin 2) * 256 + 1 * r.val = 256 * t.val + r.val; rw [e0]; omega
  | ⟨1, _⟩ => show win0_2.index t (1 : Fin 2) * 1024 + 1 * k.val = k.val; rw [e1]; omega

/-- Where an element of window 3 lies in the array. -/
theorem emb3 (t : Fin cfg0.N) (r : Fin 256) (k : Fin 1024) :
    ((cfg0.win 3).blk t).view.emb (ix2 r k) = ix2 (n0 := 512) (n1 := 1024) ⟨256 * t.val + r.val, row_lt t r⟩ k := by
  obtain ⟨-, -, -, ⟨e0, e1⟩, -⟩ := idx t
  funext a; apply Fin.ext
  match a with
  | ⟨0, _⟩ => show win0_3.index t (0 : Fin 2) * 256 + 1 * r.val = 256 * t.val + r.val; rw [e0]; omega
  | ⟨1, _⟩ => show win0_3.index t (1 : Fin 2) * 1024 + 1 * k.val = k.val; rw [e1]; omega

/-- Where an element of window 4 lies in the array. -/
theorem emb4 (t : Fin cfg0.N) (r : Fin 256) (k : Fin 1024) :
    ((cfg0.win 4).blk t).view.emb (ix2 r k) = ix2 (n0 := 512) (n1 := 1024) ⟨256 * t.val + r.val, row_lt t r⟩ k := by
  obtain ⟨-, -, -, -, ⟨e0, e1⟩, -⟩ := idx t
  funext a; apply Fin.ext
  match a with
  | ⟨0, _⟩ => show win0_4.index t (0 : Fin 2) * 256 + 1 * r.val = 256 * t.val + r.val; rw [e0]; omega
  | ⟨1, _⟩ => show win0_4.index t (1 : Fin 2) * 1024 + 1 * k.val = k.val; rw [e1]; omega

/-- Where an element of window 5 lies in the array. -/
theorem emb5 (t : Fin cfg0.N) (r : Fin 256) (k : Fin 1024) :
    ((cfg0.win 5).blk t).view.emb (ix2 r k) = ix2 (n0 := 512) (n1 := 1024) ⟨256 * t.val + r.val, row_lt t r⟩ k := by
  obtain ⟨-, -, -, -, -, ⟨e0, e1⟩, -⟩ := idx t
  funext a; apply Fin.ext
  match a with
  | ⟨0, _⟩ => show win0_5.index t (0 : Fin 2) * 256 + 1 * r.val = 256 * t.val + r.val; rw [e0]; omega
  | ⟨1, _⟩ => show win0_5.index t (1 : Fin 2) * 1024 + 1 * k.val = k.val; rw [e1]; omega

/-- Where an element of window 6 lies in the array. -/
theorem emb6 (t : Fin cfg0.N) (r : Fin 256) (k : Fin 1024) :
    ((cfg0.win 6).blk t).view.emb (ix2 r k) = ix2 (n0 := 512) (n1 := 1024) ⟨256 * t.val + r.val, row_lt t r⟩ k := by
  obtain ⟨-, -, -, -, -, -, ⟨e0, e1⟩, -⟩ := idx t
  funext a; apply Fin.ext
  match a with
  | ⟨0, _⟩ => show win0_6.index t (0 : Fin 2) * 256 + 1 * r.val = 256 * t.val + r.val; rw [e0]; omega
  | ⟨1, _⟩ => show win0_6.index t (1 : Fin 2) * 1024 + 1 * k.val = k.val; rw [e1]; omega

/-- Where an element of window 7 lies in the array. -/
theorem emb7 (t : Fin cfg0.N) (r : Fin 256) (k : Fin 1024) :
    ((cfg0.win 7).blk t).view.emb (ix2 r k) = ix2 (n0 := 512) (n1 := 1024) ⟨256 * t.val + r.val, row_lt t r⟩ k := by
  obtain ⟨-, -, -, -, -, -, -, ⟨e0, e1⟩⟩ := idx t
  funext a; apply Fin.ext
  match a with
  | ⟨0, _⟩ => show win0_7.index t (0 : Fin 2) * 256 + 1 * r.val = 256 * t.val + r.val; rw [e0]; omega
  | ⟨1, _⟩ => show win0_7.index t (1 : Fin 2) * 1024 + 1 * k.val = k.val; rw [e1]; omega

/-- The two stacked matrices as one. -/
abbrev flat (x : FVec Ideal S2x256x1024 .f32) : FVec Ideal S512x1024 .f32 := shapeCast S512x1024 x shapeCasts_S2x256x1024_S512x1024

section
variable (c : Dev nD) (t : Fin cfg0.N)

/-- An element of a band of the weights. -/
theorem blk0 (r : Fin 256) (k : Fin 1024) : el .f32 (iblk m c 0 t) r k =
    el (a := 512) (b := 1024) .f32 (flat (m ((c : Thread nD τ).loc main_arg0))) ⟨256 * t.val + r.val, row_lt t r⟩ k := by
  have e : V m c main_v0 = flat (m ((c : Thread nD τ).loc main_arg0)) := by
    show StableHlo.after hostOps0 _ main_v0 = _; after_results; rfl
  show V m c main_v0 (((cfg0.win 0).blk t).view.emb (ix2 r k)) = _
  rw [emb0, e]

/-- An element of a band of the gradient. -/
theorem blk1 (r : Fin 256) (k : Fin 1024) : el .f32 (iblk m c 1 t) r k =
    el (a := 512) (b := 1024) .f32 (flat (m ((c : Thread nD τ).loc main_arg1))) ⟨256 * t.val + r.val, row_lt t r⟩ k := by
  have e : V m c main_v1 = flat (m ((c : Thread nD τ).loc main_arg1)) := by
    show StableHlo.after hostOps0 _ main_v1 = _; after_results; rfl
  show V m c main_v1 (((cfg0.win 1).blk t).view.emb (ix2 r k)) = _
  rw [emb1, e]

/-- An element of a band of the mean. -/
theorem blk2 (r : Fin 256) (k : Fin 1024) : el .f32 (iblk m c 2 t) r k =
    el (a := 512) (b := 1024) .f32 (flat (m ((c : Thread nD τ).loc main_arg2))) ⟨256 * t.val + r.val, row_lt t r⟩ k := by
  have e : V m c main_v2 = flat (m ((c : Thread nD τ).loc main_arg2)) := by
    show StableHlo.after hostOps0 _ main_v2 = _; after_results; rfl
  show V m c main_v2 (((cfg0.win 2).blk t).view.emb (ix2 r k)) = _
  rw [emb2, e]

/-- An element of a band of the mean square. -/
theorem blk3 (r : Fin 256) (k : Fin 1024) : el .f32 (iblk m c 3 t) r k =
    el (a := 512) (b := 1024) .f32 (flat (m ((c : Thread nD τ).loc main_arg3))) ⟨256 * t.val + r.val, row_lt t r⟩ k := by
  have e : V m c main_v3 = flat (m ((c : Thread nD τ).loc main_arg3)) := by
    show StableHlo.after hostOps0 _ main_v3 = _; after_results; rfl
  show V m c main_v3 (((cfg0.win 3).blk t).view.emb (ix2 r k)) = _
  rw [emb3, e]

end

/-- The array of the gradient that the kernel leaves. -/
theorem final4 (c : Dev nD) (T : Fin 512) (k : Fin 1024) : el (a := 512) (b := 1024) .f32 ((dats m 0 c).arrAt 4 cfg0.N) T k =
    el .f32 (flat (m ((c : Thread nD τ).loc main_arg1))) T k := by
  have ht : T.val / 256 < 2 := by omega
  let t : Fin cfg0.N := (⟨T.val / 256, ht⟩ : Fin 2)
  have hT : (⟨256 * t.val + T.val % 256, row_lt t ⟨T.val % 256, by omega⟩⟩ : Fin 512) = T := Fin.ext (Nat.div_add_mod T.val 256)
  have e := congrFun (blocks4 m c t (flush0_4 t)) (ix2 ⟨T.val % 256, by omega⟩ k)
  rw [flushed4] at e
  have e' : (dats m 0 c).arrAt 4 cfg0.N (((cfg0.win 4).blk t).view.emb (ix2 ⟨T.val % 256, by omega⟩ k)) =
    out0_4 (iblk m c 0 t) (iblk m c 1 t) (iblk m c 2 t) (iblk m c 3 t) (ix2 ⟨T.val % 256, by omega⟩ k) := e
  rw [emb4, hT, out4] at e'
  refine e'.trans ((pay1_at _ _ k).trans ?_)
  simp only [blk1, hT]

/-- The array of the weights' change that the kernel leaves. -/
theorem final5 (c : Dev nD) (T : Fin 512) (k : Fin 1024) : el (a := 512) (b := 1024) .f32 ((dats m 0 c).arrAt 5 cfg0.N) T k =
    delta (el .f32 (flat (m ((c : Thread nD τ).loc main_arg0))) T k) (el .f32 (flat (m ((c : Thread nD τ).loc main_arg1))) T k)
      (el .f32 (flat (m ((c : Thread nD τ).loc main_arg2))) T k) (el .f32 (flat (m ((c : Thread nD τ).loc main_arg3))) T k) := by
  have ht : T.val / 256 < 2 := by omega
  let t : Fin cfg0.N := (⟨T.val / 256, ht⟩ : Fin 2)
  have hT : (⟨256 * t.val + T.val % 256, row_lt t ⟨T.val % 256, by omega⟩⟩ : Fin 512) = T := Fin.ext (Nat.div_add_mod T.val 256)
  have e := congrFun (blocks5 m c t (flush0_5 t)) (ix2 ⟨T.val % 256, by omega⟩ k)
  rw [flushed5] at e
  have e' : (dats m 0 c).arrAt 5 cfg0.N (((cfg0.win 5).blk t).view.emb (ix2 ⟨T.val % 256, by omega⟩ k)) =
    out0_5 (iblk m c 0 t) (iblk m c 1 t) (iblk m c 2 t) (iblk m c 3 t) (ix2 ⟨T.val % 256, by omega⟩ k) := e
  rw [emb5, hT, out5] at e'
  refine e'.trans ((pay5_at _ _ _ _ _ k).trans ?_)
  simp only [blk0, blk1, blk2, blk3, hT]

/-- The array of the new mean that the kernel leaves. -/
theorem final6 (c : Dev nD) (T : Fin 512) (k : Fin 1024) : el (a := 512) (b := 1024) .f32 ((dats m 0 c).arrAt 6 cfg0.N) T k =
    newM (el .f32 (flat (m ((c : Thread nD τ).loc main_arg1))) T k) (el .f32 (flat (m ((c : Thread nD τ).loc main_arg2))) T k) := by
  have ht : T.val / 256 < 2 := by omega
  let t : Fin cfg0.N := (⟨T.val / 256, ht⟩ : Fin 2)
  have hT : (⟨256 * t.val + T.val % 256, row_lt t ⟨T.val % 256, by omega⟩⟩ : Fin 512) = T := Fin.ext (Nat.div_add_mod T.val 256)
  have e := congrFun (blocks6 m c t (flush0_6 t)) (ix2 ⟨T.val % 256, by omega⟩ k)
  rw [flushed6] at e
  have e' : (dats m 0 c).arrAt 6 cfg0.N (((cfg0.win 6).blk t).view.emb (ix2 ⟨T.val % 256, by omega⟩ k)) =
    out0_6 (iblk m c 0 t) (iblk m c 1 t) (iblk m c 2 t) (iblk m c 3 t) (ix2 ⟨T.val % 256, by omega⟩ k) := e
  rw [emb6, hT, out6] at e'
  refine e'.trans ((pay3_at _ _ _ k).trans ?_)
  simp only [blk1, blk2, hT]

/-- The array of the new mean square that the kernel leaves. -/
theorem final7 (c : Dev nD) (T : Fin 512) (k : Fin 1024) : el (a := 512) (b := 1024) .f32 ((dats m 0 c).arrAt 7 cfg0.N) T k =
    newV (el .f32 (flat (m ((c : Thread nD τ).loc main_arg1))) T k) (el .f32 (flat (m ((c : Thread nD τ).loc main_arg3))) T k) := by
  have ht : T.val / 256 < 2 := by omega
  let t : Fin cfg0.N := (⟨T.val / 256, ht⟩ : Fin 2)
  have hT : (⟨256 * t.val + T.val % 256, row_lt t ⟨T.val % 256, by omega⟩⟩ : Fin 512) = T := Fin.ext (Nat.div_add_mod T.val 256)
  have e := congrFun (blocks7 m c t (flush0_7 t)) (ix2 ⟨T.val % 256, by omega⟩ k)
  rw [flushed7] at e
  have e' : (dats m 0 c).arrAt 7 cfg0.N (((cfg0.win 7).blk t).view.emb (ix2 ⟨T.val % 256, by omega⟩ k)) =
    out0_7 (iblk m c 0 t) (iblk m c 1 t) (iblk m c 2 t) (iblk m c 3 t) (ix2 ⟨T.val % 256, by omega⟩ k) := e
  rw [emb7, hT, out7] at e'
  refine e'.trans ((pay4_at _ _ _ k).trans ?_)
  simp only [blk1, blk3, hT]

end Cert.AdMOutVal

namespace Cert.AdMOutVal
open Cert.AdMOutRefIdeal Cert.AdMOutRefIdeal.Gen Idealize.ShloMosaic Idealize.ShloMosaic.TcCoe
open Idealize.ShloMosaic (ix1 ix2)
open Cert.Mat Cert.Adam

/-- The reference's new mean. -/
def refM (g x : FVec Ideal S2x256x1024 .f32) : FVec Ideal S2x256x1024 .f32 :=
  addf (mulf (broadcastInDim S2x256x1024 ![] bcast_S_S2x256x1024 (constant S_ .f32 0x3F666666#32)) x) (mulf (broadcastInDim S2x256x1024 ![] bcast_S_S2x256x1024 (constant S_ .f32 0x3DCCCCCD#32)) g)
/-- The reference's new mean square. -/
def refV (g x : FVec Ideal S2x256x1024 .f32) : FVec Ideal S2x256x1024 .f32 :=
  addf (mulf (broadcastInDim S2x256x1024 ![] bcast_S_S2x256x1024 (constant S_ .f32 0x3F7FBE77#32)) x) (mulf (broadcastInDim S2x256x1024 ![] bcast_S_S2x256x1024 (constant S_ .f32 0x3A83126F#32)) (mulf g g))
/-- The reference's change of the weights. -/
def refD (w g x y : FVec Ideal S2x256x1024 .f32) : FVec Ideal S2x256x1024 .f32 :=
  mulf (broadcastInDim S2x256x1024 ![] bcast_S_S2x256x1024 (constant S_ .f32 0xBA83126F#32)) (addf (Host.divf (Host.divf (addf (mulf (broadcastInDim S2x256x1024 ![] bcast_S_S2x256x1024 (constant S_ .f32 0x3F666666#32)) x) (mulf (broadcastInDim S2x256x1024 ![] bcast_S_S2x256x1024 (constant S_ .f32 0x3DCCCCCD#32)) g)) (broadcastInDim S2x256x1024 ![] bcast_S_S2x256x1024 (constant S_ .f32 0x3F26BD02#32))) (addf (Host.sqrt (Host.divf (addf (mulf (broadcastInDim S2x256x1024 ![] bcast_S_S2x256x1024 (constant S_ .f32 0x3F7FBE77#32)) y) (mulf (broadcastInDim S2x256x1024 ![] bcast_S_S2x256x1024 (constant S_ .f32 0x3A83126F#32)) (mulf g g))) (broadcastInDim S2x256x1024 ![] bcast_S_S2x256x1024 (constant S_ .f32 0x3C231ACC#32)))) (broadcastInDim S2x256x1024 ![] bcast_S_S2x256x1024 (constant S_ .f32 0x322BCC77#32)))) (mulf (broadcastInDim S2x256x1024 ![] bcast_S_S2x256x1024 (constant S_ .f32 0x3C23D70A#32)) w))

/-- An element of the reference's new mean. -/
theorem refM_at (g x : FVec Ideal S2x256x1024 .f32) (T : Fin 512) (k : Fin 1024) :
    el .f32 (flat (refM g x)) T k = newM (el .f32 (flat g) T k) (el .f32 (flat x) T k) := rfl
/-- An element of the reference's new mean square. -/
theorem refV_at (g x : FVec Ideal S2x256x1024 .f32) (T : Fin 512) (k : Fin 1024) :
    el .f32 (flat (refV g x)) T k = newV (el .f32 (flat g) T k) (el .f32 (flat x) T k) := rfl
/-- An element of the reference's change of the weights. -/
theorem refD_at (w g x y : FVec Ideal S2x256x1024 .f32) (T : Fin 512) (k : Fin 1024) :
    el .f32 (flat (refD w g x y)) T k = delta (el .f32 (flat w) T k) (el .f32 (flat g) T k) (el .f32 (flat x) T k) (el .f32 (flat y) T k) := rfl

/-- The two programs leave the same arrays. -/
theorem algebraic : Cert.algebraic_AdMOutIdeal_AdMOutRefIdeal (hAdMOutIdeal := Cert.AdMOutIdeal.Gen.facts) (hAdMOutRefIdeal := Cert.AdMOutRefIdeal.Gen.facts) := by
  intro m ρ m' ρ' _ hag
  refine ⟨_, _, _, _, Cert.AdMOutIdeal.Value.run_blocks m ρ, (θ_run _ _ _).mono ?_ (Cert.AdMOutRefIdeal.Value.run m' ρ')⟩
  intro r h c
  obtain ⟨b4, b5, b6, b7, k⟩ := h c
  obtain ⟨e0, e1, e2, e3⟩ := hag c
  refine ⟨b4.trans ?_, b5.trans ?_, b6.trans ?_, b7.trans ?_, k⟩
  · rw [e1]
    exact ext (a := 512) (b := 1024) (φ := .f32) fun T q => (final4 m c T q).symm
  · rw [e0, e1, e2, e3]
    exact ext (a := 512) (b := 1024) (φ := .f32) fun T q => (refD_at _ _ _ _ T q).trans (final5 m c T q).symm
  · rw [e1, e2]
    exact ext (a := 512) (b := 1024) (φ := .f32) fun T q => (refM_at _ _ T q).trans (final6 m c T q).symm
  · rw [e1, e3]
    exact ext (a := 512) (b := 1024) (φ := .f32) fun T q => (refV_at _ _ T q).trans (final7 m c T q).symm

end Cert.AdMOutVal
end
-- ==== Proof.Loss.lean ====
/- The loss head: half the mean squared distance of the normalised stream from the target, its gradient for the stream
   and for the gain. The kernel works on bands of rows and adds up the gain's gradient and the loss over the bands, the
   reference differentiates the whole map. -/
module
public import proofs.«01_k».proof.Defs
public import proofs.«01_k».proof.Proof.Mat
public import proofs.«01_k».proof.Proof.Finite
public import proofs.«01_k».proof.Proof.Algebra
public import proofs.«01_k».proof.Proof.In
public import proofs.«01_k».proof.Proof.Gen.Loss.Frame
public import proofs.«01_k».proof.Proof.Gen.LossIdeal.Frame
public import proofs.«01_k».proof.Proof.Gen.LossIdeal.Value
public import proofs.«01_k».proof.Proof.Gen.LossRefIdeal.Run
public import Idealize.ShloMosaic.Lib.Pointwise
public import Idealize.ShloMosaic.Lib.Pipeline.ValueKit
public import Idealize.ShloMosaic.Lib.Pipeline.ReadBack
@[expose] public section
set_option maxRecDepth 16384
noncomputable section
namespace Cert.LossVal
open Cert.LossIdeal Cert.LossIdeal.Gen Cert.LossIdeal.Value Idealize.ShloMosaic Idealize.ShloMosaic.TcCoe Idealize.SL.Sem
open Idealize.ShloMosaic (ix1 ix2)
open Cert.Mat Cert.Consts Cert.Algebra
open Cert.InVal (el1 ms rs xh dx ofBits_1024 div_1024 refM refG refM_at refR_at refG_at)
open Cert.Tile (At2)

/-- The float word of two. -/
theorem ofBits_two : Ideal.ofBits .f32 0x40000000#32 = ((2 : ℝ) : EReal) := by
  simp [Ideal.ofBits, Ideal.ieee, -EReal.coe_mul]; norm_num
/-- The float word of 1/1024. -/
theorem ofBits_inv : Ideal.ofBits .f32 0x3A800000#32 = ((1 / 1024 : ℝ) : EReal) := by
  simp [Ideal.ofBits, Ideal.ieee, -EReal.coe_mul]; norm_num
/-- The float word of 1/2048. -/
theorem ofBits_half_inv : Ideal.ofBits .f32 0x3A000000#32 = ((1 / 2048 : ℝ) : EReal) := by
  simp [Ideal.ofBits, Ideal.ieee, -EReal.coe_mul]; norm_num

/-- The distance of the normalised stream from the target. -/
def er (X : ℕ → ℕ → ℝ) (gn : ℕ → ℝ) (G : ℕ → ℕ → ℝ) (r k : ℕ) : ℝ := xh X r k * gn k - G r k
/-- The cotangent of the normalised stream. -/
def hh (X : ℕ → ℕ → ℝ) (gn : ℕ → ℝ) (G : ℕ → ℕ → ℝ) (r k : ℕ) : ℝ := er X gn G r k * (1 / 1024)
/-- The gradient of the stream. -/
def gx (X : ℕ → ℕ → ℝ) (gn : ℕ → ℝ) (H : ℕ → ℕ → ℝ) (r k : ℕ) : ℝ :=
  rs X r * (H r k * gn k - xh X r k * ((∑ e : Fin 1024, H r e.val * gn e.val * xh X r e.val) / 1024))
/-- A row's part of the gain's gradient. -/
def pg (X : ℕ → ℕ → ℝ) (gn : ℕ → ℝ) (G : ℕ → ℕ → ℝ) (r k : ℕ) : ℝ := hh X gn G r k * xh X r k
/-- A squared distance. -/
def sq (X : ℕ → ℕ → ℝ) (gn : ℕ → ℝ) (G : ℕ → ℕ → ℝ) (r k : ℕ) : ℝ := er X gn G r k * er X gn G r k

/-- Eight rows' sums over the bands are the sum over all rows. -/
theorem rows8 (f : ℕ → ℝ) : ∑ s : Fin 8, ∑ i ∈ Finset.range 16, ∑ a : Fin 64, f (512 * i + (8 * a.val + s.val)) = ∑ T ∈ Finset.range 8192, f T := by
  show _ = ∑ T ∈ Finset.range (512 * 16), f T
  rw [Finset.sum_comm, ← sum_blocks 512 f 16]
  refine Finset.sum_congr rfl fun i _ => ?_
  rw [Finset.sum_comm, ← Finset.sum_range fun a => ∑ s : Fin 8, f (512 * i + (8 * a + s.val)), sum_blocks 8 (fun x => f (512 * i + x)) 64, Finset.sum_range]

section
variable {x w : FVec Ideal S512x1024 .f32} {g : FVec Ideal S1x1024 .f32} {X G : ℕ → ℕ → ℝ} {gn : ℕ → ℝ}
/-- The reciprocal roots of a band. -/
theorem pay8_at (h : At2 x X) : At2 (k0_pay8 (F := Ideal) x) (fun r _ => rs X r) := Cert.InVal.pay6_at h
/-- The normalised rows of a band. -/
theorem pay9_at (h : At2 x X) : At2 (k0_pay9 (F := Ideal) x) (xh X) := Cert.InVal.pay7_at h
/-- The distances of a band. -/
theorem pay10_at (h : At2 x X) (hg : At2 g (fun _ => gn)) (hw : At2 w G) : At2 (k0_pay10 (F := Ideal) x g w) (er X gn G) := by
  intro r k
  pointwise [k0_pay10, k0_pay7]
  simp only [pay9_at h _ _, hg _ _, hw _ _, ← EReal.coe_mul, ← EReal.coe_sub]
  rfl
/-- The cotangents of a band. -/
theorem pay11_at (h : At2 x X) (hg : At2 g (fun _ => gn)) (hw : At2 w G) : At2 (k0_pay11 (F := Ideal) x g w) (hh X gn G) := by
  intro r k
  pointwise [k0_pay11]
  simp only [pay10_at h hg hw _ _, ofBits_inv, ← EReal.coe_mul]
  rfl
/-- The gradient of the stream on a band. -/
theorem pay12_at (h : At2 x X) (hg : At2 g (fun _ => gn)) (hw : At2 w G) : At2 (k0_pay12 (F := Ideal) x g w) (gx X gn (hh X gn G)) := by
  intro r k
  pointwise [k0_pay12, k0_pay7]
  simp only [pay8_at h _ _, pay9_at h _ _, pay11_at h hg hw _ _, hg _ _, ← EReal.coe_mul, coe_sum, ofBits_1024, div_1024, ← EReal.coe_sub]
  rfl
/-- A band's part of the gain's gradient, eight rows of it. -/
theorem pg_at (h : At2 x X) (hg : At2 g (fun _ => gn)) (hw : At2 w G) :
    At2 (k0_pay13 (F := Ideal) x g w) (fun s k => ∑ a : Fin 64, pg X gn G (8 * a.val + s) k) := by
  intro r k
  pointwise [k0_pay13]
  simp only [pay11_at h hg hw _ _, pay9_at h _ _, ← EReal.coe_mul, coe_sum, mul_comm 8]
  rfl
/-- A band's squared distances, summed to eight rows. -/
theorem sq_at (h : At2 x X) (hg : At2 g (fun _ => gn)) (hw : At2 w G) :
    At2 (k0_pay14 (F := Ideal) x g w) (fun s k => ∑ a : Fin 64, sq X gn G (8 * a.val + s) k) := by
  intro r k
  pointwise [k0_pay14]
  simp only [pay10_at h hg hw _ _, ← EReal.coe_mul, coe_sum, mul_comm 8]
  rfl
variable {y z : FVec Ideal S8x1024 .f32} {Y Z : ℕ → ℕ → ℝ}
/-- The first band's part of the gain's gradient. -/
theorem pay1_at (hy : At2 y Y) : At2 (k0_pay1 (F := Ideal) y) Y := by
  intro r k
  pointwise [k0_pay1]
  exact hy r k
/-- The first band's squares. -/
theorem pay2_at (hy : At2 y Y) : At2 (k0_pay2 (F := Ideal) y) Y := by
  intro r k
  pointwise [k0_pay2]
  exact hy r k
/-- A later band's part of the gain's gradient, added. -/
theorem pay3_at (hy : At2 y Y) (hz : At2 z Z) : At2 (k0_pay3 (F := Ideal) y z) (fun s k => Z s k + Y s k) := by
  intro r k
  pointwise [k0_pay3]
  simp only [hy _ _, hz _ _, ← EReal.coe_add]
/-- A later band's squares, added. -/
theorem pay4_at (hy : At2 y Y) (hz : At2 z Z) : At2 (k0_pay4 (F := Ideal) y z) (fun s k => Z s k + Y s k) := by
  intro r k
  pointwise [k0_pay4]
  simp only [hy _ _, hz _ _, ← EReal.coe_add]
/-- The eight rows' sum. -/
theorem pay5_at (hz : At2 z Z) : At2 (k0_pay5 (F := Ideal) z) (fun _ k => ∑ s : Fin 8, Z s.val k) := by
  intro r k
  pointwise [k0_pay5]
  simp only [hz _ _, coe_sum]
/-- The sum of all squares, scaled. -/
theorem pay6_at (hz : At2 z Z) : At2 (k0_pay6 (F := Ideal) z) (fun _ _ => (∑ k : Fin 1024, ∑ s : Fin 8, Z s.val k.val) * (1 / 2048)) := by
  intro r k
  pointwise [k0_pay6]
  simp only [hz _ _, coe_sum, ofBits_half_inv, ← EReal.coe_mul]
end

variable (m : (ℓ : Loc nD τ sig) → Buf (Elt Ideal) ℓ) (ρ : Dev nD → PrngReg)

/-- What the first grid point stores of the stream's gradient. -/
theorem out3A (c : Dev nD) (t : Fin cfg0.N) (ht : t.val < 16) (h0 : t.val = 0) :
    (outsAt0 m c t.val t.isLt).1 = k0_pay12 (F := Ideal) (iblk m c 0 t) (iblk m c 1 t) (iblk m c 2 t) := by
  rw [outsAt0_A m c t (by omega) (by omega) (by omega)]
  frame_open
  simp (disch := first | decide +kernel | (intro a; fin_cases a <;> rfl)) only [↓View.readCov_cons_toLoadRect, ↓View.readCov_skip, ↓View.readCov_fill]
  frame_out

/-- What a middle grid point stores of the stream's gradient. -/
theorem out3B (c : Dev nD) (t : Fin cfg0.N) (ht : t.val < 16) (h0 : 1 ≤ t.val) (h2 : ¬ t.val % 16 = 15) :
    (outsAt0 m c t.val t.isLt).1 = k0_pay12 (F := Ideal) (iblk m c 0 t) (iblk m c 1 t) (iblk m c 2 t) := by
  rw [outsAt0_B m c t (by omega) (by omega) (by omega)]
  frame_open
  simp (disch := first | decide +kernel | (intro a; fin_cases a <;> rfl)) only [↓View.readCov_cons_toLoadRect, ↓View.readCov_skip, ↓View.readCov_fill]
  frame_out

/-- What the last grid point stores of the stream's gradient. -/
theorem out3C (c : Dev nD) (t : Fin cfg0.N) (ht : t.val < 16) (h2 : t.val % 16 = 15) :
    (outsAt0 m c t.val t.isLt).1 = k0_pay12 (F := Ideal) (iblk m c 0 t) (iblk m c 1 t) (iblk m c 2 t) := by
  rw [outsAt0_C m c t (by omega) (by omega) (by omega)]
  frame_open
  simp (disch := first | decide +kernel | (intro a; fin_cases a <;> rfl)) only [↓View.readCov_cons_toLoadRect, ↓View.readCov_skip, ↓View.readCov_fill]
  frame_out

/-- The first grid point starts the gain's sum. -/
theorem scrA (c : Dev nD) (t : Fin cfg0.N) (ht : t.val < 16) (h0 : t.val = 0) :
    (outsAt0 m c t.val t.isLt).2.2.2.1 = k0_pay1 (F := Ideal) (k0_pay13 (F := Ideal) (iblk m c 0 t) (iblk m c 1 t) (iblk m c 2 t)) := by
  rw [outsAt0_A m c t (by omega) (by omega) (by omega)]
  frame_open
  simp (disch := first | decide +kernel | (intro a; fin_cases a <;> rfl)) only [↓View.readCov_cons_toLoadRect, ↓View.readCov_skip, ↓View.readCov_fill]
  frame_out

/-- The first grid point starts the squares' sum. -/
theorem sclA (c : Dev nD) (t : Fin cfg0.N) (ht : t.val < 16) (h0 : t.val = 0) :
    (outsAt0 m c t.val t.isLt).2.2.2.2 = k0_pay2 (F := Ideal) (k0_pay14 (F := Ideal) (iblk m c 0 t) (iblk m c 1 t) (iblk m c 2 t)) := by
  rw [outsAt0_A m c t (by omega) (by omega) (by omega)]
  frame_open
  simp (disch := first | decide +kernel | (intro a; fin_cases a <;> rfl)) only [↓View.readCov_cons_toLoadRect, ↓View.readCov_skip, ↓View.readCov_fill]
  frame_out

/-- A middle one adds to the gain's sum. -/
theorem scrB (c : Dev nD) (t : Fin cfg0.N) (ht : t.val < 16) (h0 : 1 ≤ t.val) (h2 : ¬ t.val % 16 = 15) :
    (outsAt0 m c t.val t.isLt).2.2.2.1 = k0_pay3 (F := Ideal) (k0_pay13 (F := Ideal) (iblk m c 0 t) (iblk m c 1 t) (iblk m c 2 t)) (outsAt0 m c (t.val - 1) (Nat.lt_of_le_of_lt (Nat.sub_le _ _) t.isLt)).2.2.2.1 := by
  rw [outsAt0_B m c t (by omega) (by omega) (by omega)]
  frame_open
  simp (disch := first | decide +kernel | (intro a; fin_cases a <;> rfl)) only [↓View.readCov_cons_toLoadRect, ↓View.readCov_skip, ↓View.readCov_fill]
  frame_out
  rw [read_unread_whole]

/-- A middle one adds to the squares' sum. -/
theorem sclB (c : Dev nD) (t : Fin cfg0.N) (ht : t.val < 16) (h0 : 1 ≤ t.val) (h2 : ¬ t.val % 16 = 15) :
    (outsAt0 m c t.val t.isLt).2.2.2.2 = k0_pay4 (F := Ideal) (k0_pay14 (F := Ideal) (iblk m c 0 t) (iblk m c 1 t) (iblk m c 2 t)) (outsAt0 m c (t.val - 1) (Nat.lt_of_le_of_lt (Nat.sub_le _ _) t.isLt)).2.2.2.2 := by
  rw [outsAt0_B m c t (by omega) (by omega) (by omega)]
  frame_open
  simp (disch := first | decide +kernel | (intro a; fin_cases a <;> rfl)) only [↓View.readCov_cons_toLoadRect, ↓View.readCov_skip, ↓View.readCov_fill]
  frame_out
  rw [read_unread_whole]

/-- The last one adds to the gain's sum and sums the eight rows. -/
theorem out4C (c : Dev nD) (t : Fin cfg0.N) (ht : t.val < 16) (h2 : t.val % 16 = 15) :
    (outsAt0 m c t.val t.isLt).2.1 = k0_pay5 (F := Ideal) (k0_pay3 (F := Ideal) (k0_pay13 (F := Ideal) (iblk m c 0 t) (iblk m c 1 t) (iblk m c 2 t)) (outsAt0 m c (t.val - 1) (Nat.lt_of_le_of_lt (Nat.sub_le _ _) t.isLt)).2.2.2.1) := by
  rw [outsAt0_C m c t (by omega) (by omega) (by omega)]
  frame_open
  simp (disch := first | decide +kernel | (intro a; fin_cases a <;> rfl)) only [↓View.readCov_cons_toLoadRect, ↓View.readCov_skip, ↓View.readCov_fill]
  frame_out
  rw [read_unread_whole]

/-- The last one adds to the squares' sum, sums all of it and scales it. -/
theorem out5C (c : Dev nD) (t : Fin cfg0.N) (ht : t.val < 16) (h2 : t.val % 16 = 15) :
    (outsAt0 m c t.val t.isLt).2.2.1 = k0_pay6 (F := Ideal) (k0_pay4 (F := Ideal) (k0_pay14 (F := Ideal) (iblk m c 0 t) (iblk m c 1 t) (iblk m c 2 t)) (outsAt0 m c (t.val - 1) (Nat.lt_of_le_of_lt (Nat.sub_le _ _) t.isLt)).2.2.2.2) := by
  rw [outsAt0_C m c t (by omega) (by omega) (by omega)]
  frame_open
  simp (disch := first | decide +kernel | (intro a; fin_cases a <;> rfl)) only [↓View.readCov_cons_toLoadRect, ↓View.readCov_skip, ↓View.readCov_fill]
  frame_out
  rw [read_unread_whole]

/-- Every grid point stores the same formula of what it reads. -/
theorem out3 (c : Dev nD) (t : Fin cfg0.N) : (outsAt0 m c t.val t.isLt).1 = k0_pay12 (F := Ideal) (iblk m c 0 t) (iblk m c 1 t) (iblk m c 2 t) := by
  have ht : t.val < 16 := t.isLt
  by_cases h0 : t.val = 0
  · exact out3A m c t ht h0
  · by_cases h2 : t.val % 16 = 15
    · exact out3C m c t ht h2
    · exact out3B m c t ht (by omega) h2

/-- The arguments are real: the stream `X`, the gain `gn`, the target `G`. -/
structure Ins (c : Dev nD) (X : ℕ → ℕ → ℝ) (gn : ℕ → ℝ) (G : ℕ → ℕ → ℝ) : Prop where
  hx : At2 (a := 8192) (b := 1024) (φ := .f32) (m ((c : Thread nD τ).loc main_arg0)) X
  hg : ∀ i : Fin 1024, el1 (m ((c : Thread nD τ).loc main_arg1)) i = ((gn i.val : ℝ) : EReal)
  hw : At2 (a := 8192) (b := 1024) (φ := .f32) (m ((c : Thread nD τ).loc main_arg2)) G

/-- Which blocks a grid point reads and writes. -/
theorem idx : ∀ t : Fin cfg0.N, (win0_0.index t (0 : Fin 2) = t.val ∧ win0_0.index t (1 : Fin 2) = 0) ∧
    (win0_1.index t (0 : Fin 2) = 0 ∧ win0_1.index t (1 : Fin 2) = 0) ∧
    (win0_2.index t (0 : Fin 2) = t.val ∧ win0_2.index t (1 : Fin 2) = 0) ∧
    (win0_3.index t (0 : Fin 2) = t.val ∧ win0_3.index t (1 : Fin 2) = 0) ∧
    (win0_4.index t (0 : Fin 2) = 0 ∧ win0_4.index t (1 : Fin 2) = 0) ∧
    (win0_5.index t (0 : Fin 2) = 0 ∧ win0_5.index t (1 : Fin 2) = 0) := (by decide +kernel : ∀ t : Fin grid0.N, _)

/-- A row of a band is a row of the array. -/
theorem row_lt (t : Fin cfg0.N) (r : Fin 512) : 512 * t.val + r.val < 8192 := by
  have h : t.val < 16 := t.isLt
  omega

/-- Where an element of window 0 lies in the array. -/
theorem emb0 (t : Fin cfg0.N) (r : Fin 512) (k : Fin 1024) :
    ((cfg0.win 0).blk t).view.emb (ix2 r k) = ix2 (n0 := 8192) (n1 := 1024) ⟨512 * t.val + r.val, row_lt t r⟩ k := by
  obtain ⟨e0, e1⟩ := (idx t).1
  funext a; apply Fin.ext
  match a with
  | ⟨0, _⟩ => show win0_0.index t (0 : Fin 2) * 512 + 1 * r.val = 512 * t.val + r.val; rw [e0]; omega
  | ⟨1, _⟩ => show win0_0.index t (1 : Fin 2) * 1024 + 1 * k.val = k.val; rw [e1]; omega
/-- Where an element of window 1 lies in the array. -/
theorem emb1 (t : Fin cfg0.N) (r : Fin 1) (k : Fin 1024) :
    ((cfg0.win 1).blk t).view.emb (ix2 r k) = ix2 (n0 := 1) (n1 := 1024) r k := by
  obtain ⟨e0, e1⟩ := (idx t).2.1
  funext a; apply Fin.ext
  match a with
  | ⟨0, _⟩ => show win0_1.index t (0 : Fin 2) * 1 + 1 * r.val = r.val; rw [e0]; omega
  | ⟨1, _⟩ => show win0_1.index t (1 : Fin 2) * 1024 + 1 * k.val = k.val; rw [e1]; omega
/-- Where an element of window 2 lies in the array. -/
theorem emb2 (t : Fin cfg0.N) (r : Fin 512) (k : Fin 1024) :
    ((cfg0.win 2).blk t).view.emb (ix2 r k) = ix2 (n0 := 8192) (n1 := 1024) ⟨512 * t.val + r.val, row_lt t r⟩ k := by
  obtain ⟨e0, e1⟩ := (idx t).2.2.1
  funext a; apply Fin.ext
  match a with
  | ⟨0, _⟩ => show win0_2.index t (0 : Fin 2) * 512 + 1 * r.val = 512 * t.val + r.val; rw [e0]; omega
  | ⟨1, _⟩ => show win0_2.index t (1 : Fin 2) * 1024 + 1 * k.val = k.val; rw [e1]; omega
/-- Where an element of window 3 lies in the array. -/
theorem emb3 (t : Fin cfg0.N) (r : Fin 512) (k : Fin 1024) :
    ((cfg0.win 3).blk t).view.emb (ix2 r k) = ix2 (n0 := 8192) (n1 := 1024) ⟨512 * t.val + r.val, row_lt t r⟩ k := by
  obtain ⟨e0, e1⟩ := (idx t).2.2.2.1
  funext a; apply Fin.ext
  match a with
  | ⟨0, _⟩ => show win0_3.index t (0 : Fin 2) * 512 + 1 * r.val = 512 * t.val + r.val; rw [e0]; omega
  | ⟨1, _⟩ => show win0_3.index t (1 : Fin 2) * 1024 + 1 * k.val = k.val; rw [e1]; omega
/-- Where an element of window 4 lies in the array. -/
theorem emb4 (t : Fin cfg0.N) (r : Fin 1) (k : Fin 1024) :
    ((cfg0.win 4).blk t).view.emb (ix2 r k) = ix2 (n0 := 1) (n1 := 1024) r k := by
  obtain ⟨e0, e1⟩ := (idx t).2.2.2.2.1
  funext a; apply Fin.ext
  match a with
  | ⟨0, _⟩ => show win0_4.index t (0 : Fin 2) * 1 + 1 * r.val = r.val; rw [e0]; omega
  | ⟨1, _⟩ => show win0_4.index t (1 : Fin 2) * 1024 + 1 * k.val = k.val; rw [e1]; omega
/-- Where an element of window 5 lies in the array. -/
theorem emb5 (t : Fin cfg0.N) (r : Fin 1) (k : Fin 128) :
    ((cfg0.win 5).blk t).view.emb (ix2 r k) = ix2 (n0 := 1) (n1 := 128) r k := by
  obtain ⟨e0, e1⟩ := (idx t).2.2.2.2.2
  funext a; apply Fin.ext
  match a with
  | ⟨0, _⟩ => show win0_5.index t (0 : Fin 2) * 1 + 1 * r.val = r.val; rw [e0]; omega
  | ⟨1, _⟩ => show win0_5.index t (1 : Fin 2) * 128 + 1 * k.val = k.val; rw [e1]; omega

section
variable {m} {c : Dev nD} {X : ℕ → ℕ → ℝ} {gn : ℕ → ℝ} {G : ℕ → ℕ → ℝ} (I : Ins m c X gn G)
include I
/-- The stream's band. -/
theorem blk0 (t : Fin cfg0.N) : At2 (a := 512) (b := 1024) (φ := .f32) (iblk m c 0 t) (fun r k => X (512 * t.val + r) k) := by
  intro r k
  show V m c main_arg0 (((cfg0.win 0).blk t).view.emb (ix2 r k)) = _
  rw [emb0, V_main_arg0]
  exact I.hx _ k
/-- The target's band. -/
theorem blk2 (t : Fin cfg0.N) : At2 (a := 512) (b := 1024) (φ := .f32) (iblk m c 2 t) (fun r k => G (512 * t.val + r) k) := by
  intro r k
  show V m c main_arg2 (((cfg0.win 2).blk t).view.emb (ix2 r k)) = _
  rw [emb2, V_main_arg2]
  exact I.hw _ k
/-- The gain, as one row. -/
theorem blk1 (t : Fin cfg0.N) : At2 (a := 1) (b := 1024) (φ := .f32) (iblk m c 1 t) (fun _ => gn) := by
  intro r k
  show V m c main_v0 (((cfg0.win 1).blk t).view.emb (ix2 r k)) = _
  rw [emb1]
  have e : V m c main_v0 = shapeCast S1x1024 (m ((c : Thread nD τ).loc main_arg1)) shapeCasts_S1024_S1x1024 := by
    show StableHlo.after hostOps0 _ main_v0 = _; after_results; rfl
  rw [e]
  refine Eq.trans ?_ (I.hg k)
  show shapeCast (α := EReal) _ _ _ (ix2 r k) = _
  pointwise

/-- A grid point's band of the stream's gradient. -/
theorem out3_at (t : Fin cfg0.N) : At2 (a := 512) (b := 1024) (φ := .f32) (outsAt0 m c t.val t.isLt).1
    (fun r k => gx X gn (hh X gn G) (512 * t.val + r) k) := by
  rw [out3]
  exact pay12_at (blk0 I t) (blk1 I t) (blk2 I t)

/-- The stream's gradient that the kernel leaves. -/
theorem final3 : At2 (a := 8192) (b := 1024) (φ := .f32) ((dats m 0 c).arrAt 3 cfg0.N) (gx X gn (hh X gn G)) := by
  intro T k
  have ht : T.val / 512 < 16 := by omega
  let t : Fin cfg0.N := (⟨T.val / 512, ht⟩ : Fin 16)
  have hT : (⟨512 * t.val + T.val % 512, row_lt t ⟨T.val % 512, by omega⟩⟩ : Fin 8192) = T := Fin.ext (Nat.div_add_mod T.val 512)
  have e := congrFun (blocks3 m c t (flush0_3 t)) (ix2 ⟨T.val % 512, by omega⟩ k)
  rw [flushed3] at e
  have e' : (dats m 0 c).arrAt 3 cfg0.N (((cfg0.win 3).blk t).view.emb (ix2 ⟨T.val % 512, by omega⟩ k)) =
    (outsAt0 m c t.val t.isLt).1 (ix2 ⟨T.val % 512, by omega⟩ k) := e
  rw [emb3, hT] at e'
  refine e'.trans ((out3_at I t _ k).trans ?_)
  show ((gx X gn (hh X gn G) (512 * (T.val / 512) + T.val % 512) k.val : ℝ) : EReal) = _
  rw [Nat.div_add_mod]

/-- What the eight rows of the gain's sum hold after a grid point before the last. -/
theorem scr_at (n : ℕ) : ∀ (hn : n < cfg0.N), ¬ n % 16 = 15 → At2 (a := 8) (b := 1024) (φ := .f32) (outsAt0 m c n hn).2.2.2.1
    (fun s k => ∑ i ∈ Finset.range (n + 1), ∑ a : Fin 64, pg X gn G (512 * i + (8 * a.val + s)) k) := by
  induction n with
  | zero =>
    intro hn _ s k
    refine (congrFun (scrA m c ⟨0, hn⟩ (show 0 < 16 by decide) rfl) (ix2 s k)).trans ((pay1_at (pg_at (blk0 I _) (blk1 I _) (blk2 I _)) s k).trans ?_)
    exact Cert.Ref.coe_of (Finset.sum_range_one (fun i => ∑ a : Fin 64, pg X gn G (512 * i + (8 * a.val + s.val)) k.val)).symm
  | succ n ih =>
    intro hn h s k
    have hN : n + 1 < 16 := hn
    refine (congrFun (scrB m c ⟨n + 1, hn⟩ hN (Nat.le_add_left 1 n) h) (ix2 s k)).trans ((pay3_at (pg_at (blk0 I _) (blk1 I _) (blk2 I _))
      (ih (Nat.lt_of_succ_lt hn) (by omega)) s k).trans ?_)
    exact Cert.Ref.coe_of (Finset.sum_range_succ (fun i => ∑ a : Fin 64, pg X gn G (512 * i + (8 * a.val + s.val)) k.val) (n + 1)).symm

/-- What the eight rows of the squares' sum hold after a grid point before the last. -/
theorem scl_at (n : ℕ) : ∀ (hn : n < cfg0.N), ¬ n % 16 = 15 → At2 (a := 8) (b := 1024) (φ := .f32) (outsAt0 m c n hn).2.2.2.2
    (fun s k => ∑ i ∈ Finset.range (n + 1), ∑ a : Fin 64, sq X gn G (512 * i + (8 * a.val + s)) k) := by
  induction n with
  | zero =>
    intro hn _ s k
    refine (congrFun (sclA m c ⟨0, hn⟩ (show 0 < 16 by decide) rfl) (ix2 s k)).trans ((pay2_at (sq_at (blk0 I _) (blk1 I _) (blk2 I _)) s k).trans ?_)
    exact Cert.Ref.coe_of (Finset.sum_range_one (fun i => ∑ a : Fin 64, sq X gn G (512 * i + (8 * a.val + s.val)) k.val)).symm
  | succ n ih =>
    intro hn h s k
    have hN : n + 1 < 16 := hn
    refine (congrFun (sclB m c ⟨n + 1, hn⟩ hN (Nat.le_add_left 1 n) h) (ix2 s k)).trans ((pay4_at (sq_at (blk0 I _) (blk1 I _) (blk2 I _))
      (ih (Nat.lt_of_succ_lt hn) (by omega)) s k).trans ?_)
    exact Cert.Ref.coe_of (Finset.sum_range_succ (fun i => ∑ a : Fin 64, sq X gn G (512 * i + (8 * a.val + s.val)) k.val) (n + 1)).symm

/-- The sum up to the last band. -/
theorem last (f : (ℕ → ℕ → ℝ) → (ℕ → ℝ) → (ℕ → ℕ → ℝ) → ℕ → ℕ → ℝ) (t : Fin cfg0.N) (h : t.val = 15)
    (hf : ∀ r k, f (fun r k => X (512 * t.val + r) k) gn (fun r k => G (512 * t.val + r) k) r k = f X gn G (512 * t.val + r) k) (k : ℕ) :
    ∑ s : Fin 8, (∑ i ∈ Finset.range (t.val - 1 + 1), ∑ a : Fin 64, f X gn G (512 * i + (8 * a.val + s.val)) k +
      ∑ a : Fin 64, f (fun r k => X (512 * t.val + r) k) gn (fun r k => G (512 * t.val + r) k) (8 * a.val + s.val) k) = ∑ T ∈ Finset.range 8192, f X gn G T k := by
  rw [← rows8 (fun T => f X gn G T k)]
  refine Finset.sum_congr rfl fun s _ => ?_
  simp only [hf]
  have h1 : t.val - 1 + 1 = 15 := by omega
  rw [h1, Finset.sum_range_succ _ 15, h]

/-- The gain's gradient at the last grid point. -/
theorem out4_at (t : Fin cfg0.N) (h : t.val % 16 = 15) : At2 (a := 1) (b := 1024) (φ := .f32) (outsAt0 m c t.val t.isLt).2.1
    (fun _ k => ∑ T ∈ Finset.range 8192, pg X gn G T k) := by
  have ht : t.val < 16 := t.isLt
  intro r k
  refine (congrFun (out4C m c t ht h) (ix2 r k)).trans ((pay5_at (pay3_at (pg_at (blk0 I _) (blk1 I _) (blk2 I _))
    (scr_at I _ _ (by omega))) r k).trans (Cert.Ref.coe_of ?_))
  exact last I pg t (by omega) (fun _ _ => rfl) k.val

/-- The loss at the last grid point. -/
theorem out5_at (t : Fin cfg0.N) (h : t.val % 16 = 15) : At2 (a := 1) (b := 128) (φ := .f32) (outsAt0 m c t.val t.isLt).2.2.1
    (fun _ _ => (∑ k : Fin 1024, ∑ T ∈ Finset.range 8192, sq X gn G T k.val) * (1 / 2048)) := by
  have ht : t.val < 16 := t.isLt
  intro r k
  refine (congrFun (out5C m c t ht h) (ix2 r k)).trans ((pay6_at (pay4_at (sq_at (blk0 I _) (blk1 I _) (blk2 I _))
    (scl_at I _ _ (by omega))) r k).trans (Cert.Ref.coe_of ?_))
  exact congrArg (fun v : ℝ => v * (1 / 2048)) (Finset.sum_congr rfl fun k _ => last I sq t (by omega) (fun _ _ => rfl) k.val)

/-- The gain's gradient that the kernel leaves. -/
theorem final4 : At2 (a := 1) (b := 1024) (φ := .f32) ((dats m 0 c).arrAt 4 cfg0.N) (fun _ k => ∑ T ∈ Finset.range 8192, pg X gn G T k) := by
  intro r k
  let A : FVec Ideal S1x1024 .f32 := fun i => ((∑ T ∈ Finset.range 8192, pg X gn G T (i 1).val : ℝ) : EReal)
  have e : (dats m 0 c).arrAt 4 cfg0.N = A := (dats m 0 c).arrAt_eq_of_cover 4 A (fun t hf => by
    have h := (flush0_4 t).mp hf
    rw [flushed4]
    funext y
    have hy := ix2_eta (n0 := 1) (n1 := 1024) y
    refine (congrArg (outsAt0 m c t.val t.isLt).2.1 hy.symm).trans ?_
    refine (out4_at I t (by omega) (y 0) (y 1)).trans ?_
    show _ = A (((cfg0.win 4).blk t).view.emb (ix2 (y 0) (y 1)))
    exact congrArg A (hy.symm.trans (emb4 t (y 0) (y 1)).symm)) (fun i => (covered_iff4 i).2 (by
      have h0 : (i 0).val < 1 := (i 0).isLt; have h1 : (i 1).val < 1024 := (i 1).isLt; omega))
  rw [e]
  rfl
/-- The loss that the kernel leaves, in every lane. -/
theorem final5 : At2 (a := 1) (b := 128) (φ := .f32) ((dats m 0 c).arrAt 5 cfg0.N) (fun _ _ => (∑ q : Fin 1024, ∑ T ∈ Finset.range 8192, sq X gn G T q.val) * (1 / 2048)) := by
  intro r k
  let A : FVec Ideal S1x128 .f32 := fun _ => (((∑ q : Fin 1024, ∑ T ∈ Finset.range 8192, sq X gn G T q.val) * (1 / 2048) : ℝ) : EReal)
  have e : (dats m 0 c).arrAt 5 cfg0.N = A := (dats m 0 c).arrAt_eq_of_cover 5 A (fun t hf => by
    have h := (flush0_5 t).mp hf
    rw [flushed5]
    funext y
    have hy := ix2_eta (n0 := 1) (n1 := 128) y
    refine (congrArg (outsAt0 m c t.val t.isLt).2.2.1 hy.symm).trans ?_
    refine (out5_at I t (by omega) (y 0) (y 1)).trans ?_
    show _ = A (((cfg0.win 5).blk t).view.emb (ix2 (y 0) (y 1)))
    exact congrArg A (hy.symm.trans (emb5 t (y 0) (y 1)).symm)) (fun i => (covered_iff5 i).2 (by
      have h0 : (i 0).val < 1 := (i 0).isLt; have h1 : (i 1).val < 128 := (i 1).isLt; omega))
  rw [e]
end
end Cert.LossVal

namespace Cert.LossVal
open Cert.LossRefIdeal Cert.LossRefIdeal.Gen Idealize.ShloMosaic Idealize.ShloMosaic.TcCoe Idealize.SL.Sem
open Idealize.ShloMosaic (ix1 ix2)
open Cert.Mat Cert.Consts Cert.Algebra
open Cert.InVal (el1 ms rs xh dx ms_pos ofBits_1024 div_1024 refM refG refM_at refR_at refG_at)
open Cert.Tile (At2)

/-- The reference's distances. -/
def refE (x : FVec Ideal S8192x1024 .f32) (g : FVec Ideal S1024 .f32) (w : FVec Ideal S8192x1024 .f32) (r : FVec Ideal S8192x1 .f32) : FVec Ideal S8192x1024 .f32 :=
  subf (mulf (mulf x (broadcastInDim S8192x1024 ![0, 1] bcast_S8192x1_S8192x1024_0_1 r)) (broadcastInDim S8192x1024 ![0, 1] bcast_S1x1024_S8192x1024_0_1 (broadcastInDim S1x1024 ![1] bcast_S1024_S1x1024_1 g))) w
/-- The reference's cotangents of the normalised stream. -/
def refH (e : FVec Ideal S8192x1024 .f32) : FVec Ideal S8192x1024 .f32 :=
  mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) e)
/-- The reference's gradient of the stream. -/
def refX (x h : FVec Ideal S8192x1024 .f32) (g : FVec Ideal S1024 .f32) (q r : FVec Ideal S8192x1 .f32) : FVec Ideal S8192x1024 .f32 :=
  addf (addf (mulf (mulf h (broadcastInDim S8192x1024 ![0, 1] bcast_S1x1024_S8192x1024_0_1 (broadcastInDim S1x1024 ![1] bcast_S1024_S1x1024_1 g))) (broadcastInDim S8192x1024 ![0, 1] bcast_S8192x1_S8192x1024_0_1 r)) (mulf x (broadcastInDim S8192x1024 ![0] bcast_S8192_S8192x1024_0 (Host.reduceAdd (Host.divf (mulf (shapeCast _ (Host.reduceAdd (mulf x (mulf h (broadcastInDim S8192x1024 ![0, 1] bcast_S1x1024_S8192x1024_0_1 (broadcastInDim S1x1024 ![1] bcast_S1024_S1x1024_1 g)))) (constant S_ .f32 0x00000000#32) reducesTo_S8192x1024_S8192_d1 h_S_) shapeCasts_S8192_S8192x1) (mulf (broadcastInDim S8192x1 ![] bcast_S_S8192x1 (constant S_ .f32 0xBF000000#32)) (Host.divf r q))) (broadcastInDim S8192x1 ![] bcast_S_S8192x1 (constant S_ .f32 0x44800000#32))) (constant S_ .f32 0x00000000#32) reducesTo_S8192x1_S8192_d1 h_S_)))) (mulf (broadcastInDim S8192x1024 ![0] bcast_S8192_S8192x1024_0 (Host.reduceAdd (Host.divf (mulf (shapeCast _ (Host.reduceAdd (mulf x (mulf h (broadcastInDim S8192x1024 ![0, 1] bcast_S1x1024_S8192x1024_0_1 (broadcastInDim S1x1024 ![1] bcast_S1024_S1x1024_1 g)))) (constant S_ .f32 0x00000000#32) reducesTo_S8192x1024_S8192_d1 h_S_) shapeCasts_S8192_S8192x1) (mulf (broadcastInDim S8192x1 ![] bcast_S_S8192x1 (constant S_ .f32 0xBF000000#32)) (Host.divf r q))) (broadcastInDim S8192x1 ![] bcast_S_S8192x1 (constant S_ .f32 0x44800000#32))) (constant S_ .f32 0x00000000#32) reducesTo_S8192x1_S8192_d1 h_S_)) x)
/-- The reference's loss, in every lane. -/
def refL (e : FVec Ideal S8192x1024 .f32) : FVec Ideal S1x128 .f32 :=
  broadcastInDim S1x128 ![] bcast_S_S1x128 (mulf (constant S_ .f32 0x3F000000#32) (Host.reduceAdd (Host.divf (Host.reduceAdd (mulf e e) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_))

section
variable {x w h e : FVec Ideal S8192x1024 .f32} {g : FVec Ideal S1024 .f32} {q r : FVec Ideal S8192x1 .f32} {X G H E : ℕ → ℕ → ℝ} {gn : ℕ → ℝ}

/-- The distances' values. -/
theorem refE_at (hx : At2 x X) (hg : ∀ i : Fin 1024, el1 g i = ((gn i.val : ℝ) : EReal)) (hw : At2 w G) (hr : At2 r (fun T _ => rs X T)) :
    At2 (refE x g w r) (er X gn G) := by
  intro T k
  have hg' : ∀ i : Fin 1024, g (ix1 i) = ((gn i.val : ℝ) : EReal) := hg
  pointwise [refE]
  simp only [hx _ _, hg' _, hw _ _, hr _ _, ← EReal.coe_mul, ← EReal.coe_sub]
  rfl
/-- The cotangents' values. -/
theorem refH_at (he : At2 e (er X gn G)) : At2 (refH e) (hh X gn G) := by
  intro T k
  pointwise [refH]
  simp only [he _ _, ofBits_half, ofBits_one, ofBits_two, ofBits_1024, ← EReal.coe_mul, div_1024]
  exact Cert.Ref.coe_of (by unfold hh; ring)
/-- The values of the stream's gradient. -/
theorem refX_at (hx : At2 x X) (hh : At2 h H) (hg : ∀ i : Fin 1024, el1 g i = ((gn i.val : ℝ) : EReal)) (hq : At2 q (fun T _ => ms X T)) (hr : At2 r (fun T _ => rs X T)) :
    At2 (refX x h g q r) (gx X gn H) := by
  intro T k
  have hg' : ∀ i : Fin 1024, g (ix1 i) = ((gn i.val : ℝ) : EReal) := hg
  have hdiv := Cert.Ref.div_real (rs X T) (ms_pos X T).ne'
  pointwise [refX]
  simp only [hx _ _, hh _ _, hg' _, hq _ _, hr _ _, ← EReal.coe_mul, coe_sum, ofBits_1024, Cert.Ref.ofBits_mhalf, hdiv, div_1024, ← EReal.coe_add]
  simp only [Fin.sum_univ_one]
  have e := Cert.InVal.grad (D := fun _ _ => 0) (H := H) (X := X) (gn := gn) T.val k.val
  unfold dx at e
  rw [zero_add, zero_add] at e
  exact Cert.Ref.coe_of e
/-- The loss's value. -/
theorem refL_at (he : At2 e (er X gn G)) : At2 (refL e) (fun _ _ => (∑ q : Fin 1024, ∑ T ∈ Finset.range 8192, sq X gn G T q.val) * (1 / 2048)) := by
  intro z k
  pointwise [refL]
  simp only [he _ _, ofBits_half, ofBits_1024, ← EReal.coe_mul, coe_sum, div_1024]
  refine Cert.Ref.coe_of ?_
  rw [← Finset.sum_div, Finset.sum_comm]
  simp only [Finset.sum_range, sq]
  ring
end
end Cert.LossVal

namespace Cert.LossVal
open Idealize.ShloMosaic Idealize.ShloMosaic.TcCoe Idealize.SL.Sem
open Idealize.ShloMosaic (ix1 ix2)
open Cert.Mat Cert.Consts Cert.Algebra Cert.Finite
open Cert.InVal (el1 ms rs xh dx refM refG refM_at refR_at refG_at)
open Cert.Tile (At2)

/-- The shape conditions the precondition takes. -/
theorem facts : Cert.Pre_finite_loss.Facts where
  bcast_S_S8192x1024 := by decide
  reducesTo_S8192x1024_S_d0_1 := by decide
  h_S_ := by decide
  bcast_S_S1024 := by decide
  reducesTo_S1024_S_d0 := by decide

open Cert.Pre_finite_loss in
/-- Finite arguments have real elements. -/
theorem real_args [Cert.Pre_finite_loss.Facts] (a0 : FVec Ideal S8192x1024 .f32) (a1 : FVec Ideal S1024 .f32) (a2 : FVec Ideal S8192x1024 .f32)
    (e : Cert.Pre_finite_loss.fn (F := Ideal) a0 a1 a2 = fun _ => 1#1) :
    (∀ i, ∃ r : ℝ, (a0 i : EReal) = (r : EReal)) ∧ (∀ i, ∃ r : ℝ, (a1 i : EReal) = (r : EReal)) ∧ ∀ i, ∃ r : ℝ, (a2 i : EReal) = (r : EReal) := by
  have e' := congrFun e (fun a => a.elim0)
  obtain ⟨e', h2⟩ := (andi_one _ _).mp e'
  obtain ⟨h0, h1⟩ := (andi_one _ _).mp e'
  exact ⟨real_of_all a0 _ _ _ _ h0, real_of_all a1 _ _ _ _ h1, real_of_all a2 _ _ _ _ h2⟩

/-- The reference's gradient of the stream as the formulas above. -/
theorem ref_results (m : (ℓ : Loc Cert.LossRefIdeal.nD Cert.LossRefIdeal.τ Cert.LossRefIdeal.sig) → Buf (Elt Ideal) ℓ) (c : Dev Cert.LossRefIdeal.nD) :
    Cert.LossRefIdeal.Value.res_main_v50 m c = refX (m ((c.tc : Thread Cert.LossRefIdeal.nD Cert.LossRefIdeal.τ).loc Cert.LossRefIdeal.main_arg0))
      (refH (refE (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (Host.rsqrt (refM (m ((c.tc : Thread Cert.LossRefIdeal.nD Cert.LossRefIdeal.τ).loc Cert.LossRefIdeal.main_arg0))))))
      (m ((c.tc : Thread Cert.LossRefIdeal.nD Cert.LossRefIdeal.τ).loc Cert.LossRefIdeal.main_arg1)) (refM (m ((c.tc : Thread Cert.LossRefIdeal.nD Cert.LossRefIdeal.τ).loc Cert.LossRefIdeal.main_arg0))) (Host.rsqrt (refM (m ((c.tc : Thread Cert.LossRefIdeal.nD Cert.LossRefIdeal.τ).loc Cert.LossRefIdeal.main_arg0)))) := by
  unfold Cert.LossRefIdeal.Value.res_main_v50
  rfl

/-- The two programs' results agree for finite arguments. -/
theorem algebraic : Cert.algebraic_LossIdeal_LossRefIdeal_pre_finite_loss (hLossIdeal := Cert.LossIdeal.Gen.facts)
    (hLossRefIdeal := Cert.LossRefIdeal.Gen.facts) (hPre_finite_loss := facts) := by
  intro m ρ m' ρ' hpre hag
  refine ⟨fun c => (Cert.LossIdeal.Gen.dats m 0 c).arrAt 3 Cert.LossIdeal.cfg0.N, fun c => (Cert.LossIdeal.Gen.dats m 0 c).arrAt 4 Cert.LossIdeal.cfg0.N,
    fun c => (Cert.LossIdeal.Gen.dats m 0 c).arrAt 5 Cert.LossIdeal.cfg0.N,
    (θ_run _ _ _).mono ?_ (Cert.LossIdeal.Value.run_blocks m ρ), (θ_run _ _ _).mono ?_ (Cert.LossRefIdeal.Value.run m' ρ')⟩
  · intro r h c
    obtain ⟨a3, a4, a5, k⟩ := h c
    exact ⟨a3, a4, a5, k⟩
  · intro r h c
    haveI := facts
    obtain ⟨h0, h1, h2⟩ := real_args _ _ _ (hpre c)
    obtain ⟨X, hx⟩ := exists_at2 (a := 8192) (b := 1024) (φ := .f32) _ h0
    obtain ⟨gn, hg⟩ := exists_at1 (a := 1024) _ h1
    obtain ⟨G, hw⟩ := exists_at2 (a := 8192) (b := 1024) (φ := .f32) _ h2
    have I : Ins m c X gn G := ⟨hx, hg, hw⟩
    obtain ⟨e0, e1, e2⟩ := hag c
    obtain ⟨b0, b1, b2, k⟩ := h c
    have E := refE_at hx hg hw (refR_at hx)
    have H := refH_at E
    refine ⟨b0.trans ((ref_results m' c).trans ?_), b1.trans ?_, b2.trans ?_, k⟩
    · rw [e0, e1, e2]
      exact eq_of_at2 (a := 8192) (b := 1024) (φ := .f32) (refX_at hx H hg (refM_at hx) (refR_at hx)) (final3 I)
    · rw [e0, e1, e2]
      exact eq_of_at2 (a := 1) (b := 1024) (φ := .f32) (refG_at hx H (refR_at hx)) (final4 I)
    · rw [e0, e1, e2]
      exact eq_of_at2 (a := 1) (b := 128) (φ := .f32) (refL_at E) (final5 I)
end Cert.LossVal
end
-- ==== Proof.AdMIn.lean ====
/- The optimiser's step for the weights into the mixing: the two stacked matrices are laid out as one, and the step goes through it in bands of
   256 rows. Every element's step uses that element alone. -/
module
public import proofs.«01_k».proof.Defs
public import proofs.«01_k».proof.Proof.Mat
public import proofs.«01_k».proof.Proof.Adam
public import proofs.«01_k».proof.Proof.Gen.AdMIn.Frame
public import proofs.«01_k».proof.Proof.Gen.AdMInIdeal.Frame
public import proofs.«01_k».proof.Proof.Gen.AdMInIdeal.Value
public import proofs.«01_k».proof.Proof.Gen.AdMInRefIdeal.Run
public import Idealize.ShloMosaic.Lib.Pointwise
public import Idealize.ShloMosaic.Lib.Pipeline.ValueKit
public import Idealize.ShloMosaic.Lib.Pipeline.ReadBack
@[expose] public section
set_option maxRecDepth 16384
noncomputable section
namespace Cert.AdMInVal
open Cert.AdMInIdeal Cert.AdMInIdeal.Gen Cert.AdMInIdeal.Value Idealize.ShloMosaic Idealize.ShloMosaic.TcCoe Idealize.SL.Sem
open Idealize.ShloMosaic (ix1 ix2)
open Cert.Mat Cert.Adam

/-- The gradient is passed on. -/
theorem pay1_at (g : FVec Ideal S256x384 .f32) (r : Fin 256) (k : Fin 384) : el .f32 (k0_pay1 (F := Ideal) g) r k = el .f32 g r k := by
  pointwise [k0_pay1]
/-- An element of the new mean. -/
theorem pay3_at (g x : FVec Ideal S256x384 .f32) (r : Fin 256) (k : Fin 384) :
    el .f32 (k0_pay3 (F := Ideal) g x) r k = newM (el .f32 g r k) (el .f32 x r k) := by
  pointwise [k0_pay3, k0_pay2]
  rfl
/-- An element of the new mean square. -/
theorem pay4_at (g x : FVec Ideal S256x384 .f32) (r : Fin 256) (k : Fin 384) :
    el .f32 (k0_pay4 (F := Ideal) g x) r k = newV (el .f32 g r k) (el .f32 x r k) := by
  pointwise [k0_pay4, k0_pay2]
  rfl
/-- An element of the weights' change. -/
theorem pay5_at (g x y w : FVec Ideal S256x384 .f32) (r : Fin 256) (k : Fin 384) :
    el .f32 (k0_pay5 (F := Ideal) g x y w) r k = delta (el .f32 w r k) (el .f32 g r k) (el .f32 x r k) (el .f32 y r k) := by
  pointwise [k0_pay5, k0_pay4, k0_pay3, k0_pay2]
  rfl

variable (m : (ℓ : Loc nD τ sig) → Buf (Elt Ideal) ℓ) (ρ : Dev nD → PrngReg)

/-- What a grid point stores: the gradient. -/
theorem out4 (x0 x1 x2 x3 : FVec Ideal S256x384 .f32) : out0_4 (F := Ideal) x0 x1 x2 x3 = k0_pay1 (F := Ideal) x1 := by
  unfold out0_4
  rw [View.canon_unit_zero (by decide), View.ld_unit_zero (by decide)]

/-- What a grid point stores: the change. -/
theorem out5 (x0 x1 x2 x3 : FVec Ideal S256x384 .f32) : out0_5 (F := Ideal) x0 x1 x2 x3 = k0_pay5 (F := Ideal) x1 x2 x3 x0 := by
  unfold out0_5
  rw [View.canon_unit_zero (by decide), View.ld_unit_zero (by decide), View.ld_unit_zero (by decide), View.ld_unit_zero (by decide), View.ld_unit_zero (by decide)]

/-- What a grid point stores: the new mean. -/
theorem out6 (x0 x1 x2 x3 : FVec Ideal S256x384 .f32) : out0_6 (F := Ideal) x0 x1 x2 x3 = k0_pay3 (F := Ideal) x1 x2 := by
  unfold out0_6
  rw [View.canon_unit_zero (by decide), View.ld_unit_zero (by decide), View.ld_unit_zero (by decide)]

/-- What a grid point stores: the new mean square. -/
theorem out7 (x0 x1 x2 x3 : FVec Ideal S256x384 .f32) : out0_7 (F := Ideal) x0 x1 x2 x3 = k0_pay4 (F := Ideal) x1 x3 := by
  unfold out0_7
  rw [View.canon_unit_zero (by decide), View.ld_unit_zero (by decide), View.ld_unit_zero (by decide)]

/-- Which blocks a grid point reads and writes. -/
theorem idx : ∀ t : Fin cfg0.N, (win0_0.index t (0 : Fin 2) = t.val ∧ win0_0.index t (1 : Fin 2) = 0) ∧
    (win0_1.index t (0 : Fin 2) = t.val ∧ win0_1.index t (1 : Fin 2) = 0) ∧
    (win0_2.index t (0 : Fin 2) = t.val ∧ win0_2.index t (1 : Fin 2) = 0) ∧
    (win0_3.index t (0 : Fin 2) = t.val ∧ win0_3.index t (1 : Fin 2) = 0) ∧
    (win0_4.index t (0 : Fin 2) = t.val ∧ win0_4.index t (1 : Fin 2) = 0) ∧
    (win0_5.index t (0 : Fin 2) = t.val ∧ win0_5.index t (1 : Fin 2) = 0) ∧
    (win0_6.index t (0 : Fin 2) = t.val ∧ win0_6.index t (1 : Fin 2) = 0) ∧
    (win0_7.index t (0 : Fin 2) = t.val ∧ win0_7.index t (1 : Fin 2) = 0) := (by decide +kernel : ∀ t : Fin grid0.N, _)

/-- A row of a band is a row of the array. -/
theorem row_lt (t : Fin cfg0.N) (r : Fin 256) : 256 * t.val + r.val < 2048 := by
  have h : t.val < 8 := t.isLt
  omega

/-- Where an element of window 0 lies in the array. -/
theorem emb0 (t : Fin cfg0.N) (r : Fin 256) (k : Fin 384) :
    ((cfg0.win 0).blk t).view.emb (ix2 r k) = ix2 (n0 := 2048) (n1 := 384) ⟨256 * t.val + r.val, row_lt t r⟩ k := by
  obtain ⟨⟨e0, e1⟩, -⟩ := idx t
  funext a; apply Fin.ext
  match a with
  | ⟨0, _⟩ => show win0_0.index t (0 : Fin 2) * 256 + 1 * r.val = 256 * t.val + r.val; rw [e0]; omega
  | ⟨1, _⟩ => show win0_0.index t (1 : Fin 2) * 384 + 1 * k.val = k.val; rw [e1]; omega

/-- Where an element of window 1 lies in the array. -/
theorem emb1 (t : Fin cfg0.N) (r : Fin 256) (k : Fin 384) :
    ((cfg0.win 1).blk t).view.emb (ix2 r k) = ix2 (n0 := 2048) (n1 := 384) ⟨256 * t.val + r.val, row_lt t r⟩ k := by
  obtain ⟨-, ⟨e0, e1⟩, -⟩ := idx t
  funext a; apply Fin.ext
  match a with
  | ⟨0, _⟩ => show win0_1.index t (0 : Fin 2) * 256 + 1 * r.val = 256 * t.val + r.val; rw [e0]; omega
  | ⟨1, _⟩ => show win0_1.index t (1 : Fin 2) * 384 + 1 * k.val = k.val; rw [e1]; omega

/-- Where an element of window 2 lies in the array. -/
theorem emb2 (t : Fin cfg0.N) (r : Fin 256) (k : Fin 384) :
    ((cfg0.win 2).blk t).view.emb (ix2 r k) = ix2 (n0 := 2048) (n1 := 384) ⟨256 * t.val + r.val, row_lt t r⟩ k := by
  obtain ⟨-, -, ⟨e0, e1⟩, -⟩ := idx t
  funext a; apply Fin.ext
  match a with
  | ⟨0, _⟩ => show win0_2.index t (0 : Fin 2) * 256 + 1 * r.val = 256 * t.val + r.val; rw [e0]; omega
  | ⟨1, _⟩ => show win0_2.index t (1 : Fin 2) * 384 + 1 * k.val = k.val; rw [e1]; omega

/-- Where an element of window 3 lies in the array. -/
theorem emb3 (t : Fin cfg0.N) (r : Fin 256) (k : Fin 384) :
    ((cfg0.win 3).blk t).view.emb (ix2 r k) = ix2 (n0 := 2048) (n1 := 384) ⟨256 * t.val + r.val, row_lt t r⟩ k := by
  obtain ⟨-, -, -, ⟨e0, e1⟩, -⟩ := idx t
  funext a; apply Fin.ext
  match a with
  | ⟨0, _⟩ => show win0_3.index t (0 : Fin 2) * 256 + 1 * r.val = 256 * t.val + r.val; rw [e0]; omega
  | ⟨1, _⟩ => show win0_3.index t (1 : Fin 2) * 384 + 1 * k.val = k.val; rw [e1]; omega

/-- Where an element of window 4 lies in the array. -/
theorem emb4 (t : Fin cfg0.N) (r : Fin 256) (k : Fin 384) :
    ((cfg0.win 4).blk t).view.emb (ix2 r k) = ix2 (n0 := 2048) (n1 := 384) ⟨256 * t.val + r.val, row_lt t r⟩ k := by
  obtain ⟨-, -, -, -, ⟨e0, e1⟩, -⟩ := idx t
  funext a; apply Fin.ext
  match a with
  | ⟨0, _⟩ => show win0_4.index t (0 : Fin 2) * 256 + 1 * r.val = 256 * t.val + r.val; rw [e0]; omega
  | ⟨1, _⟩ => show win0_4.index t (1 : Fin 2) * 384 + 1 * k.val = k.val; rw [e1]; omega

/-- Where an element of window 5 lies in the array. -/
theorem emb5 (t : Fin cfg0.N) (r : Fin 256) (k : Fin 384) :
    ((cfg0.win 5).blk t).view.emb (ix2 r k) = ix2 (n0 := 2048) (n1 := 384) ⟨256 * t.val + r.val, row_lt t r⟩ k := by
  obtain ⟨-, -, -, -, -, ⟨e0, e1⟩, -⟩ := idx t
  funext a; apply Fin.ext
  match a with
  | ⟨0, _⟩ => show win0_5.index t (0 : Fin 2) * 256 + 1 * r.val = 256 * t.val + r.val; rw [e0]; omega
  | ⟨1, _⟩ => show win0_5.index t (1 : Fin 2) * 384 + 1 * k.val = k.val; rw [e1]; omega

/-- Where an element of window 6 lies in the array. -/
theorem emb6 (t : Fin cfg0.N) (r : Fin 256) (k : Fin 384) :
    ((cfg0.win 6).blk t).view.emb (ix2 r k) = ix2 (n0 := 2048) (n1 := 384) ⟨256 * t.val + r.val, row_lt t r⟩ k := by
  obtain ⟨-, -, -, -, -, -, ⟨e0, e1⟩, -⟩ := idx t
  funext a; apply Fin.ext
  match a with
  | ⟨0, _⟩ => show win0_6.index t (0 : Fin 2) * 256 + 1 * r.val = 256 * t.val + r.val; rw [e0]; omega
  | ⟨1, _⟩ => show win0_6.index t (1 : Fin 2) * 384 + 1 * k.val = k.val; rw [e1]; omega

/-- Where an element of window 7 lies in the array. -/
theorem emb7 (t : Fin cfg0.N) (r : Fin 256) (k : Fin 384) :
    ((cfg0.win 7).blk t).view.emb (ix2 r k) = ix2 (n0 := 2048) (n1 := 384) ⟨256 * t.val + r.val, row_lt t r⟩ k := by
  obtain ⟨-, -, -, -, -, -, -, ⟨e0, e1⟩⟩ := idx t
  funext a; apply Fin.ext
  match a with
  | ⟨0, _⟩ => show win0_7.index t (0 : Fin 2) * 256 + 1 * r.val = 256 * t.val + r.val; rw [e0]; omega
  | ⟨1, _⟩ => show win0_7.index t (1 : Fin 2) * 384 + 1 * k.val = k.val; rw [e1]; omega

/-- The two stacked matrices as one. -/
abbrev flat (x : FVec Ideal S2x1024x384 .f32) : FVec Ideal S2048x384 .f32 := shapeCast S2048x384 x shapeCasts_S2x1024x384_S2048x384

section
variable (c : Dev nD) (t : Fin cfg0.N)

/-- An element of a band of the weights. -/
theorem blk0 (r : Fin 256) (k : Fin 384) : el .f32 (iblk m c 0 t) r k =
    el (a := 2048) (b := 384) .f32 (flat (m ((c : Thread nD τ).loc main_arg0))) ⟨256 * t.val + r.val, row_lt t r⟩ k := by
  have e : V m c main_v0 = flat (m ((c : Thread nD τ).loc main_arg0)) := by
    show StableHlo.after hostOps0 _ main_v0 = _; after_results; rfl
  show V m c main_v0 (((cfg0.win 0).blk t).view.emb (ix2 r k)) = _
  rw [emb0, e]

/-- An element of a band of the gradient. -/
theorem blk1 (r : Fin 256) (k : Fin 384) : el .f32 (iblk m c 1 t) r k =
    el (a := 2048) (b := 384) .f32 (flat (m ((c : Thread nD τ).loc main_arg1))) ⟨256 * t.val + r.val, row_lt t r⟩ k := by
  have e : V m c main_v1 = flat (m ((c : Thread nD τ).loc main_arg1)) := by
    show StableHlo.after hostOps0 _ main_v1 = _; after_results; rfl
  show V m c main_v1 (((cfg0.win 1).blk t).view.emb (ix2 r k)) = _
  rw [emb1, e]

/-- An element of a band of the mean. -/
theorem blk2 (r : Fin 256) (k : Fin 384) : el .f32 (iblk m c 2 t) r k =
    el (a := 2048) (b := 384) .f32 (flat (m ((c : Thread nD τ).loc main_arg2))) ⟨256 * t.val + r.val, row_lt t r⟩ k := by
  have e : V m c main_v2 = flat (m ((c : Thread nD τ).loc main_arg2)) := by
    show StableHlo.after hostOps0 _ main_v2 = _; after_results; rfl
  show V m c main_v2 (((cfg0.win 2).blk t).view.emb (ix2 r k)) = _
  rw [emb2, e]

/-- An element of a band of the mean square. -/
theorem blk3 (r : Fin 256) (k : Fin 384) : el .f32 (iblk m c 3 t) r k =
    el (a := 2048) (b := 384) .f32 (flat (m ((c : Thread nD τ).loc main_arg3))) ⟨256 * t.val + r.val, row_lt t r⟩ k := by
  have e : V m c main_v3 = flat (m ((c : Thread nD τ).loc main_arg3)) := by
    show StableHlo.after hostOps0 _ main_v3 = _; after_results; rfl
  show V m c main_v3 (((cfg0.win 3).blk t).view.emb (ix2 r k)) = _
  rw [emb3, e]

end

/-- The array of the gradient that the kernel leaves. -/
theorem final4 (c : Dev nD) (T : Fin 2048) (k : Fin 384) : el (a := 2048) (b := 384) .f32 ((dats m 0 c).arrAt 4 cfg0.N) T k =
    el .f32 (flat (m ((c : Thread nD τ).loc main_arg1))) T k := by
  have ht : T.val / 256 < 8 := by omega
  let t : Fin cfg0.N := (⟨T.val / 256, ht⟩ : Fin 8)
  have hT : (⟨256 * t.val + T.val % 256, row_lt t ⟨T.val % 256, by omega⟩⟩ : Fin 2048) = T := Fin.ext (Nat.div_add_mod T.val 256)
  have e := congrFun (blocks4 m c t (flush0_4 t)) (ix2 ⟨T.val % 256, by omega⟩ k)
  rw [flushed4] at e
  have e' : (dats m 0 c).arrAt 4 cfg0.N (((cfg0.win 4).blk t).view.emb (ix2 ⟨T.val % 256, by omega⟩ k)) =
    out0_4 (iblk m c 0 t) (iblk m c 1 t) (iblk m c 2 t) (iblk m c 3 t) (ix2 ⟨T.val % 256, by omega⟩ k) := e
  rw [emb4, hT, out4] at e'
  refine e'.trans ((pay1_at _ _ k).trans ?_)
  simp only [blk1, hT]

/-- The array of the weights' change that the kernel leaves. -/
theorem final5 (c : Dev nD) (T : Fin 2048) (k : Fin 384) : el (a := 2048) (b := 384) .f32 ((dats m 0 c).arrAt 5 cfg0.N) T k =
    delta (el .f32 (flat (m ((c : Thread nD τ).loc main_arg0))) T k) (el .f32 (flat (m ((c : Thread nD τ).loc main_arg1))) T k)
      (el .f32 (flat (m ((c : Thread nD τ).loc main_arg2))) T k) (el .f32 (flat (m ((c : Thread nD τ).loc main_arg3))) T k) := by
  have ht : T.val / 256 < 8 := by omega
  let t : Fin cfg0.N := (⟨T.val / 256, ht⟩ : Fin 8)
  have hT : (⟨256 * t.val + T.val % 256, row_lt t ⟨T.val % 256, by omega⟩⟩ : Fin 2048) = T := Fin.ext (Nat.div_add_mod T.val 256)
  have e := congrFun (blocks5 m c t (flush0_5 t)) (ix2 ⟨T.val % 256, by omega⟩ k)
  rw [flushed5] at e
  have e' : (dats m 0 c).arrAt 5 cfg0.N (((cfg0.win 5).blk t).view.emb (ix2 ⟨T.val % 256, by omega⟩ k)) =
    out0_5 (iblk m c 0 t) (iblk m c 1 t) (iblk m c 2 t) (iblk m c 3 t) (ix2 ⟨T.val % 256, by omega⟩ k) := e
  rw [emb5, hT, out5] at e'
  refine e'.trans ((pay5_at _ _ _ _ _ k).trans ?_)
  simp only [blk0, blk1, blk2, blk3, hT]

/-- The array of the new mean that the kernel leaves. -/
theorem final6 (c : Dev nD) (T : Fin 2048) (k : Fin 384) : el (a := 2048) (b := 384) .f32 ((dats m 0 c).arrAt 6 cfg0.N) T k =
    newM (el .f32 (flat (m ((c : Thread nD τ).loc main_arg1))) T k) (el .f32 (flat (m ((c : Thread nD τ).loc main_arg2))) T k) := by
  have ht : T.val / 256 < 8 := by omega
  let t : Fin cfg0.N := (⟨T.val / 256, ht⟩ : Fin 8)
  have hT : (⟨256 * t.val + T.val % 256, row_lt t ⟨T.val % 256, by omega⟩⟩ : Fin 2048) = T := Fin.ext (Nat.div_add_mod T.val 256)
  have e := congrFun (blocks6 m c t (flush0_6 t)) (ix2 ⟨T.val % 256, by omega⟩ k)
  rw [flushed6] at e
  have e' : (dats m 0 c).arrAt 6 cfg0.N (((cfg0.win 6).blk t).view.emb (ix2 ⟨T.val % 256, by omega⟩ k)) =
    out0_6 (iblk m c 0 t) (iblk m c 1 t) (iblk m c 2 t) (iblk m c 3 t) (ix2 ⟨T.val % 256, by omega⟩ k) := e
  rw [emb6, hT, out6] at e'
  refine e'.trans ((pay3_at _ _ _ k).trans ?_)
  simp only [blk1, blk2, hT]

/-- The array of the new mean square that the kernel leaves. -/
theorem final7 (c : Dev nD) (T : Fin 2048) (k : Fin 384) : el (a := 2048) (b := 384) .f32 ((dats m 0 c).arrAt 7 cfg0.N) T k =
    newV (el .f32 (flat (m ((c : Thread nD τ).loc main_arg1))) T k) (el .f32 (flat (m ((c : Thread nD τ).loc main_arg3))) T k) := by
  have ht : T.val / 256 < 8 := by omega
  let t : Fin cfg0.N := (⟨T.val / 256, ht⟩ : Fin 8)
  have hT : (⟨256 * t.val + T.val % 256, row_lt t ⟨T.val % 256, by omega⟩⟩ : Fin 2048) = T := Fin.ext (Nat.div_add_mod T.val 256)
  have e := congrFun (blocks7 m c t (flush0_7 t)) (ix2 ⟨T.val % 256, by omega⟩ k)
  rw [flushed7] at e
  have e' : (dats m 0 c).arrAt 7 cfg0.N (((cfg0.win 7).blk t).view.emb (ix2 ⟨T.val % 256, by omega⟩ k)) =
    out0_7 (iblk m c 0 t) (iblk m c 1 t) (iblk m c 2 t) (iblk m c 3 t) (ix2 ⟨T.val % 256, by omega⟩ k) := e
  rw [emb7, hT, out7] at e'
  refine e'.trans ((pay4_at _ _ _ k).trans ?_)
  simp only [blk1, blk3, hT]

end Cert.AdMInVal

namespace Cert.AdMInVal
open Cert.AdMInRefIdeal Cert.AdMInRefIdeal.Gen Idealize.ShloMosaic Idealize.ShloMosaic.TcCoe
open Idealize.ShloMosaic (ix1 ix2)
open Cert.Mat Cert.Adam

/-- The reference's new mean. -/
def refM (g x : FVec Ideal S2x1024x384 .f32) : FVec Ideal S2x1024x384 .f32 :=
  addf (mulf (broadcastInDim S2x1024x384 ![] bcast_S_S2x1024x384 (constant S_ .f32 0x3F666666#32)) x) (mulf (broadcastInDim S2x1024x384 ![] bcast_S_S2x1024x384 (constant S_ .f32 0x3DCCCCCD#32)) g)
/-- The reference's new mean square. -/
def refV (g x : FVec Ideal S2x1024x384 .f32) : FVec Ideal S2x1024x384 .f32 :=
  addf (mulf (broadcastInDim S2x1024x384 ![] bcast_S_S2x1024x384 (constant S_ .f32 0x3F7FBE77#32)) x) (mulf (broadcastInDim S2x1024x384 ![] bcast_S_S2x1024x384 (constant S_ .f32 0x3A83126F#32)) (mulf g g))
/-- The reference's change of the weights. -/
def refD (w g x y : FVec Ideal S2x1024x384 .f32) : FVec Ideal S2x1024x384 .f32 :=
  mulf (broadcastInDim S2x1024x384 ![] bcast_S_S2x1024x384 (constant S_ .f32 0xBA83126F#32)) (addf (Host.divf (Host.divf (addf (mulf (broadcastInDim S2x1024x384 ![] bcast_S_S2x1024x384 (constant S_ .f32 0x3F666666#32)) x) (mulf (broadcastInDim S2x1024x384 ![] bcast_S_S2x1024x384 (constant S_ .f32 0x3DCCCCCD#32)) g)) (broadcastInDim S2x1024x384 ![] bcast_S_S2x1024x384 (constant S_ .f32 0x3F26BD02#32))) (addf (Host.sqrt (Host.divf (addf (mulf (broadcastInDim S2x1024x384 ![] bcast_S_S2x1024x384 (constant S_ .f32 0x3F7FBE77#32)) y) (mulf (broadcastInDim S2x1024x384 ![] bcast_S_S2x1024x384 (constant S_ .f32 0x3A83126F#32)) (mulf g g))) (broadcastInDim S2x1024x384 ![] bcast_S_S2x1024x384 (constant S_ .f32 0x3C231ACC#32)))) (broadcastInDim S2x1024x384 ![] bcast_S_S2x1024x384 (constant S_ .f32 0x322BCC77#32)))) (mulf (broadcastInDim S2x1024x384 ![] bcast_S_S2x1024x384 (constant S_ .f32 0x3C23D70A#32)) w))

/-- An element of the reference's new mean. -/
theorem refM_at (g x : FVec Ideal S2x1024x384 .f32) (T : Fin 2048) (k : Fin 384) :
    el .f32 (flat (refM g x)) T k = newM (el .f32 (flat g) T k) (el .f32 (flat x) T k) := rfl
/-- An element of the reference's new mean square. -/
theorem refV_at (g x : FVec Ideal S2x1024x384 .f32) (T : Fin 2048) (k : Fin 384) :
    el .f32 (flat (refV g x)) T k = newV (el .f32 (flat g) T k) (el .f32 (flat x) T k) := rfl
/-- An element of the reference's change of the weights. -/
theorem refD_at (w g x y : FVec Ideal S2x1024x384 .f32) (T : Fin 2048) (k : Fin 384) :
    el .f32 (flat (refD w g x y)) T k = delta (el .f32 (flat w) T k) (el .f32 (flat g) T k) (el .f32 (flat x) T k) (el .f32 (flat y) T k) := rfl

/-- The two programs leave the same arrays. -/
theorem algebraic : Cert.algebraic_AdMInIdeal_AdMInRefIdeal (hAdMInIdeal := Cert.AdMInIdeal.Gen.facts) (hAdMInRefIdeal := Cert.AdMInRefIdeal.Gen.facts) := by
  intro m ρ m' ρ' _ hag
  refine ⟨_, _, _, _, Cert.AdMInIdeal.Value.run_blocks m ρ, (θ_run _ _ _).mono ?_ (Cert.AdMInRefIdeal.Value.run m' ρ')⟩
  intro r h c
  obtain ⟨b4, b5, b6, b7, k⟩ := h c
  obtain ⟨e0, e1, e2, e3⟩ := hag c
  refine ⟨b4.trans ?_, b5.trans ?_, b6.trans ?_, b7.trans ?_, k⟩
  · rw [e1]
    exact ext (a := 2048) (b := 384) (φ := .f32) fun T q => (final4 m c T q).symm
  · rw [e0, e1, e2, e3]
    exact ext (a := 2048) (b := 384) (φ := .f32) fun T q => (refD_at _ _ _ _ T q).trans (final5 m c T q).symm
  · rw [e1, e2]
    exact ext (a := 2048) (b := 384) (φ := .f32) fun T q => (refM_at _ _ T q).trans (final6 m c T q).symm
  · rw [e1, e3]
    exact ext (a := 2048) (b := 384) (φ := .f32) fun T q => (refV_at _ _ T q).trans (final7 m c T q).symm

end Cert.AdMInVal
end
-- ==== Proof.AdOut.lean ====
/- The optimiser's step for the weights out of a feed-forward unit: the two stacked matrices are laid out as one, and the step goes through it in bands of
   176 rows. Every element's step uses that element alone. -/
module
public import proofs.«01_k».proof.Defs
public import proofs.«01_k».proof.Proof.Mat
public import proofs.«01_k».proof.Proof.Adam
public import proofs.«01_k».proof.Proof.Gen.AdOut.Frame
public import proofs.«01_k».proof.Proof.Gen.AdOutIdeal.Frame
public import proofs.«01_k».proof.Proof.Gen.AdOutIdeal.Value
public import proofs.«01_k».proof.Proof.Gen.AdOutRefIdeal.Run
public import Idealize.ShloMosaic.Lib.Pointwise
public import Idealize.ShloMosaic.Lib.Pipeline.ValueKit
public import Idealize.ShloMosaic.Lib.Pipeline.ReadBack
@[expose] public section
set_option maxRecDepth 16384
noncomputable section
namespace Cert.AdOutVal
open Cert.AdOutIdeal Cert.AdOutIdeal.Gen Cert.AdOutIdeal.Value Idealize.ShloMosaic Idealize.ShloMosaic.TcCoe Idealize.SL.Sem
open Idealize.ShloMosaic (ix1 ix2)
open Cert.Mat Cert.Adam

/-- The gradient is passed on. -/
theorem pay1_at (g : FVec Ideal S176x1024 .f32) (r : Fin 176) (k : Fin 1024) : el .f32 (k0_pay1 (F := Ideal) g) r k = el .f32 g r k := by
  pointwise [k0_pay1]
/-- An element of the new mean. -/
theorem pay3_at (g x : FVec Ideal S176x1024 .f32) (r : Fin 176) (k : Fin 1024) :
    el .f32 (k0_pay3 (F := Ideal) g x) r k = newM (el .f32 g r k) (el .f32 x r k) := by
  pointwise [k0_pay3, k0_pay2]
  rfl
/-- An element of the new mean square. -/
theorem pay4_at (g x : FVec Ideal S176x1024 .f32) (r : Fin 176) (k : Fin 1024) :
    el .f32 (k0_pay4 (F := Ideal) g x) r k = newV (el .f32 g r k) (el .f32 x r k) := by
  pointwise [k0_pay4, k0_pay2]
  rfl
/-- An element of the weights' change. -/
theorem pay5_at (g x y w : FVec Ideal S176x1024 .f32) (r : Fin 176) (k : Fin 1024) :
    el .f32 (k0_pay5 (F := Ideal) g x y w) r k = delta (el .f32 w r k) (el .f32 g r k) (el .f32 x r k) (el .f32 y r k) := by
  pointwise [k0_pay5, k0_pay4, k0_pay3, k0_pay2]
  rfl

variable (m : (ℓ : Loc nD τ sig) → Buf (Elt Ideal) ℓ) (ρ : Dev nD → PrngReg)

/-- What a grid point stores: the gradient. -/
theorem out4 (x0 x1 x2 x3 : FVec Ideal S176x1024 .f32) : out0_4 (F := Ideal) x0 x1 x2 x3 = k0_pay1 (F := Ideal) x1 := by
  unfold out0_4
  rw [View.canon_unit_zero (by decide), View.ld_unit_zero (by decide)]

/-- What a grid point stores: the change. -/
theorem out5 (x0 x1 x2 x3 : FVec Ideal S176x1024 .f32) : out0_5 (F := Ideal) x0 x1 x2 x3 = k0_pay5 (F := Ideal) x1 x2 x3 x0 := by
  unfold out0_5
  rw [View.canon_unit_zero (by decide), View.ld_unit_zero (by decide), View.ld_unit_zero (by decide), View.ld_unit_zero (by decide), View.ld_unit_zero (by decide)]

/-- What a grid point stores: the new mean. -/
theorem out6 (x0 x1 x2 x3 : FVec Ideal S176x1024 .f32) : out0_6 (F := Ideal) x0 x1 x2 x3 = k0_pay3 (F := Ideal) x1 x2 := by
  unfold out0_6
  rw [View.canon_unit_zero (by decide), View.ld_unit_zero (by decide), View.ld_unit_zero (by decide)]

/-- What a grid point stores: the new mean square. -/
theorem out7 (x0 x1 x2 x3 : FVec Ideal S176x1024 .f32) : out0_7 (F := Ideal) x0 x1 x2 x3 = k0_pay4 (F := Ideal) x1 x3 := by
  unfold out0_7
  rw [View.canon_unit_zero (by decide), View.ld_unit_zero (by decide), View.ld_unit_zero (by decide)]

/-- Which blocks a grid point reads and writes. -/
theorem idx : ∀ t : Fin cfg0.N, (win0_0.index t (0 : Fin 2) = t.val ∧ win0_0.index t (1 : Fin 2) = 0) ∧
    (win0_1.index t (0 : Fin 2) = t.val ∧ win0_1.index t (1 : Fin 2) = 0) ∧
    (win0_2.index t (0 : Fin 2) = t.val ∧ win0_2.index t (1 : Fin 2) = 0) ∧
    (win0_3.index t (0 : Fin 2) = t.val ∧ win0_3.index t (1 : Fin 2) = 0) ∧
    (win0_4.index t (0 : Fin 2) = t.val ∧ win0_4.index t (1 : Fin 2) = 0) ∧
    (win0_5.index t (0 : Fin 2) = t.val ∧ win0_5.index t (1 : Fin 2) = 0) ∧
    (win0_6.index t (0 : Fin 2) = t.val ∧ win0_6.index t (1 : Fin 2) = 0) ∧
    (win0_7.index t (0 : Fin 2) = t.val ∧ win0_7.index t (1 : Fin 2) = 0) := (by decide +kernel : ∀ t : Fin grid0.N, _)

/-- A row of a band is a row of the array. -/
theorem row_lt (t : Fin cfg0.N) (r : Fin 176) : 176 * t.val + r.val < 1408 := by
  have h : t.val < 8 := t.isLt
  omega

/-- Where an element of window 0 lies in the array. -/
theorem emb0 (t : Fin cfg0.N) (r : Fin 176) (k : Fin 1024) :
    ((cfg0.win 0).blk t).view.emb (ix2 r k) = ix2 (n0 := 1408) (n1 := 1024) ⟨176 * t.val + r.val, row_lt t r⟩ k := by
  obtain ⟨⟨e0, e1⟩, -⟩ := idx t
  funext a; apply Fin.ext
  match a with
  | ⟨0, _⟩ => show win0_0.index t (0 : Fin 2) * 176 + 1 * r.val = 176 * t.val + r.val; rw [e0]; omega
  | ⟨1, _⟩ => show win0_0.index t (1 : Fin 2) * 1024 + 1 * k.val = k.val; rw [e1]; omega

/-- Where an element of window 1 lies in the array. -/
theorem emb1 (t : Fin cfg0.N) (r : Fin 176) (k : Fin 1024) :
    ((cfg0.win 1).blk t).view.emb (ix2 r k) = ix2 (n0 := 1408) (n1 := 1024) ⟨176 * t.val + r.val, row_lt t r⟩ k := by
  obtain ⟨-, ⟨e0, e1⟩, -⟩ := idx t
  funext a; apply Fin.ext
  match a with
  | ⟨0, _⟩ => show win0_1.index t (0 : Fin 2) * 176 + 1 * r.val = 176 * t.val + r.val; rw [e0]; omega
  | ⟨1, _⟩ => show win0_1.index t (1 : Fin 2) * 1024 + 1 * k.val = k.val; rw [e1]; omega

/-- Where an element of window 2 lies in the array. -/
theorem emb2 (t : Fin cfg0.N) (r : Fin 176) (k : Fin 1024) :
    ((cfg0.win 2).blk t).view.emb (ix2 r k) = ix2 (n0 := 1408) (n1 := 1024) ⟨176 * t.val + r.val, row_lt t r⟩ k := by
  obtain ⟨-, -, ⟨e0, e1⟩, -⟩ := idx t
  funext a; apply Fin.ext
  match a with
  | ⟨0, _⟩ => show win0_2.index t (0 : Fin 2) * 176 + 1 * r.val = 176 * t.val + r.val; rw [e0]; omega
  | ⟨1, _⟩ => show win0_2.index t (1 : Fin 2) * 1024 + 1 * k.val = k.val; rw [e1]; omega

/-- Where an element of window 3 lies in the array. -/
theorem emb3 (t : Fin cfg0.N) (r : Fin 176) (k : Fin 1024) :
    ((cfg0.win 3).blk t).view.emb (ix2 r k) = ix2 (n0 := 1408) (n1 := 1024) ⟨176 * t.val + r.val, row_lt t r⟩ k := by
  obtain ⟨-, -, -, ⟨e0, e1⟩, -⟩ := idx t
  funext a; apply Fin.ext
  match a with
  | ⟨0, _⟩ => show win0_3.index t (0 : Fin 2) * 176 + 1 * r.val = 176 * t.val + r.val; rw [e0]; omega
  | ⟨1, _⟩ => show win0_3.index t (1 : Fin 2) * 1024 + 1 * k.val = k.val; rw [e1]; omega

/-- Where an element of window 4 lies in the array. -/
theorem emb4 (t : Fin cfg0.N) (r : Fin 176) (k : Fin 1024) :
    ((cfg0.win 4).blk t).view.emb (ix2 r k) = ix2 (n0 := 1408) (n1 := 1024) ⟨176 * t.val + r.val, row_lt t r⟩ k := by
  obtain ⟨-, -, -, -, ⟨e0, e1⟩, -⟩ := idx t
  funext a; apply Fin.ext
  match a with
  | ⟨0, _⟩ => show win0_4.index t (0 : Fin 2) * 176 + 1 * r.val = 176 * t.val + r.val; rw [e0]; omega
  | ⟨1, _⟩ => show win0_4.index t (1 : Fin 2) * 1024 + 1 * k.val = k.val; rw [e1]; omega

/-- Where an element of window 5 lies in the array. -/
theorem emb5 (t : Fin cfg0.N) (r : Fin 176) (k : Fin 1024) :
    ((cfg0.win 5).blk t).view.emb (ix2 r k) = ix2 (n0 := 1408) (n1 := 1024) ⟨176 * t.val + r.val, row_lt t r⟩ k := by
  obtain ⟨-, -, -, -, -, ⟨e0, e1⟩, -⟩ := idx t
  funext a; apply Fin.ext
  match a with
  | ⟨0, _⟩ => show win0_5.index t (0 : Fin 2) * 176 + 1 * r.val = 176 * t.val + r.val; rw [e0]; omega
  | ⟨1, _⟩ => show win0_5.index t (1 : Fin 2) * 1024 + 1 * k.val = k.val; rw [e1]; omega

/-- Where an element of window 6 lies in the array. -/
theorem emb6 (t : Fin cfg0.N) (r : Fin 176) (k : Fin 1024) :
    ((cfg0.win 6).blk t).view.emb (ix2 r k) = ix2 (n0 := 1408) (n1 := 1024) ⟨176 * t.val + r.val, row_lt t r⟩ k := by
  obtain ⟨-, -, -, -, -, -, ⟨e0, e1⟩, -⟩ := idx t
  funext a; apply Fin.ext
  match a with
  | ⟨0, _⟩ => show win0_6.index t (0 : Fin 2) * 176 + 1 * r.val = 176 * t.val + r.val; rw [e0]; omega
  | ⟨1, _⟩ => show win0_6.index t (1 : Fin 2) * 1024 + 1 * k.val = k.val; rw [e1]; omega

/-- Where an element of window 7 lies in the array. -/
theorem emb7 (t : Fin cfg0.N) (r : Fin 176) (k : Fin 1024) :
    ((cfg0.win 7).blk t).view.emb (ix2 r k) = ix2 (n0 := 1408) (n1 := 1024) ⟨176 * t.val + r.val, row_lt t r⟩ k := by
  obtain ⟨-, -, -, -, -, -, -, ⟨e0, e1⟩⟩ := idx t
  funext a; apply Fin.ext
  match a with
  | ⟨0, _⟩ => show win0_7.index t (0 : Fin 2) * 176 + 1 * r.val = 176 * t.val + r.val; rw [e0]; omega
  | ⟨1, _⟩ => show win0_7.index t (1 : Fin 2) * 1024 + 1 * k.val = k.val; rw [e1]; omega

/-- The two stacked matrices as one. -/
abbrev flat (x : FVec Ideal S2x704x1024 .f32) : FVec Ideal S1408x1024 .f32 := shapeCast S1408x1024 x shapeCasts_S2x704x1024_S1408x1024

section
variable (c : Dev nD) (t : Fin cfg0.N)

/-- An element of a band of the weights. -/
theorem blk0 (r : Fin 176) (k : Fin 1024) : el .f32 (iblk m c 0 t) r k =
    el (a := 1408) (b := 1024) .f32 (flat (m ((c : Thread nD τ).loc main_arg0))) ⟨176 * t.val + r.val, row_lt t r⟩ k := by
  have e : V m c main_v0 = flat (m ((c : Thread nD τ).loc main_arg0)) := by
    show StableHlo.after hostOps0 _ main_v0 = _; after_results; rfl
  show V m c main_v0 (((cfg0.win 0).blk t).view.emb (ix2 r k)) = _
  rw [emb0, e]

/-- An element of a band of the gradient. -/
theorem blk1 (r : Fin 176) (k : Fin 1024) : el .f32 (iblk m c 1 t) r k =
    el (a := 1408) (b := 1024) .f32 (flat (m ((c : Thread nD τ).loc main_arg1))) ⟨176 * t.val + r.val, row_lt t r⟩ k := by
  have e : V m c main_v1 = flat (m ((c : Thread nD τ).loc main_arg1)) := by
    show StableHlo.after hostOps0 _ main_v1 = _; after_results; rfl
  show V m c main_v1 (((cfg0.win 1).blk t).view.emb (ix2 r k)) = _
  rw [emb1, e]

/-- An element of a band of the mean. -/
theorem blk2 (r : Fin 176) (k : Fin 1024) : el .f32 (iblk m c 2 t) r k =
    el (a := 1408) (b := 1024) .f32 (flat (m ((c : Thread nD τ).loc main_arg2))) ⟨176 * t.val + r.val, row_lt t r⟩ k := by
  have e : V m c main_v2 = flat (m ((c : Thread nD τ).loc main_arg2)) := by
    show StableHlo.after hostOps0 _ main_v2 = _; after_results; rfl
  show V m c main_v2 (((cfg0.win 2).blk t).view.emb (ix2 r k)) = _
  rw [emb2, e]

/-- An element of a band of the mean square. -/
theorem blk3 (r : Fin 176) (k : Fin 1024) : el .f32 (iblk m c 3 t) r k =
    el (a := 1408) (b := 1024) .f32 (flat (m ((c : Thread nD τ).loc main_arg3))) ⟨176 * t.val + r.val, row_lt t r⟩ k := by
  have e : V m c main_v3 = flat (m ((c : Thread nD τ).loc main_arg3)) := by
    show StableHlo.after hostOps0 _ main_v3 = _; after_results; rfl
  show V m c main_v3 (((cfg0.win 3).blk t).view.emb (ix2 r k)) = _
  rw [emb3, e]

end

/-- The array of the gradient that the kernel leaves. -/
theorem final4 (c : Dev nD) (T : Fin 1408) (k : Fin 1024) : el (a := 1408) (b := 1024) .f32 ((dats m 0 c).arrAt 4 cfg0.N) T k =
    el .f32 (flat (m ((c : Thread nD τ).loc main_arg1))) T k := by
  have ht : T.val / 176 < 8 := by omega
  let t : Fin cfg0.N := (⟨T.val / 176, ht⟩ : Fin 8)
  have hT : (⟨176 * t.val + T.val % 176, row_lt t ⟨T.val % 176, by omega⟩⟩ : Fin 1408) = T := Fin.ext (Nat.div_add_mod T.val 176)
  have e := congrFun (blocks4 m c t (flush0_4 t)) (ix2 ⟨T.val % 176, by omega⟩ k)
  rw [flushed4] at e
  have e' : (dats m 0 c).arrAt 4 cfg0.N (((cfg0.win 4).blk t).view.emb (ix2 ⟨T.val % 176, by omega⟩ k)) =
    out0_4 (iblk m c 0 t) (iblk m c 1 t) (iblk m c 2 t) (iblk m c 3 t) (ix2 ⟨T.val % 176, by omega⟩ k) := e
  rw [emb4, hT, out4] at e'
  refine e'.trans ((pay1_at _ _ k).trans ?_)
  simp only [blk1, hT]

/-- The array of the weights' change that the kernel leaves. -/
theorem final5 (c : Dev nD) (T : Fin 1408) (k : Fin 1024) : el (a := 1408) (b := 1024) .f32 ((dats m 0 c).arrAt 5 cfg0.N) T k =
    delta (el .f32 (flat (m ((c : Thread nD τ).loc main_arg0))) T k) (el .f32 (flat (m ((c : Thread nD τ).loc main_arg1))) T k)
      (el .f32 (flat (m ((c : Thread nD τ).loc main_arg2))) T k) (el .f32 (flat (m ((c : Thread nD τ).loc main_arg3))) T k) := by
  have ht : T.val / 176 < 8 := by omega
  let t : Fin cfg0.N := (⟨T.val / 176, ht⟩ : Fin 8)
  have hT : (⟨176 * t.val + T.val % 176, row_lt t ⟨T.val % 176, by omega⟩⟩ : Fin 1408) = T := Fin.ext (Nat.div_add_mod T.val 176)
  have e := congrFun (blocks5 m c t (flush0_5 t)) (ix2 ⟨T.val % 176, by omega⟩ k)
  rw [flushed5] at e
  have e' : (dats m 0 c).arrAt 5 cfg0.N (((cfg0.win 5).blk t).view.emb (ix2 ⟨T.val % 176, by omega⟩ k)) =
    out0_5 (iblk m c 0 t) (iblk m c 1 t) (iblk m c 2 t) (iblk m c 3 t) (ix2 ⟨T.val % 176, by omega⟩ k) := e
  rw [emb5, hT, out5] at e'
  refine e'.trans ((pay5_at _ _ _ _ _ k).trans ?_)
  simp only [blk0, blk1, blk2, blk3, hT]

/-- The array of the new mean that the kernel leaves. -/
theorem final6 (c : Dev nD) (T : Fin 1408) (k : Fin 1024) : el (a := 1408) (b := 1024) .f32 ((dats m 0 c).arrAt 6 cfg0.N) T k =
    newM (el .f32 (flat (m ((c : Thread nD τ).loc main_arg1))) T k) (el .f32 (flat (m ((c : Thread nD τ).loc main_arg2))) T k) := by
  have ht : T.val / 176 < 8 := by omega
  let t : Fin cfg0.N := (⟨T.val / 176, ht⟩ : Fin 8)
  have hT : (⟨176 * t.val + T.val % 176, row_lt t ⟨T.val % 176, by omega⟩⟩ : Fin 1408) = T := Fin.ext (Nat.div_add_mod T.val 176)
  have e := congrFun (blocks6 m c t (flush0_6 t)) (ix2 ⟨T.val % 176, by omega⟩ k)
  rw [flushed6] at e
  have e' : (dats m 0 c).arrAt 6 cfg0.N (((cfg0.win 6).blk t).view.emb (ix2 ⟨T.val % 176, by omega⟩ k)) =
    out0_6 (iblk m c 0 t) (iblk m c 1 t) (iblk m c 2 t) (iblk m c 3 t) (ix2 ⟨T.val % 176, by omega⟩ k) := e
  rw [emb6, hT, out6] at e'
  refine e'.trans ((pay3_at _ _ _ k).trans ?_)
  simp only [blk1, blk2, hT]

/-- The array of the new mean square that the kernel leaves. -/
theorem final7 (c : Dev nD) (T : Fin 1408) (k : Fin 1024) : el (a := 1408) (b := 1024) .f32 ((dats m 0 c).arrAt 7 cfg0.N) T k =
    newV (el .f32 (flat (m ((c : Thread nD τ).loc main_arg1))) T k) (el .f32 (flat (m ((c : Thread nD τ).loc main_arg3))) T k) := by
  have ht : T.val / 176 < 8 := by omega
  let t : Fin cfg0.N := (⟨T.val / 176, ht⟩ : Fin 8)
  have hT : (⟨176 * t.val + T.val % 176, row_lt t ⟨T.val % 176, by omega⟩⟩ : Fin 1408) = T := Fin.ext (Nat.div_add_mod T.val 176)
  have e := congrFun (blocks7 m c t (flush0_7 t)) (ix2 ⟨T.val % 176, by omega⟩ k)
  rw [flushed7] at e
  have e' : (dats m 0 c).arrAt 7 cfg0.N (((cfg0.win 7).blk t).view.emb (ix2 ⟨T.val % 176, by omega⟩ k)) =
    out0_7 (iblk m c 0 t) (iblk m c 1 t) (iblk m c 2 t) (iblk m c 3 t) (ix2 ⟨T.val % 176, by omega⟩ k) := e
  rw [emb7, hT, out7] at e'
  refine e'.trans ((pay4_at _ _ _ k).trans ?_)
  simp only [blk1, blk3, hT]

end Cert.AdOutVal

namespace Cert.AdOutVal
open Cert.AdOutRefIdeal Cert.AdOutRefIdeal.Gen Idealize.ShloMosaic Idealize.ShloMosaic.TcCoe
open Idealize.ShloMosaic (ix1 ix2)
open Cert.Mat Cert.Adam

/-- The reference's new mean. -/
def refM (g x : FVec Ideal S2x704x1024 .f32) : FVec Ideal S2x704x1024 .f32 :=
  addf (mulf (broadcastInDim S2x704x1024 ![] bcast_S_S2x704x1024 (constant S_ .f32 0x3F666666#32)) x) (mulf (broadcastInDim S2x704x1024 ![] bcast_S_S2x704x1024 (constant S_ .f32 0x3DCCCCCD#32)) g)
/-- The reference's new mean square. -/
def refV (g x : FVec Ideal S2x704x1024 .f32) : FVec Ideal S2x704x1024 .f32 :=
  addf (mulf (broadcastInDim S2x704x1024 ![] bcast_S_S2x704x1024 (constant S_ .f32 0x3F7FBE77#32)) x) (mulf (broadcastInDim S2x704x1024 ![] bcast_S_S2x704x1024 (constant S_ .f32 0x3A83126F#32)) (mulf g g))
/-- The reference's change of the weights. -/
def refD (w g x y : FVec Ideal S2x704x1024 .f32) : FVec Ideal S2x704x1024 .f32 :=
  mulf (broadcastInDim S2x704x1024 ![] bcast_S_S2x704x1024 (constant S_ .f32 0xBA83126F#32)) (addf (Host.divf (Host.divf (addf (mulf (broadcastInDim S2x704x1024 ![] bcast_S_S2x704x1024 (constant S_ .f32 0x3F666666#32)) x) (mulf (broadcastInDim S2x704x1024 ![] bcast_S_S2x704x1024 (constant S_ .f32 0x3DCCCCCD#32)) g)) (broadcastInDim S2x704x1024 ![] bcast_S_S2x704x1024 (constant S_ .f32 0x3F26BD02#32))) (addf (Host.sqrt (Host.divf (addf (mulf (broadcastInDim S2x704x1024 ![] bcast_S_S2x704x1024 (constant S_ .f32 0x3F7FBE77#32)) y) (mulf (broadcastInDim S2x704x1024 ![] bcast_S_S2x704x1024 (constant S_ .f32 0x3A83126F#32)) (mulf g g))) (broadcastInDim S2x704x1024 ![] bcast_S_S2x704x1024 (constant S_ .f32 0x3C231ACC#32)))) (broadcastInDim S2x704x1024 ![] bcast_S_S2x704x1024 (constant S_ .f32 0x322BCC77#32)))) (mulf (broadcastInDim S2x704x1024 ![] bcast_S_S2x704x1024 (constant S_ .f32 0x3C23D70A#32)) w))

/-- An element of the reference's new mean. -/
theorem refM_at (g x : FVec Ideal S2x704x1024 .f32) (T : Fin 1408) (k : Fin 1024) :
    el .f32 (flat (refM g x)) T k = newM (el .f32 (flat g) T k) (el .f32 (flat x) T k) := rfl
/-- An element of the reference's new mean square. -/
theorem refV_at (g x : FVec Ideal S2x704x1024 .f32) (T : Fin 1408) (k : Fin 1024) :
    el .f32 (flat (refV g x)) T k = newV (el .f32 (flat g) T k) (el .f32 (flat x) T k) := rfl
/-- An element of the reference's change of the weights. -/
theorem refD_at (w g x y : FVec Ideal S2x704x1024 .f32) (T : Fin 1408) (k : Fin 1024) :
    el .f32 (flat (refD w g x y)) T k = delta (el .f32 (flat w) T k) (el .f32 (flat g) T k) (el .f32 (flat x) T k) (el .f32 (flat y) T k) := rfl

/-- The two programs leave the same arrays. -/
theorem algebraic : Cert.algebraic_AdOutIdeal_AdOutRefIdeal (hAdOutIdeal := Cert.AdOutIdeal.Gen.facts) (hAdOutRefIdeal := Cert.AdOutRefIdeal.Gen.facts) := by
  intro m ρ m' ρ' _ hag
  refine ⟨_, _, _, _, Cert.AdOutIdeal.Value.run_blocks m ρ, (θ_run _ _ _).mono ?_ (Cert.AdOutRefIdeal.Value.run m' ρ')⟩
  intro r h c
  obtain ⟨b4, b5, b6, b7, k⟩ := h c
  obtain ⟨e0, e1, e2, e3⟩ := hag c
  refine ⟨b4.trans ?_, b5.trans ?_, b6.trans ?_, b7.trans ?_, k⟩
  · rw [e1]
    exact ext (a := 1408) (b := 1024) (φ := .f32) fun T q => (final4 m c T q).symm
  · rw [e0, e1, e2, e3]
    exact ext (a := 1408) (b := 1024) (φ := .f32) fun T q => (refD_at _ _ _ _ T q).trans (final5 m c T q).symm
  · rw [e1, e2]
    exact ext (a := 1408) (b := 1024) (φ := .f32) fun T q => (refM_at _ _ T q).trans (final6 m c T q).symm
  · rw [e1, e3]
    exact ext (a := 1408) (b := 1024) (φ := .f32) fun T q => (refV_at _ _ T q).trans (final7 m c T q).symm

end Cert.AdOutVal
end
-- ==== Proof.AdIn.lean ====
/- The optimiser's step for the weights into a feed-forward unit: the two stacked matrices are laid out as one, and the step goes through it in bands of
   256 rows. Every element's step uses that element alone. -/
module
public import proofs.«01_k».proof.Defs
public import proofs.«01_k».proof.Proof.Mat
public import proofs.«01_k».proof.Proof.Adam
public import proofs.«01_k».proof.Proof.Gen.AdIn.Frame
public import proofs.«01_k».proof.Proof.Gen.AdInIdeal.Frame
public import proofs.«01_k».proof.Proof.Gen.AdInIdeal.Value
public import proofs.«01_k».proof.Proof.Gen.AdInRefIdeal.Run
public import Idealize.ShloMosaic.Lib.Pointwise
public import Idealize.ShloMosaic.Lib.Pipeline.ValueKit
public import Idealize.ShloMosaic.Lib.Pipeline.ReadBack
@[expose] public section
set_option maxRecDepth 16384
noncomputable section
namespace Cert.AdInVal
open Cert.AdInIdeal Cert.AdInIdeal.Gen Cert.AdInIdeal.Value Idealize.ShloMosaic Idealize.ShloMosaic.TcCoe Idealize.SL.Sem
open Idealize.ShloMosaic (ix1 ix2)
open Cert.Mat Cert.Adam

/-- The gradient is passed on. -/
theorem pay1_at (g : FVec Ideal S256x1408 .f32) (r : Fin 256) (k : Fin 1408) : el .f32 (k0_pay1 (F := Ideal) g) r k = el .f32 g r k := by
  pointwise [k0_pay1]
/-- An element of the new mean. -/
theorem pay3_at (g x : FVec Ideal S256x1408 .f32) (r : Fin 256) (k : Fin 1408) :
    el .f32 (k0_pay3 (F := Ideal) g x) r k = newM (el .f32 g r k) (el .f32 x r k) := by
  pointwise [k0_pay3, k0_pay2]
  rfl
/-- An element of the new mean square. -/
theorem pay4_at (g x : FVec Ideal S256x1408 .f32) (r : Fin 256) (k : Fin 1408) :
    el .f32 (k0_pay4 (F := Ideal) g x) r k = newV (el .f32 g r k) (el .f32 x r k) := by
  pointwise [k0_pay4, k0_pay2]
  rfl
/-- An element of the weights' change. -/
theorem pay5_at (g x y w : FVec Ideal S256x1408 .f32) (r : Fin 256) (k : Fin 1408) :
    el .f32 (k0_pay5 (F := Ideal) g x y w) r k = delta (el .f32 w r k) (el .f32 g r k) (el .f32 x r k) (el .f32 y r k) := by
  pointwise [k0_pay5, k0_pay4, k0_pay3, k0_pay2]
  rfl

variable (m : (ℓ : Loc nD τ sig) → Buf (Elt Ideal) ℓ) (ρ : Dev nD → PrngReg)

/-- What a grid point stores: the gradient. -/
theorem out4 (x0 x1 x2 x3 : FVec Ideal S256x1408 .f32) : out0_4 (F := Ideal) x0 x1 x2 x3 = k0_pay1 (F := Ideal) x1 := by
  unfold out0_4
  rw [View.canon_unit_zero (by decide), View.ld_unit_zero (by decide)]

/-- What a grid point stores: the change. -/
theorem out5 (x0 x1 x2 x3 : FVec Ideal S256x1408 .f32) : out0_5 (F := Ideal) x0 x1 x2 x3 = k0_pay5 (F := Ideal) x1 x2 x3 x0 := by
  unfold out0_5
  rw [View.canon_unit_zero (by decide), View.ld_unit_zero (by decide), View.ld_unit_zero (by decide), View.ld_unit_zero (by decide), View.ld_unit_zero (by decide)]

/-- What a grid point stores: the new mean. -/
theorem out6 (x0 x1 x2 x3 : FVec Ideal S256x1408 .f32) : out0_6 (F := Ideal) x0 x1 x2 x3 = k0_pay3 (F := Ideal) x1 x2 := by
  unfold out0_6
  rw [View.canon_unit_zero (by decide), View.ld_unit_zero (by decide), View.ld_unit_zero (by decide)]

/-- What a grid point stores: the new mean square. -/
theorem out7 (x0 x1 x2 x3 : FVec Ideal S256x1408 .f32) : out0_7 (F := Ideal) x0 x1 x2 x3 = k0_pay4 (F := Ideal) x1 x3 := by
  unfold out0_7
  rw [View.canon_unit_zero (by decide), View.ld_unit_zero (by decide), View.ld_unit_zero (by decide)]

/-- Which blocks a grid point reads and writes. -/
theorem idx : ∀ t : Fin cfg0.N, (win0_0.index t (0 : Fin 2) = t.val ∧ win0_0.index t (1 : Fin 2) = 0) ∧
    (win0_1.index t (0 : Fin 2) = t.val ∧ win0_1.index t (1 : Fin 2) = 0) ∧
    (win0_2.index t (0 : Fin 2) = t.val ∧ win0_2.index t (1 : Fin 2) = 0) ∧
    (win0_3.index t (0 : Fin 2) = t.val ∧ win0_3.index t (1 : Fin 2) = 0) ∧
    (win0_4.index t (0 : Fin 2) = t.val ∧ win0_4.index t (1 : Fin 2) = 0) ∧
    (win0_5.index t (0 : Fin 2) = t.val ∧ win0_5.index t (1 : Fin 2) = 0) ∧
    (win0_6.index t (0 : Fin 2) = t.val ∧ win0_6.index t (1 : Fin 2) = 0) ∧
    (win0_7.index t (0 : Fin 2) = t.val ∧ win0_7.index t (1 : Fin 2) = 0) := (by decide +kernel : ∀ t : Fin grid0.N, _)

/-- A row of a band is a row of the array. -/
theorem row_lt (t : Fin cfg0.N) (r : Fin 256) : 256 * t.val + r.val < 2048 := by
  have h : t.val < 8 := t.isLt
  omega

/-- Where an element of window 0 lies in the array. -/
theorem emb0 (t : Fin cfg0.N) (r : Fin 256) (k : Fin 1408) :
    ((cfg0.win 0).blk t).view.emb (ix2 r k) = ix2 (n0 := 2048) (n1 := 1408) ⟨256 * t.val + r.val, row_lt t r⟩ k := by
  obtain ⟨⟨e0, e1⟩, -⟩ := idx t
  funext a; apply Fin.ext
  match a with
  | ⟨0, _⟩ => show win0_0.index t (0 : Fin 2) * 256 + 1 * r.val = 256 * t.val + r.val; rw [e0]; omega
  | ⟨1, _⟩ => show win0_0.index t (1 : Fin 2) * 1408 + 1 * k.val = k.val; rw [e1]; omega

/-- Where an element of window 1 lies in the array. -/
theorem emb1 (t : Fin cfg0.N) (r : Fin 256) (k : Fin 1408) :
    ((cfg0.win 1).blk t).view.emb (ix2 r k) = ix2 (n0 := 2048) (n1 := 1408) ⟨256 * t.val + r.val, row_lt t r⟩ k := by
  obtain ⟨-, ⟨e0, e1⟩, -⟩ := idx t
  funext a; apply Fin.ext
  match a with
  | ⟨0, _⟩ => show win0_1.index t (0 : Fin 2) * 256 + 1 * r.val = 256 * t.val + r.val; rw [e0]; omega
  | ⟨1, _⟩ => show win0_1.index t (1 : Fin 2) * 1408 + 1 * k.val = k.val; rw [e1]; omega

/-- Where an element of window 2 lies in the array. -/
theorem emb2 (t : Fin cfg0.N) (r : Fin 256) (k : Fin 1408) :
    ((cfg0.win 2).blk t).view.emb (ix2 r k) = ix2 (n0 := 2048) (n1 := 1408) ⟨256 * t.val + r.val, row_lt t r⟩ k := by
  obtain ⟨-, -, ⟨e0, e1⟩, -⟩ := idx t
  funext a; apply Fin.ext
  match a with
  | ⟨0, _⟩ => show win0_2.index t (0 : Fin 2) * 256 + 1 * r.val = 256 * t.val + r.val; rw [e0]; omega
  | ⟨1, _⟩ => show win0_2.index t (1 : Fin 2) * 1408 + 1 * k.val = k.val; rw [e1]; omega

/-- Where an element of window 3 lies in the array. -/
theorem emb3 (t : Fin cfg0.N) (r : Fin 256) (k : Fin 1408) :
    ((cfg0.win 3).blk t).view.emb (ix2 r k) = ix2 (n0 := 2048) (n1 := 1408) ⟨256 * t.val + r.val, row_lt t r⟩ k := by
  obtain ⟨-, -, -, ⟨e0, e1⟩, -⟩ := idx t
  funext a; apply Fin.ext
  match a with
  | ⟨0, _⟩ => show win0_3.index t (0 : Fin 2) * 256 + 1 * r.val = 256 * t.val + r.val; rw [e0]; omega
  | ⟨1, _⟩ => show win0_3.index t (1 : Fin 2) * 1408 + 1 * k.val = k.val; rw [e1]; omega

/-- Where an element of window 4 lies in the array. -/
theorem emb4 (t : Fin cfg0.N) (r : Fin 256) (k : Fin 1408) :
    ((cfg0.win 4).blk t).view.emb (ix2 r k) = ix2 (n0 := 2048) (n1 := 1408) ⟨256 * t.val + r.val, row_lt t r⟩ k := by
  obtain ⟨-, -, -, -, ⟨e0, e1⟩, -⟩ := idx t
  funext a; apply Fin.ext
  match a with
  | ⟨0, _⟩ => show win0_4.index t (0 : Fin 2) * 256 + 1 * r.val = 256 * t.val + r.val; rw [e0]; omega
  | ⟨1, _⟩ => show win0_4.index t (1 : Fin 2) * 1408 + 1 * k.val = k.val; rw [e1]; omega

/-- Where an element of window 5 lies in the array. -/
theorem emb5 (t : Fin cfg0.N) (r : Fin 256) (k : Fin 1408) :
    ((cfg0.win 5).blk t).view.emb (ix2 r k) = ix2 (n0 := 2048) (n1 := 1408) ⟨256 * t.val + r.val, row_lt t r⟩ k := by
  obtain ⟨-, -, -, -, -, ⟨e0, e1⟩, -⟩ := idx t
  funext a; apply Fin.ext
  match a with
  | ⟨0, _⟩ => show win0_5.index t (0 : Fin 2) * 256 + 1 * r.val = 256 * t.val + r.val; rw [e0]; omega
  | ⟨1, _⟩ => show win0_5.index t (1 : Fin 2) * 1408 + 1 * k.val = k.val; rw [e1]; omega

/-- Where an element of window 6 lies in the array. -/
theorem emb6 (t : Fin cfg0.N) (r : Fin 256) (k : Fin 1408) :
    ((cfg0.win 6).blk t).view.emb (ix2 r k) = ix2 (n0 := 2048) (n1 := 1408) ⟨256 * t.val + r.val, row_lt t r⟩ k := by
  obtain ⟨-, -, -, -, -, -, ⟨e0, e1⟩, -⟩ := idx t
  funext a; apply Fin.ext
  match a with
  | ⟨0, _⟩ => show win0_6.index t (0 : Fin 2) * 256 + 1 * r.val = 256 * t.val + r.val; rw [e0]; omega
  | ⟨1, _⟩ => show win0_6.index t (1 : Fin 2) * 1408 + 1 * k.val = k.val; rw [e1]; omega

/-- Where an element of window 7 lies in the array. -/
theorem emb7 (t : Fin cfg0.N) (r : Fin 256) (k : Fin 1408) :
    ((cfg0.win 7).blk t).view.emb (ix2 r k) = ix2 (n0 := 2048) (n1 := 1408) ⟨256 * t.val + r.val, row_lt t r⟩ k := by
  obtain ⟨-, -, -, -, -, -, -, ⟨e0, e1⟩⟩ := idx t
  funext a; apply Fin.ext
  match a with
  | ⟨0, _⟩ => show win0_7.index t (0 : Fin 2) * 256 + 1 * r.val = 256 * t.val + r.val; rw [e0]; omega
  | ⟨1, _⟩ => show win0_7.index t (1 : Fin 2) * 1408 + 1 * k.val = k.val; rw [e1]; omega

/-- The two stacked matrices as one. -/
abbrev flat (x : FVec Ideal S2x1024x1408 .f32) : FVec Ideal S2048x1408 .f32 := shapeCast S2048x1408 x shapeCasts_S2x1024x1408_S2048x1408

section
variable (c : Dev nD) (t : Fin cfg0.N)

/-- An element of a band of the weights. -/
theorem blk0 (r : Fin 256) (k : Fin 1408) : el .f32 (iblk m c 0 t) r k =
    el (a := 2048) (b := 1408) .f32 (flat (m ((c : Thread nD τ).loc main_arg0))) ⟨256 * t.val + r.val, row_lt t r⟩ k := by
  have e : V m c main_v0 = flat (m ((c : Thread nD τ).loc main_arg0)) := by
    show StableHlo.after hostOps0 _ main_v0 = _; after_results; rfl
  show V m c main_v0 (((cfg0.win 0).blk t).view.emb (ix2 r k)) = _
  rw [emb0, e]

/-- An element of a band of the gradient. -/
theorem blk1 (r : Fin 256) (k : Fin 1408) : el .f32 (iblk m c 1 t) r k =
    el (a := 2048) (b := 1408) .f32 (flat (m ((c : Thread nD τ).loc main_arg1))) ⟨256 * t.val + r.val, row_lt t r⟩ k := by
  have e : V m c main_v1 = flat (m ((c : Thread nD τ).loc main_arg1)) := by
    show StableHlo.after hostOps0 _ main_v1 = _; after_results; rfl
  show V m c main_v1 (((cfg0.win 1).blk t).view.emb (ix2 r k)) = _
  rw [emb1, e]

/-- An element of a band of the mean. -/
theorem blk2 (r : Fin 256) (k : Fin 1408) : el .f32 (iblk m c 2 t) r k =
    el (a := 2048) (b := 1408) .f32 (flat (m ((c : Thread nD τ).loc main_arg2))) ⟨256 * t.val + r.val, row_lt t r⟩ k := by
  have e : V m c main_v2 = flat (m ((c : Thread nD τ).loc main_arg2)) := by
    show StableHlo.after hostOps0 _ main_v2 = _; after_results; rfl
  show V m c main_v2 (((cfg0.win 2).blk t).view.emb (ix2 r k)) = _
  rw [emb2, e]

/-- An element of a band of the mean square. -/
theorem blk3 (r : Fin 256) (k : Fin 1408) : el .f32 (iblk m c 3 t) r k =
    el (a := 2048) (b := 1408) .f32 (flat (m ((c : Thread nD τ).loc main_arg3))) ⟨256 * t.val + r.val, row_lt t r⟩ k := by
  have e : V m c main_v3 = flat (m ((c : Thread nD τ).loc main_arg3)) := by
    show StableHlo.after hostOps0 _ main_v3 = _; after_results; rfl
  show V m c main_v3 (((cfg0.win 3).blk t).view.emb (ix2 r k)) = _
  rw [emb3, e]

end

/-- The array of the gradient that the kernel leaves. -/
theorem final4 (c : Dev nD) (T : Fin 2048) (k : Fin 1408) : el (a := 2048) (b := 1408) .f32 ((dats m 0 c).arrAt 4 cfg0.N) T k =
    el .f32 (flat (m ((c : Thread nD τ).loc main_arg1))) T k := by
  have ht : T.val / 256 < 8 := by omega
  let t : Fin cfg0.N := (⟨T.val / 256, ht⟩ : Fin 8)
  have hT : (⟨256 * t.val + T.val % 256, row_lt t ⟨T.val % 256, by omega⟩⟩ : Fin 2048) = T := Fin.ext (Nat.div_add_mod T.val 256)
  have e := congrFun (blocks4 m c t (flush0_4 t)) (ix2 ⟨T.val % 256, by omega⟩ k)
  rw [flushed4] at e
  have e' : (dats m 0 c).arrAt 4 cfg0.N (((cfg0.win 4).blk t).view.emb (ix2 ⟨T.val % 256, by omega⟩ k)) =
    out0_4 (iblk m c 0 t) (iblk m c 1 t) (iblk m c 2 t) (iblk m c 3 t) (ix2 ⟨T.val % 256, by omega⟩ k) := e
  rw [emb4, hT, out4] at e'
  refine e'.trans ((pay1_at _ _ k).trans ?_)
  simp only [blk1, hT]

/-- The array of the weights' change that the kernel leaves. -/
theorem final5 (c : Dev nD) (T : Fin 2048) (k : Fin 1408) : el (a := 2048) (b := 1408) .f32 ((dats m 0 c).arrAt 5 cfg0.N) T k =
    delta (el .f32 (flat (m ((c : Thread nD τ).loc main_arg0))) T k) (el .f32 (flat (m ((c : Thread nD τ).loc main_arg1))) T k)
      (el .f32 (flat (m ((c : Thread nD τ).loc main_arg2))) T k) (el .f32 (flat (m ((c : Thread nD τ).loc main_arg3))) T k) := by
  have ht : T.val / 256 < 8 := by omega
  let t : Fin cfg0.N := (⟨T.val / 256, ht⟩ : Fin 8)
  have hT : (⟨256 * t.val + T.val % 256, row_lt t ⟨T.val % 256, by omega⟩⟩ : Fin 2048) = T := Fin.ext (Nat.div_add_mod T.val 256)
  have e := congrFun (blocks5 m c t (flush0_5 t)) (ix2 ⟨T.val % 256, by omega⟩ k)
  rw [flushed5] at e
  have e' : (dats m 0 c).arrAt 5 cfg0.N (((cfg0.win 5).blk t).view.emb (ix2 ⟨T.val % 256, by omega⟩ k)) =
    out0_5 (iblk m c 0 t) (iblk m c 1 t) (iblk m c 2 t) (iblk m c 3 t) (ix2 ⟨T.val % 256, by omega⟩ k) := e
  rw [emb5, hT, out5] at e'
  refine e'.trans ((pay5_at _ _ _ _ _ k).trans ?_)
  simp only [blk0, blk1, blk2, blk3, hT]

/-- The array of the new mean that the kernel leaves. -/
theorem final6 (c : Dev nD) (T : Fin 2048) (k : Fin 1408) : el (a := 2048) (b := 1408) .f32 ((dats m 0 c).arrAt 6 cfg0.N) T k =
    newM (el .f32 (flat (m ((c : Thread nD τ).loc main_arg1))) T k) (el .f32 (flat (m ((c : Thread nD τ).loc main_arg2))) T k) := by
  have ht : T.val / 256 < 8 := by omega
  let t : Fin cfg0.N := (⟨T.val / 256, ht⟩ : Fin 8)
  have hT : (⟨256 * t.val + T.val % 256, row_lt t ⟨T.val % 256, by omega⟩⟩ : Fin 2048) = T := Fin.ext (Nat.div_add_mod T.val 256)
  have e := congrFun (blocks6 m c t (flush0_6 t)) (ix2 ⟨T.val % 256, by omega⟩ k)
  rw [flushed6] at e
  have e' : (dats m 0 c).arrAt 6 cfg0.N (((cfg0.win 6).blk t).view.emb (ix2 ⟨T.val % 256, by omega⟩ k)) =
    out0_6 (iblk m c 0 t) (iblk m c 1 t) (iblk m c 2 t) (iblk m c 3 t) (ix2 ⟨T.val % 256, by omega⟩ k) := e
  rw [emb6, hT, out6] at e'
  refine e'.trans ((pay3_at _ _ _ k).trans ?_)
  simp only [blk1, blk2, hT]

/-- The array of the new mean square that the kernel leaves. -/
theorem final7 (c : Dev nD) (T : Fin 2048) (k : Fin 1408) : el (a := 2048) (b := 1408) .f32 ((dats m 0 c).arrAt 7 cfg0.N) T k =
    newV (el .f32 (flat (m ((c : Thread nD τ).loc main_arg1))) T k) (el .f32 (flat (m ((c : Thread nD τ).loc main_arg3))) T k) := by
  have ht : T.val / 256 < 8 := by omega
  let t : Fin cfg0.N := (⟨T.val / 256, ht⟩ : Fin 8)
  have hT : (⟨256 * t.val + T.val % 256, row_lt t ⟨T.val % 256, by omega⟩⟩ : Fin 2048) = T := Fin.ext (Nat.div_add_mod T.val 256)
  have e := congrFun (blocks7 m c t (flush0_7 t)) (ix2 ⟨T.val % 256, by omega⟩ k)
  rw [flushed7] at e
  have e' : (dats m 0 c).arrAt 7 cfg0.N (((cfg0.win 7).blk t).view.emb (ix2 ⟨T.val % 256, by omega⟩ k)) =
    out0_7 (iblk m c 0 t) (iblk m c 1 t) (iblk m c 2 t) (iblk m c 3 t) (ix2 ⟨T.val % 256, by omega⟩ k) := e
  rw [emb7, hT, out7] at e'
  refine e'.trans ((pay4_at _ _ _ k).trans ?_)
  simp only [blk1, blk3, hT]

end Cert.AdInVal

namespace Cert.AdInVal
open Cert.AdInRefIdeal Cert.AdInRefIdeal.Gen Idealize.ShloMosaic Idealize.ShloMosaic.TcCoe
open Idealize.ShloMosaic (ix1 ix2)
open Cert.Mat Cert.Adam

/-- The reference's new mean. -/
def refM (g x : FVec Ideal S2x1024x1408 .f32) : FVec Ideal S2x1024x1408 .f32 :=
  addf (mulf (broadcastInDim S2x1024x1408 ![] bcast_S_S2x1024x1408 (constant S_ .f32 0x3F666666#32)) x) (mulf (broadcastInDim S2x1024x1408 ![] bcast_S_S2x1024x1408 (constant S_ .f32 0x3DCCCCCD#32)) g)
/-- The reference's new mean square. -/
def refV (g x : FVec Ideal S2x1024x1408 .f32) : FVec Ideal S2x1024x1408 .f32 :=
  addf (mulf (broadcastInDim S2x1024x1408 ![] bcast_S_S2x1024x1408 (constant S_ .f32 0x3F7FBE77#32)) x) (mulf (broadcastInDim S2x1024x1408 ![] bcast_S_S2x1024x1408 (constant S_ .f32 0x3A83126F#32)) (mulf g g))
/-- The reference's change of the weights. -/
def refD (w g x y : FVec Ideal S2x1024x1408 .f32) : FVec Ideal S2x1024x1408 .f32 :=
  mulf (broadcastInDim S2x1024x1408 ![] bcast_S_S2x1024x1408 (constant S_ .f32 0xBA83126F#32)) (addf (Host.divf (Host.divf (addf (mulf (broadcastInDim S2x1024x1408 ![] bcast_S_S2x1024x1408 (constant S_ .f32 0x3F666666#32)) x) (mulf (broadcastInDim S2x1024x1408 ![] bcast_S_S2x1024x1408 (constant S_ .f32 0x3DCCCCCD#32)) g)) (broadcastInDim S2x1024x1408 ![] bcast_S_S2x1024x1408 (constant S_ .f32 0x3F26BD02#32))) (addf (Host.sqrt (Host.divf (addf (mulf (broadcastInDim S2x1024x1408 ![] bcast_S_S2x1024x1408 (constant S_ .f32 0x3F7FBE77#32)) y) (mulf (broadcastInDim S2x1024x1408 ![] bcast_S_S2x1024x1408 (constant S_ .f32 0x3A83126F#32)) (mulf g g))) (broadcastInDim S2x1024x1408 ![] bcast_S_S2x1024x1408 (constant S_ .f32 0x3C231ACC#32)))) (broadcastInDim S2x1024x1408 ![] bcast_S_S2x1024x1408 (constant S_ .f32 0x322BCC77#32)))) (mulf (broadcastInDim S2x1024x1408 ![] bcast_S_S2x1024x1408 (constant S_ .f32 0x3C23D70A#32)) w))

/-- An element of the reference's new mean. -/
theorem refM_at (g x : FVec Ideal S2x1024x1408 .f32) (T : Fin 2048) (k : Fin 1408) :
    el .f32 (flat (refM g x)) T k = newM (el .f32 (flat g) T k) (el .f32 (flat x) T k) := rfl
/-- An element of the reference's new mean square. -/
theorem refV_at (g x : FVec Ideal S2x1024x1408 .f32) (T : Fin 2048) (k : Fin 1408) :
    el .f32 (flat (refV g x)) T k = newV (el .f32 (flat g) T k) (el .f32 (flat x) T k) := rfl
/-- An element of the reference's change of the weights. -/
theorem refD_at (w g x y : FVec Ideal S2x1024x1408 .f32) (T : Fin 2048) (k : Fin 1408) :
    el .f32 (flat (refD w g x y)) T k = delta (el .f32 (flat w) T k) (el .f32 (flat g) T k) (el .f32 (flat x) T k) (el .f32 (flat y) T k) := rfl

/-- The two programs leave the same arrays. -/
theorem algebraic : Cert.algebraic_AdInIdeal_AdInRefIdeal (hAdInIdeal := Cert.AdInIdeal.Gen.facts) (hAdInRefIdeal := Cert.AdInRefIdeal.Gen.facts) := by
  intro m ρ m' ρ' _ hag
  refine ⟨_, _, _, _, Cert.AdInIdeal.Value.run_blocks m ρ, (θ_run _ _ _).mono ?_ (Cert.AdInRefIdeal.Value.run m' ρ')⟩
  intro r h c
  obtain ⟨b4, b5, b6, b7, k⟩ := h c
  obtain ⟨e0, e1, e2, e3⟩ := hag c
  refine ⟨b4.trans ?_, b5.trans ?_, b6.trans ?_, b7.trans ?_, k⟩
  · rw [e1]
    exact ext (a := 2048) (b := 1408) (φ := .f32) fun T q => (final4 m c T q).symm
  · rw [e0, e1, e2, e3]
    exact ext (a := 2048) (b := 1408) (φ := .f32) fun T q => (refD_at _ _ _ _ T q).trans (final5 m c T q).symm
  · rw [e1, e2]
    exact ext (a := 2048) (b := 1408) (φ := .f32) fun T q => (refM_at _ _ T q).trans (final6 m c T q).symm
  · rw [e1, e3]
    exact ext (a := 2048) (b := 1408) (φ := .f32) fun T q => (refV_at _ _ T q).trans (final7 m c T q).symm

end Cert.AdInVal
end
-- ==== Proof.lean ====
/- The proof of the certificate's claim: the frames of all programs, the exactness of the named constants, and for each
   kernel the agreement of its results with those of its reference. -/
module

public import proofs.«01_k».proof.Defs
public import proofs.«01_k».proof.Proof.Gen.Kernel.Frame
public import proofs.«01_k».proof.Proof.Algebra
public import proofs.«01_k».proof.Proof.Down
public import proofs.«01_k».proof.Proof.WOut
public import proofs.«01_k».proof.Proof.Gate
public import proofs.«01_k».proof.Proof.WG
public import proofs.«01_k».proof.Proof.WU
public import proofs.«01_k».proof.Proof.In
public import proofs.«01_k».proof.Proof.Up
public import proofs.«01_k».proof.Proof.MOut
public import proofs.«01_k».proof.Proof.MWOut
public import proofs.«01_k».proof.Proof.MWS
public import proofs.«01_k».proof.Proof.MWGm
public import proofs.«01_k».proof.Proof.MIn
public import proofs.«01_k».proof.Proof.AdMOut
public import proofs.«01_k».proof.Proof.Loss
public import proofs.«01_k».proof.Proof.AdMIn
public import proofs.«01_k».proof.Proof.AdOut
public import proofs.«01_k».proof.Proof.AdIn
public import Idealize.ShloMosaic.Adequacy
public import Idealize.ShloMosaic.Init

@[expose] public section

noncomputable section

namespace Cert.Proof

open Idealize.ShloMosaic Idealize.SL.Sem

/-- The reference terminates, keeps its arguments and leaves every semaphore at zero. -/
theorem frame_ref : Cert.quiescent_ReferenceIdeal (hReferenceIdeal := Cert.ReferenceIdeal.Gen.facts) := fun m ρ _ =>
  (θ_run _ _ _).mono (fun _ h => ⟨fun c => (h c).2.2.2.2, funext fun x => nomatch x⟩) (Cert.ReferenceIdeal.Value.run m ρ)

/-- The gate's backward pass: the reference terminates, keeps its arguments and leaves every semaphore at zero. -/
theorem frame_Gate : Cert.quiescent_GateRefIdeal (hGateRefIdeal := Cert.GateRefIdeal.Gen.facts) := fun m ρ _ =>
  (θ_run _ _ _).mono (fun _ h => ⟨fun c => (h c).2.2, funext fun x => nomatch x⟩) (Cert.GateRefIdeal.Value.run m ρ)

/-- The left half's weight gradient: the reference terminates, keeps its arguments and leaves every semaphore at zero. -/
theorem frame_WG : Cert.quiescent_WGRefIdeal (hWGRefIdeal := Cert.WGRefIdeal.Gen.facts) := fun m ρ _ =>
  (θ_run _ _ _).mono (fun _ h => ⟨fun c => (h c).2, funext fun x => nomatch x⟩) (Cert.WGRefIdeal.Value.run m ρ)

/-- The right half's weight gradient: the reference terminates, keeps its arguments and leaves every semaphore at zero. -/
theorem frame_WU : Cert.quiescent_WURefIdeal (hWURefIdeal := Cert.WURefIdeal.Gen.facts) := fun m ρ _ =>
  (θ_run _ _ _).mono (fun _ h => ⟨fun c => (h c).2, funext fun x => nomatch x⟩) (Cert.WURefIdeal.Value.run m ρ)

/-- The second weights' gradient: the reference terminates, keeps its arguments and leaves every semaphore at zero. -/
theorem frame_WOut : Cert.quiescent_WOutRefIdeal (hWOutRefIdeal := Cert.WOutRefIdeal.Gen.facts) := fun m ρ _ =>
  (θ_run _ _ _).mono (fun _ h => ⟨fun c => (h c).2, funext fun x => nomatch x⟩) (Cert.WOutRefIdeal.Value.run m ρ)

/-- The first product's backward pass: the reference terminates, keeps its arguments and leaves every semaphore at zero. -/
theorem frame_In : Cert.quiescent_InRefIdeal (hInRefIdeal := Cert.InRefIdeal.Gen.facts) := fun m ρ _ =>
  (θ_run _ _ _).mono (fun _ h => ⟨fun c => (h c).2.2, funext fun x => nomatch x⟩) (Cert.InRefIdeal.Value.run m ρ)

/-- The first product: the reference terminates, keeps its arguments and leaves every semaphore at zero. -/
theorem frame_Up : Cert.quiescent_UpRefIdeal (hUpRefIdeal := Cert.UpRefIdeal.Gen.facts) := fun m ρ _ =>
  (θ_run _ _ _).mono (fun _ h => ⟨fun c => (h c).2.2.2.2, funext fun x => nomatch x⟩) (Cert.UpRefIdeal.Value.run m ρ)

/-- The second product: the reference terminates, keeps its arguments and leaves every semaphore at zero. -/
theorem frame_Down : Cert.quiescent_DownRefIdeal (hDownRefIdeal := Cert.DownRefIdeal.Gen.facts) := fun m ρ _ =>
  (θ_run _ _ _).mono (fun _ h => ⟨fun c => (h c).2, funext fun x => nomatch x⟩) (Cert.DownRefIdeal.Value.run m ρ)

/-- The projection out of the mixing: the reference terminates, keeps its arguments and leaves every semaphore at zero. -/
theorem frame_MOut : Cert.quiescent_MOutRefIdeal (hMOutRefIdeal := Cert.MOutRefIdeal.Gen.facts) := fun m ρ _ =>
  (θ_run _ _ _).mono (fun _ h => ⟨fun c => (h c).2.2, funext fun x => nomatch x⟩) (Cert.MOutRefIdeal.Value.run m ρ)

/-- The gradient of the weights of the projection out of the mixing: the reference terminates, keeps its arguments and leaves every semaphore at zero. -/
theorem frame_MWOut : Cert.quiescent_MWOutRefIdeal (hMWOutRefIdeal := Cert.MWOutRefIdeal.Gen.facts) := fun m ρ _ =>
  (θ_run _ _ _).mono (fun _ h => ⟨fun c => (h c).2, funext fun x => nomatch x⟩) (Cert.MWOutRefIdeal.Value.run m ρ)

/-- The gradient of the scan's weights of the projection into the mixing: the reference terminates, keeps its arguments and leaves every semaphore at zero. -/
theorem frame_MWS : Cert.quiescent_MWSRefIdeal (hMWSRefIdeal := Cert.MWSRefIdeal.Gen.facts) := fun m ρ _ =>
  (θ_run _ _ _).mono (fun _ h => ⟨fun c => (h c).2, funext fun x => nomatch x⟩) (Cert.MWSRefIdeal.Value.run m ρ)

/-- The gradient of the gated unit's weights of the projection into the mixing: the reference terminates, keeps its arguments and leaves every semaphore at zero. -/
theorem frame_MWGm : Cert.quiescent_MWGmRefIdeal (hMWGmRefIdeal := Cert.MWGmRefIdeal.Gen.facts) := fun m ρ _ =>
  (θ_run _ _ _).mono (fun _ h => ⟨fun c => (h c).2, funext fun x => nomatch x⟩) (Cert.MWGmRefIdeal.Value.run m ρ)

/-- The backward pass of the projection into the mixing: the reference terminates, keeps its arguments and leaves every semaphore at zero. -/
theorem frame_MIn : Cert.quiescent_MInRefIdeal (hMInRefIdeal := Cert.MInRefIdeal.Gen.facts) := fun m ρ _ =>
  (θ_run _ _ _).mono (fun _ h => ⟨fun c => (h c).2.2, funext fun x => nomatch x⟩) (Cert.MInRefIdeal.Value.run m ρ)

/-- The optimiser's step for the weights into a feed-forward unit: the reference terminates, keeps its arguments and leaves every semaphore at zero. -/
theorem frame_AdIn : Cert.quiescent_AdInRefIdeal (hAdInRefIdeal := Cert.AdInRefIdeal.Gen.facts) := fun m ρ _ =>
  (θ_run _ _ _).mono (fun _ h => ⟨fun c => (h c).2.2.2.2, funext fun x => nomatch x⟩) (Cert.AdInRefIdeal.Value.run m ρ)

/-- The optimiser's step for the weights out of a feed-forward unit: the reference terminates, keeps its arguments and leaves every semaphore at zero. -/
theorem frame_AdOut : Cert.quiescent_AdOutRefIdeal (hAdOutRefIdeal := Cert.AdOutRefIdeal.Gen.facts) := fun m ρ _ =>
  (θ_run _ _ _).mono (fun _ h => ⟨fun c => (h c).2.2.2.2, funext fun x => nomatch x⟩) (Cert.AdOutRefIdeal.Value.run m ρ)

/-- The optimiser's step for the weights into the mixing: the reference terminates, keeps its arguments and leaves every semaphore at zero. -/
theorem frame_AdMIn : Cert.quiescent_AdMInRefIdeal (hAdMInRefIdeal := Cert.AdMInRefIdeal.Gen.facts) := fun m ρ _ =>
  (θ_run _ _ _).mono (fun _ h => ⟨fun c => (h c).2.2.2.2, funext fun x => nomatch x⟩) (Cert.AdMInRefIdeal.Value.run m ρ)

/-- The optimiser's step for the weights out of the mixing: the reference terminates, keeps its arguments and leaves every semaphore at zero. -/
theorem frame_AdMOut : Cert.quiescent_AdMOutRefIdeal (hAdMOutRefIdeal := Cert.AdMOutRefIdeal.Gen.facts) := fun m ρ _ =>
  (θ_run _ _ _).mono (fun _ h => ⟨fun c => (h c).2.2.2.2, funext fun x => nomatch x⟩) (Cert.AdMOutRefIdeal.Value.run m ρ)

/-- The loss head: the reference terminates, keeps its arguments and leaves every semaphore at zero. -/
theorem frame_Loss : Cert.quiescent_LossRefIdeal (hLossRefIdeal := Cert.LossRefIdeal.Gen.facts) := fun m ρ _ =>
  (θ_run _ _ _).mono (fun _ h => ⟨fun c => (h c).2.2.2, funext fun x => nomatch x⟩) (Cert.LossRefIdeal.Value.run m ρ)

/-- The certificate's claim. -/
theorem claim : Cert.Claim :=
  ⟨Cert.Kernel.Gen.facts, Cert.KernelIdeal.Gen.facts, Cert.ReferenceIdeal.Gen.facts, Cert.Gate.Gen.facts, Cert.GateIdeal.Gen.facts,
    Cert.GateRefIdeal.Gen.facts, Cert.WG.Gen.facts, Cert.WGIdeal.Gen.facts, Cert.WGRefIdeal.Gen.facts, Cert.WU.Gen.facts,
    Cert.WUIdeal.Gen.facts, Cert.WURefIdeal.Gen.facts, Cert.WOut.Gen.facts, Cert.WOutIdeal.Gen.facts, Cert.WOutRefIdeal.Gen.facts,
    Cert.In.Gen.facts, Cert.InIdeal.Gen.facts, Cert.InRefIdeal.Gen.facts, Cert.Up.Gen.facts, Cert.UpIdeal.Gen.facts,
    Cert.UpRefIdeal.Gen.facts, Cert.Down.Gen.facts, Cert.DownIdeal.Gen.facts, Cert.DownRefIdeal.Gen.facts, Cert.MOut.Gen.facts,
    Cert.MOutIdeal.Gen.facts, Cert.MOutRefIdeal.Gen.facts, Cert.MWOut.Gen.facts, Cert.MWOutIdeal.Gen.facts, Cert.MWOutRefIdeal.Gen.facts,
    Cert.MWS.Gen.facts, Cert.MWSIdeal.Gen.facts, Cert.MWSRefIdeal.Gen.facts, Cert.MWGm.Gen.facts, Cert.MWGmIdeal.Gen.facts,
    Cert.MWGmRefIdeal.Gen.facts, Cert.MIn.Gen.facts, Cert.MInIdeal.Gen.facts, Cert.MInRefIdeal.Gen.facts, Cert.Loss.Gen.facts,
    Cert.LossIdeal.Gen.facts, Cert.LossRefIdeal.Gen.facts, Cert.AdIn.Gen.facts, Cert.AdInIdeal.Gen.facts, Cert.AdInRefIdeal.Gen.facts,
    Cert.AdOut.Gen.facts, Cert.AdOutIdeal.Gen.facts, Cert.AdOutRefIdeal.Gen.facts, Cert.AdMIn.Gen.facts, Cert.AdMInIdeal.Gen.facts,
    Cert.AdMInRefIdeal.Gen.facts, Cert.AdMOut.Gen.facts, Cert.AdMOutIdeal.Gen.facts, Cert.AdMOutRefIdeal.Gen.facts, Cert.Finite.facts,
    Cert.GateVal.facts, Cert.InVal.facts, Cert.UpVal.facts, Cert.MInVal.facts, Cert.LossVal.facts, Cert.WGVal.facts, Cert.MWSVal.facts,
    fun m ρ _ => Cert.Kernel.Gen.frame m ρ,
    fun m ρ _ => Cert.KernelIdeal.Gen.frame m ρ,
    fun m ρ _ => Cert.KernelIdeal.Gen.frame m ρ,
    frame_ref,
    fun m ρ _ => frame_ref m ρ trivial,
    fun m ρ _ => Cert.Gate.Gen.frame m ρ,
    fun m ρ _ => Cert.GateIdeal.Gen.frame m ρ,
    fun m ρ _ => Cert.GateIdeal.Gen.frame m ρ,
    frame_Gate,
    fun m ρ _ => frame_Gate m ρ trivial,
    fun m ρ _ => Cert.WG.Gen.frame m ρ,
    fun m ρ _ => Cert.WGIdeal.Gen.frame m ρ,
    frame_WG,
    fun m ρ _ => Cert.WU.Gen.frame m ρ,
    fun m ρ _ => Cert.WUIdeal.Gen.frame m ρ,
    frame_WU,
    fun m ρ _ => Cert.WOut.Gen.frame m ρ,
    fun m ρ _ => Cert.WOutIdeal.Gen.frame m ρ,
    frame_WOut,
    fun m ρ _ => Cert.In.Gen.frame m ρ,
    fun m ρ _ => Cert.InIdeal.Gen.frame m ρ,
    fun m ρ _ => Cert.InIdeal.Gen.frame m ρ,
    frame_In,
    fun m ρ _ => frame_In m ρ trivial,
    fun m ρ _ => Cert.Up.Gen.frame m ρ,
    fun m ρ _ => Cert.UpIdeal.Gen.frame m ρ,
    fun m ρ _ => Cert.UpIdeal.Gen.frame m ρ,
    frame_Up,
    fun m ρ _ => frame_Up m ρ trivial,
    fun m ρ _ => Cert.Down.Gen.frame m ρ,
    fun m ρ _ => Cert.DownIdeal.Gen.frame m ρ,
    frame_Down,
    fun m ρ _ => Cert.MOut.Gen.frame m ρ,
    fun m ρ _ => Cert.MOutIdeal.Gen.frame m ρ,
    frame_MOut,
    fun m ρ _ => Cert.MWOut.Gen.frame m ρ,
    fun m ρ _ => Cert.MWOutIdeal.Gen.frame m ρ,
    frame_MWOut,
    fun m ρ _ => Cert.MWS.Gen.frame m ρ,
    fun m ρ _ => Cert.MWSIdeal.Gen.frame m ρ,
    frame_MWS,
    fun m ρ _ => Cert.MWGm.Gen.frame m ρ,
    fun m ρ _ => Cert.MWGmIdeal.Gen.frame m ρ,
    frame_MWGm,
    fun m ρ _ => Cert.MIn.Gen.frame m ρ,
    fun m ρ _ => Cert.MInIdeal.Gen.frame m ρ,
    fun m ρ _ => Cert.MInIdeal.Gen.frame m ρ,
    frame_MIn,
    fun m ρ _ => frame_MIn m ρ trivial,
    fun m ρ _ => Cert.Loss.Gen.frame m ρ,
    fun m ρ _ => Cert.LossIdeal.Gen.frame m ρ,
    fun m ρ _ => Cert.LossIdeal.Gen.frame m ρ,
    frame_Loss,
    fun m ρ _ => frame_Loss m ρ trivial,
    fun m ρ _ => Cert.AdIn.Gen.frame m ρ,
    fun m ρ _ => Cert.AdInIdeal.Gen.frame m ρ,
    frame_AdIn,
    fun m ρ _ => Cert.AdOut.Gen.frame m ρ,
    fun m ρ _ => Cert.AdOutIdeal.Gen.frame m ρ,
    frame_AdOut,
    fun m ρ _ => Cert.AdMIn.Gen.frame m ρ,
    fun m ρ _ => Cert.AdMInIdeal.Gen.frame m ρ,
    frame_AdMIn,
    fun m ρ _ => Cert.AdMOut.Gen.frame m ρ,
    fun m ρ _ => Cert.AdMOutIdeal.Gen.frame m ρ,
    frame_AdMOut,
    ⟨IdealRules.named_const.statement _ _ _ _ _ rfl, IdealRules.named_const.statement _ _ _ _ _ rfl⟩,
    Cert.Algebra.algebraic,
    trivial,
    Cert.GateVal.algebraic,
    trivial,
    Cert.WGVal.algebraic,
    trivial,
    Cert.WUVal.algebraic,
    trivial,
    Cert.WOutVal.algebraic,
    trivial,
    Cert.InVal.algebraic,
    trivial,
    Cert.UpVal.algebraic,
    trivial,
    Cert.DownVal.algebraic,
    trivial,
    Cert.MOutVal.algebraic,
    trivial,
    Cert.MWOutVal.algebraic,
    trivial,
    Cert.MWSVal.algebraic,
    trivial,
    Cert.MWGmVal.algebraic,
    trivial,
    Cert.MInVal.algebraic,
    trivial,
    Cert.LossVal.algebraic,
    trivial,
    Cert.AdInVal.algebraic,
    trivial,
    Cert.AdOutVal.algebraic,
    trivial,
    Cert.AdMInVal.algebraic,
    trivial,
    Cert.AdMOutVal.algebraic⟩

end Cert.Proof

end
